-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v23_0)) (v2 : (c : Dev Cert.Kernel2Ideal.nD) → Buf (Elt Ideal) ((c.tc : Thread Cert.Kernel2Ideal.nD Cert.Kernel2Ideal.τ).loc Cert.Kernel2Ideal.main_v23_1)) (v3 : (c : Dev Cert.Kernel2Ideal.nD) → Buf (Elt Ideal) ((c.tc : Thread Cert.Kernel2Ideal.nD Cert.Kernel2Ideal.τ).loc Cert.Kernel2Ideal.main_v24)) (v4 : (c : Dev Cert.Kernel2Ideal.nD) → Buf (Elt Ideal) ((c.tc : Thread Cert.Kernel2Ideal.nD Cert.Kernel2Ideal.τ).loc Cert.Kernel2Ideal.main_v21)) (v5 : (c : Dev Cert.Kernel2Ideal.nD) → Buf (Elt Ideal) ((c.tc : Thread Cert.Kernel2Ideal.nD Cert.Kernel2Ideal.τ).loc Cert.Kernel2Ideal.main_v12)) (v6 : (c : Dev Cert.Kernel2Ideal.nD) → Buf (Elt Ideal) ((c.tc : Thread Cert.Kernel2Ideal.nD Cert.Kernel2Ideal.τ).loc Cert.Kernel2Ideal.main_v14)) (v7 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v23_0) = v1 c
          ∧ r.2.mem ((c.tc : Thread Cert.Kernel2Ideal.nD Cert.Kernel2Ideal.τ).loc Cert.Kernel2Ideal.main_v23_1) = v2 c
          ∧ r.2.mem ((c.tc : Thread Cert.Kernel2Ideal.nD Cert.Kernel2Ideal.τ).loc Cert.Kernel2Ideal.main_v24) = v3 c
          ∧ r.2.mem ((c.tc : Thread Cert.Kernel2Ideal.nD Cert.Kernel2Ideal.τ).loc Cert.Kernel2Ideal.main_v21) = v4 c
          ∧ r.2.mem ((c.tc : Thread Cert.Kernel2Ideal.nD Cert.Kernel2Ideal.τ).loc Cert.Kernel2Ideal.main_v12) = v5 c
          ∧ r.2.mem ((c.tc : Thread Cert.Kernel2Ideal.nD Cert.Kernel2Ideal.τ).loc Cert.Kernel2Ideal.main_v14) = v6 c
          ∧ r.2.mem ((c.tc : Thread Cert.Kernel2Ideal.nD Cert.Kernel2Ideal.τ).loc Cert.Kernel2Ideal.main_v9) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v124) = v1 c
          ∧ r.2.mem ((c.tc : Thread Cert.Reference2Ideal.nD Cert.Reference2Ideal.τ).loc Cert.Reference2Ideal.main_v125) = v2 c
          ∧ r.2.mem ((c.tc : Thread Cert.Reference2Ideal.nD Cert.Reference2Ideal.τ).loc Cert.Reference2Ideal.main_v109) = v3 c
          ∧ r.2.mem ((c.tc : Thread Cert.Reference2Ideal.nD Cert.Reference2Ideal.τ).loc Cert.Reference2Ideal.main_v126) = v4 c
          ∧ r.2.mem ((c.tc : Thread Cert.Reference2Ideal.nD Cert.Reference2Ideal.τ).loc Cert.Reference2Ideal.main_v94) = v5 c
          ∧ r.2.mem ((c.tc : Thread Cert.Reference2Ideal.nD Cert.Reference2Ideal.τ).loc Cert.Reference2Ideal.main_v65) = v6 c
          ∧ r.2.mem ((c.tc : Thread Cert.Reference2Ideal.nD Cert.Reference2Ideal.τ).loc Cert.Reference2Ideal.main_v127) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v8)) (v1 : (c : Dev Cert.Kernel3Ideal.nD) → Buf (Elt Ideal) ((c.tc : Thread Cert.Kernel3Ideal.nD Cert.Kernel3Ideal.τ).loc Cert.Kernel3Ideal.main_v20_0)) (v2 : (c : Dev Cert.Kernel3Ideal.nD) → Buf (Elt Ideal) ((c.tc : Thread Cert.Kernel3Ideal.nD Cert.Kernel3Ideal.τ).loc Cert.Kernel3Ideal.main_v20_1)) (v3 : (c : Dev Cert.Kernel3Ideal.nD) → Buf (Elt Ideal) ((c.tc : Thread Cert.Kernel3Ideal.nD Cert.Kernel3Ideal.τ).loc Cert.Kernel3Ideal.main_v21)) (v4 : (c : Dev Cert.Kernel3Ideal.nD) → Buf (Elt Ideal) ((c.tc : Thread Cert.Kernel3Ideal.nD Cert.Kernel3Ideal.τ).loc Cert.Kernel3Ideal.main_v24)) (v5 : (c : Dev Cert.Kernel3Ideal.nD) → Buf (Elt Ideal) ((c.tc : Thread Cert.Kernel3Ideal.nD Cert.Kernel3Ideal.τ).loc Cert.Kernel3Ideal.main_v14)) (v6 : (c : Dev Cert.Kernel3Ideal.nD) → Buf (Elt Ideal) ((c.tc : Thread Cert.Kernel3Ideal.nD Cert.Kernel3Ideal.τ).loc Cert.Kernel3Ideal.main_v17)) (v7 : (c : Dev Cert.Kernel3Ideal.nD) → Buf (Elt Ideal) ((c.tc : Thread Cert.Kernel3Ideal.nD Cert.Kernel3Ideal.τ).loc Cert.Kernel3Ideal.main_v18)) (v8 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_v20_0) = v1 c
          ∧ r.2.mem ((c.tc : Thread Cert.Kernel3Ideal.nD Cert.Kernel3Ideal.τ).loc Cert.Kernel3Ideal.main_v20_1) = v2 c
          ∧ r.2.mem ((c.tc : Thread Cert.Kernel3Ideal.nD Cert.Kernel3Ideal.τ).loc Cert.Kernel3Ideal.main_v21) = v3 c
          ∧ r.2.mem ((c.tc : Thread Cert.Kernel3Ideal.nD Cert.Kernel3Ideal.τ).loc Cert.Kernel3Ideal.main_v24) = v4 c
          ∧ r.2.mem ((c.tc : Thread Cert.Kernel3Ideal.nD Cert.Kernel3Ideal.τ).loc Cert.Kernel3Ideal.main_v14) = v5 c
          ∧ r.2.mem ((c.tc : Thread Cert.Kernel3Ideal.nD Cert.Kernel3Ideal.τ).loc Cert.Kernel3Ideal.main_v17) = v6 c
          ∧ r.2.mem ((c.tc : Thread Cert.Kernel3Ideal.nD Cert.Kernel3Ideal.τ).loc Cert.Kernel3Ideal.main_v18) = v7 c
          ∧ r.2.mem ((c.tc : Thread Cert.Kernel3Ideal.nD Cert.Kernel3Ideal.τ).loc Cert.Kernel3Ideal.main_v11) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_v140) = v1 c
          ∧ r.2.mem ((c.tc : Thread Cert.Reference3Ideal.nD Cert.Reference3Ideal.τ).loc Cert.Reference3Ideal.main_v141) = v2 c
          ∧ r.2.mem ((c.tc : Thread Cert.Reference3Ideal.nD Cert.Reference3Ideal.τ).loc Cert.Reference3Ideal.main_v125) = v3 c
          ∧ r.2.mem ((c.tc : Thread Cert.Reference3Ideal.nD Cert.Reference3Ideal.τ).loc Cert.Reference3Ideal.main_v119) = v4 c
          ∧ r.2.mem ((c.tc : Thread Cert.Reference3Ideal.nD Cert.Reference3Ideal.τ).loc Cert.Reference3Ideal.main_v142) = v5 c
          ∧ r.2.mem ((c.tc : Thread Cert.Reference3Ideal.nD Cert.Reference3Ideal.τ).loc Cert.Reference3Ideal.main_v143) = v6 c
          ∧ r.2.mem ((c.tc : Thread Cert.Reference3Ideal.nD Cert.Reference3Ideal.τ).loc Cert.Reference3Ideal.main_v144) = v7 c
          ∧ r.2.mem ((c.tc : Thread Cert.Reference3Ideal.nD Cert.Reference3Ideal.τ).loc Cert.Reference3Ideal.main_v145) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v2)) (v1 : (c : Dev Cert.Kernel4Ideal.nD) → Buf (Elt Ideal) ((c.tc : Thread Cert.Kernel4Ideal.nD Cert.Kernel4Ideal.τ).loc Cert.Kernel4Ideal.main_v4)) (v2 : (c : Dev Cert.Kernel4Ideal.nD) → Buf (Elt Ideal) ((c.tc : Thread Cert.Kernel4Ideal.nD Cert.Kernel4Ideal.τ).loc Cert.Kernel4Ideal.main_v14_0)) (v3 : (c : Dev Cert.Kernel4Ideal.nD) → Buf (Elt Ideal) ((c.tc : Thread Cert.Kernel4Ideal.nD Cert.Kernel4Ideal.τ).loc Cert.Kernel4Ideal.main_v14_1)) (v4 : (c : Dev Cert.Kernel4Ideal.nD) → Buf (Elt Ideal) ((c.tc : Thread Cert.Kernel4Ideal.nD Cert.Kernel4Ideal.τ).loc Cert.Kernel4Ideal.main_v15)) (v5 : (c : Dev Cert.Kernel4Ideal.nD) → Buf (Elt Ideal) ((c.tc : Thread Cert.Kernel4Ideal.nD Cert.Kernel4Ideal.τ).loc Cert.Kernel4Ideal.main_v12)) (v6 : (c : Dev Cert.Kernel4Ideal.nD) → Buf (Elt Ideal) ((c.tc : Thread Cert.Kernel4Ideal.nD Cert.Kernel4Ideal.τ).loc Cert.Kernel4Ideal.main_v6)) (v7 : (c : Dev Cert.Kernel4Ideal.nD) → Buf (Elt Ideal) ((c.tc : Thread Cert.Kernel4Ideal.nD Cert.Kernel4Ideal.τ).loc Cert.Kernel4Ideal.main_v7)) (v8 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_v4) = v1 c
          ∧ r.2.mem ((c.tc : Thread Cert.Kernel4Ideal.nD Cert.Kernel4Ideal.τ).loc Cert.Kernel4Ideal.main_v14_0) = v2 c
          ∧ r.2.mem ((c.tc : Thread Cert.Kernel4Ideal.nD Cert.Kernel4Ideal.τ).loc Cert.Kernel4Ideal.main_v14_1) = v3 c
          ∧ r.2.mem ((c.tc : Thread Cert.Kernel4Ideal.nD Cert.Kernel4Ideal.τ).loc Cert.Kernel4Ideal.main_v15) = v4 c
          ∧ r.2.mem ((c.tc : Thread Cert.Kernel4Ideal.nD Cert.Kernel4Ideal.τ).loc Cert.Kernel4Ideal.main_v12) = v5 c
          ∧ r.2.mem ((c.tc : Thread Cert.Kernel4Ideal.nD Cert.Kernel4Ideal.τ).loc Cert.Kernel4Ideal.main_v6) = v6 c
          ∧ r.2.mem ((c.tc : Thread Cert.Kernel4Ideal.nD Cert.Kernel4Ideal.τ).loc Cert.Kernel4Ideal.main_v7) = v7 c
          ∧ r.2.mem ((c.tc : Thread Cert.Kernel4Ideal.nD Cert.Kernel4Ideal.τ).loc Cert.Kernel4Ideal.main_v10) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v54) = v2 c
          ∧ r.2.mem ((c.tc : Thread Cert.Reference4Ideal.nD Cert.Reference4Ideal.τ).loc Cert.Reference4Ideal.main_v55) = v3 c
          ∧ r.2.mem ((c.tc : Thread Cert.Reference4Ideal.nD Cert.Reference4Ideal.τ).loc Cert.Reference4Ideal.main_v39) = v4 c
          ∧ r.2.mem ((c.tc : Thread Cert.Reference4Ideal.nD Cert.Reference4Ideal.τ).loc Cert.Reference4Ideal.main_v32) = v5 c
          ∧ r.2.mem ((c.tc : Thread Cert.Reference4Ideal.nD Cert.Reference4Ideal.τ).loc Cert.Reference4Ideal.main_v29) = v6 c
          ∧ r.2.mem ((c.tc : Thread Cert.Reference4Ideal.nD Cert.Reference4Ideal.τ).loc Cert.Reference4Ideal.main_v30) = v7 c
          ∧ r.2.mem ((c.tc : Thread Cert.Reference4Ideal.nD Cert.Reference4Ideal.τ).loc Cert.Reference4Ideal.main_v56) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4)) (v1 : (c : Dev Cert.Kernel5Ideal.nD) → Buf (Elt Ideal) ((c.tc : Thread Cert.Kernel5Ideal.nD Cert.Kernel5Ideal.τ).loc Cert.Kernel5Ideal.main_v5)) (v2 : (c : Dev Cert.Kernel5Ideal.nD) → Buf (Elt Ideal) ((c.tc : Thread Cert.Kernel5Ideal.nD Cert.Kernel5Ideal.τ).loc Cert.Kernel5Ideal.main_v11_1)) (v3 : (c : Dev Cert.Kernel5Ideal.nD) → Buf (Elt Ideal) ((c.tc : Thread Cert.Kernel5Ideal.nD Cert.Kernel5Ideal.τ).loc Cert.Kernel5Ideal.main_v14_1)) (v4 : (c : Dev Cert.Kernel5Ideal.nD) → Buf (Elt Ideal) ((c.tc : Thread Cert.Kernel5Ideal.nD Cert.Kernel5Ideal.τ).loc Cert.Kernel5Ideal.main_v12)) (v5 : (c : Dev Cert.Kernel5Ideal.nD) → Buf (Elt Ideal) ((c.tc : Thread Cert.Kernel5Ideal.nD Cert.Kernel5Ideal.τ).loc Cert.Kernel5Ideal.main_v15)) (v6 : (c : Dev Cert.Kernel5Ideal.nD) → Buf (Elt Ideal) ((c.tc : Thread Cert.Kernel5Ideal.nD Cert.Kernel5Ideal.τ).loc Cert.Kernel5Ideal.main_v6)) (v7 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_v5) = v1 c
          ∧ r.2.mem ((c.tc : Thread Cert.Kernel5Ideal.nD Cert.Kernel5Ideal.τ).loc Cert.Kernel5Ideal.main_v11_1) = v2 c
          ∧ r.2.mem ((c.tc : Thread Cert.Kernel5Ideal.nD Cert.Kernel5Ideal.τ).loc Cert.Kernel5Ideal.main_v14_1) = v3 c
          ∧ r.2.mem ((c.tc : Thread Cert.Kernel5Ideal.nD Cert.Kernel5Ideal.τ).loc Cert.Kernel5Ideal.main_v12) = v4 c
          ∧ r.2.mem ((c.tc : Thread Cert.Kernel5Ideal.nD Cert.Kernel5Ideal.τ).loc Cert.Kernel5Ideal.main_v15) = v5 c
          ∧ r.2.mem ((c.tc : Thread Cert.Kernel5Ideal.nD Cert.Kernel5Ideal.τ).loc Cert.Kernel5Ideal.main_v6) = v6 c
          ∧ r.2.mem ((c.tc : Thread Cert.Kernel5Ideal.nD Cert.Kernel5Ideal.τ).loc Cert.Kernel5Ideal.main_v8) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_v86) = v2 c
          ∧ r.2.mem ((c.tc : Thread Cert.Reference5Ideal.nD Cert.Reference5Ideal.τ).loc Cert.Reference5Ideal.main_v87) = v3 c
          ∧ r.2.mem ((c.tc : Thread Cert.Reference5Ideal.nD Cert.Reference5Ideal.τ).loc Cert.Reference5Ideal.main_v71) = v4 c
          ∧ r.2.mem ((c.tc : Thread Cert.Reference5Ideal.nD Cert.Reference5Ideal.τ).loc Cert.Reference5Ideal.main_v48) = v5 c
          ∧ r.2.mem ((c.tc : Thread Cert.Reference5Ideal.nD Cert.Reference5Ideal.τ).loc Cert.Reference5Ideal.main_v64) = v6 c
          ∧ r.2.mem ((c.tc : Thread Cert.Reference5Ideal.nD Cert.Reference5Ideal.τ).loc Cert.Reference5Ideal.main_v41) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S2048x1024 : Shape := ⟨2, ![2048, 1024]⟩
abbrev S256x1024 : Shape := ⟨2, ![256, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S256x1024 : S_.BroadcastsInDim S256x1024 (![] : Fin 0 → Fin S256x1024.rank)

variable [Facts]

def fn {F : FTy → Type} [FloatOps F] (main_arg0 : FVec F S2048x1024 .bf16) (main_arg1 : FVec F S256x1024 .bf16) (main_arg2 : FVec F S256x1024 .bf16) (main_arg3 : FVec F S2048x1024 .bf16) : IVec S2048x1024 1 × IVec S256x1024 1 × IVec S256x1024 1 × IVec S2048x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S256x1024 .f32 := (extf .f32 · bitsLt_bf16_f32) main_arg1
  let main_v5 : FVec F S256x1024 .f32 := Host.absf main_v4
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_v8 : FVec F S256x1024 .f32 := (extf .f32 · bitsLt_bf16_f32) main_arg2
  let main_v9 : FVec F S256x1024 .f32 := Host.absf main_v8
  let main_cst_1 : FVec F S_ .f32 := constant S_ .f32 0x7F800000#32
  let main_v10 : FVec F S256x1024 .f32 := broadcastInDim S256x1024 ![] bcast_S_S256x1024 main_cst_1
  let main_v11 : IVec S256x1024 1 := cmpf .olt main_v9 main_v10
  let main_v12 : FVec F S2048x1024 .f32 := (extf .f32 · bitsLt_bf16_f32) main_arg3
  let main_v13 : FVec F S2048x1024 .f32 := Host.absf main_v12
  let main_cst_2 : FVec F S_ .f32 := constant S_ .f32 0x7F800000#32
  let main_v14 : FVec F S2048x1024 .f32 := broadcastInDim S2048x1024 ![] bcast_S_S2048x1024 main_cst_2
  let main_v15 : IVec S2048x1024 1 := cmpf .olt main_v13 main_v14
  (main_v3, main_v7, main_v11, main_v15)
-- ==== Pre_finite2.lean ====
abbrev S2048x1024 : Shape := ⟨2, ![2048, 1024]⟩
abbrev S1024 : Shape := ⟨1, ![1024]⟩
abbrev S4x1024x1408 : Shape := ⟨3, ![4, 1024, 1408]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bitsLt_bf16_f32 : FTy.bits .bf16 < FTy.bits .f32
  bcast_S_S4x1024x1408 : S_.BroadcastsInDim S4x1024x1408 (![] : Fin 0 → Fin S4x1024x1408.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)

variable [Facts]

def fn_part1 {F : FTy → Type} [FloatOps F] (main_arg6 : FVec F S2048x1024 .f32) (main_v2 : IVec S2048x1024 1) (main_v5 : IVec S1024 1) (main_v9 : IVec S4x1024x1408 1) (main_v12 : IVec S3x5632 1) (main_v15 : IVec S5632 1) (main_v17 : FVec F S2816x1024 .f32) (main_cst_4 : FVec F S_ .f32) : IVec S2048x1024 1 × IVec S1024 1 × IVec S4x1024x1408 1 × IVec S3x5632 1 × IVec S5632 1 × IVec S2816x1024 1 × IVec S2048x1024 1 :=
  let main_v18 : FVec F S2816x1024 .f32 := broadcastInDim S2816x1024 ![] bcast_S_S2816x1024 main_cst_4
  let main_v19 : IVec S2816x1024 1 := cmpf .olt main_v17 main_v18
  let main_v20 : FVec F S2048x1024 .f32 := Host.absf main_arg6
  let main_cst_5 : FVec F S_ .f32 := constant S_ .f32 0x7F800000#32
  let main_v21 : FVec F S2048x1024 .f32 := broadcastInDim S2048x1024 ![] bcast_S_S2048x1024 main_cst_5
  let main_v22 : IVec S2048x1024 1 := cmpf .olt main_v20 main_v21
  (main_v2, main_v5, main_v9, main_v12, main_v15, main_v19, main_v22)

def fn {F : FTy → Type} [FloatOps F] (main_arg0 : FVec F S2048x1024 .f32) (main_arg1 : FVec F S1024 .f32) (main_arg2 : FVec F S4x1024x1408 .bf16) (main_arg3 : FVec F S3x5632 .f32) (main_arg4 : FVec F S5632 .f32) (main_arg5 : FVec F S2816x1024 .bf16) (main_arg6 : FVec F S2048x1024 .f32) : IVec S2048x1024 1 × IVec S1024 1 × IVec S4x1024x1408 1 × IVec S3x5632 1 × IVec S5632 1 × IVec S2816x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x1024x1408 .f32 := (extf .f32 · bitsLt_bf16_f32) main_arg2
  let main_v7 : FVec F S4x1024x1408 .f32 := Host.absf main_v6
  let main_cst_1 : FVec F S_ .f32 := constant S_ .f32 0x7F800000#32
  let main_v8 : FVec F S4x1024x1408 .f32 := broadcastInDim S4x1024x1408 ![] bcast_S_S4x1024x1408 main_cst_1
  let main_v9 : IVec S4x1024x1408 1 := cmpf .olt main_v7 main_v8
  let main_v10 : FVec F S3x5632 .f32 := Host.absf main_arg3
  let main_cst_2 : FVec F S_ .f32 := constant S_ .f32 0x7F800000#32
  let main_v11 : FVec F S3x5632 .f32 := broadcastInDim S3x5632 ![] bcast_S_S3x5632 main_cst_2
  let main_v12 : IVec S3x5632 1 := cmpf .olt main_v10 main_v11
  let main_v13 : FVec F S5632 .f32 := Host.absf main_arg4
  let main_cst_3 : FVec F S_ .f32 := constant S_ .f32 0x7F800000#32
  let main_v14 : FVec F S5632 .f32 := broadcastInDim S5632 ![] bcast_S_S5632 main_cst_3
  let main_v15 : IVec S5632 1 := cmpf .olt main_v13 main_v14
  let main_v16 : FVec F S2816x1024 .f32 := (extf .f32 · bitsLt_bf16_f32) main_arg5
  let main_v17 : FVec F S2816x1024 .f32 := Host.absf main_v16
  let main_cst_4 : FVec F S_ .f32 := constant S_ .f32 0x7F800000#32
  fn_part1 (F := F) main_arg6 main_v2 main_v5 main_v9 main_v12 main_v15 main_v17 main_cst_4
-- ==== Pre_finite3.lean ====
abbrev S2048x1024 : Shape := ⟨2, ![2048, 1024]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  bcast_S_S256x1024 : S_.BroadcastsInDim S256x1024 (![] : Fin 0 → Fin S256x1024.rank)
  bcast_S_S1024 : S_.BroadcastsInDim S1024 (![] : Fin 0 → Fin S1024.rank)
  bitsLt_bf16_f32 : FTy.bits .bf16 < FTy.bits .f32
  bcast_S_S1024x1024 : S_.BroadcastsInDim S1024x1024 (![] : Fin 0 → Fin S1024x1024.rank)

variable [Facts]

def fn_part1 {F : FTy → Type} [FloatOps F] (main_arg6 : FVec F S1024x1024 .bf16) (main_arg7 : FVec F S1024x1024 .bf16) (main_arg8 : FVec F S2048x1024 .f32) (main_v2 : IVec S2048x1024 1) (main_v5 : IVec S256x1024 1) (main_v8 : IVec S1024 1) (main_v11 : IVec S1024 1) (main_v15 : IVec S1024x1024 1) (main_v17 : FVec F S1024x1024 .f32) (main_cst_4 : FVec F S_ .f32) : IVec S2048x1024 1 × IVec S256x1024 1 × IVec S1024 1 × IVec S1024 1 × IVec S1024x1024 1 × IVec S1024x1024 1 × IVec S1024x1024 1 × IVec S1024x1024 1 × IVec S2048x1024 1 :=
  let main_v18 : FVec F S1024x1024 .f32 := broadcastInDim S1024x1024 ![] bcast_S_S1024x1024 main_cst_4
  let main_v19 : IVec S1024x1024 1 := cmpf .olt main_v17 main_v18
  let main_v20 : FVec F S1024x1024 .f32 := (extf .f32 · bitsLt_bf16_f32) main_arg6
  let main_v21 : FVec F S1024x1024 .f32 := Host.absf main_v20
  let main_cst_5 : FVec F S_ .f32 := constant S_ .f32 0x7F800000#32
  let main_v22 : FVec F S1024x1024 .f32 := broadcastInDim S1024x1024 ![] bcast_S_S1024x1024 main_cst_5
  let main_v23 : IVec S1024x1024 1 := cmpf .olt main_v21 main_v22
  let main_v24 : FVec F S1024x1024 .f32 := (extf .f32 · bitsLt_bf16_f32) main_arg7
  let main_v25 : FVec F S1024x1024 .f32 := Host.absf main_v24
  let main_cst_6 : FVec F S_ .f32 := constant S_ .f32 0x7F800000#32
  let main_v26 : FVec F S1024x1024 .f32 := broadcastInDim S1024x1024 ![] bcast_S_S1024x1024 main_cst_6
  let main_v27 : IVec S1024x1024 1 := cmpf .olt main_v25 main_v26
  let main_v28 : FVec F S2048x1024 .f32 := Host.absf main_arg8
  let main_cst_7 : FVec F S_ .f32 := constant S_ .f32 0x7F800000#32
  let main_v29 : FVec F S2048x1024 .f32 := broadcastInDim S2048x1024 ![] bcast_S_S2048x1024 main_cst_7
  let main_v30 : IVec S2048x1024 1 := cmpf .olt main_v28 main_v29
  (main_v2, main_v5, main_v8, main_v11, main_v15, main_v19, main_v23, main_v27, main_v30)

def fn {F : FTy → Type} [FloatOps F] (main_arg0 : FVec F S2048x1024 .f32) (main_arg1 : FVec F S256x1024 .f32) (main_arg2 : FVec F S1024 .f32) (main_arg3 : FVec F S1024 .f32) (main_arg4 : FVec F S1024x1024 .bf16) (main_arg5 : FVec F S1024x1024 .bf16) (main_arg6 : FVec F S1024x1024 .bf16) (main_arg7 : FVec F S1024x1024 .bf16) (main_arg8 : FVec F S2048x1024 .f32) : IVec S2048x1024 1 × IVec S256x1024 1 × IVec S1024 1 × IVec S1024 1 × IVec S1024x1024 1 × IVec S1024x1024 1 × IVec S1024x1024 1 × IVec S1024x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := (extf .f32 · bitsLt_bf16_f32) main_arg4
  let main_v13 : FVec F S1024x1024 .f32 := Host.absf main_v12
  let main_cst_3 : FVec F S_ .f32 := constant S_ .f32 0x7F800000#32
  let main_v14 : FVec F S1024x1024 .f32 := broadcastInDim S1024x1024 ![] bcast_S_S1024x1024 main_cst_3
  let main_v15 : IVec S1024x1024 1 := cmpf .olt main_v13 main_v14
  let main_v16 : FVec F S1024x1024 .f32 := (extf .f32 · bitsLt_bf16_f32) main_arg5
  let main_v17 : FVec F S1024x1024 .f32 := Host.absf main_v16
  let main_cst_4 : FVec F S_ .f32 := constant S_ .f32 0x7F800000#32
  fn_part1 (F := F) main_arg6 main_arg7 main_arg8 main_v2 main_v5 main_v8 main_v11 main_v15 main_v17 main_cst_4
-- ==== Pre_finite4.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bitsLt_bf16_f32 : FTy.bits .bf16 < FTy.bits .f32
  bcast_S_S1024x4096 : S_.BroadcastsInDim S1024x4096 (![] : Fin 0 → Fin S1024x4096.rank)
  bcast_S_S2048x4096 : S_.BroadcastsInDim S2048x4096 (![] : Fin 0 → Fin S2048x4096.rank)

variable [Facts]

def fn_part1 {F : FTy → Type} [FloatOps F] (main_arg6 : FVec F S2048x4096 .bf16) (main_arg7 : FVec F S2048x1024 .f32) (main_v2 : IVec S2048x1024 1) (main_v5 : IVec S1024 1) (main_v9 : IVec S1024x4096 1) (main_v13 : IVec S2048x1024 1) (main_v17 : IVec S2048x1024 1) (main_v18 : FVec F S2048x1024 .f32) : IVec S2048x1024 1 × IVec S1024 1 × IVec S1024x4096 1 × IVec S2048x1024 1 × IVec S2048x1024 1 × IVec S2048x1024 1 × IVec S2048x4096 1 × IVec S2048x1024 1 :=
  let main_v19 : FVec F S2048x1024 .f32 := Host.absf main_v18
  let main_cst_4 : FVec F S_ .f32 := constant S_ .f32 0x7F800000#32
  let main_v20 : FVec F S2048x1024 .f32 := broadcastInDim S2048x1024 ![] bcast_S_S2048x1024 main_cst_4
  let main_v21 : IVec S2048x1024 1 := cmpf .olt main_v19 main_v20
  let main_v22 : FVec F S2048x4096 .f32 := (extf .f32 · bitsLt_bf16_f32) main_arg6
  let main_v23 : FVec F S2048x4096 .f32 := Host.absf main_v22
  let main_cst_5 : FVec F S_ .f32 := constant S_ .f32 0x7F800000#32
  let main_v24 : FVec F S2048x4096 .f32 := broadcastInDim S2048x4096 ![] bcast_S_S2048x4096 main_cst_5
  let main_v25 : IVec S2048x4096 1 := cmpf .olt main_v23 main_v24
  let main_v26 : FVec F S2048x1024 .f32 := Host.absf main_arg7
  let main_cst_6 : FVec F S_ .f32 := constant S_ .f32 0x7F800000#32
  let main_v27 : FVec F S2048x1024 .f32 := broadcastInDim S2048x1024 ![] bcast_S_S2048x1024 main_cst_6
  let main_v28 : IVec S2048x1024 1 := cmpf .olt main_v26 main_v27
  (main_v2, main_v5, main_v9, main_v13, main_v17, main_v21, main_v25, main_v28)

def fn {F : FTy → Type} [FloatOps F] (main_arg0 : FVec F S2048x1024 .f32) (main_arg1 : FVec F S1024 .f32) (main_arg2 : FVec F S1024x4096 .bf16) (main_arg3 : FVec F S2048x1024 .bf16) (main_arg4 : FVec F S2048x1024 .bf16) (main_arg5 : FVec F S2048x1024 .bf16) (main_arg6 : FVec F S2048x4096 .bf16) (main_arg7 : FVec F S2048x1024 .f32) : IVec S2048x1024 1 × IVec S1024 1 × IVec S1024x4096 1 × IVec S2048x1024 1 × IVec S2048x1024 1 × IVec S2048x1024 1 × IVec S2048x4096 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := (extf .f32 · bitsLt_bf16_f32) main_arg2
  let main_v7 : FVec F S1024x4096 .f32 := Host.absf main_v6
  let main_cst_1 : FVec F S_ .f32 := constant S_ .f32 0x7F800000#32
  let main_v8 : FVec F S1024x4096 .f32 := broadcastInDim S1024x4096 ![] bcast_S_S1024x4096 main_cst_1
  let main_v9 : IVec S1024x4096 1 := cmpf .olt main_v7 main_v8
  let main_v10 : FVec F S2048x1024 .f32 := (extf .f32 · bitsLt_bf16_f32) main_arg3
  let main_v11 : FVec F S2048x1024 .f32 := Host.absf main_v10
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_v14 : FVec F S2048x1024 .f32 := (extf .f32 · bitsLt_bf16_f32) main_arg4
  let main_v15 : FVec F S2048x1024 .f32 := Host.absf main_v14
  let main_cst_3 : FVec F S_ .f32 := constant S_ .f32 0x7F800000#32
  let main_v16 : FVec F S2048x1024 .f32 := broadcastInDim S2048x1024 ![] bcast_S_S2048x1024 main_cst_3
  let main_v17 : IVec S2048x1024 1 := cmpf .olt main_v15 main_v16
  let main_v18 : FVec F S2048x1024 .f32 := (extf .f32 · bitsLt_bf16_f32) main_arg5
  fn_part1 (F := F) main_arg6 main_arg7 main_v2 main_v5 main_v9 main_v13 main_v17 main_v18
-- ==== Pre_finite5.lean ====
abbrev S2048x3840 : Shape := ⟨2, ![2048, 3840]⟩
abbrev S384 : Shape := ⟨1, ![384]⟩
abbrev S256 : Shape := ⟨1, ![256]⟩
abbrev S384x2048 : Shape := ⟨2, ![384, 2048]⟩
abbrev S256x2048 : Shape := ⟨2, ![256, 2048]⟩
abbrev S2048x2048 : Shape := ⟨2, ![2048, 2048]⟩
abbrev S_ : Shape := ⟨0, ![]⟩

class Facts : Prop where
  bcast_S_S2048x3840 : S_.BroadcastsInDim S2048x3840 (![] : Fin 0 → Fin S2048x3840.rank)
  bcast_S_S384 : S_.BroadcastsInDim S384 (![] : Fin 0 → Fin S384.rank)
  bcast_S_S256 : S_.BroadcastsInDim S256 (![] : Fin 0 → Fin S256.rank)
  bitsLt_bf16_f32 : FTy.bits .bf16 < FTy.bits .f32
  bcast_S_S384x2048 : S_.BroadcastsInDim S384x2048 (![] : Fin 0 → Fin S384x2048.rank)
  bcast_S_S256x2048 : S_.BroadcastsInDim S256x2048 (![] : Fin 0 → Fin S256x2048.rank)
  bcast_S_S2048x2048 : S_.BroadcastsInDim S2048x2048 (![] : Fin 0 → Fin S2048x2048.rank)

variable [Facts]

def fn_part1 {F : FTy → Type} [FloatOps F] (main_arg6 : FVec F S2048x2048 .bf16) (main_v2 : IVec S2048x3840 1) (main_v5 : IVec S384 1) (main_v8 : IVec S256 1) (main_v12 : IVec S384x2048 1) (main_v16 : IVec S256x2048 1) (main_v18 : FVec F S2048x2048 .f32) : IVec S2048x3840 1 × IVec S384 1 × IVec S256 1 × IVec S384x2048 1 × IVec S256x2048 1 × IVec S2048x2048 1 × IVec S2048x2048 1 :=
  let main_cst_4 : FVec F S_ .f32 := constant S_ .f32 0x7F800000#32
  let main_v19 : FVec F S2048x2048 .f32 := broadcastInDim S2048x2048 ![] bcast_S_S2048x2048 main_cst_4
  let main_v20 : IVec S2048x2048 1 := cmpf .olt main_v18 main_v19
  let main_v21 : FVec F S2048x2048 .f32 := (extf .f32 · bitsLt_bf16_f32) main_arg6
  let main_v22 : FVec F S2048x2048 .f32 := Host.absf main_v21
  let main_cst_5 : FVec F S_ .f32 := constant S_ .f32 0x7F800000#32
  let main_v23 : FVec F S2048x2048 .f32 := broadcastInDim S2048x2048 ![] bcast_S_S2048x2048 main_cst_5
  let main_v24 : IVec S2048x2048 1 := cmpf .olt main_v22 main_v23
  (main_v2, main_v5, main_v8, main_v12, main_v16, main_v20, main_v24)

def fn {F : FTy → Type} [FloatOps F] (main_arg0 : FVec F S2048x3840 .f32) (main_arg1 : FVec F S384 .f32) (main_arg2 : FVec F S256 .f32) (main_arg3 : FVec F S384x2048 .bf16) (main_arg4 : FVec F S256x2048 .bf16) (main_arg5 : FVec F S2048x2048 .bf16) (main_arg6 : FVec F S2048x2048 .bf16) : IVec S2048x3840 1 × IVec S384 1 × IVec S256 1 × IVec S384x2048 1 × IVec S256x2048 1 × IVec S2048x2048 1 × IVec S2048x2048 1 :=
  let main_v0 : FVec F S2048x3840 .f32 := Host.absf main_arg0
  let main_cst : FVec F S_ .f32 := constant S_ .f32 0x7F800000#32
  let main_v1 : FVec F S2048x3840 .f32 := broadcastInDim S2048x3840 ![] bcast_S_S2048x3840 main_cst
  let main_v2 : IVec S2048x3840 1 := cmpf .olt main_v0 main_v1
  let main_v3 : FVec F S384 .f32 := Host.absf main_arg1
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S384x2048 .f32 := (extf .f32 · bitsLt_bf16_f32) main_arg3
  let main_v10 : FVec F S384x2048 .f32 := Host.absf main_v9
  let main_cst_2 : FVec F S_ .f32 := constant S_ .f32 0x7F800000#32
  let main_v11 : FVec F S384x2048 .f32 := broadcastInDim S384x2048 ![] bcast_S_S384x2048 main_cst_2
  let main_v12 : IVec S384x2048 1 := cmpf .olt main_v10 main_v11
  let main_v13 : FVec F S256x2048 .f32 := (extf .f32 · bitsLt_bf16_f32) main_arg4
  let main_v14 : FVec F S256x2048 .f32 := Host.absf main_v13
  let main_cst_3 : FVec F S_ .f32 := constant S_ .f32 0x7F800000#32
  let main_v15 : FVec F S256x2048 .f32 := broadcastInDim S256x2048 ![] bcast_S_S256x2048 main_cst_3
  let main_v16 : IVec S256x2048 1 := cmpf .olt main_v14 main_v15
  let main_v17 : FVec F S2048x2048 .f32 := (extf .f32 · bitsLt_bf16_f32) main_arg5
  let main_v18 : FVec F S2048x2048 .f32 := Host.absf main_v17
  fn_part1 (F := F) main_arg6 main_v2 main_v5 main_v8 main_v12 main_v16 main_v18
-- ==== Kernel.lean ====
abbrev S2048x1024 : Shape := ⟨2, ![2048, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S256x1024, .bf16⟩
  | .hbm, ⟨3, _⟩ => ⟨S2048x1024, .bf16⟩
  | .hbm, ⟨4, _⟩ => ⟨S2048x1024, .bf16⟩
  | .hbm, ⟨5, _⟩ => ⟨S256x1024, .f32⟩
  | .hbm, ⟨6, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2048x1024 : Shape := ⟨2, ![2048, 1024]⟩
abbrev S256x1024 : Shape := ⟨2, ![256, 1024]⟩
abbrev S1x2048x4x256 : Shape := ⟨4, ![1, 2048, 4, 256]⟩
abbrev S1x256x4x256 : Shape := ⟨4, ![1, 256, 4, 256]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x256x2048 : Shape := ⟨4, ![1, 4, 256, 2048]⟩
abbrev S1x4x256x256 : Shape := ⟨4, ![1, 4, 256, 256]⟩
abbrev S4x2048 : Shape := ⟨2, ![4, 2048]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S256x1024, .bf16⟩
  | .hbm, ⟨3, _⟩ => ⟨S2048x1024, .bf16⟩
  | .hbm, ⟨4, _⟩ => ⟨S2048x1024, .f32⟩
  | .hbm, ⟨5, _⟩ => ⟨S256x1024, .f32⟩
  | .hbm, ⟨6, _⟩ => ⟨S256x1024, .f32⟩
  | .hbm, ⟨7, _⟩ => ⟨S1x2048x4x256, .f32⟩
  | .hbm, ⟨8, _⟩ => ⟨S1x256x4x256, .f32⟩
  | .hbm, ⟨9, _⟩ => ⟨S1x256x4x256, .f32⟩
  | .hbm, ⟨10, _⟩ => ⟨S1x4x2048x256, .f32⟩
  | .hbm, ⟨11, _⟩ => ⟨S_, .f32⟩
  | .hbm, ⟨12, _⟩ => ⟨S1x4x2048x256, .f32⟩
  | .hbm, ⟨13, _⟩ => ⟨S1x4x2048x256, .f32⟩
  | .hbm, ⟨14, _⟩ => ⟨S_, .f32⟩
  | .hbm, ⟨15, _⟩ => ⟨S1x4x2048, .f32⟩
  | .hbm, ⟨16, _⟩ => ⟨S1x4x2048x1, .f32⟩
  | .hbm, ⟨17, _⟩ => ⟨S1x4x2048x256, .f32⟩
  | .hbm, ⟨18, _⟩ => ⟨S1x4x2048x256, .i1⟩
  | .hbm, ⟨19, _⟩ => ⟨S1x4x2048x256, .f32⟩
  | .hbm, ⟨20, _⟩ => ⟨S_, .f32⟩
  | .hbm, ⟨21, _⟩ => ⟨S1x4x2048, .f32⟩
  | .hbm, ⟨22, _⟩ => ⟨S_, .f32⟩
  | .hbm, ⟨23, _⟩ => ⟨S1x4x2048, .f32⟩
  | .hbm, ⟨24, _⟩ => ⟨S1x4x2048, .f32⟩
  | .hbm, ⟨25, _⟩ => ⟨S_, .f32⟩
  | .hbm, ⟨26, _⟩ => ⟨S1x4x2048, .f32⟩
  | .hbm, ⟨27, _⟩ => ⟨S1x4x2048, .i1⟩
  | .hbm, ⟨28, _⟩ => ⟨S_, .f32⟩
  | .hbm, ⟨29, _⟩ => ⟨S1x4x2048, .f32⟩
  | .hbm, ⟨30, _⟩ => ⟨S1x4x2048, .i1⟩
  | .hbm, ⟨31, _⟩ => ⟨S_, .f32⟩
  | .hbm, ⟨32, _⟩ => ⟨S1x4x2048, .f32⟩
  | .hbm, ⟨33, _⟩ => ⟨S_, .f32⟩
  | .hbm, ⟨34, _⟩ => ⟨S1x4x2048, .f32⟩
  | .hbm, ⟨35, _⟩ => ⟨S_, .f32⟩
  | .hbm, ⟨36, _⟩ => ⟨S1x4x2048, .f32⟩
  | .hbm, ⟨37, _⟩ => ⟨S1x4x2048, .f32⟩
  | .hbm, ⟨38, _⟩ => ⟨S1x4x2048, .f32⟩
  | .hbm, ⟨39, _⟩ => ⟨S1x4x2048x1, .f32⟩
  | .hbm, ⟨40, _⟩ => ⟨S1x4x2048x256, .f32⟩
  | .hbm, ⟨41, _⟩ => ⟨S1x4x2048x256, .f32⟩
  | .hbm, ⟨42, _⟩ => ⟨S1x4x2048x256, .f32⟩
  | .hbm, ⟨43, _⟩ => ⟨S_, .f32⟩
  | .hbm, ⟨44, _⟩ => ⟨S1x4x2048, .f32⟩
  | .hbm, ⟨45, _⟩ => ⟨S1x4x2048x1, .f32⟩
  | .hbm, ⟨46, _⟩ => ⟨S1x4x2048x256, .f32⟩
  | .hbm, ⟨47, _⟩ => ⟨S1x4x2048x256, .f32⟩
  | .hbm, ⟨48, _⟩ => ⟨S1x4x2048x1, .f32⟩
  | .hbm, ⟨49, _⟩ => ⟨S_, .f32⟩
  | .hbm, ⟨50, _⟩ => ⟨S1x4x2048x1, .f32⟩
  | .hbm, ⟨51, _⟩ => ⟨S1x4x2048x1, .f32⟩
  | .hbm, ⟨52, _⟩ => ⟨S1x4x256x2048, .f32⟩
  | .hbm, ⟨53, _⟩ => ⟨S1x2048x4x256, .f32⟩
  | .hbm, ⟨54, _⟩ => ⟨S2048x1024, .f32⟩
  | .hbm, ⟨55, _⟩ => ⟨S2048x1024, .f32⟩
  | .hbm, ⟨56, _⟩ => ⟨S1x2048x4x256, .f32⟩
  | .hbm, ⟨57, _⟩ => ⟨S1x4x256x2048, .f32⟩
  | .hbm, ⟨58, _⟩ => ⟨S1x4x2048x256, .f32⟩
  | .hbm, ⟨59, _⟩ => ⟨S1x4x256x256, .f32⟩
  | .hbm, ⟨60, _⟩ => ⟨S1x256x4x256, .f32⟩
  | .hbm, ⟨61, _⟩ => ⟨S1x4x2048x256, .f32⟩
  | .hbm, ⟨62, _⟩ => ⟨S1x4x2048x256, .f32⟩
  | .hbm, ⟨63, _⟩ => ⟨S1x4x2048x256, .f32⟩
  | .hbm, ⟨64, _⟩ => ⟨S_, .f32⟩
  | .hbm, ⟨65, _⟩ => ⟨S1x4x2048, .f32⟩
  | .hbm, ⟨66, _⟩ => ⟨S1x4x2048x1, .f32⟩
  | .hbm, ⟨67, _⟩ => ⟨S1x4x2048x1, .f32⟩
  | .hbm, ⟨68, _⟩ => ⟨S1x4x2048x256, .f32⟩
  | .hbm, ⟨69, _⟩ => ⟨S1x4x2048x256, .f32⟩
  | .hbm, ⟨70, _⟩ => ⟨S_, .f32⟩
  | .hbm, ⟨71, _⟩ => ⟨S4x2048, .f32⟩
  | .hbm, ⟨72, _⟩ => ⟨S1x4x2048, .f32⟩
  | .hbm, ⟨73, _⟩ => ⟨S1x4x2048x256, .f32⟩
  | .hbm, ⟨74, _⟩ => ⟨S1x4x2048x256, .f32⟩
  | .hbm, ⟨75, _⟩ => ⟨S1x4x2048x256, .f32⟩
  | .hbm, ⟨76, _⟩ => ⟨S_, .f32⟩
  | .hbm, ⟨77, _⟩ => ⟨S1x4x2048x256, .f32⟩
  | .hbm, ⟨78, _⟩ => ⟨S1x4x2048x256, .f32⟩
  | .hbm, ⟨79, _⟩ => ⟨S1x4x256x256, .f32⟩
  | .hbm, ⟨80, _⟩ => ⟨S1x256x4x256, .f32⟩
  | .hbm, ⟨81, _⟩ => ⟨S1x4x2048x256, .f32⟩
  | .hbm, ⟨82, _⟩ => ⟨S1x2048x4x256, .f32⟩
  | .hbm, ⟨83, _⟩ => ⟨S256x1024, .f32⟩
  | .hbm, ⟨84, _⟩ => ⟨S256x1024, .f32⟩
  | .hbm, ⟨85, _⟩ => ⟨S2048x1024, .f32⟩
  | .hbm, ⟨86, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel2.lean ====
abbrev S2048x1024 : Shape := ⟨2, ![2048, 1024]⟩
abbrev S1024 : Shape := ⟨1, ![1024]⟩
abbrev S4x1024x1408 : Shape := ⟨3, ![4, 1024, 1408]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S2048x2816 : Shape := ⟨2, ![2048, 2816]⟩
abbrev S1024x1024 : Shape := ⟨2, ![1024, 1024]⟩
abbrev S1x1024x1408 : Shape := ⟨3, ![1, 1024, 1408]⟩
abbrev S1024x1408 : Shape := ⟨2, ![1024, 1408]⟩
abbrev S1x5632 : Shape := ⟨2, ![1, 5632]⟩
abbrev S2048x256 : Shape := ⟨2, ![2048, 256]⟩
abbrev S3x256 : Shape := ⟨2, ![3, 256]⟩
abbrev S1x256 : Shape := ⟨2, ![1, 256]⟩
abbrev S1024x2816 : Shape := ⟨2, ![1024, 2816]⟩
abbrev S2816x512 : Shape := ⟨2, ![2816, 512]⟩
abbrev S1024x512 : Shape := ⟨2, ![1024, 512]⟩
abbrev S256x1024 : Shape := ⟨2, ![256, 1024]⟩
abbrev S1024x256 : Shape := ⟨2, ![1024, 256]⟩
abbrev S2048x512 : Shape := ⟨2, ![2048, 512]⟩
abbrev S256x512 : Shape := ⟨2, ![256, 512]⟩
abbrev S3x2816 : Shape := ⟨2, ![3, 2816]⟩
abbrev S1x2816 : Shape := ⟨2, ![1, 2816]⟩
abbrev S256 : Shape := ⟨1, ![256]⟩
abbrev S1x512x1408 : Shape := ⟨3, ![1, 512, 1408]⟩
abbrev S512x1408 : Shape := ⟨2, ![512, 1408]⟩
abbrev S2x1024x1408 : Shape := ⟨3, ![2, 1024, 1408]⟩
abbrev S2048x1408 : Shape := ⟨2, ![2048, 1408]⟩

abbrev nBuf : Space → Nat
  | .hbm => 39
  | .vmem => 129
  | .smem => 0
  | _ => 0

abbrev vmemTy0_0 (i : Nat) : BufTy := match i % 128 with
  | 0 => ⟨S512x1024, .f32⟩
  | 1 => ⟨S512x1024, .f32⟩
  | 2 => ⟨S1x1024, .f32⟩
  | 3 => ⟨S512x1024, .bf16⟩
  | 4 => ⟨S512x1024, .bf16⟩
  | 5 => ⟨S1024x1024, .bf16⟩
  | 6 => ⟨S1024x1024, .bf16⟩
  | 7 => ⟨S1x1024x1408, .bf16⟩
  | 8 => ⟨S1x1024x1408, .bf16⟩
  | 9 => ⟨S1024x1408, .f32⟩
  | 10 => ⟨S1024x1408, .f32⟩
  | 11 => ⟨S1024x1024, .bf16⟩
  | 12 => ⟨S1024x1024, .bf16⟩
  | 13 => ⟨S1x1024x1408, .bf16⟩
  | 14 => ⟨S1x1024x1408, .bf16⟩
  | 15 => ⟨S1024x1408, .f32⟩
  | 16 => ⟨S1024x1408, .f32⟩
  | 17 => ⟨S2048x256, .f32⟩
  | 18 => ⟨S2048x256, .f32⟩
  | 19 => ⟨S2048x256, .f32⟩
  | 20 => ⟨S2048x256, .f32⟩
  | 21 => ⟨S3x256, .f32⟩
  | 22 => ⟨S3x256, .f32⟩
  | 23 => ⟨S3x256, .f32⟩
  | 24 => ⟨S3x256, .f32⟩
  | 25 => ⟨S1x256, .f32⟩
  | 26 => ⟨S1x256, .f32⟩
  | 27 => ⟨S1x256, .f32⟩
  | 28 => ⟨S1x256, .f32⟩
  | 29 => ⟨S2048x256, .bf16⟩
  | 30 => ⟨S2048x256, .bf16⟩
  | 31 => ⟨S1024x2816, .bf16⟩
  | 32 => ⟨S1024x2816, .bf16⟩
  | 33 => ⟨S2816x512, .bf16⟩
  | 34 => ⟨S2816x512, .bf16⟩
  | 35 => ⟨S1024x512, .f32⟩
  | 36 => ⟨S1024x512, .f32⟩
  | 37 => ⟨S1024x512, .f32⟩
  | 38 => ⟨S1024x512, .f32⟩
  | 39 => ⟨S1024x1024, .bf16⟩
  | 40 => ⟨S1024x1024, .bf16⟩
  | 41 => ⟨S256x1024, .bf16⟩
  | 42 => ⟨S256x1024, .bf16⟩
  | 43 => ⟨S1024x256, .bf16⟩
  | 44 => ⟨S1024x256, .bf16⟩
  | 45 => ⟨S2048x256, .bf16⟩
  | 46 => ⟨S2048x256, .bf16⟩
  | 47 => ⟨S2048x512, .bf16⟩
  | 48 => ⟨S2048x512, .bf16⟩
  | 49 => ⟨S256x512, .bf16⟩
  | 50 => ⟨S256x512, .bf16⟩
  | 51 => ⟨S2048x256, .f32⟩
  | 52 => ⟨S2048x256, .f32⟩
  | 53 => ⟨S2048x256, .f32⟩
  | 54 => ⟨S2048x256, .f32⟩
  | 55 => ⟨S3x256, .f32⟩
  | 56 => ⟨S3x256, .f32⟩
  | 57 => ⟨S3x256, .f32⟩
  | 58 => ⟨S3x256, .f32⟩
  | 59 => ⟨S1x256, .f32⟩
  | 60 => ⟨S1x256, .f32⟩
  | 61 => ⟨S1x256, .f32⟩
  | 62 => ⟨S1x256, .f32⟩
  | 63 => ⟨S2048x256, .bf16⟩
  | 64 => ⟨S2048x256, .bf16⟩
  | 65 => ⟨S2048x256, .bf16⟩
  | 66 => ⟨S2048x256, .bf16⟩
  | 67 => ⟨S2048x256, .bf16⟩
  | 68 => ⟨S2048x256, .bf16⟩
  | 69 => ⟨S3x256, .f32⟩
  | 70 => ⟨S3x256, .f32⟩
  | 71 => ⟨S3x256, .f32⟩
  | 72 => ⟨S3x256, .f32⟩
  | 73 => ⟨S1x256, .f32⟩
  | 74 => ⟨S1x256, .f32⟩
  | 75 => ⟨S1x256, .f32⟩
  | 76 => ⟨S1x256, .f32⟩
  | 77 => ⟨S1024x1408, .bf16⟩
  | 78 => ⟨S1024x1408, .bf16⟩
  | 79 => ⟨S1x512x1408, .bf16⟩
  | 80 => ⟨S1x512x1408, .bf16⟩
  | 81 => ⟨S1024x512, .f32⟩
  | 82 => ⟨S1024x512, .f32⟩
  | 83 => ⟨S1024x1408, .bf16⟩
  | 84 => ⟨S1024x1408, .bf16⟩
  | 85 => ⟨S1x512x1408, .bf16⟩
  | 86 => ⟨S1x512x1408, .bf16⟩
  | 87 => ⟨S1024x512, .f32⟩
  | 88 => ⟨S1024x512, .f32⟩
  | 89 => ⟨S1024x512, .f32⟩
  | 90 => ⟨S1024x512, .f32⟩
  | 91 => ⟨S1024x1408, .bf16⟩
  | 92 => ⟨S1024x1408, .bf16⟩
  | 93 => ⟨S1x512x1408, .bf16⟩
  | 94 => ⟨S1x512x1408, .bf16⟩
  | 95 => ⟨S1024x512, .f32⟩
  | 96 => ⟨S1024x512, .f32⟩
  | 97 => ⟨S1024x512, .f32⟩
  | 98 => ⟨S1024x512, .f32⟩
  | 99 => ⟨S1024x1408, .bf16⟩
  | 100 => ⟨S1024x1408, .bf16⟩
  | 101 => ⟨S1x512x1408, .bf16⟩
  | 102 => ⟨S1x512x1408, .bf16⟩
  | 103 => ⟨S1024x512, .f32⟩
  | 104 => ⟨S1024x512, .f32⟩
  | 105 => ⟨S1024x512, .f32⟩
  | 106 => ⟨S1024x512, .f32⟩
  | 107 => ⟨S2048x1024, .bf16⟩
  | 108 => ⟨S2048x1408, .bf16⟩
  | 109 => ⟨S2048x1408, .bf16⟩
  | 110 => ⟨S1x1024x1408, .bf16⟩
  | 111 => ⟨S1x1024x1408, .bf16⟩
  | 112 => ⟨S2048x1024, .bf16⟩
  | 113 => ⟨S2048x1408, .bf16⟩
  | 114 => ⟨S2048x1408, .bf16⟩
  | 115 => ⟨S1x1024x1408, .bf16⟩
  | 116 => ⟨S1x1024x1408, .bf16⟩
  | 117 => ⟨S512x1024, .f32⟩
  | 118 => ⟨S512x1024, .f32⟩
  | 119 => ⟨S1x1024, .f32⟩
  | 120 => ⟨S512x1024, .f32⟩
  | 121 => ⟨S512x1024, .f32⟩
  | 122 => ⟨S512x1024, .f32⟩
  | 123 => ⟨S512x1024, .f32⟩
  | 124 => ⟨S512x1024, .f32⟩
  | 125 => ⟨S512x1024, .f32⟩
  | 126 => ⟨S512x1024, .bf16⟩
  | 127 => ⟨S512x1024, .bf16⟩
  | _ => ⟨S2048x1024, .f32⟩

abbrev vmemTy0_1 (i : Nat) : BufTy := match i % 128 with
  | 0 => ⟨S1x1024, .f32⟩
  | _ => ⟨S2048x1024, .f32⟩

abbrev vmemTy (i : Nat) : BufTy := match i / 128 with
  | 0 => vmemTy0_0 i
  | 1 => vmemTy0_1 i
  | _ => ⟨S2048x1024, .f32⟩

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S4x1024x1408, .bf16⟩
  | .hbm, ⟨3, _⟩ => ⟨S3x5632, .f32⟩
  | .hbm, ⟨4, _⟩ => ⟨S5632, .f32⟩
  | .hbm, ⟨5, _⟩ => ⟨S2816x1024, .bf16⟩
  | .hbm, ⟨6, _⟩ => ⟨S2048x1024, .f32⟩
  | .hbm, ⟨7, _⟩ => ⟨S1x1024, .f32⟩
  | .hbm, ⟨8, _⟩ => ⟨S2048x1024, .bf16⟩
  | .hbm, ⟨9, _⟩ => ⟨S2048x2816, .f32⟩
  | .hbm, ⟨10, _⟩ => ⟨S2048x2816, .f32⟩
  | .hbm, ⟨11, _⟩ => ⟨S1x5632, .f32⟩
  | .hbm, ⟨12, _⟩ => ⟨S2048x2816, .bf16⟩
  | .hbm, ⟨13, _⟩ => ⟨S2048x1024, .f32⟩
  | .hbm, ⟨14, _⟩ => ⟨S2048x1024, .bf16⟩
  | .hbm, ⟨15, _⟩ => ⟨S2048x2816, .bf16⟩
  | .hbm, ⟨16, _⟩ => ⟨S2816x1024, .bf16⟩
  | .hbm, ⟨17, _⟩ => ⟨S1x5632, .f32⟩
  | .hbm, ⟨18, _⟩ => ⟨S2048x2816, .bf16⟩
  | .hbm, ⟨19, _⟩ => ⟨S2048x2816, .bf16⟩
  | .hbm, ⟨20, _⟩ => ⟨S3x2816, .f32⟩
  | .hbm, ⟨21, _⟩ => ⟨S3x2816, .f32⟩
  | .hbm, ⟨22, _⟩ => ⟨S1x2816, .f32⟩
  | .hbm, ⟨23, _⟩ => ⟨S1x2816, .f32⟩
  | .hbm, ⟨24, _⟩ => ⟨S3x5632, .f32⟩
  | .hbm, ⟨25, _⟩ => ⟨S1x5632, .f32⟩
  | .hbm, ⟨26, _⟩ => ⟨S5632, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2x1024x1408, .bf16⟩
  | .hbm, ⟨32, _⟩ => ⟨S2x1024x1408, .bf16⟩
  | .hbm, ⟨33, _⟩ => ⟨S4x1024x1408, .bf16⟩
  | .hbm, ⟨34, _⟩ => ⟨S1x1024, .f32⟩
  | .hbm, ⟨35, _⟩ => ⟨S2048x1024, .f32⟩
  | .hbm, ⟨36, _⟩ => ⟨S2048x1024, .bf16⟩
  | .hbm, ⟨37, _⟩ => ⟨S1x1024, .f32⟩
  | .hbm, ⟨38, _⟩ => ⟨S1024, .f32⟩
  | .local _ .vmem, ⟨i, _⟩ => vmemTy i
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 129 → Bool
  | ⟨i, _⟩ => dmaSemScopedAt i

abbrev sig : RefSig :=
  ofTc nBuf bufTy 0 129 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc3_stg5_0 : Ref sig .tc := ⟨.vmem, 27, rfl⟩
abbrev cc3_stg5_1 : Ref sig .tc := ⟨.vmem, 28, rfl⟩
abbrev cc3_stg6_0 : Ref sig .tc := ⟨.vmem, 29, rfl⟩
abbrev cc3_stg6_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg2_1 : Ref sig .tc := ⟨.vmem, 56, rfl⟩
abbrev cc7_stg3_0 : Ref sig .tc := ⟨.vmem, 57, rfl⟩
abbrev cc7_stg3_1 : Ref sig .tc := ⟨.vmem, 58, rfl⟩
abbrev cc7_stg4_0 : Ref sig .tc := ⟨.vmem, 59, rfl⟩
abbrev cc7_stg4_1 : Ref sig .tc := ⟨.vmem, 60, rfl⟩
abbrev cc7_stg5_0 : Ref sig .tc := ⟨.vmem, 61, rfl⟩
abbrev cc7_stg5_1 : Ref sig .tc := ⟨.vmem, 62, rfl⟩
abbrev cc7_stg6_0 : Ref sig .tc := ⟨.vmem, 63, rfl⟩
abbrev cc7_stg6_1 : Ref sig .tc := ⟨.vmem, 64, rfl⟩
abbrev cc7_stg7_0 : Ref sig .tc := ⟨.vmem, 65, rfl⟩
abbrev cc7_stg7_1 : Ref sig .tc := ⟨.vmem, 66, rfl⟩
abbrev cc7_stg8_0 : Ref sig .tc := ⟨.vmem, 67, rfl⟩
abbrev cc7_stg8_1 : Ref sig .tc := ⟨.vmem, 68, rfl⟩
abbrev cc7_stg9_0 : Ref sig .tc := ⟨.vmem, 69, rfl⟩
abbrev cc7_stg9_1 : Ref sig .tc := ⟨.vmem, 70, rfl⟩
abbrev cc7_stg10_0 : Ref sig .tc := ⟨.vmem, 71, rfl⟩
abbrev cc7_stg10_1 : Ref sig .tc := ⟨.vmem, 72, rfl⟩
abbrev cc7_stg11_0 : Ref sig .tc := ⟨.vmem, 73, rfl⟩
abbrev cc7_stg11_1 : Ref sig .tc := ⟨.vmem, 74, rfl⟩
abbrev cc7_stg12_0 : Ref sig .tc := ⟨.vmem, 75, rfl⟩
abbrev cc7_stg12_1 : Ref sig .tc := ⟨.vmem, 76, rfl⟩
abbrev cc8_stg0_0 : Ref sig .tc := ⟨.vmem, 77, rfl⟩
abbrev cc8_stg0_1 : Ref sig .tc := ⟨.vmem, 78, rfl⟩
abbrev cc8_stg1_0 : Ref sig .tc := ⟨.vmem, 79, rfl⟩
abbrev cc8_stg1_1 : Ref sig .tc := ⟨.vmem, 80, rfl⟩
abbrev cc8_stg2_0 : Ref sig .tc := ⟨.vmem, 81, rfl⟩
abbrev cc8_stg2_1 : Ref sig .tc := ⟨.vmem, 82, rfl⟩
abbrev cc9_stg0_0 : Ref sig .tc := ⟨.vmem, 83, rfl⟩
abbrev cc9_stg0_1 : Ref sig .tc := ⟨.vmem, 84, rfl⟩
abbrev cc9_stg1_0 : Ref sig .tc := ⟨.vmem, 85, rfl⟩
abbrev cc9_stg1_1 : Ref sig .tc := ⟨.vmem, 86, rfl⟩
abbrev cc9_stg2_0 : Ref sig .tc := ⟨.vmem, 87, rfl⟩
abbrev cc9_stg2_1 : Ref sig .tc := ⟨.vmem, 88, rfl⟩
abbrev cc9_stg3_0 : Ref sig .tc := ⟨.vmem, 89, rfl⟩
abbrev cc9_stg3_1 : Ref sig .tc := ⟨.vmem, 90, rfl⟩
abbrev cc10_stg0_0 : Ref sig .tc := ⟨.vmem, 91, rfl⟩
abbrev cc10_stg0_1 : Ref sig .tc := ⟨.vmem, 92, rfl⟩
abbrev cc10_stg1_0 : Ref sig .tc := ⟨.vmem, 93, rfl⟩
abbrev cc10_stg1_1 : Ref sig .tc := ⟨.vmem, 94, rfl⟩
abbrev cc10_stg2_0 : Ref sig .tc := ⟨.vmem, 95, rfl⟩
abbrev cc10_stg2_1 : Ref sig .tc := ⟨.vmem, 96, rfl⟩
abbrev cc10_stg3_0 : Ref sig .tc := ⟨.vmem, 97, rfl⟩
abbrev cc10_stg3_1 : Ref sig .tc := ⟨.vmem, 98, rfl⟩
abbrev cc11_stg0_0 : Ref sig .tc := ⟨.vmem, 99, rfl⟩
abbrev cc11_stg0_1 : Ref sig .tc := ⟨.vmem, 100, rfl⟩
abbrev cc11_stg1_0 : Ref sig .tc := ⟨.vmem, 101, rfl⟩
abbrev cc11_stg1_1 : Ref sig .tc := ⟨.vmem, 102, rfl⟩
abbrev cc11_stg2_0 : Ref sig .tc := ⟨.vmem, 103, rfl⟩
abbrev cc11_stg2_1 : Ref sig .tc := ⟨.vmem, 104, rfl⟩
abbrev cc11_stg3_0 : Ref sig .tc := ⟨.vmem, 105, rfl⟩
abbrev cc11_stg3_1 : Ref sig .tc := ⟨.vmem, 106, rfl⟩
abbrev cc12_stg0_0 : Ref sig .tc := ⟨.vmem, 107, rfl⟩
abbrev cc12_stg1_0 : Ref sig .tc := ⟨.vmem, 108, rfl⟩
abbrev cc12_stg1_1 : Ref sig .tc := ⟨.vmem, 109, rfl⟩
abbrev cc12_stg2_0 : Ref sig .tc := ⟨.vmem, 110, rfl⟩
abbrev cc12_stg2_1 : Ref sig .tc := ⟨.vmem, 111, rfl⟩
abbrev cc13_stg0_0 : Ref sig .tc := ⟨.vmem, 112, rfl⟩
abbrev cc13_stg1_0 : Ref sig .tc := ⟨.vmem, 113, rfl⟩
abbrev cc13_stg1_1 : Ref sig .tc := ⟨.vmem, 114, rfl⟩
abbrev cc13_stg2_0 : Ref sig .tc := ⟨.vmem, 115, rfl⟩
abbrev cc13_stg2_1 : Ref sig .tc := ⟨.vmem, 116, rfl⟩
abbrev cc14_stg0_0 : Ref sig .tc := ⟨.vmem, 117, rfl⟩
abbrev cc14_stg0_1 : Ref sig .tc := ⟨.vmem, 118, rfl⟩
abbrev cc14_stg1_0 : Ref sig .tc := ⟨.vmem, 119, rfl⟩
abbrev cc14_stg2_0 : Ref sig .tc := ⟨.vmem, 120, rfl⟩
abbrev cc14_stg2_1 : Ref sig .tc := ⟨.vmem, 121, rfl⟩
abbrev cc14_stg3_0 : Ref sig .tc := ⟨.vmem, 122, rfl⟩
abbrev cc14_stg3_1 : Ref sig .tc := ⟨.vmem, 123, rfl⟩
abbrev cc14_stg4_0 : Ref sig .tc := ⟨.vmem, 124, rfl⟩
abbrev cc14_stg4_1 : Ref sig .tc := ⟨.vmem, 125, rfl⟩
abbrev cc14_stg5_0 : Ref sig .tc := ⟨.vmem, 126, rfl⟩
abbrev cc14_stg5_1 : Ref sig .tc := ⟨.vmem, 127, rfl⟩
abbrev cc14_stg6_0 : Ref sig .tc := ⟨.vmem, 128, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc3_sem5_0 : DmaSem sig := 27
abbrev cc3_sem5_1 : DmaSem sig := 28
abbrev cc3_sem6_0 : DmaSem sig := 29
abbrev cc3_sem6_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem2_1 : DmaSem sig := 56
abbrev cc7_sem3_0 : DmaSem sig := 57
abbrev cc7_sem3_1 : DmaSem sig := 58
abbrev cc7_sem4_0 : DmaSem sig := 59
abbrev cc7_sem4_1 : DmaSem sig := 60
abbrev cc7_sem5_0 : DmaSem sig := 61
abbrev cc7_sem5_1 : DmaSem sig := 62
abbrev cc7_sem6_0 : DmaSem sig := 63
abbrev cc7_sem6_1 : DmaSem sig := 64
abbrev cc7_sem7_0 : DmaSem sig := 65
abbrev cc7_sem7_1 : DmaSem sig := 66
abbrev cc7_sem8_0 : DmaSem sig := 67
abbrev cc7_sem8_1 : DmaSem sig := 68
abbrev cc7_sem9_0 : DmaSem sig := 69
abbrev cc7_sem9_1 : DmaSem sig := 70
abbrev cc7_sem10_0 : DmaSem sig := 71
abbrev cc7_sem10_1 : DmaSem sig := 72
abbrev cc7_sem11_0 : DmaSem sig := 73
abbrev cc7_sem11_1 : DmaSem sig := 74
abbrev cc7_sem12_0 : DmaSem sig := 75
abbrev cc7_sem12_1 : DmaSem sig := 76
abbrev cc8_sem0_0 : DmaSem sig := 77
abbrev cc8_sem0_1 : DmaSem sig := 78
abbrev cc8_sem1_0 : DmaSem sig := 79
abbrev cc8_sem1_1 : DmaSem sig := 80
abbrev cc8_sem2_0 : DmaSem sig := 81
abbrev cc8_sem2_1 : DmaSem sig := 82
abbrev cc9_sem0_0 : DmaSem sig := 83
abbrev cc9_sem0_1 : DmaSem sig := 84
abbrev cc9_sem1_0 : DmaSem sig := 85
abbrev cc9_sem1_1 : DmaSem sig := 86
abbrev cc9_sem2_0 : DmaSem sig := 87
abbrev cc9_sem2_1 : DmaSem sig := 88
abbrev cc9_sem3_0 : DmaSem sig := 89
abbrev cc9_sem3_1 : DmaSem sig := 90
abbrev cc10_sem0_0 : DmaSem sig := 91
abbrev cc10_sem0_1 : DmaSem sig := 92
abbrev cc10_sem1_0 : DmaSem sig := 93
abbrev cc10_sem1_1 : DmaSem sig := 94
abbrev cc10_sem2_0 : DmaSem sig := 95
abbrev cc10_sem2_1 : DmaSem sig := 96
abbrev cc10_sem3_0 : DmaSem sig := 97
abbrev cc10_sem3_1 : DmaSem sig := 98
abbrev cc11_sem0_0 : DmaSem sig := 99
abbrev cc11_sem0_1 : DmaSem sig := 100
abbrev cc11_sem1_0 : DmaSem sig := 101
abbrev cc11_sem1_1 : DmaSem sig := 102
abbrev cc11_sem2_0 : DmaSem sig := 103
abbrev cc11_sem2_1 : DmaSem sig := 104
abbrev cc11_sem3_0 : DmaSem sig := 105
abbrev cc11_sem3_1 : DmaSem sig := 106
abbrev cc12_sem0_0 : DmaSem sig := 107
abbrev cc12_sem1_0 : DmaSem sig := 108
abbrev cc12_sem1_1 : DmaSem sig := 109
abbrev cc12_sem2_0 : DmaSem sig := 110
abbrev cc12_sem2_1 : DmaSem sig := 111
abbrev cc13_sem0_0 : DmaSem sig := 112
abbrev cc13_sem1_0 : DmaSem sig := 113
abbrev cc13_sem1_1 : DmaSem sig := 114
abbrev cc13_sem2_0 : DmaSem sig := 115
abbrev cc13_sem2_1 : DmaSem sig := 116
abbrev cc14_sem0_0 : DmaSem sig := 117
abbrev cc14_sem0_1 : DmaSem sig := 118
abbrev cc14_sem1_0 : DmaSem sig := 119
abbrev cc14_sem2_0 : DmaSem sig := 120
abbrev cc14_sem2_1 : DmaSem sig := 121
abbrev cc14_sem3_0 : DmaSem sig := 122
abbrev cc14_sem3_1 : DmaSem sig := 123
abbrev cc14_sem4_0 : DmaSem sig := 124
abbrev cc14_sem4_1 : DmaSem sig := 125
abbrev cc14_sem5_0 : DmaSem sig := 126
abbrev cc14_sem5_1 : DmaSem sig := 127
abbrev cc14_sem6_0 : DmaSem sig := 128

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1024x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![11], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S3x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2048x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨2, ![2, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2816x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![2, 11], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S256x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![11, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S2048x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S2048x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S256x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![11], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_3 (i : grid7.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_5 (i : grid7.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_10 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_11 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_12 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S2048x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2048x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S3x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S3x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S2048x256 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S2048x256 .bf16 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S2048x256 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 2 → Memref sig .tc .vmem S3x256 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev stage7_10 : Fin 2 → Memref sig .tc .vmem S3x256 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev stage7_11 : Fin 2 → Memref sig .tc .vmem S1x256 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

abbrev stage7_12 : Fin 2 → Memref sig .tc .vmem S1x256 .f32 := fun | 0 => Memref.whole cc7_stg12_0 | 1 => Memref.whole cc7_stg12_1 | ⟨_ + 2, h⟩ => absurd h (Nat.not_lt.2 (Nat.le_add_left _ _))
abbrev sem7_12 : Fin 2 → DmaSem sig := fun | 0 => cc7_sem12_0 | 1 => cc7_sem12_1 | ⟨_ + 2, h⟩ => absurd h (Nat.not_lt.2 (Nat.le_add_left _ _))
abbrev reads7_12 : Fin grid7.rank → Bool := ![true]

abbrev grid8 : Pipeline.Grid := ⟨2, ![2, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x1408 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S1x512x1408 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![2, 2], ![false, false]⟩

def cc9_transform_0 (i : grid9.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, v0.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S1024x1408 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S1x512x1408 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S1024x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev grid10 : Pipeline.Grid := ⟨2, ![2, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c0_i32_0 : BitVec 32 := 0#32
  let c0_i32_1 : BitVec 32 := 0#32
  ![c2_i32.toNat, v0.toNat, c0_i32_0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S1024x1408 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S1x512x1408 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 2 → Memref sig .tc .vmem S1024x512 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev grid11 : Pipeline.Grid := ⟨2, ![2, 2], ![false, false]⟩

def cc11_transform_0 (i : grid11.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc11_transform_1 (i : grid11.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let c0_i32_0 : BitVec 32 := 0#32
  let c0_i32_1 : BitVec 32 := 0#32
  ![c3_i32.toNat, v0.toNat, c0_i32_0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 2 → Memref sig .tc .vmem S1024x1408 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S1x512x1408 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1024x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev stage11_3 : Fin 2 → Memref sig .tc .vmem S1024x512 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true]

abbrev grid12 : Pipeline.Grid := ⟨2, ![1, 2], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc12_transform_2 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage12_0 : Fin 1 → Memref sig .tc .vmem S2048x1024 .bf16 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true, false]

abbrev stage12_1 : Fin 2 → Memref sig .tc .vmem S2048x1408 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 2 → Memref sig .tc .vmem S1x1024x1408 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]

abbrev grid13 : Pipeline.Grid := ⟨2, ![1, 2], ![false, false]⟩

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc13_transform_2 (i : grid13.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage13_0 : Fin 1 → Memref sig .tc .vmem S2048x1024 .bf16 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true, false]

abbrev stage13_1 : Fin 2 → Memref sig .tc .vmem S2048x1408 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true]

abbrev stage13_2 : Fin 2 → Memref sig .tc .vmem S1x1024x1408 .bf16 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true]

abbrev grid14 : Pipeline.Grid := ⟨1, ![4], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S512x1024 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x1024 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S512x1024 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S512x1024 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S512x1024 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev stage14_5 : Fin 2 → Memref sig .tc .vmem S512x1024 .bf16 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev stage14_6 : Fin 1 → Memref sig .tc .vmem S1x1024 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]
-- ==== Reference2Ideal.lean ====
abbrev S2048x1024 : Shape := ⟨2, ![2048, 1024]⟩
abbrev S1024 : Shape := ⟨1, ![1024]⟩
abbrev S4x1024x1408 : Shape := ⟨3, ![4, 1024, 1408]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x4x1408 : Shape := ⟨3, ![1024, 4, 1408]⟩
abbrev S1024x5632 : Shape := ⟨2, ![1024, 5632]⟩
abbrev S2048x5632 : Shape := ⟨2, ![2048, 5632]⟩
abbrev S2x5632 : Shape := ⟨2, ![2, 5632]⟩
abbrev S2050x5632 : Shape := ⟨2, ![2050, 5632]⟩
abbrev S1x5632 : Shape := ⟨2, ![1, 5632]⟩
abbrev S2048x2816 : Shape := ⟨2, ![2048, 2816]⟩
abbrev S1024x2816 : Shape := ⟨2, ![1024, 2816]⟩
abbrev S5632x1024 : Shape := ⟨2, ![5632, 1024]⟩

abbrev nBuf : Space → Nat
  | .hbm => 177
  | .vmem => 0
  | .smem => 0
  | _ => 0

abbrev hbmTy0_0 (i : Nat) : BufTy := match i % 128 with
  | 0 => ⟨S2048x1024, .f32⟩
  | 1 => ⟨S1024, .f32⟩
  | 2 => ⟨S4x1024x1408, .bf16⟩
  | 3 => ⟨S3x5632, .f32⟩
  | 4 => ⟨S5632, .f32⟩
  | 5 => ⟨S2816x1024, .bf16⟩
  | 6 => ⟨S2048x1024, .f32⟩
  | 7 => ⟨S4x1024x1408, .f32⟩
  | 8 => ⟨S2816x1024, .f32⟩
  | 9 => ⟨S2048x1024, .f32⟩
  | 10 => ⟨S_, .f32⟩
  | 11 => ⟨S2048, .f32⟩
  | 12 => ⟨S2048x1, .f32⟩
  | 13 => ⟨S_, .f32⟩
  | 14 => ⟨S2048x1, .f32⟩
  | 15 => ⟨S2048x1, .f32⟩
  | 16 => ⟨S_, .f32⟩
  | 17 => ⟨S2048x1, .f32⟩
  | 18 => ⟨S2048x1, .f32⟩
  | 19 => ⟨S2048x1, .f32⟩
  | 20 => ⟨S2048x1, .f32⟩
  | 21 => ⟨S_, .f32⟩
  | 22 => ⟨S2048x1, .f32⟩
  | 23 => ⟨S2048x1, .f32⟩
  | 24 => ⟨S2048x1024, .f32⟩
  | 25 => ⟨S2048x1024, .f32⟩
  | 26 => ⟨S1x1024, .f32⟩
  | 27 => ⟨S2048x1024, .f32⟩
  | 28 => ⟨S2048x1024, .f32⟩
  | 29 => ⟨S1024x4x1408, .f32⟩
  | 30 => ⟨S1024x5632, .f32⟩
  | 31 => ⟨S2048x5632, .f32⟩
  | 32 => ⟨S_, .f32⟩
  | 33 => ⟨S2x5632, .f32⟩
  | 34 => ⟨S2050x5632, .f32⟩
  | 35 => ⟨S_, .f32⟩
  | 36 => ⟨S2x5632, .f32⟩
  | 37 => ⟨S2048x5632, .f32⟩
  | 38 => ⟨S1x5632, .f32⟩
  | 39 => ⟨S5632, .f32⟩
  | 40 => ⟨S1x5632, .f32⟩
  | 41 => ⟨S2048x5632, .f32⟩
  | 42 => ⟨S2048x5632, .f32⟩
  | 43 => ⟨S2048x5632, .f32⟩
  | 44 => ⟨S1x5632, .f32⟩
  | 45 => ⟨S5632, .f32⟩
  | 46 => ⟨S1x5632, .f32⟩
  | 47 => ⟨S2048x5632, .f32⟩
  | 48 => ⟨S2048x5632, .f32⟩
  | 49 => ⟨S2048x5632, .f32⟩
  | 50 => ⟨S2048x5632, .f32⟩
  | 51 => ⟨S1x5632, .f32⟩
  | 52 => ⟨S5632, .f32⟩
  | 53 => ⟨S1x5632, .f32⟩
  | 54 => ⟨S2048x5632, .f32⟩
  | 55 => ⟨S2048x5632, .f32⟩
  | 56 => ⟨S2048x5632, .f32⟩
  | 57 => ⟨S1x5632, .f32⟩
  | 58 => ⟨S2048x5632, .f32⟩
  | 59 => ⟨S2048x5632, .f32⟩
  | 60 => ⟨S2048x2816, .f32⟩
  | 61 => ⟨S2048x2816, .f32⟩
  | 62 => ⟨S2048x2816, .f32⟩
  | 63 => ⟨S2048x2816, .f32⟩
  | 64 => ⟨S_, .f32⟩
  | 65 => ⟨S2048x2816, .f32⟩
  | 66 => ⟨S2048x2816, .f32⟩
  | 67 => ⟨S_, .f32⟩
  | 68 => ⟨S2048x2816, .f32⟩
  | 69 => ⟨S2048x2816, .f32⟩
  | 70 => ⟨S_, .f32⟩
  | 71 => ⟨S2048x2816, .f32⟩
  | 72 => ⟨S2048x2816, .f32⟩
  | 73 => ⟨S2048x2816, .f32⟩
  | 74 => ⟨S2048x2816, .f32⟩
  | 75 => ⟨S2048x2816, .f32⟩
  | 76 => ⟨S2048x1024, .f32⟩
  | 77 => ⟨S2048x1024, .f32⟩
  | 78 => ⟨S2048x1024, .f32⟩
  | 79 => ⟨S1024x2816, .f32⟩
  | 80 => ⟨S2816x1024, .f32⟩
  | 81 => ⟨S2048x2816, .f32⟩
  | 82 => ⟨S2048x2816, .f32⟩
  | 83 => ⟨S2048x2816, .f32⟩
  | 84 => ⟨S2048x2816, .f32⟩
  | 85 => ⟨S2048x2816, .f32⟩
  | 86 => ⟨S2048x2816, .f32⟩
  | 87 => ⟨S2048x2816, .f32⟩
  | 88 => ⟨S_, .f32⟩
  | 89 => ⟨S2048x5632, .f32⟩
  | 90 => ⟨S_, .f32⟩
  | 91 => ⟨S2048x5632, .f32⟩
  | 92 => ⟨S2048x5632, .f32⟩
  | 93 => ⟨S_, .f32⟩
  | 94 => ⟨S5632, .f32⟩
  | 95 => ⟨S1x5632, .f32⟩
  | 96 => ⟨S_, .f32⟩
  | 97 => ⟨S5632, .f32⟩
  | 98 => ⟨S2048x5632, .f32⟩
  | 99 => ⟨S_, .f32⟩
  | 100 => ⟨S5632, .f32⟩
  | 101 => ⟨S1x5632, .f32⟩
  | 102 => ⟨S2048x5632, .f32⟩
  | 103 => ⟨S2048x5632, .f32⟩
  | 104 => ⟨S_, .f32⟩
  | 105 => ⟨S5632, .f32⟩
  | 106 => ⟨S1x5632, .f32⟩
  | 107 => ⟨S_, .f32⟩
  | 108 => ⟨S3x5632, .f32⟩
  | 109 => ⟨S_, .f32⟩
  | 110 => ⟨S2050x5632, .f32⟩
  | 111 => ⟨S2048x5632, .f32⟩
  | 112 => ⟨S_, .f32⟩
  | 113 => ⟨S5632, .f32⟩
  | 114 => ⟨S1x5632, .f32⟩
  | 115 => ⟨S2048x5632, .f32⟩
  | 116 => ⟨S2048x5632, .f32⟩
  | 117 => ⟨S_, .f32⟩
  | 118 => ⟨S5632, .f32⟩
  | 119 => ⟨S1x5632, .f32⟩
  | 120 => ⟨S_, .f32⟩
  | 121 => ⟨S3x5632, .f32⟩
  | 122 => ⟨S3x5632, .f32⟩
  | 123 => ⟨S_, .f32⟩
  | 124 => ⟨S2050x5632, .f32⟩
  | 125 => ⟨S2050x5632, .f32⟩
  | 126 => ⟨S2048x5632, .f32⟩
  | 127 => ⟨S_, .f32⟩
  | _ => ⟨S2048x1024, .f32⟩

abbrev hbmTy0_1 (i : Nat) : BufTy := match i % 128 with
  | 0 => ⟨S5632, .f32⟩
  | 1 => ⟨S1x5632, .f32⟩
  | 2 => ⟨S2048x5632, .f32⟩
  | 3 => ⟨S2048x5632, .f32⟩
  | 4 => ⟨S_, .f32⟩
  | 5 => ⟨S5632, .f32⟩
  | 6 => ⟨S1x5632, .f32⟩
  | 7 => ⟨S_, .f32⟩
  | 8 => ⟨S3x5632, .f32⟩
  | 9 => ⟨S3x5632, .f32⟩
  | 10 => ⟨S_, .f32⟩
  | 11 => ⟨S2050x5632, .f32⟩
  | 12 => ⟨S2050x5632, .f32⟩
  | 13 => ⟨S2x5632, .f32⟩
  | 14 => ⟨S2048x5632, .f32⟩
  | 15 => ⟨S5632x1024, .f32⟩
  | 16 => ⟨S1024x5632, .f32⟩
  | 17 => ⟨S2048x1024, .f32⟩
  | 18 => ⟨S1024x4x1408, .f32⟩
  | 19 => ⟨S4x1024x1408, .f32⟩
  | 20 => ⟨S2048x1024, .f32⟩
  | 21 => ⟨S_, .f32⟩
  | 22 => ⟨S1024, .f32⟩
  | 23 => ⟨S1x1024, .f32⟩
  | 24 => ⟨S2048x1024, .f32⟩
  | 25 => ⟨S2048x1024, .f32⟩
  | 26 => ⟨S_, .f32⟩
  | 27 => ⟨S1024, .f32⟩
  | 28 => ⟨S2048x1024, .f32⟩
  | 29 => ⟨S_, .f32⟩
  | 30 => ⟨S2048, .f32⟩
  | 31 => ⟨S2048x1, .f32⟩
  | 32 => ⟨S2048x1024, .f32⟩
  | 33 => ⟨S2048x1024, .f32⟩
  | 34 => ⟨S2048x1024, .f32⟩
  | 35 => ⟨S2048x1, .f32⟩
  | 36 => ⟨S_, .f32⟩
  | 37 => ⟨S2048x1, .f32⟩
  | 38 => ⟨S2048x1, .f32⟩
  | 39 => ⟨S_, .f32⟩
  | 40 => ⟨S2048, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S2048x1024, .bf16⟩
  | 47 => ⟨S4x1024x1408, .bf16⟩
  | 48 => ⟨S2816x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_v49_2 : Ref sig .tc := ⟨.hbm, 69, rfl⟩
abbrev main_call0_cst_1 : Ref sig .tc := ⟨.hbm, 70, rfl⟩
abbrev main_call0_v6 : Ref sig .tc := ⟨.hbm, 71, rfl⟩
abbrev main_call0_v7 : Ref sig .tc := ⟨.hbm, 72, rfl⟩
abbrev main_v49_1 : Ref sig .tc := ⟨.hbm, 73, rfl⟩
abbrev main_v49_0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v59 : Ref sig .tc := ⟨.hbm, 87, rfl⟩
abbrev main_cst_5 : Ref sig .tc := ⟨.hbm, 88, rfl⟩
abbrev main_v60 : Ref sig .tc := ⟨.hbm, 89, rfl⟩
abbrev main_cst_6 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_cst_9 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_10 : Ref sig .tc := ⟨.hbm, 104, rfl⟩
abbrev main_v71 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_cst_13 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_v81 : Ref sig .tc := ⟨.hbm, 119, rfl⟩
abbrev main_cst_15 : Ref sig .tc := ⟨.hbm, 120, rfl⟩
abbrev main_v82 : Ref sig .tc := ⟨.hbm, 121, rfl⟩
abbrev main_v83 : Ref sig .tc := ⟨.hbm, 122, rfl⟩
abbrev main_cst_16 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_17 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_cst_19 : Ref sig .tc := ⟨.hbm, 135, rfl⟩
abbrev main_v93 : Ref sig .tc := ⟨.hbm, 136, rfl⟩
abbrev main_v94 : Ref sig .tc := ⟨.hbm, 137, rfl⟩
abbrev main_cst_20 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_21 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_22 : Ref sig .tc := ⟨.hbm, 154, rfl⟩
abbrev main_v109 : Ref sig .tc := ⟨.hbm, 155, rfl⟩
abbrev main_v110 : Ref sig .tc := ⟨.hbm, 156, rfl⟩
abbrev main_cst_23 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_24 : Ref sig .tc := ⟨.hbm, 164, rfl⟩
abbrev main_v117 : Ref sig .tc := ⟨.hbm, 165, rfl⟩
abbrev main_v118 : Ref sig .tc := ⟨.hbm, 166, rfl⟩
abbrev main_cst_25 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩

abbrev nD : Nat := 1
abbrev τ : Topo := Topo.v7x

variable {F : FTy → Type} [FloatOps F]
-- ==== Kernel3.lean ====
abbrev S2048x1024 : Shape := ⟨2, ![2048, 1024]⟩
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S256 : Shape := ⟨1, ![256]⟩
abbrev S256x1 : Shape := ⟨2, ![256, 1]⟩
abbrev S512x256 : Shape := ⟨2, ![512, 256]⟩
abbrev S256x256 : Shape := ⟨2, ![256, 256]⟩
abbrev S2048x512 : Shape := ⟨2, ![2048, 512]⟩
abbrev S1024x512 : Shape := ⟨2, ![1024, 512]⟩

abbrev nBuf : Space → Nat
  | .hbm => 40
  | .vmem => 93
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S2048x1024, .f32⟩
  | .hbm, ⟨9, _⟩ => ⟨S1x1024, .f32⟩
  | .hbm, ⟨10, _⟩ => ⟨S2048x1024, .bf16⟩
  | .hbm, ⟨11, _⟩ => ⟨S1x1024, .f32⟩
  | .hbm, ⟨12, _⟩ => ⟨S256x1024, .bf16⟩
  | .hbm, ⟨13, _⟩ => ⟨S2048x1024, .bf16⟩
  | .hbm, ⟨14, _⟩ => ⟨S256x1024, .bf16⟩
  | .hbm, ⟨15, _⟩ => ⟨S256x1024, .bf16⟩
  | .hbm, ⟨16, _⟩ => ⟨S2048x1024, .bf16⟩
  | .hbm, ⟨17, _⟩ => ⟨S2048x1024, .f32⟩
  | .hbm, ⟨18, _⟩ => ⟨S2048x1024, .bf16⟩
  | .hbm, ⟨19, _⟩ => ⟨S2048x1024, .bf16⟩
  | .hbm, ⟨20, _⟩ => ⟨S1024x1024, .bf16⟩
  | .hbm, ⟨21, _⟩ => ⟨S2048x1024, .bf16⟩
  | .hbm, ⟨22, _⟩ => ⟨S256x1024, .f32⟩
  | .hbm, ⟨23, _⟩ => ⟨S256x1024, .f32⟩
  | .hbm, ⟨24, _⟩ => ⟨S2048x1024, .f32⟩
  | .hbm, ⟨25, _⟩ => ⟨S1024x1024, .bf16⟩
  | .hbm, ⟨26, _⟩ => ⟨S256x1024, .f32⟩
  | .hbm, ⟨27, _⟩ => ⟨S256x1024, .f32⟩
  | .hbm, ⟨28, _⟩ => ⟨S1024x1024, .bf16⟩
  | .hbm, ⟨29, _⟩ => ⟨S1024x1024, .bf16⟩
  | .hbm, ⟨30, _⟩ => ⟨S1x1024, .f32⟩
  | .hbm, ⟨31, _⟩ => ⟨S2048x1024, .f32⟩
  | .hbm, ⟨32, _⟩ => ⟨S2048x1024, .bf16⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S256x1024, .f32⟩
  | .hbm, ⟨37, _⟩ => ⟨S256x1024, .bf16⟩
  | .hbm, ⟨38, _⟩ => ⟨S1x1024, .f32⟩
  | .hbm, ⟨39, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .bf16⟩
  | .local _ .vmem, ⟨14, _⟩ => ⟨S1024x1024, .bf16⟩
  | .local _ .vmem, ⟨15, _⟩ => ⟨S256x1024, .bf16⟩
  | .local _ .vmem, ⟨16, _⟩ => ⟨S256x1024, .bf16⟩
  | .local _ .vmem, ⟨17, _⟩ => ⟨S1024x1024, .bf16⟩
  | .local _ .vmem, ⟨18, _⟩ => ⟨S256x1024, .bf16⟩
  | .local _ .vmem, ⟨19, _⟩ => ⟨S512x1024, .bf16⟩
  | .local _ .vmem, ⟨20, _⟩ => ⟨S512x1024, .bf16⟩
  | .local _ .vmem, ⟨21, _⟩ => ⟨S256x1024, .bf16⟩
  | .local _ .vmem, ⟨22, _⟩ => ⟨S256x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1024x1024, .bf16⟩
  | .local _ .vmem, ⟨36, _⟩ => ⟨S1024x1024, .bf16⟩
  | .local _ .vmem, ⟨37, _⟩ => ⟨S2048x1024, .bf16⟩
  | .local _ .vmem, ⟨38, _⟩ => ⟨S2048x512, .bf16⟩
  | .local _ .vmem, ⟨39, _⟩ => ⟨S2048x512, .bf16⟩
  | .local _ .vmem, ⟨40, _⟩ => ⟨S1024x512, .bf16⟩
  | .local _ .vmem, ⟨41, _⟩ => ⟨S1024x512, .bf16⟩
  | .local _ .vmem, ⟨42, _⟩ => ⟨S512x1024, .bf16⟩
  | .local _ .vmem, ⟨43, _⟩ => ⟨S512x1024, .bf16⟩
  | .local _ .vmem, ⟨44, _⟩ => ⟨S256x1024, .bf16⟩
  | .local _ .vmem, ⟨45, _⟩ => ⟨S256x1024, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S256x1024, .f32⟩
  | .local _ .vmem, ⟨51, _⟩ => ⟨S256x1024, .f32⟩
  | .local _ .vmem, ⟨52, _⟩ => ⟨S1024x1024, .bf16⟩
  | .local _ .vmem, ⟨53, _⟩ => ⟨S1024x1024, .bf16⟩
  | .local _ .vmem, ⟨54, _⟩ => ⟨S1024x1024, .bf16⟩
  | .local _ .vmem, ⟨55, _⟩ => ⟨S1024x1024, .f32⟩
  | .local _ .vmem, ⟨56, _⟩ => ⟨S1024x1024, .f32⟩
  | .local _ .vmem, ⟨57, _⟩ => ⟨S2048x1024, .bf16⟩
  | .local _ .vmem, ⟨58, _⟩ => ⟨S2048x512, .bf16⟩
  | .local _ .vmem, ⟨59, _⟩ => ⟨S2048x512, .bf16⟩
  | .local _ .vmem, ⟨60, _⟩ => ⟨S1024x512, .bf16⟩
  | .local _ .vmem, ⟨61, _⟩ => ⟨S1024x512, .bf16⟩
  | .local _ .vmem, ⟨62, _⟩ => ⟨S256x1024, .f32⟩
  | .local _ .vmem, ⟨63, _⟩ => ⟨S1024x1024, .bf16⟩
  | .local _ .vmem, ⟨64, _⟩ => ⟨S256x1024, .f32⟩
  | .local _ .vmem, ⟨65, _⟩ => ⟨S256x1024, .f32⟩
  | .local _ .vmem, ⟨66, _⟩ => ⟨S1024x1024, .bf16⟩
  | .local _ .vmem, ⟨67, _⟩ => ⟨S256x1024, .f32⟩
  | .local _ .vmem, ⟨68, _⟩ => ⟨S256x1024, .f32⟩
  | .local _ .vmem, ⟨69, _⟩ => ⟨S256x1024, .bf16⟩
  | .local _ .vmem, ⟨70, _⟩ => ⟨S256x1024, .f32⟩
  | .local _ .vmem, ⟨71, _⟩ => ⟨S1024x1024, .bf16⟩
  | .local _ .vmem, ⟨72, _⟩ => ⟨S256x1024, .bf16⟩
  | .local _ .vmem, ⟨73, _⟩ => ⟨S256x1024, .f32⟩
  | .local _ .vmem, ⟨74, _⟩ => ⟨S1024x1024, .bf16⟩
  | .local _ .vmem, ⟨75, _⟩ => ⟨S512x1024, .f32⟩
  | .local _ .vmem, ⟨76, _⟩ => ⟨S512x1024, .f32⟩
  | .local _ .vmem, ⟨77, _⟩ => ⟨S1x1024, .f32⟩
  | .local _ .vmem, ⟨78, _⟩ => ⟨S512x1024, .f32⟩
  | .local _ .vmem, ⟨79, _⟩ => ⟨S512x1024, .f32⟩
  | .local _ .vmem, ⟨80, _⟩ => ⟨S512x1024, .f32⟩
  | .local _ .vmem, ⟨81, _⟩ => ⟨S512x1024, .f32⟩
  | .local _ .vmem, ⟨82, _⟩ => ⟨S512x1024, .f32⟩
  | .local _ .vmem, ⟨83, _⟩ => ⟨S512x1024, .f32⟩
  | .local _ .vmem, ⟨84, _⟩ => ⟨S512x1024, .bf16⟩
  | .local _ .vmem, ⟨85, _⟩ => ⟨S512x1024, .bf16⟩
  | .local _ .vmem, ⟨86, _⟩ => ⟨S1x1024, .f32⟩
  | .local _ .vmem, ⟨87, _⟩ => ⟨S256x1024, .f32⟩
  | .local _ .vmem, ⟨88, _⟩ => ⟨S1x1024, .f32⟩
  | .local _ .vmem, ⟨89, _⟩ => ⟨S256x1024, .f32⟩
  | .local _ .vmem, ⟨90, _⟩ => ⟨S256x1024, .f32⟩
  | .local _ .vmem, ⟨91, _⟩ => ⟨S256x1024, .bf16⟩
  | .local _ .vmem, ⟨92, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | _, _ => false

abbrev semScoped : Fin 0 → Bool
  | ⟨_, h⟩ => absurd h (Nat.not_lt_zero _)

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  ofTc nBuf bufTy 0 93 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg2_0 : Ref sig .tc := ⟨.vmem, 15, rfl⟩
abbrev cc4_stg0_0 : Ref sig .tc := ⟨.vmem, 16, rfl⟩
abbrev cc4_stg1_0 : Ref sig .tc := ⟨.vmem, 17, rfl⟩
abbrev cc4_stg2_0 : Ref sig .tc := ⟨.vmem, 18, rfl⟩
abbrev cc5_stg0_0 : Ref sig .tc := ⟨.vmem, 19, rfl⟩
abbrev cc5_stg0_1 : Ref sig .tc := ⟨.vmem, 20, rfl⟩
abbrev cc5_stg1_0 : Ref sig .tc := ⟨.vmem, 21, rfl⟩
abbrev cc5_stg2_0 : Ref sig .tc := ⟨.vmem, 22, rfl⟩
abbrev cc5_stg3_0 : Ref sig .tc := ⟨.vmem, 23, rfl⟩
abbrev cc5_stg3_1 : Ref sig .tc := ⟨.vmem, 24, rfl⟩
abbrev cc6_stg0_0 : Ref sig .tc := ⟨.vmem, 25, rfl⟩
abbrev cc6_stg0_1 : Ref sig .tc := ⟨.vmem, 26, rfl⟩
abbrev cc6_stg1_0 : Ref sig .tc := ⟨.vmem, 27, rfl⟩
abbrev cc6_stg2_0 : Ref sig .tc := ⟨.vmem, 28, rfl⟩
abbrev cc6_stg2_1 : Ref sig .tc := ⟨.vmem, 29, rfl⟩
abbrev cc6_stg3_0 : Ref sig .tc := ⟨.vmem, 30, rfl⟩
abbrev cc6_stg3_1 : Ref sig .tc := ⟨.vmem, 31, rfl⟩
abbrev cc7_stg0_0 : Ref sig .tc := ⟨.vmem, 32, rfl⟩
abbrev cc7_stg0_1 : Ref sig .tc := ⟨.vmem, 33, rfl⟩
abbrev cc7_stg1_0 : Ref sig .tc := ⟨.vmem, 34, rfl⟩
abbrev cc7_stg2_0 : Ref sig .tc := ⟨.vmem, 35, rfl⟩
abbrev cc7_stg2_1 : Ref sig .tc := ⟨.vmem, 36, rfl⟩
abbrev cc8_stg0_0 : Ref sig .tc := ⟨.vmem, 37, rfl⟩
abbrev cc8_stg1_0 : Ref sig .tc := ⟨.vmem, 38, rfl⟩
abbrev cc8_stg1_1 : Ref sig .tc := ⟨.vmem, 39, rfl⟩
abbrev cc8_stg2_0 : Ref sig .tc := ⟨.vmem, 40, rfl⟩
abbrev cc8_stg2_1 : Ref sig .tc := ⟨.vmem, 41, rfl⟩
abbrev cc9_stg0_0 : Ref sig .tc := ⟨.vmem, 42, rfl⟩
abbrev cc9_stg0_1 : Ref sig .tc := ⟨.vmem, 43, rfl⟩
abbrev cc9_stg1_0 : Ref sig .tc := ⟨.vmem, 44, rfl⟩
abbrev cc9_stg2_0 : Ref sig .tc := ⟨.vmem, 45, rfl⟩
abbrev cc9_stg3_0 : Ref sig .tc := ⟨.vmem, 46, rfl⟩
abbrev cc9_stg3_1 : Ref sig .tc := ⟨.vmem, 47, rfl⟩
abbrev cc9_stg4_0 : Ref sig .tc := ⟨.vmem, 48, rfl⟩
abbrev cc9_stg4_1 : Ref sig .tc := ⟨.vmem, 49, rfl⟩
abbrev cc9_stg5_0 : Ref sig .tc := ⟨.vmem, 50, rfl⟩
abbrev cc9_stg6_0 : Ref sig .tc := ⟨.vmem, 51, rfl⟩
abbrev cc10_stg0_0 : Ref sig .tc := ⟨.vmem, 52, rfl⟩
abbrev cc10_stg0_1 : Ref sig .tc := ⟨.vmem, 53, rfl⟩
abbrev cc10_stg1_0 : Ref sig .tc := ⟨.vmem, 54, rfl⟩
abbrev cc10_stg2_0 : Ref sig .tc := ⟨.vmem, 55, rfl⟩
abbrev cc10_stg2_1 : Ref sig .tc := ⟨.vmem, 56, rfl⟩
abbrev cc11_stg0_0 : Ref sig .tc := ⟨.vmem, 57, rfl⟩
abbrev cc11_stg1_0 : Ref sig .tc := ⟨.vmem, 58, rfl⟩
abbrev cc11_stg1_1 : Ref sig .tc := ⟨.vmem, 59, rfl⟩
abbrev cc11_stg2_0 : Ref sig .tc := ⟨.vmem, 60, rfl⟩
abbrev cc11_stg2_1 : Ref sig .tc := ⟨.vmem, 61, rfl⟩
abbrev cc12_stg0_0 : Ref sig .tc := ⟨.vmem, 62, rfl⟩
abbrev cc12_stg1_0 : Ref sig .tc := ⟨.vmem, 63, rfl⟩
abbrev cc12_stg2_0 : Ref sig .tc := ⟨.vmem, 64, rfl⟩
abbrev cc13_stg0_0 : Ref sig .tc := ⟨.vmem, 65, rfl⟩
abbrev cc13_stg1_0 : Ref sig .tc := ⟨.vmem, 66, rfl⟩
abbrev cc13_stg2_0 : Ref sig .tc := ⟨.vmem, 67, rfl⟩
abbrev cc13_stg3_0 : Ref sig .tc := ⟨.vmem, 68, rfl⟩
abbrev cc14_stg0_0 : Ref sig .tc := ⟨.vmem, 69, rfl⟩
abbrev cc14_stg1_0 : Ref sig .tc := ⟨.vmem, 70, rfl⟩
abbrev cc14_stg2_0 : Ref sig .tc := ⟨.vmem, 71, rfl⟩
abbrev cc15_stg0_0 : Ref sig .tc := ⟨.vmem, 72, rfl⟩
abbrev cc15_stg1_0 : Ref sig .tc := ⟨.vmem, 73, rfl⟩
abbrev cc15_stg2_0 : Ref sig .tc := ⟨.vmem, 74, rfl⟩
abbrev cc16_stg0_0 : Ref sig .tc := ⟨.vmem, 75, rfl⟩
abbrev cc16_stg0_1 : Ref sig .tc := ⟨.vmem, 76, rfl⟩
abbrev cc16_stg1_0 : Ref sig .tc := ⟨.vmem, 77, rfl⟩
abbrev cc16_stg2_0 : Ref sig .tc := ⟨.vmem, 78, rfl⟩
abbrev cc16_stg2_1 : Ref sig .tc := ⟨.vmem, 79, rfl⟩
abbrev cc16_stg3_0 : Ref sig .tc := ⟨.vmem, 80, rfl⟩
abbrev cc16_stg3_1 : Ref sig .tc := ⟨.vmem, 81, rfl⟩
abbrev cc16_stg4_0 : Ref sig .tc := ⟨.vmem, 82, rfl⟩
abbrev cc16_stg4_1 : Ref sig .tc := ⟨.vmem, 83, rfl⟩
abbrev cc16_stg5_0 : Ref sig .tc := ⟨.vmem, 84, rfl⟩
abbrev cc16_stg5_1 : Ref sig .tc := ⟨.vmem, 85, rfl⟩
abbrev cc16_stg6_0 : Ref sig .tc := ⟨.vmem, 86, rfl⟩
abbrev cc17_stg0_0 : Ref sig .tc := ⟨.vmem, 87, rfl⟩
abbrev cc17_stg1_0 : Ref sig .tc := ⟨.vmem, 88, rfl⟩
abbrev cc17_stg2_0 : Ref sig .tc := ⟨.vmem, 89, rfl⟩
abbrev cc17_stg3_0 : Ref sig .tc := ⟨.vmem, 90, rfl⟩
abbrev cc17_stg4_0 : Ref sig .tc := ⟨.vmem, 91, rfl⟩
abbrev cc17_stg5_0 : Ref sig .tc := ⟨.vmem, 92, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem1_0 : DmaSem sig := 14
abbrev cc3_sem2_0 : DmaSem sig := 15
abbrev cc4_sem0_0 : DmaSem sig := 16
abbrev cc4_sem1_0 : DmaSem sig := 17
abbrev cc4_sem2_0 : DmaSem sig := 18
abbrev cc5_sem0_0 : DmaSem sig := 19
abbrev cc5_sem0_1 : DmaSem sig := 20
abbrev cc5_sem1_0 : DmaSem sig := 21
abbrev cc5_sem2_0 : DmaSem sig := 22
abbrev cc5_sem3_0 : DmaSem sig := 23
abbrev cc5_sem3_1 : DmaSem sig := 24
abbrev cc6_sem0_0 : DmaSem sig := 25
abbrev cc6_sem0_1 : DmaSem sig := 26
abbrev cc6_sem1_0 : DmaSem sig := 27
abbrev cc6_sem2_0 : DmaSem sig := 28
abbrev cc6_sem2_1 : DmaSem sig := 29
abbrev cc6_sem3_0 : DmaSem sig := 30
abbrev cc6_sem3_1 : DmaSem sig := 31
abbrev cc7_sem0_0 : DmaSem sig := 32
abbrev cc7_sem0_1 : DmaSem sig := 33
abbrev cc7_sem1_0 : DmaSem sig := 34
abbrev cc7_sem2_0 : DmaSem sig := 35
abbrev cc7_sem2_1 : DmaSem sig := 36
abbrev cc8_sem0_0 : DmaSem sig := 37
abbrev cc8_sem1_0 : DmaSem sig := 38
abbrev cc8_sem1_1 : DmaSem sig := 39
abbrev cc8_sem2_0 : DmaSem sig := 40
abbrev cc8_sem2_1 : DmaSem sig := 41
abbrev cc9_sem0_0 : DmaSem sig := 42
abbrev cc9_sem0_1 : DmaSem sig := 43
abbrev cc9_sem1_0 : DmaSem sig := 44
abbrev cc9_sem2_0 : DmaSem sig := 45
abbrev cc9_sem3_0 : DmaSem sig := 46
abbrev cc9_sem3_1 : DmaSem sig := 47
abbrev cc9_sem4_0 : DmaSem sig := 48
abbrev cc9_sem4_1 : DmaSem sig := 49
abbrev cc9_sem5_0 : DmaSem sig := 50
abbrev cc9_sem6_0 : DmaSem sig := 51
abbrev cc10_sem0_0 : DmaSem sig := 52
abbrev cc10_sem0_1 : DmaSem sig := 53
abbrev cc10_sem1_0 : DmaSem sig := 54
abbrev cc10_sem2_0 : DmaSem sig := 55
abbrev cc10_sem2_1 : DmaSem sig := 56
abbrev cc11_sem0_0 : DmaSem sig := 57
abbrev cc11_sem1_0 : DmaSem sig := 58
abbrev cc11_sem1_1 : DmaSem sig := 59
abbrev cc11_sem2_0 : DmaSem sig := 60
abbrev cc11_sem2_1 : DmaSem sig := 61
abbrev cc12_sem0_0 : DmaSem sig := 62
abbrev cc12_sem1_0 : DmaSem sig := 63
abbrev cc12_sem2_0 : DmaSem sig := 64
abbrev cc13_sem0_0 : DmaSem sig := 65
abbrev cc13_sem1_0 : DmaSem sig := 66
abbrev cc13_sem2_0 : DmaSem sig := 67
abbrev cc13_sem3_0 : DmaSem sig := 68
abbrev cc14_sem0_0 : DmaSem sig := 69
abbrev cc14_sem1_0 : DmaSem sig := 70
abbrev cc14_sem2_0 : DmaSem sig := 71
abbrev cc15_sem0_0 : DmaSem sig := 72
abbrev cc15_sem1_0 : DmaSem sig := 73
abbrev cc15_sem2_0 : DmaSem sig := 74
abbrev cc16_sem0_0 : DmaSem sig := 75
abbrev cc16_sem0_1 : DmaSem sig := 76
abbrev cc16_sem1_0 : DmaSem sig := 77
abbrev cc16_sem2_0 : DmaSem sig := 78
abbrev cc16_sem2_1 : DmaSem sig := 79
abbrev cc16_sem3_0 : DmaSem sig := 80
abbrev cc16_sem3_1 : DmaSem sig := 81
abbrev cc16_sem4_0 : DmaSem sig := 82
abbrev cc16_sem4_1 : DmaSem sig := 83
abbrev cc16_sem5_0 : DmaSem sig := 84
abbrev cc16_sem5_1 : DmaSem sig := 85
abbrev cc16_sem6_0 : DmaSem sig := 86
abbrev cc17_sem0_0 : DmaSem sig := 87
abbrev cc17_sem1_0 : DmaSem sig := 88
abbrev cc17_sem2_0 : DmaSem sig := 89
abbrev cc17_sem3_0 : DmaSem sig := 90
abbrev cc17_sem4_0 : DmaSem sig := 91
abbrev cc17_sem5_0 : DmaSem sig := 92

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S256x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S256x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S256x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨2, ![2, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1024x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![2, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![1, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S2048x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 2 → Memref sig .tc .vmem S2048x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S512x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S256x1024 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S512x1024 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S512x1024 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S256x1024 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S256x1024 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev grid10 : Pipeline.Grid := ⟨2, ![2, 1], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S1024x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 1 → Memref sig .tc .vmem S1024x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![1, 2], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 1 → Memref sig .tc .vmem S2048x1024 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true, false]

abbrev stage11_1 : Fin 2 → Memref sig .tc .vmem S2048x512 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1024x512 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev grid12 : Pipeline.Grid := ⟨2, ![1, 1], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage12_0 : Fin 1 → Memref sig .tc .vmem S256x1024 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true, false]

abbrev stage12_1 : Fin 1 → Memref sig .tc .vmem S1024x1024 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true]

abbrev stage12_2 : Fin 1 → Memref sig .tc .vmem S256x1024 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![true, true]

abbrev grid13 : Pipeline.Grid := ⟨2, ![1, 1], ![false, false]⟩

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc13_transform_3 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage13_0 : Fin 1 → Memref sig .tc .vmem S256x1024 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true, false]

abbrev stage13_1 : Fin 1 → Memref sig .tc .vmem S1024x1024 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, true]

abbrev stage13_2 : Fin 1 → Memref sig .tc .vmem S256x1024 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![true, true]

abbrev stage13_3 : Fin 1 → Memref sig .tc .vmem S256x1024 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![true, true]

abbrev grid14 : Pipeline.Grid := ⟨2, ![1, 1], ![false, false]⟩

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage14_0 : Fin 1 → Memref sig .tc .vmem S256x1024 .bf16 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true, false]

abbrev stage14_1 : Fin 1 → Memref sig .tc .vmem S256x1024 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false, true]

abbrev stage14_2 : Fin 1 → Memref sig .tc .vmem S1024x1024 .bf16 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![true, true]

abbrev grid15 : Pipeline.Grid := ⟨2, ![1, 1], ![false, false]⟩

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage15_0 : Fin 1 → Memref sig .tc .vmem S256x1024 .bf16 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true, false]

abbrev stage15_1 : Fin 1 → Memref sig .tc .vmem S256x1024 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false, true]

abbrev stage15_2 : Fin 1 → Memref sig .tc .vmem S1024x1024 .bf16 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![true, true]

abbrev grid16 : Pipeline.Grid := ⟨1, ![4], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S512x1024 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x1024 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S512x1024 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 2 → Memref sig .tc .vmem S512x1024 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S512x1024 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev stage16_5 : Fin 2 → Memref sig .tc .vmem S512x1024 .bf16 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev stage16_6 : Fin 1 → Memref sig .tc .vmem S1x1024 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_5 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage17_0 : Fin 1 → Memref sig .tc .vmem S256x1024 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true]

abbrev stage17_1 : Fin 1 → Memref sig .tc .vmem S1x1024 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S256x1024 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![true]

abbrev stage17_3 : Fin 1 → Memref sig .tc .vmem S256x1024 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![true]

abbrev stage17_4 : Fin 1 → Memref sig .tc .vmem S256x1024 .bf16 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![true]

abbrev stage17_5 : Fin 1 → Memref sig .tc .vmem S1x1024 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![false]
-- ==== Reference3Ideal.lean ====
abbrev S2048x1024 : Shape := ⟨2, ![2048, 1024]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S256 : Shape := ⟨1, ![256]⟩
abbrev S256x1 : Shape := ⟨2, ![256, 1]⟩
abbrev S1x2048x4x256 : Shape := ⟨4, ![1, 2048, 4, 256]⟩
abbrev S1x256x4x256 : Shape := ⟨4, ![1, 256, 4, 256]⟩
abbrev S1x4x2048x256 : Shape := ⟨4, ![1, 4, 2048, 256]⟩
abbrev S1x4x2048 : Shape := ⟨3, ![1, 4, 2048]⟩
abbrev S1x4x2048x1 : Shape := ⟨4, ![1, 4, 2048, 1]⟩
abbrev S1x4x256x2048 : Shape := ⟨4, ![1, 4, 256, 2048]⟩
abbrev S1x4x256x256 : Shape := ⟨4, ![1, 4, 256, 256]⟩
abbrev S4x2048 : Shape := ⟨2, ![4, 2048]⟩

abbrev nBuf : Space → Nat
  | .hbm => 183
  | .vmem => 0
  | .smem => 0
  | _ => 0

abbrev hbmTy0_0 (i : Nat) : BufTy := match i % 128 with
  | 0 => ⟨S2048x1024, .f32⟩
  | 1 => ⟨S256x1024, .f32⟩
  | 2 => ⟨S1024, .f32⟩
  | 3 => ⟨S1024, .f32⟩
  | 4 => ⟨S1024x1024, .bf16⟩
  | 5 => ⟨S1024x1024, .bf16⟩
  | 6 => ⟨S1024x1024, .bf16⟩
  | 7 => ⟨S1024x1024, .bf16⟩
  | 8 => ⟨S2048x1024, .f32⟩
  | 9 => ⟨S1024x1024, .f32⟩
  | 10 => ⟨S1024x1024, .f32⟩
  | 11 => ⟨S1024x1024, .f32⟩
  | 12 => ⟨S1024x1024, .f32⟩
  | 13 => ⟨S2048x1024, .f32⟩
  | 14 => ⟨S_, .f32⟩
  | 15 => ⟨S2048, .f32⟩
  | 16 => ⟨S2048x1, .f32⟩
  | 17 => ⟨S_, .f32⟩
  | 18 => ⟨S2048x1, .f32⟩
  | 19 => ⟨S2048x1, .f32⟩
  | 20 => ⟨S_, .f32⟩
  | 21 => ⟨S2048x1, .f32⟩
  | 22 => ⟨S2048x1, .f32⟩
  | 23 => ⟨S2048x1, .f32⟩
  | 24 => ⟨S2048x1, .f32⟩
  | 25 => ⟨S_, .f32⟩
  | 26 => ⟨S2048x1, .f32⟩
  | 27 => ⟨S2048x1, .f32⟩
  | 28 => ⟨S2048x1024, .f32⟩
  | 29 => ⟨S2048x1024, .f32⟩
  | 30 => ⟨S1x1024, .f32⟩
  | 31 => ⟨S2048x1024, .f32⟩
  | 32 => ⟨S2048x1024, .f32⟩
  | 33 => ⟨S256x1024, .f32⟩
  | 34 => ⟨S_, .f32⟩
  | 35 => ⟨S256, .f32⟩
  | 36 => ⟨S256x1, .f32⟩
  | 37 => ⟨S_, .f32⟩
  | 38 => ⟨S256x1, .f32⟩
  | 39 => ⟨S256x1, .f32⟩
  | 40 => ⟨S_, .f32⟩
  | 41 => ⟨S256x1, .f32⟩
  | 42 => ⟨S256x1, .f32⟩
  | 43 => ⟨S256x1, .f32⟩
  | 44 => ⟨S256x1024, .f32⟩
  | 45 => ⟨S256x1024, .f32⟩
  | 46 => ⟨S1x1024, .f32⟩
  | 47 => ⟨S256x1024, .f32⟩
  | 48 => ⟨S256x1024, .f32⟩
  | 49 => ⟨S2048x1024, .f32⟩
  | 50 => ⟨S1x2048x4x256, .f32⟩
  | 51 => ⟨S256x1024, .f32⟩
  | 52 => ⟨S1x256x4x256, .f32⟩
  | 53 => ⟨S256x1024, .f32⟩
  | 54 => ⟨S1x256x4x256, .f32⟩
  | 55 => ⟨S1x4x2048x256, .f32⟩
  | 56 => ⟨S_, .f32⟩
  | 57 => ⟨S1x4x2048x256, .f32⟩
  | 58 => ⟨S1x4x2048x256, .f32⟩
  | 59 => ⟨S_, .f32⟩
  | 60 => ⟨S1x4x2048, .f32⟩
  | 61 => ⟨S1x4x2048x1, .f32⟩
  | 62 => ⟨S1x4x2048x256, .f32⟩
  | 63 => ⟨S1x4x2048x256, .i1⟩
  | 64 => ⟨S1x4x2048x256, .f32⟩
  | 65 => ⟨S_, .f32⟩
  | 66 => ⟨S1x4x2048, .f32⟩
  | 67 => ⟨S_, .f32⟩
  | 68 => ⟨S1x4x2048, .f32⟩
  | 69 => ⟨S1x4x2048, .f32⟩
  | 70 => ⟨S_, .f32⟩
  | 71 => ⟨S1x4x2048, .f32⟩
  | 72 => ⟨S1x4x2048, .i1⟩
  | 73 => ⟨S_, .f32⟩
  | 74 => ⟨S1x4x2048, .f32⟩
  | 75 => ⟨S1x4x2048, .i1⟩
  | 76 => ⟨S_, .f32⟩
  | 77 => ⟨S1x4x2048, .f32⟩
  | 78 => ⟨S_, .f32⟩
  | 79 => ⟨S1x4x2048, .f32⟩
  | 80 => ⟨S_, .f32⟩
  | 81 => ⟨S1x4x2048, .f32⟩
  | 82 => ⟨S1x4x2048, .f32⟩
  | 83 => ⟨S1x4x2048, .f32⟩
  | 84 => ⟨S1x4x2048x1, .f32⟩
  | 85 => ⟨S1x4x2048x256, .f32⟩
  | 86 => ⟨S1x4x2048x256, .f32⟩
  | 87 => ⟨S1x4x2048x256, .f32⟩
  | 88 => ⟨S_, .f32⟩
  | 89 => ⟨S1x4x2048, .f32⟩
  | 90 => ⟨S1x4x2048x1, .f32⟩
  | 91 => ⟨S1x4x2048x256, .f32⟩
  | 92 => ⟨S1x4x2048x256, .f32⟩
  | 93 => ⟨S1x4x2048x1, .f32⟩
  | 94 => ⟨S_, .f32⟩
  | 95 => ⟨S1x4x2048x1, .f32⟩
  | 96 => ⟨S1x4x2048x1, .f32⟩
  | 97 => ⟨S1x4x256x2048, .f32⟩
  | 98 => ⟨S1x2048x4x256, .f32⟩
  | 99 => ⟨S2048x1024, .f32⟩
  | 100 => ⟨S2048x1024, .f32⟩
  | 101 => ⟨S2048x1024, .f32⟩
  | 102 => ⟨S2048x1024, .f32⟩
  | 103 => ⟨S1024x1024, .f32⟩
  | 104 => ⟨S1024x1024, .f32⟩
  | 105 => ⟨S2048x1024, .f32⟩
  | 106 => ⟨S1x2048x4x256, .f32⟩
  | 107 => ⟨S1x4x256x2048, .f32⟩
  | 108 => ⟨S1x4x2048x256, .f32⟩
  | 109 => ⟨S1x4x256x256, .f32⟩
  | 110 => ⟨S1x256x4x256, .f32⟩
  | 111 => ⟨S1x4x2048x256, .f32⟩
  | 112 => ⟨S1x4x2048x256, .f32⟩
  | 113 => ⟨S1x4x2048x256, .f32⟩
  | 114 => ⟨S_, .f32⟩
  | 115 => ⟨S1x4x2048, .f32⟩
  | 116 => ⟨S1x4x2048x1, .f32⟩
  | 117 => ⟨S1x4x2048x1, .f32⟩
  | 118 => ⟨S1x4x2048x256, .f32⟩
  | 119 => ⟨S1x4x2048x256, .f32⟩
  | 120 => ⟨S_, .f32⟩
  | 121 => ⟨S4x2048, .f32⟩
  | 122 => ⟨S1x4x2048, .f32⟩
  | 123 => ⟨S1x4x2048x256, .f32⟩
  | 124 => ⟨S1x4x2048x256, .f32⟩
  | 125 => ⟨S1x4x2048x256, .f32⟩
  | 126 => ⟨S_, .f32⟩
  | 127 => ⟨S1x4x2048x256, .f32⟩
  | _ => ⟨S2048x1024, .f32⟩

abbrev hbmTy0_1 (i : Nat) : BufTy := match i % 128 with
  | 0 => ⟨S1x4x2048x256, .f32⟩
  | 1 => ⟨S1x4x256x256, .f32⟩
  | 2 => ⟨S1x256x4x256, .f32⟩
  | 3 => ⟨S1x4x2048x256, .f32⟩
  | 4 => ⟨S1x2048x4x256, .f32⟩
  | 5 => ⟨S256x1024, .f32⟩
  | 6 => ⟨S1024x1024, .f32⟩
  | 7 => ⟨S1024x1024, .f32⟩
  | 8 => ⟨S256x1024, .f32⟩
  | 9 => ⟨S256x1024, .f32⟩
  | 10 => ⟨S1024x1024, .f32⟩
  | 11 => ⟨S1024x1024, .f32⟩
  | 12 => ⟨S256x1024, .f32⟩
  | 13 => ⟨S256x1024, .f32⟩
  | 14 => ⟨S2048x1024, .f32⟩
  | 15 => ⟨S1024x1024, .f32⟩
  | 16 => ⟨S1024x1024, .f32⟩
  | 17 => ⟨S2048x1024, .f32⟩
  | 18 => ⟨S256x1024, .f32⟩
  | 19 => ⟨S_, .f32⟩
  | 20 => ⟨S1024, .f32⟩
  | 21 => ⟨S1x1024, .f32⟩
  | 22 => ⟨S_, .f32⟩
  | 23 => ⟨S1024, .f32⟩
  | 24 => ⟨S2048x1024, .f32⟩
  | 25 => ⟨S_, .f32⟩
  | 26 => ⟨S1024, .f32⟩
  | 27 => ⟨S1x1024, .f32⟩
  | 28 => ⟨S2048x1024, .f32⟩
  | 29 => ⟨S2048x1024, .f32⟩
  | 30 => ⟨S_, .f32⟩
  | 31 => ⟨S1024, .f32⟩
  | 32 => ⟨S2048x1024, .f32⟩
  | 33 => ⟨S_, .f32⟩
  | 34 => ⟨S2048, .f32⟩
  | 35 => ⟨S2048x1, .f32⟩
  | 36 => ⟨S2048x1024, .f32⟩
  | 37 => ⟨S2048x1024, .f32⟩
  | 38 => ⟨S2048x1024, .f32⟩
  | 39 => ⟨S2048x1, .f32⟩
  | 40 => ⟨S_, .f32⟩
  | 41 => ⟨S2048x1, .f32⟩
  | 42 => ⟨S2048x1, .f32⟩
  | 43 => ⟨S_, .f32⟩
  | 44 => ⟨S2048, .f32⟩
  | 45 => ⟨S2048x1024, .f32⟩
  | 46 => ⟨S2048x1024, .f32⟩
  | 47 => ⟨S2048x1024, .f32⟩
  | 48 => ⟨S2048x1024, .f32⟩
  | 49 => ⟨S2048x1024, .f32⟩
  | 50 => ⟨S2048x1024, .bf16⟩
  | 51 => ⟨S1024x1024, .bf16⟩
  | 52 => ⟨S1024x1024, .bf16⟩
  | 53 => ⟨S1024x1024, .bf16⟩
  | 54 => ⟨S1024x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_18 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_19 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_20 : Ref sig .tc := ⟨.hbm, 147, rfl⟩
abbrev main_v117 : Ref sig .tc := ⟨.hbm, 148, rfl⟩
abbrev main_v118 : Ref sig .tc := ⟨.hbm, 149, rfl⟩
abbrev main_cst_21 : Ref sig .tc := ⟨.hbm, 150, rfl⟩
abbrev main_v119 : Ref sig .tc := ⟨.hbm, 151, rfl⟩
abbrev main_v120 : Ref sig .tc := ⟨.hbm, 152, rfl⟩
abbrev main_cst_22 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_23 : Ref sig .tc := ⟨.hbm, 158, rfl⟩
abbrev main_v125 : Ref sig .tc := ⟨.hbm, 159, rfl⟩
abbrev main_v126 : Ref sig .tc := ⟨.hbm, 160, rfl⟩
abbrev main_cst_24 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_25 : Ref sig .tc := ⟨.hbm, 168, rfl⟩
abbrev main_v133 : Ref sig .tc := ⟨.hbm, 169, rfl⟩
abbrev main_v134 : Ref sig .tc := ⟨.hbm, 170, rfl⟩
abbrev main_cst_26 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩

abbrev nD : Nat := 1
abbrev τ : Topo := Topo.v7x

variable {F : FTy → Type} [FloatOps F]
-- ==== Kernel4.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S2048x512 : Shape := ⟨2, ![2048, 512]⟩
abbrev S1024x512 : Shape := ⟨2, ![1024, 512]⟩
abbrev S512x4096 : Shape := ⟨2, ![512, 4096]⟩

abbrev nBuf : Space → Nat
  | .hbm => 26
  | .vmem => 68
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x4096, .bf16⟩
  | .hbm, ⟨7, _⟩ => ⟨S2048x1024, .f32⟩
  | .hbm, ⟨8, _⟩ => ⟨S1x1024, .f32⟩
  | .hbm, ⟨9, _⟩ => ⟨S2048x1024, .bf16⟩
  | .hbm, ⟨10, _⟩ => ⟨S2048x4096, .f32⟩
  | .hbm, ⟨11, _⟩ => ⟨S2048x1024, .f32⟩
  | .hbm, ⟨12, _⟩ => ⟨S2048x1024, .f32⟩
  | .hbm, ⟨13, _⟩ => ⟨S2048x1024, .bf16⟩
  | .hbm, ⟨14, _⟩ => ⟨S2048x1024, .f32⟩
  | .hbm, ⟨15, _⟩ => ⟨S2048x1024, .f32⟩
  | .hbm, ⟨16, _⟩ => ⟨S1024x1024, .bf16⟩
  | .hbm, ⟨17, _⟩ => ⟨S1024x1024, .bf16⟩
  | .hbm, ⟨18, _⟩ => ⟨S2048x1024, .bf16⟩
  | .hbm, ⟨19, _⟩ => ⟨S2048x1024, .f32⟩
  | .hbm, ⟨20, _⟩ => ⟨S1024x4096, .f32⟩
  | .hbm, ⟨21, _⟩ => ⟨S1x1024, .f32⟩
  | .hbm, ⟨22, _⟩ => ⟨S2048x1024, .f32⟩
  | .hbm, ⟨23, _⟩ => ⟨S2048x1024, .bf16⟩
  | .hbm, ⟨24, _⟩ => ⟨S1x1024, .f32⟩
  | .hbm, ⟨25, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x1024, .f32⟩
  | .local _ .vmem, ⟨34, _⟩ => ⟨S1024x1024, .f32⟩
  | .local _ .vmem, ⟨35, _⟩ => ⟨S2048x1024, .bf16⟩
  | .local _ .vmem, ⟨36, _⟩ => ⟨S2048x512, .bf16⟩
  | .local _ .vmem, ⟨37, _⟩ => ⟨S2048x512, .bf16⟩
  | .local _ .vmem, ⟨38, _⟩ => ⟨S1024x512, .bf16⟩
  | .local _ .vmem, ⟨39, _⟩ => ⟨S1024x512, .bf16⟩
  | .local _ .vmem, ⟨40, _⟩ => ⟨S2048x1024, .bf16⟩
  | .local _ .vmem, ⟨41, _⟩ => ⟨S2048x512, .bf16⟩
  | .local _ .vmem, ⟨42, _⟩ => ⟨S2048x512, .bf16⟩
  | .local _ .vmem, ⟨43, _⟩ => ⟨S1024x512, .bf16⟩
  | .local _ .vmem, ⟨44, _⟩ => ⟨S1024x512, .bf16⟩
  | .local _ .vmem, ⟨45, _⟩ => ⟨S1024x4096, .bf16⟩
  | .local _ .vmem, ⟨46, _⟩ => ⟨S1024x4096, .bf16⟩
  | .local _ .vmem, ⟨47, _⟩ => ⟨S512x4096, .bf16⟩
  | .local _ .vmem, ⟨48, _⟩ => ⟨S512x4096, .bf16⟩
  | .local _ .vmem, ⟨49, _⟩ => ⟨S1024x512, .f32⟩
  | .local _ .vmem, ⟨50, _⟩ => ⟨S1024x512, .f32⟩
  | .local _ .vmem, ⟨51, _⟩ => ⟨S2048x1024, .bf16⟩
  | .local _ .vmem, ⟨52, _⟩ => ⟨S2048x512, .bf16⟩
  | .local _ .vmem, ⟨53, _⟩ => ⟨S2048x512, .bf16⟩
  | .local _ .vmem, ⟨54, _⟩ => ⟨S1024x512, .f32⟩
  | .local _ .vmem, ⟨55, _⟩ => ⟨S1024x512, .f32⟩
  | .local _ .vmem, ⟨56, _⟩ => ⟨S512x1024, .f32⟩
  | .local _ .vmem, ⟨57, _⟩ => ⟨S512x1024, .f32⟩
  | .local _ .vmem, ⟨58, _⟩ => ⟨S1x1024, .f32⟩
  | .local _ .vmem, ⟨59, _⟩ => ⟨S512x1024, .f32⟩
  | .local _ .vmem, ⟨60, _⟩ => ⟨S512x1024, .f32⟩
  | .local _ .vmem, ⟨61, _⟩ => ⟨S512x1024, .f32⟩
  | .local _ .vmem, ⟨62, _⟩ => ⟨S512x1024, .f32⟩
  | .local _ .vmem, ⟨63, _⟩ => ⟨S512x1024, .f32⟩
  | .local _ .vmem, ⟨64, _⟩ => ⟨S512x1024, .f32⟩
  | .local _ .vmem, ⟨65, _⟩ => ⟨S512x1024, .bf16⟩
  | .local _ .vmem, ⟨66, _⟩ => ⟨S512x1024, .bf16⟩
  | .local _ .vmem, ⟨67, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg2_1 : Ref sig .tc := ⟨.vmem, 39, rfl⟩
abbrev cc7_stg0_0 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc7_stg2_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg1_1 : Ref sig .tc := ⟨.vmem, 48, rfl⟩
abbrev cc8_stg2_0 : Ref sig .tc := ⟨.vmem, 49, rfl⟩
abbrev cc8_stg2_1 : Ref sig .tc := ⟨.vmem, 50, rfl⟩
abbrev cc9_stg0_0 : Ref sig .tc := ⟨.vmem, 51, rfl⟩
abbrev cc9_stg1_0 : Ref sig .tc := ⟨.vmem, 52, rfl⟩
abbrev cc9_stg1_1 : Ref sig .tc := ⟨.vmem, 53, rfl⟩
abbrev cc9_stg2_0 : Ref sig .tc := ⟨.vmem, 54, rfl⟩
abbrev cc9_stg2_1 : Ref sig .tc := ⟨.vmem, 55, rfl⟩
abbrev cc10_stg0_0 : Ref sig .tc := ⟨.vmem, 56, rfl⟩
abbrev cc10_stg0_1 : Ref sig .tc := ⟨.vmem, 57, rfl⟩
abbrev cc10_stg1_0 : Ref sig .tc := ⟨.vmem, 58, rfl⟩
abbrev cc10_stg2_0 : Ref sig .tc := ⟨.vmem, 59, rfl⟩
abbrev cc10_stg2_1 : Ref sig .tc := ⟨.vmem, 60, rfl⟩
abbrev cc10_stg3_0 : Ref sig .tc := ⟨.vmem, 61, rfl⟩
abbrev cc10_stg3_1 : Ref sig .tc := ⟨.vmem, 62, rfl⟩
abbrev cc10_stg4_0 : Ref sig .tc := ⟨.vmem, 63, rfl⟩
abbrev cc10_stg4_1 : Ref sig .tc := ⟨.vmem, 64, rfl⟩
abbrev cc10_stg5_0 : Ref sig .tc := ⟨.vmem, 65, rfl⟩
abbrev cc10_stg5_1 : Ref sig .tc := ⟨.vmem, 66, rfl⟩
abbrev cc10_stg6_0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem2_1 : DmaSem sig := 34
abbrev cc6_sem0_0 : DmaSem sig := 35
abbrev cc6_sem1_0 : DmaSem sig := 36
abbrev cc6_sem1_1 : DmaSem sig := 37
abbrev cc6_sem2_0 : DmaSem sig := 38
abbrev cc6_sem2_1 : DmaSem sig := 39
abbrev cc7_sem0_0 : DmaSem sig := 40
abbrev cc7_sem1_0 : DmaSem sig := 41
abbrev cc7_sem1_1 : DmaSem sig := 42
abbrev cc7_sem2_0 : DmaSem sig := 43
abbrev cc7_sem2_1 : DmaSem sig := 44
abbrev cc8_sem0_0 : DmaSem sig := 45
abbrev cc8_sem0_1 : DmaSem sig := 46
abbrev cc8_sem1_0 : DmaSem sig := 47
abbrev cc8_sem1_1 : DmaSem sig := 48
abbrev cc8_sem2_0 : DmaSem sig := 49
abbrev cc8_sem2_1 : DmaSem sig := 50
abbrev cc9_sem0_0 : DmaSem sig := 51
abbrev cc9_sem1_0 : DmaSem sig := 52
abbrev cc9_sem1_1 : DmaSem sig := 53
abbrev cc9_sem2_0 : DmaSem sig := 54
abbrev cc9_sem2_1 : DmaSem sig := 55
abbrev cc10_sem0_0 : DmaSem sig := 56
abbrev cc10_sem0_1 : DmaSem sig := 57
abbrev cc10_sem1_0 : DmaSem sig := 58
abbrev cc10_sem2_0 : DmaSem sig := 59
abbrev cc10_sem2_1 : DmaSem sig := 60
abbrev cc10_sem3_0 : DmaSem sig := 61
abbrev cc10_sem3_1 : DmaSem sig := 62
abbrev cc10_sem4_0 : DmaSem sig := 63
abbrev cc10_sem4_1 : DmaSem sig := 64
abbrev cc10_sem5_0 : DmaSem sig := 65
abbrev cc10_sem5_1 : DmaSem sig := 66
abbrev cc10_sem6_0 : DmaSem sig := 67

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![v0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S2048x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S2048x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![1, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S2048x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S2048x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![2, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S512x4096 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![1, 8], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 1 → Memref sig .tc .vmem S2048x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false]

abbrev stage9_1 : Fin 2 → Memref sig .tc .vmem S2048x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S512x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x1024 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S512x1024 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S512x1024 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S512x1024 .bf16 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 1 → Memref sig .tc .vmem S1x1024 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]
-- ==== Reference4Ideal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2048 : Shape := ⟨2, ![2048, 2048]⟩
abbrev S1024x2048 : Shape := ⟨2, ![1024, 2048]⟩
abbrev S4096x1024 : Shape := ⟨2, ![4096, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x4096, .bf16⟩
  | .hbm, ⟨7, _⟩ => ⟨S2048x1024, .f32⟩
  | .hbm, ⟨8, _⟩ => ⟨S1024x4096, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x4096, .f32⟩
  | .hbm, ⟨33, _⟩ => ⟨S2048x2048, .f32⟩
  | .hbm, ⟨34, _⟩ => ⟨S2048x1024, .f32⟩
  | .hbm, ⟨35, _⟩ => ⟨S2048x1024, .f32⟩
  | .hbm, ⟨36, _⟩ => ⟨S2048x4096, .f32⟩
  | .hbm, ⟨37, _⟩ => ⟨S2048x1024, .f32⟩
  | .hbm, ⟨38, _⟩ => ⟨S1024x2048, .f32⟩
  | .hbm, ⟨39, _⟩ => ⟨S2048x1024, .f32⟩
  | .hbm, ⟨40, _⟩ => ⟨S2048x2048, .f32⟩
  | .hbm, ⟨41, _⟩ => ⟨S2048x1024, .f32⟩
  | .hbm, ⟨42, _⟩ => ⟨S2048x1024, .f32⟩
  | .hbm, ⟨43, _⟩ => ⟨S4096x1024, .f32⟩
  | .hbm, ⟨44, _⟩ => ⟨S1024x4096, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .bf16⟩
  | .hbm, ⟨73, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Kernel5.lean ====
abbrev S2048x3840 : Shape := ⟨2, ![2048, 3840]⟩
abbrev S384 : Shape := ⟨1, ![384]⟩
abbrev S256 : Shape := ⟨1, ![256]⟩
abbrev S384x2048 : Shape := ⟨2, ![384, 2048]⟩
abbrev S256x2048 : Shape := ⟨2, ![256, 2048]⟩
abbrev S2048x2048 : Shape := ⟨2, ![2048, 2048]⟩
abbrev S1x384 : Shape := ⟨2, ![1, 384]⟩
abbrev S2048x384 : Shape := ⟨2, ![2048, 384]⟩
abbrev S512x384 : Shape := ⟨2, ![512, 384]⟩
abbrev S512 : Shape := ⟨1, ![512]⟩
abbrev S512x1 : Shape := ⟨2, ![512, 1]⟩
abbrev S1x256 : Shape := ⟨2, ![1, 256]⟩
abbrev S2048x256 : Shape := ⟨2, ![2048, 256]⟩
abbrev S512x256 : Shape := ⟨2, ![512, 256]⟩
abbrev S1024x384 : Shape := ⟨2, ![1024, 384]⟩
abbrev S384x1024 : Shape := ⟨2, ![384, 1024]⟩
abbrev S1024x1024 : Shape := ⟨2, ![1024, 1024]⟩
abbrev S1024x256 : Shape := ⟨2, ![1024, 256]⟩
abbrev S256x1024 : Shape := ⟨2, ![256, 1024]⟩
abbrev S2048x512 : Shape := ⟨2, ![2048, 512]⟩
abbrev S384x512 : Shape := ⟨2, ![384, 512]⟩
abbrev S1024x2048 : Shape := ⟨2, ![1024, 2048]⟩
abbrev S256x512 : Shape := ⟨2, ![256, 512]⟩

abbrev nBuf : Space → Nat
  | .hbm => 27
  | .vmem => 62
  | .smem => 0
  | _ => 0

abbrev bufTy : (tb : Table) → Fin (tcTables nBuf tb) → BufTy
  | .hbm, ⟨0, _⟩ => ⟨S2048x3840, .f32⟩
  | .hbm, ⟨1, _⟩ => ⟨S384, .f32⟩
  | .hbm, ⟨2, _⟩ => ⟨S256, .f32⟩
  | .hbm, ⟨3, _⟩ => ⟨S384x2048, .bf16⟩
  | .hbm, ⟨4, _⟩ => ⟨S256x2048, .bf16⟩
  | .hbm, ⟨5, _⟩ => ⟨S2048x2048, .bf16⟩
  | .hbm, ⟨6, _⟩ => ⟨S2048x2048, .bf16⟩
  | .hbm, ⟨7, _⟩ => ⟨S1x384, .f32⟩
  | .hbm, ⟨8, _⟩ => ⟨S2048x384, .bf16⟩
  | .hbm, ⟨9, _⟩ => ⟨S1x256, .f32⟩
  | .hbm, ⟨10, _⟩ => ⟨S2048x256, .bf16⟩
  | .hbm, ⟨11, _⟩ => ⟨S2048x2048, .f32⟩
  | .hbm, ⟨12, _⟩ => ⟨S2048x2048, .f32⟩
  | .hbm, ⟨13, _⟩ => ⟨S384x2048, .f32⟩
  | .hbm, ⟨14, _⟩ => ⟨S2048x384, .f32⟩
  | .hbm, ⟨15, _⟩ => ⟨S256x2048, .f32⟩
  | .hbm, ⟨16, _⟩ => ⟨S2048x256, .f32⟩
  | .hbm, ⟨17, _⟩ => ⟨S1x384, .f32⟩
  | .hbm, ⟨18, _⟩ => ⟨S2048x384, .f32⟩
  | .hbm, ⟨19, _⟩ => ⟨S2048x384, .bf16⟩
  | .hbm, ⟨20, _⟩ => ⟨S1x384, .f32⟩
  | .hbm, ⟨21, _⟩ => ⟨S384, .f32⟩
  | .hbm, ⟨22, _⟩ => ⟨S1x256, .f32⟩
  | .hbm, ⟨23, _⟩ => ⟨S2048x256, .f32⟩
  | .hbm, ⟨24, _⟩ => ⟨S2048x256, .bf16⟩
  | .hbm, ⟨25, _⟩ => ⟨S1x256, .f32⟩
  | .hbm, ⟨26, _⟩ => ⟨S256, .f32⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .bf16⟩
  | .local _ .vmem, ⟨4, _⟩ => ⟨S512x384, .bf16⟩
  | .local _ .vmem, ⟨5, _⟩ => ⟨S512x256, .f32⟩
  | .local _ .vmem, ⟨6, _⟩ => ⟨S512x256, .f32⟩
  | .local _ .vmem, ⟨7, _⟩ => ⟨S1x256, .f32⟩
  | .local _ .vmem, ⟨8, _⟩ => ⟨S512x256, .bf16⟩
  | .local _ .vmem, ⟨9, _⟩ => ⟨S512x256, .bf16⟩
  | .local _ .vmem, ⟨10, _⟩ => ⟨S1024x384, .bf16⟩
  | .local _ .vmem, ⟨11, _⟩ => ⟨S1024x384, .bf16⟩
  | .local _ .vmem, ⟨12, _⟩ => ⟨S384x1024, .bf16⟩
  | .local _ .vmem, ⟨13, _⟩ => ⟨S384x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x256, .bf16⟩
  | .local _ .vmem, ⟨17, _⟩ => ⟨S1024x256, .bf16⟩
  | .local _ .vmem, ⟨18, _⟩ => ⟨S256x1024, .bf16⟩
  | .local _ .vmem, ⟨19, _⟩ => ⟨S256x1024, .bf16⟩
  | .local _ .vmem, ⟨20, _⟩ => ⟨S1024x1024, .f32⟩
  | .local _ .vmem, ⟨21, _⟩ => ⟨S1024x1024, .f32⟩
  | .local _ .vmem, ⟨22, _⟩ => ⟨S2048x384, .bf16⟩
  | .local _ .vmem, ⟨23, _⟩ => ⟨S2048x512, .bf16⟩
  | .local _ .vmem, ⟨24, _⟩ => ⟨S2048x512, .bf16⟩
  | .local _ .vmem, ⟨25, _⟩ => ⟨S384x512, .f32⟩
  | .local _ .vmem, ⟨26, _⟩ => ⟨S384x512, .f32⟩
  | .local _ .vmem, ⟨27, _⟩ => ⟨S1024x2048, .bf16⟩
  | .local _ .vmem, ⟨28, _⟩ => ⟨S1024x2048, .bf16⟩
  | .local _ .vmem, ⟨29, _⟩ => ⟨S384x2048, .bf16⟩
  | .local _ .vmem, ⟨30, _⟩ => ⟨S1024x384, .f32⟩
  | .local _ .vmem, ⟨31, _⟩ => ⟨S1024x384, .f32⟩
  | .local _ .vmem, ⟨32, _⟩ => ⟨S2048x256, .bf16⟩
  | .local _ .vmem, ⟨33, _⟩ => ⟨S2048x512, .bf16⟩
  | .local _ .vmem, ⟨34, _⟩ => ⟨S2048x512, .bf16⟩
  | .local _ .vmem, ⟨35, _⟩ => ⟨S256x512, .f32⟩
  | .local _ .vmem, ⟨36, _⟩ => ⟨S256x512, .f32⟩
  | .local _ .vmem, ⟨37, _⟩ => ⟨S1024x2048, .bf16⟩
  | .local _ .vmem, ⟨38, _⟩ => ⟨S1024x2048, .bf16⟩
  | .local _ .vmem, ⟨39, _⟩ => ⟨S256x2048, .bf16⟩
  | .local _ .vmem, ⟨40, _⟩ => ⟨S1024x256, .f32⟩
  | .local _ .vmem, ⟨41, _⟩ => ⟨S1024x256, .f32⟩
  | .local _ .vmem, ⟨42, _⟩ => ⟨S512x384, .f32⟩
  | .local _ .vmem, ⟨43, _⟩ => ⟨S512x384, .f32⟩
  | .local _ .vmem, ⟨44, _⟩ => ⟨S1x384, .f32⟩
  | .local _ .vmem, ⟨45, _⟩ => ⟨S512x384, .f32⟩
  | .local _ .vmem, ⟨46, _⟩ => ⟨S512x384, .f32⟩
  | .local _ .vmem, ⟨47, _⟩ => ⟨S512x384, .f32⟩
  | .local _ .vmem, ⟨48, _⟩ => ⟨S512x384, .f32⟩
  | .local _ .vmem, ⟨49, _⟩ => ⟨S512x384, .bf16⟩
  | .local _ .vmem, ⟨50, _⟩ => ⟨S512x384, .bf16⟩
  | .local _ .vmem, ⟨51, _⟩ => ⟨S1x384, .f32⟩
  | .local _ .vmem, ⟨52, _⟩ => ⟨S512x256, .f32⟩
  | .local _ .vmem, ⟨53, _⟩ => ⟨S512x256, .f32⟩
  | .local _ .vmem, ⟨54, _⟩ => ⟨S1x256, .f32⟩
  | .local _ .vmem, ⟨55, _⟩ => ⟨S512x256, .f32⟩
  | .local _ .vmem, ⟨56, _⟩ => ⟨S512x256, .f32⟩
  | .local _ .vmem, ⟨57, _⟩ => ⟨S512x256, .f32⟩
  | .local _ .vmem, ⟨58, _⟩ => ⟨S512x256, .f32⟩
  | .local _ .vmem, ⟨59, _⟩ => ⟨S512x256, .bf16⟩
  | .local _ .vmem, ⟨60, _⟩ => ⟨S512x256, .bf16⟩
  | .local _ .vmem, ⟨61, _⟩ => ⟨S1x256, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg1_0 : Ref sig .tc := ⟨.vmem, 33, rfl⟩
abbrev cc6_stg1_1 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg2_0 : Ref sig .tc := ⟨.vmem, 45, rfl⟩
abbrev cc8_stg2_1 : Ref sig .tc := ⟨.vmem, 46, rfl⟩
abbrev cc8_stg3_0 : Ref sig .tc := ⟨.vmem, 47, rfl⟩
abbrev cc8_stg3_1 : Ref sig .tc := ⟨.vmem, 48, rfl⟩
abbrev cc8_stg4_0 : Ref sig .tc := ⟨.vmem, 49, rfl⟩
abbrev cc8_stg4_1 : Ref sig .tc := ⟨.vmem, 50, rfl⟩
abbrev cc8_stg5_0 : Ref sig .tc := ⟨.vmem, 51, rfl⟩
abbrev cc9_stg0_0 : Ref sig .tc := ⟨.vmem, 52, rfl⟩
abbrev cc9_stg0_1 : Ref sig .tc := ⟨.vmem, 53, rfl⟩
abbrev cc9_stg1_0 : Ref sig .tc := ⟨.vmem, 54, rfl⟩
abbrev cc9_stg2_0 : Ref sig .tc := ⟨.vmem, 55, rfl⟩
abbrev cc9_stg2_1 : Ref sig .tc := ⟨.vmem, 56, rfl⟩
abbrev cc9_stg3_0 : Ref sig .tc := ⟨.vmem, 57, rfl⟩
abbrev cc9_stg3_1 : Ref sig .tc := ⟨.vmem, 58, rfl⟩
abbrev cc9_stg4_0 : Ref sig .tc := ⟨.vmem, 59, rfl⟩
abbrev cc9_stg4_1 : Ref sig .tc := ⟨.vmem, 60, rfl⟩
abbrev cc9_stg5_0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem1_0 : DmaSem sig := 33
abbrev cc6_sem1_1 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41
abbrev cc8_sem0_0 : DmaSem sig := 42
abbrev cc8_sem0_1 : DmaSem sig := 43
abbrev cc8_sem1_0 : DmaSem sig := 44
abbrev cc8_sem2_0 : DmaSem sig := 45
abbrev cc8_sem2_1 : DmaSem sig := 46
abbrev cc8_sem3_0 : DmaSem sig := 47
abbrev cc8_sem3_1 : DmaSem sig := 48
abbrev cc8_sem4_0 : DmaSem sig := 49
abbrev cc8_sem4_1 : DmaSem sig := 50
abbrev cc8_sem5_0 : DmaSem sig := 51
abbrev cc9_sem0_0 : DmaSem sig := 52
abbrev cc9_sem0_1 : DmaSem sig := 53
abbrev cc9_sem1_0 : DmaSem sig := 54
abbrev cc9_sem2_0 : DmaSem sig := 55
abbrev cc9_sem2_1 : DmaSem sig := 56
abbrev cc9_sem3_0 : DmaSem sig := 57
abbrev cc9_sem3_1 : DmaSem sig := 58
abbrev cc9_sem4_0 : DmaSem sig := 59
abbrev cc9_sem4_1 : DmaSem sig := 60
abbrev cc9_sem5_0 : DmaSem sig := 61

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c14_i32 : BitVec 32 := 14#32
  let c0_i32 : BitVec 32 := 0#32
  ![arg0.toNat, c14_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x384 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S384x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S2048x384 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S384x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S384x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S1024x384 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S2048x256 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S2048x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S256x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![2, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S256x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S1024x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨1, ![4], ![false]⟩

def cc8_transform_0 (i : grid8.Coords) : Fin 2 → Nat :=
  let arg0 : BitVec 32 := BitVec.ofNat 32 (i 0).val
  let c8_i32 : BitVec 32 := 8#32
  let c0_i32 : BitVec 32 := 0#32
  ![arg0.toNat, c8_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S512x384 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x384 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x384 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S512x384 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S512x384 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x384 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev grid9 : Pipeline.Grid := ⟨1, ![4], ![false]⟩

def cc9_transform_0 (i : grid9.Coords) : Fin 2 → Nat :=
  let arg0 : BitVec 32 := BitVec.ofNat 32 (i 0).val
  let c14_i32 : BitVec 32 := 14#32
  let c0_i32 : BitVec 32 := 0#32
  ![arg0.toNat, c14_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S512x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S512x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S512x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S512x256 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]
-- ==== Reference5Ideal.lean ====
abbrev S2048x3840 : Shape := ⟨2, ![2048, 3840]⟩
abbrev S384 : Shape := ⟨1, ![384]⟩
abbrev S256 : Shape := ⟨1, ![256]⟩
abbrev S384x2048 : Shape := ⟨2, ![384, 2048]⟩
abbrev S256x2048 : Shape := ⟨2, ![256, 2048]⟩
abbrev S2048x2048 : Shape := ⟨2, ![2048, 2048]⟩
abbrev S2048x384 : Shape := ⟨2, ![2048, 384]⟩
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S1x384 : Shape := ⟨2, ![1, 384]⟩
abbrev S1x256 : Shape := ⟨2, ![1, 256]⟩

abbrev nBuf : Space → Nat
  | .hbm => 113
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S384, .f32⟩
  | .hbm, ⟨2, _⟩ => ⟨S256, .f32⟩
  | .hbm, ⟨3, _⟩ => ⟨S384x2048, .bf16⟩
  | .hbm, ⟨4, _⟩ => ⟨S256x2048, .bf16⟩
  | .hbm, ⟨5, _⟩ => ⟨S2048x2048, .bf16⟩
  | .hbm, ⟨6, _⟩ => ⟨S2048x2048, .bf16⟩
  | .hbm, ⟨7, _⟩ => ⟨S2048x384, .f32⟩
  | .hbm, ⟨8, _⟩ => ⟨S2048x256, .f32⟩
  | .hbm, ⟨9, _⟩ => ⟨S384x2048, .f32⟩
  | .hbm, ⟨10, _⟩ => ⟨S256x2048, .f32⟩
  | .hbm, ⟨11, _⟩ => ⟨S2048x384, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x384, .f32⟩
  | .hbm, ⟨27, _⟩ => ⟨S2048x384, .f32⟩
  | .hbm, ⟨28, _⟩ => ⟨S1x384, .f32⟩
  | .hbm, ⟨29, _⟩ => ⟨S2048x384, .f32⟩
  | .hbm, ⟨30, _⟩ => ⟨S2048x384, .f32⟩
  | .hbm, ⟨31, _⟩ => ⟨S2048x2048, .f32⟩
  | .hbm, ⟨32, _⟩ => ⟨S2048x256, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x256, .f32⟩
  | .hbm, ⟨48, _⟩ => ⟨S2048x256, .f32⟩
  | .hbm, ⟨49, _⟩ => ⟨S1x256, .f32⟩
  | .hbm, ⟨50, _⟩ => ⟨S2048x256, .f32⟩
  | .hbm, ⟨51, _⟩ => ⟨S2048x256, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x256, .f32⟩
  | .hbm, ⟨56, _⟩ => ⟨S256x2048, .f32⟩
  | .hbm, ⟨57, _⟩ => ⟨S2048x256, .f32⟩
  | .hbm, ⟨58, _⟩ => ⟨S2048x256, .f32⟩
  | .hbm, ⟨59, _⟩ => ⟨S_, .f32⟩
  | .hbm, ⟨60, _⟩ => ⟨S256, .f32⟩
  | .hbm, ⟨61, _⟩ => ⟨S1x256, .f32⟩
  | .hbm, ⟨62, _⟩ => ⟨S2048x256, .f32⟩
  | .hbm, ⟨63, _⟩ => ⟨S2048x256, .f32⟩
  | .hbm, ⟨64, _⟩ => ⟨S_, .f32⟩
  | .hbm, ⟨65, _⟩ => ⟨S256, .f32⟩
  | .hbm, ⟨66, _⟩ => ⟨S2048x256, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x256, .f32⟩
  | .hbm, ⟨71, _⟩ => ⟨S2048x256, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S_, .f32⟩
  | .hbm, ⟨77, _⟩ => ⟨S2048, .f32⟩
  | .hbm, ⟨78, _⟩ => ⟨S2048x256, .f32⟩
  | .hbm, ⟨79, _⟩ => ⟨S2048x256, .f32⟩
  | .hbm, ⟨80, _⟩ => ⟨S2048x256, .f32⟩
  | .hbm, ⟨81, _⟩ => ⟨S2048x256, .f32⟩
  | .hbm, ⟨82, _⟩ => ⟨S2048x256, .f32⟩
  | .hbm, ⟨83, _⟩ => ⟨S2048x384, .f32⟩
  | .hbm, ⟨84, _⟩ => ⟨S384x2048, .f32⟩
  | .hbm, ⟨85, _⟩ => ⟨S2048x384, .f32⟩
  | .hbm, ⟨86, _⟩ => ⟨S2048x384, .f32⟩
  | .hbm, ⟨87, _⟩ => ⟨S_, .f32⟩
  | .hbm, ⟨88, _⟩ => ⟨S384, .f32⟩
  | .hbm, ⟨89, _⟩ => ⟨S1x384, .f32⟩
  | .hbm, ⟨90, _⟩ => ⟨S2048x384, .f32⟩
  | .hbm, ⟨91, _⟩ => ⟨S2048x384, .f32⟩
  | .hbm, ⟨92, _⟩ => ⟨S_, .f32⟩
  | .hbm, ⟨93, _⟩ => ⟨S384, .f32⟩
  | .hbm, ⟨94, _⟩ => ⟨S2048x384, .f32⟩
  | .hbm, ⟨95, _⟩ => ⟨S_, .f32⟩
  | .hbm, ⟨96, _⟩ => ⟨S2048, .f32⟩
  | .hbm, ⟨97, _⟩ => ⟨S2048x1, .f32⟩
  | .hbm, ⟨98, _⟩ => ⟨S2048x384, .f32⟩
  | .hbm, ⟨99, _⟩ => ⟨S2048x384, .f32⟩
  | .hbm, ⟨100, _⟩ => ⟨S2048x1, .f32⟩
  | .hbm, ⟨101, _⟩ => ⟨S_, .f32⟩
  | .hbm, ⟨102, _⟩ => ⟨S2048x1, .f32⟩
  | .hbm, ⟨103, _⟩ => ⟨S2048x1, .f32⟩
  | .hbm, ⟨104, _⟩ => ⟨S_, .f32⟩
  | .hbm, ⟨105, _⟩ => ⟨S2048, .f32⟩
  | .hbm, ⟨106, _⟩ => ⟨S2048x384, .f32⟩
  | .hbm, ⟨107, _⟩ => ⟨S2048x384, .f32⟩
  | .hbm, ⟨108, _⟩ => ⟨S2048x384, .f32⟩
  | .hbm, ⟨109, _⟩ => ⟨S2048x384, .f32⟩
  | .hbm, ⟨110, _⟩ => ⟨S2048x384, .f32⟩
  | .hbm, ⟨111, _⟩ => ⟨S2048x384, .bf16⟩
  | .hbm, ⟨112, _⟩ => ⟨S2048x256, .bf16⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_13 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_15 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩

abbrev nD : Nat := 1
abbrev τ : Topo := Topo.v7x

variable {F : FTy → Type} [FloatOps F]
-- ==== Proof.SoftmaxReal.lean ====
module

public import proofs.«01_k».proof.Defs
public import Idealize.ShloMosaic.Lib.Pipeline.ValueKit

@[expose] public section

set_option maxRecDepth 16384

noncomputable section

/-! The real-number mathematics of one attention row and its gradient: a query row `q`, the keys `K`, the values `V` and
    the incoming gradient `g` of the row's output. -/

namespace Cert.AttnReal

open Idealize.ShloMosaic

/-- The scaled scores of a query row against every key. -/
def score (q : Fin 256 → ℝ) (K : Fin 256 → Fin 256 → ℝ) (c : Fin 256) : ℝ := (∑ d, q d * K c d) * (1 / 16)

/-- The softmax of the row's scores. -/
def prob (q : Fin 256 → ℝ) (K : Fin 256 → Fin 256 → ℝ) (c : Fin 256) : ℝ :=
  Real.exp (score q K c) / ∑ e, Real.exp (score q K e)

/-- The gradient of the row's probabilities. -/
def dprob (g : Fin 256 → ℝ) (V : Fin 256 → Fin 256 → ℝ) (c : Fin 256) : ℝ := ∑ d, g d * V c d

/-- The gradient of the unscaled scores: the softmax's derivative applied to `dprob`, times the scale. -/
def dscore (q g : Fin 256 → ℝ) (K V : Fin 256 → Fin 256 → ℝ) (c : Fin 256) : ℝ :=
  prob q K c * (dprob g V c - ∑ e, prob q K e * dprob g V e) * (1 / 16)

/-- A finite sum of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of finitely many reals, folded from minus infinity, is a real. -/
theorem fold_max_real (f : Fin 256 → ℝ) : ∃ M : ℝ, Finset.fold max (⊥ : EReal) (fun c => ((f c : ℝ) : EReal)) Finset.univ = (M : EReal) := by
  have h1 : Finset.fold max (⊥ : EReal) (fun c => ((f c : ℝ) : EReal)) Finset.univ < ⊤ :=
    (Finset.fold_max_lt _).mpr ⟨bot_lt_top, fun c _ => EReal.coe_lt_top _⟩
  have h2 : ⊥ < Finset.fold max (⊥ : EReal) (fun c => ((f c : ℝ) : EReal)) Finset.univ :=
    (Finset.lt_fold_max _).mpr (Or.inr ⟨0, Finset.mem_univ _, EReal.bot_lt_coe _⟩)
  exact ⟨_, (EReal.coe_toReal h1.ne h2.ne').symm⟩

theorem sixteenth : Ideal.ofBits .f32 0x3D800000#32 = ((1 / 16 : ℝ) : EReal) := by
  simp [Ideal.ofBits, Ideal.ieee, -EReal.coe_mul]; norm_num

theorem neg_inf : Ideal.ofBits .f32 0xFF800000#32 = (⊥ : EReal) := by
  simp [Ideal.ofBits, Ideal.ieee]

/-- The sum of the shifted exponentials is positive. -/
theorem expsum_pos (f : Fin 256 → ℝ) (M : ℝ) : 0 < ∑ e, Real.exp (f e - M) :=
  Finset.sum_pos (fun _ _ => Real.exp_pos _) ⟨0, Finset.mem_univ _⟩

/-- Subtracting one number from every score leaves the softmax as it is. -/
theorem shift (f : Fin 256 → ℝ) (M : ℝ) (c : Fin 256) :
    Real.exp (f c - M) / ∑ e, Real.exp (f e - M) = Real.exp (f c) / ∑ e, Real.exp (f e) := by
  simp only [Real.exp_sub, ← Finset.sum_div]
  have : Real.exp M ≠ 0 := (Real.exp_pos M).ne'
  field_simp

/-- Head `h`'s 256 columns of row `r` of an array of 1024 columns. -/
def row {n : Nat} (x : Shape.Idx ⟨2, ![n, 1024]⟩ → ℝ) (h : Fin 4) (r : Fin n) (d : Fin 256) : ℝ :=
  x (ix2 r ⟨h.val * 256 + d.val, by omega⟩)

/-- The head a column belongs to. -/
def head (j : Fin 1024) : Fin 4 := ⟨j.val / 256, by omega⟩

section Grads
variable {n : Nat} (q g : Shape.Idx ⟨2, ![n, 1024]⟩ → ℝ) (k v : Shape.Idx ⟨2, ![256, 1024]⟩ → ℝ)

/-- The gradient of the queries. -/
def gradQ (r : Fin n) (j : Fin 1024) : ℝ :=
  ∑ c, dscore (row q (head j) r) (row g (head j) r) (row k (head j)) (row v (head j)) c * k (ix2 c j)

/-- The gradient of the keys. -/
def gradK (c : Fin 256) (j : Fin 1024) : ℝ :=
  ∑ r, dscore (row q (head j) r) (row g (head j) r) (row k (head j)) (row v (head j)) c * q (ix2 r j)

/-- The gradient of the values. -/
def gradV (c : Fin 256) (j : Fin 1024) : ℝ := ∑ r, prob (row q (head j) r) (row k (head j)) c * g (ix2 r j)

end Grads

end Cert.AttnReal
end
-- ==== Proof.Finite.lean ====
module

public import proofs.«01_k».proof.Defs
public import proofs.«01_k».proof.Proof.SoftmaxReal

@[expose] public section

set_option maxRecDepth 16384

noncomputable section

/-! What the precondition says: every element of the four arrays is a real number. -/

namespace Cert.Finite

open Cert.Pre_finite Idealize.ShloMosaic

theorem facts : Cert.Pre_finite.Facts := ⟨by decide, by decide, by decide⟩

instance : Cert.Pre_finite.Facts := facts

theorem infinity : Ideal.ofBits .f32 2139095040#32 = (⊤ : EReal) := by
  simp [Ideal.ofBits, Ideal.ieee]

/-- An extended real whose absolute value is below infinity is a real. -/
theorem real_of_abs_lt {x : EReal} (h : BitVec.ofBool (decide (max x (-x) < Ideal.ofBits .f32 2139095040#32)) = 1#1) :
    x = ((x.toReal : ℝ) : EReal) := by
  rw [infinity] at h
  have hlt : max x (-x) < ⊤ := by by_contra hn; rw [decide_eq_false hn] at h; exact absurd h (by decide)
  refine (EReal.coe_toReal (ne_of_lt (lt_of_le_of_lt (le_max_left _ _) hlt)) fun hb => ?_).symm
  rw [hb] at hlt
  simp at hlt

section
variable {x0 : FVec Ideal S2048x1024 .bf16} {x1 x2 : FVec Ideal S256x1024 .bf16} {x3 : FVec Ideal S2048x1024 .bf16}

theorem real0 (h : (fn (F := Ideal) x0 x1 x2 x3).1 = fun _ => 1#1) (i : S2048x1024.Idx) : x0 i = (((x0 i).toReal : ℝ) : EReal) := by
  have := congrFun h i
  idx_vars i
  pointwise [fn] at this
  exact real_of_abs_lt this

theorem real1 (h : (fn (F := Ideal) x0 x1 x2 x3).2.1 = fun _ => 1#1) (i : S256x1024.Idx) : x1 i = (((x1 i).toReal : ℝ) : EReal) := by
  have := congrFun h i
  idx_vars i
  pointwise [fn] at this
  exact real_of_abs_lt this

theorem real2 (h : (fn (F := Ideal) x0 x1 x2 x3).2.2.1 = fun _ => 1#1) (i : S256x1024.Idx) : x2 i = (((x2 i).toReal : ℝ) : EReal) := by
  have := congrFun h i
  idx_vars i
  pointwise [fn] at this
  exact real_of_abs_lt this

theorem real3 (h : (fn (F := Ideal) x0 x1 x2 x3).2.2.2 = fun _ => 1#1) (i : S2048x1024.Idx) : x3 i = (((x3 i).toReal : ℝ) : EReal) := by
  have := congrFun h i
  idx_vars i
  pointwise [fn] at this
  exact real_of_abs_lt this

end

end Cert.Finite
end
-- ==== Proof.MemKernel.lean ====
module

public import proofs.«01_k».proof.Proof.Gen.KernelIdeal.Value
public import proofs.«01_k».proof.Proof.SoftmaxReal
public import Idealize.ShloMosaic.Lib.Pipeline.ReadBack

@[expose] public section

set_option maxRecDepth 16384

noncomputable section

/-! The kernel's three output blocks at a grid point, as real numbers, where the blocks it reads are finite. -/

namespace Cert.KernelIdeal.MemValue

open Cert.KernelIdeal Cert.KernelIdeal.Gen Idealize.ShloMosaic Idealize.ShloMosaic.TcCoe Idealize.SL.Sem
open Cert.AttnReal

/-! ## One head -/

section Head
variable {a d : Vec Ideal S512x256 .bf16} {b e : Vec Ideal S256x256 .bf16}
  {ar dr : Fin 512 → Fin 256 → ℝ} {br er : Fin 256 → Fin 256 → ℝ}

/-- The probabilities of a head. -/
theorem pr_apply (ha : ∀ r j, a (ix2 r j) = ((ar r j : ℝ) : EReal)) (hb : ∀ r j, b (ix2 r j) = ((br r j : ℝ) : EReal)) (r : Fin 512) (c : Fin 256) :
    k0_pay8 a b (ix2 r c) = ((prob (ar r) br c : ℝ) : EReal) := by
  obtain ⟨M, hM⟩ := fold_max_real (score (ar r) br)
  have hs : ∀ x, (∑ j, a (ix2 r j) * b (ix2 x j)) * Ideal.ofBits .f32 1031798784#32 = ((score (ar r) br x : ℝ) : EReal) := fun x => by
    simp only [ha, hb, sixteenth, ← EReal.coe_mul, coe_sum]; rfl
  pointwise [k0_pay8]
  simp only [hs, neg_inf, hM, ← EReal.coe_sub, Ideal.exp_coe, coe_sum]
  rw [Ideal.div_coe (expsum_pos _ M).ne', ← EReal.coe_mul, mul_one_div, shift]
  rfl

/-- The gradient of a head's unscaled scores. -/
theorem ds_apply (ha : ∀ r j, a (ix2 r j) = ((ar r j : ℝ) : EReal)) (hb : ∀ r j, b (ix2 r j) = ((br r j : ℝ) : EReal))
    (he : ∀ r j, e (ix2 r j) = ((er r j : ℝ) : EReal)) (hd : ∀ r j, d (ix2 r j) = ((dr r j : ℝ) : EReal)) (r : Fin 512) (c : Fin 256) :
    k0_pay9 a b e d (ix2 r c) = ((dscore (ar r) (dr r) br er c : ℝ) : EReal) := by
  pointwise [k0_pay9]
  simp only [pr_apply ha hb, he, hd, sixteenth, ← EReal.coe_mul, coe_sum, ← EReal.coe_sub]
  rfl

/-- The queries' gradient of a head. -/
theorem dq_apply (ha : ∀ r j, a (ix2 r j) = ((ar r j : ℝ) : EReal)) (hb : ∀ r j, b (ix2 r j) = ((br r j : ℝ) : EReal))
    (he : ∀ r j, e (ix2 r j) = ((er r j : ℝ) : EReal)) (hd : ∀ r j, d (ix2 r j) = ((dr r j : ℝ) : EReal)) (r : Fin 512) (j : Fin 256) :
    k0_pay10 a b e d (ix2 r j) = ((∑ c, dscore (ar r) (dr r) br er c * br c j : ℝ) : EReal) := by
  pointwise [k0_pay10]
  simp only [ds_apply ha hb he hd, hb, ← EReal.coe_mul, coe_sum]

/-- The keys' gradient of a head, added to what the accumulator held. -/
theorem dk_apply (ha : ∀ r j, a (ix2 r j) = ((ar r j : ℝ) : EReal)) (hb : ∀ r j, b (ix2 r j) = ((br r j : ℝ) : EReal))
    (he : ∀ r j, e (ix2 r j) = ((er r j : ℝ) : EReal)) (hd : ∀ r j, d (ix2 r j) = ((dr r j : ℝ) : EReal)) (A : Vec Ideal S256x256 .f32)
    (c : Fin 256) (j : Fin 256) :
    k0_pay13 a (k0_pay11 A) (k0_pay12 a b e d) (ix2 c j) = A (ix2 c j) + ((∑ r, dscore (ar r) (dr r) br er c * ar r j : ℝ) : EReal) := by
  pointwise [k0_pay13, k0_pay11, k0_pay12]
  simp only [ds_apply ha hb he hd, ha, ← EReal.coe_mul, coe_sum]

/-- The values' gradient of a head, added to what the accumulator held. -/
theorem dv_apply (ha : ∀ r j, a (ix2 r j) = ((ar r j : ℝ) : EReal)) (hb : ∀ r j, b (ix2 r j) = ((br r j : ℝ) : EReal))
    (hd : ∀ r j, d (ix2 r j) = ((dr r j : ℝ) : EReal)) (A : Vec Ideal S256x256 .f32) (c : Fin 256) (j : Fin 256) :
    k0_pay14 d (k0_pay8 a b) A (ix2 c j) = A (ix2 c j) + ((∑ r, prob (ar r) br c * dr r j : ℝ) : EReal) := by
  pointwise [k0_pay14]
  simp only [pr_apply ha hb, hd, ← EReal.coe_mul, coe_sum]

end Head

/-! ## A head's columns of a block -/

/-- A load of head `h`'s columns of a block. -/
theorem ld_row {n : Nat} {X : Vec Ideal ⟨2, ![n, 1024]⟩ .bf16} {xr : Shape.Idx ⟨2, ![n, 1024]⟩ → ℝ} (hX : ∀ i, X i = ((xr i : ℝ) : EReal)) (h : Fin 4)
    {o : Nat} (ho : o = h.val * 256) (inb) (r : Fin n) (j : Fin 256) :
    View.ld X (Rect.unit (s := ⟨2, ![n, 1024]⟩) ![0, o] ![n, 256] inb) (ix2 r j) = ((row xr h r j : ℝ) : EReal) := by
  refine (View.ld_unit_apply_of X ![0, o] ![n, 256] inb _ (ix2 r ⟨h.val * 256 + j.val, by omega⟩) fun a => ?_).trans (hX _)
  match a with
  | ⟨0, _⟩ => exact (Nat.zero_add _).symm
  | ⟨1, _⟩ => exact congrArg (· + j.val) ho.symm

theorem emb_row {o : Nat} (inb : ∀ a, ![0, o] a + ![256, 256] a ≤ S256x1024.size a) (x : S256x256.Idx) :
    ((Rect.unit (s := S256x1024) ![0, o] ![256, 256] inb).emb x 0).val = (x 0).val :=
  (Rect.idx_unit_val (s := S256x1024) ![0, o] ![256, 256] inb x 0).trans (Nat.zero_add _)

theorem emb_col {o : Nat} (inb : ∀ a, ![0, o] a + ![256, 256] a ≤ S256x1024.size a) (x : S256x256.Idx) :
    ((Rect.unit (s := S256x1024) ![0, o] ![256, 256] inb).emb x 1).val = o + (x 1).val :=
  Rect.idx_unit_val (s := S256x1024) ![0, o] ![256, 256] inb x 1

section Blocks
variable {X0 X3 : Vec Ideal S512x1024 .bf16} {X1 X2 : Vec Ideal S256x1024 .bf16} {qb gb : Shape.Idx ⟨2, ![512, 1024]⟩ → ℝ}
  {kb vb : Shape.Idx ⟨2, ![256, 1024]⟩ → ℝ}

theorem head_eq {h : Fin 4} {o : Nat} (ho : o = h.val * 256) {j : Fin 1024} {c : Fin 256} (hj : j.val = o + c.val) : head j = h :=
  Fin.ext (by show j.val / 256 = h.val; omega)

theorem row_eq {n : Nat} (x : Shape.Idx ⟨2, ![n, 1024]⟩ → ℝ) {h : Fin 4} {o : Nat} (ho : o = h.val * 256) {j : Fin 1024} {c : Fin 256} (hj : j.val = o + c.val)
    (r : Fin n) : row x h r c = x (ix2 r j) :=
  congrArg (fun l => x (ix2 r l)) (Fin.ext (by show h.val * 256 + c.val = j.val; omega))

section At
variable (q g : Shape.Idx ⟨2, ![512, 1024]⟩ → ℝ) (k v : Shape.Idx ⟨2, ![256, 1024]⟩ → ℝ) {h : Fin 4} {o : Nat} (ho : o = h.val * 256) {j : Fin 1024} {d : Fin 256}
  (hj : j.val = o + d.val)
include ho hj

theorem gradQ_at (r : Fin 512) : gradQ q g k v r j = ∑ c, dscore (row q h r) (row g h r) (row k h) (row v h) c * row k h c d := by
  unfold gradQ
  rw [head_eq ho hj]
  simp only [row_eq k ho hj]

theorem gradK_at (c : Fin 256) : gradK q g k v c j = ∑ r, dscore (row q h r) (row g h r) (row k h) (row v h) c * row q h r d := by
  unfold gradK
  rw [head_eq ho hj]
  simp only [row_eq q ho hj]

theorem gradV_at (c : Fin 256) : gradV q g k c j = ∑ r, prob (row q h r) (row k h) c * row g h r d := by
  unfold gradV
  rw [head_eq ho hj]
  simp only [row_eq g ho hj]

end At

variable (h0 : ∀ i, X0 i = ((qb i : ℝ) : EReal)) (h1 : ∀ i, X1 i = ((kb i : ℝ) : EReal)) (h2 : ∀ i, X2 i = ((vb i : ℝ) : EReal))
  (h3 : ∀ i, X3 i = ((gb i : ℝ) : EReal)) (h : Fin 4) {o : Nat} (ho : o = h.val * 256)
include h0 h1 h3 ho

include h2 in
/-- A head's tile of the queries' gradient. -/
theorem dq_tile (i5 : ∀ a, ![0, o] a + ![512, 256] a ≤ S512x1024.size a) (i2 : ∀ a, ![0, o] a + ![256, 256] a ≤ S256x1024.size a)
    (x : S512x256.Idx) (y : S512x1024.Idx) (y0 : (y 0).val = (x 0).val) (y1 : (y 1).val = o + (x 1).val) :
    k0_pay10 (View.ld X0 (Rect.unit ![0, o] ![512, 256] i5)) (View.ld X1 (Rect.unit ![0, o] ![256, 256] i2))
      (View.ld X2 (Rect.unit ![0, o] ![256, 256] i2)) (View.ld X3 (Rect.unit ![0, o] ![512, 256] i5)) x
      = ((gradQ qb gb kb vb (y 0) (y 1) : ℝ) : EReal) := by
  obtain ⟨r, c, rfl⟩ : ∃ r c, x = ix2 r c := ⟨_, _, eq_ix2 x⟩
  obtain ⟨s, j, rfl⟩ : ∃ s j, y = ix2 s j := ⟨_, _, eq_ix2 y⟩
  obtain rfl : s = r := Fin.ext y0
  rw [MemValue.dq_apply (ld_row h0 h ho i5) (ld_row h1 h ho i2) (ld_row h2 h ho i2) (ld_row h3 h ho i5)]
  exact congrArg _ (gradQ_at qb gb kb vb ho y1 s).symm

include h2 in
/-- A head's tile of the keys' gradient, added to what the accumulator held. -/
theorem dk_tile (i5 : ∀ a, ![0, o] a + ![512, 256] a ≤ S512x1024.size a) (i2 : ∀ a, ![0, o] a + ![256, 256] a ≤ S256x1024.size a)
    (A : Vec Ideal S256x1024 .f32) (x : S256x256.Idx) (y : S256x1024.Idx) (y0 : (y 0).val = (x 0).val) (y1 : (y 1).val = o + (x 1).val) :
    k0_pay13 (View.ld X0 (Rect.unit ![0, o] ![512, 256] i5)) (k0_pay11 (View.ld A (Rect.unit ![0, o] ![256, 256] i2)))
      (k0_pay12 (View.ld X0 (Rect.unit ![0, o] ![512, 256] i5)) (View.ld X1 (Rect.unit ![0, o] ![256, 256] i2))
        (View.ld X2 (Rect.unit ![0, o] ![256, 256] i2)) (View.ld X3 (Rect.unit ![0, o] ![512, 256] i5))) x
      = A y + ((gradK qb gb kb vb (y 0) (y 1) : ℝ) : EReal) := by
  have hA : View.ld A (Rect.unit ![0, o] ![256, 256] i2) x = A y := View.ld_unit_apply_of A ![0, o] ![256, 256] i2 x y fun a => by
    match a with
    | ⟨0, _⟩ => exact y0.trans (Nat.zero_add _).symm
    | ⟨1, _⟩ => exact y1
  obtain ⟨r, c, rfl⟩ : ∃ r c, x = ix2 r c := ⟨_, _, eq_ix2 x⟩
  obtain ⟨s, j, rfl⟩ : ∃ s j, y = ix2 s j := ⟨_, _, eq_ix2 y⟩
  obtain rfl : s = r := Fin.ext y0
  rw [MemValue.dk_apply (ld_row h0 h ho i5) (ld_row h1 h ho i2) (ld_row h2 h ho i2) (ld_row h3 h ho i5), hA]
  exact congrArg (A (ix2 s j) + ·) (congrArg _ (gradK_at qb gb kb vb ho y1 s).symm)

/-- A head's tile of the values' gradient, added to what the accumulator held. -/
theorem dv_tile (i5 : ∀ a, ![0, o] a + ![512, 256] a ≤ S512x1024.size a) (i2 : ∀ a, ![0, o] a + ![256, 256] a ≤ S256x1024.size a)
    (A : Vec Ideal S256x1024 .f32) (x : S256x256.Idx) (y : S256x1024.Idx) (y0 : (y 0).val = (x 0).val) (y1 : (y 1).val = o + (x 1).val) :
    k0_pay14 (View.ld X3 (Rect.unit ![0, o] ![512, 256] i5)) (k0_pay8 (View.ld X0 (Rect.unit ![0, o] ![512, 256] i5)) (View.ld X1 (Rect.unit ![0, o] ![256, 256] i2)))
      (View.ld A (Rect.unit ![0, o] ![256, 256] i2)) x
      = A y + ((gradV qb gb kb (y 0) (y 1) : ℝ) : EReal) := by
  have hA : View.ld A (Rect.unit ![0, o] ![256, 256] i2) x = A y := View.ld_unit_apply_of A ![0, o] ![256, 256] i2 x y fun a => by
    match a with
    | ⟨0, _⟩ => exact y0.trans (Nat.zero_add _).symm
    | ⟨1, _⟩ => exact y1
  obtain ⟨r, c, rfl⟩ : ∃ r c, x = ix2 r c := ⟨_, _, eq_ix2 x⟩
  obtain ⟨s, j, rfl⟩ : ∃ s j, y = ix2 s j := ⟨_, _, eq_ix2 y⟩
  obtain rfl : s = r := Fin.ext y0
  rw [MemValue.dv_apply (ld_row h0 h ho i5) (ld_row h1 h ho i2) (ld_row h3 h ho i5), hA]
  exact congrArg (A (ix2 s j) + ·) (congrArg _ (gradV_at qb gb kb ho y1 s).symm)

end Blocks

/-! ## The blocks after a grid point -/

section Point
variable (m : (ℓ : Loc nD τ sig) → Buf (Elt Ideal) ℓ) (c : Dev nD) (t : Fin cfg0.N)
variable {qb gb : Shape.Idx ⟨2, ![512, 1024]⟩ → ℝ} {kb vb : Shape.Idx ⟨2, ![256, 1024]⟩ → ℝ}
  (h0 : ∀ i, iblk m c 0 t i = ((qb i : ℝ) : EReal)) (h1 : ∀ i, iblk m c 1 t i = ((kb i : ℝ) : EReal)) (h2 : ∀ i, iblk m c 2 t i = ((vb i : ℝ) : EReal))
  (h3 : ∀ i, iblk m c 3 t i = ((gb i : ℝ) : EReal))
include h0 h1 h2 h3

/-- The queries' gradient block. -/
theorem dq_block (y : S512x1024.Idx) : (outsAt0 m c t.val t.isLt).1 y = ((gradQ qb gb kb vb (y 0) (y 1) : ℝ) : EReal) := by
  by_cases ht : t.val % 4 = 0
  · rw [outsAt0_A m c t ht]
    frame_out
    canon_tiles x hx
    · exact dq_tile h0 h1 h2 h3 3 rfl _ _ x y hx0 hx1
    · exact dq_tile h0 h1 h2 h3 2 rfl _ _ x y hx0 hx1
    · exact dq_tile h0 h1 h2 h3 1 rfl _ _ x y hx0 hx1
    · exact dq_tile h0 h1 h2 h3 0 rfl _ _ x y hx0 (hx1.trans (Nat.zero_add _).symm)
  · rw [outsAt0_B m c t ht]
    frame_out
    canon_tiles x hx
    · exact dq_tile h0 h1 h2 h3 3 rfl _ _ x y hx0 hx1
    · exact dq_tile h0 h1 h2 h3 2 rfl _ _ x y hx0 hx1
    · exact dq_tile h0 h1 h2 h3 1 rfl _ _ x y hx0 hx1
    · exact dq_tile h0 h1 h2 h3 0 rfl _ _ x y hx0 (hx1.trans (Nat.zero_add _).symm)

/-- The keys' gradient after a later grid point. -/
theorem dk_step (ht : ¬t.val % 4 = 0) (y : S256x1024.Idx) :
    (outsAt0 m c t.val t.isLt).2.1 y
      = (outsAt0 m c (t.val - 1) (Nat.lt_of_le_of_lt (Nat.sub_le _ _) t.isLt)).2.1 y + ((gradK qb gb kb vb (y 0) (y 1) : ℝ) : EReal) := by
  rw [outsAt0_B m c t ht]
  frame_out
  canon_tiles x hx
  · exact dk_tile h0 h1 h2 h3 3 rfl _ _ _ x y hx0 hx1
  · exact dk_tile h0 h1 h2 h3 2 rfl _ _ _ x y hx0 hx1
  · exact dk_tile h0 h1 h2 h3 1 rfl _ _ _ x y hx0 hx1
  · exact dk_tile h0 h1 h2 h3 0 rfl _ _ _ x y hx0 (hx1.trans (Nat.zero_add _).symm)

/-- The values' gradient after a later grid point. -/
theorem dv_step (ht : ¬t.val % 4 = 0) (y : S256x1024.Idx) :
    (outsAt0 m c t.val t.isLt).2.2 y
      = (outsAt0 m c (t.val - 1) (Nat.lt_of_le_of_lt (Nat.sub_le _ _) t.isLt)).2.2 y + ((gradV qb gb kb (y 0) (y 1) : ℝ) : EReal) := by
  rw [outsAt0_B m c t ht]
  frame_out
  canon_tiles x hx
  · exact dv_tile h0 h1 h3 3 rfl _ _ _ x y hx0 hx1
  · exact dv_tile h0 h1 h3 2 rfl _ _ _ x y hx0 hx1
  · exact dv_tile h0 h1 h3 1 rfl _ _ _ x y hx0 hx1
  · exact dv_tile h0 h1 h3 0 rfl _ _ _ x y hx0 (hx1.trans (Nat.zero_add _).symm)

/-- The keys' gradient after the first grid point. -/
theorem dk_first (ht : t.val % 4 = 0) (y : S256x1024.Idx) :
    (outsAt0 m c t.val t.isLt).2.1 y = 0 + ((gradK qb gb kb vb (y 0) (y 1) : ℝ) : EReal) := by
  have hz : (k0_pay6 (F := Ideal)) y = (0 : EReal) := by
    idx_vars y
    pointwise [k0_pay6]
    try exact Ideal.ofBits_zero_f32
  rw [outsAt0_A m c t ht]
  frame_open
  simp (disch := decide) only [↓ View.readCov_skip, ↓ View.readCov_cons_toLoadRect, ↓ View.readCov_fill]
  frame_out
  refine (View.canon_append_of_piecesOf (fun y => k0_pay6 (F := Ideal) y + ((gradK qb gb kb vb (y 0) (y 1) : ℝ) : EReal)) [_] [_, _, _, _] ⟨fun x => ?_, fun x => ?_, fun x => ?_, fun x => ?_, trivial⟩ y
    (View.cover_of_tiledL _ ![256, 256] (by rfl) y)).trans (congrArg (· + _) hz)
  · exact dk_tile h0 h1 h2 h3 3 rfl _ _ _ x _ (emb_row inb_S256x1024_S256x256_0_768 x) (emb_col inb_S256x1024_S256x256_0_768 x)
  · exact dk_tile h0 h1 h2 h3 2 rfl _ _ _ x _ (emb_row inb_S256x1024_S256x256_0_512 x) (emb_col inb_S256x1024_S256x256_0_512 x)
  · exact dk_tile h0 h1 h2 h3 1 rfl _ _ _ x _ (emb_row inb_S256x1024_S256x256_0_256 x) (emb_col inb_S256x1024_S256x256_0_256 x)
  · exact dk_tile h0 h1 h2 h3 0 rfl _ _ _ x _ (emb_row inb_S256x1024_S256x256_0_0 x) (emb_col inb_S256x1024_S256x256_0_0 x)

/-- The values' gradient after the first grid point. -/
theorem dv_first (ht : t.val % 4 = 0) (y : S256x1024.Idx) :
    (outsAt0 m c t.val t.isLt).2.2 y = 0 + ((gradV qb gb kb (y 0) (y 1) : ℝ) : EReal) := by
  have hz : (k0_pay7 (F := Ideal)) y = (0 : EReal) := by
    idx_vars y
    pointwise [k0_pay7]
    try exact Ideal.ofBits_zero_f32
  rw [outsAt0_A m c t ht]
  frame_open
  simp (disch := decide) only [↓ View.readCov_skip, ↓ View.readCov_cons_toLoadRect, ↓ View.readCov_fill]
  frame_out
  refine (View.canon_append_of_piecesOf (fun y => k0_pay7 (F := Ideal) y + ((gradV qb gb kb (y 0) (y 1) : ℝ) : EReal)) [_] [_, _, _, _] ⟨fun x => ?_, fun x => ?_, fun x => ?_, fun x => ?_, trivial⟩ y
    (View.cover_of_tiledL _ ![256, 256] (by rfl) y)).trans (congrArg (· + _) hz)
  · exact dv_tile h0 h1 h3 3 rfl _ _ _ x _ (emb_row inb_S256x1024_S256x256_0_768 x) (emb_col inb_S256x1024_S256x256_0_768 x)
  · exact dv_tile h0 h1 h3 2 rfl _ _ _ x _ (emb_row inb_S256x1024_S256x256_0_512 x) (emb_col inb_S256x1024_S256x256_0_512 x)
  · exact dv_tile h0 h1 h3 1 rfl _ _ _ x _ (emb_row inb_S256x1024_S256x256_0_256 x) (emb_col inb_S256x1024_S256x256_0_256 x)
  · exact dv_tile h0 h1 h3 0 rfl _ _ _ x _ (emb_row inb_S256x1024_S256x256_0_0 x) (emb_col inb_S256x1024_S256x256_0_0 x)

end Point

/-! ## The arrays after the run -/

/-- Rows `512 t …` of an array of 2048 rows. -/
def rows (x : Shape.Idx ⟨2, ![2048, 1024]⟩ → ℝ) (t : Fin 4) : Shape.Idx ⟨2, ![512, 1024]⟩ → ℝ := fun i =>
  x (ix2 ⟨t.val * 512 + (i 0).val, by have := t.isLt; have : (i 0).val < 512 := (i 0).isLt; omega⟩ (i 1))

section Rows
variable (q g : Shape.Idx ⟨2, ![2048, 1024]⟩ → ℝ) (k v : Shape.Idx ⟨2, ![256, 1024]⟩ → ℝ)

/-- A row block's part of the queries' gradient. -/
theorem gradQ_rows (t : Fin 4) (r : Fin 512) (j : Fin 1024) :
    gradQ (rows q t) (rows g t) k v r j = gradQ q g k v ⟨t.val * 512 + r.val, by omega⟩ j := rfl

/-- The keys' gradient is the sum of the four row blocks'. -/
theorem gradK_rows (c : Fin 256) (j : Fin 1024) : ∑ t : Fin 4, gradK (rows q t) (rows g t) k v c j = gradK q g k v c j :=
  Fin.sum_mul_add_fin 4 512 (fun r : Fin 2048 => dscore (row q (head j) r) (row g (head j) r) (row k (head j)) (row v (head j)) c * q (ix2 r j)) rfl

/-- The values' gradient is the sum of the four row blocks'. -/
theorem gradV_rows (c : Fin 256) (j : Fin 1024) : ∑ t : Fin 4, gradV (rows q t) (rows g t) k c j = gradV q g k c j :=
  Fin.sum_mul_add_fin 4 512 (fun r : Fin 2048 => prob (row q (head j) r) (row k (head j)) c * g (ix2 r j)) rfl

end Rows

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![0, 0] ∧ win0_6.index t = ![0, 0] := by decide +kernel

section Arrays
variable (m : (ℓ : Loc nD τ sig) → Buf (Elt Ideal) ℓ) (c : Dev nD)
variable {q g : Shape.Idx ⟨2, ![2048, 1024]⟩ → ℝ} {k v : Shape.Idx ⟨2, ![256, 1024]⟩ → ℝ}
  (h0 : ∀ i : S2048x1024.Idx, m ((c : Thread nD τ).loc main_arg0) i = ((q i : ℝ) : EReal)) (h1 : ∀ i : S256x1024.Idx, m ((c : Thread nD τ).loc main_arg1) i = ((k i : ℝ) : EReal))
  (h2 : ∀ i : S256x1024.Idx, m ((c : Thread nD τ).loc main_arg2) i = ((v i : ℝ) : EReal)) (h3 : ∀ i : S2048x1024.Idx, m ((c : Thread nD τ).loc main_arg3) i = ((g i : ℝ) : EReal))

include h0 in
theorem block0 (t : Fin cfg0.N) (i : S512x1024.Idx) : iblk m c 0 t i = ((rows q (t.cast N_0) i : ℝ) : EReal) := by
  refine Eq.trans ?_ (h0 _)
  blk_ext [iblk, V, idx t]
  rfl

include h1 in
theorem block1 (t : Fin cfg0.N) (i : S256x1024.Idx) : iblk m c 1 t i = ((k i : ℝ) : EReal) := by
  refine Eq.trans ?_ (h1 _)
  blk_ext [iblk, V, idx t]

include h2 in
theorem block2 (t : Fin cfg0.N) (i : S256x1024.Idx) : iblk m c 2 t i = ((v i : ℝ) : EReal) := by
  refine Eq.trans ?_ (h2 _)
  blk_ext [iblk, V, idx t]

include h3 in
theorem block3 (t : Fin cfg0.N) (i : S512x1024.Idx) : iblk m c 3 t i = ((rows g (t.cast N_0) i : ℝ) : EReal) := by
  refine Eq.trans ?_ (h3 _)
  blk_ext [iblk, V, idx t]
  rfl

include h0 h1 h2 h3

/-- The queries' gradient. -/
theorem dq_array : (dats m 0 c).arrAt 4 cfg0.N = fun i : S2048x1024.Idx => ((gradQ q g k v (i 0) (i 1) : ℝ) : EReal) := by
  refine (dats m 0 c).arrAt_eq_of_covers 4 _ (by decide +kernel) fun t hf y => ?_
  rw [after0_4]
  refine (dq_block m c t (block0 m c h0 t) (block1 m c h1 t) (block2 m c h2 t) (block3 m c h3 t) y).trans ?_
  idx_vars y
  exact congrArg _ ((gradQ_rows q g k v _ y0 y1).trans (congrArg₂ (gradQ q g k v) (Fin.ext (by blk_simp [idx t]; rfl)) (Fin.ext (by blk_simp [idx t]))))

/-- The keys' gradient. -/
theorem dk_array : (dats m 0 c).arrAt 5 cfg0.N = fun i : S256x1024.Idx => ((gradK q g k v (i 0) (i 1) : ℝ) : EReal) := by
  refine (dats m 0 c).arrAt_eq_of_after_last 5 t0_3 (by decide +kernel) _ fun j => ?_
  blk_simp
  rw [after0_5, Pipeline.eq_sum_fin_of_reset_step_apply_last (fun n h => (outsAt0 m c n h).2.1) 4 (fun _ => 0)
    (fun t j => ((gradK (rows q (t.cast N_0)) (rows g (t.cast N_0)) k v (j 0) (j 1) : ℝ) : EReal))
    (fun t h j => dk_first m c t (block0 m c h0 t) (block1 m c h1 t) (block2 m c h2 t) (block3 m c h3 t) h j)
    (fun t h j => dk_step m c t (block0 m c h0 t) (block1 m c h1 t) (block2 m c h2 t) (block3 m c h3 t) h j)
    (le_of_eq N_0) t0_3 rfl j]
  rw [zero_add, coe_sum]
  exact congrArg _ (gradK_rows q g k v _ _)

/-- The values' gradient. -/
theorem dv_array : (dats m 0 c).arrAt 6 cfg0.N = fun i : S256x1024.Idx => ((gradV q g k (i 0) (i 1) : ℝ) : EReal) := by
  refine (dats m 0 c).arrAt_eq_of_after_last 6 t0_3 (by decide +kernel) _ fun j => ?_
  blk_simp
  rw [after0_6, Pipeline.eq_sum_fin_of_reset_step_apply_last (fun n h => (outsAt0 m c n h).2.2) 4 (fun _ => 0)
    (fun t j => ((gradV (rows q (t.cast N_0)) (rows g (t.cast N_0)) k (j 0) (j 1) : ℝ) : EReal))
    (fun t h j => dv_first m c t (block0 m c h0 t) (block1 m c h1 t) (block2 m c h2 t) (block3 m c h3 t) h j)
    (fun t h j => dv_step m c t (block0 m c h0 t) (block1 m c h1 t) (block2 m c h2 t) (block3 m c h3 t) h j)
    (le_of_eq N_0) t0_3 rfl j]
  rw [zero_add, coe_sum]
  exact congrArg _ (gradV_rows q g k _ _)

end Arrays

end Cert.KernelIdeal.MemValue
end
-- ==== Proof.MemRef.lean ====
module

public import proofs.«01_k».proof.Proof.Gen.ReferenceIdeal.Read
public import proofs.«01_k».proof.Proof.SoftmaxReal

@[expose] public section

set_option maxRecDepth 16384

noncomputable section

/-! The reference's three gradients at an index, as real numbers, where the four arrays are finite. -/

namespace Cert.ReferenceIdeal.MemRef

open Cert.ReferenceIdeal Cert.ReferenceIdeal.Gen Cert.ReferenceIdeal.Read Idealize.ShloMosaic Idealize.ShloMosaic.TcCoe Idealize.SL.Sem
open Cert.AttnReal

variable {x0 x3 : (⟨S2048x1024, .bf16⟩ : BufTy).Contents (Elt Ideal)} {x1 x2 : (⟨S256x1024, .bf16⟩ : BufTy).Contents (Elt Ideal)}
  {q g : Shape.Idx ⟨2, ![2048, 1024]⟩ → ℝ} {k v : Shape.Idx ⟨2, ![256, 1024]⟩ → ℝ}

/-- The scaled scores. -/
theorem scores (h0 : ∀ i, x0 i = ((q i : ℝ) : EReal)) (h1 : ∀ i, x1 i = ((k i : ℝ) : EReal)) (h : Fin 4) (r : Fin 2048) (c : Fin 256) :
    val_main_v8 (F := Ideal) x0 x1 (ix4 0 h r c) = ((score (row q h r) (row k h) c : ℝ) : EReal) := by
  pointwise [val_main_v8, val_main_v6, val_main_v7, val_main_v3, val_main_v4, val_main_v0, val_main_v1, val_main_cst]
  simp only [h0, h1, sixteenth, ← EReal.coe_mul, coe_sum]
  rfl

/-- The exponentials of a row of scores, less one number of that row. -/
theorem exps (h0 : ∀ i, x0 i = ((q i : ℝ) : EReal)) (h1 : ∀ i, x1 i = ((k i : ℝ) : EReal)) (h : Fin 4) (r : Fin 2048) :
    ∃ M : ℝ, ∀ c : Fin 256, val_main_v29 (F := Ideal) x0 x1 (ix4 0 h r c) = ((Real.exp (score (row q h r) (row k h) c - M) : ℝ) : EReal) := by
  obtain ⟨M, hM⟩ := fold_max_real (score (row q h r) (row k h))
  have h9 : val_main_v9 (F := Ideal) x0 x1 (ix3 0 h r) = ((M : ℝ) : EReal) := by
    pointwise [val_main_v9, val_main_cst_0]
    simp only [scores h0 h1, neg_inf]
    exact hM
  have h15 : val_main_v15 (F := Ideal) (ix3 0 h r) = (⊥ : EReal) := by
    pointwise [val_main_v15, val_main_cst_2]
    exact neg_inf
  have h16 : val_main_v16 (F := Ideal) x0 x1 (ix3 0 h r) = ((M : ℝ) : EReal) := by
    rw [val_main_v16_apply, h9, h15]
    exact max_eq_right bot_le
  refine ⟨M, fun c => ?_⟩
  pointwise [val_main_v29, val_main_v28, val_main_v27, val_main_v26]
  rw [scores h0 h1, h16, ← EReal.coe_sub, Ideal.exp_coe]

/-- The gradient of the probabilities. -/
theorem dprobs (h2 : ∀ i, x2 i = ((v i : ℝ) : EReal)) (h3 : ∀ i, x3 i = ((g i : ℝ) : EReal)) (h : Fin 4) (r : Fin 2048) (c : Fin 256) :
    val_main_v43 (F := Ideal) x2 x3 (ix4 0 h r c) = ((dprob (row g h r) (row v h) c : ℝ) : EReal) := by
  pointwise [val_main_v43, val_main_v42, val_main_v41, val_main_v5, val_main_v2, val_main_v40]
  simp only [h2, h3, ← EReal.coe_mul, coe_sum]
  rfl

/-- The probabilities. -/
theorem probs (h0 : ∀ i, x0 i = ((q i : ℝ) : EReal)) (h1 : ∀ i, x1 i = ((k i : ℝ) : EReal)) (h : Fin 4) (r : Fin 2048) (c : Fin 256) :
    val_main_v33 (F := Ideal) x0 x1 (ix4 0 h r c) = ((prob (row q h r) (row k h) c : ℝ) : EReal) := by
  obtain ⟨M, hM⟩ := exps h0 h1 h r
  pointwise [val_main_v33, val_main_v32, val_main_v31, val_main_v30, val_main_cst_8]
  simp only [hM, coe_sum, Ideal.ofBits_zero_f32, zero_add]
  rw [Ideal.div_coe (expsum_pos _ M).ne', ← EReal.coe_mul, mul_one_div, shift]
  rfl

/-- Summing over two axes of length one leaves the element. -/
theorem unit_sum (f : S1x4x2048x1.Idx → EReal) (z : EReal) (h : Fin 4) (r : Fin 2048) :
    Ideal.hostReduceAdd reducesTo_S1x4x2048x1_S4x2048_d0_3 f z (ix2 h r) = z + f (ix4 0 h r 0) := by
  refine congrArg (z + ·) ((Finset.sum_filter_eq_sum_of_fiber _ (fun _ : Unit => (ix4 0 h r 0 : S1x4x2048x1.Idx)) (fun _ _ _ => rfl)
    (fun i => ⟨fun e => ⟨(), ?_⟩, ?_⟩) f).trans (by simp))
  · funext a
    apply Fin.ext
    match a with
    | ⟨0, _⟩ => exact (Nat.lt_one_iff.mp (i 0).isLt).symm
    | ⟨1, _⟩ => exact (congrArg Fin.val (congrFun e 0)).symm
    | ⟨2, _⟩ => exact (congrArg Fin.val (congrFun e 1)).symm
    | ⟨3, _⟩ => exact (Nat.lt_one_iff.mp (i 3).isLt).symm
  · rintro ⟨_, rfl⟩
    funext b
    apply Fin.ext
    match b with
    | ⟨0, _⟩ => rfl
    | ⟨1, _⟩ => rfl

/-- The softmax's derivative as the quotient rule writes it. -/
theorem quotient_rule (f dp : Fin 256 → ℝ) (M : ℝ) (c : Fin 256) (L : ℝ) (hL : L = ∑ e, Real.exp (f e - M)) :
    (dp c * (1 / L) + -∑ e, dp e * (1 / (L * L)) * Real.exp (f e - M)) * Real.exp (f c - M) * (1 / 16)
      = Real.exp (f c) / (∑ e, Real.exp (f e)) * (dp c - ∑ e, Real.exp (f e) / (∑ e, Real.exp (f e)) * dp e) * (1 / 16) := by
  have hpos : L ≠ 0 := by rw [hL]; exact (expsum_pos f M).ne'
  simp only [← shift f M, ← hL]
  have : ∑ e, dp e * (1 / (L * L)) * Real.exp (f e - M) = (∑ e, Real.exp (f e - M) / L * dp e) * (1 / L) := by
    rw [Finset.sum_mul]
    refine Finset.sum_congr rfl fun e _ => ?_
    field_simp
  rw [this]
  field_simp
  ring

/-- The gradient of the unscaled scores. -/
theorem dscores (h0 : ∀ i, x0 i = ((q i : ℝ) : EReal)) (h1 : ∀ i, x1 i = ((k i : ℝ) : EReal)) (h2 : ∀ i, x2 i = ((v i : ℝ) : EReal))
    (h3 : ∀ i, x3 i = ((g i : ℝ) : EReal)) (h : Fin 4) (r : Fin 2048) (c : Fin 256) :
    val_main_v60 (F := Ideal) x0 x1 x2 x3 (ix4 0 h r c) = ((dscore (row q h r) (row g h r) (row k h) (row v h) c : ℝ) : EReal) := by
  obtain ⟨M, hM⟩ := exps h0 h1 h r
  have hL : val_main_v31 (F := Ideal) x0 x1 (ix4 0 h r 0) = ((∑ e, Real.exp (score (row q h r) (row k h) e - M) : ℝ) : EReal) := by
    pointwise [val_main_v31, val_main_v30, val_main_cst_8]
    simp only [hM, coe_sum, Ideal.ofBits_zero_f32, zero_add]
  have h51 : val_main_v51 (F := Ideal) x0 x1 x2 x3 (ix4 0 h r 0)
      = ((-∑ e, dprob (row g h r) (row v h) e * (1 / ((∑ e, Real.exp (score (row q h r) (row k h) e - M)) * (∑ e, Real.exp (score (row q h r) (row k h) e - M))))
          * Real.exp (score (row q h r) (row k h) e - M) : ℝ) : EReal) := by
    pointwise [val_main_v51, val_main_v50, val_main_v49, val_main_v48, val_main_v47, val_main_v46, val_main_v36, val_main_v35, val_main_v34, val_main_cst_9, val_main_cst_10]
    simp only [hM, hL, dprobs h2 h3, Ideal.ofBits_zero_f32, Ideal.ofBits_one_f32, zero_add, ← EReal.coe_mul,
      Ideal.div_coe (mul_ne_zero (expsum_pos _ M).ne' (expsum_pos _ M).ne'), one_mul, ← EReal.coe_one, coe_sum, ← EReal.coe_neg]
  have h54 : val_main_v54 (F := Ideal) x0 x1 x2 x3 (ix2 h r) = val_main_v51 (F := Ideal) x0 x1 x2 x3 (ix4 0 h r 0) := by
    refine (unit_sum _ _ h r).trans ?_
    pointwise [val_main_cst_11]
  pointwise [val_main_v60, val_main_v59, val_main_v58, val_main_v57, val_main_v56, val_main_v55, val_main_v53, val_main_v52, val_main_cst_12]
  simp only [h54, h51, hM, hL, dprobs h2 h3, sixteenth, ← EReal.coe_mul, Ideal.div_coe (expsum_pos _ M).ne', ← EReal.coe_add]
  exact congrArg _ (quotient_rule _ _ M c _ rfl)

/-- The queries' gradient. -/
theorem dq_apply (h0 : ∀ i, x0 i = ((q i : ℝ) : EReal)) (h1 : ∀ i, x1 i = ((k i : ℝ) : EReal)) (h2 : ∀ i, x2 i = ((v i : ℝ) : EReal))
    (h3 : ∀ i, x3 i = ((g i : ℝ) : EReal)) (r : Fin 2048) (j : Fin 1024) :
    val_main_v68 (F := Ideal) x0 x1 x2 x3 (ix2 r j) = ((gradQ q g k v r j : ℝ) : EReal) := by
  pointwise [val_main_v68, val_main_v67, val_main_v64, val_main_v63, val_main_v4, val_main_v1]
  simp only [dscores h0 h1 h2 h3, h1, ← EReal.coe_mul, coe_sum]
  rfl

/-- The keys' gradient. -/
theorem dk_apply (h0 : ∀ i, x0 i = ((q i : ℝ) : EReal)) (h1 : ∀ i, x1 i = ((k i : ℝ) : EReal)) (h2 : ∀ i, x2 i = ((v i : ℝ) : EReal))
    (h3 : ∀ i, x3 i = ((g i : ℝ) : EReal)) (c : Fin 256) (j : Fin 1024) :
    val_main_v66 (F := Ideal) x0 x1 x2 x3 (ix2 c j) = ((gradK q g k v c j : ℝ) : EReal) := by
  pointwise [val_main_v66, val_main_v62, val_main_v61, val_main_v3, val_main_v0]
  simp only [dscores h0 h1 h2 h3, h0, ← EReal.coe_mul, coe_sum]
  rfl

/-- The values' gradient. -/
theorem dv_apply (h0 : ∀ i, x0 i = ((q i : ℝ) : EReal)) (h1 : ∀ i, x1 i = ((k i : ℝ) : EReal))
    (h3 : ∀ i, x3 i = ((g i : ℝ) : EReal)) (c : Fin 256) (j : Fin 1024) :
    val_main_v65 (F := Ideal) x0 x1 x3 (ix2 c j) = ((gradV q g k c j : ℝ) : EReal) := by
  pointwise [val_main_v65, val_main_v45, val_main_v44, val_main_v42, val_main_v41, val_main_v40]
  simp only [probs h0 h1, h3, ← EReal.coe_mul, coe_sum]
  refine congrArg _ (Finset.sum_congr rfl fun r _ => mul_comm _ _)

end Cert.ReferenceIdeal.MemRef
end
-- ==== Proof.FfnReal.lean ====
module

public import proofs.«01_k».proof.Proof.SoftmaxReal

@[expose] public section

set_option maxRecDepth 16384

noncomputable section

/-! The real-number mathematics of the feed-forward sublayer and its gradients. Arrays are functions of the row and the
    column, as natural numbers; only the indices inside an array's extents are ever asked for. -/

namespace Cert.FfnReal

open Idealize.ShloMosaic Cert.AttnReal

/-- The constant added to the mean square. -/
def eps : ℝ := 8796093 / 8796093022208

theorem eps_pos : 0 < eps := by unfold eps; norm_num

theorem eps_bits : Ideal.ofBits .f32 0x358637BD#32 = ((eps : ℝ) : EReal) := by
  unfold eps; simp [Ideal.ofBits, Ideal.ieee, -EReal.coe_mul]; norm_num

theorem width_bits : Ideal.ofBits .f32 0x44800000#32 = ((1024 : ℝ) : EReal) := by
  simp [Ideal.ofBits, Ideal.ieee, -EReal.coe_mul]; norm_num

theorem minus_half_bits : Ideal.ofBits .f32 0xBF000000#32 = ((-(1 / 2) : ℝ) : EReal) := by
  simp [Ideal.ofBits, Ideal.ieee, -EReal.coe_mul]; norm_num

/-! ## The normalization -/

/-- A row's mean square, plus the constant. -/
def var (x : ℕ → ℕ → ℝ) (s : ℕ) : ℝ := (∑ d : Fin 1024, x s d * x s d) * (1 / 1024) + eps

theorem var_pos (x : ℕ → ℕ → ℝ) (s : ℕ) : 0 < var x s :=
  add_pos_of_nonneg_of_pos (mul_nonneg (Finset.sum_nonneg fun _ _ => mul_self_nonneg _) (by norm_num)) eps_pos

/-- The reciprocal root of it. -/
def inv (x : ℕ → ℕ → ℝ) (s : ℕ) : ℝ := (Real.sqrt (var x s))⁻¹

theorem rsqrt_var (x : ℕ → ℕ → ℝ) (s : ℕ) : Ideal.rsqrt ((var x s : ℝ) : EReal) = ((inv x s : ℝ) : EReal) := by
  rw [Ideal.rsqrt_coe, if_neg (var_pos x s).le.not_gt, if_neg (var_pos x s).ne']; rfl

/-- The reciprocal root over what it is of: its cube. -/
theorem inv_div (x : ℕ → ℕ → ℝ) (s : ℕ) : inv x s * (1 / var x s) = inv x s * inv x s * inv x s := by
  have h : inv x s * inv x s = 1 / var x s := by
    unfold inv
    rw [← mul_inv, Real.mul_self_sqrt (var_pos x s).le, one_div]
  rw [← h, mul_assoc]

/-- The normalized rows. -/
def norm (x : ℕ → ℕ → ℝ) (g : ℕ → ℝ) (s d : ℕ) : ℝ := x s d * inv x s * g d

/-- The mean over a row of the input times its normalized gradient. -/
def slope (x : ℕ → ℕ → ℝ) (g : ℕ → ℝ) (e : ℕ → ℕ → ℝ) (s : ℕ) : ℝ := (∑ d : Fin 1024, x s d * (e s d * g d)) * (1 / 1024)

/-- The input's gradient through the normalization, added to the one that passes it by. -/
def dnorm (x : ℕ → ℕ → ℝ) (g : ℕ → ℝ) (e o : ℕ → ℕ → ℝ) (s d : ℕ) : ℝ :=
  inv x s * (e s d * g d) - x s d * (inv x s * inv x s * inv x s) * slope x g e s + o s d

/-- The scale's gradient, over rows `0 … n`. -/
def dscale (n : ℕ) (x e : ℕ → ℕ → ℝ) (d : ℕ) : ℝ := ∑ s : Fin n, e s d * x s d * inv x s

/-! ## The convolution over the rows -/

/-- Row `s` of the array `k` rows down: zero above. -/
def down (k : ℕ) (a : ℕ → ℕ → ℝ) (s f : ℕ) : ℝ := if s < k then 0 else a (s - k) f

/-- Row `s` of the array `k` rows up: zero below. -/
def upw (k : ℕ) (a : ℕ → ℕ → ℝ) (s f : ℕ) : ℝ := if 2048 - k ≤ s then 0 else a (s + k) f

def conv (w : ℕ → ℕ → ℝ) (b : ℕ → ℝ) (a : ℕ → ℕ → ℝ) (s f : ℕ) : ℝ :=
  b f + w 0 f * down 2 a s f + w 1 f * down 1 a s f + w 2 f * a s f

/-- Its gradient in the array. -/
def dconv (w : ℕ → ℕ → ℝ) (e : ℕ → ℕ → ℝ) (s f : ℕ) : ℝ := w 0 f * upw 2 e s f + w 1 f * upw 1 e s f + w 2 f * e s f

/-- Its gradient in the weights' row `j`. -/
def dconvw (e a : ℕ → ℕ → ℝ) (j f : ℕ) : ℝ := ∑ s : Fin 2048, e s f * (if j = 2 then a s f else down (2 - j) a s f)

/-- Its gradient in the offset. -/
def dconvb (e : ℕ → ℕ → ℝ) (f : ℕ) : ℝ := ∑ s : Fin 2048, e s f

/-! ## The gate -/

def sg (z : ℝ) : ℝ := 1 / (1 + Real.exp (-z))

theorem one_add_exp_ne (z : ℝ) : 1 + Real.exp z ≠ 0 := (add_pos one_pos (Real.exp_pos _)).ne'

/-- The gated product of a gate and a value. -/
def glu (g v : ℝ) : ℝ := g * sg g * v

def dgate (d g v : ℝ) : ℝ := d * v * (sg g * (1 + g * (1 - sg g)))

def dval (d g : ℝ) : ℝ := d * g * sg g

def act (u : ℕ → ℕ → ℝ) (s f : ℕ) : ℝ := glu (u s f) (u s (f + 2816))

/-- The gradient of both halves of the columns from that of the gated product. -/
def dact (e u : ℕ → ℕ → ℝ) (s f : ℕ) : ℝ :=
  if f < 2816 then dgate (e s f) (u s f) (u s (f + 2816)) else dval (e s (f - 2816)) (u s (f - 2816))

/-! ## The products -/

/-- `a b`, over `n` terms. -/
def mm (n : ℕ) (a b : ℕ → ℕ → ℝ) (i j : ℕ) : ℝ := ∑ k : Fin n, a i k * b k j

/-- `a bᵀ`. -/
def mmT (n : ℕ) (a b : ℕ → ℕ → ℝ) (i j : ℕ) : ℝ := ∑ k : Fin n, a i k * b j k

/-- `aᵀ b`. -/
def tmm (n : ℕ) (a b : ℕ → ℕ → ℝ) (i j : ℕ) : ℝ := ∑ k : Fin n, a k i * b k j

/-- The four blocks of columns side by side. -/
def cols (w : ℕ → ℕ → ℕ → ℝ) (d f : ℕ) : ℝ := w (f / 1408) d (f % 1408)

theorem cols_at (w : ℕ → ℕ → ℕ → ℝ) (c d : ℕ) {j : ℕ} (h : j < 1408) : cols w d (c * 1408 + j) = w c d j := by
  unfold cols; rw [show (c * 1408 + j) / 1408 = c by omega, show (c * 1408 + j) % 1408 = j by omega]

/-- A product over the four blocks of columns is the sum of the blocks' products. -/
theorem mmT_cols (a : ℕ → ℕ → ℝ) (w : ℕ → ℕ → ℕ → ℝ) (i j : ℕ) :
    mmT 5632 a (cols w) i j
      = (∑ k : Fin 1408, a i k * w 0 j k) + (∑ k : Fin 1408, a i (1408 + k) * w 1 j k) + (∑ k : Fin 1408, a i (2816 + k) * w 2 j k)
        + ∑ k : Fin 1408, a i (4224 + k) * w 3 j k := by
  have h := Fin.sum_mul_add_fin 4 1408 (fun k : Fin 5632 => a i k * cols w j k) rfl
  rw [Fin.sum_univ_four] at h
  refine h.symm.trans ?_
  have q : ∀ (c : ℕ) (k : Fin 1408), cols w j (c * 1408 + k.val) = w c j k.val := fun c k => cols_at w c j k.isLt
  have q0 := q 0; have q1 := q 1; have q2 := q 2; have q3 := q 3
  simp only [Nat.zero_mul, Nat.zero_add, Nat.one_mul, Nat.reduceMul] at q0 q1 q2 q3
  simp [q0, q1, q2, q3]

end Cert.FfnReal
end
-- ==== Proof.FfnSub.lean ====
module

public import proofs.«01_k».proof.Proof.FfnReal

@[expose] public section

noncomputable section

/-! The feed-forward sublayer and its gradients, over the real numbers. -/

namespace Cert.FfnReal

/-- The real arrays the sublayer is of: its input, the scale, the up-projection's four blocks, the convolution's weights and
    offset, the down-projection, and the gradient of its output. -/
structure Sub where
  x : ℕ → ℕ → ℝ
  g : ℕ → ℝ
  w : ℕ → ℕ → ℕ → ℝ
  cw : ℕ → ℕ → ℝ
  cb : ℕ → ℝ
  wd : ℕ → ℕ → ℝ
  d : ℕ → ℕ → ℝ

namespace Sub

variable (p : Sub)

/-- The normalized input, its projection, that after the convolution. -/
def hf : ℕ → ℕ → ℝ := norm p.x p.g
def up : ℕ → ℕ → ℝ := mm 1024 p.hf (cols p.w)
def u : ℕ → ℕ → ℝ := conv p.cw p.cb p.up

/-- The sublayer's output. -/
def out (s d : ℕ) : ℝ := mm 2816 (act p.u) p.wd s d + p.x s d

/-- The gradients going back: after the gate, before it, before the convolution, at the normalized input. -/
def dA : ℕ → ℕ → ℝ := mmT 1024 p.d p.wd
def du : ℕ → ℕ → ℝ := dact p.dA p.u
def dup : ℕ → ℕ → ℝ := dconv p.cw p.du
def dhf : ℕ → ℕ → ℝ := mmT 5632 p.dup (cols p.w)

/-- The gradients of the input and of the six parameters. -/
def dx : ℕ → ℕ → ℝ := dnorm p.x p.g p.dhf p.d
def dg : ℕ → ℝ := dscale 2048 p.x p.dhf
def dw (c d j : ℕ) : ℝ := tmm 2048 p.hf p.dup d (c * 1408 + j)
def dcw : ℕ → ℕ → ℝ := dconvw p.du p.up
def dcb : ℕ → ℝ := dconvb p.du
def dwd : ℕ → ℕ → ℝ := tmm 2048 (act p.u) p.d

/-- The gradient at the normalized input, the four blocks added one at a time. -/
theorem dhf_blocks (i j : ℕ) :
    mmT 1408 (fun i k => p.dup i (1 * 1408 + k + 2816)) (p.w 3) i j
      + (mmT 1408 (fun i k => p.dup i (k + 2816)) (p.w 2) i j
        + (mmT 1408 (fun i k => p.dup i (1 * 1408 + k)) (p.w 1) i j + mmT 1408 p.dup (p.w 0) i j)) = p.dhf i j := by
  have h3 : ∀ k : ℕ, 1 * 1408 + k + 2816 = 4224 + k := fun k => by omega
  have h2 : ∀ k : ℕ, k + 2816 = 2816 + k := fun k => by omega
  unfold dhf
  rw [mmT_cols]
  unfold mmT
  simp only [h3, h2, Nat.one_mul]
  ring

end Sub

end Cert.FfnReal
end
-- ==== Proof.FfnFinite.lean ====
module

public import proofs.«01_k».proof.Proof.Finite
public import proofs.«01_k».proof.Proof.FfnSub

@[expose] public section

set_option maxRecDepth 16384

noncomputable section

/-! What the feed-forward sublayer's precondition says: every element of its seven arrays is a real number. And the real
    arrays that are then read off them. -/

namespace Cert.FfnFinite

open Cert.Pre_finite2 Idealize.ShloMosaic Cert.Finite

theorem facts : Cert.Pre_finite2.Facts := ⟨by decide, by decide, by decide, by decide, by decide, by decide, by decide⟩

instance : Cert.Pre_finite2.Facts := facts

/-! ## Real arrays off arrays of reals -/

def arr1 {n : ℕ} (x : Shape.Idx ⟨1, ![n]⟩ → EReal) (i : ℕ) : ℝ := if h : i < n then (x (ix1 ⟨i, h⟩)).toReal else 0

def arr2 {n k : ℕ} (x : Shape.Idx ⟨2, ![n, k]⟩ → EReal) (i j : ℕ) : ℝ :=
  if h : i < n ∧ j < k then (x (ix2 ⟨i, h.1⟩ ⟨j, h.2⟩)).toReal else 0

def arr3 {b n k : ℕ} (x : Shape.Idx ⟨3, ![b, n, k]⟩ → EReal) (a i j : ℕ) : ℝ :=
  if h : a < b ∧ i < n ∧ j < k then (x (ix3 ⟨a, h.1⟩ ⟨i, h.2.1⟩ ⟨j, h.2.2⟩)).toReal else 0

theorem arr1_at {n : ℕ} {x : Shape.Idx ⟨1, ![n]⟩ → EReal} (h : ∀ i, x i = (((x i).toReal : ℝ) : EReal)) (i : Shape.Idx ⟨1, ![n]⟩) :
    x i = ((arr1 x (i 0).val : ℝ) : EReal) := by
  unfold arr1
  rw [dif_pos (show (i 0).val < n from (i 0).isLt)]
  exact (h i).trans (congrArg (fun j => (((x j).toReal : ℝ) : EReal)) (eq_ix1 i))

theorem arr2_at {n k : ℕ} {x : Shape.Idx ⟨2, ![n, k]⟩ → EReal} (h : ∀ i, x i = (((x i).toReal : ℝ) : EReal)) (i : Shape.Idx ⟨2, ![n, k]⟩) :
    x i = ((arr2 x (i 0).val (i 1).val : ℝ) : EReal) := by
  unfold arr2
  rw [dif_pos ⟨(i 0).isLt, (i 1).isLt⟩]
  exact (h i).trans (congrArg (fun j => (((x j).toReal : ℝ) : EReal)) (eq_ix2 i))

theorem arr3_at {b n k : ℕ} {x : Shape.Idx ⟨3, ![b, n, k]⟩ → EReal} (h : ∀ i, x i = (((x i).toReal : ℝ) : EReal))
    (i : Shape.Idx ⟨3, ![b, n, k]⟩) : x i = ((arr3 x (i 0).val (i 1).val (i 2).val : ℝ) : EReal) := by
  unfold arr3
  rw [dif_pos ⟨(i 0).isLt, (i 1).isLt, (i 2).isLt⟩]
  exact (h i).trans (congrArg (fun j => (((x j).toReal : ℝ) : EReal)) (eq_ix3 i))

/-! ## The precondition's seven conditions -/

section
variable {x0 : FVec Ideal S2048x1024 .f32} {x1 : FVec Ideal S1024 .f32} {x2 : FVec Ideal S4x1024x1408 .bf16} {x3 : FVec Ideal S3x5632 .f32}
  {x4 : FVec Ideal S5632 .f32} {x5 : FVec Ideal S2816x1024 .bf16} {x6 : FVec Ideal S2048x1024 .f32}

theorem real0 (h : (fn (F := Ideal) x0 x1 x2 x3 x4 x5 x6).1 = fun _ => 1#1) (i : S2048x1024.Idx) : x0 i = (((x0 i).toReal : ℝ) : EReal) := by
  have := congrFun h i
  idx_vars i
  pointwise [fn, fn_part1] at this
  exact real_of_abs_lt this

theorem real1 (h : (fn (F := Ideal) x0 x1 x2 x3 x4 x5 x6).2.1 = fun _ => 1#1) (i : S1024.Idx) : x1 i = (((x1 i).toReal : ℝ) : EReal) := by
  have := congrFun h i
  idx_vars i
  pointwise [fn, fn_part1] at this
  exact real_of_abs_lt this

theorem real2 (h : (fn (F := Ideal) x0 x1 x2 x3 x4 x5 x6).2.2.1 = fun _ => 1#1) (i : S4x1024x1408.Idx) : x2 i = (((x2 i).toReal : ℝ) : EReal) := by
  have := congrFun h i
  idx_vars i
  pointwise [fn, fn_part1] at this
  exact real_of_abs_lt this

theorem real3 (h : (fn (F := Ideal) x0 x1 x2 x3 x4 x5 x6).2.2.2.1 = fun _ => 1#1) (i : S3x5632.Idx) : x3 i = (((x3 i).toReal : ℝ) : EReal) := by
  have := congrFun h i
  idx_vars i
  pointwise [fn, fn_part1] at this
  exact real_of_abs_lt this

theorem real4 (h : (fn (F := Ideal) x0 x1 x2 x3 x4 x5 x6).2.2.2.2.1 = fun _ => 1#1) (i : S5632.Idx) : x4 i = (((x4 i).toReal : ℝ) : EReal) := by
  have := congrFun h i
  idx_vars i
  pointwise [fn, fn_part1] at this
  exact real_of_abs_lt this

theorem real5 (h : (fn (F := Ideal) x0 x1 x2 x3 x4 x5 x6).2.2.2.2.2.1 = fun _ => 1#1) (i : S2816x1024.Idx) : x5 i = (((x5 i).toReal : ℝ) : EReal) := by
  have := congrFun h i
  idx_vars i
  pointwise [fn, fn_part1] at this
  exact real_of_abs_lt this

theorem real6 (h : (fn (F := Ideal) x0 x1 x2 x3 x4 x5 x6).2.2.2.2.2.2 = fun _ => 1#1) (i : S2048x1024.Idx) : x6 i = (((x6 i).toReal : ℝ) : EReal) := by
  have := congrFun h i
  idx_vars i
  pointwise [fn, fn_part1] at this
  exact real_of_abs_lt this

end

end Cert.FfnFinite
end
-- ==== Proof.FfnNorm.lean ====
module

public import proofs.«01_k».proof.Proof.Gen.Kernel2Ideal.Frame.Region0
public import proofs.«01_k».proof.Proof.FfnReal
public import Idealize.ShloMosaic.Lib.Pipeline.ReadBack
public import Idealize.ShloMosaic.Lib.Pipeline.ValueKit

@[expose] public section

set_option maxRecDepth 16384

noncomputable section

/-! The feed-forward kernel's normalization, as real numbers. -/

namespace Cert.Kernel2Ideal.Ffn

open Cert.Kernel2Ideal Cert.Kernel2Ideal.Gen Idealize.ShloMosaic Idealize.ShloMosaic.TcCoe Idealize.SL.Sem
open Cert.AttnReal Cert.FfnReal

variable (V : (c : Dev nD) → (b : Ref sig .tc) → Buf (Elt Ideal) ((c : Thread nD τ).loc b)) (c : Dev nD)

/-- The normalized rows' block. -/
theorem pay0 {x : Vec Ideal S512x1024 .f32} {z : Vec Ideal S1x1024 .f32} {a : ℕ → ℕ → ℝ} {g : ℕ → ℝ}
    (hx : ∀ (r : Fin 512) (k : Fin 1024), x (ix2 r k) = ((a r k : ℝ) : EReal)) (hz : ∀ k : Fin 1024, z (ix2 0 k) = ((g k : ℝ) : EReal))
    (r : Fin 512) (j : Fin 1024) : k0_pay1 x z (ix2 r j) = ((norm a g r j : ℝ) : EReal) := by
  pointwise [k0_pay1]
  simp only [hx, hz, ← EReal.coe_mul, coe_sum, width_bits, eps_bits, Ideal.div_coe (show (1024 : ℝ) ≠ 0 by norm_num), ← EReal.coe_add]
  rw [show (∑ d : Fin 1024, a r d * a r d) * (1 / 1024) + eps = var a r from rfl, rsqrt_var, ← EReal.coe_mul, ← EReal.coe_mul]
  rfl

theorem idx0 : ∀ t : Fin cfg0.N, win0_0.index t = ![t.val, 0] ∧ win0_1.index t = ![0, 0] ∧ win0_2.index t = ![t.val, 0] := by decide +kernel

/-- The normalized input. -/
theorem ffn_norm {a : ℕ → ℕ → ℝ} {g : ℕ → ℝ} (h0 : ∀ i : S2048x1024.Idx, V c main_arg0 i = ((a (i 0).val (i 1).val : ℝ) : EReal))
    (h1 : ∀ i : S1x1024.Idx, V c main_v0 i = ((g (i 1).val : ℝ) : EReal)) :
    (dat0 V c).arrAt 2 cfg0.N = fun i : S2048x1024.Idx => ((norm a g (i 0).val (i 1).val : ℝ) : EReal) := by
  refine (dat0 V c).arrAt_eq_of_covers 2 _ (by decide +kernel) fun t hf y => ?_
  have ht : t.val < 4 := lt_of_lt_of_eq t.isLt N_0
  have b0 : ∀ (r : Fin 512) (k : Fin 1024), iblk0 V c 0 t (ix2 r k) = ((a (t.val * 512 + r.val) k : ℝ) : EReal) := fun r k => by
    refine Eq.trans ?_ (h0 (ix2 ⟨t.val * 512 + r.val, by omega⟩ k))
    blk_ext [iblk0, idx0 t]
  have b1 : ∀ k : Fin 1024, iblk0 V c 1 t (ix2 0 k) = ((g k : ℝ) : EReal) := fun k => by
    refine Eq.trans ?_ (h1 (ix2 0 k))
    blk_ext [iblk0, idx0 t]
  have out : ∀ y : S512x1024.Idx, (dat0 V c).after 2 t y = ((norm a g (t.val * 512 + (y 0).val) (y 1).val : ℝ) : EReal) := fun y => by
    rw [after0_2]
    unfold out0_2
    rw [View.canon_cons_unit_lit inb_S512x1024_S512x1024_0_0 _ _ (by decide), View.ld_unit_lit inb_S512x1024_S512x1024_0_0 _ (by decide),
      View.ld_unit_lit inb_S1x1024_S1x1024_0_0 _ (by decide)]
    idx_vars y
    rw [pay0 (a := fun r k => a (t.val * 512 + r) k) (g := g) b0 b1]
    rfl
  refine (out y).trans ?_
  idx_vars y
  blk_simp [idx0 t]

end Cert.Kernel2Ideal.Ffn
end
-- ==== Proof.FfnProducts.lean ====
module

public import proofs.«01_k».proof.Proof.Gen.Kernel2Ideal.Frame.Region1
public import proofs.«01_k».proof.Proof.Gen.Kernel2Ideal.Frame.Region2
public import proofs.«01_k».proof.Proof.Gen.Kernel2Ideal.Frame.Region4
public import proofs.«01_k».proof.Proof.Gen.Kernel2Ideal.Frame.Region5
public import proofs.«01_k».proof.Proof.Gen.Kernel2Ideal.Frame.Region6
public import proofs.«01_k».proof.Proof.FfnReal
public import Idealize.ShloMosaic.Lib.Pipeline.ReadBack
public import Idealize.ShloMosaic.Lib.Pipeline.ValueKit

@[expose] public section

set_option maxRecDepth 16384

noncomputable section

/-! The feed-forward kernel's products before and around the convolution, array by array, as real numbers. -/

namespace Cert.Kernel2Ideal.Ffn

open Cert.Kernel2Ideal Cert.Kernel2Ideal.Gen Idealize.ShloMosaic Idealize.ShloMosaic.TcCoe Idealize.SL.Sem
open Cert.AttnReal Cert.FfnReal

variable (V : (c : Dev nD) → (b : Ref sig .tc) → Buf (Elt Ideal) ((c : Thread nD τ).loc b)) (c : Dev nD)

theorem pay1 {x : Vec Ideal S1024x1024 .bf16} {w : Vec Ideal S1x1024x1408 .bf16} {a b : ℕ → ℕ → ℝ}
    (h0 : ∀ (r : Fin 1024) (k : Fin 1024), x (ix2 r k) = ((a r k : ℝ) : EReal)) (h1 : ∀ (r : Fin 1024) (k : Fin 1408), w (ix3 0 r k) = ((b r k : ℝ) : EReal))
    (r : Fin 1024) (j : Fin 1408) : k1_pay1 x w (ix2 r j) = ((mm 1024 a b r j : ℝ) : EReal) := by
  pointwise [k1_pay1]
  simp only [h0, h1, ← EReal.coe_mul, coe_sum]
  rfl

theorem idx1 : ∀ t : Fin cfg1.N, win1_0.index t = ![t.val / 2, 0] ∧ win1_1.index t = ![t.val % 2, 0, 0] ∧ win1_2.index t = ![t.val / 2, t.val % 2] := by decide +kernel

/-- The gate half of the columns before the convolution. -/
theorem up_gate {a : ℕ → ℕ → ℝ} {b : ℕ → ℕ → ℕ → ℝ}
    (h0 : ∀ i : S2048x1024.Idx, V c main_v1 i = ((a (i 0).val (i 1).val : ℝ) : EReal))
    (h1 : ∀ i : S4x1024x1408.Idx, V c main_arg2 i = ((b (i 0).val (i 1).val (i 2).val : ℝ) : EReal)) :
    (dat1 V c).arrAt 2 cfg1.N = fun i : S2048x2816.Idx => ((mm 1024 a (cols b) (i 0).val (i 1).val : ℝ) : EReal) := by
  refine (dat1 V c).arrAt_eq_of_covers 2 _ (by decide +kernel) fun t hf y => ?_
  have ht : t.val < 4 := lt_of_lt_of_eq t.isLt N_1
  have b0 : ∀ (r : Fin 1024) (k : Fin 1024), iblk1 V c 0 t (ix2 r k) = ((a (t.val / 2 * 1024 + r.val) (k.val) : ℝ) : EReal) := fun r k => by
    refine Eq.trans ?_ (h0 (ix2 ⟨t.val / 2 * 1024 + r.val, by omega⟩ ⟨k.val, by omega⟩))
    blk_ext [iblk1, idx1 t]
  have b1 : ∀ (r : Fin 1024) (k : Fin 1408), iblk1 V c 1 t (ix3 0 r k) = ((b (t.val % 2) (r.val) (k.val) : ℝ) : EReal) := fun r k => by
    refine Eq.trans ?_ (h1 (ix3 ⟨t.val % 2, by omega⟩ ⟨r.val, by omega⟩ ⟨k.val, by omega⟩))
    blk_ext [iblk1, idx1 t]
  have out : ∀ y : S1024x1408.Idx, (dat1 V c).after 2 t y = ((mm 1024 a (cols b) (t.val / 2 * 1024 + (y 0).val) (t.val % 2 * 1408 + (y 1).val) : ℝ) : EReal) := fun y => by
    rw [after1_2]
    unfold out1_2
    rw [View.canon_cons_unit_lit inb_S1024x1408_S1024x1408_0_0 _ _ (by decide), View.ld_unit_lit inb_S1024x1024_S1024x1024_0_0 _ (by decide), View.ld_unit_lit inb_S1x1024x1408_S1x1024x1408_0_0_0 _ (by decide)]
    idx_vars y
    rw [pay1 (a := fun r k => a (t.val / 2 * 1024 + r) (k)) (b := fun r k => b (t.val % 2) (r) (k)) b0 b1]
    exact congrArg _ (Finset.sum_congr rfl fun k _ => congrArg (_ * ·) (cols_at b _ _ y1.isLt).symm)
  refine (out y).trans ?_
  idx_vars y
  blk_simp [idx1 t]

theorem pay2 {x : Vec Ideal S1024x1024 .bf16} {w : Vec Ideal S1x1024x1408 .bf16} {a b : ℕ → ℕ → ℝ}
    (h0 : ∀ (r : Fin 1024) (k : Fin 1024), x (ix2 r k) = ((a r k : ℝ) : EReal)) (h1 : ∀ (r : Fin 1024) (k : Fin 1408), w (ix3 0 r k) = ((b r k : ℝ) : EReal))
    (r : Fin 1024) (j : Fin 1408) : k2_pay1 x w (ix2 r j) = ((mm 1024 a b r j : ℝ) : EReal) := by
  pointwise [k2_pay1]
  simp only [h0, h1, ← EReal.coe_mul, coe_sum]
  rfl

theorem idx2 : ∀ t : Fin cfg2.N, win2_0.index t = ![t.val / 2, 0] ∧ win2_1.index t = ![2 + t.val % 2, 0, 0] ∧ win2_2.index t = ![t.val / 2, t.val % 2] := by decide +kernel

/-- The value half. -/
theorem up_value {a : ℕ → ℕ → ℝ} {b : ℕ → ℕ → ℕ → ℝ}
    (h0 : ∀ i : S2048x1024.Idx, V c main_v1 i = ((a (i 0).val (i 1).val : ℝ) : EReal))
    (h1 : ∀ i : S4x1024x1408.Idx, V c main_arg2 i = ((b (i 0).val (i 1).val (i 2).val : ℝ) : EReal)) :
    (dat2 V c).arrAt 2 cfg2.N = fun i : S2048x2816.Idx => ((mm 1024 a (cols b) (i 0).val ((i 1).val + 2816) : ℝ) : EReal) := by
  refine (dat2 V c).arrAt_eq_of_covers 2 _ (by decide +kernel) fun t hf y => ?_
  have ht : t.val < 4 := lt_of_lt_of_eq t.isLt N_2
  have b0 : ∀ (r : Fin 1024) (k : Fin 1024), iblk2 V c 0 t (ix2 r k) = ((a (t.val / 2 * 1024 + r.val) (k.val) : ℝ) : EReal) := fun r k => by
    refine Eq.trans ?_ (h0 (ix2 ⟨t.val / 2 * 1024 + r.val, by omega⟩ ⟨k.val, by omega⟩))
    blk_ext [iblk2, idx2 t]
  have b1 : ∀ (r : Fin 1024) (k : Fin 1408), iblk2 V c 1 t (ix3 0 r k) = ((b (2 + t.val % 2) (r.val) (k.val) : ℝ) : EReal) := fun r k => by
    refine Eq.trans ?_ (h1 (ix3 ⟨2 + t.val % 2, by omega⟩ ⟨r.val, by omega⟩ ⟨k.val, by omega⟩))
    blk_ext [iblk2, idx2 t]
  have out : ∀ y : S1024x1408.Idx, (dat2 V c).after 2 t y = ((mm 1024 a (cols b) (t.val / 2 * 1024 + (y 0).val) ((t.val % 2 * 1408 + (y 1).val) + 2816) : ℝ) : EReal) := fun y => by
    rw [after2_2]
    unfold out2_2
    rw [View.canon_cons_unit_lit inb_S1024x1408_S1024x1408_0_0 _ _ (by decide), View.ld_unit_lit inb_S1024x1024_S1024x1024_0_0 _ (by decide), View.ld_unit_lit inb_S1x1024x1408_S1x1024x1408_0_0_0 _ (by decide)]
    idx_vars y
    rw [pay2 (a := fun r k => a (t.val / 2 * 1024 + r) (k)) (b := fun r k => b (2 + t.val % 2) (r) (k)) b0 b1]
    refine congrArg _ (Finset.sum_congr rfl fun k _ => congrArg (_ * ·) ((cols_at b _ _ y1.isLt).symm.trans ?_))
    exact congrArg _ (by show (2 + t.val % 2) * 1408 + y1.val = t.val % 2 * 1408 + y1.val + 2816; omega)
  refine (out y).trans ?_
  idx_vars y
  blk_simp [idx2 t]

theorem pay4 {x : Vec Ideal S1024x2816 .bf16} {w : Vec Ideal S2816x512 .bf16} {z : Vec Ideal S1024x512 .f32} {a b e : ℕ → ℕ → ℝ}
    (h0 : ∀ (r : Fin 1024) (k : Fin 2816), x (ix2 r k) = ((a r k : ℝ) : EReal)) (h1 : ∀ (r : Fin 2816) (k : Fin 512), w (ix2 r k) = ((b r k : ℝ) : EReal)) (h2 : ∀ (r : Fin 1024) (k : Fin 512), z (ix2 r k) = ((e r k : ℝ) : EReal))
    (r : Fin 1024) (j : Fin 512) : k4_pay1 x w z (ix2 r j) = ((mm 2816 a b r j + e r j : ℝ) : EReal) := by
  pointwise [k4_pay1]
  simp only [h0, h1, h2, ← EReal.coe_mul, coe_sum, ← EReal.coe_add]
  rfl

theorem idx4 : ∀ t : Fin cfg4.N, win4_0.index t = ![t.val / 2, 0] ∧ win4_1.index t = ![0, t.val % 2] ∧ win4_2.index t = ![t.val / 2, t.val % 2] ∧ win4_3.index t = ![t.val / 2, t.val % 2] := by decide +kernel

/-- The sublayer's output. -/
theorem ffn_out {a : ℕ → ℕ → ℝ} {b : ℕ → ℕ → ℝ} {e : ℕ → ℕ → ℝ}
    (h0 : ∀ i : S2048x2816.Idx, V c main_v5 i = ((a (i 0).val (i 1).val : ℝ) : EReal))
    (h1 : ∀ i : S2816x1024.Idx, V c main_arg5 i = ((b (i 0).val (i 1).val : ℝ) : EReal))
    (h2 : ∀ i : S2048x1024.Idx, V c main_arg0 i = ((e (i 0).val (i 1).val : ℝ) : EReal)) :
    (dat4 V c).arrAt 3 cfg4.N = fun i : S2048x1024.Idx => ((mm 2816 a b (i 0).val (i 1).val + e (i 0).val (i 1).val : ℝ) : EReal) := by
  refine (dat4 V c).arrAt_eq_of_covers 3 _ (by decide +kernel) fun t hf y => ?_
  have ht : t.val < 4 := lt_of_lt_of_eq t.isLt N_4
  have b0 : ∀ (r : Fin 1024) (k : Fin 2816), iblk4 V c 0 t (ix2 r k) = ((a (t.val / 2 * 1024 + r.val) (k.val) : ℝ) : EReal) := fun r k => by
    refine Eq.trans ?_ (h0 (ix2 ⟨t.val / 2 * 1024 + r.val, by omega⟩ ⟨k.val, by omega⟩))
    blk_ext [iblk4, idx4 t]
  have b1 : ∀ (r : Fin 2816) (k : Fin 512), iblk4 V c 1 t (ix2 r k) = ((b (r.val) (t.val % 2 * 512 + k.val) : ℝ) : EReal) := fun r k => by
    refine Eq.trans ?_ (h1 (ix2 ⟨r.val, by omega⟩ ⟨t.val % 2 * 512 + k.val, by omega⟩))
    blk_ext [iblk4, idx4 t]
  have b2 : ∀ (r : Fin 1024) (k : Fin 512), iblk4 V c 2 t (ix2 r k) = ((e (t.val / 2 * 1024 + r.val) (t.val % 2 * 512 + k.val) : ℝ) : EReal) := fun r k => by
    refine Eq.trans ?_ (h2 (ix2 ⟨t.val / 2 * 1024 + r.val, by omega⟩ ⟨t.val % 2 * 512 + k.val, by omega⟩))
    blk_ext [iblk4, idx4 t]
  have out : ∀ y : S1024x512.Idx, (dat4 V c).after 3 t y = ((mm 2816 a b (t.val / 2 * 1024 + (y 0).val) (t.val % 2 * 512 + (y 1).val) + e (t.val / 2 * 1024 + (y 0).val) (t.val % 2 * 512 + (y 1).val) : ℝ) : EReal) := fun y => by
    rw [after4_3]
    unfold out4_3
    rw [View.canon_cons_unit_lit inb_S1024x512_S1024x512_0_0 _ _ (by decide), View.ld_unit_lit inb_S1024x2816_S1024x2816_0_0 _ (by decide), View.ld_unit_lit inb_S2816x512_S2816x512_0_0 _ (by decide), View.ld_unit_lit inb_S1024x512_S1024x512_0_0 _ (by decide)]
    idx_vars y
    rw [pay4 (a := fun r k => a (t.val / 2 * 1024 + r) (k)) (b := fun r k => b (r) (t.val % 2 * 512 + k)) (e := fun r k => e (t.val / 2 * 1024 + r) (t.val % 2 * 512 + k)) b0 b1 b2]
    rfl
  refine (out y).trans ?_
  idx_vars y
  blk_simp [idx4 t]

theorem pay5 {x : Vec Ideal S1024x1024 .bf16} {w : Vec Ideal S256x1024 .bf16} {a b : ℕ → ℕ → ℝ}
    (h0 : ∀ (r : Fin 1024) (k : Fin 1024), x (ix2 r k) = ((a r k : ℝ) : EReal)) (h1 : ∀ (r : Fin 256) (k : Fin 1024), w (ix2 r k) = ((b r k : ℝ) : EReal))
    (r : Fin 1024) (j : Fin 256) : k5_pay1 x w (ix2 r j) = ((mmT 1024 a b r j : ℝ) : EReal) := by
  pointwise [k5_pay1]
  simp only [h0, h1, ← EReal.coe_mul, coe_sum]
  rfl

theorem idx5 : ∀ t : Fin cfg5.N, win5_0.index t = ![t.val / 11, 0] ∧ win5_1.index t = ![t.val % 11, 0] ∧ win5_2.index t = ![t.val / 11, t.val % 11] := by decide +kernel

/-- The gradient of the gated product. -/
theorem ffn_dact {a : ℕ → ℕ → ℝ} {b : ℕ → ℕ → ℝ}
    (h0 : ∀ i : S2048x1024.Idx, V c main_v7 i = ((a (i 0).val (i 1).val : ℝ) : EReal))
    (h1 : ∀ i : S2816x1024.Idx, V c main_arg5 i = ((b (i 0).val (i 1).val : ℝ) : EReal)) :
    (dat5 V c).arrAt 2 cfg5.N = fun i : S2048x2816.Idx => ((mmT 1024 a b (i 0).val (i 1).val : ℝ) : EReal) := by
  refine (dat5 V c).arrAt_eq_of_covers 2 _ (by decide +kernel) fun t hf y => ?_
  have ht : t.val < 22 := lt_of_lt_of_eq t.isLt N_5
  have b0 : ∀ (r : Fin 1024) (k : Fin 1024), iblk5 V c 0 t (ix2 r k) = ((a (t.val / 11 * 1024 + r.val) (k.val) : ℝ) : EReal) := fun r k => by
    refine Eq.trans ?_ (h0 (ix2 ⟨t.val / 11 * 1024 + r.val, by omega⟩ ⟨k.val, by omega⟩))
    blk_ext [iblk5, idx5 t]
  have b1 : ∀ (r : Fin 256) (k : Fin 1024), iblk5 V c 1 t (ix2 r k) = ((b (t.val % 11 * 256 + r.val) (k.val) : ℝ) : EReal) := fun r k => by
    refine Eq.trans ?_ (h1 (ix2 ⟨t.val % 11 * 256 + r.val, by omega⟩ ⟨k.val, by omega⟩))
    blk_ext [iblk5, idx5 t]
  have out : ∀ y : S1024x256.Idx, (dat5 V c).after 2 t y = ((mmT 1024 a b (t.val / 11 * 1024 + (y 0).val) (t.val % 11 * 256 + (y 1).val) : ℝ) : EReal) := fun y => by
    rw [after5_2]
    unfold out5_2
    rw [View.canon_cons_unit_lit inb_S1024x256_S1024x256_0_0 _ _ (by decide), View.ld_unit_lit inb_S1024x1024_S1024x1024_0_0 _ (by decide), View.ld_unit_lit inb_S256x1024_S256x1024_0_0 _ (by decide)]
    idx_vars y
    rw [pay5 (a := fun r k => a (t.val / 11 * 1024 + r) (k)) (b := fun r k => b (t.val % 11 * 256 + r) (k)) b0 b1]
    rfl
  refine (out y).trans ?_
  idx_vars y
  blk_simp [idx5 t]

theorem pay6 {x : Vec Ideal S2048x256 .bf16} {w : Vec Ideal S2048x512 .bf16} {a b : ℕ → ℕ → ℝ}
    (h0 : ∀ (r : Fin 2048) (k : Fin 256), x (ix2 r k) = ((a r k : ℝ) : EReal)) (h1 : ∀ (r : Fin 2048) (k : Fin 512), w (ix2 r k) = ((b r k : ℝ) : EReal))
    (r : Fin 256) (j : Fin 512) : k6_pay1 x w (ix2 r j) = ((tmm 2048 a b r j : ℝ) : EReal) := by
  pointwise [k6_pay1]
  simp only [h0, h1, ← EReal.coe_mul, coe_sum]
  rfl

theorem idx6 : ∀ t : Fin cfg6.N, win6_0.index t = ![0, t.val / 2] ∧ win6_1.index t = ![0, t.val % 2] ∧ win6_2.index t = ![t.val / 2, t.val % 2] := by decide +kernel

/-- The output weights' gradient. -/
theorem ffn_ddown {a : ℕ → ℕ → ℝ} {b : ℕ → ℕ → ℝ}
    (h0 : ∀ i : S2048x2816.Idx, V c main_v5 i = ((a (i 0).val (i 1).val : ℝ) : EReal))
    (h1 : ∀ i : S2048x1024.Idx, V c main_v7 i = ((b (i 0).val (i 1).val : ℝ) : EReal)) :
    (dat6 V c).arrAt 2 cfg6.N = fun i : S2816x1024.Idx => ((tmm 2048 a b (i 0).val (i 1).val : ℝ) : EReal) := by
  refine (dat6 V c).arrAt_eq_of_covers 2 _ (by decide +kernel) fun t hf y => ?_
  have ht : t.val < 22 := lt_of_lt_of_eq t.isLt N_6
  have b0 : ∀ (r : Fin 2048) (k : Fin 256), iblk6 V c 0 t (ix2 r k) = ((a (r.val) (t.val / 2 * 256 + k.val) : ℝ) : EReal) := fun r k => by
    refine Eq.trans ?_ (h0 (ix2 ⟨r.val, by omega⟩ ⟨t.val / 2 * 256 + k.val, by omega⟩))
    blk_ext [iblk6, idx6 t]
  have b1 : ∀ (r : Fin 2048) (k : Fin 512), iblk6 V c 1 t (ix2 r k) = ((b (r.val) (t.val % 2 * 512 + k.val) : ℝ) : EReal) := fun r k => by
    refine Eq.trans ?_ (h1 (ix2 ⟨r.val, by omega⟩ ⟨t.val % 2 * 512 + k.val, by omega⟩))
    blk_ext [iblk6, idx6 t]
  have out : ∀ y : S256x512.Idx, (dat6 V c).after 2 t y = ((tmm 2048 a b (t.val / 2 * 256 + (y 0).val) (t.val % 2 * 512 + (y 1).val) : ℝ) : EReal) := fun y => by
    rw [after6_2]
    unfold out6_2
    rw [View.canon_cons_unit_lit inb_S256x512_S256x512_0_0 _ _ (by decide), View.ld_unit_lit inb_S2048x256_S2048x256_0_0 _ (by decide), View.ld_unit_lit inb_S2048x512_S2048x512_0_0 _ (by decide)]
    idx_vars y
    rw [pay6 (a := fun r k => a (r) (t.val / 2 * 256 + k)) (b := fun r k => b (r) (t.val % 2 * 512 + k)) b0 b1]
    rfl
  refine (out y).trans ?_
  idx_vars y
  blk_simp [idx6 t]

end Cert.Kernel2Ideal.Ffn
end
-- ==== Proof.FfnProductsBack.lean ====
module

public import proofs.«01_k».proof.Proof.Gen.Kernel2Ideal.Frame.Region8
public import proofs.«01_k».proof.Proof.Gen.Kernel2Ideal.Frame.Region9
public import proofs.«01_k».proof.Proof.Gen.Kernel2Ideal.Frame.Region10
public import proofs.«01_k».proof.Proof.Gen.Kernel2Ideal.Frame.Region11
public import proofs.«01_k».proof.Proof.Gen.Kernel2Ideal.Frame.Region12
public import proofs.«01_k».proof.Proof.Gen.Kernel2Ideal.Frame.Region13
public import proofs.«01_k».proof.Proof.FfnReal
public import Idealize.ShloMosaic.Lib.Pipeline.ReadBack
public import Idealize.ShloMosaic.Lib.Pipeline.ValueKit

@[expose] public section

set_option maxRecDepth 16384

noncomputable section

/-! The feed-forward kernel's products after the convolution's gradient, array by array, as real numbers. -/

namespace Cert.Kernel2Ideal.Ffn

open Cert.Kernel2Ideal Cert.Kernel2Ideal.Gen Idealize.ShloMosaic Idealize.ShloMosaic.TcCoe Idealize.SL.Sem
open Cert.AttnReal Cert.FfnReal

variable (V : (c : Dev nD) → (b : Ref sig .tc) → Buf (Elt Ideal) ((c : Thread nD τ).loc b)) (c : Dev nD)

theorem pay8 {x : Vec Ideal S1024x1408 .bf16} {w : Vec Ideal S1x512x1408 .bf16} {a b : ℕ → ℕ → ℝ}
    (h0 : ∀ (r : Fin 1024) (k : Fin 1408), x (ix2 r k) = ((a r k : ℝ) : EReal)) (h1 : ∀ (r : Fin 512) (k : Fin 1408), w (ix3 0 r k) = ((b r k : ℝ) : EReal))
    (r : Fin 1024) (j : Fin 512) : k8_pay1 x w (ix2 r j) = ((mmT 1408 a b r j : ℝ) : EReal) := by
  pointwise [k8_pay1]
  simp only [h0, h1, ← EReal.coe_mul, coe_sum]
  rfl

theorem idx8 : ∀ t : Fin cfg8.N, win8_0.index t = ![t.val / 2, 0] ∧ win8_1.index t = ![0, t.val % 2, 0] ∧ win8_2.index t = ![t.val / 2, t.val % 2] := by decide +kernel

/-- The first block of columns' part of the normalized input's gradient. -/
theorem ffn_dx0 {a : ℕ → ℕ → ℝ} {b : ℕ → ℕ → ℕ → ℝ}
    (h0 : ∀ i : S2048x2816.Idx, V c main_v11_0 i = ((a (i 0).val (i 1).val : ℝ) : EReal))
    (h1 : ∀ i : S4x1024x1408.Idx, V c main_arg2 i = ((b (i 0).val (i 1).val (i 2).val : ℝ) : EReal)) :
    (dat8 V c).arrAt 2 cfg8.N = fun i : S2048x1024.Idx => ((mmT 1408 a (b 0) (i 0).val (i 1).val : ℝ) : EReal) := by
  refine (dat8 V c).arrAt_eq_of_covers 2 _ (by decide +kernel) fun t hf y => ?_
  have ht : t.val < 4 := lt_of_lt_of_eq t.isLt N_8
  have b0 : ∀ (r : Fin 1024) (k : Fin 1408), iblk8 V c 0 t (ix2 r k) = ((a (t.val / 2 * 1024 + r.val) (k.val) : ℝ) : EReal) := fun r k => by
    refine Eq.trans ?_ (h0 (ix2 ⟨t.val / 2 * 1024 + r.val, by omega⟩ ⟨k.val, by omega⟩))
    blk_ext [iblk8, idx8 t]
  have b1 : ∀ (r : Fin 512) (k : Fin 1408), iblk8 V c 1 t (ix3 0 r k) = ((b (0) (t.val % 2 * 512 + r.val) (k.val) : ℝ) : EReal) := fun r k => by
    refine Eq.trans ?_ (h1 (ix3 ⟨0, by omega⟩ ⟨t.val % 2 * 512 + r.val, by omega⟩ ⟨k.val, by omega⟩))
    blk_ext [iblk8, idx8 t]
  have out : ∀ y : S1024x512.Idx, (dat8 V c).after 2 t y = ((mmT 1408 a (b 0) (t.val / 2 * 1024 + (y 0).val) (t.val % 2 * 512 + (y 1).val) : ℝ) : EReal) := fun y => by
    rw [after8_2]
    unfold out8_2
    rw [View.canon_cons_unit_lit inb_S1024x512_S1024x512_0_0 _ _ (by decide), View.ld_unit_lit inb_S1024x1408_S1024x1408_0_0 _ (by decide), View.ld_unit_lit inb_S1x512x1408_S1x512x1408_0_0_0 _ (by decide)]
    idx_vars y
    rw [pay8 (a := fun r k => a (t.val / 2 * 1024 + r) (k)) (b := fun r k => b (0) (t.val % 2 * 512 + r) (k)) b0 b1]
    rfl
  refine (out y).trans ?_
  idx_vars y
  blk_simp [idx8 t]

theorem pay9 {x : Vec Ideal S1024x1408 .bf16} {w : Vec Ideal S1x512x1408 .bf16} {z : Vec Ideal S1024x512 .f32} {a b e : ℕ → ℕ → ℝ}
    (h0 : ∀ (r : Fin 1024) (k : Fin 1408), x (ix2 r k) = ((a r k : ℝ) : EReal)) (h1 : ∀ (r : Fin 512) (k : Fin 1408), w (ix3 0 r k) = ((b r k : ℝ) : EReal)) (h2 : ∀ (r : Fin 1024) (k : Fin 512), z (ix2 r k) = ((e r k : ℝ) : EReal))
    (r : Fin 1024) (j : Fin 512) : k9_pay1 x w z (ix2 r j) = ((mmT 1408 a b r j + e r j : ℝ) : EReal) := by
  pointwise [k9_pay1]
  simp only [h0, h1, h2, ← EReal.coe_mul, coe_sum, ← EReal.coe_add]
  rfl

theorem idx9 : ∀ t : Fin cfg9.N, win9_0.index t = ![t.val / 2, 1] ∧ win9_1.index t = ![1, t.val % 2, 0] ∧ win9_2.index t = ![t.val / 2, t.val % 2] ∧ win9_3.index t = ![t.val / 2, t.val % 2] := by decide +kernel

/-- The second block's part, added. -/
theorem ffn_dx1 {a : ℕ → ℕ → ℝ} {b : ℕ → ℕ → ℕ → ℝ} {e : ℕ → ℕ → ℝ}
    (h0 : ∀ i : S2048x2816.Idx, V c main_v11_0 i = ((a (i 0).val (i 1).val : ℝ) : EReal))
    (h1 : ∀ i : S4x1024x1408.Idx, V c main_arg2 i = ((b (i 0).val (i 1).val (i 2).val : ℝ) : EReal))
    (h2 : ∀ i : S2048x1024.Idx, V c main_v15 i = ((e (i 0).val (i 1).val : ℝ) : EReal)) :
    (dat9 V c).arrAt 3 cfg9.N = fun i : S2048x1024.Idx => ((mmT 1408 (fun i k => a i (1 * 1408 + k)) (b 1) (i 0).val (i 1).val + e (i 0).val (i 1).val : ℝ) : EReal) := by
  refine (dat9 V c).arrAt_eq_of_covers 3 _ (by decide +kernel) fun t hf y => ?_
  have ht : t.val < 4 := lt_of_lt_of_eq t.isLt N_9
  have b0 : ∀ (r : Fin 1024) (k : Fin 1408), iblk9 V c 0 t (ix2 r k) = ((a (t.val / 2 * 1024 + r.val) (1 * 1408 + k.val) : ℝ) : EReal) := fun r k => by
    refine Eq.trans ?_ (h0 (ix2 ⟨t.val / 2 * 1024 + r.val, by omega⟩ ⟨1 * 1408 + k.val, by omega⟩))
    blk_ext [iblk9, idx9 t]
  have b1 : ∀ (r : Fin 512) (k : Fin 1408), iblk9 V c 1 t (ix3 0 r k) = ((b (1) (t.val % 2 * 512 + r.val) (k.val) : ℝ) : EReal) := fun r k => by
    refine Eq.trans ?_ (h1 (ix3 ⟨1, by omega⟩ ⟨t.val % 2 * 512 + r.val, by omega⟩ ⟨k.val, by omega⟩))
    blk_ext [iblk9, idx9 t]
  have b2 : ∀ (r : Fin 1024) (k : Fin 512), iblk9 V c 2 t (ix2 r k) = ((e (t.val / 2 * 1024 + r.val) (t.val % 2 * 512 + k.val) : ℝ) : EReal) := fun r k => by
    refine Eq.trans ?_ (h2 (ix2 ⟨t.val / 2 * 1024 + r.val, by omega⟩ ⟨t.val % 2 * 512 + k.val, by omega⟩))
    blk_ext [iblk9, idx9 t]
  have out : ∀ y : S1024x512.Idx, (dat9 V c).after 3 t y = ((mmT 1408 (fun i k => a i (1 * 1408 + k)) (b 1) (t.val / 2 * 1024 + (y 0).val) (t.val % 2 * 512 + (y 1).val) + e (t.val / 2 * 1024 + (y 0).val) (t.val % 2 * 512 + (y 1).val) : ℝ) : EReal) := fun y => by
    rw [after9_3]
    unfold out9_3
    rw [View.canon_cons_unit_lit inb_S1024x512_S1024x512_0_0 _ _ (by decide), View.ld_unit_lit inb_S1024x1408_S1024x1408_0_0 _ (by decide), View.ld_unit_lit inb_S1x512x1408_S1x512x1408_0_0_0 _ (by decide), View.ld_unit_lit inb_S1024x512_S1024x512_0_0 _ (by decide)]
    idx_vars y
    rw [pay9 (a := fun r k => a (t.val / 2 * 1024 + r) (1 * 1408 + k)) (b := fun r k => b (1) (t.val % 2 * 512 + r) (k)) (e := fun r k => e (t.val / 2 * 1024 + r) (t.val % 2 * 512 + k)) b0 b1 b2]
    rfl
  refine (out y).trans ?_
  idx_vars y
  blk_simp [idx9 t]

theorem pay10 {x : Vec Ideal S1024x1408 .bf16} {w : Vec Ideal S1x512x1408 .bf16} {z : Vec Ideal S1024x512 .f32} {a b e : ℕ → ℕ → ℝ}
    (h0 : ∀ (r : Fin 1024) (k : Fin 1408), x (ix2 r k) = ((a r k : ℝ) : EReal)) (h1 : ∀ (r : Fin 512) (k : Fin 1408), w (ix3 0 r k) = ((b r k : ℝ) : EReal)) (h2 : ∀ (r : Fin 1024) (k : Fin 512), z (ix2 r k) = ((e r k : ℝ) : EReal))
    (r : Fin 1024) (j : Fin 512) : k10_pay1 x w z (ix2 r j) = ((mmT 1408 a b r j + e r j : ℝ) : EReal) := by
  pointwise [k10_pay1]
  simp only [h0, h1, h2, ← EReal.coe_mul, coe_sum, ← EReal.coe_add]
  rfl

theorem idx10 : ∀ t : Fin cfg10.N, win10_0.index t = ![t.val / 2, 0] ∧ win10_1.index t = ![2, t.val % 2, 0] ∧ win10_2.index t = ![t.val / 2, t.val % 2] ∧ win10_3.index t = ![t.val / 2, t.val % 2] := by decide +kernel

/-- The third block's part, added. -/
theorem ffn_dx2 {a : ℕ → ℕ → ℝ} {b : ℕ → ℕ → ℕ → ℝ} {e : ℕ → ℕ → ℝ}
    (h0 : ∀ i : S2048x2816.Idx, V c main_v11_1 i = ((a (i 0).val (i 1).val : ℝ) : EReal))
    (h1 : ∀ i : S4x1024x1408.Idx, V c main_arg2 i = ((b (i 0).val (i 1).val (i 2).val : ℝ) : EReal))
    (h2 : ∀ i : S2048x1024.Idx, V c main_v16 i = ((e (i 0).val (i 1).val : ℝ) : EReal)) :
    (dat10 V c).arrAt 3 cfg10.N = fun i : S2048x1024.Idx => ((mmT 1408 a (b 2) (i 0).val (i 1).val + e (i 0).val (i 1).val : ℝ) : EReal) := by
  refine (dat10 V c).arrAt_eq_of_covers 3 _ (by decide +kernel) fun t hf y => ?_
  have ht : t.val < 4 := lt_of_lt_of_eq t.isLt N_10
  have b0 : ∀ (r : Fin 1024) (k : Fin 1408), iblk10 V c 0 t (ix2 r k) = ((a (t.val / 2 * 1024 + r.val) (k.val) : ℝ) : EReal) := fun r k => by
    refine Eq.trans ?_ (h0 (ix2 ⟨t.val / 2 * 1024 + r.val, by omega⟩ ⟨k.val, by omega⟩))
    blk_ext [iblk10, idx10 t]
  have b1 : ∀ (r : Fin 512) (k : Fin 1408), iblk10 V c 1 t (ix3 0 r k) = ((b (2) (t.val % 2 * 512 + r.val) (k.val) : ℝ) : EReal) := fun r k => by
    refine Eq.trans ?_ (h1 (ix3 ⟨2, by omega⟩ ⟨t.val % 2 * 512 + r.val, by omega⟩ ⟨k.val, by omega⟩))
    blk_ext [iblk10, idx10 t]
  have b2 : ∀ (r : Fin 1024) (k : Fin 512), iblk10 V c 2 t (ix2 r k) = ((e (t.val / 2 * 1024 + r.val) (t.val % 2 * 512 + k.val) : ℝ) : EReal) := fun r k => by
    refine Eq.trans ?_ (h2 (ix2 ⟨t.val / 2 * 1024 + r.val, by omega⟩ ⟨t.val % 2 * 512 + k.val, by omega⟩))
    blk_ext [iblk10, idx10 t]
  have out : ∀ y : S1024x512.Idx, (dat10 V c).after 3 t y = ((mmT 1408 a (b 2) (t.val / 2 * 1024 + (y 0).val) (t.val % 2 * 512 + (y 1).val) + e (t.val / 2 * 1024 + (y 0).val) (t.val % 2 * 512 + (y 1).val) : ℝ) : EReal) := fun y => by
    rw [after10_3]
    unfold out10_3
    rw [View.canon_cons_unit_lit inb_S1024x512_S1024x512_0_0 _ _ (by decide), View.ld_unit_lit inb_S1024x1408_S1024x1408_0_0 _ (by decide), View.ld_unit_lit inb_S1x512x1408_S1x512x1408_0_0_0 _ (by decide), View.ld_unit_lit inb_S1024x512_S1024x512_0_0 _ (by decide)]
    idx_vars y
    rw [pay10 (a := fun r k => a (t.val / 2 * 1024 + r) (k)) (b := fun r k => b (2) (t.val % 2 * 512 + r) (k)) (e := fun r k => e (t.val / 2 * 1024 + r) (t.val % 2 * 512 + k)) b0 b1 b2]
    rfl
  refine (out y).trans ?_
  idx_vars y
  blk_simp [idx10 t]

theorem pay11 {x : Vec Ideal S1024x1408 .bf16} {w : Vec Ideal S1x512x1408 .bf16} {z : Vec Ideal S1024x512 .f32} {a b e : ℕ → ℕ → ℝ}
    (h0 : ∀ (r : Fin 1024) (k : Fin 1408), x (ix2 r k) = ((a r k : ℝ) : EReal)) (h1 : ∀ (r : Fin 512) (k : Fin 1408), w (ix3 0 r k) = ((b r k : ℝ) : EReal)) (h2 : ∀ (r : Fin 1024) (k : Fin 512), z (ix2 r k) = ((e r k : ℝ) : EReal))
    (r : Fin 1024) (j : Fin 512) : k11_pay1 x w z (ix2 r j) = ((mmT 1408 a b r j + e r j : ℝ) : EReal) := by
  pointwise [k11_pay1]
  simp only [h0, h1, h2, ← EReal.coe_mul, coe_sum, ← EReal.coe_add]
  rfl

theorem idx11 : ∀ t : Fin cfg11.N, win11_0.index t = ![t.val / 2, 1] ∧ win11_1.index t = ![3, t.val % 2, 0] ∧ win11_2.index t = ![t.val / 2, t.val % 2] ∧ win11_3.index t = ![t.val / 2, t.val % 2] := by decide +kernel

/-- The fourth block's part, added. -/
theorem ffn_dx3 {a : ℕ → ℕ → ℝ} {b : ℕ → ℕ → ℕ → ℝ} {e : ℕ → ℕ → ℝ}
    (h0 : ∀ i : S2048x2816.Idx, V c main_v11_1 i = ((a (i 0).val (i 1).val : ℝ) : EReal))
    (h1 : ∀ i : S4x1024x1408.Idx, V c main_arg2 i = ((b (i 0).val (i 1).val (i 2).val : ℝ) : EReal))
    (h2 : ∀ i : S2048x1024.Idx, V c main_v17 i = ((e (i 0).val (i 1).val : ℝ) : EReal)) :
    (dat11 V c).arrAt 3 cfg11.N = fun i : S2048x1024.Idx => ((mmT 1408 (fun i k => a i (1 * 1408 + k)) (b 3) (i 0).val (i 1).val + e (i 0).val (i 1).val : ℝ) : EReal) := by
  refine (dat11 V c).arrAt_eq_of_covers 3 _ (by decide +kernel) fun t hf y => ?_
  have ht : t.val < 4 := lt_of_lt_of_eq t.isLt N_11
  have b0 : ∀ (r : Fin 1024) (k : Fin 1408), iblk11 V c 0 t (ix2 r k) = ((a (t.val / 2 * 1024 + r.val) (1 * 1408 + k.val) : ℝ) : EReal) := fun r k => by
    refine Eq.trans ?_ (h0 (ix2 ⟨t.val / 2 * 1024 + r.val, by omega⟩ ⟨1 * 1408 + k.val, by omega⟩))
    blk_ext [iblk11, idx11 t]
  have b1 : ∀ (r : Fin 512) (k : Fin 1408), iblk11 V c 1 t (ix3 0 r k) = ((b (3) (t.val % 2 * 512 + r.val) (k.val) : ℝ) : EReal) := fun r k => by
    refine Eq.trans ?_ (h1 (ix3 ⟨3, by omega⟩ ⟨t.val % 2 * 512 + r.val, by omega⟩ ⟨k.val, by omega⟩))
    blk_ext [iblk11, idx11 t]
  have b2 : ∀ (r : Fin 1024) (k : Fin 512), iblk11 V c 2 t (ix2 r k) = ((e (t.val / 2 * 1024 + r.val) (t.val % 2 * 512 + k.val) : ℝ) : EReal) := fun r k => by
    refine Eq.trans ?_ (h2 (ix2 ⟨t.val / 2 * 1024 + r.val, by omega⟩ ⟨t.val % 2 * 512 + k.val, by omega⟩))
    blk_ext [iblk11, idx11 t]
  have out : ∀ y : S1024x512.Idx, (dat11 V c).after 3 t y = ((mmT 1408 (fun i k => a i (1 * 1408 + k)) (b 3) (t.val / 2 * 1024 + (y 0).val) (t.val % 2 * 512 + (y 1).val) + e (t.val / 2 * 1024 + (y 0).val) (t.val % 2 * 512 + (y 1).val) : ℝ) : EReal) := fun y => by
    rw [after11_3]
    unfold out11_3
    rw [View.canon_cons_unit_lit inb_S1024x512_S1024x512_0_0 _ _ (by decide), View.ld_unit_lit inb_S1024x1408_S1024x1408_0_0 _ (by decide), View.ld_unit_lit inb_S1x512x1408_S1x512x1408_0_0_0 _ (by decide), View.ld_unit_lit inb_S1024x512_S1024x512_0_0 _ (by decide)]
    idx_vars y
    rw [pay11 (a := fun r k => a (t.val / 2 * 1024 + r) (1 * 1408 + k)) (b := fun r k => b (3) (t.val % 2 * 512 + r) (k)) (e := fun r k => e (t.val / 2 * 1024 + r) (t.val % 2 * 512 + k)) b0 b1 b2]
    rfl
  refine (out y).trans ?_
  idx_vars y
  blk_simp [idx11 t]

theorem pay12 {x : Vec Ideal S2048x1024 .bf16} {w : Vec Ideal S2048x1408 .bf16} {a b : ℕ → ℕ → ℝ}
    (h0 : ∀ (r : Fin 2048) (k : Fin 1024), x (ix2 r k) = ((a r k : ℝ) : EReal)) (h1 : ∀ (r : Fin 2048) (k : Fin 1408), w (ix2 r k) = ((b r k : ℝ) : EReal))
    (r : Fin 1024) (j : Fin 1408) : k12_pay1 x w (ix3 0 r j) = ((tmm 2048 a b r j : ℝ) : EReal) := by
  pointwise [k12_pay1]
  simp only [h0, h1, ← EReal.coe_mul, coe_sum]
  rfl

theorem idx12 : ∀ t : Fin cfg12.N, win12_0.index t = ![0, 0] ∧ win12_1.index t = ![0, t.val] ∧ win12_2.index t = ![t.val, 0, 0] := by decide +kernel

/-- The input weights' gradient, the first two blocks of columns. -/
theorem ffn_dup0 {a : ℕ → ℕ → ℝ} {b : ℕ → ℕ → ℝ}
    (h0 : ∀ i : S2048x1024.Idx, V c main_v1 i = ((a (i 0).val (i 1).val : ℝ) : EReal))
    (h1 : ∀ i : S2048x2816.Idx, V c main_v11_0 i = ((b (i 0).val (i 1).val : ℝ) : EReal)) :
    (dat12 V c).arrAt 2 cfg12.N = fun i : S2x1024x1408.Idx => ((tmm 2048 a b (i 1).val ((i 0).val * 1408 + (i 2).val) : ℝ) : EReal) := by
  refine (dat12 V c).arrAt_eq_of_covers 2 _ (by decide +kernel) fun t hf y => ?_
  have ht : t.val < 2 := lt_of_lt_of_eq t.isLt N_12
  have b0 : ∀ (r : Fin 2048) (k : Fin 1024), iblk12 V c 0 t (ix2 r k) = ((a (r.val) (k.val) : ℝ) : EReal) := fun r k => by
    refine Eq.trans ?_ (h0 (ix2 ⟨r.val, by omega⟩ ⟨k.val, by omega⟩))
    blk_ext [iblk12, idx12 t]
  have b1 : ∀ (r : Fin 2048) (k : Fin 1408), iblk12 V c 1 t (ix2 r k) = ((b (r.val) (t.val * 1408 + k.val) : ℝ) : EReal) := fun r k => by
    refine Eq.trans ?_ (h1 (ix2 ⟨r.val, by omega⟩ ⟨t.val * 1408 + k.val, by omega⟩))
    blk_ext [iblk12, idx12 t]
  have out : ∀ y : S1x1024x1408.Idx, (dat12 V c).after 2 t y = ((tmm 2048 a b (y 1).val ((t.val * 1 + (y 0).val) * 1408 + (y 2).val) : ℝ) : EReal) := fun y => by
    rw [after12_2]
    unfold out12_2
    rw [View.canon_cons_unit_lit inb_S1x1024x1408_S1x1024x1408_0_0_0 _ _ (by decide), View.ld_unit_lit inb_S2048x1024_S2048x1024_0_0 _ (by decide), View.ld_unit_lit inb_S2048x1408_S2048x1408_0_0 _ (by decide)]
    idx_vars y
    obtain rfl : y0 = 0 := Subsingleton.elim _ _
    rw [pay12 (a := fun r k => a (r) (k)) (b := fun r k => b (r) (t.val * 1408 + k)) b0 b1]
    exact congrArg _ (Finset.sum_congr rfl fun k _ => congrArg (fun n => _ * b _ (n * 1408 + _)) (by show t.val = t.val * 1 + 0; omega))
  refine (out y).trans ?_
  idx_vars y
  blk_simp [idx12 t]

theorem pay13 {x : Vec Ideal S2048x1024 .bf16} {w : Vec Ideal S2048x1408 .bf16} {a b : ℕ → ℕ → ℝ}
    (h0 : ∀ (r : Fin 2048) (k : Fin 1024), x (ix2 r k) = ((a r k : ℝ) : EReal)) (h1 : ∀ (r : Fin 2048) (k : Fin 1408), w (ix2 r k) = ((b r k : ℝ) : EReal))
    (r : Fin 1024) (j : Fin 1408) : k13_pay1 x w (ix3 0 r j) = ((tmm 2048 a b r j : ℝ) : EReal) := by
  pointwise [k13_pay1]
  simp only [h0, h1, ← EReal.coe_mul, coe_sum]
  rfl

theorem idx13 : ∀ t : Fin cfg13.N, win13_0.index t = ![0, 0] ∧ win13_1.index t = ![0, t.val] ∧ win13_2.index t = ![t.val, 0, 0] := by decide +kernel

/-- The input weights' gradient, the second two blocks of columns. -/
theorem ffn_dup1 {a : ℕ → ℕ → ℝ} {b : ℕ → ℕ → ℝ}
    (h0 : ∀ i : S2048x1024.Idx, V c main_v1 i = ((a (i 0).val (i 1).val : ℝ) : EReal))
    (h1 : ∀ i : S2048x2816.Idx, V c main_v11_1 i = ((b (i 0).val (i 1).val : ℝ) : EReal)) :
    (dat13 V c).arrAt 2 cfg13.N = fun i : S2x1024x1408.Idx => ((tmm 2048 a b (i 1).val ((i 0).val * 1408 + (i 2).val) : ℝ) : EReal) := by
  refine (dat13 V c).arrAt_eq_of_covers 2 _ (by decide +kernel) fun t hf y => ?_
  have ht : t.val < 2 := lt_of_lt_of_eq t.isLt N_13
  have b0 : ∀ (r : Fin 2048) (k : Fin 1024), iblk13 V c 0 t (ix2 r k) = ((a (r.val) (k.val) : ℝ) : EReal) := fun r k => by
    refine Eq.trans ?_ (h0 (ix2 ⟨r.val, by omega⟩ ⟨k.val, by omega⟩))
    blk_ext [iblk13, idx13 t]
  have b1 : ∀ (r : Fin 2048) (k : Fin 1408), iblk13 V c 1 t (ix2 r k) = ((b (r.val) (t.val * 1408 + k.val) : ℝ) : EReal) := fun r k => by
    refine Eq.trans ?_ (h1 (ix2 ⟨r.val, by omega⟩ ⟨t.val * 1408 + k.val, by omega⟩))
    blk_ext [iblk13, idx13 t]
  have out : ∀ y : S1x1024x1408.Idx, (dat13 V c).after 2 t y = ((tmm 2048 a b (y 1).val ((t.val * 1 + (y 0).val) * 1408 + (y 2).val) : ℝ) : EReal) := fun y => by
    rw [after13_2]
    unfold out13_2
    rw [View.canon_cons_unit_lit inb_S1x1024x1408_S1x1024x1408_0_0_0 _ _ (by decide), View.ld_unit_lit inb_S2048x1024_S2048x1024_0_0 _ (by decide), View.ld_unit_lit inb_S2048x1408_S2048x1408_0_0 _ (by decide)]
    idx_vars y
    obtain rfl : y0 = 0 := Subsingleton.elim _ _
    rw [pay13 (a := fun r k => a (r) (k)) (b := fun r k => b (r) (t.val * 1408 + k)) b0 b1]
    exact congrArg _ (Finset.sum_congr rfl fun k _ => congrArg (fun n => _ * b _ (n * 1408 + _)) (by show t.val = t.val * 1 + 0; omega))
  refine (out y).trans ?_
  idx_vars y
  blk_simp [idx13 t]

end Cert.Kernel2Ideal.Ffn
end
-- ==== Proof.FfnConv.lean ====
module

public import proofs.«01_k».proof.Proof.Gen.Kernel2Ideal.Frame.Region3
public import proofs.«01_k».proof.Proof.FfnReal
public import Idealize.ShloMosaic.Lib.Pipeline.ReadBack
public import Idealize.ShloMosaic.Lib.Pipeline.ValueKit

@[expose] public section

set_option maxRecDepth 16384

noncomputable section

/-! The rows' shifts and the feed-forward kernel's convolution with its gate, as real numbers. -/

namespace Cert.Kernel2Ideal.Ffn

open Cert.Kernel2Ideal Cert.Kernel2Ideal.Gen Idealize.ShloMosaic Idealize.ShloMosaic.TcCoe Idealize.SL.Sem
open Cert.AttnReal Cert.FfnReal

variable (V : (c : Dev nD) → (b : Ref sig .tc) → Buf (Elt Ideal) ((c : Thread nD τ).loc b)) (c : Dev nD)

/-! ## The rows shifted -/

theorem sel_slt {α : Type} (n k : ℕ) (hn : n < 4096) (hk : k < 4096) (p q : α) :
    Scalar.select (IntOp.cmpi .slt (BitVec.ofNat 32 n) (BitVec.ofNat 32 k)) p q = if n < k then p else q := by
  have h : (BitVec.ofNat 32 n).slt (BitVec.ofNat 32 k) = decide (n < k) := by
    rw [BitVec.slt, BitVec.toInt_eq_toNat_of_lt, BitVec.toInt_eq_toNat_of_lt] <;> simp [BitVec.toNat_ofNat] <;> omega
  simp only [IntOp.cmpi, h, Scalar.select]
  by_cases e : n < k <;> simp [e]

theorem sel_sge {α : Type} (n k : ℕ) (hn : n < 4096) (hk : k < 4096) (p q : α) :
    Scalar.select (IntOp.cmpi .sge (BitVec.ofNat 32 n) (BitVec.ofNat 32 k)) p q = if k ≤ n then p else q := by
  have h : (BitVec.ofNat 32 k).sle (BitVec.ofNat 32 n) = decide (k ≤ n) := by
    rw [BitVec.sle, BitVec.toInt_eq_toNat_of_lt, BitVec.toInt_eq_toNat_of_lt] <;> simp [BitVec.toNat_ofNat] <;> omega
  simp only [IntOp.cmpi, h, Scalar.select]
  by_cases e : k ≤ n <;> simp [e]

theorem down_at (a : ℕ → ℕ → ℝ) (k : ℕ) (hk : k < 4) (r : Fin 2048) (j : ℕ) :
    Scalar.select (IntOp.cmpi .slt (BitVec.ofNat 32 r.val) (BitVec.ofNat 32 k)) (0 : EReal) ((a ((r.val + 2048 - k) % 2048) j : ℝ) : EReal)
      = ((down k a r j : ℝ) : EReal) := by
  rw [sel_slt _ _ (by omega) (by omega), down]
  split
  · rfl
  · rw [show (r.val + 2048 - k) % 2048 = r.val - k by omega]

theorem up_at (a : ℕ → ℕ → ℝ) (k : ℕ) (hk : k < 4) (r : Fin 2048) (j : ℕ) :
    Scalar.select (IntOp.cmpi .sge (BitVec.ofNat 32 r.val) (BitVec.ofNat 32 (2048 - k))) (0 : EReal) ((a ((r.val + k) % 2048) j : ℝ) : EReal)
      = ((upw k a r j : ℝ) : EReal) := by
  rw [sel_sge _ _ (by omega) (by omega), upw]
  split
  · rfl
  · rw [show (r.val + k) % 2048 = r.val + k by omega]

theorem down_mul (a : ℕ → ℕ → ℝ) (w : ℝ) (k : ℕ) (hk : k < 4) (r : Fin 2048) (j : ℕ) :
    Scalar.select (IntOp.cmpi .slt (BitVec.ofNat 32 r.val) (BitVec.ofNat 32 k)) (0 : EReal) ((w * a ((r.val + 2048 - k) % 2048) j : ℝ) : EReal)
      = ((w * down k a r j : ℝ) : EReal) := by
  have h := down_at (fun s f => w * a s f) k hk r j
  rw [h, down, down, mul_ite, mul_zero]

theorem up_mul (a : ℕ → ℕ → ℝ) (w : ℝ) (k : ℕ) (hk : k < 4) (r : Fin 2048) (j : ℕ) :
    Scalar.select (IntOp.cmpi .sge (BitVec.ofNat 32 r.val) (BitVec.ofNat 32 (2048 - k))) (0 : EReal) ((w * a ((r.val + k) % 2048) j : ℝ) : EReal)
      = ((w * upw k a r j : ℝ) : EReal) := by
  have h := up_at (fun s f => w * a s f) k hk r j
  rw [h, upw, upw, mul_ite, mul_zero]

theorem sg_coe (z : ℝ) : Ideal.div ((1 : ℝ) : EReal) ((1 + Real.exp (-z) : ℝ) : EReal) = ((sg z : ℝ) : EReal) := by
  rw [Ideal.div_coe (one_add_exp_ne _), ← EReal.coe_mul, one_mul]; rfl

/-! ## The convolution and the gate -/

theorem pay3 {x y : Vec Ideal S2048x256 .f32} {w v : Vec Ideal S3x256 .f32} {p q : Vec Ideal S1x256 .f32} {a a' b b' : ℕ → ℕ → ℝ} {o o' : ℕ → ℝ}
    (hx : ∀ (r : Fin 2048) (k : Fin 256), x (ix2 r k) = ((a r k : ℝ) : EReal)) (hy : ∀ (r : Fin 2048) (k : Fin 256), y (ix2 r k) = ((a' r k : ℝ) : EReal))
    (hw : ∀ (r : Fin 3) (k : Fin 256), w (ix2 r k) = ((b r k : ℝ) : EReal)) (hv : ∀ (r : Fin 3) (k : Fin 256), v (ix2 r k) = ((b' r k : ℝ) : EReal))
    (hp : ∀ k : Fin 256, p (ix2 0 k) = ((o k : ℝ) : EReal)) (hq : ∀ k : Fin 256, q (ix2 0 k) = ((o' k : ℝ) : EReal)) (r : Fin 2048) (j : Fin 256) :
    k3_pay1 (k3_pay2 x w p) (k3_pay3 y) v (k3_pay4 q) (k3_pay5 v) k3_pay6 2#32 (ix2 r j)
      = ((glu (conv b o a r j) (conv b' o' a' r j) : ℝ) : EReal) := by
  pointwise [k3_pay1, k3_pay2, k3_pay3, k3_pay4, k3_pay5, k3_pay6]
  simp only [hx, hy, hw, hv, hp, hq, ← EReal.coe_mul, down_mul _ _ 2 (by decide), down_mul _ _ 1 (by decide), ← EReal.coe_add, zero_sub, ← EReal.coe_neg,
    Ideal.exp_coe, ← EReal.coe_one, sg_coe]
  rfl

theorem idx3 : ∀ t : Fin cfg3.N, win3_0.index t = ![0, t.val] ∧ win3_1.index t = ![0, t.val] ∧ win3_2.index t = ![0, t.val]
    ∧ win3_3.index t = ![0, t.val + 11] ∧ win3_4.index t = ![0, t.val] ∧ win3_5.index t = ![0, t.val + 11] ∧ win3_6.index t = ![0, t.val] := by decide +kernel

/-- The gated product. -/
theorem ffn_act {a w : ℕ → ℕ → ℝ} {o : ℕ → ℝ}
    (h0 : ∀ i : S2048x2816.Idx, V c main_v2 i = ((a (i 0).val (i 1).val : ℝ) : EReal))
    (h1 : ∀ i : S2048x2816.Idx, V c main_v3 i = ((a (i 0).val ((i 1).val + 2816) : ℝ) : EReal))
    (h2 : ∀ i : S3x5632.Idx, V c main_arg3 i = ((w (i 0).val (i 1).val : ℝ) : EReal))
    (h3 : ∀ i : S1x5632.Idx, V c main_v4 i = ((o (i 1).val : ℝ) : EReal)) :
    (dat3 V c).arrAt 6 cfg3.N = fun i : S2048x2816.Idx => ((act (conv w o a) (i 0).val (i 1).val : ℝ) : EReal) := by
  refine (dat3 V c).arrAt_eq_of_covers 6 _ (by decide +kernel) fun t hf y => ?_
  have ht : t.val < 11 := lt_of_lt_of_eq t.isLt N_3
  have b0 : ∀ (r : Fin 2048) (k : Fin 256), iblk3 V c 0 t (ix2 r k) = ((a r (t.val * 256 + k.val) : ℝ) : EReal) := fun r k => by
    refine Eq.trans ?_ (h0 (ix2 r ⟨t.val * 256 + k.val, by omega⟩))
    blk_ext [iblk3, idx3 t]
  have b1 : ∀ (r : Fin 2048) (k : Fin 256), iblk3 V c 1 t (ix2 r k) = ((a r ((t.val + 11) * 256 + k.val) : ℝ) : EReal) := fun r k => by
    refine Eq.trans ?_ ((h1 (ix2 r ⟨t.val * 256 + k.val, by omega⟩)).trans (congrArg (fun n => ((a r.val n : ℝ) : EReal)) (show t.val * 256 + k.val + 2816 = (t.val + 11) * 256 + k.val by omega)))
    blk_ext [iblk3, idx3 t]
  have b2 : ∀ (r : Fin 3) (k : Fin 256), iblk3 V c 2 t (ix2 r k) = ((w r (t.val * 256 + k.val) : ℝ) : EReal) := fun r k => by
    refine Eq.trans ?_ (h2 (ix2 r ⟨t.val * 256 + k.val, by omega⟩))
    blk_ext [iblk3, idx3 t]
  have b3 : ∀ (r : Fin 3) (k : Fin 256), iblk3 V c 3 t (ix2 r k) = ((w r ((t.val + 11) * 256 + k.val) : ℝ) : EReal) := fun r k => by
    refine Eq.trans ?_ (h2 (ix2 r ⟨(t.val + 11) * 256 + k.val, by omega⟩))
    blk_ext [iblk3, idx3 t]
  have b4 : ∀ k : Fin 256, iblk3 V c 4 t (ix2 0 k) = ((o (t.val * 256 + k.val) : ℝ) : EReal) := fun k => by
    refine Eq.trans ?_ (h3 (ix2 0 ⟨t.val * 256 + k.val, by omega⟩))
    blk_ext [iblk3, idx3 t]
  have b5 : ∀ k : Fin 256, iblk3 V c 5 t (ix2 0 k) = ((o ((t.val + 11) * 256 + k.val) : ℝ) : EReal) := fun k => by
    refine Eq.trans ?_ (h3 (ix2 0 ⟨(t.val + 11) * 256 + k.val, by omega⟩))
    blk_ext [iblk3, idx3 t]
  have out : ∀ y : S2048x256.Idx, (dat3 V c).after 6 t y = ((act (conv w o a) (y 0).val (t.val * 256 + (y 1).val) : ℝ) : EReal) := fun y => by
    rw [after3_6]
    unfold out3_6
    rw [View.canon_cons_unit_lit inb_S2048x256_S2048x256_0_0 _ _ (by decide)]
    have lB : ∀ x : Vec Ideal S2048x256 .f32, View.ld x r3_0 = x := fun x => View.ld_unit_lit inb_S2048x256_S2048x256_0_0 x (by decide)
    have l3 : ∀ x : Vec Ideal S3x256 .f32, View.ld x r3_1 = x := fun x => View.ld_unit_lit inb_S3x256_S3x256_0_0 x (by decide)
    have l1 : ∀ x : Vec Ideal S1x256 .f32, View.ld x r3_2 = x := fun x => View.ld_unit_lit inb_S1x256_S1x256_0_0 x (by decide)
    rw [lB, lB, l3, l3, l1, l1]
    idx_vars y
    rw [pay3 (a := fun r k => a r (t.val * 256 + k)) (a' := fun r k => a r ((t.val + 11) * 256 + k)) (b := fun r k => w r (t.val * 256 + k)) (b' := fun r k => w r ((t.val + 11) * 256 + k)) (o := fun k => o (t.val * 256 + k)) (o' := fun k => o ((t.val + 11) * 256 + k)) b0 b1 b2 b3 b4 b5]
    show _ = ((glu (conv w o a y0.val (t.val * 256 + y1.val)) (conv w o a y0.val (t.val * 256 + y1.val + 2816)) : ℝ) : EReal)
    rw [show t.val * 256 + y1.val + 2816 = (t.val + 11) * 256 + y1.val by omega]
    rfl
  refine (out y).trans ?_
  idx_vars y
  blk_simp [idx3 t]

end Cert.Kernel2Ideal.Ffn
end
-- ==== Proof.FfnConvBack.lean ====
module

public import proofs.«01_k».proof.Proof.Gen.Kernel2Ideal.Frame.Region7
public import proofs.«01_k».proof.Proof.FfnConv
public import proofs.«01_k».proof.Proof.FfnReal
public import Idealize.ShloMosaic.Lib.Pipeline.ReadBack
public import Idealize.ShloMosaic.Lib.Pipeline.ValueKit

@[expose] public section

set_option maxRecDepth 16384

noncomputable section

/-! The gradients through the feed-forward kernel's gate and convolution, as real numbers. -/

namespace Cert.Kernel2Ideal.Ffn

open Cert.Kernel2Ideal Cert.Kernel2Ideal.Gen Idealize.ShloMosaic Idealize.ShloMosaic.TcCoe Idealize.SL.Sem
open Cert.AttnReal Cert.FfnReal

variable (V : (c : Dev nD) → (b : Ref sig .tc) → Buf (Elt Ideal) ((c : Thread nD τ).loc b)) (c : Dev nD)

/-! ## The gate's gradient -/

theorem pay7_conv {x : Vec Ideal S2048x256 .f32} {w : Vec Ideal S3x256 .f32} {p : Vec Ideal S1x256 .f32} {a b : ℕ → ℕ → ℝ} {o : ℕ → ℝ}
    (hx : ∀ (r : Fin 2048) (k : Fin 256), x (ix2 r k) = ((a r k : ℝ) : EReal)) (hw : ∀ (r : Fin 3) (k : Fin 256), w (ix2 r k) = ((b r k : ℝ) : EReal))
    (hp : ∀ k : Fin 256, p (ix2 0 k) = ((o k : ℝ) : EReal)) (r : Fin 2048) (j : Fin 256) :
    k7_pay7 x w p (ix2 r j) = ((conv b o a r j : ℝ) : EReal) := by
  pointwise [k7_pay7, k7_pay5]
  simp only [hx, hw, hp, ← EReal.coe_mul, down_mul _ _ 2 (by decide), down_mul _ _ 1 (by decide), ← EReal.coe_add, zero_sub, ← EReal.coe_neg,
    Ideal.exp_coe, ← EReal.coe_one, sg_coe]
  rfl

theorem pay7_gate {y f : Vec Ideal S2048x256 .f32} {v : Vec Ideal S3x256 .f32} {q : Vec Ideal S1x256 .f32} {z : Vec Ideal S2048x256 .bf16}
    {a' b' d g : ℕ → ℕ → ℝ} {o' : ℕ → ℝ} (hy : ∀ (r : Fin 2048) (k : Fin 256), y (ix2 r k) = ((a' r k : ℝ) : EReal)) (hf : ∀ (r : Fin 2048) (k : Fin 256), f (ix2 r k) = ((g r k : ℝ) : EReal))
    (hv : ∀ (r : Fin 3) (k : Fin 256), v (ix2 r k) = ((b' r k : ℝ) : EReal)) (hq : ∀ k : Fin 256, q (ix2 0 k) = ((o' k : ℝ) : EReal))
    (hz : ∀ (r : Fin 2048) (k : Fin 256), z (ix2 r k) = ((d r k : ℝ) : EReal)) (r : Fin 2048) (j : Fin 256) :
    k7_pay13 (k7_pay6 y) v f (k7_pay8 q) (k7_pay9 v) k7_pay10 2#32 z (ix2 r j) = ((dgate (d r j) (g r j) (conv b' o' a' r j) : ℝ) : EReal) := by
  pointwise [k7_pay13, k7_pay6, k7_pay8, k7_pay9, k7_pay10, k7_pay11, k7_pay12]
  simp only [hy, hf, hv, hq, hz, ← EReal.coe_mul, down_mul _ _ 2 (by decide), down_mul _ _ 1 (by decide), ← EReal.coe_add, zero_sub, ← EReal.coe_neg,
    Ideal.exp_coe, ← EReal.coe_one, sg_coe, ← EReal.coe_sub]
  rfl

theorem pay7_val {f : Vec Ideal S2048x256 .f32} {z : Vec Ideal S2048x256 .bf16} {d g : ℕ → ℕ → ℝ} (hf : ∀ (r : Fin 2048) (k : Fin 256), f (ix2 r k) = ((g r k : ℝ) : EReal))
    (hz : ∀ (r : Fin 2048) (k : Fin 256), z (ix2 r k) = ((d r k : ℝ) : EReal)) (r : Fin 2048) (j : Fin 256) :
    k7_pay14 f z (ix2 r j) = ((dval (d r j) (g r j) : ℝ) : EReal) := by
  pointwise [k7_pay14, k7_pay11, k7_pay12]
  simp only [hf, hz, ← EReal.coe_mul, down_mul _ _ 2 (by decide), down_mul _ _ 1 (by decide), ← EReal.coe_add, zero_sub, ← EReal.coe_neg,
    Ideal.exp_coe, ← EReal.coe_one, sg_coe]
  rfl

/-! ## The convolution's gradient -/

theorem pay7_up {f : FVec Ideal S2048x256 .f32} {w : Vec Ideal S3x256 .f32} {e b : ℕ → ℕ → ℝ} (hf : ∀ (r : Fin 2048) (k : Fin 256), f (ix2 r k) = ((e r k : ℝ) : EReal))
    (hw : ∀ (r : Fin 3) (k : Fin 256), w (ix2 r k) = ((b r k : ℝ) : EReal)) (r : Fin 2048) (j : Fin 256) :
    k7_pay3 (k7_pay18 w f (k7_pay15 (F := Ideal)) (k7_pay16 w) k7_pay17 2046#32) (ix2 r j) = ((dconv b e r j : ℝ) : EReal) := by
  pointwise [k7_pay3, k7_pay18, k7_pay15, k7_pay16, k7_pay17]
  have u2 := up_mul e (b 0 j) 2 (by decide) r j
  have u1 := up_mul e (b 1 j) 1 (by decide) r j
  simp only [Nat.reduceSub] at u2 u1
  simp only [hf, hw, ← EReal.coe_mul]
  rw [show r.val + 2048 - 2046 = r.val + 2 by omega, show r.val + 2048 - 2047 = r.val + 1 by omega]
  refine (congrArg₂ (· + ·) (congrArg₂ (· + ·) u2 u1) rfl).trans ?_
  rw [← EReal.coe_add, ← EReal.coe_add]
  rfl

theorem pay7_rows {f : FVec Ideal S2048x256 .f32} {x : Vec Ideal S2048x256 .f32} {e a : ℕ → ℕ → ℝ} (hf : ∀ (r : Fin 2048) (k : Fin 256), f (ix2 r k) = ((e r k : ℝ) : EReal))
    (hx : ∀ (r : Fin 2048) (k : Fin 256), x (ix2 r k) = ((a r k : ℝ) : EReal)) (r : Fin 3) (j : Fin 256) :
    k7_pay19 (k7_pay5 x) f (ix2 r j) = ((dconvw e a r j : ℝ) : EReal) := by
  match r with
  | 0 =>
    pointwise [k7_pay19, k7_pay5]
    simp only [hf, hx, ← EReal.coe_mul, down_mul _ _ 2 (by decide), down_mul _ _ 1 (by decide), ← EReal.coe_add, zero_sub, ← EReal.coe_neg,
    Ideal.exp_coe, ← EReal.coe_one, sg_coe, coe_sum]
    rfl
  | 1 =>
    pointwise [k7_pay19, k7_pay5]
    simp only [hf, hx, ← EReal.coe_mul, down_mul _ _ 2 (by decide), down_mul _ _ 1 (by decide), ← EReal.coe_add, zero_sub, ← EReal.coe_neg,
    Ideal.exp_coe, ← EReal.coe_one, sg_coe, coe_sum]
    rfl
  | 2 =>
    pointwise [k7_pay19, k7_pay5]
    simp only [hf, hx, ← EReal.coe_mul, down_mul _ _ 2 (by decide), down_mul _ _ 1 (by decide), ← EReal.coe_add, zero_sub, ← EReal.coe_neg,
    Ideal.exp_coe, ← EReal.coe_one, sg_coe, coe_sum]
    rfl

theorem pay7_rows' {f : FVec Ideal S2048x256 .f32} {x : Vec Ideal S2048x256 .f32} {e a : ℕ → ℕ → ℝ} (hf : ∀ (r : Fin 2048) (k : Fin 256), f (ix2 r k) = ((e r k : ℝ) : EReal))
    (hx : ∀ (r : Fin 2048) (k : Fin 256), x (ix2 r k) = ((a r k : ℝ) : EReal)) (r : Fin 3) (j : Fin 256) :
    k7_pay1 (k7_pay22 (k7_pay6 x) f) (k7_pay23 (k7_pay6 x) f) (k7_pay25 (k7_pay6 x) f) (ix2 r j) = ((dconvw e a r j : ℝ) : EReal) := by
  match r with
  | 0 =>
    pointwise [k7_pay1, k7_pay22, k7_pay23, k7_pay25, k7_pay6]
    simp only [hf, hx, ← EReal.coe_mul, down_mul _ _ 2 (by decide), down_mul _ _ 1 (by decide), ← EReal.coe_add, zero_sub, ← EReal.coe_neg,
    Ideal.exp_coe, ← EReal.coe_one, sg_coe, coe_sum]
    rfl
  | 1 =>
    pointwise [k7_pay1, k7_pay22, k7_pay23, k7_pay25, k7_pay6]
    simp only [hf, hx, ← EReal.coe_mul, down_mul _ _ 2 (by decide), down_mul _ _ 1 (by decide), ← EReal.coe_add, zero_sub, ← EReal.coe_neg,
    Ideal.exp_coe, ← EReal.coe_one, sg_coe, coe_sum]
    rfl
  | 2 =>
    pointwise [k7_pay1, k7_pay22, k7_pay23, k7_pay25, k7_pay6]
    simp only [hf, hx, ← EReal.coe_mul, down_mul _ _ 2 (by decide), down_mul _ _ 1 (by decide), ← EReal.coe_add, zero_sub, ← EReal.coe_neg,
    Ideal.exp_coe, ← EReal.coe_one, sg_coe, coe_sum]
    rfl

theorem pay7_sum {f : FVec Ideal S2048x256 .f32} {e : ℕ → ℕ → ℝ} (hf : ∀ (r : Fin 2048) (k : Fin 256), f (ix2 r k) = ((e r k : ℝ) : EReal)) (j : Fin 256) :
    k7_pay20 f (ix2 0 j) = ((dconvb e j : ℝ) : EReal) := by
  pointwise [k7_pay20]
  simp only [hf, coe_sum]
  rfl

theorem pay7_up' {f : FVec Ideal S2048x256 .f32} {w : Vec Ideal S3x256 .f32} {e b : ℕ → ℕ → ℝ} (hf : ∀ (r : Fin 2048) (k : Fin 256), f (ix2 r k) = ((e r k : ℝ) : EReal))
    (hw : ∀ (r : Fin 3) (k : Fin 256), w (ix2 r k) = ((b r k : ℝ) : EReal)) (r : Fin 2048) (j : Fin 256) :
    k7_pay4 (k7_pay24 w f (k7_pay21 (F := Ideal))) (ix2 r j) = ((dconv b e r j : ℝ) : EReal) :=
  pay7_up hf hw r j

theorem pay7_sum' {f : FVec Ideal S2048x256 .f32} {e : ℕ → ℕ → ℝ} (hf : ∀ (r : Fin 2048) (k : Fin 256), f (ix2 r k) = ((e r k : ℝ) : EReal)) (j : Fin 256) :
    k7_pay2 f (ix2 0 j) = ((dconvb e j : ℝ) : EReal) :=
  pay7_sum hf j

theorem idx7 : ∀ t : Fin cfg7.N, win7_0.index t = ![0, t.val] ∧ win7_1.index t = ![0, t.val] ∧ win7_2.index t = ![0, t.val]
    ∧ win7_3.index t = ![0, t.val + 11] ∧ win7_4.index t = ![0, t.val] ∧ win7_5.index t = ![0, t.val + 11] ∧ win7_6.index t = ![0, t.val]
    ∧ win7_7.index t = ![0, t.val] ∧ win7_8.index t = ![0, t.val] ∧ win7_9.index t = ![0, t.val] ∧ win7_10.index t = ![0, t.val]
    ∧ win7_11.index t = ![0, t.val] ∧ win7_12.index t = ![0, t.val] := by decide +kernel

/-- What the pass reads: both halves of the columns before the convolution, its weights, and the gated product's gradient. -/
structure Reads7 (a w D : ℕ → ℕ → ℝ) (o : ℕ → ℝ) : Prop where
  h0 : ∀ i : S2048x2816.Idx, V c main_v2 i = ((a (i 0).val (i 1).val : ℝ) : EReal)
  h1 : ∀ i : S2048x2816.Idx, V c main_v3 i = ((a (i 0).val ((i 1).val + 2816) : ℝ) : EReal)
  h2 : ∀ i : S3x5632.Idx, V c main_arg3 i = ((w (i 0).val (i 1).val : ℝ) : EReal)
  h3 : ∀ i : S1x5632.Idx, V c main_v10 i = ((o (i 1).val : ℝ) : EReal)
  h4 : ∀ i : S2048x2816.Idx, V c main_v8 i = ((D (i 0).val (i 1).val : ℝ) : EReal)

variable {V c} {a w D : ℕ → ℕ → ℝ} {o : ℕ → ℝ}

/-- The blocks at a grid point. -/
structure Blocks7 (V : (c : Dev nD) → (b : Ref sig .tc) → Buf (Elt Ideal) ((c : Thread nD τ).loc b)) (c : Dev nD) (t : Fin cfg7.N) (a w D : ℕ → ℕ → ℝ) (o : ℕ → ℝ) : Prop where
  b0 : ∀ (r : Fin 2048) (k : Fin 256), iblk7 V c 0 t (ix2 r k) = ((a r (t.val * 256 + k.val) : ℝ) : EReal)
  b1 : ∀ (r : Fin 2048) (k : Fin 256), iblk7 V c 1 t (ix2 r k) = ((a r ((t.val + 11) * 256 + k.val) : ℝ) : EReal)
  b2 : ∀ (r : Fin 3) (k : Fin 256), iblk7 V c 2 t (ix2 r k) = ((w r (t.val * 256 + k.val) : ℝ) : EReal)
  b3 : ∀ (r : Fin 3) (k : Fin 256), iblk7 V c 3 t (ix2 r k) = ((w r ((t.val + 11) * 256 + k.val) : ℝ) : EReal)
  b4 : ∀ k : Fin 256, iblk7 V c 4 t (ix2 0 k) = ((o (t.val * 256 + k.val) : ℝ) : EReal)
  b5 : ∀ k : Fin 256, iblk7 V c 5 t (ix2 0 k) = ((o ((t.val + 11) * 256 + k.val) : ℝ) : EReal)
  b6 : ∀ (r : Fin 2048) (k : Fin 256), iblk7 V c 6 t (ix2 r k) = ((D r (t.val * 256 + k.val) : ℝ) : EReal)

theorem Reads7.blocks (H : Reads7 V c a w D o) (t : Fin cfg7.N) : Blocks7 V c t a w D o := by
  have ht : t.val < 11 := lt_of_lt_of_eq t.isLt N_7
  obtain ⟨h0, h1, h2, h3, h4⟩ := H
  have b0 : ∀ (r : Fin 2048) (k : Fin 256), iblk7 V c 0 t (ix2 r k) = ((a r (t.val * 256 + k.val) : ℝ) : EReal) := fun r k => by
    refine Eq.trans ?_ (h0 (ix2 r ⟨t.val * 256 + k.val, by omega⟩))
    blk_ext [iblk7, idx7 t]
  have b1 : ∀ (r : Fin 2048) (k : Fin 256), iblk7 V c 1 t (ix2 r k) = ((a r ((t.val + 11) * 256 + k.val) : ℝ) : EReal) := fun r k => by
    refine Eq.trans ?_ ((h1 (ix2 r ⟨t.val * 256 + k.val, by omega⟩)).trans (congrArg (fun n => ((a r.val n : ℝ) : EReal)) (show t.val * 256 + k.val + 2816 = (t.val + 11) * 256 + k.val by omega)))
    blk_ext [iblk7, idx7 t]
  have b2 : ∀ (r : Fin 3) (k : Fin 256), iblk7 V c 2 t (ix2 r k) = ((w r (t.val * 256 + k.val) : ℝ) : EReal) := fun r k => by
    refine Eq.trans ?_ (h2 (ix2 r ⟨t.val * 256 + k.val, by omega⟩))
    blk_ext [iblk7, idx7 t]
  have b3 : ∀ (r : Fin 3) (k : Fin 256), iblk7 V c 3 t (ix2 r k) = ((w r ((t.val + 11) * 256 + k.val) : ℝ) : EReal) := fun r k => by
    refine Eq.trans ?_ (h2 (ix2 r ⟨(t.val + 11) * 256 + k.val, by omega⟩))
    blk_ext [iblk7, idx7 t]
  have b4 : ∀ k : Fin 256, iblk7 V c 4 t (ix2 0 k) = ((o (t.val * 256 + k.val) : ℝ) : EReal) := fun k => by
    refine Eq.trans ?_ (h3 (ix2 0 ⟨t.val * 256 + k.val, by omega⟩))
    blk_ext [iblk7, idx7 t]
  have b5 : ∀ k : Fin 256, iblk7 V c 5 t (ix2 0 k) = ((o ((t.val + 11) * 256 + k.val) : ℝ) : EReal) := fun k => by
    refine Eq.trans ?_ (h3 (ix2 0 ⟨(t.val + 11) * 256 + k.val, by omega⟩))
    blk_ext [iblk7, idx7 t]
  have b6 : ∀ (r : Fin 2048) (k : Fin 256), iblk7 V c 6 t (ix2 r k) = ((D r (t.val * 256 + k.val) : ℝ) : EReal) := fun r k => by
    refine Eq.trans ?_ (h4 (ix2 r ⟨t.val * 256 + k.val, by omega⟩))
    blk_ext [iblk7, idx7 t]
  exact ⟨b0, b1, b2, b3, b4, b5, b6⟩

theorem Blocks7.conv {t : Fin cfg7.N} (B : Blocks7 V c t a w D o) (r : Fin 2048) (k : Fin 256) :
    k7_pay27 (iblk7 V c 0 t) (iblk7 V c 1 t) (iblk7 V c 2 t) (iblk7 V c 3 t) (iblk7 V c 4 t) (iblk7 V c 5 t) (iblk7 V c 6 t) (ix2 r k) = ((FfnReal.conv w o a r (t.val * 256 + k) : ℝ) : EReal) := by
  unfold k7_pay27
  rw [View.ld_unit_lit inb_S2048x256_S2048x256_0_0 _ (by decide), View.ld_unit_lit inb_S3x256_S3x256_0_0 _ (by decide),
    View.ld_unit_lit inb_S1x256_S1x256_0_0 _ (by decide)]
  exact pay7_conv (a := fun r k => a r (t.val * 256 + k)) (b := fun r k => w r (t.val * 256 + k)) (o := fun k => o (t.val * 256 + k)) B.b0 B.b2 B.b4 r k

theorem Blocks7.gate {t : Fin cfg7.N} (B : Blocks7 V c t a w D o) (r : Fin 2048) (k : Fin 256) :
    k7_pay28 (iblk7 V c 0 t) (iblk7 V c 1 t) (iblk7 V c 2 t) (iblk7 V c 3 t) (iblk7 V c 4 t) (iblk7 V c 5 t) (iblk7 V c 6 t) (ix2 r k) = ((dact D (FfnReal.conv w o a) r (t.val * 256 + k) : ℝ) : EReal) := by
  have ht : t.val < 11 := lt_of_lt_of_eq t.isLt N_7
  unfold k7_pay28 k7_pay26
  have lB : ∀ x : Vec Ideal S2048x256 .f32, View.ld x r7_0 = x := fun x => View.ld_unit_lit inb_S2048x256_S2048x256_0_0 x (by decide)
  have lC : ∀ x : Vec Ideal S2048x256 .bf16, View.ld x r7_0 = x := fun x => View.ld_unit_lit inb_S2048x256_S2048x256_0_0 x (by decide)
  have l3 : ∀ x : Vec Ideal S3x256 .f32, View.ld x r7_1 = x := fun x => View.ld_unit_lit inb_S3x256_S3x256_0_0 x (by decide)
  have l1 : ∀ x : Vec Ideal S1x256 .f32, View.ld x r7_2 = x := fun x => View.ld_unit_lit inb_S1x256_S1x256_0_0 x (by decide)
  rw [lB, l3, l1, lC]
  refine (pay7_gate (a' := fun r k => a r ((t.val + 11) * 256 + k)) (g := fun r k => FfnReal.conv w o a r (t.val * 256 + k)) (d := fun r k => D r (t.val * 256 + k))
    (b' := fun r k => w r ((t.val + 11) * 256 + k)) (o' := fun k => o ((t.val + 11) * 256 + k)) B.b1 B.conv B.b3 B.b5 B.b6 r k).trans ?_
  rw [dact, if_pos (by omega), show t.val * 256 + k.val + 2816 = (t.val + 11) * 256 + k.val by omega]
  rfl

theorem Blocks7.value {t : Fin cfg7.N} (B : Blocks7 V c t a w D o) (r : Fin 2048) (k : Fin 256) :
    k7_pay29 (iblk7 V c 0 t) (iblk7 V c 1 t) (iblk7 V c 2 t) (iblk7 V c 3 t) (iblk7 V c 4 t) (iblk7 V c 5 t) (iblk7 V c 6 t) (ix2 r k) = ((dact D (FfnReal.conv w o a) r ((t.val + 11) * 256 + k) : ℝ) : EReal) := by
  unfold k7_pay29
  have lC : ∀ x : Vec Ideal S2048x256 .bf16, View.ld x r7_0 = x := fun x => View.ld_unit_lit inb_S2048x256_S2048x256_0_0 x (by decide)
  rw [lC]
  refine (pay7_val (g := fun r k => FfnReal.conv w o a r (t.val * 256 + k)) (d := fun r k => D r (t.val * 256 + k)) B.conv B.b6 r k).trans ?_
  rw [dact, if_neg (by omega), show (t.val + 11) * 256 + k.val - 2816 = t.val * 256 + k.val by omega]

/-- The gate half's gradient before the convolution. -/
theorem dup_gate (H : Reads7 V c a w D o) :
    (dat7 V c).arrAt 7 cfg7.N = fun i : S2048x2816.Idx => ((dconv w (dact D (FfnReal.conv w o a)) (i 0).val ((i 1).val) : ℝ) : EReal) := by
  refine (dat7 V c).arrAt_eq_of_covers 7 _ (by decide +kernel) fun t hf y => ?_
  have ht : t.val < 11 := lt_of_lt_of_eq t.isLt N_7
  have B := H.blocks t
  have out : ∀ y : S2048x256.Idx, (dat7 V c).after 7 t y = ((dconv w (dact D (FfnReal.conv w o a)) (y 0).val (t.val * 256 + (y 1).val) : ℝ) : EReal) := fun y => by
    rw [after7_7]
    unfold out7_7
    rw [View.canon_cons_unit_lit inb_S2048x256_S2048x256_0_0 _ _ (by decide)]
    have l3 : ∀ x : Vec Ideal S3x256 .f32, View.ld x r7_1 = x := fun x => View.ld_unit_lit inb_S3x256_S3x256_0_0 x (by decide)
    simp only [l3]
    idx_vars y
    exact pay7_up (e := fun r k => (dact D (FfnReal.conv w o a)) r (t.val * 256 + k)) (b := fun r k => w r (t.val * 256 + k)) B.gate B.b2 y0 y1
  refine (out y).trans ?_
  idx_vars y
  blk_simp [idx7 t]

/-- The value half's. -/
theorem dup_value (H : Reads7 V c a w D o) :
    (dat7 V c).arrAt 8 cfg7.N = fun i : S2048x2816.Idx => ((dconv w (dact D (FfnReal.conv w o a)) (i 0).val ((i 1).val + 2816) : ℝ) : EReal) := by
  refine (dat7 V c).arrAt_eq_of_covers 8 _ (by decide +kernel) fun t hf y => ?_
  have ht : t.val < 11 := lt_of_lt_of_eq t.isLt N_7
  have B := H.blocks t
  have out : ∀ y : S2048x256.Idx, (dat7 V c).after 8 t y = ((dconv w (dact D (FfnReal.conv w o a)) (y 0).val ((t.val + 11) * 256 + (y 1).val) : ℝ) : EReal) := fun y => by
    rw [after7_8]
    unfold out7_8
    rw [View.canon_cons_unit_lit inb_S2048x256_S2048x256_0_0 _ _ (by decide)]
    have l3 : ∀ x : Vec Ideal S3x256 .f32, View.ld x r7_1 = x := fun x => View.ld_unit_lit inb_S3x256_S3x256_0_0 x (by decide)
    simp only [l3]
    idx_vars y
    exact pay7_up' (e := fun r k => (dact D (FfnReal.conv w o a)) r ((t.val + 11) * 256 + k)) (b := fun r k => w r ((t.val + 11) * 256 + k)) B.value B.b3 y0 y1
  refine (out y).trans ?_
  idx_vars y
  blk_simp [idx7 t]
  rw [show t.val * 256 + y1.val + 2816 = (t.val + 11) * 256 + y1.val by omega]

/-- The gate half of the convolution weights' gradient. -/
theorem dcw_gate (H : Reads7 V c a w D o) :
    (dat7 V c).arrAt 9 cfg7.N = fun i : S3x2816.Idx => ((dconvw (dact D (FfnReal.conv w o a)) a (i 0).val ((i 1).val) : ℝ) : EReal) := by
  refine (dat7 V c).arrAt_eq_of_covers 9 _ (by decide +kernel) fun t hf y => ?_
  have ht : t.val < 11 := lt_of_lt_of_eq t.isLt N_7
  have B := H.blocks t
  have out : ∀ y : S3x256.Idx, (dat7 V c).after 9 t y = ((dconvw (dact D (FfnReal.conv w o a)) a (y 0).val (t.val * 256 + (y 1).val) : ℝ) : EReal) := fun y => by
    rw [after7_9]
    unfold out7_9
    rw [View.canon_cons_unit_lit inb_S3x256_S3x256_0_0 _ _ (by decide)]
    have lB : ∀ x : Vec Ideal S2048x256 .f32, View.ld x r7_0 = x := fun x => View.ld_unit_lit inb_S2048x256_S2048x256_0_0 x (by decide)
    rw [lB]
    idx_vars y
    exact pay7_rows (e := fun r k => (dact D (FfnReal.conv w o a)) r (t.val * 256 + k)) (a := fun r k => a r (t.val * 256 + k)) B.gate B.b0 y0 y1
  refine (out y).trans ?_
  idx_vars y
  blk_simp [idx7 t]

/-- The value half of it. -/
theorem dcw_value (H : Reads7 V c a w D o) :
    (dat7 V c).arrAt 10 cfg7.N = fun i : S3x2816.Idx => ((dconvw (dact D (FfnReal.conv w o a)) a (i 0).val ((i 1).val + 2816) : ℝ) : EReal) := by
  refine (dat7 V c).arrAt_eq_of_covers 10 _ (by decide +kernel) fun t hf y => ?_
  have ht : t.val < 11 := lt_of_lt_of_eq t.isLt N_7
  have B := H.blocks t
  have out : ∀ y : S3x256.Idx, (dat7 V c).after 10 t y = ((dconvw (dact D (FfnReal.conv w o a)) a (y 0).val ((t.val + 11) * 256 + (y 1).val) : ℝ) : EReal) := fun y => by
    rw [after7_10]
    unfold out7_10
    rw [View.canon_cons_unit_lit inb_S3x256_S3x256_0_0 _ _ (by decide)]
    have lB : ∀ x : Vec Ideal S2048x256 .f32, View.ld x r7_0 = x := fun x => View.ld_unit_lit inb_S2048x256_S2048x256_0_0 x (by decide)
    simp only [k7_pay26, lB]
    idx_vars y
    exact pay7_rows' (e := fun r k => (dact D (FfnReal.conv w o a)) r ((t.val + 11) * 256 + k)) (a := fun r k => a r ((t.val + 11) * 256 + k)) B.value B.b1 y0 y1
  refine (out y).trans ?_
  idx_vars y
  blk_simp [idx7 t]
  rw [show t.val * 256 + y1.val + 2816 = (t.val + 11) * 256 + y1.val by omega]

/-- The gate half of the offsets' gradient. -/
theorem dcb_gate (H : Reads7 V c a w D o) :
    (dat7 V c).arrAt 11 cfg7.N = fun i : S1x2816.Idx => ((dconvb (dact D (FfnReal.conv w o a)) ((i 1).val) : ℝ) : EReal) := by
  refine (dat7 V c).arrAt_eq_of_covers 11 _ (by decide +kernel) fun t hf y => ?_
  have ht : t.val < 11 := lt_of_lt_of_eq t.isLt N_7
  have B := H.blocks t
  have out : ∀ y : S1x256.Idx, (dat7 V c).after 11 t y = ((dconvb (dact D (FfnReal.conv w o a)) (t.val * 256 + (y 1).val) : ℝ) : EReal) := fun y => by
    rw [after7_11]
    unfold out7_11
    rw [View.canon_cons_unit_lit inb_S1x256_S1x256_0_0 _ _ (by decide)]
    idx_vars y
    obtain rfl : y0 = 0 := Subsingleton.elim _ _
    exact pay7_sum (e := fun r k => (dact D (FfnReal.conv w o a)) r (t.val * 256 + k)) B.gate y1
  refine (out y).trans ?_
  idx_vars y
  blk_simp [idx7 t]

/-- The value half of it. -/
theorem dcb_value (H : Reads7 V c a w D o) :
    (dat7 V c).arrAt 12 cfg7.N = fun i : S1x2816.Idx => ((dconvb (dact D (FfnReal.conv w o a)) ((i 1).val + 2816) : ℝ) : EReal) := by
  refine (dat7 V c).arrAt_eq_of_covers 12 _ (by decide +kernel) fun t hf y => ?_
  have ht : t.val < 11 := lt_of_lt_of_eq t.isLt N_7
  have B := H.blocks t
  have out : ∀ y : S1x256.Idx, (dat7 V c).after 12 t y = ((dconvb (dact D (FfnReal.conv w o a)) ((t.val + 11) * 256 + (y 1).val) : ℝ) : EReal) := fun y => by
    rw [after7_12]
    unfold out7_12
    rw [View.canon_cons_unit_lit inb_S1x256_S1x256_0_0 _ _ (by decide)]
    idx_vars y
    obtain rfl : y0 = 0 := Subsingleton.elim _ _
    exact pay7_sum' (e := fun r k => (dact D (FfnReal.conv w o a)) r ((t.val + 11) * 256 + k)) B.value y1
  refine (out y).trans ?_
  idx_vars y
  blk_simp [idx7 t]
  rw [show t.val * 256 + y1.val + 2816 = (t.val + 11) * 256 + y1.val by omega]

end Cert.Kernel2Ideal.Ffn
end
-- ==== Proof.FfnBackNorm.lean ====
module

public import proofs.«01_k».proof.Proof.Gen.Kernel2Ideal.Frame.Region14
public import proofs.«01_k».proof.Proof.FfnReal
public import Idealize.ShloMosaic.Lib.Pipeline.ReadBack
public import Idealize.ShloMosaic.Lib.Pipeline.ValueKit

@[expose] public section

set_option maxRecDepth 16384

noncomputable section

/-! The gradients through the feed-forward kernel's normalization, as real numbers. -/

namespace Cert.Kernel2Ideal.Ffn

open Cert.Kernel2Ideal Cert.Kernel2Ideal.Gen Idealize.ShloMosaic Idealize.ShloMosaic.TcCoe Idealize.SL.Sem
open Cert.AttnReal Cert.FfnReal

variable (V : (c : Dev nD) → (b : Ref sig .tc) → Buf (Elt Ideal) ((c : Thread nD τ).loc b)) (c : Dev nD)

/-- The mean square's reciprocal root, of a block. -/
theorem pay14_inv {x : Vec Ideal S512x1024 .f32} {a : ℕ → ℕ → ℝ} (hx : ∀ (r : Fin 512) (k : Fin 1024), x (ix2 r k) = ((a r k : ℝ) : EReal)) (r : Fin 512) :
    k14_pay3 x (ix2 r 0) = ((inv a r : ℝ) : EReal) := by
  pointwise [k14_pay3]
  simp only [hx, ← EReal.coe_mul, coe_sum, width_bits, eps_bits, Ideal.div_coe (show (1024 : ℝ) ≠ 0 by norm_num), ← EReal.coe_add]
  exact rsqrt_var a r

theorem pay14_dx {x e o : Vec Ideal S512x1024 .f32} {z : Vec Ideal S1x1024 .f32} {a b u : ℕ → ℕ → ℝ} {g : ℕ → ℝ}
    (hx : ∀ (r : Fin 512) (k : Fin 1024), x (ix2 r k) = ((a r k : ℝ) : EReal)) (he : ∀ (r : Fin 512) (k : Fin 1024), e (ix2 r k) = ((b r k : ℝ) : EReal))
    (hz : ∀ k : Fin 1024, z (ix2 0 k) = ((g k : ℝ) : EReal)) (ho : ∀ (r : Fin 512) (k : Fin 1024), o (ix2 r k) = ((u r k : ℝ) : EReal))
    (r : Fin 512) (j : Fin 1024) : k14_pay4 x e z o (ix2 r j) = ((dnorm a g b u r j : ℝ) : EReal) := by
  have hr := pay14_inv hx
  pointwise [k14_pay4, k14_pay2]
  simp only [hr, hx, he, hz, ho, ← EReal.coe_mul, coe_sum, width_bits, Ideal.div_coe (show (1024 : ℝ) ≠ 0 by norm_num), ← EReal.coe_add, ← EReal.coe_sub]
  rfl

theorem pay14_dg {x e : Vec Ideal S512x1024 .f32} {A : Vec Ideal S1x1024 .f32} {a b : ℕ → ℕ → ℝ}
    (hx : ∀ (r : Fin 512) (k : Fin 1024), x (ix2 r k) = ((a r k : ℝ) : EReal)) (he : ∀ (r : Fin 512) (k : Fin 1024), e (ix2 r k) = ((b r k : ℝ) : EReal))
    (j : Fin 1024) : k14_pay1 x (k14_pay2 e) (k14_pay3 x) A (ix2 0 j) = A (ix2 0 j) + ((dscale 512 a b j : ℝ) : EReal) := by
  have hr := pay14_inv hx
  pointwise [k14_pay1, k14_pay2]
  simp only [hr, hx, he, ← EReal.coe_mul, coe_sum]
  rfl

theorem idx14 : ∀ t : Fin cfg14.N, win14_0.index t = ![t.val, 0] ∧ win14_1.index t = ![0, 0] ∧ win14_2.index t = ![t.val, 0] ∧ win14_3.index t = ![t.val, 0]
    ∧ win14_4.index t = ![t.val, 0] ∧ win14_5.index t = ![t.val, 0] ∧ win14_6.index t = ![0, 0] := by decide +kernel

section Point
variable {V c} (t : Fin cfg14.N) {a b u : ℕ → ℕ → ℝ} {g : ℕ → ℝ}
  (h0 : ∀ (r : Fin 512) (k : Fin 1024), iblk14 V c 0 t (ix2 r k) = ((a r k : ℝ) : EReal)) (h1 : ∀ k : Fin 1024, iblk14 V c 1 t (ix2 0 k) = ((g k : ℝ) : EReal))
  (h2 : ∀ (r : Fin 512) (k : Fin 1024), iblk14 V c 2 t (ix2 r k) = ((b r k : ℝ) : EReal)) (h3 : ∀ (r : Fin 512) (k : Fin 1024), iblk14 V c 3 t (ix2 r k) = ((u r k : ℝ) : EReal))

include h0 h1 h2 h3

theorem dx_block (y : S512x1024.Idx) : (outsAt14 V c t.val t.isLt).1 y = ((dnorm a g b u (y 0).val (y 1).val : ℝ) : EReal) := by
  by_cases ht : t.val % 4 = 0
  · rw [outsAt14_A V c t ht]
    frame_out
    idx_vars y
    exact pay14_dx h0 h2 h1 h3 y0 y1
  · rw [outsAt14_B V c t ht]
    frame_out
    idx_vars y
    exact pay14_dx h0 h2 h1 h3 y0 y1

theorem dxb_block (y : S512x1024.Idx) : (outsAt14 V c t.val t.isLt).2.1 y = ((dnorm a g b u (y 0).val (y 1).val : ℝ) : EReal) := by
  by_cases ht : t.val % 4 = 0
  · rw [outsAt14_A V c t ht]
    frame_out
    idx_vars y
    exact pay14_dx h0 h2 h1 h3 y0 y1
  · rw [outsAt14_B V c t ht]
    frame_out
    idx_vars y
    exact pay14_dx h0 h2 h1 h3 y0 y1

omit h1 h3 in
theorem dg_step (ht : ¬t.val % 4 = 0) (y : S1x1024.Idx) :
    (outsAt14 V c t.val t.isLt).2.2 y
      = (outsAt14 V c (t.val - 1) (Nat.lt_of_le_of_lt (Nat.sub_le _ _) t.isLt)).2.2 y + ((dscale 512 a b (y 1).val : ℝ) : EReal) := by
  rw [outsAt14_B V c t ht]
  frame_out
  idx_vars y
  obtain rfl : y0 = 0 := Subsingleton.elim _ _
  exact pay14_dg h0 h2 y1

omit h1 h3 in
theorem dg_first (ht : t.val % 4 = 0) (y : S1x1024.Idx) :
    (outsAt14 V c t.val t.isLt).2.2 y = 0 + ((dscale 512 a b (y 1).val : ℝ) : EReal) := by
  have hz : (k14_pay6 (F := Ideal)) y = (0 : EReal) := by
    idx_vars y
    pointwise [k14_pay6]
  rw [outsAt14_A V c t ht]
  frame_out
  idx_vars y
  obtain rfl : y0 = 0 := Subsingleton.elim _ _
  exact (pay14_dg h0 h2 y1).trans (congrArg (· + _) hz)

end Point

section Arrays
variable {V c} {a b u : ℕ → ℕ → ℝ} {g : ℕ → ℝ}
  (h0 : ∀ i : S2048x1024.Idx, V c main_arg0 i = ((a (i 0).val (i 1).val : ℝ) : EReal)) (h1 : ∀ i : S1x1024.Idx, V c main_v22 i = ((g (i 1).val : ℝ) : EReal))
  (h2 : ∀ i : S2048x1024.Idx, V c main_v18 i = ((b (i 0).val (i 1).val : ℝ) : EReal)) (h3 : ∀ i : S2048x1024.Idx, V c main_arg6 i = ((u (i 0).val (i 1).val : ℝ) : EReal))

include h0 in
theorem row14_0 (t : Fin cfg14.N) (r : Fin 512) (k : Fin 1024) : iblk14 V c 0 t (ix2 r k) = ((a (t.val * 512 + r.val) k : ℝ) : EReal) := by
  have ht : t.val < 4 := lt_of_lt_of_eq t.isLt N_14
  refine Eq.trans ?_ (h0 (ix2 ⟨t.val * 512 + r.val, by omega⟩ k))
  blk_ext [iblk14, idx14 t]

include h1 in
theorem row14_1 (t : Fin cfg14.N) (k : Fin 1024) : iblk14 V c 1 t (ix2 0 k) = ((g k : ℝ) : EReal) := by
  refine Eq.trans ?_ (h1 (ix2 0 k))
  blk_ext [iblk14, idx14 t]

include h2 in
theorem row14_2 (t : Fin cfg14.N) (r : Fin 512) (k : Fin 1024) : iblk14 V c 2 t (ix2 r k) = ((b (t.val * 512 + r.val) k : ℝ) : EReal) := by
  have ht : t.val < 4 := lt_of_lt_of_eq t.isLt N_14
  refine Eq.trans ?_ (h2 (ix2 ⟨t.val * 512 + r.val, by omega⟩ k))
  blk_ext [iblk14, idx14 t]

include h3 in
theorem row14_3 (t : Fin cfg14.N) (r : Fin 512) (k : Fin 1024) : iblk14 V c 3 t (ix2 r k) = ((u (t.val * 512 + r.val) k : ℝ) : EReal) := by
  have ht : t.val < 4 := lt_of_lt_of_eq t.isLt N_14
  refine Eq.trans ?_ (h3 (ix2 ⟨t.val * 512 + r.val, by omega⟩ k))
  blk_ext [iblk14, idx14 t]

include h0 h1 h2 h3

/-- The input's gradient. -/
theorem ffn_dx : (dat14 V c).arrAt 4 cfg14.N = fun i : S2048x1024.Idx => ((dnorm a g b u (i 0).val (i 1).val : ℝ) : EReal) := by
  refine (dat14 V c).arrAt_eq_of_covers 4 _ (by decide +kernel) fun t hf y => ?_
  rw [after14_4]
  refine (dx_block t (a := fun r k => a (t.val * 512 + r) k) (b := fun r k => b (t.val * 512 + r) k) (u := fun r k => u (t.val * 512 + r) k)
    (row14_0 h0 t) (row14_1 h1 t) (row14_2 h2 t) (row14_3 h3 t) y).trans ?_
  idx_vars y
  blk_simp [idx14 t]
  rfl

/-- Its copy in the narrower format. -/
theorem ffn_dxb : (dat14 V c).arrAt 5 cfg14.N = fun i : S2048x1024.Idx => ((dnorm a g b u (i 0).val (i 1).val : ℝ) : EReal) := by
  refine (dat14 V c).arrAt_eq_of_covers 5 _ (by decide +kernel) fun t hf y => ?_
  rw [after14_5]
  refine (dxb_block t (a := fun r k => a (t.val * 512 + r) k) (b := fun r k => b (t.val * 512 + r) k) (u := fun r k => u (t.val * 512 + r) k)
    (row14_0 h0 t) (row14_1 h1 t) (row14_2 h2 t) (row14_3 h3 t) y).trans ?_
  idx_vars y
  blk_simp [idx14 t]
  rfl

omit h1 h3 in
/-- The scale's gradient. -/
theorem ffn_dg : (dat14 V c).arrAt 6 cfg14.N = fun i : S1x1024.Idx => ((dscale 2048 a b (i 1).val : ℝ) : EReal) := by
  refine (dat14 V c).arrAt_eq_of_after_last 6 t14_3 (by decide +kernel) _ fun j => ?_
  blk_simp
  rw [after14_6, Pipeline.eq_sum_fin_of_reset_step_apply_last (fun n h => (outsAt14 V c n h).2.2) 4 (fun _ => 0)
    (fun t j => ((dscale 512 (fun r k => a (t.val * 512 + r) k) (fun r k => b (t.val * 512 + r) k) (j 1).val : ℝ) : EReal))
    (fun t h j => dg_first t (a := fun r k => a (t.val * 512 + r) k) (b := fun r k => b (t.val * 512 + r) k) (row14_0 h0 t) (row14_2 h2 t) h j)
    (fun t h j => dg_step t (a := fun r k => a (t.val * 512 + r) k) (b := fun r k => b (t.val * 512 + r) k) (row14_0 h0 t) (row14_2 h2 t) h j)
    (le_of_eq N_14) t14_3 rfl j]
  rw [zero_add, coe_sum]
  refine congrArg _ (Eq.trans ?_ (Fin.sum_mul_add_fin 4 512 (fun s : Fin 2048 => b s (j 1).val * a s (j 1).val * inv a s) rfl))
  rfl

end Arrays

end Cert.Kernel2Ideal.Ffn
end
-- ==== Proof.FfnKernel.lean ====
module

public import proofs.«01_k».proof.Proof.Gen.Kernel2Ideal.Frame.Fold0
public import proofs.«01_k».proof.Proof.FfnSub
public import proofs.«01_k».proof.Proof.FfnNorm
public import proofs.«01_k».proof.Proof.FfnProducts
public import proofs.«01_k».proof.Proof.FfnProductsBack
public import proofs.«01_k».proof.Proof.FfnConv
public import proofs.«01_k».proof.Proof.FfnConvBack
public import proofs.«01_k».proof.Proof.FfnBackNorm

@[expose] public section

set_option maxRecDepth 16384

noncomputable section

/-! What every buffer of the feed-forward program holds at the boundary where it is read, over the real numbers: each region's
    result from what it reads, carried over the regions and host stretches that leave it alone. -/

namespace Cert.Kernel2Ideal.Ffn

open Cert.Kernel2Ideal Cert.Kernel2Ideal.Gen Idealize.ShloMosaic Idealize.ShloMosaic.TcCoe Idealize.SL.Sem Cert.AttnReal Cert.FfnReal

variable (m : (ℓ : Loc nD τ sig) → Buf (Elt Ideal) ℓ) (ρ : Dev nD → PrngReg) (c : Dev nD)

/-- The arguments hold the real arrays of `p`. -/
structure Holds (p : Sub) : Prop where
  x : ∀ i : S2048x1024.Idx, m ((c : Thread nD τ).loc main_arg0) i = ((p.x (i 0).val (i 1).val : ℝ) : EReal)
  g : ∀ i : S1024.Idx, m ((c : Thread nD τ).loc main_arg1) i = ((p.g (i 0).val : ℝ) : EReal)
  w : ∀ i : S4x1024x1408.Idx, m ((c : Thread nD τ).loc main_arg2) i = ((p.w (i 0).val (i 1).val (i 2).val : ℝ) : EReal)
  cw : ∀ i : S3x5632.Idx, m ((c : Thread nD τ).loc main_arg3) i = ((p.cw (i 0).val (i 1).val : ℝ) : EReal)
  cb : ∀ i : S5632.Idx, m ((c : Thread nD τ).loc main_arg4) i = ((p.cb (i 0).val : ℝ) : EReal)
  wd : ∀ i : S2816x1024.Idx, m ((c : Thread nD τ).loc main_arg5) i = ((p.wd (i 0).val (i 1).val : ℝ) : EReal)
  d : ∀ i : S2048x1024.Idx, m ((c : Thread nD τ).loc main_arg6) i = ((p.d (i 0).val (i 1).val : ℝ) : EReal)

variable {m c} {p : Sub}

theorem v0_1 (H : Holds m c p) (i : S1x1024.Idx) : W1 m ρ c (Proc.devRef .tc main_v0) i = ((p.g (i 1).val : ℝ) : EReal) := by
  have h : W1 m ρ c (Proc.devRef .tc main_v0) = shapeCast S1x1024 (W0 m ρ c (Proc.devRef .tc main_arg1)) shapeCasts_S1024_S1x1024 := by
    show StableHlo.after hostOps0 (W0 m ρ c) (Proc.devRef .tc main_v0) = _
    after_results
    all_goals rfl
  rw [h]
  idx_vars i
  pointwise
  exact (congrFun (W0_args m ρ c main_arg1 (by decide)) _).trans (H.g _)

theorem v1_2 (H : Holds m c p) (i : S2048x1024.Idx) : W2 m ρ c (Proc.devRef .tc main_v1) i = ((p.hf (i 0).val (i 1).val : ℝ) : EReal) :=
  congrFun ((W2_arr m ρ c 2).trans (ffn_norm (V1 m ρ) c (fun i => (congrFun (W1_args m ρ c main_arg0 (by decide)) i).trans (H.x i)) (v0_1 ρ H))) i

theorem v2_3 (H : Holds m c p) (i : S2048x2816.Idx) : W3 m ρ c (Proc.devRef .tc main_v2) i = ((p.up (i 0).val (i 1).val : ℝ) : EReal) :=
  congrFun ((W3_arr m ρ c 2).trans (up_gate (V2 m ρ) c (v1_2 ρ H) (fun i => (congrFun (W2_args m ρ c main_arg2 (by decide)) i).trans (H.w i)))) i

theorem v1_2_3 : W3 m ρ c (Proc.devRef .tc main_v1) = W2 m ρ c (Proc.devRef .tc main_v1) :=
  (W3_of m ρ c main_v1 (by decide +kernel))

theorem v1_3 (H : Holds m c p) (i : S2048x1024.Idx) : W3 m ρ c (Proc.devRef .tc main_v1) i = ((p.hf (i 0).val (i 1).val : ℝ) : EReal) :=
  (congrFun (v1_2_3 ρ) i).trans (v1_2 ρ H i)

theorem v3_4 (H : Holds m c p) (i : S2048x2816.Idx) : W4 m ρ c (Proc.devRef .tc main_v3) i = ((p.up (i 0).val ((i 1).val + 2816) : ℝ) : EReal) :=
  congrFun ((W4_arr m ρ c 2).trans (up_value (V3 m ρ) c (v1_3 ρ H) (fun i => (congrFun (W3_args m ρ c main_arg2 (by decide)) i).trans (H.w i)))) i

theorem v2_3_5 : W5 m ρ c (Proc.devRef .tc main_v2) = W3 m ρ c (Proc.devRef .tc main_v2) :=
  (W5_of m ρ c main_v2 (by decide +kernel)).trans
    ((W4_of m ρ c main_v2 (by decide +kernel)))

theorem v2_5 (H : Holds m c p) (i : S2048x2816.Idx) : W5 m ρ c (Proc.devRef .tc main_v2) i = ((p.up (i 0).val (i 1).val : ℝ) : EReal) :=
  (congrFun (v2_3_5 ρ) i).trans (v2_3 ρ H i)

theorem v3_4_5 : W5 m ρ c (Proc.devRef .tc main_v3) = W4 m ρ c (Proc.devRef .tc main_v3) :=
  (W5_of m ρ c main_v3 (by decide +kernel))

theorem v3_5 (H : Holds m c p) (i : S2048x2816.Idx) : W5 m ρ c (Proc.devRef .tc main_v3) i = ((p.up (i 0).val ((i 1).val + 2816) : ℝ) : EReal) :=
  (congrFun (v3_4_5 ρ) i).trans (v3_4 ρ H i)

theorem v4_5 (H : Holds m c p) (i : S1x5632.Idx) : W5 m ρ c (Proc.devRef .tc main_v4) i = ((p.cb (i 1).val : ℝ) : EReal) := by
  have h : W5 m ρ c (Proc.devRef .tc main_v4) = shapeCast S1x5632 (W4 m ρ c (Proc.devRef .tc main_arg4)) shapeCasts_S5632_S1x5632 := by
    show StableHlo.after hostOps3 (W4 m ρ c) (Proc.devRef .tc main_v4) = _
    after_results
    all_goals rfl
  rw [h]
  idx_vars i
  pointwise
  exact (congrFun (W4_args m ρ c main_arg4 (by decide)) _).trans (H.cb _)

theorem v5_6 (H : Holds m c p) (i : S2048x2816.Idx) : W6 m ρ c (Proc.devRef .tc main_v5) i = ((act p.u (i 0).val (i 1).val : ℝ) : EReal) :=
  congrFun ((W6_arr m ρ c 6).trans (ffn_act (V5 m ρ) c (v2_5 ρ H) (v3_5 ρ H) (fun i => (congrFun (W5_args m ρ c main_arg3 (by decide)) i).trans (H.cw i)) (v4_5 ρ H))) i

theorem v6_7 (H : Holds m c p) (i : S2048x1024.Idx) : W7 m ρ c (Proc.devRef .tc main_v6) i = ((p.out (i 0).val (i 1).val : ℝ) : EReal) :=
  congrFun ((W7_arr m ρ c 3).trans (ffn_out (V6 m ρ) c (v5_6 ρ H) (fun i => (congrFun (W6_args m ρ c main_arg5 (by decide)) i).trans (H.wd i)) (fun i => (congrFun (W6_args m ρ c main_arg0 (by decide)) i).trans (H.x i)))) i

theorem v7_8 (H : Holds m c p) (i : S2048x1024.Idx) : W8 m ρ c (Proc.devRef .tc main_v7) i = ((p.d (i 0).val (i 1).val : ℝ) : EReal) := by
  have h : W8 m ρ c (Proc.devRef .tc main_v7) = (truncf (F := Ideal) .bf16 (W7 m ρ c (Proc.devRef .tc main_arg6) : Vec Ideal S2048x1024 .f32) bitsLt_bf16_f32 : Vec Ideal S2048x1024 .bf16) := by
    show StableHlo.after hostOps5 (W7 m ρ c) (Proc.devRef .tc main_v7) = _
    after_results
    all_goals rfl
  rw [h]
  idx_vars i
  pointwise
  exact (congrFun (W7_args m ρ c main_arg6 (by decide)) _).trans (H.d _)

theorem v8_9 (H : Holds m c p) (i : S2048x2816.Idx) : W9 m ρ c (Proc.devRef .tc main_v8) i = ((p.dA (i 0).val (i 1).val : ℝ) : EReal) :=
  congrFun ((W9_arr m ρ c 2).trans (ffn_dact (V8 m ρ) c (v7_8 ρ H) (fun i => (congrFun (W8_args m ρ c main_arg5 (by decide)) i).trans (H.wd i)))) i

theorem v5_6_9 : W9 m ρ c (Proc.devRef .tc main_v5) = W6 m ρ c (Proc.devRef .tc main_v5) :=
  (W9_of m ρ c main_v5 (by decide +kernel)).trans
    ((W8_of m ρ c main_v5 (by decide +kernel)).trans
    ((W7_of m ρ c main_v5 (by decide +kernel))))

theorem v5_9 (H : Holds m c p) (i : S2048x2816.Idx) : W9 m ρ c (Proc.devRef .tc main_v5) i = ((act p.u (i 0).val (i 1).val : ℝ) : EReal) :=
  (congrFun (v5_6_9 ρ) i).trans (v5_6 ρ H i)

theorem v7_8_9 : W9 m ρ c (Proc.devRef .tc main_v7) = W8 m ρ c (Proc.devRef .tc main_v7) :=
  (W9_of m ρ c main_v7 (by decide +kernel))

theorem v7_9 (H : Holds m c p) (i : S2048x1024.Idx) : W9 m ρ c (Proc.devRef .tc main_v7) i = ((p.d (i 0).val (i 1).val : ℝ) : EReal) :=
  (congrFun (v7_8_9 ρ) i).trans (v7_8 ρ H i)

theorem v9_10 (H : Holds m c p) (i : S2816x1024.Idx) : W10 m ρ c (Proc.devRef .tc main_v9) i = ((p.dwd (i 0).val (i 1).val : ℝ) : EReal) :=
  congrFun ((W10_arr m ρ c 2).trans (ffn_ddown (V9 m ρ) c (v5_9 ρ H) (v7_9 ρ H))) i

theorem v10_11 (H : Holds m c p) (i : S1x5632.Idx) : W11 m ρ c (Proc.devRef .tc main_v10) i = ((p.cb (i 1).val : ℝ) : EReal) := by
  have h : W11 m ρ c (Proc.devRef .tc main_v10) = shapeCast S1x5632 (W10 m ρ c (Proc.devRef .tc main_arg4)) shapeCasts_S5632_S1x5632 := by
    show StableHlo.after hostOps7 (W10 m ρ c) (Proc.devRef .tc main_v10) = _
    after_results
    all_goals rfl
  rw [h]
  idx_vars i
  pointwise
  exact (congrFun (W10_args m ρ c main_arg4 (by decide)) _).trans (H.cb _)

theorem v2_5_11 : W11 m ρ c (Proc.devRef .tc main_v2) = W5 m ρ c (Proc.devRef .tc main_v2) :=
  (W11_of m ρ c main_v2 (by decide +kernel)).trans
    ((W10_of m ρ c main_v2 (by decide +kernel)).trans
    ((W9_of m ρ c main_v2 (by decide +kernel)).trans
    ((W8_of m ρ c main_v2 (by decide +kernel)).trans
    ((W7_of m ρ c main_v2 (by decide +kernel)).trans
    ((W6_of m ρ c main_v2 (by decide +kernel)))))))

theorem v2_11 (H : Holds m c p) (i : S2048x2816.Idx) : W11 m ρ c (Proc.devRef .tc main_v2) i = ((p.up (i 0).val (i 1).val : ℝ) : EReal) :=
  (congrFun (v2_5_11 ρ) i).trans (v2_5 ρ H i)

theorem v3_5_11 : W11 m ρ c (Proc.devRef .tc main_v3) = W5 m ρ c (Proc.devRef .tc main_v3) :=
  (W11_of m ρ c main_v3 (by decide +kernel)).trans
    ((W10_of m ρ c main_v3 (by decide +kernel)).trans
    ((W9_of m ρ c main_v3 (by decide +kernel)).trans
    ((W8_of m ρ c main_v3 (by decide +kernel)).trans
    ((W7_of m ρ c main_v3 (by decide +kernel)).trans
    ((W6_of m ρ c main_v3 (by decide +kernel)))))))

theorem v3_11 (H : Holds m c p) (i : S2048x2816.Idx) : W11 m ρ c (Proc.devRef .tc main_v3) i = ((p.up (i 0).val ((i 1).val + 2816) : ℝ) : EReal) :=
  (congrFun (v3_5_11 ρ) i).trans (v3_5 ρ H i)

theorem v8_9_11 : W11 m ρ c (Proc.devRef .tc main_v8) = W9 m ρ c (Proc.devRef .tc main_v8) :=
  (W11_of m ρ c main_v8 (by decide +kernel)).trans
    ((W10_of m ρ c main_v8 (by decide +kernel)))

theorem v8_11 (H : Holds m c p) (i : S2048x2816.Idx) : W11 m ρ c (Proc.devRef .tc main_v8) i = ((p.dA (i 0).val (i 1).val : ℝ) : EReal) :=
  (congrFun (v8_9_11 ρ) i).trans (v8_9 ρ H i)

theorem reads7 (H : Holds m c p) : Reads7 (V11 m ρ) c p.up p.cw p.dA p.cb where
  h0 := v2_11 ρ H
  h1 := v3_11 ρ H
  h2 := (fun i => (congrFun (W11_args m ρ c main_arg3 (by decide)) i).trans (H.cw i))
  h3 := v10_11 ρ H
  h4 := v8_11 ρ H

theorem v11_0_12 (H : Holds m c p) (i : S2048x2816.Idx) : W12 m ρ c (Proc.devRef .tc main_v11_0) i = ((p.dup (i 0).val (i 1).val : ℝ) : EReal) :=
  congrFun ((W12_arr m ρ c 7).trans (dup_gate (reads7 ρ H))) i

theorem v11_1_12 (H : Holds m c p) (i : S2048x2816.Idx) : W12 m ρ c (Proc.devRef .tc main_v11_1) i = ((p.dup (i 0).val ((i 1).val + 2816) : ℝ) : EReal) :=
  congrFun ((W12_arr m ρ c 8).trans (dup_value (reads7 ρ H))) i

theorem v11_2_12 (H : Holds m c p) (i : S3x2816.Idx) : W12 m ρ c (Proc.devRef .tc main_v11_2) i = ((p.dcw (i 0).val (i 1).val : ℝ) : EReal) :=
  congrFun ((W12_arr m ρ c 9).trans (dcw_gate (reads7 ρ H))) i

theorem v11_3_12 (H : Holds m c p) (i : S3x2816.Idx) : W12 m ρ c (Proc.devRef .tc main_v11_3) i = ((p.dcw (i 0).val ((i 1).val + 2816) : ℝ) : EReal) :=
  congrFun ((W12_arr m ρ c 10).trans (dcw_value (reads7 ρ H))) i

theorem v11_4_12 (H : Holds m c p) (i : S1x2816.Idx) : W12 m ρ c (Proc.devRef .tc main_v11_4) i = ((p.dcb (i 1).val : ℝ) : EReal) :=
  congrFun ((W12_arr m ρ c 11).trans (dcb_gate (reads7 ρ H))) i

theorem v11_5_12 (H : Holds m c p) (i : S1x2816.Idx) : W12 m ρ c (Proc.devRef .tc main_v11_5) i = ((p.dcb ((i 1).val + 2816) : ℝ) : EReal) :=
  congrFun ((W12_arr m ρ c 12).trans (dcb_value (reads7 ρ H))) i

/-- Two arrays beside each other along the columns. -/
theorem beside3 (a b : Vec Ideal S3x2816 .f32) {e : ℕ → ℕ → ℝ}
    (ha : ∀ i : S3x2816.Idx, a i = ((e (i 0).val (i 1).val : ℝ) : EReal)) (hb : ∀ i : S3x2816.Idx, b i = ((e (i 0).val ((i 1).val + 2816) : ℝ) : EReal))
    (i : S3x5632.Idx) : concatenate S3x5632 1 [⟨S3x2816, a⟩, ⟨S3x2816, b⟩] concatenates_S3x2816_S3x2816_S3x5632_d1 i
      = ((e (i 0).val (i 1).val : ℝ) : EReal) := by
  idx_vars i
  pointwise
  split
  · exact ha _
  · rename_i h
    refine (hb _).trans ?_
    show ((e i0.val (i1.val - 2816 + 2816) : ℝ) : EReal) = _
    rw [Nat.sub_add_cancel (by omega)]

theorem beside1 (a b : Vec Ideal S1x2816 .f32) {e : ℕ → ℝ}
    (ha : ∀ i : S1x2816.Idx, a i = ((e (i 1).val : ℝ) : EReal)) (hb : ∀ i : S1x2816.Idx, b i = ((e ((i 1).val + 2816) : ℝ) : EReal))
    (i : S1x5632.Idx) : concatenate S1x5632 1 [⟨S1x2816, a⟩, ⟨S1x2816, b⟩] concatenates_S1x2816_S1x2816_S1x5632_d1 i
      = ((e (i 1).val : ℝ) : EReal) := by
  idx_vars i
  pointwise
  split
  · exact ha _
  · rename_i h
    refine (hb _).trans ?_
    show ((e (i1.val - 2816 + 2816) : ℝ) : EReal) = _
    rw [Nat.sub_add_cancel (by omega)]

theorem atop (a b : Vec Ideal S2x1024x1408 .bf16) {e : ℕ → ℕ → ℕ → ℝ}
    (ha : ∀ i : S2x1024x1408.Idx, a i = ((e (i 0).val (i 1).val (i 2).val : ℝ) : EReal))
    (hb : ∀ i : S2x1024x1408.Idx, b i = ((e ((i 0).val + 2) (i 1).val (i 2).val : ℝ) : EReal))
    (i : S4x1024x1408.Idx) : concatenate S4x1024x1408 0 [⟨S2x1024x1408, a⟩, ⟨S2x1024x1408, b⟩] concatenates_S2x1024x1408_S2x1024x1408_S4x1024x1408_d0 i
      = ((e (i 0).val (i 1).val (i 2).val : ℝ) : EReal) := by
  idx_vars i
  pointwise
  split
  · exact ha _
  · rename_i h
    refine (hb _).trans ?_
    show ((e (i0.val - 2 + 2) i1.val i2.val : ℝ) : EReal) = _
    rw [Nat.sub_add_cancel (by omega)]

theorem v12_13 (H : Holds m c p) (i : S3x5632.Idx) : W13 m ρ c (Proc.devRef .tc main_v12) i = ((p.dcw (i 0).val (i 1).val : ℝ) : EReal) := by
  have h : W13 m ρ c (Proc.devRef .tc main_v12) = concatenate S3x5632 1 [⟨S3x2816, (W12 m ρ c (Proc.devRef .tc main_v11_2))⟩, ⟨S3x2816, (W12 m ρ c (Proc.devRef .tc main_v11_3))⟩] concatenates_S3x2816_S3x2816_S3x5632_d1 := by
    show StableHlo.after hostOps8 (W12 m ρ c) (Proc.devRef .tc main_v12) = _
    after_results
    all_goals rfl
  rw [h]
  exact beside3 _ _ (v11_2_12 ρ H) (v11_3_12 ρ H) i

theorem v14_13 (H : Holds m c p) (i : S5632.Idx) : W13 m ρ c (Proc.devRef .tc main_v14) i = ((p.dcb (i 0).val : ℝ) : EReal) := by
  have h : W13 m ρ c (Proc.devRef .tc main_v14) = shapeCast S5632 (concatenate S1x5632 1 [⟨S1x2816, (W12 m ρ c (Proc.devRef .tc main_v11_4))⟩, ⟨S1x2816, (W12 m ρ c (Proc.devRef .tc main_v11_5))⟩] concatenates_S1x2816_S1x2816_S1x5632_d1) shapeCasts_S1x5632_S5632 := by
    show StableHlo.after hostOps8 (W12 m ρ c) (Proc.devRef .tc main_v14) = _
    after_results
    all_goals rfl
  rw [h]
  refine Eq.trans ?_ (beside1 _ _ (v11_4_12 ρ H) (v11_5_12 ρ H) (ix2 (0 : Fin 1) (i 0)))
  generalize concatenate S1x5632 1 _ _ = q
  idx_vars i
  pointwise

theorem v11_0_12_13 : W13 m ρ c (Proc.devRef .tc main_v11_0) = W12 m ρ c (Proc.devRef .tc main_v11_0) :=
  (W13_of m ρ c main_v11_0 (by decide +kernel))

theorem v11_0_13 (H : Holds m c p) (i : S2048x2816.Idx) : W13 m ρ c (Proc.devRef .tc main_v11_0) i = ((p.dup (i 0).val (i 1).val : ℝ) : EReal) :=
  (congrFun (v11_0_12_13 ρ) i).trans (v11_0_12 ρ H i)

theorem v15_14 (H : Holds m c p) (i : S2048x1024.Idx) : W14 m ρ c (Proc.devRef .tc main_v15) i = ((mmT 1408 p.dup (p.w 0) (i 0).val (i 1).val : ℝ) : EReal) :=
  congrFun ((W14_arr m ρ c 2).trans (ffn_dx0 (V13 m ρ) c (v11_0_13 ρ H) (fun i => (congrFun (W13_args m ρ c main_arg2 (by decide)) i).trans (H.w i)))) i

theorem v11_0_13_14 : W14 m ρ c (Proc.devRef .tc main_v11_0) = W13 m ρ c (Proc.devRef .tc main_v11_0) :=
  (W14_of m ρ c main_v11_0 (by decide +kernel))

theorem v11_0_14 (H : Holds m c p) (i : S2048x2816.Idx) : W14 m ρ c (Proc.devRef .tc main_v11_0) i = ((p.dup (i 0).val (i 1).val : ℝ) : EReal) :=
  (congrFun (v11_0_13_14 ρ) i).trans (v11_0_13 ρ H i)

theorem v16_15 (H : Holds m c p) (i : S2048x1024.Idx) : W15 m ρ c (Proc.devRef .tc main_v16) i = ((mmT 1408 (fun i k => p.dup i (1 * 1408 + k)) (p.w 1) (i 0).val (i 1).val + mmT 1408 p.dup (p.w 0) (i 0).val (i 1).val : ℝ) : EReal) :=
  congrFun ((W15_arr m ρ c 3).trans (ffn_dx1 (V14 m ρ) c (v11_0_14 ρ H) (fun i => (congrFun (W14_args m ρ c main_arg2 (by decide)) i).trans (H.w i)) (e := mmT 1408 p.dup (p.w 0)) (v15_14 ρ H))) i

theorem v11_1_12_15 : W15 m ρ c (Proc.devRef .tc main_v11_1) = W12 m ρ c (Proc.devRef .tc main_v11_1) :=
  (W15_of m ρ c main_v11_1 (by decide +kernel)).trans
    ((W14_of m ρ c main_v11_1 (by decide +kernel)).trans
    ((W13_of m ρ c main_v11_1 (by decide +kernel))))

theorem v11_1_15 (H : Holds m c p) (i : S2048x2816.Idx) : W15 m ρ c (Proc.devRef .tc main_v11_1) i = ((p.dup (i 0).val ((i 1).val + 2816) : ℝ) : EReal) :=
  (congrFun (v11_1_12_15 ρ) i).trans (v11_1_12 ρ H i)

theorem v17_16 (H : Holds m c p) (i : S2048x1024.Idx) : W16 m ρ c (Proc.devRef .tc main_v17) i = ((mmT 1408 (fun i k => p.dup i (k + 2816)) (p.w 2) (i 0).val (i 1).val + (mmT 1408 (fun i k => p.dup i (1 * 1408 + k)) (p.w 1) (i 0).val (i 1).val + mmT 1408 p.dup (p.w 0) (i 0).val (i 1).val) : ℝ) : EReal) :=
  congrFun ((W16_arr m ρ c 3).trans (ffn_dx2 (V15 m ρ) c (a := fun i k => p.dup i (k + 2816)) (v11_1_15 ρ H) (fun i => (congrFun (W15_args m ρ c main_arg2 (by decide)) i).trans (H.w i)) (e := fun i j => mmT 1408 (fun i k => p.dup i (1 * 1408 + k)) (p.w 1) i j + mmT 1408 p.dup (p.w 0) i j) (v16_15 ρ H))) i

theorem v11_1_15_16 : W16 m ρ c (Proc.devRef .tc main_v11_1) = W15 m ρ c (Proc.devRef .tc main_v11_1) :=
  (W16_of m ρ c main_v11_1 (by decide +kernel))

theorem v11_1_16 (H : Holds m c p) (i : S2048x2816.Idx) : W16 m ρ c (Proc.devRef .tc main_v11_1) i = ((p.dup (i 0).val ((i 1).val + 2816) : ℝ) : EReal) :=
  (congrFun (v11_1_15_16 ρ) i).trans (v11_1_15 ρ H i)

theorem v18_17 (H : Holds m c p) (i : S2048x1024.Idx) : W17 m ρ c (Proc.devRef .tc main_v18) i = ((p.dhf (i 0).val (i 1).val : ℝ) : EReal) := by
  refine Eq.trans ?_ (congrArg (fun r : ℝ => (r : EReal)) (p.dhf_blocks (i 0).val (i 1).val))
  exact congrFun ((W17_arr m ρ c 3).trans (ffn_dx3 (V16 m ρ) c (a := fun i k => p.dup i (k + 2816)) (v11_1_16 ρ H) (fun i => (congrFun (W16_args m ρ c main_arg2 (by decide)) i).trans (H.w i)) (e := fun i j => mmT 1408 (fun i k => p.dup i (k + 2816)) (p.w 2) i j + (mmT 1408 (fun i k => p.dup i (1 * 1408 + k)) (p.w 1) i j + mmT 1408 p.dup (p.w 0) i j)) (v17_16 ρ H))) i

theorem v1_3_17 : W17 m ρ c (Proc.devRef .tc main_v1) = W3 m ρ c (Proc.devRef .tc main_v1) :=
  (W17_of m ρ c main_v1 (by decide +kernel)).trans
    ((W16_of m ρ c main_v1 (by decide +kernel)).trans
    ((W15_of m ρ c main_v1 (by decide +kernel)).trans
    ((W14_of m ρ c main_v1 (by decide +kernel)).trans
    ((W13_of m ρ c main_v1 (by decide +kernel)).trans
    ((W12_of m ρ c main_v1 (by decide +kernel)).trans
    ((W11_of m ρ c main_v1 (by decide +kernel)).trans
    ((W10_of m ρ c main_v1 (by decide +kernel)).trans
    ((W9_of m ρ c main_v1 (by decide +kernel)).trans
    ((W8_of m ρ c main_v1 (by decide +kernel)).trans
    ((W7_of m ρ c main_v1 (by decide +kernel)).trans
    ((W6_of m ρ c main_v1 (by decide +kernel)).trans
    ((W5_of m ρ c main_v1 (by decide +kernel)).trans
    ((W4_of m ρ c main_v1 (by decide +kernel)))))))))))))))

theorem v1_17 (H : Holds m c p) (i : S2048x1024.Idx) : W17 m ρ c (Proc.devRef .tc main_v1) i = ((p.hf (i 0).val (i 1).val : ℝ) : EReal) :=
  (congrFun (v1_3_17 ρ) i).trans (v1_3 ρ H i)

theorem v11_0_14_17 : W17 m ρ c (Proc.devRef .tc main_v11_0) = W14 m ρ c (Proc.devRef .tc main_v11_0) :=
  (W17_of m ρ c main_v11_0 (by decide +kernel)).trans
    ((W16_of m ρ c main_v11_0 (by decide +kernel)).trans
    ((W15_of m ρ c main_v11_0 (by decide +kernel))))

theorem v11_0_17 (H : Holds m c p) (i : S2048x2816.Idx) : W17 m ρ c (Proc.devRef .tc main_v11_0) i = ((p.dup (i 0).val (i 1).val : ℝ) : EReal) :=
  (congrFun (v11_0_14_17 ρ) i).trans (v11_0_14 ρ H i)

theorem v19_18 (H : Holds m c p) (i : S2x1024x1408.Idx) : W18 m ρ c (Proc.devRef .tc main_v19) i = ((p.dw (i 0).val (i 1).val (i 2).val : ℝ) : EReal) :=
  congrFun ((W18_arr m ρ c 2).trans (ffn_dup0 (V17 m ρ) c (v1_17 ρ H) (v11_0_17 ρ H))) i

theorem v1_17_18 : W18 m ρ c (Proc.devRef .tc main_v1) = W17 m ρ c (Proc.devRef .tc main_v1) :=
  (W18_of m ρ c main_v1 (by decide +kernel))

theorem v1_18 (H : Holds m c p) (i : S2048x1024.Idx) : W18 m ρ c (Proc.devRef .tc main_v1) i = ((p.hf (i 0).val (i 1).val : ℝ) : EReal) :=
  (congrFun (v1_17_18 ρ) i).trans (v1_17 ρ H i)

theorem v11_1_16_18 : W18 m ρ c (Proc.devRef .tc main_v11_1) = W16 m ρ c (Proc.devRef .tc main_v11_1) :=
  (W18_of m ρ c main_v11_1 (by decide +kernel)).trans
    ((W17_of m ρ c main_v11_1 (by decide +kernel)))

theorem v11_1_18 (H : Holds m c p) (i : S2048x2816.Idx) : W18 m ρ c (Proc.devRef .tc main_v11_1) i = ((p.dup (i 0).val ((i 1).val + 2816) : ℝ) : EReal) :=
  (congrFun (v11_1_16_18 ρ) i).trans (v11_1_16 ρ H i)

theorem v20_19 (H : Holds m c p) (i : S2x1024x1408.Idx) : W19 m ρ c (Proc.devRef .tc main_v20) i = ((p.dw ((i 0).val + 2) (i 1).val (i 2).val : ℝ) : EReal) := by
  refine (congrFun ((W19_arr m ρ c 2).trans (ffn_dup1 (V18 m ρ) c (b := fun i k => p.dup i (k + 2816)) (v1_18 ρ H) (v11_1_18 ρ H))) i).trans ?_
  have h : (i 0).val * 1408 + (i 2).val + 2816 = ((i 0).val + 2) * 1408 + (i 2).val := by omega
  unfold Sub.dw tmm
  simp only [h]

theorem v19_18_19 : W19 m ρ c (Proc.devRef .tc main_v19) = W18 m ρ c (Proc.devRef .tc main_v19) :=
  (W19_of m ρ c main_v19 (by decide +kernel))

theorem v19_19 (H : Holds m c p) (i : S2x1024x1408.Idx) : W19 m ρ c (Proc.devRef .tc main_v19) i = ((p.dw (i 0).val (i 1).val (i 2).val : ℝ) : EReal) :=
  (congrFun (v19_18_19 ρ) i).trans (v19_18 ρ H i)

theorem v21_20 (H : Holds m c p) (i : S4x1024x1408.Idx) : W20 m ρ c (Proc.devRef .tc main_v21) i = ((p.dw (i 0).val (i 1).val (i 2).val : ℝ) : EReal) := by
  have h : W20 m ρ c (Proc.devRef .tc main_v21) = concatenate S4x1024x1408 0 [⟨S2x1024x1408, (W19 m ρ c (Proc.devRef .tc main_v19))⟩, ⟨S2x1024x1408, (W19 m ρ c (Proc.devRef .tc main_v20))⟩] concatenates_S2x1024x1408_S2x1024x1408_S4x1024x1408_d0 := by
    show StableHlo.after hostOps14 (W19 m ρ c) (Proc.devRef .tc main_v21) = _
    after_results
    all_goals rfl
  rw [h]
  exact atop _ _ (v19_19 ρ H) (v20_19 ρ H) i

theorem v22_20 (H : Holds m c p) (i : S1x1024.Idx) : W20 m ρ c (Proc.devRef .tc main_v22) i = ((p.g (i 1).val : ℝ) : EReal) := by
  have h : W20 m ρ c (Proc.devRef .tc main_v22) = shapeCast S1x1024 (W19 m ρ c (Proc.devRef .tc main_arg1)) shapeCasts_S1024_S1x1024 := by
    show StableHlo.after hostOps14 (W19 m ρ c) (Proc.devRef .tc main_v22) = _
    after_results
    all_goals rfl
  rw [h]
  idx_vars i
  pointwise
  exact (congrFun (W19_args m ρ c main_arg1 (by decide)) _).trans (H.g _)

theorem v18_17_20 : W20 m ρ c (Proc.devRef .tc main_v18) = W17 m ρ c (Proc.devRef .tc main_v18) :=
  (W20_of m ρ c main_v18 (by decide +kernel)).trans
    ((W19_of m ρ c main_v18 (by decide +kernel)).trans
    ((W18_of m ρ c main_v18 (by decide +kernel))))

theorem v18_20 (H : Holds m c p) (i : S2048x1024.Idx) : W20 m ρ c (Proc.devRef .tc main_v18) i = ((p.dhf (i 0).val (i 1).val : ℝ) : EReal) :=
  (congrFun (v18_17_20 ρ) i).trans (v18_17 ρ H i)

theorem v23_0_21 (H : Holds m c p) (i : S2048x1024.Idx) : W21 m ρ c (Proc.devRef .tc main_v23_0) i = ((p.dx (i 0).val (i 1).val : ℝ) : EReal) :=
  congrFun ((W21_arr m ρ c 4).trans (ffn_dx (V := V20 m ρ) (c := c) (fun i => (congrFun (W20_args m ρ c main_arg0 (by decide)) i).trans (H.x i)) (v22_20 ρ H) (v18_20 ρ H) (fun i => (congrFun (W20_args m ρ c main_arg6 (by decide)) i).trans (H.d i)))) i

theorem v23_1_21 (H : Holds m c p) (i : S2048x1024.Idx) : W21 m ρ c (Proc.devRef .tc main_v23_1) i = ((p.dx (i 0).val (i 1).val : ℝ) : EReal) :=
  congrFun ((W21_arr m ρ c 5).trans (ffn_dxb (V := V20 m ρ) (c := c) (fun i => (congrFun (W20_args m ρ c main_arg0 (by decide)) i).trans (H.x i)) (v22_20 ρ H) (v18_20 ρ H) (fun i => (congrFun (W20_args m ρ c main_arg6 (by decide)) i).trans (H.d i)))) i

theorem v23_2_21 (H : Holds m c p) (i : S1x1024.Idx) : W21 m ρ c (Proc.devRef .tc main_v23_2) i = ((p.dg (i 1).val : ℝ) : EReal) :=
  congrFun ((W21_arr m ρ c 6).trans (ffn_dg (V := V20 m ρ) (c := c) (fun i => (congrFun (W20_args m ρ c main_arg0 (by decide)) i).trans (H.x i)) (v18_20 ρ H))) i

theorem v24_22 (H : Holds m c p) (i : S1024.Idx) : W22 m ρ c (Proc.devRef .tc main_v24) i = ((p.dg (i 0).val : ℝ) : EReal) := by
  have h : W22 m ρ c (Proc.devRef .tc main_v24) = shapeCast S1024 (W21 m ρ c (Proc.devRef .tc main_v23_2)) shapeCasts_S1x1024_S1024 := by
    show StableHlo.after hostOps15 (W21 m ρ c) (Proc.devRef .tc main_v24) = _
    after_results
    all_goals rfl
  rw [h]
  refine Eq.trans ?_ (v23_2_21 ρ H (ix2 (0 : Fin 1) (i 0)))
  generalize W21 m ρ c (Proc.devRef .tc main_v23_2) = q
  idx_vars i
  pointwise

theorem v6_7_22 : W22 m ρ c (Proc.devRef .tc main_v6) = W7 m ρ c (Proc.devRef .tc main_v6) :=
  (W22_of m ρ c main_v6 (by decide +kernel)).trans
    ((W21_of m ρ c main_v6 (by decide +kernel)).trans
    ((W20_of m ρ c main_v6 (by decide +kernel)).trans
    ((W19_of m ρ c main_v6 (by decide +kernel)).trans
    ((W18_of m ρ c main_v6 (by decide +kernel)).trans
    ((W17_of m ρ c main_v6 (by decide +kernel)).trans
    ((W16_of m ρ c main_v6 (by decide +kernel)).trans
    ((W15_of m ρ c main_v6 (by decide +kernel)).trans
    ((W14_of m ρ c main_v6 (by decide +kernel)).trans
    ((W13_of m ρ c main_v6 (by decide +kernel)).trans
    ((W12_of m ρ c main_v6 (by decide +kernel)).trans
    ((W11_of m ρ c main_v6 (by decide +kernel)).trans
    ((W10_of m ρ c main_v6 (by decide +kernel)).trans
    ((W9_of m ρ c main_v6 (by decide +kernel)).trans
    ((W8_of m ρ c main_v6 (by decide +kernel))))))))))))))))

theorem v6_22 (H : Holds m c p) (i : S2048x1024.Idx) : W22 m ρ c (Proc.devRef .tc main_v6) i = ((p.out (i 0).val (i 1).val : ℝ) : EReal) :=
  (congrFun (v6_7_22 ρ) i).trans (v6_7 ρ H i)

theorem v9_10_22 : W22 m ρ c (Proc.devRef .tc main_v9) = W10 m ρ c (Proc.devRef .tc main_v9) :=
  (W22_of m ρ c main_v9 (by decide +kernel)).trans
    ((W21_of m ρ c main_v9 (by decide +kernel)).trans
    ((W20_of m ρ c main_v9 (by decide +kernel)).trans
    ((W19_of m ρ c main_v9 (by decide +kernel)).trans
    ((W18_of m ρ c main_v9 (by decide +kernel)).trans
    ((W17_of m ρ c main_v9 (by decide +kernel)).trans
    ((W16_of m ρ c main_v9 (by decide +kernel)).trans
    ((W15_of m ρ c main_v9 (by decide +kernel)).trans
    ((W14_of m ρ c main_v9 (by decide +kernel)).trans
    ((W13_of m ρ c main_v9 (by decide +kernel)).trans
    ((W12_of m ρ c main_v9 (by decide +kernel)).trans
    ((W11_of m ρ c main_v9 (by decide +kernel)))))))))))))

theorem v9_22 (H : Holds m c p) (i : S2816x1024.Idx) : W22 m ρ c (Proc.devRef .tc main_v9) i = ((p.dwd (i 0).val (i 1).val : ℝ) : EReal) :=
  (congrFun (v9_10_22 ρ) i).trans (v9_10 ρ H i)

theorem v12_13_22 : W22 m ρ c (Proc.devRef .tc main_v12) = W13 m ρ c (Proc.devRef .tc main_v12) :=
  (W22_of m ρ c main_v12 (by decide +kernel)).trans
    ((W21_of m ρ c main_v12 (by decide +kernel)).trans
    ((W20_of m ρ c main_v12 (by decide +kernel)).trans
    ((W19_of m ρ c main_v12 (by decide +kernel)).trans
    ((W18_of m ρ c main_v12 (by decide +kernel)).trans
    ((W17_of m ρ c main_v12 (by decide +kernel)).trans
    ((W16_of m ρ c main_v12 (by decide +kernel)).trans
    ((W15_of m ρ c main_v12 (by decide +kernel)).trans
    ((W14_of m ρ c main_v12 (by decide +kernel))))))))))

theorem v12_22 (H : Holds m c p) (i : S3x5632.Idx) : W22 m ρ c (Proc.devRef .tc main_v12) i = ((p.dcw (i 0).val (i 1).val : ℝ) : EReal) :=
  (congrFun (v12_13_22 ρ) i).trans (v12_13 ρ H i)

theorem v14_13_22 : W22 m ρ c (Proc.devRef .tc main_v14) = W13 m ρ c (Proc.devRef .tc main_v14) :=
  (W22_of m ρ c main_v14 (by decide +kernel)).trans
    ((W21_of m ρ c main_v14 (by decide +kernel)).trans
    ((W20_of m ρ c main_v14 (by decide +kernel)).trans
    ((W19_of m ρ c main_v14 (by decide +kernel)).trans
    ((W18_of m ρ c main_v14 (by decide +kernel)).trans
    ((W17_of m ρ c main_v14 (by decide +kernel)).trans
    ((W16_of m ρ c main_v14 (by decide +kernel)).trans
    ((W15_of m ρ c main_v14 (by decide +kernel)).trans
    ((W14_of m ρ c main_v14 (by decide +kernel))))))))))

theorem v14_22 (H : Holds m c p) (i : S5632.Idx) : W22 m ρ c (Proc.devRef .tc main_v14) i = ((p.dcb (i 0).val : ℝ) : EReal) :=
  (congrFun (v14_13_22 ρ) i).trans (v14_13 ρ H i)

theorem v21_20_22 : W22 m ρ c (Proc.devRef .tc main_v21) = W20 m ρ c (Proc.devRef .tc main_v21) :=
  (W22_of m ρ c main_v21 (by decide +kernel)).trans
    ((W21_of m ρ c main_v21 (by decide +kernel)))

theorem v21_22 (H : Holds m c p) (i : S4x1024x1408.Idx) : W22 m ρ c (Proc.devRef .tc main_v21) i = ((p.dw (i 0).val (i 1).val (i 2).val : ℝ) : EReal) :=
  (congrFun (v21_20_22 ρ) i).trans (v21_20 ρ H i)

theorem v23_0_21_22 : W22 m ρ c (Proc.devRef .tc main_v23_0) = W21 m ρ c (Proc.devRef .tc main_v23_0) :=
  (W22_of m ρ c main_v23_0 (by decide +kernel))

theorem v23_0_22 (H : Holds m c p) (i : S2048x1024.Idx) : W22 m ρ c (Proc.devRef .tc main_v23_0) i = ((p.dx (i 0).val (i 1).val : ℝ) : EReal) :=
  (congrFun (v23_0_21_22 ρ) i).trans (v23_0_21 ρ H i)

theorem v23_1_21_22 : W22 m ρ c (Proc.devRef .tc main_v23_1) = W21 m ρ c (Proc.devRef .tc main_v23_1) :=
  (W22_of m ρ c main_v23_1 (by decide +kernel))

theorem v23_1_22 (H : Holds m c p) (i : S2048x1024.Idx) : W22 m ρ c (Proc.devRef .tc main_v23_1) i = ((p.dx (i 0).val (i 1).val : ℝ) : EReal) :=
  (congrFun (v23_1_21_22 ρ) i).trans (v23_1_21 ρ H i)

end Cert.Kernel2Ideal.Ffn
end
-- ==== Proof.FfnRun.lean ====
module

public import proofs.«01_k».proof.Proof.Gen.Kernel2Ideal.Frame

@[expose] public section

set_option maxRecDepth 16384

noncomputable section

/-! The run of the feed-forward program at its results: the launch is set up as the frame's, and its end read at the result
    buffers as well as at the arguments. -/

namespace Cert.Kernel2Ideal.Ffn

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each result at the last boundary's contents, the arguments as launched, and the counters at zero. -/
theorem run : θ_run defs (onTc (τ := τ) (main (F := F))) ⟨m, fun _ => 0, ρ⟩ (fun r => (∀ c : Dev nD,
      r.2.mem ((c.tc : Thread nD τ).loc main_v6) = W22 m ρ c (Proc.devRef .tc main_v6)
      ∧ r.2.mem ((c.tc : Thread nD τ).loc main_v23_0) = W22 m ρ c (Proc.devRef .tc main_v23_0)
      ∧ r.2.mem ((c.tc : Thread nD τ).loc main_v23_1) = W22 m ρ c (Proc.devRef .tc main_v23_1)
      ∧ r.2.mem ((c.tc : Thread nD τ).loc main_v24) = W22 m ρ c (Proc.devRef .tc main_v24)
      ∧ r.2.mem ((c.tc : Thread nD τ).loc main_v21) = W22 m ρ c (Proc.devRef .tc main_v21)
      ∧ r.2.mem ((c.tc : Thread nD τ).loc main_v12) = W22 m ρ c (Proc.devRef .tc main_v12)
      ∧ r.2.mem ((c.tc : Thread nD τ).loc main_v14) = W22 m ρ c (Proc.devRef .tc main_v14)
      ∧ r.2.mem ((c.tc : Thread nD τ).loc main_v9) = W22 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h hz => ⟨(fun c =>
      ⟨h c _ (mem_uc main_v6 (by decide)),
       h c _ (mem_uc main_v23_0 (by decide)),
       h c _ (mem_uc main_v23_1 (by decide)),
       h c _ (mem_uc main_v24 (by decide)),
       h c _ (mem_uc main_v21 (by decide)),
       h c _ (mem_uc main_v12 (by decide)),
       h c _ (mem_uc main_v14 (by decide)),
       h c _ (mem_uc main_v9 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c)⟩), funext fun g => hz g (.inr (no_unscoped g.2))⟩)

end Cert.Kernel2Ideal.Ffn
end
-- ==== Proof.FfnRef.lean ====
module

public import proofs.«01_k».proof.Proof.Gen.Reference2Ideal.Read
public import proofs.«01_k».proof.Proof.FfnSub

@[expose] public section

set_option maxRecDepth 16384

noncomputable section

/-! The reference going forward, at an index, over the real numbers. -/

namespace Cert.Reference2Ideal.FfnRef

open Cert.Reference2Ideal Cert.Reference2Ideal.Gen Cert.Reference2Ideal.Read Idealize.ShloMosaic Idealize.ShloMosaic.TcCoe Idealize.SL.Sem
open Cert.AttnReal Cert.FfnReal

/-- The arguments hold the real arrays of `p`. -/
structure Arrs (x0 : (⟨S2048x1024, .f32⟩ : BufTy).Contents (Elt Ideal)) (x1 : (⟨S1024, .f32⟩ : BufTy).Contents (Elt Ideal))
    (x2 : (⟨S4x1024x1408, .bf16⟩ : BufTy).Contents (Elt Ideal)) (x3 : (⟨S3x5632, .f32⟩ : BufTy).Contents (Elt Ideal))
    (x4 : (⟨S5632, .f32⟩ : BufTy).Contents (Elt Ideal)) (x5 : (⟨S2816x1024, .bf16⟩ : BufTy).Contents (Elt Ideal))
    (x6 : (⟨S2048x1024, .f32⟩ : BufTy).Contents (Elt Ideal)) (p : Sub) : Prop where
  x : ∀ i : S2048x1024.Idx, x0 i = ((p.x (i 0).val (i 1).val : ℝ) : EReal)
  g : ∀ i : S1024.Idx, x1 i = ((p.g (i 0).val : ℝ) : EReal)
  w : ∀ i : S4x1024x1408.Idx, x2 i = ((p.w (i 0).val (i 1).val (i 2).val : ℝ) : EReal)
  cw : ∀ i : S3x5632.Idx, x3 i = ((p.cw (i 0).val (i 1).val : ℝ) : EReal)
  cb : ∀ i : S5632.Idx, x4 i = ((p.cb (i 0).val : ℝ) : EReal)
  wd : ∀ i : S2816x1024.Idx, x5 i = ((p.wd (i 0).val (i 1).val : ℝ) : EReal)
  d : ∀ i : S2048x1024.Idx, x6 i = ((p.d (i 0).val (i 1).val : ℝ) : EReal)

variable {x0 : (⟨S2048x1024, .f32⟩ : BufTy).Contents (Elt Ideal)} {x1 : (⟨S1024, .f32⟩ : BufTy).Contents (Elt Ideal)}
  {x2 : (⟨S4x1024x1408, .bf16⟩ : BufTy).Contents (Elt Ideal)} {x3 : (⟨S3x5632, .f32⟩ : BufTy).Contents (Elt Ideal)}
  {x4 : (⟨S5632, .f32⟩ : BufTy).Contents (Elt Ideal)} {x5 : (⟨S2816x1024, .bf16⟩ : BufTy).Contents (Elt Ideal)}
  {x6 : (⟨S2048x1024, .f32⟩ : BufTy).Contents (Elt Ideal)} {p : Sub}

theorem t8 (H : Arrs x0 x1 x2 x3 x4 x5 x6 p) (s : Fin 2048) :
    val_main_v8 (F := Ideal) x0 (ix2 s 0) = ((var p.x s : ℝ) : EReal) := by
  pointwise [val_main_v8, val_main_v7, val_main_v6, val_main_v5, val_main_v4, val_main_v3, val_main_v2, val_main_cst, val_main_cst_0, val_main_cst_1]
  simp only [H.x, width_bits, eps_bits, Ideal.ofBits_zero_f32, zero_add, ← EReal.coe_mul, ← EReal.coe_add, coe_sum, Ideal.div_coe (show (1024 : ℝ) ≠ 0 by norm_num)]
  rfl

theorem t9 (H : Arrs x0 x1 x2 x3 x4 x5 x6 p) (s : Fin 2048) :
    val_main_v9 (F := Ideal) x0 (ix2 s 0) = ((inv p.x s : ℝ) : EReal) := by
  pointwise [val_main_v9]
  rw [t8 H, rsqrt_var]

theorem t14 (H : Arrs x0 x1 x2 x3 x4 x5 x6 p) (s : Fin 2048) (d : Fin 1024) :
    val_main_v14 (F := Ideal) x0 (ix2 s d) = ((p.x s d * inv p.x s : ℝ) : EReal) := by
  pointwise [val_main_v14, val_main_v13]
  simp only [t9 H, H.x, ← EReal.coe_mul]
  rfl

theorem t17 (H : Arrs x0 x1 x2 x3 x4 x5 x6 p) (s : Fin 2048) (d : Fin 1024) :
    val_main_v17 (F := Ideal) x0 x1 (ix2 s d) = ((p.hf s d : ℝ) : EReal) := by
  pointwise [val_main_v17, val_main_v16, val_main_v15]
  simp only [t14 H, H.g, ← EReal.coe_mul]
  rfl

theorem t19 (H : Arrs x0 x1 x2 x3 x4 x5 x6 p) (d : Fin 1024) (f : Fin 5632) :
    val_main_v19 (F := Ideal) x2 (ix2 d f) = ((cols p.w d f : ℝ) : EReal) := by
  pointwise [val_main_v19, val_main_v18, val_main_v0]
  simp only [H.w]
  rfl

theorem t20 (H : Arrs x0 x1 x2 x3 x4 x5 x6 p) (s : Fin 2048) (f : Fin 5632) :
    val_main_v20 (F := Ideal) x0 x1 x2 (ix2 s f) = ((p.up s f : ℝ) : EReal) := by
  pointwise [val_main_v20]
  simp only [t17 H, t19 H, ← EReal.coe_mul, coe_sum]
  rfl

theorem t22 (H : Arrs x0 x1 x2 x3 x4 x5 x6 p) (r : Fin 2050) (f : Fin 5632) :
    val_main_v22 (F := Ideal) x0 x1 x2 (ix2 r f) = ((if r.val < 2 then 0 else p.up (r - 2) f : ℝ) : EReal) := by
  pointwise [val_main_v22, val_main_v21, val_main_cst_3]
  split
  · rename_i h
    exact EReal.coe_zero.symm
  · rename_i h
    exact t20 H _ _

theorem t24 (H : Arrs x0 x1 x2 x3 x4 x5 x6 p) (s : Fin 2048) (f : Fin 5632) :
    val_main_v24 (F := Ideal) x0 x1 x2 (ix2 s f) = ((down 2 p.up s f : ℝ) : EReal) := by
  pointwise [val_main_v24]
  rw [t22 H]
  rfl

theorem t30 (H : Arrs x0 x1 x2 x3 x4 x5 x6 p) (s : Fin 2048) (f : Fin 5632) :
    val_main_v30 (F := Ideal) x0 x1 x2 (ix2 s f) = ((down 1 p.up s f : ℝ) : EReal) := by
  pointwise [val_main_v30]
  rw [t22 H]
  unfold down
  refine congrArg (fun q : ℝ => (q : EReal)) ?_
  show (if 1 + s.val < 2 then 0 else p.up (1 + s.val - 2) f.val) = if s.val < 1 then 0 else p.up (s.val - 1) f.val
  rw [show 1 + s.val - 2 = s.val - 1 by omega]
  by_cases h : s.val < 1
  · rw [if_pos h, if_pos (by omega)]
  · rw [if_neg h, if_neg (by omega)]

theorem t37 (H : Arrs x0 x1 x2 x3 x4 x5 x6 p) (s : Fin 2048) (f : Fin 5632) :
    val_main_v37 (F := Ideal) x0 x1 x2 (ix2 s f) = ((p.up s f : ℝ) : EReal) := by
  pointwise [val_main_v37]
  rw [t22 H]
  show ((if 2 + s.val < 2 then 0 else p.up (2 + s.val - 2) f.val : ℝ) : EReal) = _
  rw [if_neg (by omega), show 2 + s.val - 2 = s.val by omega]

theorem t46 (H : Arrs x0 x1 x2 x3 x4 x5 x6 p) (s : Fin 2048) (f : Fin 5632) :
    val_main_v46 (F := Ideal) x0 x1 x2 x3 x4 (ix2 s f) = ((p.u s f : ℝ) : EReal) := by
  pointwise [val_main_v46, val_main_v45, val_main_v44, val_main_v43, val_main_v42, val_main_v41, val_main_v40, val_main_v39, val_main_v38, val_main_v36, val_main_v35, val_main_v34, val_main_v33, val_main_v32, val_main_v31, val_main_v29, val_main_v28, val_main_v27, val_main_v26, val_main_v25]
  simp only [t24 H, t30 H, t37 H, H.cw, H.cb, ← EReal.coe_mul, ← EReal.coe_add]
  refine congrArg _ ?_
  unfold Sub.u conv
  show down 2 p.up s.val f.val * p.cw 0 f.val + down 1 p.up s.val f.val * p.cw 1 f.val + p.up s.val f.val * p.cw 2 f.val + p.cb f.val = _
  ring

theorem t47 (H : Arrs x0 x1 x2 x3 x4 x5 x6 p) (s : Fin 2048) (h : Fin 2816) :
    val_main_v47 (F := Ideal) x0 x1 x2 x3 x4 (ix2 s h) = ((p.u s h : ℝ) : EReal) := by
  pointwise [val_main_v47]
  exact t46 H _ _

theorem t48 (H : Arrs x0 x1 x2 x3 x4 x5 x6 p) (s : Fin 2048) (h : Fin 2816) :
    val_main_v48 (F := Ideal) x0 x1 x2 x3 x4 (ix2 s h) = ((p.u s (h + 2816) : ℝ) : EReal) := by
  pointwise [val_main_v48]
  rw [t46 H]
  show ((p.u s.val (2816 + h.val) : ℝ) : EReal) = _
  rw [Nat.add_comm 2816]

theorem t49_2 (H : Arrs x0 x1 x2 x3 x4 x5 x6 p) (s : Fin 2048) (h : Fin 2816) :
    val_main_v49_2 (F := Ideal) x0 x1 x2 x3 x4 (ix2 s h) = ((sg (p.u s h) : ℝ) : EReal) := by
  pointwise [val_main_v49_2, val_main_call0_v4, val_main_call0_v3, val_main_call0_v2, val_main_call0_v1, val_main_call0_v0, val_main_call0_cst, val_main_call0_cst_0]
  rw [t47 H, ← EReal.coe_neg, Ideal.exp_coe, ← EReal.coe_one, ← EReal.coe_add, Ideal.div_coe (one_add_exp_ne _), ← EReal.coe_mul, one_mul]
  rfl

theorem t49_1 (H : Arrs x0 x1 x2 x3 x4 x5 x6 p) (s : Fin 2048) (h : Fin 2816) :
    val_main_v49_1 (F := Ideal) x0 x1 x2 x3 x4 (ix2 s h) = ((sg (p.u s h) * (1 - sg (p.u s h)) : ℝ) : EReal) := by
  pointwise [val_main_v49_1, val_main_call0_v7, val_main_call0_v6, val_main_call0_cst_1]
  rw [t49_2 H, ← EReal.coe_one, ← EReal.coe_sub, ← EReal.coe_mul]

theorem t49_0 (H : Arrs x0 x1 x2 x3 x4 x5 x6 p) (s : Fin 2048) (h : Fin 2816) :
    val_main_v49_0 (F := Ideal) x0 x1 x2 x3 x4 (ix2 s h) = ((p.u s h * sg (p.u s h) : ℝ) : EReal) := by
  pointwise [val_main_v49_0]
  rw [t49_2 H, t47 H, ← EReal.coe_mul]

theorem t50 (H : Arrs x0 x1 x2 x3 x4 x5 x6 p) (s : Fin 2048) (h : Fin 2816) :
    val_main_v50 (F := Ideal) x0 x1 x2 x3 x4 (ix2 s h) = ((act p.u s h : ℝ) : EReal) := by
  pointwise [val_main_v50]
  rw [t49_0 H, t48 H, ← EReal.coe_mul]
  rfl

theorem t52 (H : Arrs x0 x1 x2 x3 x4 x5 x6 p) (s : Fin 2048) (d : Fin 1024) :
    val_main_v52 (F := Ideal) x0 x1 x2 x3 x4 x5 (ix2 s d) = ((p.out s d : ℝ) : EReal) := by
  pointwise [val_main_v52, val_main_v51, val_main_v1]
  simp only [t50 H, H.x, H.wd, ← EReal.coe_mul, coe_sum, ← EReal.coe_add]
  exact congrArg _ (add_comm _ _)

end Cert.Reference2Ideal.FfnRef
end
-- ==== Proof.FfnRefBack.lean ====
module

public import proofs.«01_k».proof.Proof.FfnRef

@[expose] public section

set_option maxRecDepth 16384

noncomputable section

/-! The reference going back, at an index, over the real numbers. -/

namespace Cert.Reference2Ideal.FfnRef

open Cert.Reference2Ideal Cert.Reference2Ideal.Gen Cert.Reference2Ideal.Read Idealize.ShloMosaic Idealize.ShloMosaic.TcCoe Idealize.SL.Sem
open Cert.AttnReal Cert.FfnReal

variable {x0 : (⟨S2048x1024, .f32⟩ : BufTy).Contents (Elt Ideal)} {x1 : (⟨S1024, .f32⟩ : BufTy).Contents (Elt Ideal)}
  {x2 : (⟨S4x1024x1408, .bf16⟩ : BufTy).Contents (Elt Ideal)} {x3 : (⟨S3x5632, .f32⟩ : BufTy).Contents (Elt Ideal)}
  {x4 : (⟨S5632, .f32⟩ : BufTy).Contents (Elt Ideal)} {x5 : (⟨S2816x1024, .bf16⟩ : BufTy).Contents (Elt Ideal)}
  {x6 : (⟨S2048x1024, .f32⟩ : BufTy).Contents (Elt Ideal)} {p : Sub}

theorem t55 (H : Arrs x0 x1 x2 x3 x4 x5 x6 p) (h : Fin 2816) (d : Fin 1024) :
    val_main_v55 (F := Ideal) x0 x1 x2 x3 x4 x6 (ix2 h d) = ((p.dwd h d : ℝ) : EReal) := by
  pointwise [val_main_v55, val_main_v54, val_main_v53]
  simp only [t50 H, H.d, ← EReal.coe_mul, coe_sum, ← EReal.coe_add]
  exact congrArg _ (Finset.sum_congr rfl fun _ _ => mul_comm _ _)

theorem t56 (H : Arrs x0 x1 x2 x3 x4 x5 x6 p) (s : Fin 2048) (h : Fin 2816) :
    val_main_v56 (F := Ideal) x5 x6 (ix2 s h) = ((p.dA s h : ℝ) : EReal) := by
  pointwise [val_main_v56, val_main_v53, val_main_v1]
  simp only [H.d, H.wd, ← EReal.coe_mul, coe_sum, ← EReal.coe_add]
  rfl

theorem t57 (H : Arrs x0 x1 x2 x3 x4 x5 x6 p) (s : Fin 2048) (h : Fin 2816) :
    val_main_v57 (F := Ideal) x0 x1 x2 x3 x4 x5 x6 (ix2 s h) = ((dval (p.dA s h) (p.u s h) : ℝ) : EReal) := by
  pointwise [val_main_v57]
  rw [t49_0 H, t56 H, ← EReal.coe_mul]
  unfold dval
  exact congrArg _ (by ring)

theorem t58 (H : Arrs x0 x1 x2 x3 x4 x5 x6 p) (s : Fin 2048) (h : Fin 2816) :
    val_main_v58 (F := Ideal) x0 x1 x2 x3 x4 x5 x6 (ix2 s h) = ((p.dA s h * p.u s (h + 2816) : ℝ) : EReal) := by
  pointwise [val_main_v58]
  rw [t56 H, t48 H, ← EReal.coe_mul]

theorem t59 (H : Arrs x0 x1 x2 x3 x4 x5 x6 p) (s : Fin 2048) (h : Fin 2816) :
    val_main_v59 (F := Ideal) x0 x1 x2 x3 x4 x5 x6 (ix2 s h) = ((dgate (p.dA s h) (p.u s h) (p.u s (h + 2816)) : ℝ) : EReal) := by
  pointwise [val_main_v59, val_main_call1_v2, val_main_call1_v1, val_main_call1_v0]
  rw [t58 H, t47 H, t49_2 H, t49_1 H]
  simp only [← EReal.coe_mul, ← EReal.coe_add]
  unfold dgate
  exact congrArg _ (by ring)

theorem t62 (H : Arrs x0 x1 x2 x3 x4 x5 x6 p) (s : Fin 2048) (f : Fin 5632) :
    val_main_v62 (F := Ideal) x0 x1 x2 x3 x4 x5 x6 (ix2 s f) = ((p.du s f : ℝ) : EReal) := by
  pointwise [val_main_v62, val_main_v61, val_main_v60, val_main_cst_5, val_main_cst_6]
  split <;> split
  · exfalso; omega
  · rename_i a b
    rw [t57 H, add_zero]
    unfold Sub.du dact
    rw [if_neg b]
  · rename_i a b
    rw [t59 H, zero_add]
    unfold Sub.du dact
    rw [if_pos b]
  · exfalso; omega

theorem t65 (H : Arrs x0 x1 x2 x3 x4 x5 x6 p) (f : Fin 5632) :
    val_main_v65 (F := Ideal) x0 x1 x2 x3 x4 x5 x6 (ix1 f) = ((p.dcb f : ℝ) : EReal) := by
  pointwise [val_main_v65, val_main_v64, val_main_v63, val_main_cst_7, val_main_cst_8]
  simp only [t62 H, Ideal.ofBits_zero_f32, zero_add, ← EReal.coe_mul, ← EReal.coe_add, coe_sum]
  exact congrArg _ (Fin.sum_univ_one _)

theorem t66 (H : Arrs x0 x1 x2 x3 x4 x5 x6 p) (s : Fin 2048) (f : Fin 5632) :
    val_main_v66 (F := Ideal) x0 x1 x2 x3 x4 x5 x6 (ix2 s f) = ((p.du s f * p.up s f : ℝ) : EReal) := by
  pointwise [val_main_v66]
  rw [t37 H, t62 H, ← EReal.coe_mul, mul_comm]

theorem t75 (H : Arrs x0 x1 x2 x3 x4 x5 x6 p) (s : Fin 2048) (f : Fin 5632) :
    val_main_v75 (F := Ideal) x0 x1 x2 x3 x4 x5 x6 (ix2 s f) = ((p.du s f * down 1 p.up s f : ℝ) : EReal) := by
  pointwise [val_main_v75]
  rw [t30 H, t62 H, ← EReal.coe_mul, mul_comm]

theorem t86 (H : Arrs x0 x1 x2 x3 x4 x5 x6 p) (s : Fin 2048) (f : Fin 5632) :
    val_main_v86 (F := Ideal) x0 x1 x2 x3 x4 x5 x6 (ix2 s f) = ((p.du s f * down 2 p.up s f : ℝ) : EReal) := by
  pointwise [val_main_v86]
  rw [t24 H, t62 H, ← EReal.coe_mul, mul_comm]

theorem t94 (H : Arrs x0 x1 x2 x3 x4 x5 x6 p) (k : Fin 3) (f : Fin 5632) :
    val_main_v94 (F := Ideal) x0 x1 x2 x3 x4 x5 x6 (ix2 k f) = ((p.dcw k f : ℝ) : EReal) := by
  pointwise [val_main_v94, val_main_v93, val_main_v92, val_main_v91, val_main_v88, val_main_v87, val_main_v83, val_main_v82, val_main_v81, val_main_v80, val_main_v77, val_main_v76, val_main_v73, val_main_v72, val_main_v71, val_main_v68, val_main_v67, val_main_cst_9, val_main_cst_10, val_main_cst_11, val_main_cst_13, val_main_cst_14, val_main_cst_15, val_main_cst_17, val_main_cst_18, val_main_cst_19]
  simp only [t66 H, t75 H, t86 H, Ideal.ofBits_zero_f32, zero_add, ← EReal.coe_mul, ← EReal.coe_add, coe_sum]
  rcases (by omega : k.val = 0 ∨ k.val = 1 ∨ k.val = 2) with h | h | h <;> rw [h] <;> simp [Sub.dcw, dconvw]

theorem t98 (H : Arrs x0 x1 x2 x3 x4 x5 x6 p) (s : Fin 2048) (f : Fin 5632) :
    val_main_v98 (F := Ideal) x0 x1 x2 x3 x4 x5 x6 (ix2 s f) = ((p.dup s f : ℝ) : EReal) := by
  pointwise [val_main_v98, val_main_v96, val_main_v95, val_main_v90, val_main_v89, val_main_v27, val_main_v26, val_main_v25, val_main_v85, val_main_v84, val_main_v79, val_main_v78, val_main_v33, val_main_v32, val_main_v31, val_main_v74, val_main_v70, val_main_v69, val_main_v40, val_main_v39, val_main_v38, val_main_cst_12, val_main_cst_16, val_main_cst_20]
  simp only [t62 H, H.cw, ← EReal.coe_mul, coe_sum, ← EReal.coe_add]
  have e1 : 2 + s.val - 1 = s.val + 1 := by omega
  have e2 : 2 + s.val = s.val + 2 := by omega
  unfold Sub.dup dconv upw
  split <;> split
  · rw [if_neg (show ¬ 2048 - 2 ≤ s.val by omega), if_neg (show ¬ 2048 - 1 ≤ s.val by omega), ← EReal.coe_add, ← EReal.coe_add]
    refine congrArg _ ?_
    show p.du s.val f.val * p.cw 2 f.val + p.du (2 + s.val - 1) f.val * p.cw 1 f.val + p.du (2 + s.val) f.val * p.cw 0 f.val = _
    rw [e1, e2]; ring
  · rw [if_pos (show 2048 - 2 ≤ s.val by omega), if_neg (show ¬ 2048 - 1 ≤ s.val by omega), add_zero, ← EReal.coe_add]
    refine congrArg _ ?_
    show p.du s.val f.val * p.cw 2 f.val + p.du (2 + s.val - 1) f.val * p.cw 1 f.val = _
    rw [e1]; ring
  · exfalso; omega
  · rw [if_pos (show 2048 - 2 ≤ s.val by omega), if_pos (show 2048 - 1 ≤ s.val by omega), add_zero, add_zero]
    refine congrArg _ ?_
    show p.du s.val f.val * p.cw 2 f.val = _
    ring

theorem t103 (H : Arrs x0 x1 x2 x3 x4 x5 x6 p) (c : Fin 4) (d : Fin 1024) (j : Fin 1408) :
    val_main_v103 (F := Ideal) x0 x1 x2 x3 x4 x5 x6 (ix3 c d j) = ((p.dw c d j : ℝ) : EReal) := by
  pointwise [val_main_v103, val_main_v102, val_main_v100, val_main_v99]
  simp only [t98 H, t17 H, ← EReal.coe_mul, coe_sum, ← EReal.coe_add]
  exact congrArg _ (Finset.sum_congr rfl fun _ _ => mul_comm _ _)

theorem t101 (H : Arrs x0 x1 x2 x3 x4 x5 x6 p) (s : Fin 2048) (d : Fin 1024) :
    val_main_v101 (F := Ideal) x0 x1 x2 x3 x4 x5 x6 (ix2 s d) = ((p.dhf s d : ℝ) : EReal) := by
  pointwise [val_main_v101]
  simp only [t98 H, t19 H, ← EReal.coe_mul, coe_sum, ← EReal.coe_add]
  rfl

theorem t109 (H : Arrs x0 x1 x2 x3 x4 x5 x6 p) (d : Fin 1024) :
    val_main_v109 (F := Ideal) x0 x1 x2 x3 x4 x5 x6 (ix1 d) = ((p.dg d : ℝ) : EReal) := by
  pointwise [val_main_v109, val_main_v106, val_main_v105, val_main_v104, val_main_cst_21, val_main_cst_22]
  simp only [t14 H, t101 H, Ideal.ofBits_zero_f32, zero_add, ← EReal.coe_mul, ← EReal.coe_add, coe_sum]
  refine congrArg _ ((Fin.sum_univ_one _).trans ?_)
  unfold Sub.dg dscale
  exact Finset.sum_congr rfl fun _ _ => by ring

theorem t112 (H : Arrs x0 x1 x2 x3 x4 x5 x6 p) (s : Fin 2048) :
    val_main_v112 (F := Ideal) x0 x1 x2 x3 x4 x5 x6 (ix2 s 0) = ((∑ d : Fin 1024, p.x s d * (p.dhf s d * p.g d) : ℝ) : EReal) := by
  pointwise [val_main_v112, val_main_v111, val_main_v110, val_main_v108, val_main_v107, val_main_v15, val_main_cst_23]
  simp only [t101 H, H.x, H.g, Ideal.ofBits_zero_f32, zero_add, ← EReal.coe_mul, ← EReal.coe_add, coe_sum]
  rfl

theorem t12 (H : Arrs x0 x1 x2 x3 x4 x5 x6 p) (s : Fin 2048) :
    val_main_v12 (F := Ideal) x0 (ix2 s 0) = ((-(1 / 2) * (FfnReal.inv p.x s * (1 / var p.x s)) : ℝ) : EReal) := by
  pointwise [val_main_v12, val_main_v11, val_main_v10, val_main_cst_2]
  rw [t9 H, t8 H, minus_half_bits, Ideal.div_coe (var_pos p.x _).ne', ← EReal.coe_mul, ← EReal.coe_mul]

theorem t120 (H : Arrs x0 x1 x2 x3 x4 x5 x6 p) (s : Fin 2048) (d : Fin 1024) :
    val_main_v120 (F := Ideal) x0 x1 x2 x3 x4 x5 x6 (ix2 s d) = ((-(1 / 2) * (FfnReal.inv p.x s * FfnReal.inv p.x s * FfnReal.inv p.x s) * FfnReal.slope p.x p.g p.dhf s : ℝ) : EReal) := by
  pointwise [val_main_v120, val_main_v119, val_main_v118, val_main_v117, val_main_v116, val_main_cst_24, val_main_cst_25]
  refine (Fin.sum_univ_one _).trans ?_
  rw [t112 H, t12 H, width_bits, ← EReal.coe_mul, Ideal.div_coe (show (1024 : ℝ) ≠ 0 by norm_num), ← EReal.coe_mul, inv_div]
  unfold FfnReal.slope
  exact congrArg _ (by ring)

theorem t124 (H : Arrs x0 x1 x2 x3 x4 x5 x6 p) (s : Fin 2048) (d : Fin 1024) :
    val_main_v124 (F := Ideal) x0 x1 x2 x3 x4 x5 x6 (ix2 s d) = ((p.dx s d : ℝ) : EReal) := by
  pointwise [val_main_v124, val_main_v123, val_main_v122, val_main_v121, val_main_v115, val_main_v114, val_main_v113, val_main_v108, val_main_v107, val_main_v15]
  simp only [t101 H, t9 H, t120 H, H.x, H.g, H.d, ← EReal.coe_mul, coe_sum, ← EReal.coe_add]
  refine congrArg _ ?_
  show p.d s.val d.val + p.dhf s.val d.val * p.g d.val * FfnReal.inv p.x s.val + p.x s.val d.val * (-(1 / 2) * (FfnReal.inv p.x s.val * FfnReal.inv p.x s.val * FfnReal.inv p.x s.val) * FfnReal.slope p.x p.g p.dhf s.val) + -(1 / 2) * (FfnReal.inv p.x s.val * FfnReal.inv p.x s.val * FfnReal.inv p.x s.val) * FfnReal.slope p.x p.g p.dhf s.val * p.x s.val d.val = _
  unfold Sub.dx dnorm
  ring

theorem t125 (H : Arrs x0 x1 x2 x3 x4 x5 x6 p) (s : Fin 2048) (d : Fin 1024) :
    val_main_v125 (F := Ideal) x0 x1 x2 x3 x4 x5 x6 (ix2 s d) = ((p.dx s d : ℝ) : EReal) := by
  pointwise [val_main_v125]
  exact t124 H _ _

theorem t126 (H : Arrs x0 x1 x2 x3 x4 x5 x6 p) (c : Fin 4) (d : Fin 1024) (j : Fin 1408) :
    val_main_v126 (F := Ideal) x0 x1 x2 x3 x4 x5 x6 (ix3 c d j) = ((p.dw c d j : ℝ) : EReal) := by
  pointwise [val_main_v126]
  exact t103 H _ _ _

theorem t127 (H : Arrs x0 x1 x2 x3 x4 x5 x6 p) (h : Fin 2816) (d : Fin 1024) :
    val_main_v127 (F := Ideal) x0 x1 x2 x3 x4 x6 (ix2 h d) = ((p.dwd h d : ℝ) : EReal) := by
  pointwise [val_main_v127]
  exact t55 H _ _

end Cert.Reference2Ideal.FfnRef
end
-- ==== Proof.MemSub.lean ====
module

public import proofs.«01_k».proof.Proof.FfnReal

@[expose] public section

set_option maxRecDepth 16384

noncomputable section

/-! The real-number mathematics of the memory sublayer and its gradients: the arrays of the sequence and of the memory, the
    two scales and the four projections, and what is computed from them. -/

namespace Cert.MemReal

open Idealize.ShloMosaic Cert.AttnReal Cert.FfnReal

/-- The first `n` rows of 1024 columns, as an array. -/
def arr (n : ℕ) (a : ℕ → ℕ → ℝ) (i : Shape.Idx ⟨2, ![n, 1024]⟩) : ℝ := a (i 0).val (i 1).val

/-- Head `h`'s 256 columns of row `r`. -/
def hrow (a : ℕ → ℕ → ℝ) (h r : ℕ) (d : Fin 256) : ℝ := a r (h * 256 + d)

/-- The attention's output: the values, weighted by the softmax of the scores of a column's head. -/
def att (q k v : ℕ → ℕ → ℝ) (r j : ℕ) : ℝ :=
  ∑ c : Fin 256, prob (hrow q (j / 256) r) (fun c => hrow k (j / 256) c) c * v c j

/-- The softmax of a query row at key `c`, and the gradient of its unscaled score. -/
def probAt (q : Fin 256 → ℝ) (K : ℕ → Fin 256 → ℝ) (c : ℕ) : ℝ :=
  Real.exp ((∑ d, q d * K c d) * (1 / 16)) / ∑ e : Fin 256, Real.exp (score q (fun e => K e) e)
def dscoreAt (q g : Fin 256 → ℝ) (K W : ℕ → Fin 256 → ℝ) (c : ℕ) : ℝ :=
  probAt q K c * ((∑ d, g d * W c d) - ∑ e : Fin 256, prob q (fun e => K e) e * dprob g (fun e => W e) e) * (1 / 16)

/-- The gradients of the queries, of the keys and of the values, `g` being that of the attention's output. -/
def datq (q g k v : ℕ → ℕ → ℝ) (r j : ℕ) : ℝ :=
  ∑ c : Fin 256, dscore (hrow q (j / 256) r) (hrow g (j / 256) r) (fun c => hrow k (j / 256) c) (fun c => hrow v (j / 256) c) c * k c j
def datk (q g k v : ℕ → ℕ → ℝ) (c j : ℕ) : ℝ :=
  ∑ r : Fin 2048, dscoreAt (hrow q (j / 256) r) (hrow g (j / 256) r) (hrow k (j / 256)) (hrow v (j / 256)) c * q r j
def datv (q g k : ℕ → ℕ → ℝ) (c j : ℕ) : ℝ := ∑ r : Fin 2048, probAt (hrow q (j / 256) r) (hrow k (j / 256)) c * g r j

section
variable (q g k v : ℕ → ℕ → ℝ)

theorem gradQ_arr (r : Fin 2048) (j : Fin 1024) :
    gradQ (arr 2048 q) (arr 2048 g) (arr 256 k) (arr 256 v) r j = datq q g k v r j := rfl
theorem gradK_arr (c : Fin 256) (j : Fin 1024) :
    gradK (arr 2048 q) (arr 2048 g) (arr 256 k) (arr 256 v) c j = datk q g k v c j := rfl
theorem gradV_arr (c : Fin 256) (j : Fin 1024) : gradV (arr 2048 q) (arr 2048 g) (arr 256 k) c j = datv q g k c j := rfl

end

/-- The real arrays the sublayer is of: the sequence, the memory, their scales, the four projections, and the gradient of the
    sublayer's output. -/
structure MSub where
  x : ℕ → ℕ → ℝ
  mem : ℕ → ℕ → ℝ
  gq : ℕ → ℝ
  gk : ℕ → ℝ
  wq : ℕ → ℕ → ℝ
  wk : ℕ → ℕ → ℝ
  wv : ℕ → ℕ → ℝ
  wo : ℕ → ℕ → ℝ
  d : ℕ → ℕ → ℝ

namespace MSub

variable (p : MSub)

/-- The normalized sequence and memory, the queries, the keys, the values, the attention. -/
def hq : ℕ → ℕ → ℝ := norm p.x p.gq
def hm : ℕ → ℕ → ℝ := norm p.mem p.gk
def q : ℕ → ℕ → ℝ := mm 1024 p.hq p.wq
def k : ℕ → ℕ → ℝ := mm 1024 p.hm p.wk
def v : ℕ → ℕ → ℝ := mm 1024 p.hm p.wv
def o : ℕ → ℕ → ℝ := att p.q p.k p.v

/-- The sublayer's output. -/
def out (s d : ℕ) : ℝ := mm 1024 p.o p.wo s d + p.x s d

/-- The gradients going back: at the attention's output, its queries, keys and values, at the normalized sequence and memory. -/
def dO : ℕ → ℕ → ℝ := mmT 1024 p.d p.wo
def dq : ℕ → ℕ → ℝ := datq p.q p.dO p.k p.v
def dk : ℕ → ℕ → ℝ := datk p.q p.dO p.k p.v
def dv : ℕ → ℕ → ℝ := datv p.q p.dO p.k
def dhq : ℕ → ℕ → ℝ := mmT 1024 p.dq p.wq
def dhm (c d : ℕ) : ℝ := mmT 1024 p.dv p.wv c d + mmT 1024 p.dk p.wk c d

/-- The gradients of the sequence and of the six parameters. -/
def dx : ℕ → ℕ → ℝ := dnorm p.x p.gq p.dhq p.d
def dgq : ℕ → ℝ := dscale 2048 p.x p.dhq
def dgk : ℕ → ℝ := dscale 256 p.mem p.dhm
def dwq : ℕ → ℕ → ℝ := tmm 2048 p.hq p.dq
def dwk : ℕ → ℕ → ℝ := tmm 256 p.hm p.dk
def dwv : ℕ → ℕ → ℝ := tmm 256 p.hm p.dv
def dwo : ℕ → ℕ → ℝ := tmm 2048 p.o p.d

end MSub

end Cert.MemReal
end
-- ==== Proof.MemSubFinite.lean ====
module

public import proofs.«01_k».proof.Proof.FfnFinite
public import proofs.«01_k».proof.Proof.MemSub

@[expose] public section

set_option maxRecDepth 16384

noncomputable section

/-! What the memory sublayer's precondition says: every element of its nine arrays is a real number. -/

namespace Cert.MemFinite

open Cert.Pre_finite3 Idealize.ShloMosaic Cert.Finite

theorem facts : Cert.Pre_finite3.Facts := ⟨by decide, by decide, by decide, by decide, by decide⟩

instance : Cert.Pre_finite3.Facts := facts

variable {x0 x8 : FVec Ideal S2048x1024 .f32} {x1 : FVec Ideal S256x1024 .f32} {x2 x3 : FVec Ideal S1024 .f32}
  {x4 x5 x6 x7 : FVec Ideal S1024x1024 .bf16}

theorem real0 (h : (fn (F := Ideal) x0 x1 x2 x3 x4 x5 x6 x7 x8).1 = fun _ => 1#1) (i : S2048x1024.Idx) : x0 i = (((x0 i).toReal : ℝ) : EReal) := by
  have := congrFun h i
  idx_vars i
  pointwise [fn, fn_part1] at this
  exact real_of_abs_lt this

theorem real1 (h : (fn (F := Ideal) x0 x1 x2 x3 x4 x5 x6 x7 x8).2.1 = fun _ => 1#1) (i : S256x1024.Idx) : x1 i = (((x1 i).toReal : ℝ) : EReal) := by
  have := congrFun h i
  idx_vars i
  pointwise [fn, fn_part1] at this
  exact real_of_abs_lt this

theorem real2 (h : (fn (F := Ideal) x0 x1 x2 x3 x4 x5 x6 x7 x8).2.2.1 = fun _ => 1#1) (i : S1024.Idx) : x2 i = (((x2 i).toReal : ℝ) : EReal) := by
  have := congrFun h i
  idx_vars i
  pointwise [fn, fn_part1] at this
  exact real_of_abs_lt this

theorem real3 (h : (fn (F := Ideal) x0 x1 x2 x3 x4 x5 x6 x7 x8).2.2.2.1 = fun _ => 1#1) (i : S1024.Idx) : x3 i = (((x3 i).toReal : ℝ) : EReal) := by
  have := congrFun h i
  idx_vars i
  pointwise [fn, fn_part1] at this
  exact real_of_abs_lt this

theorem real4 (h : (fn (F := Ideal) x0 x1 x2 x3 x4 x5 x6 x7 x8).2.2.2.2.1 = fun _ => 1#1) (i : S1024x1024.Idx) : x4 i = (((x4 i).toReal : ℝ) : EReal) := by
  have := congrFun h i
  idx_vars i
  pointwise [fn, fn_part1] at this
  exact real_of_abs_lt this

theorem real5 (h : (fn (F := Ideal) x0 x1 x2 x3 x4 x5 x6 x7 x8).2.2.2.2.2.1 = fun _ => 1#1) (i : S1024x1024.Idx) : x5 i = (((x5 i).toReal : ℝ) : EReal) := by
  have := congrFun h i
  idx_vars i
  pointwise [fn, fn_part1] at this
  exact real_of_abs_lt this

theorem real6 (h : (fn (F := Ideal) x0 x1 x2 x3 x4 x5 x6 x7 x8).2.2.2.2.2.2.1 = fun _ => 1#1) (i : S1024x1024.Idx) : x6 i = (((x6 i).toReal : ℝ) : EReal) := by
  have := congrFun h i
  idx_vars i
  pointwise [fn, fn_part1] at this
  exact real_of_abs_lt this

theorem real7 (h : (fn (F := Ideal) x0 x1 x2 x3 x4 x5 x6 x7 x8).2.2.2.2.2.2.2.1 = fun _ => 1#1) (i : S1024x1024.Idx) : x7 i = (((x7 i).toReal : ℝ) : EReal) := by
  have := congrFun h i
  idx_vars i
  pointwise [fn, fn_part1] at this
  exact real_of_abs_lt this

theorem real8 (h : (fn (F := Ideal) x0 x1 x2 x3 x4 x5 x6 x7 x8).2.2.2.2.2.2.2.2 = fun _ => 1#1) (i : S2048x1024.Idx) : x8 i = (((x8 i).toReal : ℝ) : EReal) := by
  have := congrFun h i
  idx_vars i
  pointwise [fn, fn_part1] at this
  exact real_of_abs_lt this

end Cert.MemFinite
end
-- ==== Proof.MemNorm.lean ====
module

public import proofs.«01_k».proof.Proof.Gen.Kernel3Ideal.Frame.Region0
public import proofs.«01_k».proof.Proof.Gen.Kernel3Ideal.Frame.Region1
public import proofs.«01_k».proof.Proof.MemSub
public import proofs.«01_k».proof.Proof.FfnNorm
public import Idealize.ShloMosaic.Lib.Pipeline.ReadBack
public import Idealize.ShloMosaic.Lib.Pipeline.ValueKit

@[expose] public section

set_option maxRecDepth 16384

noncomputable section

/-! The memory sublayer's two normalizations, as real numbers. A block of the sequence's is the feed-forward
    sublayer's. -/

namespace Cert.Kernel3Ideal.Mem

open Cert.Kernel3Ideal Cert.Kernel3Ideal.Gen Idealize.ShloMosaic Idealize.ShloMosaic.TcCoe Idealize.SL.Sem
open Cert.AttnReal Cert.FfnReal Cert.MemReal
open Cert.Kernel2Ideal.Ffn (pay0)

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] := by decide +kernel

/-- The normalized sequence. -/
theorem mem_norm_q {a : ℕ → ℕ → ℝ} {g : ℕ → ℝ} (h0 : ∀ i : S2048x1024.Idx, V c main_arg0 i = ((a (i 0).val (i 1).val : ℝ) : EReal))
    (h1 : ∀ i : S1x1024.Idx, V c main_v0 i = ((g (i 1).val : ℝ) : EReal)) :
    (dat0 V c).arrAt 2 cfg0.N = fun i : S2048x1024.Idx => ((norm a g (i 0).val (i 1).val : ℝ) : EReal) := by
  refine (dat0 V c).arrAt_eq_of_covers 2 _ (by decide +kernel) fun t hf y => ?_
  have ht : t.val < 4 := lt_of_lt_of_eq t.isLt N_0
  have b0 : ∀ (r : Fin 512) (k : Fin 1024), iblk0 V c 0 t (ix2 r k) = ((a (t.val * 512 + r.val) k : ℝ) : EReal) := fun r k => by
    refine Eq.trans ?_ (h0 (ix2 ⟨t.val * 512 + r.val, by omega⟩ k))
    blk_ext [iblk0, idx0 t]
  have b1 : ∀ k : Fin 1024, iblk0 V c 1 t (ix2 0 k) = ((g k : ℝ) : EReal) := fun k => by
    refine Eq.trans ?_ (h1 (ix2 0 k))
    blk_ext [iblk0, idx0 t]
  have out : ∀ y : S512x1024.Idx, (dat0 V c).after 2 t y = ((norm a g (t.val * 512 + (y 0).val) (y 1).val : ℝ) : EReal) := fun y => by
    rw [after0_2]
    unfold out0_2
    rw [View.canon_cons_unit_lit inb_S512x1024_S512x1024_0_0 _ _ (by decide), View.ld_unit_lit inb_S512x1024_S512x1024_0_0 _ (by decide),
      View.ld_unit_lit inb_S1x1024_S1x1024_0_0 _ (by decide)]
    idx_vars y
    refine (pay0 (a := fun r k => a (t.val * 512 + r) k) (g := g) b0 b1 _ _).trans ?_
    rfl
  refine (out y).trans ?_
  idx_vars y
  blk_simp [idx0 t]

/-- The normalized rows of the memory's one block. -/
theorem pay1 {x : Vec Ideal S256x1024 .f32} {z : Vec Ideal S1x1024 .f32} {a : ℕ → ℕ → ℝ} {g : ℕ → ℝ}
    (hx : ∀ (r : Fin 256) (k : Fin 1024), x (ix2 r k) = ((a r k : ℝ) : EReal)) (hz : ∀ k : Fin 1024, z (ix2 0 k) = ((g k : ℝ) : EReal))
    (r : Fin 256) (j : Fin 1024) : k1_pay1 x z (ix2 r j) = ((norm a g r j : ℝ) : EReal) := by
  pointwise [k1_pay1]
  simp only [hx, hz, ← EReal.coe_mul, coe_sum, width_bits, eps_bits, Ideal.div_coe (show (1024 : ℝ) ≠ 0 by norm_num), ← EReal.coe_add]
  rw [show (∑ d : Fin 1024, a r d * a r d) * (1 / 1024) + eps = var a r from rfl, rsqrt_var, ← EReal.coe_mul, ← EReal.coe_mul]
  rfl

theorem idx1 : ∀ t : Fin cfg1.N, win1_0.index t = ![0, 0] ∧ win1_1.index t = ![0, 0] ∧ win1_2.index t = ![0, 0] := by decide +kernel

/-- The normalized memory. -/
theorem mem_norm_k {a : ℕ → ℕ → ℝ} {g : ℕ → ℝ} (h0 : ∀ i : S256x1024.Idx, V c main_arg1 i = ((a (i 0).val (i 1).val : ℝ) : EReal))
    (h1 : ∀ i : S1x1024.Idx, V c main_v2 i = ((g (i 1).val : ℝ) : EReal)) :
    (dat1 V c).arrAt 2 cfg1.N = fun i : S256x1024.Idx => ((norm a g (i 0).val (i 1).val : ℝ) : EReal) := by
  refine (dat1 V c).arrAt_eq_of_covers 2 _ (by decide +kernel) fun t hf y => ?_
  have b0 : ∀ (r : Fin 256) (k : Fin 1024), iblk1 V c 0 t (ix2 r k) = ((a r k : ℝ) : EReal) := fun r k => by
    refine Eq.trans ?_ (h0 (ix2 r k))
    blk_ext [iblk1, idx1 t]
  have b1 : ∀ k : Fin 1024, iblk1 V c 1 t (ix2 0 k) = ((g k : ℝ) : EReal) := fun k => by
    refine Eq.trans ?_ (h1 (ix2 0 k))
    blk_ext [iblk1, idx1 t]
  have out : ∀ y : S256x1024.Idx, (dat1 V c).after 2 t y = ((norm a g (y 0).val (y 1).val : ℝ) : EReal) := fun y => by
    rw [after1_2]
    unfold out1_2
    rw [View.canon_cons_unit_lit inb_S256x1024_S256x1024_0_0 _ _ (by decide), View.ld_unit_lit inb_S256x1024_S256x1024_0_0 _ (by decide),
      View.ld_unit_lit inb_S1x1024_S1x1024_0_0 _ (by decide)]
    idx_vars y
    rw [pay1 (a := a) (g := g) b0 b1]
  refine (out y).trans ?_
  idx_vars y
  blk_simp [idx1 t]

end Cert.Kernel3Ideal.Mem
end
-- ==== Proof.MemProducts.lean ====
module

public import proofs.«01_k».proof.Proof.Gen.Kernel3Ideal.Frame.Region2
public import proofs.«01_k».proof.Proof.Gen.Kernel3Ideal.Frame.Region3
public import proofs.«01_k».proof.Proof.Gen.Kernel3Ideal.Frame.Region4
public import proofs.«01_k».proof.Proof.Gen.Kernel3Ideal.Frame.Region6
public import proofs.«01_k».proof.Proof.Gen.Kernel3Ideal.Frame.Region7
public import proofs.«01_k».proof.Proof.Gen.Kernel3Ideal.Frame.Region8
public import proofs.«01_k».proof.Proof.MemSub
public import Idealize.ShloMosaic.Lib.Pipeline.ReadBack
public import Idealize.ShloMosaic.Lib.Pipeline.ValueKit

@[expose] public section

set_option maxRecDepth 16384

noncomputable section

/-! The memory sublayer's products before and around the attention, array by array, as real numbers. -/

namespace Cert.Kernel3Ideal.Mem

open Cert.Kernel3Ideal Cert.Kernel3Ideal.Gen Idealize.ShloMosaic Idealize.ShloMosaic.TcCoe Idealize.SL.Sem
open Cert.AttnReal Cert.FfnReal Cert.MemReal

variable (V : (c : Dev nD) → (b : Ref sig .tc) → Buf (Elt Ideal) ((c : Thread nD τ).loc b)) (c : Dev nD)

theorem pay2 {x : Vec Ideal S1024x1024 .bf16} {w : Vec Ideal S1024x1024 .bf16} {a b : ℕ → ℕ → ℝ}
    (h0 : ∀ (r : Fin 1024) (k : Fin 1024), x (ix2 r k) = ((a r k : ℝ) : EReal)) (h1 : ∀ (r : Fin 1024) (k : Fin 1024), w (ix2 r k) = ((b r k : ℝ) : EReal))
    (r : Fin 1024) (j : Fin 1024) : k2_pay1 x w (ix2 r j) = ((mm 1024 a b r j : ℝ) : EReal) := by
  pointwise [k2_pay1]
  simp only [h0, h1, ← EReal.coe_mul, coe_sum]
  rfl

theorem idx2 : ∀ t : Fin cfg2.N, win2_0.index t = ![t.val, 0] ∧ win2_1.index t = ![0, 0] ∧ win2_2.index t = ![t.val, 0] := by decide +kernel

/-- The queries. -/
theorem mem_q {a : ℕ → ℕ → ℝ} {b : ℕ → ℕ → ℝ}
    (h0 : ∀ i : S2048x1024.Idx, V c main_v1 i = ((a (i 0).val (i 1).val : ℝ) : EReal))
    (h1 : ∀ i : S1024x1024.Idx, V c main_arg4 i = ((b (i 0).val (i 1).val : ℝ) : EReal)) :
    (dat2 V c).arrAt 2 cfg2.N = fun i : S2048x1024.Idx => ((mm 1024 a b (i 0).val (i 1).val : ℝ) : EReal) := by
  refine (dat2 V c).arrAt_eq_of_covers 2 _ (by decide +kernel) fun t hf y => ?_
  have ht : t.val < 2 := lt_of_lt_of_eq t.isLt N_2
  have b0 : ∀ (r : Fin 1024) (k : Fin 1024), iblk2 V c 0 t (ix2 r k) = ((a (t.val * 1024 + r.val) k : ℝ) : EReal) := fun r k => by
    refine Eq.trans ?_ (h0 (ix2 ⟨t.val * 1024 + r.val, by omega⟩ k))
    blk_ext [iblk2, idx2 t]
  have b1 : ∀ (r : Fin 1024) (k : Fin 1024), iblk2 V c 1 t (ix2 r k) = ((b r k : ℝ) : EReal) := fun r k => by
    refine Eq.trans ?_ (h1 (ix2 r k))
    blk_ext [iblk2, idx2 t]
  have out : ∀ y : S1024x1024.Idx, (dat2 V c).after 2 t y = ((mm 1024 a b (t.val * 1024 + (y 0).val) (y 1).val : ℝ) : EReal) := fun y => by
    rw [after2_2]
    unfold out2_2
    rw [View.canon_cons_unit_lit inb_S1024x1024_S1024x1024_0_0 _ _ (by decide), View.ld_unit_lit inb_S1024x1024_S1024x1024_0_0 _ (by decide), View.ld_unit_lit inb_S1024x1024_S1024x1024_0_0 _ (by decide)]
    idx_vars y
    rw [pay2 (a := fun r k => a (t.val * 1024 + r) k) (b := fun r k => b r k) b0 b1]
    rfl
  refine (out y).trans ?_
  idx_vars y
  blk_simp [idx2 t]

theorem pay3 {x : Vec Ideal S256x1024 .bf16} {w : Vec Ideal S1024x1024 .bf16} {a b : ℕ → ℕ → ℝ}
    (h0 : ∀ (r : Fin 256) (k : Fin 1024), x (ix2 r k) = ((a r k : ℝ) : EReal)) (h1 : ∀ (r : Fin 1024) (k : Fin 1024), w (ix2 r k) = ((b r k : ℝ) : EReal))
    (r : Fin 256) (j : Fin 1024) : k3_pay1 x w (ix2 r j) = ((mm 1024 a b r j : ℝ) : EReal) := by
  pointwise [k3_pay1]
  simp only [h0, h1, ← EReal.coe_mul, coe_sum]
  rfl

theorem idx3 : ∀ t : Fin cfg3.N, win3_0.index t = ![0, 0] ∧ win3_1.index t = ![0, 0] ∧ win3_2.index t = ![0, 0] := by decide +kernel

/-- The keys. -/
theorem mem_k {a : ℕ → ℕ → ℝ} {b : ℕ → ℕ → ℝ}
    (h0 : ∀ i : S256x1024.Idx, V c main_v3 i = ((a (i 0).val (i 1).val : ℝ) : EReal))
    (h1 : ∀ i : S1024x1024.Idx, V c main_arg5 i = ((b (i 0).val (i 1).val : ℝ) : EReal)) :
    (dat3 V c).arrAt 2 cfg3.N = fun i : S256x1024.Idx => ((mm 1024 a b (i 0).val (i 1).val : ℝ) : EReal) := by
  refine (dat3 V c).arrAt_eq_of_covers 2 _ (by decide +kernel) fun t hf y => ?_
  have ht : t.val < 1 := lt_of_lt_of_eq t.isLt N_3
  have b0 : ∀ (r : Fin 256) (k : Fin 1024), iblk3 V c 0 t (ix2 r k) = ((a r k : ℝ) : EReal) := fun r k => by
    refine Eq.trans ?_ (h0 (ix2 r k))
    blk_ext [iblk3, idx3 t]
  have b1 : ∀ (r : Fin 1024) (k : Fin 1024), iblk3 V c 1 t (ix2 r k) = ((b r k : ℝ) : EReal) := fun r k => by
    refine Eq.trans ?_ (h1 (ix2 r k))
    blk_ext [iblk3, idx3 t]
  have out : ∀ y : S256x1024.Idx, (dat3 V c).after 2 t y = ((mm 1024 a b (y 0).val (y 1).val : ℝ) : EReal) := fun y => by
    rw [after3_2]
    unfold out3_2
    rw [View.canon_cons_unit_lit inb_S256x1024_S256x1024_0_0 _ _ (by decide), View.ld_unit_lit inb_S256x1024_S256x1024_0_0 _ (by decide), View.ld_unit_lit inb_S1024x1024_S1024x1024_0_0 _ (by decide)]
    idx_vars y
    rw [pay3 (a := fun r k => a r k) (b := fun r k => b r k) b0 b1]
  refine (out y).trans ?_
  idx_vars y
  blk_simp [idx3 t]

theorem idx4 : ∀ t : Fin cfg4.N, win4_0.index t = ![0, 0] ∧ win4_1.index t = ![0, 0] ∧ win4_2.index t = ![0, 0] := by decide +kernel

/-- The values. -/
theorem mem_v {a : ℕ → ℕ → ℝ} {b : ℕ → ℕ → ℝ}
    (h0 : ∀ i : S256x1024.Idx, V c main_v3 i = ((a (i 0).val (i 1).val : ℝ) : EReal))
    (h1 : ∀ i : S1024x1024.Idx, V c main_arg6 i = ((b (i 0).val (i 1).val : ℝ) : EReal)) :
    (dat4 V c).arrAt 2 cfg4.N = fun i : S256x1024.Idx => ((mm 1024 a b (i 0).val (i 1).val : ℝ) : EReal) := by
  refine (dat4 V c).arrAt_eq_of_covers 2 _ (by decide +kernel) fun t hf y => ?_
  have ht : t.val < 1 := lt_of_lt_of_eq t.isLt N_4
  have b0 : ∀ (r : Fin 256) (k : Fin 1024), iblk4 V c 0 t (ix2 r k) = ((a r k : ℝ) : EReal) := fun r k => by
    refine Eq.trans ?_ (h0 (ix2 r k))
    blk_ext [iblk4, idx4 t]
  have b1 : ∀ (r : Fin 1024) (k : Fin 1024), iblk4 V c 1 t (ix2 r k) = ((b r k : ℝ) : EReal) := fun r k => by
    refine Eq.trans ?_ (h1 (ix2 r k))
    blk_ext [iblk4, idx4 t]
  have out : ∀ y : S256x1024.Idx, (dat4 V c).after 2 t y = ((mm 1024 a b (y 0).val (y 1).val : ℝ) : EReal) := fun y => by
    rw [after4_2]
    unfold out4_2
    rw [View.canon_cons_unit_lit inb_S256x1024_S256x1024_0_0 _ _ (by decide), View.ld_unit_lit inb_S256x1024_S256x1024_0_0 _ (by decide), View.ld_unit_lit inb_S1024x1024_S1024x1024_0_0 _ (by decide)]
    idx_vars y
    refine (pay3 (a := fun r k => a r k) (b := fun r k => b r k) b0 b1 _ _).trans ?_
    rfl
  refine (out y).trans ?_
  idx_vars y
  blk_simp [idx4 t]

theorem pay6 {x : Vec Ideal S1024x1024 .bf16} {w : Vec Ideal S1024x1024 .bf16} {z : Vec Ideal S1024x1024 .f32} {a b e : ℕ → ℕ → ℝ}
    (h0 : ∀ (r : Fin 1024) (k : Fin 1024), x (ix2 r k) = ((a r k : ℝ) : EReal)) (h1 : ∀ (r : Fin 1024) (k : Fin 1024), w (ix2 r k) = ((b r k : ℝ) : EReal)) (h2 : ∀ (r : Fin 1024) (k : Fin 1024), z (ix2 r k) = ((e r k : ℝ) : EReal))
    (r : Fin 1024) (j : Fin 1024) : k6_pay1 x w z (ix2 r j) = ((mm 1024 a b r j + e r j : ℝ) : EReal) := by
  pointwise [k6_pay1]
  simp only [h0, h1, h2, ← EReal.coe_mul, coe_sum, ← EReal.coe_add]
  rfl

theorem idx6 : ∀ t : Fin cfg6.N, win6_0.index t = ![t.val, 0] ∧ win6_1.index t = ![0, 0] ∧ win6_2.index t = ![t.val, 0] ∧ win6_3.index t = ![t.val, 0] := by decide +kernel

/-- The sublayer's output. -/
theorem mem_out {a : ℕ → ℕ → ℝ} {b : ℕ → ℕ → ℝ} {e : ℕ → ℕ → ℝ}
    (h0 : ∀ i : S2048x1024.Idx, V c main_v7 i = ((a (i 0).val (i 1).val : ℝ) : EReal))
    (h1 : ∀ i : S1024x1024.Idx, V c main_arg7 i = ((b (i 0).val (i 1).val : ℝ) : EReal))
    (h2 : ∀ i : S2048x1024.Idx, V c main_arg0 i = ((e (i 0).val (i 1).val : ℝ) : EReal)) :
    (dat6 V c).arrAt 3 cfg6.N = fun i : S2048x1024.Idx => ((mm 1024 a b (i 0).val (i 1).val + e (i 0).val (i 1).val : ℝ) : EReal) := by
  refine (dat6 V c).arrAt_eq_of_covers 3 _ (by decide +kernel) fun t hf y => ?_
  have ht : t.val < 2 := lt_of_lt_of_eq t.isLt N_6
  have b0 : ∀ (r : Fin 1024) (k : Fin 1024), iblk6 V c 0 t (ix2 r k) = ((a (t.val * 1024 + r.val) k : ℝ) : EReal) := fun r k => by
    refine Eq.trans ?_ (h0 (ix2 ⟨t.val * 1024 + r.val, by omega⟩ k))
    blk_ext [iblk6, idx6 t]
  have b1 : ∀ (r : Fin 1024) (k : Fin 1024), iblk6 V c 1 t (ix2 r k) = ((b r k : ℝ) : EReal) := fun r k => by
    refine Eq.trans ?_ (h1 (ix2 r k))
    blk_ext [iblk6, idx6 t]
  have b2 : ∀ (r : Fin 1024) (k : Fin 1024), iblk6 V c 2 t (ix2 r k) = ((e (t.val * 1024 + r.val) k : ℝ) : EReal) := fun r k => by
    refine Eq.trans ?_ (h2 (ix2 ⟨t.val * 1024 + r.val, by omega⟩ k))
    blk_ext [iblk6, idx6 t]
  have out : ∀ y : S1024x1024.Idx, (dat6 V c).after 3 t y = ((mm 1024 a b (t.val * 1024 + (y 0).val) (y 1).val + e (t.val * 1024 + (y 0).val) (y 1).val : ℝ) : EReal) := fun y => by
    rw [after6_3]
    unfold out6_3
    rw [View.canon_cons_unit_lit inb_S1024x1024_S1024x1024_0_0 _ _ (by decide), View.ld_unit_lit inb_S1024x1024_S1024x1024_0_0 _ (by decide), View.ld_unit_lit inb_S1024x1024_S1024x1024_0_0 _ (by decide), View.ld_unit_lit inb_S1024x1024_S1024x1024_0_0 _ (by decide)]
    idx_vars y
    rw [pay6 (a := fun r k => a (t.val * 1024 + r) k) (b := fun r k => b r k) (e := fun r k => e (t.val * 1024 + r) k) b0 b1 b2]
    rfl
  refine (out y).trans ?_
  idx_vars y
  blk_simp [idx6 t]

theorem pay7 {x : Vec Ideal S1024x1024 .bf16} {w : Vec Ideal S1024x1024 .bf16} {a b : ℕ → ℕ → ℝ}
    (h0 : ∀ (r : Fin 1024) (k : Fin 1024), x (ix2 r k) = ((a r k : ℝ) : EReal)) (h1 : ∀ (r : Fin 1024) (k : Fin 1024), w (ix2 r k) = ((b r k : ℝ) : EReal))
    (r : Fin 1024) (j : Fin 1024) : k7_pay1 x w (ix2 r j) = ((mmT 1024 a b r j : ℝ) : EReal) := by
  pointwise [k7_pay1]
  simp only [h0, h1, ← EReal.coe_mul, coe_sum]
  rfl

theorem idx7 : ∀ t : Fin cfg7.N, win7_0.index t = ![t.val, 0] ∧ win7_1.index t = ![0, 0] ∧ win7_2.index t = ![t.val, 0] := by decide +kernel

/-- The gradient of the attention's output. -/
theorem mem_dO {a : ℕ → ℕ → ℝ} {b : ℕ → ℕ → ℝ}
    (h0 : ∀ i : S2048x1024.Idx, V c main_v9 i = ((a (i 0).val (i 1).val : ℝ) : EReal))
    (h1 : ∀ i : S1024x1024.Idx, V c main_arg7 i = ((b (i 0).val (i 1).val : ℝ) : EReal)) :
    (dat7 V c).arrAt 2 cfg7.N = fun i : S2048x1024.Idx => ((mmT 1024 a b (i 0).val (i 1).val : ℝ) : EReal) := by
  refine (dat7 V c).arrAt_eq_of_covers 2 _ (by decide +kernel) fun t hf y => ?_
  have ht : t.val < 2 := lt_of_lt_of_eq t.isLt N_7
  have b0 : ∀ (r : Fin 1024) (k : Fin 1024), iblk7 V c 0 t (ix2 r k) = ((a (t.val * 1024 + r.val) k : ℝ) : EReal) := fun r k => by
    refine Eq.trans ?_ (h0 (ix2 ⟨t.val * 1024 + r.val, by omega⟩ k))
    blk_ext [iblk7, idx7 t]
  have b1 : ∀ (r : Fin 1024) (k : Fin 1024), iblk7 V c 1 t (ix2 r k) = ((b r k : ℝ) : EReal) := fun r k => by
    refine Eq.trans ?_ (h1 (ix2 r k))
    blk_ext [iblk7, idx7 t]
  have out : ∀ y : S1024x1024.Idx, (dat7 V c).after 2 t y = ((mmT 1024 a b (t.val * 1024 + (y 0).val) (y 1).val : ℝ) : EReal) := fun y => by
    rw [after7_2]
    unfold out7_2
    rw [View.canon_cons_unit_lit inb_S1024x1024_S1024x1024_0_0 _ _ (by decide), View.ld_unit_lit inb_S1024x1024_S1024x1024_0_0 _ (by decide), View.ld_unit_lit inb_S1024x1024_S1024x1024_0_0 _ (by decide)]
    idx_vars y
    rw [pay7 (a := fun r k => a (t.val * 1024 + r) k) (b := fun r k => b r k) b0 b1]
    rfl
  refine (out y).trans ?_
  idx_vars y
  blk_simp [idx7 t]

theorem pay8 {x : Vec Ideal S2048x1024 .bf16} {w : Vec Ideal S2048x512 .bf16} {a b : ℕ → ℕ → ℝ}
    (h0 : ∀ (r : Fin 2048) (k : Fin 1024), x (ix2 r k) = ((a r k : ℝ) : EReal)) (h1 : ∀ (r : Fin 2048) (k : Fin 512), w (ix2 r k) = ((b r k : ℝ) : EReal))
    (r : Fin 1024) (j : Fin 512) : k8_pay1 x w (ix2 r j) = ((tmm 2048 a b r j : ℝ) : EReal) := by
  pointwise [k8_pay1]
  simp only [h0, h1, ← EReal.coe_mul, coe_sum]
  rfl

theorem idx8 : ∀ t : Fin cfg8.N, win8_0.index t = ![0, 0] ∧ win8_1.index t = ![0, t.val] ∧ win8_2.index t = ![0, t.val] := by decide +kernel

/-- The output weights' gradient. -/
theorem mem_dwo {a : ℕ → ℕ → ℝ} {b : ℕ → ℕ → ℝ}
    (h0 : ∀ i : S2048x1024.Idx, V c main_v7 i = ((a (i 0).val (i 1).val : ℝ) : EReal))
    (h1 : ∀ i : S2048x1024.Idx, V c main_v9 i = ((b (i 0).val (i 1).val : ℝ) : EReal)) :
    (dat8 V c).arrAt 2 cfg8.N = fun i : S1024x1024.Idx => ((tmm 2048 a b (i 0).val (i 1).val : ℝ) : EReal) := by
  refine (dat8 V c).arrAt_eq_of_covers 2 _ (by decide +kernel) fun t hf y => ?_
  have ht : t.val < 2 := lt_of_lt_of_eq t.isLt N_8
  have b0 : ∀ (r : Fin 2048) (k : Fin 1024), iblk8 V c 0 t (ix2 r k) = ((a r k : ℝ) : EReal) := fun r k => by
    refine Eq.trans ?_ (h0 (ix2 r k))
    blk_ext [iblk8, idx8 t]
  have b1 : ∀ (r : Fin 2048) (k : Fin 512), iblk8 V c 1 t (ix2 r k) = ((b r (t.val * 512 + k.val) : ℝ) : EReal) := fun r k => by
    refine Eq.trans ?_ (h1 (ix2 r ⟨t.val * 512 + k.val, by omega⟩))
    blk_ext [iblk8, idx8 t]
  have out : ∀ y : S1024x512.Idx, (dat8 V c).after 2 t y = ((tmm 2048 a b (y 0).val (t.val * 512 + (y 1).val) : ℝ) : EReal) := fun y => by
    rw [after8_2]
    unfold out8_2
    rw [View.canon_cons_unit_lit inb_S1024x512_S1024x512_0_0 _ _ (by decide), View.ld_unit_lit inb_S2048x1024_S2048x1024_0_0 _ (by decide), View.ld_unit_lit inb_S2048x512_S2048x512_0_0 _ (by decide)]
    idx_vars y
    rw [pay8 (a := fun r k => a r k) (b := fun r k => b r (t.val * 512 + k)) b0 b1]
    rfl
  refine (out y).trans ?_
  idx_vars y
  blk_simp [idx8 t]

end Cert.Kernel3Ideal.Mem
end
-- ==== Proof.MemProductsBack.lean ====
module

public import proofs.«01_k».proof.Proof.Gen.Kernel3Ideal.Frame.Region10
public import proofs.«01_k».proof.Proof.Gen.Kernel3Ideal.Frame.Region11
public import proofs.«01_k».proof.Proof.Gen.Kernel3Ideal.Frame.Region12
public import proofs.«01_k».proof.Proof.Gen.Kernel3Ideal.Frame.Region13
public import proofs.«01_k».proof.Proof.Gen.Kernel3Ideal.Frame.Region14
public import proofs.«01_k».proof.Proof.Gen.Kernel3Ideal.Frame.Region15
public import proofs.«01_k».proof.Proof.MemProducts
public import proofs.«01_k».proof.Proof.MemSub
public import Idealize.ShloMosaic.Lib.Pipeline.ReadBack
public import Idealize.ShloMosaic.Lib.Pipeline.ValueKit

@[expose] public section

set_option maxRecDepth 16384

noncomputable section

/-! The memory sublayer's products after the attention's gradient, array by array, as real numbers. -/

namespace Cert.Kernel3Ideal.Mem

open Cert.Kernel3Ideal Cert.Kernel3Ideal.Gen Idealize.ShloMosaic Idealize.ShloMosaic.TcCoe Idealize.SL.Sem
open Cert.AttnReal Cert.FfnReal Cert.MemReal

variable (V : (c : Dev nD) → (b : Ref sig .tc) → Buf (Elt Ideal) ((c : Thread nD τ).loc b)) (c : Dev nD)

theorem idx10 : ∀ t : Fin cfg10.N, win10_0.index t = ![t.val, 0] ∧ win10_1.index t = ![0, 0] ∧ win10_2.index t = ![t.val, 0] := by decide +kernel

/-- The gradient of the normalized sequence. -/
theorem mem_dhq {a : ℕ → ℕ → ℝ} {b : ℕ → ℕ → ℝ}
    (h0 : ∀ i : S2048x1024.Idx, V c main_v12_0 i = ((a (i 0).val (i 1).val : ℝ) : EReal))
    (h1 : ∀ i : S1024x1024.Idx, V c main_arg4 i = ((b (i 0).val (i 1).val : ℝ) : EReal)) :
    (dat10 V c).arrAt 2 cfg10.N = fun i : S2048x1024.Idx => ((mmT 1024 a b (i 0).val (i 1).val : ℝ) : EReal) := by
  refine (dat10 V c).arrAt_eq_of_covers 2 _ (by decide +kernel) fun t hf y => ?_
  have ht : t.val < 2 := lt_of_lt_of_eq t.isLt N_10
  have b0 : ∀ (r : Fin 1024) (k : Fin 1024), iblk10 V c 0 t (ix2 r k) = ((a (t.val * 1024 + r.val) k : ℝ) : EReal) := fun r k => by
    refine Eq.trans ?_ (h0 (ix2 ⟨t.val * 1024 + r.val, by omega⟩ k))
    blk_ext [iblk10, idx10 t]
  have b1 : ∀ (r : Fin 1024) (k : Fin 1024), iblk10 V c 1 t (ix2 r k) = ((b r k : ℝ) : EReal) := fun r k => by
    refine Eq.trans ?_ (h1 (ix2 r k))
    blk_ext [iblk10, idx10 t]
  have out : ∀ y : S1024x1024.Idx, (dat10 V c).after 2 t y = ((mmT 1024 a b (t.val * 1024 + (y 0).val) (y 1).val : ℝ) : EReal) := fun y => by
    rw [after10_2]
    unfold out10_2
    rw [View.canon_cons_unit_lit inb_S1024x1024_S1024x1024_0_0 _ _ (by decide), View.ld_unit_lit inb_S1024x1024_S1024x1024_0_0 _ (by decide), View.ld_unit_lit inb_S1024x1024_S1024x1024_0_0 _ (by decide)]
    idx_vars y
    refine (pay7 (a := fun r k => a (t.val * 1024 + r) k) (b := fun r k => b r k) b0 b1 _ _).trans ?_
    rfl
  refine (out y).trans ?_
  idx_vars y
  blk_simp [idx10 t]

theorem idx11 : ∀ t : Fin cfg11.N, win11_0.index t = ![0, 0] ∧ win11_1.index t = ![0, t.val] ∧ win11_2.index t = ![0, t.val] := by decide +kernel

/-- The query weights' gradient. -/
theorem mem_dwq {a : ℕ → ℕ → ℝ} {b : ℕ → ℕ → ℝ}
    (h0 : ∀ i : S2048x1024.Idx, V c main_v1 i = ((a (i 0).val (i 1).val : ℝ) : EReal))
    (h1 : ∀ i : S2048x1024.Idx, V c main_v12_0 i = ((b (i 0).val (i 1).val : ℝ) : EReal)) :
    (dat11 V c).arrAt 2 cfg11.N = fun i : S1024x1024.Idx => ((tmm 2048 a b (i 0).val (i 1).val : ℝ) : EReal) := by
  refine (dat11 V c).arrAt_eq_of_covers 2 _ (by decide +kernel) fun t hf y => ?_
  have ht : t.val < 2 := lt_of_lt_of_eq t.isLt N_11
  have b0 : ∀ (r : Fin 2048) (k : Fin 1024), iblk11 V c 0 t (ix2 r k) = ((a r k : ℝ) : EReal) := fun r k => by
    refine Eq.trans ?_ (h0 (ix2 r k))
    blk_ext [iblk11, idx11 t]
  have b1 : ∀ (r : Fin 2048) (k : Fin 512), iblk11 V c 1 t (ix2 r k) = ((b r (t.val * 512 + k.val) : ℝ) : EReal) := fun r k => by
    refine Eq.trans ?_ (h1 (ix2 r ⟨t.val * 512 + k.val, by omega⟩))
    blk_ext [iblk11, idx11 t]
  have out : ∀ y : S1024x512.Idx, (dat11 V c).after 2 t y = ((tmm 2048 a b (y 0).val (t.val * 512 + (y 1).val) : ℝ) : EReal) := fun y => by
    rw [after11_2]
    unfold out11_2
    rw [View.canon_cons_unit_lit inb_S1024x512_S1024x512_0_0 _ _ (by decide), View.ld_unit_lit inb_S2048x1024_S2048x1024_0_0 _ (by decide), View.ld_unit_lit inb_S2048x512_S2048x512_0_0 _ (by decide)]
    idx_vars y
    refine (pay8 (a := fun r k => a r k) (b := fun r k => b r (t.val * 512 + k)) b0 b1 _ _).trans ?_
    rfl
  refine (out y).trans ?_
  idx_vars y
  blk_simp [idx11 t]

theorem pay12 {x : Vec Ideal S256x1024 .f32} {w : Vec Ideal S1024x1024 .bf16} {a b : ℕ → ℕ → ℝ}
    (h0 : ∀ (r : Fin 256) (k : Fin 1024), x (ix2 r k) = ((a r k : ℝ) : EReal)) (h1 : ∀ (r : Fin 1024) (k : Fin 1024), w (ix2 r k) = ((b r k : ℝ) : EReal))
    (r : Fin 256) (j : Fin 1024) : k12_pay1 x w (ix2 r j) = ((mmT 1024 a b r j : ℝ) : EReal) := by
  pointwise [k12_pay1]
  simp only [h0, h1, ← EReal.coe_mul, coe_sum]
  rfl

theorem idx12 : ∀ t : Fin cfg12.N, win12_0.index t = ![0, 0] ∧ win12_1.index t = ![0, 0] ∧ win12_2.index t = ![0, 0] := by decide +kernel

/-- The keys' part of the normalized memory's gradient. -/
theorem mem_dhm0 {a : ℕ → ℕ → ℝ} {b : ℕ → ℕ → ℝ}
    (h0 : ∀ i : S256x1024.Idx, V c main_v12_1 i = ((a (i 0).val (i 1).val : ℝ) : EReal))
    (h1 : ∀ i : S1024x1024.Idx, V c main_arg5 i = ((b (i 0).val (i 1).val : ℝ) : EReal)) :
    (dat12 V c).arrAt 2 cfg12.N = fun i : S256x1024.Idx => ((mmT 1024 a b (i 0).val (i 1).val : ℝ) : EReal) := by
  refine (dat12 V c).arrAt_eq_of_covers 2 _ (by decide +kernel) fun t hf y => ?_
  have ht : t.val < 1 := lt_of_lt_of_eq t.isLt N_12
  have b0 : ∀ (r : Fin 256) (k : Fin 1024), iblk12 V c 0 t (ix2 r k) = ((a r k : ℝ) : EReal) := fun r k => by
    refine Eq.trans ?_ (h0 (ix2 r k))
    blk_ext [iblk12, idx12 t]
  have b1 : ∀ (r : Fin 1024) (k : Fin 1024), iblk12 V c 1 t (ix2 r k) = ((b r k : ℝ) : EReal) := fun r k => by
    refine Eq.trans ?_ (h1 (ix2 r k))
    blk_ext [iblk12, idx12 t]
  have out : ∀ y : S256x1024.Idx, (dat12 V c).after 2 t y = ((mmT 1024 a b (y 0).val (y 1).val : ℝ) : EReal) := fun y => by
    rw [after12_2]
    unfold out12_2
    rw [View.canon_cons_unit_lit inb_S256x1024_S256x1024_0_0 _ _ (by decide), View.ld_unit_lit inb_S256x1024_S256x1024_0_0 _ (by decide), View.ld_unit_lit inb_S1024x1024_S1024x1024_0_0 _ (by decide)]
    idx_vars y
    rw [pay12 (a := fun r k => a r k) (b := fun r k => b r k) b0 b1]
  refine (out y).trans ?_
  idx_vars y
  blk_simp [idx12 t]

theorem pay13 {x : Vec Ideal S256x1024 .f32} {w : Vec Ideal S1024x1024 .bf16} {z : Vec Ideal S256x1024 .f32} {a b e : ℕ → ℕ → ℝ}
    (h0 : ∀ (r : Fin 256) (k : Fin 1024), x (ix2 r k) = ((a r k : ℝ) : EReal)) (h1 : ∀ (r : Fin 1024) (k : Fin 1024), w (ix2 r k) = ((b r k : ℝ) : EReal)) (h2 : ∀ (r : Fin 256) (k : Fin 1024), z (ix2 r k) = ((e r k : ℝ) : EReal))
    (r : Fin 256) (j : Fin 1024) : k13_pay1 x w z (ix2 r j) = ((mmT 1024 a b r j + e r j : ℝ) : EReal) := by
  pointwise [k13_pay1]
  simp only [h0, h1, h2, ← EReal.coe_mul, coe_sum, ← EReal.coe_add]
  rfl

theorem idx13 : ∀ t : Fin cfg13.N, win13_0.index t = ![0, 0] ∧ win13_1.index t = ![0, 0] ∧ win13_2.index t = ![0, 0] ∧ win13_3.index t = ![0, 0] := by decide +kernel

/-- The values' part, added. -/
theorem mem_dhm {a : ℕ → ℕ → ℝ} {b : ℕ → ℕ → ℝ} {e : ℕ → ℕ → ℝ}
    (h0 : ∀ i : S256x1024.Idx, V c main_v12_2 i = ((a (i 0).val (i 1).val : ℝ) : EReal))
    (h1 : ∀ i : S1024x1024.Idx, V c main_arg6 i = ((b (i 0).val (i 1).val : ℝ) : EReal))
    (h2 : ∀ i : S256x1024.Idx, V c main_v15 i = ((e (i 0).val (i 1).val : ℝ) : EReal)) :
    (dat13 V c).arrAt 3 cfg13.N = fun i : S256x1024.Idx => ((mmT 1024 a b (i 0).val (i 1).val + e (i 0).val (i 1).val : ℝ) : EReal) := by
  refine (dat13 V c).arrAt_eq_of_covers 3 _ (by decide +kernel) fun t hf y => ?_
  have ht : t.val < 1 := lt_of_lt_of_eq t.isLt N_13
  have b0 : ∀ (r : Fin 256) (k : Fin 1024), iblk13 V c 0 t (ix2 r k) = ((a r k : ℝ) : EReal) := fun r k => by
    refine Eq.trans ?_ (h0 (ix2 r k))
    blk_ext [iblk13, idx13 t]
  have b1 : ∀ (r : Fin 1024) (k : Fin 1024), iblk13 V c 1 t (ix2 r k) = ((b r k : ℝ) : EReal) := fun r k => by
    refine Eq.trans ?_ (h1 (ix2 r k))
    blk_ext [iblk13, idx13 t]
  have b2 : ∀ (r : Fin 256) (k : Fin 1024), iblk13 V c 2 t (ix2 r k) = ((e r k : ℝ) : EReal) := fun r k => by
    refine Eq.trans ?_ (h2 (ix2 r k))
    blk_ext [iblk13, idx13 t]
  have out : ∀ y : S256x1024.Idx, (dat13 V c).after 3 t y = ((mmT 1024 a b (y 0).val (y 1).val + e (y 0).val (y 1).val : ℝ) : EReal) := fun y => by
    rw [after13_3]
    unfold out13_3
    rw [View.canon_cons_unit_lit inb_S256x1024_S256x1024_0_0 _ _ (by decide), View.ld_unit_lit inb_S256x1024_S256x1024_0_0 _ (by decide), View.ld_unit_lit inb_S1024x1024_S1024x1024_0_0 _ (by decide), View.ld_unit_lit inb_S256x1024_S256x1024_0_0 _ (by decide)]
    idx_vars y
    rw [pay13 (a := fun r k => a r k) (b := fun r k => b r k) (e := fun r k => e r k) b0 b1 b2]
  refine (out y).trans ?_
  idx_vars y
  blk_simp [idx13 t]

theorem pay14 {x : Vec Ideal S256x1024 .bf16} {w : Vec Ideal S256x1024 .f32} {a b : ℕ → ℕ → ℝ}
    (h0 : ∀ (r : Fin 256) (k : Fin 1024), x (ix2 r k) = ((a r k : ℝ) : EReal)) (h1 : ∀ (r : Fin 256) (k : Fin 1024), w (ix2 r k) = ((b r k : ℝ) : EReal))
    (r : Fin 1024) (j : Fin 1024) : k14_pay1 x w (ix2 r j) = ((tmm 256 a b r j : ℝ) : EReal) := by
  pointwise [k14_pay1]
  simp only [h0, h1, ← EReal.coe_mul, coe_sum]
  rfl

theorem idx14 : ∀ t : Fin cfg14.N, win14_0.index t = ![0, 0] ∧ win14_1.index t = ![0, 0] ∧ win14_2.index t = ![0, 0] := by decide +kernel

/-- The key weights' gradient. -/
theorem mem_dwk {a : ℕ → ℕ → ℝ} {b : ℕ → ℕ → ℝ}
    (h0 : ∀ i : S256x1024.Idx, V c main_v3 i = ((a (i 0).val (i 1).val : ℝ) : EReal))
    (h1 : ∀ i : S256x1024.Idx, V c main_v12_1 i = ((b (i 0).val (i 1).val : ℝ) : EReal)) :
    (dat14 V c).arrAt 2 cfg14.N = fun i : S1024x1024.Idx => ((tmm 256 a b (i 0).val (i 1).val : ℝ) : EReal) := by
  refine (dat14 V c).arrAt_eq_of_covers 2 _ (by decide +kernel) fun t hf y => ?_
  have ht : t.val < 1 := lt_of_lt_of_eq t.isLt N_14
  have b0 : ∀ (r : Fin 256) (k : Fin 1024), iblk14 V c 0 t (ix2 r k) = ((a r k : ℝ) : EReal) := fun r k => by
    refine Eq.trans ?_ (h0 (ix2 r k))
    blk_ext [iblk14, idx14 t]
  have b1 : ∀ (r : Fin 256) (k : Fin 1024), iblk14 V c 1 t (ix2 r k) = ((b r k : ℝ) : EReal) := fun r k => by
    refine Eq.trans ?_ (h1 (ix2 r k))
    blk_ext [iblk14, idx14 t]
  have out : ∀ y : S1024x1024.Idx, (dat14 V c).after 2 t y = ((tmm 256 a b (y 0).val (y 1).val : ℝ) : EReal) := fun y => by
    rw [after14_2]
    unfold out14_2
    rw [View.canon_cons_unit_lit inb_S1024x1024_S1024x1024_0_0 _ _ (by decide), View.ld_unit_lit inb_S256x1024_S256x1024_0_0 _ (by decide), View.ld_unit_lit inb_S256x1024_S256x1024_0_0 _ (by decide)]
    idx_vars y
    rw [pay14 (a := fun r k => a r k) (b := fun r k => b r k) b0 b1]
  refine (out y).trans ?_
  idx_vars y
  blk_simp [idx14 t]

theorem idx15 : ∀ t : Fin cfg15.N, win15_0.index t = ![0, 0] ∧ win15_1.index t = ![0, 0] ∧ win15_2.index t = ![0, 0] := by decide +kernel

/-- The value weights' gradient. -/
theorem mem_dwv {a : ℕ → ℕ → ℝ} {b : ℕ → ℕ → ℝ}
    (h0 : ∀ i : S256x1024.Idx, V c main_v3 i = ((a (i 0).val (i 1).val : ℝ) : EReal))
    (h1 : ∀ i : S256x1024.Idx, V c main_v12_2 i = ((b (i 0).val (i 1).val : ℝ) : EReal)) :
    (dat15 V c).arrAt 2 cfg15.N = fun i : S1024x1024.Idx => ((tmm 256 a b (i 0).val (i 1).val : ℝ) : EReal) := by
  refine (dat15 V c).arrAt_eq_of_covers 2 _ (by decide +kernel) fun t hf y => ?_
  have ht : t.val < 1 := lt_of_lt_of_eq t.isLt N_15
  have b0 : ∀ (r : Fin 256) (k : Fin 1024), iblk15 V c 0 t (ix2 r k) = ((a r k : ℝ) : EReal) := fun r k => by
    refine Eq.trans ?_ (h0 (ix2 r k))
    blk_ext [iblk15, idx15 t]
  have b1 : ∀ (r : Fin 256) (k : Fin 1024), iblk15 V c 1 t (ix2 r k) = ((b r k : ℝ) : EReal) := fun r k => by
    refine Eq.trans ?_ (h1 (ix2 r k))
    blk_ext [iblk15, idx15 t]
  have out : ∀ y : S1024x1024.Idx, (dat15 V c).after 2 t y = ((tmm 256 a b (y 0).val (y 1).val : ℝ) : EReal) := fun y => by
    rw [after15_2]
    unfold out15_2
    rw [View.canon_cons_unit_lit inb_S1024x1024_S1024x1024_0_0 _ _ (by decide), View.ld_unit_lit inb_S256x1024_S256x1024_0_0 _ (by decide), View.ld_unit_lit inb_S256x1024_S256x1024_0_0 _ (by decide)]
    idx_vars y
    refine (pay14 (a := fun r k => a r k) (b := fun r k => b r k) b0 b1 _ _).trans ?_
    rfl
  refine (out y).trans ?_
  idx_vars y
  blk_simp [idx15 t]

end Cert.Kernel3Ideal.Mem
end
-- ==== Proof.MemAttn.lean ====
module

public import proofs.«01_k».proof.Proof.Gen.Kernel3Ideal.Frame.Region5
public import proofs.«01_k».proof.Proof.MemSub
public import proofs.«01_k».proof.Proof.MemKernel
public import Idealize.ShloMosaic.Lib.Pipeline.ReadBack
public import Idealize.ShloMosaic.Lib.Pipeline.ValueKit

@[expose] public section

set_option maxRecDepth 16384

noncomputable section

/-! The memory sublayer's attention, as real numbers. -/

namespace Cert.Kernel3Ideal.Mem

open Cert.Kernel3Ideal Cert.Kernel3Ideal.Gen Idealize.ShloMosaic Idealize.ShloMosaic.TcCoe Idealize.SL.Sem
open Cert.AttnReal Cert.FfnReal Cert.MemReal
open Cert.KernelIdeal.MemValue (ld_row)

/-- A head's attention. -/
theorem att_apply {a : Vec Ideal S512x256 .bf16} {b e : Vec Ideal S256x256 .bf16} {ar : Fin 512 → Fin 256 → ℝ} {br er : Fin 256 → Fin 256 → ℝ}
    (ha : ∀ r j, a (ix2 r j) = ((ar r j : ℝ) : EReal)) (hb : ∀ r j, b (ix2 r j) = ((br r j : ℝ) : EReal))
    (he : ∀ r j, e (ix2 r j) = ((er r j : ℝ) : EReal)) (r : Fin 512) (j : Fin 256) :
    k5_pay2 a b e (ix2 r j) = ((∑ c, prob (ar r) br c * er c j : ℝ) : EReal) := by
  obtain ⟨M, hM⟩ := fold_max_real (score (ar r) br)
  have hs : ∀ x, (∑ j, a (ix2 r j) * b (ix2 x j)) * Ideal.ofBits .f32 1031798784#32 = ((score (ar r) br x : ℝ) : EReal) := fun x => by
    simp only [ha, hb, sixteenth, ← EReal.coe_mul, coe_sum]; rfl
  pointwise [k5_pay2]
  simp only [hs, he, neg_inf, hM, ← EReal.coe_sub, Ideal.exp_coe, coe_sum, Ideal.div_coe (expsum_pos _ M).ne', ← EReal.coe_mul, mul_one_div, shift]
  rfl

/-- A head's columns of a block of the attention. -/
theorem att_tile {X0 : Vec Ideal S512x1024 .bf16} {X1 X2 : Vec Ideal S256x1024 .bf16} {q k v : ℕ → ℕ → ℝ}
    (h0 : ∀ i, X0 i = ((arr 512 q i : ℝ) : EReal)) (h1 : ∀ i, X1 i = ((arr 256 k i : ℝ) : EReal)) (h2 : ∀ i, X2 i = ((arr 256 v i : ℝ) : EReal))
    (h : Fin 4) {o : Nat} (ho : o = h.val * 256) (i5 : ∀ a, ![0, o] a + ![512, 256] a ≤ S512x1024.size a)
    (i2 : ∀ a, ![0, o] a + ![256, 256] a ≤ S256x1024.size a) (x : S512x256.Idx) (y : S512x1024.Idx) (y0 : (y 0).val = (x 0).val)
    (y1 : (y 1).val = o + (x 1).val) :
    k5_pay2 (View.ld X0 (Rect.unit ![0, o] ![512, 256] i5)) (View.ld X1 (Rect.unit ![0, o] ![256, 256] i2))
      (View.ld X2 (Rect.unit ![0, o] ![256, 256] i2)) x = ((att q k v (y 0).val (y 1).val : ℝ) : EReal) := by
  obtain ⟨r, c, rfl⟩ : ∃ r c, x = ix2 r c := ⟨_, _, eq_ix2 x⟩
  rw [att_apply (ld_row h0 h ho i5) (ld_row h1 h ho i2) (ld_row h2 h ho i2)]
  refine congrArg _ ?_
  have hc : c.val < 256 := c.isLt
  rw [show (y 0).val = r.val from y0, show (y 1).val = h.val * 256 + c.val from y1.trans (congrArg (· + c.val) ho)]
  unfold att
  rw [show (h.val * 256 + c.val) / 256 = h.val by omega]
  rfl

theorem idx5 : ∀ t : Fin cfg5.N, win5_0.index t = ![t.val, 0] ∧ win5_1.index t = ![0, 0] ∧ win5_2.index t = ![0, 0] ∧ win5_3.index t = ![t.val, 0] := by
  decide +kernel

variable (V : (c : Dev nD) → (b : Ref sig .tc) → Buf (Elt Ideal) ((c : Thread nD τ).loc b)) (c : Dev nD)

/-- The attention. -/
theorem mem_att {q k v : ℕ → ℕ → ℝ} (h0 : ∀ i : S2048x1024.Idx, V c main_v4 i = ((q (i 0).val (i 1).val : ℝ) : EReal))
    (h1 : ∀ i : S256x1024.Idx, V c main_v5 i = ((k (i 0).val (i 1).val : ℝ) : EReal))
    (h2 : ∀ i : S256x1024.Idx, V c main_v6 i = ((v (i 0).val (i 1).val : ℝ) : EReal)) :
    (dat5 V c).arrAt 3 cfg5.N = fun i : S2048x1024.Idx => ((att q k v (i 0).val (i 1).val : ℝ) : EReal) := by
  refine (dat5 V c).arrAt_eq_of_covers 3 _ (by decide +kernel) fun t hf y => ?_
  have ht : t.val < 4 := lt_of_lt_of_eq t.isLt N_5
  have b0 : ∀ i : S512x1024.Idx, iblk5 V c 0 t i = ((arr 512 (fun r j => q (t.val * 512 + r) j) i : ℝ) : EReal) := fun i => by
    idx_vars i
    refine Eq.trans ?_ (h0 (ix2 ⟨t.val * 512 + i0.val, by omega⟩ i1))
    blk_ext [iblk5, idx5 t]
  have b1 : ∀ i : S256x1024.Idx, iblk5 V c 1 t i = ((arr 256 k i : ℝ) : EReal) := fun i => by
    refine Eq.trans ?_ (h1 i)
    blk_ext [iblk5, idx5 t]
  have b2 : ∀ i : S256x1024.Idx, iblk5 V c 2 t i = ((arr 256 v i : ℝ) : EReal) := fun i => by
    refine Eq.trans ?_ (h2 i)
    blk_ext [iblk5, idx5 t]
  have out : ∀ y : S512x1024.Idx, (dat5 V c).after 3 t y = ((att q k v (t.val * 512 + (y 0).val) (y 1).val : ℝ) : EReal) := fun y => by
    rw [after5_3]
    unfold out5_3
    canon_tiles x hx
    · exact att_tile b0 b1 b2 3 rfl _ _ x y hx0 hx1
    · exact att_tile b0 b1 b2 2 rfl _ _ x y hx0 hx1
    · exact att_tile b0 b1 b2 1 rfl _ _ x y hx0 hx1
    · exact att_tile b0 b1 b2 0 rfl _ _ x y hx0 (hx1.trans (Nat.zero_add _).symm)
  refine (out y).trans ?_
  idx_vars y
  blk_simp [idx5 t]

end Cert.Kernel3Ideal.Mem
end
-- ==== Proof.MemAttnBack.lean ====
module

public import proofs.«01_k».proof.Proof.Gen.Kernel3Ideal.Frame.Region9
public import proofs.«01_k».proof.Proof.MemSub
public import proofs.«01_k».proof.Proof.MemKernel
public import Idealize.ShloMosaic.Lib.Pipeline.ReadBack
public import Idealize.ShloMosaic.Lib.Pipeline.ValueKit

@[expose] public section

set_option maxRecDepth 16384

noncomputable section

/-! The gradients through the memory sublayer's attention, as real numbers. -/

namespace Cert.Kernel3Ideal.Mem

open Cert.Kernel3Ideal Cert.Kernel3Ideal.Gen Idealize.ShloMosaic Idealize.ShloMosaic.TcCoe Idealize.SL.Sem
open Cert.AttnReal Cert.FfnReal Cert.MemReal
open Cert.KernelIdeal.MemValue (ld_row emb_row emb_col gradQ_at gradK_at gradV_at rows gradQ_rows gradK_rows gradV_rows)

/-! ## One head -/

section Head
variable {a d : Vec Ideal S512x256 .bf16} {b e : Vec Ideal S256x256 .bf16}
  {ar dr : Fin 512 → Fin 256 → ℝ} {br er : Fin 256 → Fin 256 → ℝ}

/-- The probabilities of a head. -/
theorem pr_head (ha : ∀ r j, a (ix2 r j) = ((ar r j : ℝ) : EReal)) (hb : ∀ r j, b (ix2 r j) = ((br r j : ℝ) : EReal)) (r : Fin 512) (c : Fin 256) :
    k9_pay7 a b (ix2 r c) = ((prob (ar r) br c : ℝ) : EReal) := by
  obtain ⟨M, hM⟩ := fold_max_real (score (ar r) br)
  have hs : ∀ x, (∑ j, a (ix2 r j) * b (ix2 x j)) * Ideal.ofBits .f32 1031798784#32 = ((score (ar r) br x : ℝ) : EReal) := fun x => by
    simp only [ha, hb, sixteenth, ← EReal.coe_mul, coe_sum]; rfl
  pointwise [k9_pay7, k9_pay4, k9_pay5]
  simp only [hs, neg_inf, hM, ← EReal.coe_sub, Ideal.exp_coe, coe_sum]
  rw [Ideal.div_coe (expsum_pos _ M).ne', ← EReal.coe_mul, mul_one_div, shift]
  rfl

/-- The gradient of a head's unscaled scores. -/
theorem ds_head (ha : ∀ r j, a (ix2 r j) = ((ar r j : ℝ) : EReal)) (hb : ∀ r j, b (ix2 r j) = ((br r j : ℝ) : EReal))
    (he : ∀ r j, e (ix2 r j) = ((er r j : ℝ) : EReal)) (hd : ∀ r j, d (ix2 r j) = ((dr r j : ℝ) : EReal)) (r : Fin 512) (c : Fin 256) :
    k9_pay8 a b e d (ix2 r c) = ((dscore (ar r) (dr r) br er c : ℝ) : EReal) := by
  pointwise [k9_pay8, k9_pay6]
  simp only [pr_head ha hb, he, hd, sixteenth, ← EReal.coe_mul, coe_sum, ← EReal.coe_sub]
  rfl

/-- The queries' gradient of a head. -/
theorem dq_head (ha : ∀ r j, a (ix2 r j) = ((ar r j : ℝ) : EReal)) (hb : ∀ r j, b (ix2 r j) = ((br r j : ℝ) : EReal))
    (he : ∀ r j, e (ix2 r j) = ((er r j : ℝ) : EReal)) (hd : ∀ r j, d (ix2 r j) = ((dr r j : ℝ) : EReal)) (r : Fin 512) (j : Fin 256) :
    k9_pay9 a b e d (ix2 r j) = ((∑ c, dscore (ar r) (dr r) br er c * br c j : ℝ) : EReal) := by
  pointwise [k9_pay9, k9_pay5]
  simp only [ds_head ha hb he hd, hb, ← EReal.coe_mul, coe_sum]

/-- The keys' gradient of a head, added to what the accumulator held. -/
theorem dk_head (ha : ∀ r j, a (ix2 r j) = ((ar r j : ℝ) : EReal)) (hb : ∀ r j, b (ix2 r j) = ((br r j : ℝ) : EReal))
    (he : ∀ r j, e (ix2 r j) = ((er r j : ℝ) : EReal)) (hd : ∀ r j, d (ix2 r j) = ((dr r j : ℝ) : EReal)) (A : Vec Ideal S256x256 .f32)
    (c : Fin 256) (j : Fin 256) :
    k9_pay10 (k9_pay4 a) (k9_pay8 a b e d) A (ix2 c j) = A (ix2 c j) + ((∑ r, dscore (ar r) (dr r) br er c * ar r j : ℝ) : EReal) := by
  pointwise [k9_pay10, k9_pay4]
  simp only [ds_head ha hb he hd, ha, ← EReal.coe_mul, coe_sum]

/-- The values' gradient of a head, added to what the accumulator held. -/
theorem dv_head (ha : ∀ r j, a (ix2 r j) = ((ar r j : ℝ) : EReal)) (hb : ∀ r j, b (ix2 r j) = ((br r j : ℝ) : EReal))
    (hd : ∀ r j, d (ix2 r j) = ((dr r j : ℝ) : EReal)) (A : Vec Ideal S256x256 .f32) (c : Fin 256) (j : Fin 256) :
    k9_pay11 (k9_pay6 d) (k9_pay7 a b) A (ix2 c j) = A (ix2 c j) + ((∑ r, prob (ar r) br c * dr r j : ℝ) : EReal) := by
  pointwise [k9_pay11, k9_pay6]
  simp only [pr_head ha hb, hd, ← EReal.coe_mul, coe_sum]

end Head

/-! ## A head's columns of a block -/

section Blocks
variable {X0 X3 : Vec Ideal S512x1024 .bf16} {X1 X2 : Vec Ideal S256x1024 .bf16} {qb gb : Shape.Idx ⟨2, ![512, 1024]⟩ → ℝ}
  {kb vb : Shape.Idx ⟨2, ![256, 1024]⟩ → ℝ}

variable (h0 : ∀ i, X0 i = ((qb i : ℝ) : EReal)) (h1 : ∀ i, X1 i = ((kb i : ℝ) : EReal)) (h2 : ∀ i, X2 i = ((vb i : ℝ) : EReal))
  (h3 : ∀ i, X3 i = ((gb i : ℝ) : EReal)) (h : Fin 4) {o : Nat} (ho : o = h.val * 256)
include h0 h1 h3 ho

include h2 in
/-- A head's tile of the queries' gradient. -/
theorem dq_tile (i5 : ∀ a, ![0, o] a + ![512, 256] a ≤ S512x1024.size a) (i2 : ∀ a, ![0, o] a + ![256, 256] a ≤ S256x1024.size a)
    (x : S512x256.Idx) (y : S512x1024.Idx) (y0 : (y 0).val = (x 0).val) (y1 : (y 1).val = o + (x 1).val) :
    k9_pay9 (View.ld X0 (Rect.unit ![0, o] ![512, 256] i5)) (View.ld X1 (Rect.unit ![0, o] ![256, 256] i2))
      (View.ld X2 (Rect.unit ![0, o] ![256, 256] i2)) (View.ld X3 (Rect.unit ![0, o] ![512, 256] i5)) x
      = ((gradQ qb gb kb vb (y 0) (y 1) : ℝ) : EReal) := by
  obtain ⟨r, c, rfl⟩ : ∃ r c, x = ix2 r c := ⟨_, _, eq_ix2 x⟩
  obtain ⟨s, j, rfl⟩ : ∃ s j, y = ix2 s j := ⟨_, _, eq_ix2 y⟩
  obtain rfl : s = r := Fin.ext y0
  rw [dq_head (ld_row h0 h ho i5) (ld_row h1 h ho i2) (ld_row h2 h ho i2) (ld_row h3 h ho i5)]
  exact congrArg _ (gradQ_at qb gb kb vb ho y1 s).symm

include h2 in
/-- A head's tile of the keys' gradient, added to what the accumulator held. -/
theorem dk_tile (i5 : ∀ a, ![0, o] a + ![512, 256] a ≤ S512x1024.size a) (i2 : ∀ a, ![0, o] a + ![256, 256] a ≤ S256x1024.size a)
    (A : Vec Ideal S256x1024 .f32) (x : S256x256.Idx) (y : S256x1024.Idx) (y0 : (y 0).val = (x 0).val) (y1 : (y 1).val = o + (x 1).val) :
    k9_pay10 (k9_pay4 (View.ld X0 (Rect.unit ![0, o] ![512, 256] i5))) (k9_pay8 (View.ld X0 (Rect.unit ![0, o] ![512, 256] i5))
      (View.ld X1 (Rect.unit ![0, o] ![256, 256] i2)) (View.ld X2 (Rect.unit ![0, o] ![256, 256] i2)) (View.ld X3 (Rect.unit ![0, o] ![512, 256] i5)))
      (View.ld A (Rect.unit ![0, o] ![256, 256] i2)) x
      = A y + ((gradK qb gb kb vb (y 0) (y 1) : ℝ) : EReal) := by
  have hA : View.ld A (Rect.unit ![0, o] ![256, 256] i2) x = A y := View.ld_unit_apply_of A ![0, o] ![256, 256] i2 x y fun a => by
    match a with
    | ⟨0, _⟩ => exact y0.trans (Nat.zero_add _).symm
    | ⟨1, _⟩ => exact y1
  obtain ⟨r, c, rfl⟩ : ∃ r c, x = ix2 r c := ⟨_, _, eq_ix2 x⟩
  obtain ⟨s, j, rfl⟩ : ∃ s j, y = ix2 s j := ⟨_, _, eq_ix2 y⟩
  obtain rfl : s = r := Fin.ext y0
  rw [dk_head (ld_row h0 h ho i5) (ld_row h1 h ho i2) (ld_row h2 h ho i2) (ld_row h3 h ho i5), hA]
  exact congrArg (A (ix2 s j) + ·) (congrArg _ (gradK_at qb gb kb vb ho y1 s).symm)

/-- A head's tile of the values' gradient, added to what the accumulator held. -/
theorem dv_tile (i5 : ∀ a, ![0, o] a + ![512, 256] a ≤ S512x1024.size a) (i2 : ∀ a, ![0, o] a + ![256, 256] a ≤ S256x1024.size a)
    (A : Vec Ideal S256x1024 .f32) (x : S256x256.Idx) (y : S256x1024.Idx) (y0 : (y 0).val = (x 0).val) (y1 : (y 1).val = o + (x 1).val) :
    k9_pay11 (k9_pay6 (View.ld X3 (Rect.unit ![0, o] ![512, 256] i5))) (k9_pay7 (View.ld X0 (Rect.unit ![0, o] ![512, 256] i5)) (View.ld X1 (Rect.unit ![0, o] ![256, 256] i2)))
      (View.ld A (Rect.unit ![0, o] ![256, 256] i2)) x
      = A y + ((gradV qb gb kb (y 0) (y 1) : ℝ) : EReal) := by
  have hA : View.ld A (Rect.unit ![0, o] ![256, 256] i2) x = A y := View.ld_unit_apply_of A ![0, o] ![256, 256] i2 x y fun a => by
    match a with
    | ⟨0, _⟩ => exact y0.trans (Nat.zero_add _).symm
    | ⟨1, _⟩ => exact y1
  obtain ⟨r, c, rfl⟩ : ∃ r c, x = ix2 r c := ⟨_, _, eq_ix2 x⟩
  obtain ⟨s, j, rfl⟩ : ∃ s j, y = ix2 s j := ⟨_, _, eq_ix2 y⟩
  obtain rfl : s = r := Fin.ext y0
  rw [dv_head (ld_row h0 h ho i5) (ld_row h1 h ho i2) (ld_row h3 h ho i5), hA]
  exact congrArg (A (ix2 s j) + ·) (congrArg _ (gradV_at qb gb kb ho y1 s).symm)

end Blocks

/-! ## The blocks after a grid point -/

section Point
variable (V : (c : Dev nD) → (b : Ref sig .tc) → Buf (Elt Ideal) ((c : Thread nD τ).loc b)) (c : Dev nD) (t : Fin cfg9.N)
variable {qb gb : Shape.Idx ⟨2, ![512, 1024]⟩ → ℝ} {kb vb : Shape.Idx ⟨2, ![256, 1024]⟩ → ℝ}
  (h0 : ∀ i, iblk9 V c 0 t i = ((qb i : ℝ) : EReal)) (h1 : ∀ i, iblk9 V c 1 t i = ((kb i : ℝ) : EReal)) (h2 : ∀ i, iblk9 V c 2 t i = ((vb i : ℝ) : EReal))
  (h3 : ∀ i, iblk9 V c 3 t i = ((gb i : ℝ) : EReal))
include h0 h1 h2 h3

/-- The queries' gradient block. -/
theorem datq_block (y : S512x1024.Idx) : (outsAt9 V c t.val t.isLt).1 y = ((gradQ qb gb kb vb (y 0) (y 1) : ℝ) : EReal) := by
  by_cases ht : t.val % 4 = 0
  · rw [outsAt9_A V c t ht]
    frame_out
    canon_tiles x hx
    · exact dq_tile h0 h1 h2 h3 3 rfl _ _ x y hx0 hx1
    · exact dq_tile h0 h1 h2 h3 2 rfl _ _ x y hx0 hx1
    · exact dq_tile h0 h1 h2 h3 1 rfl _ _ x y hx0 hx1
    · exact dq_tile h0 h1 h2 h3 0 rfl _ _ x y hx0 (hx1.trans (Nat.zero_add _).symm)
  · rw [outsAt9_B V c t ht]
    frame_out
    canon_tiles x hx
    · exact dq_tile h0 h1 h2 h3 3 rfl _ _ x y hx0 hx1
    · exact dq_tile h0 h1 h2 h3 2 rfl _ _ x y hx0 hx1
    · exact dq_tile h0 h1 h2 h3 1 rfl _ _ x y hx0 hx1
    · exact dq_tile h0 h1 h2 h3 0 rfl _ _ x y hx0 (hx1.trans (Nat.zero_add _).symm)

/-- The keys' gradient after a later grid point. -/
theorem datk_step (ht : ¬t.val % 4 = 0) (y : S256x1024.Idx) :
    (outsAt9 V c t.val t.isLt).2.1 y
      = (outsAt9 V c (t.val - 1) (Nat.lt_of_le_of_lt (Nat.sub_le _ _) t.isLt)).2.1 y + ((gradK qb gb kb vb (y 0) (y 1) : ℝ) : EReal) := by
  rw [outsAt9_B V c t ht]
  frame_out
  canon_tiles x hx
  · exact dk_tile h0 h1 h2 h3 3 rfl _ _ _ x y hx0 hx1
  · exact dk_tile h0 h1 h2 h3 2 rfl _ _ _ x y hx0 hx1
  · exact dk_tile h0 h1 h2 h3 1 rfl _ _ _ x y hx0 hx1
  · exact dk_tile h0 h1 h2 h3 0 rfl _ _ _ x y hx0 (hx1.trans (Nat.zero_add _).symm)

/-- The values' gradient after a later grid point. -/
theorem datv_step (ht : ¬t.val % 4 = 0) (y : S256x1024.Idx) :
    (outsAt9 V c t.val t.isLt).2.2 y
      = (outsAt9 V c (t.val - 1) (Nat.lt_of_le_of_lt (Nat.sub_le _ _) t.isLt)).2.2 y + ((gradV qb gb kb (y 0) (y 1) : ℝ) : EReal) := by
  rw [outsAt9_B V c t ht]
  frame_out
  canon_tiles x hx
  · exact dv_tile h0 h1 h3 3 rfl _ _ _ x y hx0 hx1
  · exact dv_tile h0 h1 h3 2 rfl _ _ _ x y hx0 hx1
  · exact dv_tile h0 h1 h3 1 rfl _ _ _ x y hx0 hx1
  · exact dv_tile h0 h1 h3 0 rfl _ _ _ x y hx0 (hx1.trans (Nat.zero_add _).symm)

/-- The keys' gradient after the first grid point. -/
theorem datk_first (ht : t.val % 4 = 0) (y : S256x1024.Idx) :
    (outsAt9 V c t.val t.isLt).2.1 y = 0 + ((gradK qb gb kb vb (y 0) (y 1) : ℝ) : EReal) := by
  have hz : (k9_pay2 (F := Ideal)) y = (0 : EReal) := by
    idx_vars y
    pointwise [k9_pay2]
    try exact Ideal.ofBits_zero_f32
  rw [outsAt9_A V c t ht]
  frame_open
  simp (disch := decide) only [↓ View.readCov_skip, ↓ View.readCov_cons_toLoadRect, ↓ View.readCov_fill]
  frame_out
  refine (View.canon_append_of_piecesOf (fun y => k9_pay2 (F := Ideal) y + ((gradK qb gb kb vb (y 0) (y 1) : ℝ) : EReal)) [_] [_, _, _, _] ⟨fun x => ?_, fun x => ?_, fun x => ?_, fun x => ?_, trivial⟩ y
    (View.cover_of_tiledL _ ![256, 256] (by rfl) y)).trans (congrArg (· + _) hz)
  · exact dk_tile h0 h1 h2 h3 3 rfl _ _ _ x _ (emb_row inb_S256x1024_S256x256_0_768 x) (emb_col inb_S256x1024_S256x256_0_768 x)
  · exact dk_tile h0 h1 h2 h3 2 rfl _ _ _ x _ (emb_row inb_S256x1024_S256x256_0_512 x) (emb_col inb_S256x1024_S256x256_0_512 x)
  · exact dk_tile h0 h1 h2 h3 1 rfl _ _ _ x _ (emb_row inb_S256x1024_S256x256_0_256 x) (emb_col inb_S256x1024_S256x256_0_256 x)
  · exact dk_tile h0 h1 h2 h3 0 rfl _ _ _ x _ (emb_row inb_S256x1024_S256x256_0_0 x) (emb_col inb_S256x1024_S256x256_0_0 x)

/-- The values' gradient after the first grid point. -/
theorem datv_first (ht : t.val % 4 = 0) (y : S256x1024.Idx) :
    (outsAt9 V c t.val t.isLt).2.2 y = 0 + ((gradV qb gb kb (y 0) (y 1) : ℝ) : EReal) := by
  have hz : (k9_pay3 (F := Ideal)) y = (0 : EReal) := by
    idx_vars y
    pointwise [k9_pay3]
    try exact Ideal.ofBits_zero_f32
  rw [outsAt9_A V c t ht]
  frame_open
  simp (disch := decide) only [↓ View.readCov_skip, ↓ View.readCov_cons_toLoadRect, ↓ View.readCov_fill]
  frame_out
  refine (View.canon_append_of_piecesOf (fun y => k9_pay3 (F := Ideal) y + ((gradV qb gb kb (y 0) (y 1) : ℝ) : EReal)) [_] [_, _, _, _] ⟨fun x => ?_, fun x => ?_, fun x => ?_, fun x => ?_, trivial⟩ y
    (View.cover_of_tiledL _ ![256, 256] (by rfl) y)).trans (congrArg (· + _) hz)
  · exact dv_tile h0 h1 h3 3 rfl _ _ _ x _ (emb_row inb_S256x1024_S256x256_0_768 x) (emb_col inb_S256x1024_S256x256_0_768 x)
  · exact dv_tile h0 h1 h3 2 rfl _ _ _ x _ (emb_row inb_S256x1024_S256x256_0_512 x) (emb_col inb_S256x1024_S256x256_0_512 x)
  · exact dv_tile h0 h1 h3 1 rfl _ _ _ x _ (emb_row inb_S256x1024_S256x256_0_256 x) (emb_col inb_S256x1024_S256x256_0_256 x)
  · exact dv_tile h0 h1 h3 0 rfl _ _ _ x _ (emb_row inb_S256x1024_S256x256_0_0 x) (emb_col inb_S256x1024_S256x256_0_0 x)

end Point

/-! ## The arrays after the run -/

theorem idx9 : ∀ t : Fin cfg9.N, win9_0.index t = ![t.val, 0] ∧ win9_1.index t = ![0, 0] ∧ win9_2.index t = ![0, 0] ∧ win9_3.index t = ![t.val, 0]
    ∧ win9_4.index t = ![t.val, 0] ∧ win9_5.index t = ![0, 0] ∧ win9_6.index t = ![0, 0] := by decide +kernel

section Arrays
variable (V : (c : Dev nD) → (b : Ref sig .tc) → Buf (Elt Ideal) ((c : Thread nD τ).loc b)) (c : Dev nD)
variable {q g : Shape.Idx ⟨2, ![2048, 1024]⟩ → ℝ} {k v : Shape.Idx ⟨2, ![256, 1024]⟩ → ℝ}
  (h0 : ∀ i : S2048x1024.Idx, V c main_v4 i = ((q i : ℝ) : EReal)) (h1 : ∀ i : S256x1024.Idx, V c main_v5 i = ((k i : ℝ) : EReal))
  (h2 : ∀ i : S256x1024.Idx, V c main_v6 i = ((v i : ℝ) : EReal)) (h3 : ∀ i : S2048x1024.Idx, V c main_v10 i = ((g i : ℝ) : EReal))

include h0 in
theorem att_block0 (t : Fin cfg9.N) (i : S512x1024.Idx) : iblk9 V c 0 t i = ((rows q (t.cast N_9) i : ℝ) : EReal) := by
  refine Eq.trans ?_ (h0 _)
  blk_ext [iblk9, idx9 t]
  rfl

include h1 in
theorem att_block1 (t : Fin cfg9.N) (i : S256x1024.Idx) : iblk9 V c 1 t i = ((k i : ℝ) : EReal) := by
  refine Eq.trans ?_ (h1 _)
  blk_ext [iblk9, idx9 t]

include h2 in
theorem att_block2 (t : Fin cfg9.N) (i : S256x1024.Idx) : iblk9 V c 2 t i = ((v i : ℝ) : EReal) := by
  refine Eq.trans ?_ (h2 _)
  blk_ext [iblk9, idx9 t]

include h3 in
theorem att_block3 (t : Fin cfg9.N) (i : S512x1024.Idx) : iblk9 V c 3 t i = ((rows g (t.cast N_9) i : ℝ) : EReal) := by
  refine Eq.trans ?_ (h3 _)
  blk_ext [iblk9, idx9 t]
  rfl

include h0 h1 h2 h3

/-- The queries' gradient. -/
theorem mem_dq : (dat9 V c).arrAt 4 cfg9.N = fun i : S2048x1024.Idx => ((gradQ q g k v (i 0) (i 1) : ℝ) : EReal) := by
  refine (dat9 V c).arrAt_eq_of_covers 4 _ (by decide +kernel) fun t hf y => ?_
  rw [after9_4]
  refine (datq_block V c t (att_block0 V c h0 t) (att_block1 V c h1 t) (att_block2 V c h2 t) (att_block3 V c h3 t) y).trans ?_
  idx_vars y
  exact congrArg _ ((gradQ_rows q g k v _ y0 y1).trans (congrArg₂ (gradQ q g k v) (Fin.ext (by blk_simp [idx9 t]; rfl)) (Fin.ext (by blk_simp [idx9 t]))))

/-- The keys' gradient. -/
theorem mem_dk : (dat9 V c).arrAt 5 cfg9.N = fun i : S256x1024.Idx => ((gradK q g k v (i 0) (i 1) : ℝ) : EReal) := by
  refine (dat9 V c).arrAt_eq_of_after_last 5 t9_3 (by decide +kernel) _ fun j => ?_
  blk_simp
  rw [after9_5, Pipeline.eq_sum_fin_of_reset_step_apply_last (fun n h => (outsAt9 V c n h).2.1) 4 (fun _ => 0)
    (fun t j => ((gradK (rows q (t.cast N_9)) (rows g (t.cast N_9)) k v (j 0) (j 1) : ℝ) : EReal))
    (fun t h j => datk_first V c t (att_block0 V c h0 t) (att_block1 V c h1 t) (att_block2 V c h2 t) (att_block3 V c h3 t) h j)
    (fun t h j => datk_step V c t (att_block0 V c h0 t) (att_block1 V c h1 t) (att_block2 V c h2 t) (att_block3 V c h3 t) h j)
    (le_of_eq N_9) t9_3 rfl j]
  rw [zero_add, coe_sum]
  exact congrArg _ (gradK_rows q g k v _ _)

/-- The values' gradient. -/
theorem mem_dv : (dat9 V c).arrAt 6 cfg9.N = fun i : S256x1024.Idx => ((gradV q g k (i 0) (i 1) : ℝ) : EReal) := by
  refine (dat9 V c).arrAt_eq_of_after_last 6 t9_3 (by decide +kernel) _ fun j => ?_
  blk_simp
  rw [after9_6, Pipeline.eq_sum_fin_of_reset_step_apply_last (fun n h => (outsAt9 V c n h).2.2) 4 (fun _ => 0)
    (fun t j => ((gradV (rows q (t.cast N_9)) (rows g (t.cast N_9)) k (j 0) (j 1) : ℝ) : EReal))
    (fun t h j => datv_first V c t (att_block0 V c h0 t) (att_block1 V c h1 t) (att_block2 V c h2 t) (att_block3 V c h3 t) h j)
    (fun t h j => datv_step V c t (att_block0 V c h0 t) (att_block1 V c h1 t) (att_block2 V c h2 t) (att_block3 V c h3 t) h j)
    (le_of_eq N_9) t9_3 rfl j]
  rw [zero_add, coe_sum]
  exact congrArg _ (gradV_rows q g k _ _)

end Arrays

end Cert.Kernel3Ideal.Mem
end
-- ==== Proof.MemBackNorm.lean ====
module

public import proofs.«01_k».proof.Proof.Gen.Kernel3Ideal.Frame.Region16
public import proofs.«01_k».proof.Proof.Gen.Kernel3Ideal.Frame.Region17
public import proofs.«01_k».proof.Proof.MemSub
public import proofs.«01_k».proof.Proof.FfnBackNorm
public import Idealize.ShloMosaic.Lib.Pipeline.ReadBack
public import Idealize.ShloMosaic.Lib.Pipeline.ValueKit

@[expose] public section

set_option maxRecDepth 16384

noncomputable section

/-! The gradients through the memory sublayer's normalizations, as real numbers. A block of the sequence's is the feed-forward
    sublayer's. -/

namespace Cert.Kernel3Ideal.Mem

open Cert.Kernel3Ideal Cert.Kernel3Ideal.Gen Idealize.ShloMosaic Idealize.ShloMosaic.TcCoe Idealize.SL.Sem
open Cert.AttnReal Cert.FfnReal Cert.MemReal
open Cert.Kernel2Ideal.Ffn (pay14_dx pay14_dg)

variable (V : (c : Dev nD) → (b : Ref sig .tc) → Buf (Elt Ideal) ((c : Thread nD τ).loc b)) (c : Dev nD)

theorem idx16 : ∀ t : Fin cfg16.N, win16_0.index t = ![t.val, 0] ∧ win16_1.index t = ![0, 0] ∧ win16_2.index t = ![t.val, 0] ∧ win16_3.index t = ![t.val, 0]
    ∧ win16_4.index t = ![t.val, 0] ∧ win16_5.index t = ![t.val, 0] ∧ win16_6.index t = ![0, 0] := by decide +kernel

section Point
variable {V c} (t : Fin cfg16.N) {a b u : ℕ → ℕ → ℝ} {g : ℕ → ℝ}
  (h0 : ∀ (r : Fin 512) (k : Fin 1024), iblk16 V c 0 t (ix2 r k) = ((a r k : ℝ) : EReal)) (h1 : ∀ k : Fin 1024, iblk16 V c 1 t (ix2 0 k) = ((g k : ℝ) : EReal))
  (h2 : ∀ (r : Fin 512) (k : Fin 1024), iblk16 V c 2 t (ix2 r k) = ((b r k : ℝ) : EReal)) (h3 : ∀ (r : Fin 512) (k : Fin 1024), iblk16 V c 3 t (ix2 r k) = ((u r k : ℝ) : EReal))

include h0 h1 h2 h3

theorem dx_block (y : S512x1024.Idx) : (outsAt16 V c t.val t.isLt).1 y = ((dnorm a g b u (y 0).val (y 1).val : ℝ) : EReal) := by
  by_cases ht : t.val % 4 = 0
  · rw [outsAt16_A V c t ht]
    frame_out
    idx_vars y
    exact pay14_dx h0 h2 h1 h3 y0 y1
  · rw [outsAt16_B V c t ht]
    frame_out
    idx_vars y
    exact pay14_dx h0 h2 h1 h3 y0 y1

theorem dxb_block (y : S512x1024.Idx) : (outsAt16 V c t.val t.isLt).2.1 y = ((dnorm a g b u (y 0).val (y 1).val : ℝ) : EReal) := by
  by_cases ht : t.val % 4 = 0
  · rw [outsAt16_A V c t ht]
    frame_out
    idx_vars y
    exact pay14_dx h0 h2 h1 h3 y0 y1
  · rw [outsAt16_B V c t ht]
    frame_out
    idx_vars y
    exact pay14_dx h0 h2 h1 h3 y0 y1

omit h1 h3 in
theorem dgq_step (ht : ¬t.val % 4 = 0) (y : S1x1024.Idx) :
    (outsAt16 V c t.val t.isLt).2.2 y
      = (outsAt16 V c (t.val - 1) (Nat.lt_of_le_of_lt (Nat.sub_le _ _) t.isLt)).2.2 y + ((dscale 512 a b (y 1).val : ℝ) : EReal) := by
  rw [outsAt16_B V c t ht]
  frame_out
  idx_vars y
  obtain rfl : y0 = 0 := Subsingleton.elim _ _
  exact pay14_dg h0 h2 y1

omit h1 h3 in
theorem dgq_first (ht : t.val % 4 = 0) (y : S1x1024.Idx) :
    (outsAt16 V c t.val t.isLt).2.2 y = 0 + ((dscale 512 a b (y 1).val : ℝ) : EReal) := by
  have hz : (k16_pay6 (F := Ideal)) y = (0 : EReal) := by
    idx_vars y
    pointwise [k16_pay6]
  rw [outsAt16_A V c t ht]
  frame_out
  idx_vars y
  obtain rfl : y0 = 0 := Subsingleton.elim _ _
  exact Eq.trans (pay14_dg h0 h2 y1) (congrArg (· + _) hz)

end Point

section Arrays
variable {V c} {a b u : ℕ → ℕ → ℝ} {g : ℕ → ℝ}
  (h0 : ∀ i : S2048x1024.Idx, V c main_arg0 i = ((a (i 0).val (i 1).val : ℝ) : EReal)) (h1 : ∀ i : S1x1024.Idx, V c main_v19 i = ((g (i 1).val : ℝ) : EReal))
  (h2 : ∀ i : S2048x1024.Idx, V c main_v13 i = ((b (i 0).val (i 1).val : ℝ) : EReal)) (h3 : ∀ i : S2048x1024.Idx, V c main_arg8 i = ((u (i 0).val (i 1).val : ℝ) : EReal))

include h0 in
theorem row16_0 (t : Fin cfg16.N) (r : Fin 512) (k : Fin 1024) : iblk16 V c 0 t (ix2 r k) = ((a (t.val * 512 + r.val) k : ℝ) : EReal) := by
  have ht : t.val < 4 := lt_of_lt_of_eq t.isLt N_16
  refine Eq.trans ?_ (h0 (ix2 ⟨t.val * 512 + r.val, by omega⟩ k))
  blk_ext [iblk16, idx16 t]

include h1 in
theorem row16_1 (t : Fin cfg16.N) (k : Fin 1024) : iblk16 V c 1 t (ix2 0 k) = ((g k : ℝ) : EReal) := by
  refine Eq.trans ?_ (h1 (ix2 0 k))
  blk_ext [iblk16, idx16 t]

include h2 in
theorem row16_2 (t : Fin cfg16.N) (r : Fin 512) (k : Fin 1024) : iblk16 V c 2 t (ix2 r k) = ((b (t.val * 512 + r.val) k : ℝ) : EReal) := by
  have ht : t.val < 4 := lt_of_lt_of_eq t.isLt N_16
  refine Eq.trans ?_ (h2 (ix2 ⟨t.val * 512 + r.val, by omega⟩ k))
  blk_ext [iblk16, idx16 t]

include h3 in
theorem row16_3 (t : Fin cfg16.N) (r : Fin 512) (k : Fin 1024) : iblk16 V c 3 t (ix2 r k) = ((u (t.val * 512 + r.val) k : ℝ) : EReal) := by
  have ht : t.val < 4 := lt_of_lt_of_eq t.isLt N_16
  refine Eq.trans ?_ (h3 (ix2 ⟨t.val * 512 + r.val, by omega⟩ k))
  blk_ext [iblk16, idx16 t]

include h0 h1 h2 h3

/-- The sequence's gradient. -/
theorem mem_dx : (dat16 V c).arrAt 4 cfg16.N = fun i : S2048x1024.Idx => ((dnorm a g b u (i 0).val (i 1).val : ℝ) : EReal) := by
  refine (dat16 V c).arrAt_eq_of_covers 4 _ (by decide +kernel) fun t hf y => ?_
  rw [after16_4]
  refine (dx_block t (a := fun r k => a (t.val * 512 + r) k) (b := fun r k => b (t.val * 512 + r) k) (u := fun r k => u (t.val * 512 + r) k)
    (row16_0 h0 t) (row16_1 h1 t) (row16_2 h2 t) (row16_3 h3 t) y).trans ?_
  idx_vars y
  blk_simp [idx16 t]
  rfl

/-- Its copy in the narrower format. -/
theorem mem_dxb : (dat16 V c).arrAt 5 cfg16.N = fun i : S2048x1024.Idx => ((dnorm a g b u (i 0).val (i 1).val : ℝ) : EReal) := by
  refine (dat16 V c).arrAt_eq_of_covers 5 _ (by decide +kernel) fun t hf y => ?_
  rw [after16_5]
  refine (dxb_block t (a := fun r k => a (t.val * 512 + r) k) (b := fun r k => b (t.val * 512 + r) k) (u := fun r k => u (t.val * 512 + r) k)
    (row16_0 h0 t) (row16_1 h1 t) (row16_2 h2 t) (row16_3 h3 t) y).trans ?_
  idx_vars y
  blk_simp [idx16 t]
  rfl

omit h1 h3 in
/-- Its scale's gradient. -/
theorem mem_dgq : (dat16 V c).arrAt 6 cfg16.N = fun i : S1x1024.Idx => ((dscale 2048 a b (i 1).val : ℝ) : EReal) := by
  refine (dat16 V c).arrAt_eq_of_after_last 6 t16_3 (by decide +kernel) _ fun j => ?_
  blk_simp
  rw [after16_6, Pipeline.eq_sum_fin_of_reset_step_apply_last (fun n h => (outsAt16 V c n h).2.2) 4 (fun _ => 0)
    (fun t j => ((dscale 512 (fun r k => a (t.val * 512 + r) k) (fun r k => b (t.val * 512 + r) k) (j 1).val : ℝ) : EReal))
    (fun t h j => dgq_first t (a := fun r k => a (t.val * 512 + r) k) (b := fun r k => b (t.val * 512 + r) k) (row16_0 h0 t) (row16_2 h2 t) h j)
    (fun t h j => dgq_step t (a := fun r k => a (t.val * 512 + r) k) (b := fun r k => b (t.val * 512 + r) k) (row16_0 h0 t) (row16_2 h2 t) h j)
    (le_of_eq N_16) t16_3 rfl j]
  rw [zero_add, coe_sum]
  refine congrArg _ (Eq.trans ?_ (Fin.sum_mul_add_fin 4 512 (fun s : Fin 2048 => b s (j 1).val * a s (j 1).val * inv a s) rfl))
  rfl

end Arrays

/-! ## The memory's scale -/

/-- The mean square's reciprocal root, of the memory's block. -/
theorem pay17_inv {x : Vec Ideal S256x1024 .f32} {a : ℕ → ℕ → ℝ} (hx : ∀ (r : Fin 256) (k : Fin 1024), x (ix2 r k) = ((a r k : ℝ) : EReal)) (r : Fin 256) :
    k17_pay3 x (ix2 r 0) = ((inv a r : ℝ) : EReal) := by
  pointwise [k17_pay3]
  simp only [hx, ← EReal.coe_mul, coe_sum, width_bits, eps_bits, Ideal.div_coe (show (1024 : ℝ) ≠ 0 by norm_num), ← EReal.coe_add]
  exact rsqrt_var a r

theorem idx17 : ∀ t : Fin cfg17.N, win17_0.index t = ![0, 0] ∧ win17_2.index t = ![0, 0] ∧ win17_5.index t = ![0, 0] := by decide +kernel

/-- Its gradient. -/
theorem mem_dgk {V : (c : Dev nD) → (b : Ref sig .tc) → Buf (Elt Ideal) ((c : Thread nD τ).loc b)} {c : Dev nD} {a b : ℕ → ℕ → ℝ}
    (h0 : ∀ i : S256x1024.Idx, V c main_arg1 i = ((a (i 0).val (i 1).val : ℝ) : EReal))
    (h2 : ∀ i : S256x1024.Idx, V c main_v16 i = ((b (i 0).val (i 1).val : ℝ) : EReal)) :
    (dat17 V c).arrAt 5 cfg17.N = fun i : S1x1024.Idx => ((dscale 256 a b (i 1).val : ℝ) : EReal) := by
  refine (dat17 V c).arrAt_eq_of_covers 5 _ (by decide +kernel) fun t hf y => ?_
  have b0 : ∀ (r : Fin 256) (k : Fin 1024), iblk17 V c 0 t (ix2 r k) = ((a r k : ℝ) : EReal) := fun r k => by
    refine Eq.trans ?_ (h0 (ix2 r k))
    blk_ext [iblk17, idx17 t]
  have b2 : ∀ (r : Fin 256) (k : Fin 1024), iblk17 V c 2 t (ix2 r k) = ((b r k : ℝ) : EReal) := fun r k => by
    refine Eq.trans ?_ (h2 (ix2 r k))
    blk_ext [iblk17, idx17 t]
  have out : ∀ y : S1x1024.Idx, (dat17 V c).after 5 t y = ((dscale 256 a b (y 1).val : ℝ) : EReal) := fun y => by
    rw [after17_5]
    unfold outsAt17
    frame_out
    idx_vars y
    obtain rfl : y0 = 0 := Subsingleton.elim _ _
    have hr := pay17_inv b0
    pointwise [k17_pay1, k17_pay2, k17_pay6, k17_pay7]
    simp only [hr, b0, b2, ← EReal.coe_mul, coe_sum, zero_add]
    rfl
  refine (out y).trans ?_
  idx_vars y
  blk_simp [idx17 t]

end Cert.Kernel3Ideal.Mem
end
-- ==== Proof.MemProgram.lean ====
module

public import proofs.«01_k».proof.Proof.Gen.Kernel3Ideal.Frame.Fold0
public import proofs.«01_k».proof.Proof.MemSub
public import proofs.«01_k».proof.Proof.MemNorm
public import proofs.«01_k».proof.Proof.MemProducts
public import proofs.«01_k».proof.Proof.MemProductsBack
public import proofs.«01_k».proof.Proof.MemAttn
public import proofs.«01_k».proof.Proof.MemAttnBack
public import proofs.«01_k».proof.Proof.MemBackNorm

@[expose] public section

set_option maxRecDepth 16384

noncomputable section

/-! What every buffer of the memory program holds at the boundary where it is read, over the real numbers: each region's
    result from what it reads, carried over the regions and host stretches that leave it alone. -/

namespace Cert.Kernel3Ideal.Mem

open Cert.Kernel3Ideal Cert.Kernel3Ideal.Gen Idealize.ShloMosaic Idealize.ShloMosaic.TcCoe Idealize.SL.Sem Cert.AttnReal Cert.FfnReal Cert.MemReal

variable (m : (ℓ : Loc nD τ sig) → Buf (Elt Ideal) ℓ) (ρ : Dev nD → PrngReg) (c : Dev nD)

/-- The arguments hold the real arrays of `p`. -/
structure Holds (p : MSub) : Prop where
  x : ∀ i : S2048x1024.Idx, m ((c : Thread nD τ).loc main_arg0) i = ((p.x (i 0).val (i 1).val : ℝ) : EReal)
  mem : ∀ i : S256x1024.Idx, m ((c : Thread nD τ).loc main_arg1) i = ((p.mem (i 0).val (i 1).val : ℝ) : EReal)
  gq : ∀ i : S1024.Idx, m ((c : Thread nD τ).loc main_arg2) i = ((p.gq (i 0).val : ℝ) : EReal)
  gk : ∀ i : S1024.Idx, m ((c : Thread nD τ).loc main_arg3) i = ((p.gk (i 0).val : ℝ) : EReal)
  wq : ∀ i : S1024x1024.Idx, m ((c : Thread nD τ).loc main_arg4) i = ((p.wq (i 0).val (i 1).val : ℝ) : EReal)
  wk : ∀ i : S1024x1024.Idx, m ((c : Thread nD τ).loc main_arg5) i = ((p.wk (i 0).val (i 1).val : ℝ) : EReal)
  wv : ∀ i : S1024x1024.Idx, m ((c : Thread nD τ).loc main_arg6) i = ((p.wv (i 0).val (i 1).val : ℝ) : EReal)
  wo : ∀ i : S1024x1024.Idx, m ((c : Thread nD τ).loc main_arg7) i = ((p.wo (i 0).val (i 1).val : ℝ) : EReal)
  d : ∀ i : S2048x1024.Idx, m ((c : Thread nD τ).loc main_arg8) i = ((p.d (i 0).val (i 1).val : ℝ) : EReal)

variable {m c} {p : MSub}

theorem v0_1 (H : Holds m c p) (i : S1x1024.Idx) : W1 m ρ c (Proc.devRef .tc main_v0) i = ((p.gq (i 1).val : ℝ) : EReal) := by
  have h : W1 m ρ c (Proc.devRef .tc main_v0) = shapeCast S1x1024 (W0 m ρ c (Proc.devRef .tc main_arg2)) shapeCasts_S1024_S1x1024 := by
    show StableHlo.after hostOps0 (W0 m ρ c) (Proc.devRef .tc main_v0) = _
    after_results
    all_goals rfl
  rw [h]
  idx_vars i
  pointwise
  exact (congrFun (W0_args m ρ c main_arg2 (by decide)) _).trans (H.gq _)

theorem v1_2 (H : Holds m c p) (i : S2048x1024.Idx) : W2 m ρ c (Proc.devRef .tc main_v1) i = ((p.hq (i 0).val (i 1).val : ℝ) : EReal) :=
  congrFun ((W2_arr m ρ c 2).trans (mem_norm_q (V1 m ρ) c (fun i => (congrFun (W1_args m ρ c main_arg0 (by decide)) i).trans (H.x i)) (v0_1 ρ H))) i

theorem v2_3 (H : Holds m c p) (i : S1x1024.Idx) : W3 m ρ c (Proc.devRef .tc main_v2) i = ((p.gk (i 1).val : ℝ) : EReal) := by
  have h : W3 m ρ c (Proc.devRef .tc main_v2) = shapeCast S1x1024 (W2 m ρ c (Proc.devRef .tc main_arg3)) shapeCasts_S1024_S1x1024 := by
    show StableHlo.after hostOps1 (W2 m ρ c) (Proc.devRef .tc main_v2) = _
    after_results
    all_goals rfl
  rw [h]
  idx_vars i
  pointwise
  exact (congrFun (W2_args m ρ c main_arg3 (by decide)) _).trans (H.gk _)

theorem v3_4 (H : Holds m c p) (i : S256x1024.Idx) : W4 m ρ c (Proc.devRef .tc main_v3) i = ((p.hm (i 0).val (i 1).val : ℝ) : EReal) :=
  congrFun ((W4_arr m ρ c 2).trans (mem_norm_k (V3 m ρ) c (fun i => (congrFun (W3_args m ρ c main_arg1 (by decide)) i).trans (H.mem i)) (v2_3 ρ H))) i

theorem v1_2_4 : W4 m ρ c (Proc.devRef .tc main_v1) = W2 m ρ c (Proc.devRef .tc main_v1) :=
  (W4_of m ρ c main_v1 (by decide +kernel)).trans
    ((W3_of m ρ c main_v1 (by decide +kernel)))

theorem v1_4 (H : Holds m c p) (i : S2048x1024.Idx) : W4 m ρ c (Proc.devRef .tc main_v1) i = ((p.hq (i 0).val (i 1).val : ℝ) : EReal) :=
  (congrFun (v1_2_4 ρ) i).trans (v1_2 ρ H i)

theorem v4_5 (H : Holds m c p) (i : S2048x1024.Idx) : W5 m ρ c (Proc.devRef .tc main_v4) i = ((p.q (i 0).val (i 1).val : ℝ) : EReal) :=
  congrFun ((W5_arr m ρ c 2).trans (mem_q (V4 m ρ) c (v1_4 ρ H) (fun i => (congrFun (W4_args m ρ c main_arg4 (by decide)) i).trans (H.wq i)))) i

theorem v3_4_5 : W5 m ρ c (Proc.devRef .tc main_v3) = W4 m ρ c (Proc.devRef .tc main_v3) :=
  (W5_of m ρ c main_v3 (by decide +kernel))

theorem v3_5 (H : Holds m c p) (i : S256x1024.Idx) : W5 m ρ c (Proc.devRef .tc main_v3) i = ((p.hm (i 0).val (i 1).val : ℝ) : EReal) :=
  (congrFun (v3_4_5 ρ) i).trans (v3_4 ρ H i)

theorem v5_6 (H : Holds m c p) (i : S256x1024.Idx) : W6 m ρ c (Proc.devRef .tc main_v5) i = ((p.k (i 0).val (i 1).val : ℝ) : EReal) :=
  congrFun ((W6_arr m ρ c 2).trans (mem_k (V5 m ρ) c (v3_5 ρ H) (fun i => (congrFun (W5_args m ρ c main_arg5 (by decide)) i).trans (H.wk i)))) i

theorem v3_5_6 : W6 m ρ c (Proc.devRef .tc main_v3) = W5 m ρ c (Proc.devRef .tc main_v3) :=
  (W6_of m ρ c main_v3 (by decide +kernel))

theorem v3_6 (H : Holds m c p) (i : S256x1024.Idx) : W6 m ρ c (Proc.devRef .tc main_v3) i = ((p.hm (i 0).val (i 1).val : ℝ) : EReal) :=
  (congrFun (v3_5_6 ρ) i).trans (v3_5 ρ H i)

theorem v6_7 (H : Holds m c p) (i : S256x1024.Idx) : W7 m ρ c (Proc.devRef .tc main_v6) i = ((p.v (i 0).val (i 1).val : ℝ) : EReal) :=
  congrFun ((W7_arr m ρ c 2).trans (mem_v (V6 m ρ) c (v3_6 ρ H) (fun i => (congrFun (W6_args m ρ c main_arg6 (by decide)) i).trans (H.wv i)))) i

theorem v4_5_7 : W7 m ρ c (Proc.devRef .tc main_v4) = W5 m ρ c (Proc.devRef .tc main_v4) :=
  (W7_of m ρ c main_v4 (by decide +kernel)).trans
    ((W6_of m ρ c main_v4 (by decide +kernel)))

theorem v4_7 (H : Holds m c p) (i : S2048x1024.Idx) : W7 m ρ c (Proc.devRef .tc main_v4) i = ((p.q (i 0).val (i 1).val : ℝ) : EReal) :=
  (congrFun (v4_5_7 ρ) i).trans (v4_5 ρ H i)

theorem v5_6_7 : W7 m ρ c (Proc.devRef .tc main_v5) = W6 m ρ c (Proc.devRef .tc main_v5) :=
  (W7_of m ρ c main_v5 (by decide +kernel))

theorem v5_7 (H : Holds m c p) (i : S256x1024.Idx) : W7 m ρ c (Proc.devRef .tc main_v5) i = ((p.k (i 0).val (i 1).val : ℝ) : EReal) :=
  (congrFun (v5_6_7 ρ) i).trans (v5_6 ρ H i)

theorem v7_8 (H : Holds m c p) (i : S2048x1024.Idx) : W8 m ρ c (Proc.devRef .tc main_v7) i = ((p.o (i 0).val (i 1).val : ℝ) : EReal) :=
  congrFun ((W8_arr m ρ c 3).trans (mem_att (V7 m ρ) c (v4_7 ρ H) (v5_7 ρ H) (v6_7 ρ H))) i

theorem v8_9 (H : Holds m c p) (i : S2048x1024.Idx) : W9 m ρ c (Proc.devRef .tc main_v8) i = ((p.out (i 0).val (i 1).val : ℝ) : EReal) :=
  congrFun ((W9_arr m ρ c 3).trans (mem_out (V8 m ρ) c (v7_8 ρ H) (fun i => (congrFun (W8_args m ρ c main_arg7 (by decide)) i).trans (H.wo i)) (fun i => (congrFun (W8_args m ρ c main_arg0 (by decide)) i).trans (H.x i)))) i

theorem v9_10 (H : Holds m c p) (i : S2048x1024.Idx) : W10 m ρ c (Proc.devRef .tc main_v9) i = ((p.d (i 0).val (i 1).val : ℝ) : EReal) := by
  have h : W10 m ρ c (Proc.devRef .tc main_v9) = (truncf (F := Ideal) .bf16 (W9 m ρ c (Proc.devRef .tc main_arg8) : Vec Ideal S2048x1024 .f32) bitsLt_bf16_f32 : Vec Ideal S2048x1024 .bf16) := by
    show StableHlo.after hostOps7 (W9 m ρ c) (Proc.devRef .tc main_v9) = _
    after_results
    all_goals rfl
  rw [h]
  idx_vars i
  pointwise
  exact (congrFun (W9_args m ρ c main_arg8 (by decide)) _).trans (H.d _)

theorem v10_11 (H : Holds m c p) (i : S2048x1024.Idx) : W11 m ρ c (Proc.devRef .tc main_v10) i = ((p.dO (i 0).val (i 1).val : ℝ) : EReal) :=
  congrFun ((W11_arr m ρ c 2).trans (mem_dO (V10 m ρ) c (v9_10 ρ H) (fun i => (congrFun (W10_args m ρ c main_arg7 (by decide)) i).trans (H.wo i)))) i

theorem v7_8_11 : W11 m ρ c (Proc.devRef .tc main_v7) = W8 m ρ c (Proc.devRef .tc main_v7) :=
  (W11_of m ρ c main_v7 (by decide +kernel)).trans
    ((W10_of m ρ c main_v7 (by decide +kernel)).trans
    ((W9_of m ρ c main_v7 (by decide +kernel))))

theorem v7_11 (H : Holds m c p) (i : S2048x1024.Idx) : W11 m ρ c (Proc.devRef .tc main_v7) i = ((p.o (i 0).val (i 1).val : ℝ) : EReal) :=
  (congrFun (v7_8_11 ρ) i).trans (v7_8 ρ H i)

theorem v9_10_11 : W11 m ρ c (Proc.devRef .tc main_v9) = W10 m ρ c (Proc.devRef .tc main_v9) :=
  (W11_of m ρ c main_v9 (by decide +kernel))

theorem v9_11 (H : Holds m c p) (i : S2048x1024.Idx) : W11 m ρ c (Proc.devRef .tc main_v9) i = ((p.d (i 0).val (i 1).val : ℝ) : EReal) :=
  (congrFun (v9_10_11 ρ) i).trans (v9_10 ρ H i)

theorem v11_12 (H : Holds m c p) (i : S1024x1024.Idx) : W12 m ρ c (Proc.devRef .tc main_v11) i = ((p.dwo (i 0).val (i 1).val : ℝ) : EReal) :=
  congrFun ((W12_arr m ρ c 2).trans (mem_dwo (V11 m ρ) c (v7_11 ρ H) (v9_11 ρ H))) i

theorem v4_7_12 : W12 m ρ c (Proc.devRef .tc main_v4) = W7 m ρ c (Proc.devRef .tc main_v4) :=
  (W12_of m ρ c main_v4 (by decide +kernel)).trans
    ((W11_of m ρ c main_v4 (by decide +kernel)).trans
    ((W10_of m ρ c main_v4 (by decide +kernel)).trans
    ((W9_of m ρ c main_v4 (by decide +kernel)).trans
    ((W8_of m ρ c main_v4 (by decide +kernel))))))

theorem v4_12 (H : Holds m c p) (i : S2048x1024.Idx) : W12 m ρ c (Proc.devRef .tc main_v4) i = ((p.q (i 0).val (i 1).val : ℝ) : EReal) :=
  (congrFun (v4_7_12 ρ) i).trans (v4_7 ρ H i)

theorem v5_7_12 : W12 m ρ c (Proc.devRef .tc main_v5) = W7 m ρ c (Proc.devRef .tc main_v5) :=
  (W12_of m ρ c main_v5 (by decide +kernel)).trans
    ((W11_of m ρ c main_v5 (by decide +kernel)).trans
    ((W10_of m ρ c main_v5 (by decide +kernel)).trans
    ((W9_of m ρ c main_v5 (by decide +kernel)).trans
    ((W8_of m ρ c main_v5 (by decide +kernel))))))

theorem v5_12 (H : Holds m c p) (i : S256x1024.Idx) : W12 m ρ c (Proc.devRef .tc main_v5) i = ((p.k (i 0).val (i 1).val : ℝ) : EReal) :=
  (congrFun (v5_7_12 ρ) i).trans (v5_7 ρ H i)

theorem v6_7_12 : W12 m ρ c (Proc.devRef .tc main_v6) = W7 m ρ c (Proc.devRef .tc main_v6) :=
  (W12_of m ρ c main_v6 (by decide +kernel)).trans
    ((W11_of m ρ c main_v6 (by decide +kernel)).trans
    ((W10_of m ρ c main_v6 (by decide +kernel)).trans
    ((W9_of m ρ c main_v6 (by decide +kernel)).trans
    ((W8_of m ρ c main_v6 (by decide +kernel))))))

theorem v6_12 (H : Holds m c p) (i : S256x1024.Idx) : W12 m ρ c (Proc.devRef .tc main_v6) i = ((p.v (i 0).val (i 1).val : ℝ) : EReal) :=
  (congrFun (v6_7_12 ρ) i).trans (v6_7 ρ H i)

theorem v10_11_12 : W12 m ρ c (Proc.devRef .tc main_v10) = W11 m ρ c (Proc.devRef .tc main_v10) :=
  (W12_of m ρ c main_v10 (by decide +kernel))

theorem v10_12 (H : Holds m c p) (i : S2048x1024.Idx) : W12 m ρ c (Proc.devRef .tc main_v10) i = ((p.dO (i 0).val (i 1).val : ℝ) : EReal) :=
  (congrFun (v10_11_12 ρ) i).trans (v10_11 ρ H i)

theorem v12_0_13 (H : Holds m c p) (i : S2048x1024.Idx) : W13 m ρ c (Proc.devRef .tc main_v12_0) i = ((p.dq (i 0).val (i 1).val : ℝ) : EReal) :=
  congrFun ((W13_arr m ρ c 4).trans (mem_dq (V12 m ρ) c (q := arr 2048 p.q) (g := arr 2048 p.dO) (k := arr 256 p.k) (v := arr 256 p.v) (v4_12 ρ H) (v5_12 ρ H) (v6_12 ρ H) (v10_12 ρ H))) i

theorem v12_1_13 (H : Holds m c p) (i : S256x1024.Idx) : W13 m ρ c (Proc.devRef .tc main_v12_1) i = ((p.dk (i 0).val (i 1).val : ℝ) : EReal) :=
  congrFun ((W13_arr m ρ c 5).trans (mem_dk (V12 m ρ) c (q := arr 2048 p.q) (g := arr 2048 p.dO) (k := arr 256 p.k) (v := arr 256 p.v) (v4_12 ρ H) (v5_12 ρ H) (v6_12 ρ H) (v10_12 ρ H))) i

theorem v12_2_13 (H : Holds m c p) (i : S256x1024.Idx) : W13 m ρ c (Proc.devRef .tc main_v12_2) i = ((p.dv (i 0).val (i 1).val : ℝ) : EReal) :=
  congrFun ((W13_arr m ρ c 6).trans (mem_dv (V12 m ρ) c (q := arr 2048 p.q) (g := arr 2048 p.dO) (k := arr 256 p.k) (v := arr 256 p.v) (v4_12 ρ H) (v5_12 ρ H) (v6_12 ρ H) (v10_12 ρ H))) i

theorem v13_14 (H : Holds m c p) (i : S2048x1024.Idx) : W14 m ρ c (Proc.devRef .tc main_v13) i = ((p.dhq (i 0).val (i 1).val : ℝ) : EReal) :=
  congrFun ((W14_arr m ρ c 2).trans (mem_dhq (V13 m ρ) c (v12_0_13 ρ H) (fun i => (congrFun (W13_args m ρ c main_arg4 (by decide)) i).trans (H.wq i)))) i

theorem v1_4_14 : W14 m ρ c (Proc.devRef .tc main_v1) = W4 m ρ c (Proc.devRef .tc main_v1) :=
  (W14_of m ρ c main_v1 (by decide +kernel)).trans
    ((W13_of m ρ c main_v1 (by decide +kernel)).trans
    ((W12_of m ρ c main_v1 (by decide +kernel)).trans
    ((W11_of m ρ c main_v1 (by decide +kernel)).trans
    ((W10_of m ρ c main_v1 (by decide +kernel)).trans
    ((W9_of m ρ c main_v1 (by decide +kernel)).trans
    ((W8_of m ρ c main_v1 (by decide +kernel)).trans
    ((W7_of m ρ c main_v1 (by decide +kernel)).trans
    ((W6_of m ρ c main_v1 (by decide +kernel)).trans
    ((W5_of m ρ c main_v1 (by decide +kernel)))))))))))

theorem v1_14 (H : Holds m c p) (i : S2048x1024.Idx) : W14 m ρ c (Proc.devRef .tc main_v1) i = ((p.hq (i 0).val (i 1).val : ℝ) : EReal) :=
  (congrFun (v1_4_14 ρ) i).trans (v1_4 ρ H i)

theorem v12_0_13_14 : W14 m ρ c (Proc.devRef .tc main_v12_0) = W13 m ρ c (Proc.devRef .tc main_v12_0) :=
  (W14_of m ρ c main_v12_0 (by decide +kernel))

theorem v12_0_14 (H : Holds m c p) (i : S2048x1024.Idx) : W14 m ρ c (Proc.devRef .tc main_v12_0) i = ((p.dq (i 0).val (i 1).val : ℝ) : EReal) :=
  (congrFun (v12_0_13_14 ρ) i).trans (v12_0_13 ρ H i)

theorem v14_15 (H : Holds m c p) (i : S1024x1024.Idx) : W15 m ρ c (Proc.devRef .tc main_v14) i = ((p.dwq (i 0).val (i 1).val : ℝ) : EReal) :=
  congrFun ((W15_arr m ρ c 2).trans (mem_dwq (V14 m ρ) c (v1_14 ρ H) (v12_0_14 ρ H))) i

theorem v12_1_13_15 : W15 m ρ c (Proc.devRef .tc main_v12_1) = W13 m ρ c (Proc.devRef .tc main_v12_1) :=
  (W15_of m ρ c main_v12_1 (by decide +kernel)).trans
    ((W14_of m ρ c main_v12_1 (by decide +kernel)))

theorem v12_1_15 (H : Holds m c p) (i : S256x1024.Idx) : W15 m ρ c (Proc.devRef .tc main_v12_1) i = ((p.dk (i 0).val (i 1).val : ℝ) : EReal) :=
  (congrFun (v12_1_13_15 ρ) i).trans (v12_1_13 ρ H i)

theorem v15_16 (H : Holds m c p) (i : S256x1024.Idx) : W16 m ρ c (Proc.devRef .tc main_v15) i = ((mmT 1024 p.dk p.wk (i 0).val (i 1).val : ℝ) : EReal) :=
  congrFun ((W16_arr m ρ c 2).trans (mem_dhm0 (V15 m ρ) c (v12_1_15 ρ H) (fun i => (congrFun (W15_args m ρ c main_arg5 (by decide)) i).trans (H.wk i)))) i

theorem v12_2_13_16 : W16 m ρ c (Proc.devRef .tc main_v12_2) = W13 m ρ c (Proc.devRef .tc main_v12_2) :=
  (W16_of m ρ c main_v12_2 (by decide +kernel)).trans
    ((W15_of m ρ c main_v12_2 (by decide +kernel)).trans
    ((W14_of m ρ c main_v12_2 (by decide +kernel))))

theorem v12_2_16 (H : Holds m c p) (i : S256x1024.Idx) : W16 m ρ c (Proc.devRef .tc main_v12_2) i = ((p.dv (i 0).val (i 1).val : ℝ) : EReal) :=
  (congrFun (v12_2_13_16 ρ) i).trans (v12_2_13 ρ H i)

theorem v16_17 (H : Holds m c p) (i : S256x1024.Idx) : W17 m ρ c (Proc.devRef .tc main_v16) i = ((p.dhm (i 0).val (i 1).val : ℝ) : EReal) :=
  congrFun ((W17_arr m ρ c 3).trans (mem_dhm (V16 m ρ) c (v12_2_16 ρ H) (fun i => (congrFun (W16_args m ρ c main_arg6 (by decide)) i).trans (H.wv i)) (e := mmT 1024 p.dk p.wk) (v15_16 ρ H))) i

theorem v3_6_17 : W17 m ρ c (Proc.devRef .tc main_v3) = W6 m ρ c (Proc.devRef .tc main_v3) :=
  (W17_of m ρ c main_v3 (by decide +kernel)).trans
    ((W16_of m ρ c main_v3 (by decide +kernel)).trans
    ((W15_of m ρ c main_v3 (by decide +kernel)).trans
    ((W14_of m ρ c main_v3 (by decide +kernel)).trans
    ((W13_of m ρ c main_v3 (by decide +kernel)).trans
    ((W12_of m ρ c main_v3 (by decide +kernel)).trans
    ((W11_of m ρ c main_v3 (by decide +kernel)).trans
    ((W10_of m ρ c main_v3 (by decide +kernel)).trans
    ((W9_of m ρ c main_v3 (by decide +kernel)).trans
    ((W8_of m ρ c main_v3 (by decide +kernel)).trans
    ((W7_of m ρ c main_v3 (by decide +kernel))))))))))))

theorem v3_17 (H : Holds m c p) (i : S256x1024.Idx) : W17 m ρ c (Proc.devRef .tc main_v3) i = ((p.hm (i 0).val (i 1).val : ℝ) : EReal) :=
  (congrFun (v3_6_17 ρ) i).trans (v3_6 ρ H i)

theorem v12_1_15_17 : W17 m ρ c (Proc.devRef .tc main_v12_1) = W15 m ρ c (Proc.devRef .tc main_v12_1) :=
  (W17_of m ρ c main_v12_1 (by decide +kernel)).trans
    ((W16_of m ρ c main_v12_1 (by decide +kernel)))

theorem v12_1_17 (H : Holds m c p) (i : S256x1024.Idx) : W17 m ρ c (Proc.devRef .tc main_v12_1) i = ((p.dk (i 0).val (i 1).val : ℝ) : EReal) :=
  (congrFun (v12_1_15_17 ρ) i).trans (v12_1_15 ρ H i)

theorem v17_18 (H : Holds m c p) (i : S1024x1024.Idx) : W18 m ρ c (Proc.devRef .tc main_v17) i = ((p.dwk (i 0).val (i 1).val : ℝ) : EReal) :=
  congrFun ((W18_arr m ρ c 2).trans (mem_dwk (V17 m ρ) c (v3_17 ρ H) (v12_1_17 ρ H))) i

theorem v3_17_18 : W18 m ρ c (Proc.devRef .tc main_v3) = W17 m ρ c (Proc.devRef .tc main_v3) :=
  (W18_of m ρ c main_v3 (by decide +kernel))

theorem v3_18 (H : Holds m c p) (i : S256x1024.Idx) : W18 m ρ c (Proc.devRef .tc main_v3) i = ((p.hm (i 0).val (i 1).val : ℝ) : EReal) :=
  (congrFun (v3_17_18 ρ) i).trans (v3_17 ρ H i)

theorem v12_2_16_18 : W18 m ρ c (Proc.devRef .tc main_v12_2) = W16 m ρ c (Proc.devRef .tc main_v12_2) :=
  (W18_of m ρ c main_v12_2 (by decide +kernel)).trans
    ((W17_of m ρ c main_v12_2 (by decide +kernel)))

theorem v12_2_18 (H : Holds m c p) (i : S256x1024.Idx) : W18 m ρ c (Proc.devRef .tc main_v12_2) i = ((p.dv (i 0).val (i 1).val : ℝ) : EReal) :=
  (congrFun (v12_2_16_18 ρ) i).trans (v12_2_16 ρ H i)

theorem v18_19 (H : Holds m c p) (i : S1024x1024.Idx) : W19 m ρ c (Proc.devRef .tc main_v18) i = ((p.dwv (i 0).val (i 1).val : ℝ) : EReal) :=
  congrFun ((W19_arr m ρ c 2).trans (mem_dwv (V18 m ρ) c (v3_18 ρ H) (v12_2_18 ρ H))) i

theorem v19_20 (H : Holds m c p) (i : S1x1024.Idx) : W20 m ρ c (Proc.devRef .tc main_v19) i = ((p.gq (i 1).val : ℝ) : EReal) := by
  have h : W20 m ρ c (Proc.devRef .tc main_v19) = shapeCast S1x1024 (W19 m ρ c (Proc.devRef .tc main_arg2)) shapeCasts_S1024_S1x1024 := by
    show StableHlo.after hostOps16 (W19 m ρ c) (Proc.devRef .tc main_v19) = _
    after_results
    all_goals rfl
  rw [h]
  idx_vars i
  pointwise
  exact (congrFun (W19_args m ρ c main_arg2 (by decide)) _).trans (H.gq _)

theorem v13_14_20 : W20 m ρ c (Proc.devRef .tc main_v13) = W14 m ρ c (Proc.devRef .tc main_v13) :=
  (W20_of m ρ c main_v13 (by decide +kernel)).trans
    ((W19_of m ρ c main_v13 (by decide +kernel)).trans
    ((W18_of m ρ c main_v13 (by decide +kernel)).trans
    ((W17_of m ρ c main_v13 (by decide +kernel)).trans
    ((W16_of m ρ c main_v13 (by decide +kernel)).trans
    ((W15_of m ρ c main_v13 (by decide +kernel)))))))

theorem v13_20 (H : Holds m c p) (i : S2048x1024.Idx) : W20 m ρ c (Proc.devRef .tc main_v13) i = ((p.dhq (i 0).val (i 1).val : ℝ) : EReal) :=
  (congrFun (v13_14_20 ρ) i).trans (v13_14 ρ H i)

theorem v20_0_21 (H : Holds m c p) (i : S2048x1024.Idx) : W21 m ρ c (Proc.devRef .tc main_v20_0) i = ((p.dx (i 0).val (i 1).val : ℝ) : EReal) :=
  congrFun ((W21_arr m ρ c 4).trans (mem_dx (V := V20 m ρ) (c := c) (fun i => (congrFun (W20_args m ρ c main_arg0 (by decide)) i).trans (H.x i)) (v19_20 ρ H) (v13_20 ρ H) (fun i => (congrFun (W20_args m ρ c main_arg8 (by decide)) i).trans (H.d i)))) i

theorem v20_1_21 (H : Holds m c p) (i : S2048x1024.Idx) : W21 m ρ c (Proc.devRef .tc main_v20_1) i = ((p.dx (i 0).val (i 1).val : ℝ) : EReal) :=
  congrFun ((W21_arr m ρ c 5).trans (mem_dxb (V := V20 m ρ) (c := c) (fun i => (congrFun (W20_args m ρ c main_arg0 (by decide)) i).trans (H.x i)) (v19_20 ρ H) (v13_20 ρ H) (fun i => (congrFun (W20_args m ρ c main_arg8 (by decide)) i).trans (H.d i)))) i

theorem v20_2_21 (H : Holds m c p) (i : S1x1024.Idx) : W21 m ρ c (Proc.devRef .tc main_v20_2) i = ((p.dgq (i 1).val : ℝ) : EReal) :=
  congrFun ((W21_arr m ρ c 6).trans (mem_dgq (V := V20 m ρ) (c := c) (fun i => (congrFun (W20_args m ρ c main_arg0 (by decide)) i).trans (H.x i)) (v13_20 ρ H))) i

/-- The first row of an array of one. -/
theorem first_row (q : Vec Ideal S1x1024 .f32) (i : S1024.Idx) : shapeCast S1024 q shapeCasts_S1x1024_S1024 i = q (ix2 (0 : Fin 1) (i 0)) := by
  idx_vars i
  pointwise

theorem v21_22 (H : Holds m c p) (i : S1024.Idx) : W22 m ρ c (Proc.devRef .tc main_v21) i = ((p.dgq (i 0).val : ℝ) : EReal) := by
  have h : W22 m ρ c (Proc.devRef .tc main_v21) = shapeCast S1024 (W21 m ρ c (Proc.devRef .tc main_v20_2)) shapeCasts_S1x1024_S1024 := by
    show StableHlo.after hostOps17 (W21 m ρ c) (Proc.devRef .tc main_v21) = _
    after_results
    all_goals rfl
  rw [h]
  exact (first_row _ i).trans (v20_2_21 ρ H _)

theorem v16_17_22 : W22 m ρ c (Proc.devRef .tc main_v16) = W17 m ρ c (Proc.devRef .tc main_v16) :=
  (W22_of m ρ c main_v16 (by decide +kernel)).trans
    ((W21_of m ρ c main_v16 (by decide +kernel)).trans
    ((W20_of m ρ c main_v16 (by decide +kernel)).trans
    ((W19_of m ρ c main_v16 (by decide +kernel)).trans
    ((W18_of m ρ c main_v16 (by decide +kernel))))))

theorem v16_22 (H : Holds m c p) (i : S256x1024.Idx) : W22 m ρ c (Proc.devRef .tc main_v16) i = ((p.dhm (i 0).val (i 1).val : ℝ) : EReal) :=
  (congrFun (v16_17_22 ρ) i).trans (v16_17 ρ H i)

theorem v23_2_23 (H : Holds m c p) (i : S1x1024.Idx) : W23 m ρ c (Proc.devRef .tc main_v23_2) i = ((p.dgk (i 1).val : ℝ) : EReal) :=
  congrFun ((W23_arr m ρ c 5).trans (mem_dgk (V := V22 m ρ) (c := c) (fun i => (congrFun (W22_args m ρ c main_arg1 (by decide)) i).trans (H.mem i)) (v16_22 ρ H))) i

theorem v24_24 (H : Holds m c p) (i : S1024.Idx) : W24 m ρ c (Proc.devRef .tc main_v24) i = ((p.dgk (i 0).val : ℝ) : EReal) := by
  have h : W24 m ρ c (Proc.devRef .tc main_v24) = shapeCast S1024 (W23 m ρ c (Proc.devRef .tc main_v23_2)) shapeCasts_S1x1024_S1024 := by
    show StableHlo.after hostOps18 (W23 m ρ c) (Proc.devRef .tc main_v24) = _
    after_results
    all_goals rfl
  rw [h]
  exact (first_row _ i).trans (v23_2_23 ρ H _)

theorem v8_9_24 : W24 m ρ c (Proc.devRef .tc main_v8) = W9 m ρ c (Proc.devRef .tc main_v8) :=
  (W24_of m ρ c main_v8 (by decide +kernel)).trans
    ((W23_of m ρ c main_v8 (by decide +kernel)).trans
    ((W22_of m ρ c main_v8 (by decide +kernel)).trans
    ((W21_of m ρ c main_v8 (by decide +kernel)).trans
    ((W20_of m ρ c main_v8 (by decide +kernel)).trans
    ((W19_of m ρ c main_v8 (by decide +kernel)).trans
    ((W18_of m ρ c main_v8 (by decide +kernel)).trans
    ((W17_of m ρ c main_v8 (by decide +kernel)).trans
    ((W16_of m ρ c main_v8 (by decide +kernel)).trans
    ((W15_of m ρ c main_v8 (by decide +kernel)).trans
    ((W14_of m ρ c main_v8 (by decide +kernel)).trans
    ((W13_of m ρ c main_v8 (by decide +kernel)).trans
    ((W12_of m ρ c main_v8 (by decide +kernel)).trans
    ((W11_of m ρ c main_v8 (by decide +kernel)).trans
    ((W10_of m ρ c main_v8 (by decide +kernel))))))))))))))))

theorem v8_24 (H : Holds m c p) (i : S2048x1024.Idx) : W24 m ρ c (Proc.devRef .tc main_v8) i = ((p.out (i 0).val (i 1).val : ℝ) : EReal) :=
  (congrFun (v8_9_24 ρ) i).trans (v8_9 ρ H i)

theorem v20_0_21_24 : W24 m ρ c (Proc.devRef .tc main_v20_0) = W21 m ρ c (Proc.devRef .tc main_v20_0) :=
  (W24_of m ρ c main_v20_0 (by decide +kernel)).trans
    ((W23_of m ρ c main_v20_0 (by decide +kernel)).trans
    ((W22_of m ρ c main_v20_0 (by decide +kernel))))

theorem v20_0_24 (H : Holds m c p) (i : S2048x1024.Idx) : W24 m ρ c (Proc.devRef .tc main_v20_0) i = ((p.dx (i 0).val (i 1).val : ℝ) : EReal) :=
  (congrFun (v20_0_21_24 ρ) i).trans (v20_0_21 ρ H i)

theorem v20_1_21_24 : W24 m ρ c (Proc.devRef .tc main_v20_1) = W21 m ρ c (Proc.devRef .tc main_v20_1) :=
  (W24_of m ρ c main_v20_1 (by decide +kernel)).trans
    ((W23_of m ρ c main_v20_1 (by decide +kernel)).trans
    ((W22_of m ρ c main_v20_1 (by decide +kernel))))

theorem v20_1_24 (H : Holds m c p) (i : S2048x1024.Idx) : W24 m ρ c (Proc.devRef .tc main_v20_1) i = ((p.dx (i 0).val (i 1).val : ℝ) : EReal) :=
  (congrFun (v20_1_21_24 ρ) i).trans (v20_1_21 ρ H i)

theorem v14_15_24 : W24 m ρ c (Proc.devRef .tc main_v14) = W15 m ρ c (Proc.devRef .tc main_v14) :=
  (W24_of m ρ c main_v14 (by decide +kernel)).trans
    ((W23_of m ρ c main_v14 (by decide +kernel)).trans
    ((W22_of m ρ c main_v14 (by decide +kernel)).trans
    ((W21_of m ρ c main_v14 (by decide +kernel)).trans
    ((W20_of m ρ c main_v14 (by decide +kernel)).trans
    ((W19_of m ρ c main_v14 (by decide +kernel)).trans
    ((W18_of m ρ c main_v14 (by decide +kernel)).trans
    ((W17_of m ρ c main_v14 (by decide +kernel)).trans
    ((W16_of m ρ c main_v14 (by decide +kernel))))))))))

theorem v14_24 (H : Holds m c p) (i : S1024x1024.Idx) : W24 m ρ c (Proc.devRef .tc main_v14) i = ((p.dwq (i 0).val (i 1).val : ℝ) : EReal) :=
  (congrFun (v14_15_24 ρ) i).trans (v14_15 ρ H i)

theorem v17_18_24 : W24 m ρ c (Proc.devRef .tc main_v17) = W18 m ρ c (Proc.devRef .tc main_v17) :=
  (W24_of m ρ c main_v17 (by decide +kernel)).trans
    ((W23_of m ρ c main_v17 (by decide +kernel)).trans
    ((W22_of m ρ c main_v17 (by decide +kernel)).trans
    ((W21_of m ρ c main_v17 (by decide +kernel)).trans
    ((W20_of m ρ c main_v17 (by decide +kernel)).trans
    ((W19_of m ρ c main_v17 (by decide +kernel)))))))

theorem v17_24 (H : Holds m c p) (i : S1024x1024.Idx) : W24 m ρ c (Proc.devRef .tc main_v17) i = ((p.dwk (i 0).val (i 1).val : ℝ) : EReal) :=
  (congrFun (v17_18_24 ρ) i).trans (v17_18 ρ H i)

theorem v18_19_24 : W24 m ρ c (Proc.devRef .tc main_v18) = W19 m ρ c (Proc.devRef .tc main_v18) :=
  (W24_of m ρ c main_v18 (by decide +kernel)).trans
    ((W23_of m ρ c main_v18 (by decide +kernel)).trans
    ((W22_of m ρ c main_v18 (by decide +kernel)).trans
    ((W21_of m ρ c main_v18 (by decide +kernel)).trans
    ((W20_of m ρ c main_v18 (by decide +kernel))))))

theorem v18_24 (H : Holds m c p) (i : S1024x1024.Idx) : W24 m ρ c (Proc.devRef .tc main_v18) i = ((p.dwv (i 0).val (i 1).val : ℝ) : EReal) :=
  (congrFun (v18_19_24 ρ) i).trans (v18_19 ρ H i)

theorem v11_12_24 : W24 m ρ c (Proc.devRef .tc main_v11) = W12 m ρ c (Proc.devRef .tc main_v11) :=
  (W24_of m ρ c main_v11 (by decide +kernel)).trans
    ((W23_of m ρ c main_v11 (by decide +kernel)).trans
    ((W22_of m ρ c main_v11 (by decide +kernel)).trans
    ((W21_of m ρ c main_v11 (by decide +kernel)).trans
    ((W20_of m ρ c main_v11 (by decide +kernel)).trans
    ((W19_of m ρ c main_v11 (by decide +kernel)).trans
    ((W18_of m ρ c main_v11 (by decide +kernel)).trans
    ((W17_of m ρ c main_v11 (by decide +kernel)).trans
    ((W16_of m ρ c main_v11 (by decide +kernel)).trans
    ((W15_of m ρ c main_v11 (by decide +kernel)).trans
    ((W14_of m ρ c main_v11 (by decide +kernel)).trans
    ((W13_of m ρ c main_v11 (by decide +kernel)))))))))))))

theorem v11_24 (H : Holds m c p) (i : S1024x1024.Idx) : W24 m ρ c (Proc.devRef .tc main_v11) i = ((p.dwo (i 0).val (i 1).val : ℝ) : EReal) :=
  (congrFun (v11_12_24 ρ) i).trans (v11_12 ρ H i)

theorem v21_22_24 : W24 m ρ c (Proc.devRef .tc main_v21) = W22 m ρ c (Proc.devRef .tc main_v21) :=
  (W24_of m ρ c main_v21 (by decide +kernel)).trans
    ((W23_of m ρ c main_v21 (by decide +kernel)))

theorem v21_24 (H : Holds m c p) (i : S1024.Idx) : W24 m ρ c (Proc.devRef .tc main_v21) i = ((p.dgq (i 0).val : ℝ) : EReal) :=
  (congrFun (v21_22_24 ρ) i).trans (v21_22 ρ H i)

end Cert.Kernel3Ideal.Mem
end
-- ==== Proof.MemRun.lean ====
module

public import proofs.«01_k».proof.Proof.Gen.Kernel3Ideal.Frame

@[expose] public section

set_option maxRecDepth 16384

noncomputable section

/-! The run of the memory program at its results: the launch is set up as the frame's, and its end read at the result
    buffers as well as at the arguments. -/

namespace Cert.Kernel3Ideal.Mem

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each result at the last boundary's contents, the arguments as launched, and the counters at zero. -/
theorem run : θ_run defs (onTc (τ := τ) (main (F := F))) ⟨m, fun _ => 0, ρ⟩ (fun r => (∀ c : Dev nD,
      r.2.mem ((c.tc : Thread nD τ).loc main_v8) = W24 m ρ c (Proc.devRef .tc main_v8)
      ∧ r.2.mem ((c.tc : Thread nD τ).loc main_v20_0) = W24 m ρ c (Proc.devRef .tc main_v20_0)
      ∧ r.2.mem ((c.tc : Thread nD τ).loc main_v20_1) = W24 m ρ c (Proc.devRef .tc main_v20_1)
      ∧ r.2.mem ((c.tc : Thread nD τ).loc main_v21) = W24 m ρ c (Proc.devRef .tc main_v21)
      ∧ r.2.mem ((c.tc : Thread nD τ).loc main_v24) = W24 m ρ c (Proc.devRef .tc main_v24)
      ∧ r.2.mem ((c.tc : Thread nD τ).loc main_v14) = W24 m ρ c (Proc.devRef .tc main_v14)
      ∧ r.2.mem ((c.tc : Thread nD τ).loc main_v17) = W24 m ρ c (Proc.devRef .tc main_v17)
      ∧ r.2.mem ((c.tc : Thread nD τ).loc main_v18) = W24 m ρ c (Proc.devRef .tc main_v18)
      ∧ r.2.mem ((c.tc : Thread nD τ).loc main_v11) = W24 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h hz => ⟨(fun c =>
      ⟨h c _ (mem_uc main_v8 (by decide)),
       h c _ (mem_uc main_v20_0 (by decide)),
       h c _ (mem_uc main_v20_1 (by decide)),
       h c _ (mem_uc main_v21 (by decide)),
       h c _ (mem_uc main_v24 (by decide)),
       h c _ (mem_uc main_v14 (by decide)),
       h c _ (mem_uc main_v17 (by decide)),
       h c _ (mem_uc main_v18 (by decide)),
       h c _ (mem_uc main_v11 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c)⟩), funext fun g => hz g (.inr (no_unscoped g.2))⟩)

end Cert.Kernel3Ideal.Mem
end
-- ==== Proof.MemSubRef.lean ====
module

public import proofs.«01_k».proof.Proof.Gen.Reference3Ideal.Read
public import proofs.«01_k».proof.Proof.MemSub
public import proofs.«01_k».proof.Proof.MemRef

@[expose] public section

set_option maxRecDepth 16384

noncomputable section

/-! The memory sublayer's reference going forward, at an index, over the real numbers: its attention is the attention
reference of `MemRef` at the projected arrays. -/

namespace Cert.Reference3Ideal.MemSubRef

open Cert.Reference3Ideal Cert.Reference3Ideal.Gen Cert.Reference3Ideal.Read Idealize.ShloMosaic Idealize.ShloMosaic.TcCoe Idealize.SL.Sem
open Cert.AttnReal Cert.FfnReal Cert.MemReal

/-- The arguments hold the real arrays of `p`. -/
structure Arrs (x0 : (⟨S2048x1024, .f32⟩ : BufTy).Contents (Elt Ideal)) (x1 : (⟨S256x1024, .f32⟩ : BufTy).Contents (Elt Ideal))
    (x2 : (⟨S1024, .f32⟩ : BufTy).Contents (Elt Ideal)) (x3 : (⟨S1024, .f32⟩ : BufTy).Contents (Elt Ideal))
    (x4 : (⟨S1024x1024, .bf16⟩ : BufTy).Contents (Elt Ideal)) (x5 : (⟨S1024x1024, .bf16⟩ : BufTy).Contents (Elt Ideal))
    (x6 : (⟨S1024x1024, .bf16⟩ : BufTy).Contents (Elt Ideal)) (x7 : (⟨S1024x1024, .bf16⟩ : BufTy).Contents (Elt Ideal))
    (x8 : (⟨S2048x1024, .f32⟩ : BufTy).Contents (Elt Ideal)) (p : MSub) : Prop where
  x : ∀ i : S2048x1024.Idx, x0 i = ((p.x (i 0).val (i 1).val : ℝ) : EReal)
  mem : ∀ i : S256x1024.Idx, x1 i = ((p.mem (i 0).val (i 1).val : ℝ) : EReal)
  gq : ∀ i : S1024.Idx, x2 i = ((p.gq (i 0).val : ℝ) : EReal)
  gk : ∀ i : S1024.Idx, x3 i = ((p.gk (i 0).val : ℝ) : EReal)
  wq : ∀ i : S1024x1024.Idx, x4 i = ((p.wq (i 0).val (i 1).val : ℝ) : EReal)
  wk : ∀ i : S1024x1024.Idx, x5 i = ((p.wk (i 0).val (i 1).val : ℝ) : EReal)
  wv : ∀ i : S1024x1024.Idx, x6 i = ((p.wv (i 0).val (i 1).val : ℝ) : EReal)
  wo : ∀ i : S1024x1024.Idx, x7 i = ((p.wo (i 0).val (i 1).val : ℝ) : EReal)
  d : ∀ i : S2048x1024.Idx, x8 i = ((p.d (i 0).val (i 1).val : ℝ) : EReal)

variable {x0 x8 : (⟨S2048x1024, .f32⟩ : BufTy).Contents (Elt Ideal)}
  {x1 : (⟨S256x1024, .f32⟩ : BufTy).Contents (Elt Ideal)}
  {x2 x3 : (⟨S1024, .f32⟩ : BufTy).Contents (Elt Ideal)}
  {x4 x5 x6 x7 : (⟨S1024x1024, .bf16⟩ : BufTy).Contents (Elt Ideal)}
  {p : MSub}

theorem t10 (H : Arrs x0 x1 x2 x3 x4 x5 x6 x7 x8 p) (s : Fin 2048) :
    val_main_v10 (F := Ideal) x0 (ix2 s 0) = ((FfnReal.var p.x s : ℝ) : EReal) := by
  pointwise [val_main_v10, val_main_v9, val_main_v8, val_main_v7, val_main_v6, val_main_v5, val_main_v4, val_main_cst, val_main_cst_0, val_main_cst_1]
  simp only [H.x, width_bits, eps_bits, Ideal.ofBits_zero_f32, zero_add, ← EReal.coe_mul, ← EReal.coe_add, coe_sum, Ideal.div_coe (show (1024 : ℝ) ≠ 0 by norm_num)]
  rfl

theorem t11 (H : Arrs x0 x1 x2 x3 x4 x5 x6 x7 x8 p) (s : Fin 2048) :
    val_main_v11 (F := Ideal) x0 (ix2 s 0) = ((FfnReal.inv p.x s : ℝ) : EReal) := by
  pointwise [val_main_v11]
  rw [t10 H, rsqrt_var]

theorem t16 (H : Arrs x0 x1 x2 x3 x4 x5 x6 x7 x8 p) (s : Fin 2048) (d : Fin 1024) :
    val_main_v16 (F := Ideal) x0 (ix2 s d) = ((p.x s d * FfnReal.inv p.x s : ℝ) : EReal) := by
  pointwise [val_main_v16, val_main_v15]
  simp only [t11 H, H.x, ← EReal.coe_mul]
  rfl

theorem t19 (H : Arrs x0 x1 x2 x3 x4 x5 x6 x7 x8 p) (s : Fin 2048) (d : Fin 1024) :
    val_main_v19 (F := Ideal) x0 x2 (ix2 s d) = ((p.hq s d : ℝ) : EReal) := by
  pointwise [val_main_v19, val_main_v18, val_main_v17]
  simp only [t16 H, H.gq, ← EReal.coe_mul]
  rfl

theorem t26 (H : Arrs x0 x1 x2 x3 x4 x5 x6 x7 x8 p) (c : Fin 256) :
    val_main_v26 (F := Ideal) x1 (ix2 c 0) = ((FfnReal.var p.mem c : ℝ) : EReal) := by
  pointwise [val_main_v26, val_main_v25, val_main_v24, val_main_v23, val_main_v22, val_main_v21, val_main_v20, val_main_cst_3, val_main_cst_4, val_main_cst_5]
  simp only [H.mem, width_bits, eps_bits, Ideal.ofBits_zero_f32, zero_add, ← EReal.coe_mul, ← EReal.coe_add, coe_sum, Ideal.div_coe (show (1024 : ℝ) ≠ 0 by norm_num)]
  rfl

theorem t27 (H : Arrs x0 x1 x2 x3 x4 x5 x6 x7 x8 p) (c : Fin 256) :
    val_main_v27 (F := Ideal) x1 (ix2 c 0) = ((FfnReal.inv p.mem c : ℝ) : EReal) := by
  pointwise [val_main_v27]
  rw [t26 H, rsqrt_var]

theorem t29 (H : Arrs x0 x1 x2 x3 x4 x5 x6 x7 x8 p) (c : Fin 256) (d : Fin 1024) :
    val_main_v29 (F := Ideal) x1 (ix2 c d) = ((p.mem c d * FfnReal.inv p.mem c : ℝ) : EReal) := by
  pointwise [val_main_v29, val_main_v28]
  simp only [t27 H, H.mem, ← EReal.coe_mul]
  rfl

theorem t32 (H : Arrs x0 x1 x2 x3 x4 x5 x6 x7 x8 p) (c : Fin 256) (d : Fin 1024) :
    val_main_v32 (F := Ideal) x1 x3 (ix2 c d) = ((p.hm c d : ℝ) : EReal) := by
  pointwise [val_main_v32, val_main_v31, val_main_v30]
  simp only [t29 H, H.gk, ← EReal.coe_mul]
  rfl

theorem t33 (H : Arrs x0 x1 x2 x3 x4 x5 x6 x7 x8 p) (s : Fin 2048) (d : Fin 1024) :
    val_main_v33 (F := Ideal) x0 x2 x4 (ix2 s d) = ((p.q s d : ℝ) : EReal) := by
  pointwise [val_main_v33, val_main_v0]
  simp only [t19 H, H.wq, ← EReal.coe_mul, coe_sum]
  rfl

theorem t35 (H : Arrs x0 x1 x2 x3 x4 x5 x6 x7 x8 p) (c : Fin 256) (d : Fin 1024) :
    val_main_v35 (F := Ideal) x1 x3 x5 (ix2 c d) = ((p.k c d : ℝ) : EReal) := by
  pointwise [val_main_v35, val_main_v1]
  simp only [t32 H, H.wk, ← EReal.coe_mul, coe_sum]
  rfl

theorem t37 (H : Arrs x0 x1 x2 x3 x4 x5 x6 x7 x8 p) (c : Fin 256) (d : Fin 1024) :
    val_main_v37 (F := Ideal) x1 x3 x6 (ix2 c d) = ((p.v c d : ℝ) : EReal) := by
  pointwise [val_main_v37, val_main_v2]
  simp only [t32 H, H.wv, ← EReal.coe_mul, coe_sum]
  rfl

theorem t78 (H : Arrs x0 x1 x2 x3 x4 x5 x6 x7 x8 p) (s : Fin 2048) (d : Fin 1024) :
    val_main_v78 (F := Ideal) x7 x8 (ix2 s d) = ((p.dO s d : ℝ) : EReal) := by
  pointwise [val_main_v78, val_main_v75, val_main_v3]
  simp only [H.d, H.wo, ← EReal.coe_mul, coe_sum]
  rfl

theorem a33 (H : Arrs x0 x1 x2 x3 x4 x5 x6 x7 x8 p) (i : S2048x1024.Idx) :
    val_main_v33 (F := Ideal) x0 x2 x4 i = ((arr 2048 p.q i : ℝ) : EReal) := by
  idx_vars i
  exact t33 H _ _

theorem a35 (H : Arrs x0 x1 x2 x3 x4 x5 x6 x7 x8 p) (i : S256x1024.Idx) :
    val_main_v35 (F := Ideal) x1 x3 x5 i = ((arr 256 p.k i : ℝ) : EReal) := by
  idx_vars i
  exact t35 H _ _

theorem a37 (H : Arrs x0 x1 x2 x3 x4 x5 x6 x7 x8 p) (i : S256x1024.Idx) :
    val_main_v37 (F := Ideal) x1 x3 x6 i = ((arr 256 p.v i : ℝ) : EReal) := by
  idx_vars i
  exact t37 H _ _

theorem a78 (H : Arrs x0 x1 x2 x3 x4 x5 x6 x7 x8 p) (i : S2048x1024.Idx) :
    val_main_v78 (F := Ideal) x7 x8 i = ((arr 2048 p.dO i : ℝ) : EReal) := by
  idx_vars i
  exact t78 H _ _

/-- The probabilities. -/
theorem t66 (H : Arrs x0 x1 x2 x3 x4 x5 x6 x7 x8 p) (h : Fin 4) (r : Fin 2048) (c : Fin 256) :
    val_main_v66 (F := Ideal) x0 x1 x2 x3 x4 x5 (ix4 0 h r c) = ((prob (row (arr 2048 p.q) h r) (row (arr 256 p.k) h) c : ℝ) : EReal) :=
  Cert.ReferenceIdeal.MemRef.probs (a33 H) (a35 H) h r c

theorem t72 (H : Arrs x0 x1 x2 x3 x4 x5 x6 x7 x8 p) (s : Fin 2048) (d : Fin 1024) :
    val_main_v72 (F := Ideal) x0 x1 x2 x3 x4 x5 x6 (ix2 s d) = ((p.o s d : ℝ) : EReal) := by
  pointwise [val_main_v72, val_main_v71, val_main_v70, val_main_v38]
  simp only [a37 H, t66 H, ← EReal.coe_mul, coe_sum]
  exact congrArg _ (Finset.sum_congr rfl fun _ _ => mul_comm _ _)

theorem t74 (H : Arrs x0 x1 x2 x3 x4 x5 x6 x7 x8 p) (s : Fin 2048) (d : Fin 1024) :
    val_main_v74 (F := Ideal) x0 x1 x2 x3 x4 x5 x6 x7 (ix2 s d) = ((p.out s d : ℝ) : EReal) := by
  pointwise [val_main_v74, val_main_v73, val_main_v3]
  simp only [t72 H, H.wo, H.x, ← EReal.coe_mul, ← EReal.coe_add, coe_sum]
  exact congrArg _ (add_comm _ _)

end Cert.Reference3Ideal.MemSubRef
end
-- ==== Proof.MemSubRefBack.lean ====
module

public import proofs.«01_k».proof.Proof.MemSubRef

@[expose] public section

set_option maxRecDepth 16384

noncomputable section

/-! The memory sublayer's reference going back, at an index, over the real numbers: the attention's gradients are those of
`MemRef` at the projected arrays. -/

namespace Cert.Reference3Ideal.MemSubRef

open Cert.Reference3Ideal Cert.Reference3Ideal.Gen Cert.Reference3Ideal.Read Idealize.ShloMosaic Idealize.ShloMosaic.TcCoe Idealize.SL.Sem
open Cert.AttnReal Cert.FfnReal Cert.MemReal

variable {x0 x8 : (⟨S2048x1024, .f32⟩ : BufTy).Contents (Elt Ideal)}
  {x1 : (⟨S256x1024, .f32⟩ : BufTy).Contents (Elt Ideal)}
  {x2 x3 : (⟨S1024, .f32⟩ : BufTy).Contents (Elt Ideal)}
  {x4 x5 x6 x7 : (⟨S1024x1024, .bf16⟩ : BufTy).Contents (Elt Ideal)}
  {p : MSub}

theorem t112 (H : Arrs x0 x1 x2 x3 x4 x5 x6 x7 x8 p) (s : Fin 2048) (d : Fin 1024) :
    val_main_v112 (F := Ideal) x0 x1 x2 x3 x4 x5 x6 x7 x8 (ix2 s d) = ((p.dq s d : ℝ) : EReal) :=
  Cert.ReferenceIdeal.MemRef.dq_apply (a33 H) (a35 H) (a37 H) (a78 H) s d

theorem t107 (H : Arrs x0 x1 x2 x3 x4 x5 x6 x7 x8 p) (c : Fin 256) (d : Fin 1024) :
    val_main_v107 (F := Ideal) x0 x1 x2 x3 x4 x5 x6 x7 x8 (ix2 c d) = ((p.dk c d : ℝ) : EReal) :=
  Cert.ReferenceIdeal.MemRef.dk_apply (a33 H) (a35 H) (a37 H) (a78 H) c d

theorem t103 (H : Arrs x0 x1 x2 x3 x4 x5 x6 x7 x8 p) (c : Fin 256) (d : Fin 1024) :
    val_main_v103 (F := Ideal) x0 x1 x2 x3 x4 x5 x7 x8 (ix2 c d) = ((p.dv c d : ℝ) : EReal) :=
  Cert.ReferenceIdeal.MemRef.dv_apply (a33 H) (a35 H) (a78 H) c d

theorem t77 (H : Arrs x0 x1 x2 x3 x4 x5 x6 x7 x8 p) (d e : Fin 1024) :
    val_main_v77 (F := Ideal) x0 x1 x2 x3 x4 x5 x6 x8 (ix2 d e) = ((p.dwo d e : ℝ) : EReal) := by
  pointwise [val_main_v77, val_main_v76, val_main_v75]
  simp only [t72 H, H.d, ← EReal.coe_mul, coe_sum]
  exact congrArg _ (Finset.sum_congr rfl fun _ _ => mul_comm _ _)

theorem t114 (H : Arrs x0 x1 x2 x3 x4 x5 x6 x7 x8 p) (d e : Fin 1024) :
    val_main_v114 (F := Ideal) x0 x1 x2 x3 x4 x5 x6 x7 x8 (ix2 d e) = ((p.dwq d e : ℝ) : EReal) := by
  pointwise [val_main_v114, val_main_v113]
  simp only [t112 H, t19 H, ← EReal.coe_mul, coe_sum]
  exact congrArg _ (Finset.sum_congr rfl fun _ _ => mul_comm _ _)

theorem t109 (H : Arrs x0 x1 x2 x3 x4 x5 x6 x7 x8 p) (d e : Fin 1024) :
    val_main_v109 (F := Ideal) x0 x1 x2 x3 x4 x5 x6 x7 x8 (ix2 d e) = ((p.dwk d e : ℝ) : EReal) := by
  pointwise [val_main_v109, val_main_v108]
  simp only [t107 H, t32 H, ← EReal.coe_mul, coe_sum]
  exact congrArg _ (Finset.sum_congr rfl fun _ _ => mul_comm _ _)

theorem t105 (H : Arrs x0 x1 x2 x3 x4 x5 x6 x7 x8 p) (d e : Fin 1024) :
    val_main_v105 (F := Ideal) x0 x1 x2 x3 x4 x5 x7 x8 (ix2 d e) = ((p.dwv d e : ℝ) : EReal) := by
  pointwise [val_main_v105, val_main_v104]
  simp only [t103 H, t32 H, ← EReal.coe_mul, coe_sum]
  exact congrArg _ (Finset.sum_congr rfl fun _ _ => mul_comm _ _)

theorem t115 (H : Arrs x0 x1 x2 x3 x4 x5 x6 x7 x8 p) (s : Fin 2048) (d : Fin 1024) :
    val_main_v115 (F := Ideal) x0 x1 x2 x3 x4 x5 x6 x7 x8 (ix2 s d) = ((p.dhq s d : ℝ) : EReal) := by
  pointwise [val_main_v115, val_main_v0]
  simp only [t112 H, H.wq, ← EReal.coe_mul, coe_sum]
  rfl

theorem t111 (H : Arrs x0 x1 x2 x3 x4 x5 x6 x7 x8 p) (c : Fin 256) (d : Fin 1024) :
    val_main_v111 (F := Ideal) x0 x1 x2 x3 x4 x5 x6 x7 x8 (ix2 c d) = ((p.dhm c d : ℝ) : EReal) := by
  pointwise [val_main_v111, val_main_v110, val_main_v106, val_main_v1, val_main_v2]
  simp only [t103 H, t107 H, H.wk, H.wv, ← EReal.coe_mul, ← EReal.coe_add, coe_sum]
  rfl

theorem t119 (H : Arrs x0 x1 x2 x3 x4 x5 x6 x7 x8 p) (d : Fin 1024) :
    val_main_v119 (F := Ideal) x0 x1 x2 x3 x4 x5 x6 x7 x8 (ix1 d) = ((p.dgk d : ℝ) : EReal) := by
  pointwise [val_main_v119, val_main_v118, val_main_v117, val_main_v116, val_main_cst_20, val_main_cst_21]
  simp only [t29 H, t111 H, Ideal.ofBits_zero_f32, zero_add, ← EReal.coe_mul, ← EReal.coe_add, coe_sum]
  refine congrArg _ ((Fin.sum_univ_one _).trans ?_)
  unfold MSub.dgk dscale
  exact Finset.sum_congr rfl fun _ _ => by ring

theorem t125 (H : Arrs x0 x1 x2 x3 x4 x5 x6 x7 x8 p) (d : Fin 1024) :
    val_main_v125 (F := Ideal) x0 x1 x2 x3 x4 x5 x6 x7 x8 (ix1 d) = ((p.dgq d : ℝ) : EReal) := by
  pointwise [val_main_v125, val_main_v122, val_main_v121, val_main_v120, val_main_cst_22, val_main_cst_23]
  simp only [t16 H, t115 H, Ideal.ofBits_zero_f32, zero_add, ← EReal.coe_mul, ← EReal.coe_add, coe_sum]
  refine congrArg _ ((Fin.sum_univ_one _).trans ?_)
  unfold MSub.dgq dscale
  exact Finset.sum_congr rfl fun _ _ => by ring

theorem t128 (H : Arrs x0 x1 x2 x3 x4 x5 x6 x7 x8 p) (s : Fin 2048) :
    val_main_v128 (F := Ideal) x0 x1 x2 x3 x4 x5 x6 x7 x8 (ix2 s 0) = ((∑ d : Fin 1024, p.x s d * (p.dhq s d * p.gq d) : ℝ) : EReal) := by
  pointwise [val_main_v128, val_main_v127, val_main_v126, val_main_v124, val_main_v123, val_main_v17, val_main_cst_24]
  simp only [t115 H, H.x, H.gq, Ideal.ofBits_zero_f32, zero_add, ← EReal.coe_mul, ← EReal.coe_add, coe_sum]
  rfl

theorem t14 (H : Arrs x0 x1 x2 x3 x4 x5 x6 x7 x8 p) (s : Fin 2048) :
    val_main_v14 (F := Ideal) x0 (ix2 s 0) = ((-(1 / 2) * (FfnReal.inv p.x s * (1 / FfnReal.var p.x s)) : ℝ) : EReal) := by
  pointwise [val_main_v14, val_main_v13, val_main_v12, val_main_cst_2]
  rw [t11 H, t10 H, minus_half_bits, Ideal.div_coe (var_pos p.x _).ne', ← EReal.coe_mul, ← EReal.coe_mul]

theorem t136 (H : Arrs x0 x1 x2 x3 x4 x5 x6 x7 x8 p) (s : Fin 2048) (d : Fin 1024) :
    val_main_v136 (F := Ideal) x0 x1 x2 x3 x4 x5 x6 x7 x8 (ix2 s d) = ((-(1 / 2) * (FfnReal.inv p.x s * FfnReal.inv p.x s * FfnReal.inv p.x s) * FfnReal.slope p.x p.gq p.dhq s : ℝ) : EReal) := by
  pointwise [val_main_v136, val_main_v135, val_main_v134, val_main_v133, val_main_v132, val_main_cst_25, val_main_cst_26]
  refine (Fin.sum_univ_one _).trans ?_
  rw [t128 H, t14 H, width_bits, ← EReal.coe_mul, Ideal.div_coe (show (1024 : ℝ) ≠ 0 by norm_num), ← EReal.coe_mul, inv_div]
  unfold FfnReal.slope
  exact congrArg _ (by ring)

theorem t140 (H : Arrs x0 x1 x2 x3 x4 x5 x6 x7 x8 p) (s : Fin 2048) (d : Fin 1024) :
    val_main_v140 (F := Ideal) x0 x1 x2 x3 x4 x5 x6 x7 x8 (ix2 s d) = ((p.dx s d : ℝ) : EReal) := by
  pointwise [val_main_v140, val_main_v139, val_main_v138, val_main_v137, val_main_v131, val_main_v130, val_main_v129, val_main_v124, val_main_v123, val_main_v17]
  simp only [t115 H, t11 H, t136 H, H.x, H.gq, H.d, ← EReal.coe_mul, coe_sum, ← EReal.coe_add]
  refine congrArg _ ?_
  show p.d s.val d.val + p.dhq s.val d.val * p.gq d.val * FfnReal.inv p.x s.val + p.x s.val d.val * (-(1 / 2) * (FfnReal.inv p.x s.val * FfnReal.inv p.x s.val * FfnReal.inv p.x s.val) * FfnReal.slope p.x p.gq p.dhq s.val) + -(1 / 2) * (FfnReal.inv p.x s.val * FfnReal.inv p.x s.val * FfnReal.inv p.x s.val) * FfnReal.slope p.x p.gq p.dhq s.val * p.x s.val d.val = _
  unfold MSub.dx dnorm
  ring

theorem t141 (H : Arrs x0 x1 x2 x3 x4 x5 x6 x7 x8 p) (s : Fin 2048) (d : Fin 1024) :
    val_main_v141 (F := Ideal) x0 x1 x2 x3 x4 x5 x6 x7 x8 (ix2 s d) = ((p.dx s d : ℝ) : EReal) := by
  pointwise [val_main_v141]
  exact t140 H _ _

theorem t142 (H : Arrs x0 x1 x2 x3 x4 x5 x6 x7 x8 p) (d e : Fin 1024) :
    val_main_v142 (F := Ideal) x0 x1 x2 x3 x4 x5 x6 x7 x8 (ix2 d e) = ((p.dwq d e : ℝ) : EReal) := by
  pointwise [val_main_v142]
  exact t114 H _ _

theorem t143 (H : Arrs x0 x1 x2 x3 x4 x5 x6 x7 x8 p) (d e : Fin 1024) :
    val_main_v143 (F := Ideal) x0 x1 x2 x3 x4 x5 x6 x7 x8 (ix2 d e) = ((p.dwk d e : ℝ) : EReal) := by
  pointwise [val_main_v143]
  exact t109 H _ _

theorem t144 (H : Arrs x0 x1 x2 x3 x4 x5 x6 x7 x8 p) (d e : Fin 1024) :
    val_main_v144 (F := Ideal) x0 x1 x2 x3 x4 x5 x7 x8 (ix2 d e) = ((p.dwv d e : ℝ) : EReal) := by
  pointwise [val_main_v144]
  exact t105 H _ _

theorem t145 (H : Arrs x0 x1 x2 x3 x4 x5 x6 x7 x8 p) (d e : Fin 1024) :
    val_main_v145 (F := Ideal) x0 x1 x2 x3 x4 x5 x6 x8 (ix2 d e) = ((p.dwo d e : ℝ) : EReal) := by
  pointwise [val_main_v145]
  exact t77 H _ _

end Cert.Reference3Ideal.MemSubRef
end
-- ==== Proof.ProjSub.lean ====
module

public import proofs.«01_k».proof.Proof.FfnReal

@[expose] public section

set_option maxRecDepth 16384

noncomputable section

/-! The real-number mathematics of the projections into and out of the mixer and their gradients: the sequence, its scale, the
    weights in and out, the two results of the mixer, the gradients, and what is computed from them. -/

namespace Cert.ProjReal

open Idealize.ShloMosaic Cert.FfnReal

/-- The real arrays the projections are of: the sequence, its scale, the weights in, the mixer's two results, the weights out,
    and the gradients of the columns projected and of the sublayer's output. -/
structure Proj where
  x : ℕ → ℕ → ℝ
  g : ℕ → ℝ
  w : ℕ → ℕ → ℝ
  ya : ℕ → ℕ → ℝ
  yb : ℕ → ℕ → ℝ
  wo : ℕ → ℕ → ℝ
  dp : ℕ → ℕ → ℝ
  d : ℕ → ℕ → ℝ

namespace Proj

variable (p : Proj)

/-- The normalized sequence, the columns projected, the lower half of the weights out. -/
def h : ℕ → ℕ → ℝ := norm p.x p.g
def proj : ℕ → ℕ → ℝ := mm 1024 p.h p.w
def low (k j : ℕ) : ℝ := p.wo (1024 + k) j

/-- The sequence with the first result's part added, and the sublayer's output. -/
def part (i j : ℕ) : ℝ := mm 1024 p.ya p.wo i j + p.x i j
def out (i j : ℕ) : ℝ := mm 1024 p.yb p.low i j + p.part i j

/-- The gradients of the mixer's two results, of the weights out, of the normalized sequence and of the weights in. -/
def dya : ℕ → ℕ → ℝ := mmT 1024 p.d p.wo
def dyb : ℕ → ℕ → ℝ := mmT 1024 p.d p.low
def dwo (i j : ℕ) : ℝ := if i < 1024 then tmm 2048 p.ya p.d i j else tmm 2048 p.yb p.d (i - 1024) j
def dh : ℕ → ℕ → ℝ := mmT 4096 p.dp p.w
def dw : ℕ → ℕ → ℝ := tmm 2048 p.h p.dp

/-- The gradients of the sequence and of its scale. -/
def dx : ℕ → ℕ → ℝ := dnorm p.x p.g p.dh p.d
def dg : ℕ → ℝ := dscale 2048 p.x p.dh

/-- The mixer's two results beside each other. -/
def y (i j : ℕ) : ℝ := if j < 1024 then p.ya i j else p.yb i (j - 1024)

/-- One product with both results side by side is the sum of the two. -/
theorem out_joined (i j : ℕ) : p.x i j + mm 2048 p.y p.wo i j = p.out i j := by
  have hs : mm 2048 p.y p.wo i j = mm 1024 p.ya p.wo i j + mm 1024 p.yb p.low i j := by
    unfold mm
    refine (Fin.sum_univ_add (a := 1024) (b := 1024) fun k => p.y i k * p.wo k j).trans ?_
    refine congrArg₂ (· + ·) (Finset.sum_congr rfl fun k _ => ?_) (Finset.sum_congr rfl fun k _ => ?_)
    · simp only [y, Fin.val_castAdd, k.isLt, if_true]
    · simp only [y, low, Fin.val_natAdd, Nat.not_lt.mpr (Nat.le_add_right 1024 k.val), if_false, Nat.add_sub_cancel_left]
  rw [hs, out, part]
  ring

/-- The gradient of the weights out, of the two results side by side. -/
theorem dwo_joined (i j : ℕ) : tmm 2048 p.y p.d i j = p.dwo i j := by
  unfold dwo tmm y
  split <;> rfl

end Proj

end Cert.ProjReal
end
-- ==== Proof.ProjFinite.lean ====
module

public import proofs.«01_k».proof.Proof.FfnFinite
public import proofs.«01_k».proof.Proof.ProjSub

@[expose] public section

set_option maxRecDepth 16384

noncomputable section

/-! What the precondition of the projections says: every element of the eight arrays is a real number. -/

namespace Cert.ProjFinite

open Cert.Pre_finite4 Idealize.ShloMosaic Cert.Finite

theorem facts : Cert.Pre_finite4.Facts := ⟨by decide, by decide, by decide, by decide, by decide⟩

instance : Cert.Pre_finite4.Facts := facts

variable {x0 x7 : FVec Ideal S2048x1024 .f32} {x1 : FVec Ideal S1024 .f32} {x2 : FVec Ideal S1024x4096 .bf16}
  {x3 x4 x5 : FVec Ideal S2048x1024 .bf16} {x6 : FVec Ideal S2048x4096 .bf16}

theorem real0 (h : (fn (F := Ideal) x0 x1 x2 x3 x4 x5 x6 x7).1 = fun _ => 1#1) (i : S2048x1024.Idx) : x0 i = (((x0 i).toReal : ℝ) : EReal) := by
  have := congrFun h i
  idx_vars i
  pointwise [fn, fn_part1] at this
  exact real_of_abs_lt this

theorem real1 (h : (fn (F := Ideal) x0 x1 x2 x3 x4 x5 x6 x7).2.1 = fun _ => 1#1) (i : S1024.Idx) : x1 i = (((x1 i).toReal : ℝ) : EReal) := by
  have := congrFun h i
  idx_vars i
  pointwise [fn, fn_part1] at this
  exact real_of_abs_lt this

theorem real2 (h : (fn (F := Ideal) x0 x1 x2 x3 x4 x5 x6 x7).2.2.1 = fun _ => 1#1) (i : S1024x4096.Idx) : x2 i = (((x2 i).toReal : ℝ) : EReal) := by
  have := congrFun h i
  idx_vars i
  pointwise [fn, fn_part1] at this
  exact real_of_abs_lt this

theorem real3 (h : (fn (F := Ideal) x0 x1 x2 x3 x4 x5 x6 x7).2.2.2.1 = fun _ => 1#1) (i : S2048x1024.Idx) : x3 i = (((x3 i).toReal : ℝ) : EReal) := by
  have := congrFun h i
  idx_vars i
  pointwise [fn, fn_part1] at this
  exact real_of_abs_lt this

theorem real4 (h : (fn (F := Ideal) x0 x1 x2 x3 x4 x5 x6 x7).2.2.2.2.1 = fun _ => 1#1) (i : S2048x1024.Idx) : x4 i = (((x4 i).toReal : ℝ) : EReal) := by
  have := congrFun h i
  idx_vars i
  pointwise [fn, fn_part1] at this
  exact real_of_abs_lt this

theorem real5 (h : (fn (F := Ideal) x0 x1 x2 x3 x4 x5 x6 x7).2.2.2.2.2.1 = fun _ => 1#1) (i : S2048x1024.Idx) : x5 i = (((x5 i).toReal : ℝ) : EReal) := by
  have := congrFun h i
  idx_vars i
  pointwise [fn, fn_part1] at this
  exact real_of_abs_lt this

theorem real6 (h : (fn (F := Ideal) x0 x1 x2 x3 x4 x5 x6 x7).2.2.2.2.2.2.1 = fun _ => 1#1) (i : S2048x4096.Idx) : x6 i = (((x6 i).toReal : ℝ) : EReal) := by
  have := congrFun h i
  idx_vars i
  pointwise [fn, fn_part1] at this
  exact real_of_abs_lt this

theorem real7 (h : (fn (F := Ideal) x0 x1 x2 x3 x4 x5 x6 x7).2.2.2.2.2.2.2 = fun _ => 1#1) (i : S2048x1024.Idx) : x7 i = (((x7 i).toReal : ℝ) : EReal) := by
  have := congrFun h i
  idx_vars i
  pointwise [fn, fn_part1] at this
  exact real_of_abs_lt this

end Cert.ProjFinite
end
-- ==== Proof.MixNorm.lean ====
module

public import proofs.«01_k».proof.Proof.Gen.Kernel4Ideal.Frame.Region0
public import proofs.«01_k».proof.Proof.ProjSub
public import proofs.«01_k».proof.Proof.FfnNorm
public import Idealize.ShloMosaic.Lib.Pipeline.ReadBack
public import Idealize.ShloMosaic.Lib.Pipeline.ValueKit

@[expose] public section

set_option maxRecDepth 16384

noncomputable section

/-! The normalization before the mixer, as real numbers. Its block is the feed-forward sublayer's. -/

namespace Cert.Kernel4Ideal.Mix

open Cert.Kernel4Ideal Cert.Kernel4Ideal.Gen Idealize.ShloMosaic Idealize.ShloMosaic.TcCoe Idealize.SL.Sem
open Cert.AttnReal Cert.FfnReal Cert.ProjReal
open Cert.Kernel2Ideal.Ffn (pay0)

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] := by decide +kernel

/-- The normalized sequence. -/
theorem mix_norm {a : ℕ → ℕ → ℝ} {g : ℕ → ℝ} (h0 : ∀ i : S2048x1024.Idx, V c main_arg0 i = ((a (i 0).val (i 1).val : ℝ) : EReal))
    (h1 : ∀ i : S1x1024.Idx, V c main_v0 i = ((g (i 1).val : ℝ) : EReal)) :
    (dat0 V c).arrAt 2 cfg0.N = fun i : S2048x1024.Idx => ((norm a g (i 0).val (i 1).val : ℝ) : EReal) := by
  refine (dat0 V c).arrAt_eq_of_covers 2 _ (by decide +kernel) fun t hf y => ?_
  have ht : t.val < 4 := lt_of_lt_of_eq t.isLt N_0
  have b0 : ∀ (r : Fin 512) (k : Fin 1024), iblk0 V c 0 t (ix2 r k) = ((a (t.val * 512 + r.val) k : ℝ) : EReal) := fun r k => by
    refine Eq.trans ?_ (h0 (ix2 ⟨t.val * 512 + r.val, by omega⟩ k))
    blk_ext [iblk0, idx0 t]
  have b1 : ∀ k : Fin 1024, iblk0 V c 1 t (ix2 0 k) = ((g k : ℝ) : EReal) := fun k => by
    refine Eq.trans ?_ (h1 (ix2 0 k))
    blk_ext [iblk0, idx0 t]
  have out : ∀ y : S512x1024.Idx, (dat0 V c).after 2 t y = ((norm a g (t.val * 512 + (y 0).val) (y 1).val : ℝ) : EReal) := fun y => by
    rw [after0_2]
    unfold out0_2
    rw [View.canon_cons_unit_lit inb_S512x1024_S512x1024_0_0 _ _ (by decide), View.ld_unit_lit inb_S512x1024_S512x1024_0_0 _ (by decide),
      View.ld_unit_lit inb_S1x1024_S1x1024_0_0 _ (by decide)]
    idx_vars y
    refine (pay0 (a := fun r k => a (t.val * 512 + r) k) (g := g) b0 b1 _ _).trans ?_
    rfl
  refine (out y).trans ?_
  idx_vars y
  blk_simp [idx0 t]

end Cert.Kernel4Ideal.Mix
end
-- ==== Proof.MixProducts.lean ====
module

public import proofs.«01_k».proof.Proof.Gen.Kernel4Ideal.Frame.Region1
public import proofs.«01_k».proof.Proof.Gen.Kernel4Ideal.Frame.Region2
public import proofs.«01_k».proof.Proof.Gen.Kernel4Ideal.Frame.Region3
public import proofs.«01_k».proof.Proof.Gen.Kernel4Ideal.Frame.Region4
public import proofs.«01_k».proof.Proof.Gen.Kernel4Ideal.Frame.Region5
public import proofs.«01_k».proof.Proof.MemProducts
public import proofs.«01_k».proof.Proof.ProjSub
public import Idealize.ShloMosaic.Lib.Pipeline.ReadBack
public import Idealize.ShloMosaic.Lib.Pipeline.ValueKit

@[expose] public section

set_option maxRecDepth 16384

noncomputable section

/-! The products into and out of the mixer, forward, and the gradients of the mixer's results, array by array, as real
    numbers. Their blocks are the memory sublayer's. -/

namespace Cert.Kernel4Ideal.Mix

open Cert.Kernel4Ideal Cert.Kernel4Ideal.Gen Idealize.ShloMosaic Idealize.ShloMosaic.TcCoe Idealize.SL.Sem
open Cert.AttnReal Cert.FfnReal Cert.ProjReal

variable (V : (c : Dev nD) → (b : Ref sig .tc) → Buf (Elt Ideal) ((c : Thread nD τ).loc b)) (c : Dev nD)

theorem idx1 : ∀ t : Fin cfg1.N, win1_0.index t = ![t.val / 4, 0] ∧ win1_1.index t = ![0, t.val % 4] ∧ win1_2.index t = ![t.val / 4, t.val % 4] := by decide +kernel

/-- The columns projected. -/
theorem mix_proj {a : ℕ → ℕ → ℝ} {b : ℕ → ℕ → ℝ}
    (h0 : ∀ i : S2048x1024.Idx, V c main_v1 i = ((a (i 0).val (i 1).val : ℝ) : EReal))
    (h1 : ∀ i : S1024x4096.Idx, V c main_arg2 i = ((b (i 0).val (i 1).val : ℝ) : EReal)) :
    (dat1 V c).arrAt 2 cfg1.N = fun i : S2048x4096.Idx => ((mm 1024 a b (i 0).val (i 1).val : ℝ) : EReal) := by
  refine (dat1 V c).arrAt_eq_of_covers 2 _ (by decide +kernel) fun t hf y => ?_
  have ht : t.val < 8 := lt_of_lt_of_eq t.isLt N_1
  have b0 : ∀ (r : Fin 1024) (k : Fin 1024), iblk1 V c 0 t (ix2 r k) = ((a (t.val / 4 * 1024 + r.val) k : ℝ) : EReal) := fun r k => by
    refine Eq.trans ?_ (h0 (ix2 ⟨t.val / 4 * 1024 + r.val, by omega⟩ k))
    blk_ext [iblk1, idx1 t]
  have b1 : ∀ (r : Fin 1024) (k : Fin 1024), iblk1 V c 1 t (ix2 r k) = ((b r (t.val % 4 * 1024 + k.val) : ℝ) : EReal) := fun r k => by
    refine Eq.trans ?_ (h1 (ix2 r ⟨t.val % 4 * 1024 + k.val, by omega⟩))
    blk_ext [iblk1, idx1 t]
  have out : ∀ y : S1024x1024.Idx, (dat1 V c).after 2 t y = ((mm 1024 a b (t.val / 4 * 1024 + (y 0).val) (t.val % 4 * 1024 + (y 1).val) : ℝ) : EReal) := fun y => by
    rw [after1_2]
    unfold out1_2
    rw [View.canon_cons_unit_lit inb_S1024x1024_S1024x1024_0_0 _ _ (by decide), View.ld_unit_lit inb_S1024x1024_S1024x1024_0_0 _ (by decide), View.ld_unit_lit inb_S1024x1024_S1024x1024_0_0 _ (by decide)]
    idx_vars y
    refine (Kernel3Ideal.Mem.pay2 (a := fun r k => a (t.val / 4 * 1024 + r) k) (b := fun r k => b r (t.val % 4 * 1024 + k)) b0 b1 _ _).trans ?_
    rfl
  refine (out y).trans ?_
  idx_vars y
  blk_simp [idx1 t]

theorem pay2 {x : Vec Ideal S1024x1024 .bf16} {w : Vec Ideal S1024x1024 .bf16} {z : Vec Ideal S1024x1024 .f32} {a b e : ℕ → ℕ → ℝ}
    (h0 : ∀ (r : Fin 1024) (k : Fin 1024), x (ix2 r k) = ((a r k : ℝ) : EReal)) (h1 : ∀ (r : Fin 1024) (k : Fin 1024), w (ix2 r k) = ((b r k : ℝ) : EReal)) (h2 : ∀ (r : Fin 1024) (k : Fin 1024), z (ix2 r k) = ((e r k : ℝ) : EReal))
    (r : Fin 1024) (j : Fin 1024) : k2_pay1 x w z (ix2 r j) = ((mm 1024 a b r j + e r j : ℝ) : EReal) := by
  pointwise [k2_pay1]
  simp only [h0, h1, h2, ← EReal.coe_mul, coe_sum, ← EReal.coe_add]
  rfl

theorem idx2 : ∀ t : Fin cfg2.N, win2_0.index t = ![t.val, 0] ∧ win2_1.index t = ![0, 0] ∧ win2_2.index t = ![t.val, 0] ∧ win2_3.index t = ![t.val, 0] := by decide +kernel

/-- The first result's part of the output, added to the sequence. -/
theorem mix_out_a {a : ℕ → ℕ → ℝ} {b : ℕ → ℕ → ℝ} {e : ℕ → ℕ → ℝ}
    (h0 : ∀ i : S2048x1024.Idx, V c main_arg3 i = ((a (i 0).val (i 1).val : ℝ) : EReal))
    (h1 : ∀ i : S2048x1024.Idx, V c main_arg5 i = ((b (i 0).val (i 1).val : ℝ) : EReal))
    (h2 : ∀ i : S2048x1024.Idx, V c main_arg0 i = ((e (i 0).val (i 1).val : ℝ) : EReal)) :
    (dat2 V c).arrAt 3 cfg2.N = fun i : S2048x1024.Idx => ((mm 1024 a b (i 0).val (i 1).val + e (i 0).val (i 1).val : ℝ) : EReal) := by
  refine (dat2 V c).arrAt_eq_of_covers 3 _ (by decide +kernel) fun t hf y => ?_
  have ht : t.val < 2 := lt_of_lt_of_eq t.isLt N_2
  have b0 : ∀ (r : Fin 1024) (k : Fin 1024), iblk2 V c 0 t (ix2 r k) = ((a (t.val * 1024 + r.val) k : ℝ) : EReal) := fun r k => by
    refine Eq.trans ?_ (h0 (ix2 ⟨t.val * 1024 + r.val, by omega⟩ k))
    blk_ext [iblk2, idx2 t]
  have b1 : ∀ (r : Fin 1024) (k : Fin 1024), iblk2 V c 1 t (ix2 r k) = ((b r k : ℝ) : EReal) := fun r k => by
    refine Eq.trans ?_ (h1 (ix2 ⟨r.val, by omega⟩ k))
    blk_ext [iblk2, idx2 t]
  have b2 : ∀ (r : Fin 1024) (k : Fin 1024), iblk2 V c 2 t (ix2 r k) = ((e (t.val * 1024 + r.val) k : ℝ) : EReal) := fun r k => by
    refine Eq.trans ?_ (h2 (ix2 ⟨t.val * 1024 + r.val, by omega⟩ k))
    blk_ext [iblk2, idx2 t]
  have out : ∀ y : S1024x1024.Idx, (dat2 V c).after 3 t y = ((mm 1024 a b (t.val * 1024 + (y 0).val) (y 1).val + e (t.val * 1024 + (y 0).val) (y 1).val : ℝ) : EReal) := fun y => by
    rw [after2_3]
    unfold out2_3
    rw [View.canon_cons_unit_lit inb_S1024x1024_S1024x1024_0_0 _ _ (by decide), View.ld_unit_lit inb_S1024x1024_S1024x1024_0_0 _ (by decide), View.ld_unit_lit inb_S1024x1024_S1024x1024_0_0 _ (by decide), View.ld_unit_lit inb_S1024x1024_S1024x1024_0_0 _ (by decide)]
    idx_vars y
    rw [pay2 (a := fun r k => a (t.val * 1024 + r) k) (b := fun r k => b r k) (e := fun r k => e (t.val * 1024 + r) k) b0 b1 b2]
    rfl
  refine (out y).trans ?_
  idx_vars y
  blk_simp [idx2 t]

theorem pay3 {x : Vec Ideal S1024x1024 .bf16} {w : Vec Ideal S1024x1024 .bf16} {z : Vec Ideal S1024x1024 .f32} {a b e : ℕ → ℕ → ℝ}
    (h0 : ∀ (r : Fin 1024) (k : Fin 1024), x (ix2 r k) = ((a r k : ℝ) : EReal)) (h1 : ∀ (r : Fin 1024) (k : Fin 1024), w (ix2 r k) = ((b r k : ℝ) : EReal)) (h2 : ∀ (r : Fin 1024) (k : Fin 1024), z (ix2 r k) = ((e r k : ℝ) : EReal))
    (r : Fin 1024) (j : Fin 1024) : k3_pay1 x w z (ix2 r j) = ((mm 1024 a b r j + e r j : ℝ) : EReal) := by
  pointwise [k3_pay1]
  simp only [h0, h1, h2, ← EReal.coe_mul, coe_sum, ← EReal.coe_add]
  rfl

theorem idx3 : ∀ t : Fin cfg3.N, win3_0.index t = ![t.val, 0] ∧ win3_1.index t = ![1, 0] ∧ win3_2.index t = ![t.val, 0] ∧ win3_3.index t = ![t.val, 0] := by decide +kernel

/-- The second result's part, added. -/
theorem mix_out_b {a : ℕ → ℕ → ℝ} {b : ℕ → ℕ → ℝ} {e : ℕ → ℕ → ℝ}
    (h0 : ∀ i : S2048x1024.Idx, V c main_arg4 i = ((a (i 0).val (i 1).val : ℝ) : EReal))
    (h1 : ∀ i : S2048x1024.Idx, V c main_arg5 i = ((b (i 0).val (i 1).val : ℝ) : EReal))
    (h2 : ∀ i : S2048x1024.Idx, V c main_v3 i = ((e (i 0).val (i 1).val : ℝ) : EReal)) :
    (dat3 V c).arrAt 3 cfg3.N = fun i : S2048x1024.Idx => ((mm 1024 a (fun k j => b (1 * 1024 + k) j) (i 0).val (i 1).val + e (i 0).val (i 1).val : ℝ) : EReal) := by
  refine (dat3 V c).arrAt_eq_of_covers 3 _ (by decide +kernel) fun t hf y => ?_
  have ht : t.val < 2 := lt_of_lt_of_eq t.isLt N_3
  have b0 : ∀ (r : Fin 1024) (k : Fin 1024), iblk3 V c 0 t (ix2 r k) = ((a (t.val * 1024 + r.val) k : ℝ) : EReal) := fun r k => by
    refine Eq.trans ?_ (h0 (ix2 ⟨t.val * 1024 + r.val, by omega⟩ k))
    blk_ext [iblk3, idx3 t]
  have b1 : ∀ (r : Fin 1024) (k : Fin 1024), iblk3 V c 1 t (ix2 r k) = ((b (1 * 1024 + r.val) k : ℝ) : EReal) := fun r k => by
    refine Eq.trans ?_ (h1 (ix2 ⟨1 * 1024 + r.val, by omega⟩ k))
    blk_ext [iblk3, idx3 t]
  have b2 : ∀ (r : Fin 1024) (k : Fin 1024), iblk3 V c 2 t (ix2 r k) = ((e (t.val * 1024 + r.val) k : ℝ) : EReal) := fun r k => by
    refine Eq.trans ?_ (h2 (ix2 ⟨t.val * 1024 + r.val, by omega⟩ k))
    blk_ext [iblk3, idx3 t]
  have out : ∀ y : S1024x1024.Idx, (dat3 V c).after 3 t y = ((mm 1024 a (fun k j => b (1 * 1024 + k) j) (t.val * 1024 + (y 0).val) (y 1).val + e (t.val * 1024 + (y 0).val) (y 1).val : ℝ) : EReal) := fun y => by
    rw [after3_3]
    unfold out3_3
    rw [View.canon_cons_unit_lit inb_S1024x1024_S1024x1024_0_0 _ _ (by decide), View.ld_unit_lit inb_S1024x1024_S1024x1024_0_0 _ (by decide), View.ld_unit_lit inb_S1024x1024_S1024x1024_0_0 _ (by decide), View.ld_unit_lit inb_S1024x1024_S1024x1024_0_0 _ (by decide)]
    idx_vars y
    rw [pay3 (a := fun r k => a (t.val * 1024 + r) k) (b := fun r k => b (1 * 1024 + r) k) (e := fun r k => e (t.val * 1024 + r) k) b0 b1 b2]
    rfl
  refine (out y).trans ?_
  idx_vars y
  blk_simp [idx3 t]

theorem idx4 : ∀ t : Fin cfg4.N, win4_0.index t = ![t.val, 0] ∧ win4_1.index t = ![0, 0] ∧ win4_2.index t = ![t.val, 0] := by decide +kernel

/-- The first result's gradient. -/
theorem mix_dya {a : ℕ → ℕ → ℝ} {b : ℕ → ℕ → ℝ}
    (h0 : ∀ i : S2048x1024.Idx, V c main_v5 i = ((a (i 0).val (i 1).val : ℝ) : EReal))
    (h1 : ∀ i : S2048x1024.Idx, V c main_arg5 i = ((b (i 0).val (i 1).val : ℝ) : EReal)) :
    (dat4 V c).arrAt 2 cfg4.N = fun i : S2048x1024.Idx => ((mmT 1024 a b (i 0).val (i 1).val : ℝ) : EReal) := by
  refine (dat4 V c).arrAt_eq_of_covers 2 _ (by decide +kernel) fun t hf y => ?_
  have ht : t.val < 2 := lt_of_lt_of_eq t.isLt N_4
  have b0 : ∀ (r : Fin 1024) (k : Fin 1024), iblk4 V c 0 t (ix2 r k) = ((a (t.val * 1024 + r.val) k : ℝ) : EReal) := fun r k => by
    refine Eq.trans ?_ (h0 (ix2 ⟨t.val * 1024 + r.val, by omega⟩ k))
    blk_ext [iblk4, idx4 t]
  have b1 : ∀ (r : Fin 1024) (k : Fin 1024), iblk4 V c 1 t (ix2 r k) = ((b r k : ℝ) : EReal) := fun r k => by
    refine Eq.trans ?_ (h1 (ix2 ⟨r.val, by omega⟩ k))
    blk_ext [iblk4, idx4 t]
  have out : ∀ y : S1024x1024.Idx, (dat4 V c).after 2 t y = ((mmT 1024 a b (t.val * 1024 + (y 0).val) (y 1).val : ℝ) : EReal) := fun y => by
    rw [after4_2]
    unfold out4_2
    rw [View.canon_cons_unit_lit inb_S1024x1024_S1024x1024_0_0 _ _ (by decide), View.ld_unit_lit inb_S1024x1024_S1024x1024_0_0 _ (by decide), View.ld_unit_lit inb_S1024x1024_S1024x1024_0_0 _ (by decide)]
    idx_vars y
    refine (Kernel3Ideal.Mem.pay7 (a := fun r k => a (t.val * 1024 + r) k) (b := fun r k => b r k) b0 b1 _ _).trans ?_
    rfl
  refine (out y).trans ?_
  idx_vars y
  blk_simp [idx4 t]

theorem idx5 : ∀ t : Fin cfg5.N, win5_0.index t = ![t.val, 0] ∧ win5_1.index t = ![1, 0] ∧ win5_2.index t = ![t.val, 0] := by decide +kernel

/-- The second result's gradient. -/
theorem mix_dyb {a : ℕ → ℕ → ℝ} {b : ℕ → ℕ → ℝ}
    (h0 : ∀ i : S2048x1024.Idx, V c main_v5 i = ((a (i 0).val (i 1).val : ℝ) : EReal))
    (h1 : ∀ i : S2048x1024.Idx, V c main_arg5 i = ((b (i 0).val (i 1).val : ℝ) : EReal)) :
    (dat5 V c).arrAt 2 cfg5.N = fun i : S2048x1024.Idx => ((mmT 1024 a (fun k j => b (1 * 1024 + k) j) (i 0).val (i 1).val : ℝ) : EReal) := by
  refine (dat5 V c).arrAt_eq_of_covers 2 _ (by decide +kernel) fun t hf y => ?_
  have ht : t.val < 2 := lt_of_lt_of_eq t.isLt N_5
  have b0 : ∀ (r : Fin 1024) (k : Fin 1024), iblk5 V c 0 t (ix2 r k) = ((a (t.val * 1024 + r.val) k : ℝ) : EReal) := fun r k => by
    refine Eq.trans ?_ (h0 (ix2 ⟨t.val * 1024 + r.val, by omega⟩ k))
    blk_ext [iblk5, idx5 t]
  have b1 : ∀ (r : Fin 1024) (k : Fin 1024), iblk5 V c 1 t (ix2 r k) = ((b (1 * 1024 + r.val) k : ℝ) : EReal) := fun r k => by
    refine Eq.trans ?_ (h1 (ix2 ⟨1 * 1024 + r.val, by omega⟩ k))
    blk_ext [iblk5, idx5 t]
  have out : ∀ y : S1024x1024.Idx, (dat5 V c).after 2 t y = ((mmT 1024 a (fun k j => b (1 * 1024 + k) j) (t.val * 1024 + (y 0).val) (y 1).val : ℝ) : EReal) := fun y => by
    rw [after5_2]
    unfold out5_2
    rw [View.canon_cons_unit_lit inb_S1024x1024_S1024x1024_0_0 _ _ (by decide), View.ld_unit_lit inb_S1024x1024_S1024x1024_0_0 _ (by decide), View.ld_unit_lit inb_S1024x1024_S1024x1024_0_0 _ (by decide)]
    idx_vars y
    refine (Kernel3Ideal.Mem.pay7 (a := fun r k => a (t.val * 1024 + r) k) (b := fun r k => b (1 * 1024 + r) k) b0 b1 _ _).trans ?_
    rfl
  refine (out y).trans ?_
  idx_vars y
  blk_simp [idx5 t]

end Cert.Kernel4Ideal.Mix
end
-- ==== Proof.MixProductsBack.lean ====
module

public import proofs.«01_k».proof.Proof.Gen.Kernel4Ideal.Frame.Region6
public import proofs.«01_k».proof.Proof.Gen.Kernel4Ideal.Frame.Region7
public import proofs.«01_k».proof.Proof.Gen.Kernel4Ideal.Frame.Region8
public import proofs.«01_k».proof.Proof.Gen.Kernel4Ideal.Frame.Region9
public import proofs.«01_k».proof.Proof.MemProducts
public import proofs.«01_k».proof.Proof.ProjSub
public import Idealize.ShloMosaic.Lib.Pipeline.ReadBack
public import Idealize.ShloMosaic.Lib.Pipeline.ValueKit

@[expose] public section

set_option maxRecDepth 16384

noncomputable section

/-! The other products of the backward pass, array by array, as real numbers. -/

namespace Cert.Kernel4Ideal.Mix

open Cert.Kernel4Ideal Cert.Kernel4Ideal.Gen Idealize.ShloMosaic Idealize.ShloMosaic.TcCoe Idealize.SL.Sem
open Cert.AttnReal Cert.FfnReal Cert.ProjReal

variable (V : (c : Dev nD) → (b : Ref sig .tc) → Buf (Elt Ideal) ((c : Thread nD τ).loc b)) (c : Dev nD)

theorem pay6 {x : Vec Ideal S2048x1024 .bf16} {w : Vec Ideal S2048x512 .bf16} {a b : ℕ → ℕ → ℝ}
    (h0 : ∀ (r : Fin 2048) (k : Fin 1024), x (ix2 r k) = ((a r k : ℝ) : EReal)) (h1 : ∀ (r : Fin 2048) (k : Fin 512), w (ix2 r k) = ((b r k : ℝ) : EReal))
    (r : Fin 1024) (j : Fin 512) : k6_pay1 x w (ix2 r j) = ((tmm 2048 a b r j : ℝ) : EReal) := by
  pointwise [k6_pay1]
  simp only [h0, h1, ← EReal.coe_mul, coe_sum]
  rfl

theorem idx6 : ∀ t : Fin cfg6.N, win6_0.index t = ![0, 0] ∧ win6_1.index t = ![0, t.val] ∧ win6_2.index t = ![0, t.val] := by decide +kernel

/-- The gradient of the upper half of the weights out. -/
theorem mix_dwo_a {a : ℕ → ℕ → ℝ} {b : ℕ → ℕ → ℝ}
    (h0 : ∀ i : S2048x1024.Idx, V c main_arg3 i = ((a (i 0).val (i 1).val : ℝ) : EReal))
    (h1 : ∀ i : S2048x1024.Idx, V c main_v5 i = ((b (i 0).val (i 1).val : ℝ) : EReal)) :
    (dat6 V c).arrAt 2 cfg6.N = fun i : S1024x1024.Idx => ((tmm 2048 a b (i 0).val (i 1).val : ℝ) : EReal) := by
  refine (dat6 V c).arrAt_eq_of_covers 2 _ (by decide +kernel) fun t hf y => ?_
  have ht : t.val < 2 := lt_of_lt_of_eq t.isLt N_6
  have b0 : ∀ (r : Fin 2048) (k : Fin 1024), iblk6 V c 0 t (ix2 r k) = ((a r k : ℝ) : EReal) := fun r k => by
    refine Eq.trans ?_ (h0 (ix2 r k))
    blk_ext [iblk6, idx6 t]
  have b1 : ∀ (r : Fin 2048) (k : Fin 512), iblk6 V c 1 t (ix2 r k) = ((b r (t.val * 512 + k.val) : ℝ) : EReal) := fun r k => by
    refine Eq.trans ?_ (h1 (ix2 r ⟨t.val * 512 + k.val, by omega⟩))
    blk_ext [iblk6, idx6 t]
  have out : ∀ y : S1024x512.Idx, (dat6 V c).after 2 t y = ((tmm 2048 a b (y 0).val (t.val * 512 + (y 1).val) : ℝ) : EReal) := fun y => by
    rw [after6_2]
    unfold out6_2
    rw [View.canon_cons_unit_lit inb_S1024x512_S1024x512_0_0 _ _ (by decide), View.ld_unit_lit inb_S2048x1024_S2048x1024_0_0 _ (by decide), View.ld_unit_lit inb_S2048x512_S2048x512_0_0 _ (by decide)]
    idx_vars y
    rw [pay6 (a := fun r k => a r k) (b := fun r k => b r (t.val * 512 + k)) b0 b1]
    rfl
  refine (out y).trans ?_
  idx_vars y
  blk_simp [idx6 t]

theorem idx7 : ∀ t : Fin cfg7.N, win7_0.index t = ![0, 0] ∧ win7_1.index t = ![0, t.val] ∧ win7_2.index t = ![0, t.val] := by decide +kernel

/-- The gradient of the lower half. -/
theorem mix_dwo_b {a : ℕ → ℕ → ℝ} {b : ℕ → ℕ → ℝ}
    (h0 : ∀ i : S2048x1024.Idx, V c main_arg4 i = ((a (i 0).val (i 1).val : ℝ) : EReal))
    (h1 : ∀ i : S2048x1024.Idx, V c main_v5 i = ((b (i 0).val (i 1).val : ℝ) : EReal)) :
    (dat7 V c).arrAt 2 cfg7.N = fun i : S1024x1024.Idx => ((tmm 2048 a b (i 0).val (i 1).val : ℝ) : EReal) := by
  refine (dat7 V c).arrAt_eq_of_covers 2 _ (by decide +kernel) fun t hf y => ?_
  have ht : t.val < 2 := lt_of_lt_of_eq t.isLt N_7
  have b0 : ∀ (r : Fin 2048) (k : Fin 1024), iblk7 V c 0 t (ix2 r k) = ((a r k : ℝ) : EReal) := fun r k => by
    refine Eq.trans ?_ (h0 (ix2 r k))
    blk_ext [iblk7, idx7 t]
  have b1 : ∀ (r : Fin 2048) (k : Fin 512), iblk7 V c 1 t (ix2 r k) = ((b r (t.val * 512 + k.val) : ℝ) : EReal) := fun r k => by
    refine Eq.trans ?_ (h1 (ix2 r ⟨t.val * 512 + k.val, by omega⟩))
    blk_ext [iblk7, idx7 t]
  have out : ∀ y : S1024x512.Idx, (dat7 V c).after 2 t y = ((tmm 2048 a b (y 0).val (t.val * 512 + (y 1).val) : ℝ) : EReal) := fun y => by
    rw [after7_2]
    unfold out7_2
    rw [View.canon_cons_unit_lit inb_S1024x512_S1024x512_0_0 _ _ (by decide), View.ld_unit_lit inb_S2048x1024_S2048x1024_0_0 _ (by decide), View.ld_unit_lit inb_S2048x512_S2048x512_0_0 _ (by decide)]
    idx_vars y
    refine (pay6 (a := fun r k => a r k) (b := fun r k => b r (t.val * 512 + k)) b0 b1 _ _).trans ?_
    rfl
  refine (out y).trans ?_
  idx_vars y
  blk_simp [idx7 t]

theorem pay8 {x : Vec Ideal S1024x4096 .bf16} {w : Vec Ideal S512x4096 .bf16} {a b : ℕ → ℕ → ℝ}
    (h0 : ∀ (r : Fin 1024) (k : Fin 4096), x (ix2 r k) = ((a r k : ℝ) : EReal)) (h1 : ∀ (r : Fin 512) (k : Fin 4096), w (ix2 r k) = ((b r k : ℝ) : EReal))
    (r : Fin 1024) (j : Fin 512) : k8_pay1 x w (ix2 r j) = ((mmT 4096 a b r j : ℝ) : EReal) := by
  pointwise [k8_pay1]
  simp only [h0, h1, ← EReal.coe_mul, coe_sum]
  rfl

theorem idx8 : ∀ t : Fin cfg8.N, win8_0.index t = ![t.val / 2, 0] ∧ win8_1.index t = ![t.val % 2, 0] ∧ win8_2.index t = ![t.val / 2, t.val % 2] := by decide +kernel

/-- The gradient of the normalized sequence. -/
theorem mix_dh {a : ℕ → ℕ → ℝ} {b : ℕ → ℕ → ℝ}
    (h0 : ∀ i : S2048x4096.Idx, V c main_arg6 i = ((a (i 0).val (i 1).val : ℝ) : EReal))
    (h1 : ∀ i : S1024x4096.Idx, V c main_arg2 i = ((b (i 0).val (i 1).val : ℝ) : EReal)) :
    (dat8 V c).arrAt 2 cfg8.N = fun i : S2048x1024.Idx => ((mmT 4096 a b (i 0).val (i 1).val : ℝ) : EReal) := by
  refine (dat8 V c).arrAt_eq_of_covers 2 _ (by decide +kernel) fun t hf y => ?_
  have ht : t.val < 4 := lt_of_lt_of_eq t.isLt N_8
  have b0 : ∀ (r : Fin 1024) (k : Fin 4096), iblk8 V c 0 t (ix2 r k) = ((a (t.val / 2 * 1024 + r.val) k : ℝ) : EReal) := fun r k => by
    refine Eq.trans ?_ (h0 (ix2 ⟨t.val / 2 * 1024 + r.val, by omega⟩ k))
    blk_ext [iblk8, idx8 t]
  have b1 : ∀ (r : Fin 512) (k : Fin 4096), iblk8 V c 1 t (ix2 r k) = ((b (t.val % 2 * 512 + r.val) k : ℝ) : EReal) := fun r k => by
    refine Eq.trans ?_ (h1 (ix2 ⟨t.val % 2 * 512 + r.val, by omega⟩ k))
    blk_ext [iblk8, idx8 t]
  have out : ∀ y : S1024x512.Idx, (dat8 V c).after 2 t y = ((mmT 4096 a b (t.val / 2 * 1024 + (y 0).val) (t.val % 2 * 512 + (y 1).val) : ℝ) : EReal) := fun y => by
    rw [after8_2]
    unfold out8_2
    rw [View.canon_cons_unit_lit inb_S1024x512_S1024x512_0_0 _ _ (by decide), View.ld_unit_lit inb_S1024x4096_S1024x4096_0_0 _ (by decide), View.ld_unit_lit inb_S512x4096_S512x4096_0_0 _ (by decide)]
    idx_vars y
    rw [pay8 (a := fun r k => a (t.val / 2 * 1024 + r) k) (b := fun r k => b (t.val % 2 * 512 + r) k) b0 b1]
    rfl
  refine (out y).trans ?_
  idx_vars y
  blk_simp [idx8 t]

theorem pay9 {x : Vec Ideal S2048x1024 .bf16} {w : Vec Ideal S2048x512 .bf16} {a b : ℕ → ℕ → ℝ}
    (h0 : ∀ (r : Fin 2048) (k : Fin 1024), x (ix2 r k) = ((a r k : ℝ) : EReal)) (h1 : ∀ (r : Fin 2048) (k : Fin 512), w (ix2 r k) = ((b r k : ℝ) : EReal))
    (r : Fin 1024) (j : Fin 512) : k9_pay1 x w (ix2 r j) = ((tmm 2048 a b r j : ℝ) : EReal) := by
  pointwise [k9_pay1]
  simp only [h0, h1, ← EReal.coe_mul, coe_sum]
  rfl

theorem idx9 : ∀ t : Fin cfg9.N, win9_0.index t = ![0, 0] ∧ win9_1.index t = ![0, t.val] ∧ win9_2.index t = ![0, t.val] := by decide +kernel

/-- The gradient of the weights in. -/
theorem mix_dw {a : ℕ → ℕ → ℝ} {b : ℕ → ℕ → ℝ}
    (h0 : ∀ i : S2048x1024.Idx, V c main_v1 i = ((a (i 0).val (i 1).val : ℝ) : EReal))
    (h1 : ∀ i : S2048x4096.Idx, V c main_arg6 i = ((b (i 0).val (i 1).val : ℝ) : EReal)) :
    (dat9 V c).arrAt 2 cfg9.N = fun i : S1024x4096.Idx => ((tmm 2048 a b (i 0).val (i 1).val : ℝ) : EReal) := by
  refine (dat9 V c).arrAt_eq_of_covers 2 _ (by decide +kernel) fun t hf y => ?_
  have ht : t.val < 8 := lt_of_lt_of_eq t.isLt N_9
  have b0 : ∀ (r : Fin 2048) (k : Fin 1024), iblk9 V c 0 t (ix2 r k) = ((a r k : ℝ) : EReal) := fun r k => by
    refine Eq.trans ?_ (h0 (ix2 r k))
    blk_ext [iblk9, idx9 t]
  have b1 : ∀ (r : Fin 2048) (k : Fin 512), iblk9 V c 1 t (ix2 r k) = ((b r (t.val * 512 + k.val) : ℝ) : EReal) := fun r k => by
    refine Eq.trans ?_ (h1 (ix2 r ⟨t.val * 512 + k.val, by omega⟩))
    blk_ext [iblk9, idx9 t]
  have out : ∀ y : S1024x512.Idx, (dat9 V c).after 2 t y = ((tmm 2048 a b (y 0).val (t.val * 512 + (y 1).val) : ℝ) : EReal) := fun y => by
    rw [after9_2]
    unfold out9_2
    rw [View.canon_cons_unit_lit inb_S1024x512_S1024x512_0_0 _ _ (by decide), View.ld_unit_lit inb_S2048x1024_S2048x1024_0_0 _ (by decide), View.ld_unit_lit inb_S2048x512_S2048x512_0_0 _ (by decide)]
    idx_vars y
    rw [pay9 (a := fun r k => a r k) (b := fun r k => b r (t.val * 512 + k)) b0 b1]
    rfl
  refine (out y).trans ?_
  idx_vars y
  blk_simp [idx9 t]

end Cert.Kernel4Ideal.Mix
end
-- ==== Proof.MixBackNorm.lean ====
module

public import proofs.«01_k».proof.Proof.Gen.Kernel4Ideal.Frame.Region10
public import proofs.«01_k».proof.Proof.ProjSub
public import proofs.«01_k».proof.Proof.FfnBackNorm
public import Idealize.ShloMosaic.Lib.Pipeline.ReadBack
public import Idealize.ShloMosaic.Lib.Pipeline.ValueKit

@[expose] public section

set_option maxRecDepth 16384

noncomputable section

/-! The gradient through the normalization before the mixer, as real numbers. Its blocks are the feed-forward sublayer's. -/

namespace Cert.Kernel4Ideal.Mix

open Cert.Kernel4Ideal Cert.Kernel4Ideal.Gen Idealize.ShloMosaic Idealize.ShloMosaic.TcCoe Idealize.SL.Sem
open Cert.AttnReal Cert.FfnReal Cert.ProjReal
open Cert.Kernel2Ideal.Ffn (pay14_dx pay14_dg)

variable (V : (c : Dev nD) → (b : Ref sig .tc) → Buf (Elt Ideal) ((c : Thread nD τ).loc b)) (c : Dev nD)

theorem idx10 : ∀ t : Fin cfg10.N, win10_0.index t = ![t.val, 0] ∧ win10_1.index t = ![0, 0] ∧ win10_2.index t = ![t.val, 0] ∧ win10_3.index t = ![t.val, 0]
    ∧ win10_4.index t = ![t.val, 0] ∧ win10_5.index t = ![t.val, 0] ∧ win10_6.index t = ![0, 0] := by decide +kernel

section Point
variable {V c} (t : Fin cfg10.N) {a b u : ℕ → ℕ → ℝ} {g : ℕ → ℝ}
  (h0 : ∀ (r : Fin 512) (k : Fin 1024), iblk10 V c 0 t (ix2 r k) = ((a r k : ℝ) : EReal)) (h1 : ∀ k : Fin 1024, iblk10 V c 1 t (ix2 0 k) = ((g k : ℝ) : EReal))
  (h2 : ∀ (r : Fin 512) (k : Fin 1024), iblk10 V c 2 t (ix2 r k) = ((b r k : ℝ) : EReal)) (h3 : ∀ (r : Fin 512) (k : Fin 1024), iblk10 V c 3 t (ix2 r k) = ((u r k : ℝ) : EReal))

include h0 h1 h2 h3

theorem dx_block (y : S512x1024.Idx) : (outsAt10 V c t.val t.isLt).1 y = ((dnorm a g b u (y 0).val (y 1).val : ℝ) : EReal) := by
  by_cases ht : t.val % 4 = 0
  · rw [outsAt10_A V c t ht]
    frame_out
    idx_vars y
    exact pay14_dx h0 h2 h1 h3 y0 y1
  · rw [outsAt10_B V c t ht]
    frame_out
    idx_vars y
    exact pay14_dx h0 h2 h1 h3 y0 y1

theorem dxb_block (y : S512x1024.Idx) : (outsAt10 V c t.val t.isLt).2.1 y = ((dnorm a g b u (y 0).val (y 1).val : ℝ) : EReal) := by
  by_cases ht : t.val % 4 = 0
  · rw [outsAt10_A V c t ht]
    frame_out
    idx_vars y
    exact pay14_dx h0 h2 h1 h3 y0 y1
  · rw [outsAt10_B V c t ht]
    frame_out
    idx_vars y
    exact pay14_dx h0 h2 h1 h3 y0 y1

omit h1 h3 in
theorem dg_step (ht : ¬t.val % 4 = 0) (y : S1x1024.Idx) :
    (outsAt10 V c t.val t.isLt).2.2 y
      = (outsAt10 V c (t.val - 1) (Nat.lt_of_le_of_lt (Nat.sub_le _ _) t.isLt)).2.2 y + ((dscale 512 a b (y 1).val : ℝ) : EReal) := by
  rw [outsAt10_B V c t ht]
  frame_out
  idx_vars y
  obtain rfl : y0 = 0 := Subsingleton.elim _ _
  exact pay14_dg h0 h2 y1

omit h1 h3 in
theorem dg_first (ht : t.val % 4 = 0) (y : S1x1024.Idx) :
    (outsAt10 V c t.val t.isLt).2.2 y = 0 + ((dscale 512 a b (y 1).val : ℝ) : EReal) := by
  have hz : (k10_pay6 (F := Ideal)) y = (0 : EReal) := by
    idx_vars y
    pointwise [k10_pay6]
  rw [outsAt10_A V c t ht]
  frame_out
  idx_vars y
  obtain rfl : y0 = 0 := Subsingleton.elim _ _
  exact Eq.trans (pay14_dg h0 h2 y1) (congrArg (· + _) hz)

end Point

section Arrays
variable {V c} {a b u : ℕ → ℕ → ℝ} {g : ℕ → ℝ}
  (h0 : ∀ i : S2048x1024.Idx, V c main_arg0 i = ((a (i 0).val (i 1).val : ℝ) : EReal)) (h1 : ∀ i : S1x1024.Idx, V c main_v13 i = ((g (i 1).val : ℝ) : EReal))
  (h2 : ∀ i : S2048x1024.Idx, V c main_v11 i = ((b (i 0).val (i 1).val : ℝ) : EReal)) (h3 : ∀ i : S2048x1024.Idx, V c main_arg7 i = ((u (i 0).val (i 1).val : ℝ) : EReal))

include h0 in
theorem row10_0 (t : Fin cfg10.N) (r : Fin 512) (k : Fin 1024) : iblk10 V c 0 t (ix2 r k) = ((a (t.val * 512 + r.val) k : ℝ) : EReal) := by
  have ht : t.val < 4 := lt_of_lt_of_eq t.isLt N_10
  refine Eq.trans ?_ (h0 (ix2 ⟨t.val * 512 + r.val, by omega⟩ k))
  blk_ext [iblk10, idx10 t]

include h1 in
theorem row10_1 (t : Fin cfg10.N) (k : Fin 1024) : iblk10 V c 1 t (ix2 0 k) = ((g k : ℝ) : EReal) := by
  refine Eq.trans ?_ (h1 (ix2 0 k))
  blk_ext [iblk10, idx10 t]

include h2 in
theorem row10_2 (t : Fin cfg10.N) (r : Fin 512) (k : Fin 1024) : iblk10 V c 2 t (ix2 r k) = ((b (t.val * 512 + r.val) k : ℝ) : EReal) := by
  have ht : t.val < 4 := lt_of_lt_of_eq t.isLt N_10
  refine Eq.trans ?_ (h2 (ix2 ⟨t.val * 512 + r.val, by omega⟩ k))
  blk_ext [iblk10, idx10 t]

include h3 in
theorem row10_3 (t : Fin cfg10.N) (r : Fin 512) (k : Fin 1024) : iblk10 V c 3 t (ix2 r k) = ((u (t.val * 512 + r.val) k : ℝ) : EReal) := by
  have ht : t.val < 4 := lt_of_lt_of_eq t.isLt N_10
  refine Eq.trans ?_ (h3 (ix2 ⟨t.val * 512 + r.val, by omega⟩ k))
  blk_ext [iblk10, idx10 t]

include h0 h1 h2 h3

/-- The sequence's gradient. -/
theorem mix_dx : (dat10 V c).arrAt 4 cfg10.N = fun i : S2048x1024.Idx => ((dnorm a g b u (i 0).val (i 1).val : ℝ) : EReal) := by
  refine (dat10 V c).arrAt_eq_of_covers 4 _ (by decide +kernel) fun t hf y => ?_
  rw [after10_4]
  refine (dx_block t (a := fun r k => a (t.val * 512 + r) k) (b := fun r k => b (t.val * 512 + r) k) (u := fun r k => u (t.val * 512 + r) k)
    (row10_0 h0 t) (row10_1 h1 t) (row10_2 h2 t) (row10_3 h3 t) y).trans ?_
  idx_vars y
  blk_simp [idx10 t]
  rfl

/-- Its copy in the narrower format. -/
theorem mix_dxb : (dat10 V c).arrAt 5 cfg10.N = fun i : S2048x1024.Idx => ((dnorm a g b u (i 0).val (i 1).val : ℝ) : EReal) := by
  refine (dat10 V c).arrAt_eq_of_covers 5 _ (by decide +kernel) fun t hf y => ?_
  rw [after10_5]
  refine (dxb_block t (a := fun r k => a (t.val * 512 + r) k) (b := fun r k => b (t.val * 512 + r) k) (u := fun r k => u (t.val * 512 + r) k)
    (row10_0 h0 t) (row10_1 h1 t) (row10_2 h2 t) (row10_3 h3 t) y).trans ?_
  idx_vars y
  blk_simp [idx10 t]
  rfl

omit h1 h3 in
/-- Its scale's gradient. -/
theorem mix_dg : (dat10 V c).arrAt 6 cfg10.N = fun i : S1x1024.Idx => ((dscale 2048 a b (i 1).val : ℝ) : EReal) := by
  refine (dat10 V c).arrAt_eq_of_after_last 6 t10_3 (by decide +kernel) _ fun j => ?_
  blk_simp
  rw [after10_6, Pipeline.eq_sum_fin_of_reset_step_apply_last (fun n h => (outsAt10 V c n h).2.2) 4 (fun _ => 0)
    (fun t j => ((dscale 512 (fun r k => a (t.val * 512 + r) k) (fun r k => b (t.val * 512 + r) k) (j 1).val : ℝ) : EReal))
    (fun t h j => dg_first t (a := fun r k => a (t.val * 512 + r) k) (b := fun r k => b (t.val * 512 + r) k) (row10_0 h0 t) (row10_2 h2 t) h j)
    (fun t h j => dg_step t (a := fun r k => a (t.val * 512 + r) k) (b := fun r k => b (t.val * 512 + r) k) (row10_0 h0 t) (row10_2 h2 t) h j)
    (le_of_eq N_10) t10_3 rfl j]
  rw [zero_add, coe_sum]
  refine congrArg _ (Eq.trans ?_ (Fin.sum_mul_add_fin 4 512 (fun s : Fin 2048 => b s (j 1).val * a s (j 1).val * inv a s) rfl))
  rfl

end Arrays

end Cert.Kernel4Ideal.Mix
end
-- ==== Proof.MixProgram.lean ====
module

public import proofs.«01_k».proof.Proof.Gen.Kernel4Ideal.Frame.Fold0
public import proofs.«01_k».proof.Proof.ProjSub
public import proofs.«01_k».proof.Proof.MemProgram
public import proofs.«01_k».proof.Proof.MixNorm
public import proofs.«01_k».proof.Proof.MixProducts
public import proofs.«01_k».proof.Proof.MixProductsBack
public import proofs.«01_k».proof.Proof.MixBackNorm

@[expose] public section

set_option maxRecDepth 16384

noncomputable section

/-! What every buffer of the program of the projections holds at the boundary where it is read, over the real numbers: each region's
    result from what it reads, carried over the regions and host stretches that leave it alone. -/

namespace Cert.Kernel4Ideal.Mix

open Cert.Kernel4Ideal Cert.Kernel4Ideal.Gen Idealize.ShloMosaic Idealize.ShloMosaic.TcCoe Idealize.SL.Sem Cert.AttnReal Cert.FfnReal Cert.ProjReal

variable (m : (ℓ : Loc nD τ sig) → Buf (Elt Ideal) ℓ) (ρ : Dev nD → PrngReg) (c : Dev nD)

/-- The arguments hold the real arrays of `p`. -/
structure Holds (p : Proj) : Prop where
  x : ∀ i : S2048x1024.Idx, m ((c : Thread nD τ).loc main_arg0) i = ((p.x (i 0).val (i 1).val : ℝ) : EReal)
  g : ∀ i : S1024.Idx, m ((c : Thread nD τ).loc main_arg1) i = ((p.g (i 0).val : ℝ) : EReal)
  w : ∀ i : S1024x4096.Idx, m ((c : Thread nD τ).loc main_arg2) i = ((p.w (i 0).val (i 1).val : ℝ) : EReal)
  ya : ∀ i : S2048x1024.Idx, m ((c : Thread nD τ).loc main_arg3) i = ((p.ya (i 0).val (i 1).val : ℝ) : EReal)
  yb : ∀ i : S2048x1024.Idx, m ((c : Thread nD τ).loc main_arg4) i = ((p.yb (i 0).val (i 1).val : ℝ) : EReal)
  wo : ∀ i : S2048x1024.Idx, m ((c : Thread nD τ).loc main_arg5) i = ((p.wo (i 0).val (i 1).val : ℝ) : EReal)
  dp : ∀ i : S2048x4096.Idx, m ((c : Thread nD τ).loc main_arg6) i = ((p.dp (i 0).val (i 1).val : ℝ) : EReal)
  d : ∀ i : S2048x1024.Idx, m ((c : Thread nD τ).loc main_arg7) i = ((p.d (i 0).val (i 1).val : ℝ) : EReal)

variable {m c} {p : Proj}

theorem v0_1 (H : Holds m c p) (i : S1x1024.Idx) : W1 m ρ c (Proc.devRef .tc main_v0) i = ((p.g (i 1).val : ℝ) : EReal) := by
  have h : W1 m ρ c (Proc.devRef .tc main_v0) = shapeCast S1x1024 (W0 m ρ c (Proc.devRef .tc main_arg1)) shapeCasts_S1024_S1x1024 := by
    show StableHlo.after hostOps0 (W0 m ρ c) (Proc.devRef .tc main_v0) = _
    after_results
    all_goals rfl
  rw [h]
  idx_vars i
  pointwise
  exact (congrFun (W0_args m ρ c main_arg1 (by decide)) _).trans (H.g _)

theorem v1_2 (H : Holds m c p) (i : S2048x1024.Idx) : W2 m ρ c (Proc.devRef .tc main_v1) i = ((p.h (i 0).val (i 1).val : ℝ) : EReal) :=
  congrFun ((W2_arr m ρ c 2).trans (mix_norm (V1 m ρ) c (fun i => (congrFun (W1_args m ρ c main_arg0 (by decide)) i).trans (H.x i)) (v0_1 ρ H))) i

theorem v2_3 (H : Holds m c p) (i : S2048x4096.Idx) : W3 m ρ c (Proc.devRef .tc main_v2) i = ((p.proj (i 0).val (i 1).val : ℝ) : EReal) :=
  congrFun ((W3_arr m ρ c 2).trans (mix_proj (V2 m ρ) c (v1_2 ρ H) (fun i => (congrFun (W2_args m ρ c main_arg2 (by decide)) i).trans (H.w i)))) i

theorem v3_4 (H : Holds m c p) (i : S2048x1024.Idx) : W4 m ρ c (Proc.devRef .tc main_v3) i = ((p.part (i 0).val (i 1).val : ℝ) : EReal) :=
  congrFun ((W4_arr m ρ c 3).trans (mix_out_a (V3 m ρ) c (fun i => (congrFun (W3_args m ρ c main_arg3 (by decide)) i).trans (H.ya i)) (fun i => (congrFun (W3_args m ρ c main_arg5 (by decide)) i).trans (H.wo i)) (fun i => (congrFun (W3_args m ρ c main_arg0 (by decide)) i).trans (H.x i)))) i

theorem v4_5 (H : Holds m c p) (i : S2048x1024.Idx) : W5 m ρ c (Proc.devRef .tc main_v4) i = ((p.out (i 0).val (i 1).val : ℝ) : EReal) :=
  congrFun ((W5_arr m ρ c 3).trans (mix_out_b (V4 m ρ) c (fun i => (congrFun (W4_args m ρ c main_arg4 (by decide)) i).trans (H.yb i)) (fun i => (congrFun (W4_args m ρ c main_arg5 (by decide)) i).trans (H.wo i)) (v3_4 ρ H))) i

theorem v5_6 (H : Holds m c p) (i : S2048x1024.Idx) : W6 m ρ c (Proc.devRef .tc main_v5) i = ((p.d (i 0).val (i 1).val : ℝ) : EReal) := by
  have h : W6 m ρ c (Proc.devRef .tc main_v5) = (truncf (F := Ideal) .bf16 (W5 m ρ c (Proc.devRef .tc main_arg7) : Vec Ideal S2048x1024 .f32) bitsLt_bf16_f32 : Vec Ideal S2048x1024 .bf16) := by
    show StableHlo.after hostOps4 (W5 m ρ c) (Proc.devRef .tc main_v5) = _
    after_results
    all_goals rfl
  rw [h]
  idx_vars i
  pointwise
  exact (congrFun (W5_args m ρ c main_arg7 (by decide)) _).trans (H.d _)

theorem v6_7 (H : Holds m c p) (i : S2048x1024.Idx) : W7 m ρ c (Proc.devRef .tc main_v6) i = ((p.dya (i 0).val (i 1).val : ℝ) : EReal) :=
  congrFun ((W7_arr m ρ c 2).trans (mix_dya (V6 m ρ) c (v5_6 ρ H) (fun i => (congrFun (W6_args m ρ c main_arg5 (by decide)) i).trans (H.wo i)))) i

theorem v5_6_7 : W7 m ρ c (Proc.devRef .tc main_v5) = W6 m ρ c (Proc.devRef .tc main_v5) :=
  (W7_of m ρ c main_v5 (by decide +kernel))

theorem v5_7 (H : Holds m c p) (i : S2048x1024.Idx) : W7 m ρ c (Proc.devRef .tc main_v5) i = ((p.d (i 0).val (i 1).val : ℝ) : EReal) :=
  (congrFun (v5_6_7 ρ) i).trans (v5_6 ρ H i)

theorem v7_8 (H : Holds m c p) (i : S2048x1024.Idx) : W8 m ρ c (Proc.devRef .tc main_v7) i = ((p.dyb (i 0).val (i 1).val : ℝ) : EReal) :=
  congrFun ((W8_arr m ρ c 2).trans (mix_dyb (V7 m ρ) c (v5_7 ρ H) (fun i => (congrFun (W7_args m ρ c main_arg5 (by decide)) i).trans (H.wo i)))) i

theorem v5_7_8 : W8 m ρ c (Proc.devRef .tc main_v5) = W7 m ρ c (Proc.devRef .tc main_v5) :=
  (W8_of m ρ c main_v5 (by decide +kernel))

theorem v5_8 (H : Holds m c p) (i : S2048x1024.Idx) : W8 m ρ c (Proc.devRef .tc main_v5) i = ((p.d (i 0).val (i 1).val : ℝ) : EReal) :=
  (congrFun (v5_7_8 ρ) i).trans (v5_7 ρ H i)

theorem v8_9 (H : Holds m c p) (i : S1024x1024.Idx) : W9 m ρ c (Proc.devRef .tc main_v8) i = ((tmm 2048 p.ya p.d (i 0).val (i 1).val : ℝ) : EReal) :=
  congrFun ((W9_arr m ρ c 2).trans (mix_dwo_a (V8 m ρ) c (fun i => (congrFun (W8_args m ρ c main_arg3 (by decide)) i).trans (H.ya i)) (v5_8 ρ H))) i

theorem v5_8_9 : W9 m ρ c (Proc.devRef .tc main_v5) = W8 m ρ c (Proc.devRef .tc main_v5) :=
  (W9_of m ρ c main_v5 (by decide +kernel))

theorem v5_9 (H : Holds m c p) (i : S2048x1024.Idx) : W9 m ρ c (Proc.devRef .tc main_v5) i = ((p.d (i 0).val (i 1).val : ℝ) : EReal) :=
  (congrFun (v5_8_9 ρ) i).trans (v5_8 ρ H i)

theorem v9_10 (H : Holds m c p) (i : S1024x1024.Idx) : W10 m ρ c (Proc.devRef .tc main_v9) i = ((tmm 2048 p.yb p.d (i 0).val (i 1).val : ℝ) : EReal) :=
  congrFun ((W10_arr m ρ c 2).trans (mix_dwo_b (V9 m ρ) c (fun i => (congrFun (W9_args m ρ c main_arg4 (by decide)) i).trans (H.yb i)) (v5_9 ρ H))) i

theorem v8_9_10 : W10 m ρ c (Proc.devRef .tc main_v8) = W9 m ρ c (Proc.devRef .tc main_v8) :=
  (W10_of m ρ c main_v8 (by decide +kernel))

theorem v8_10 (H : Holds m c p) (i : S1024x1024.Idx) : W10 m ρ c (Proc.devRef .tc main_v8) i = ((tmm 2048 p.ya p.d (i 0).val (i 1).val : ℝ) : EReal) :=
  (congrFun (v8_9_10 ρ) i).trans (v8_9 ρ H i)

/-- The two halves of the weights out's gradient, one above the other. -/
theorem above (a b : Vec Ideal S1024x1024 .bf16) (ha : ∀ i : S1024x1024.Idx, a i = ((tmm 2048 p.ya p.d (i 0).val (i 1).val : ℝ) : EReal))
    (hb : ∀ i : S1024x1024.Idx, b i = ((tmm 2048 p.yb p.d (i 0).val (i 1).val : ℝ) : EReal)) (i : S2048x1024.Idx) :
    concatenate S2048x1024 0 [⟨S1024x1024, a⟩, ⟨S1024x1024, b⟩] concatenates_S1024x1024_S1024x1024_S2048x1024_d0 i
      = ((p.dwo (i 0).val (i 1).val : ℝ) : EReal) := by
  idx_vars i
  pointwise
  unfold Proj.dwo
  split
  · exact ha _
  · exact hb _

theorem v10_11 (H : Holds m c p) (i : S2048x1024.Idx) : W11 m ρ c (Proc.devRef .tc main_v10) i = ((p.dwo (i 0).val (i 1).val : ℝ) : EReal) := by
  have h : W11 m ρ c (Proc.devRef .tc main_v10) = concatenate S2048x1024 0 [⟨S1024x1024, (W10 m ρ c (Proc.devRef .tc main_v8))⟩, ⟨S1024x1024, (W10 m ρ c (Proc.devRef .tc main_v9))⟩] concatenates_S1024x1024_S1024x1024_S2048x1024_d0 := by
    show StableHlo.after hostOps8 (W10 m ρ c) (Proc.devRef .tc main_v10) = _
    after_results
    all_goals rfl
  rw [h]
  exact above _ _ (v8_10 ρ H) (v9_10 ρ H) i

theorem v11_12 (H : Holds m c p) (i : S2048x1024.Idx) : W12 m ρ c (Proc.devRef .tc main_v11) i = ((p.dh (i 0).val (i 1).val : ℝ) : EReal) :=
  congrFun ((W12_arr m ρ c 2).trans (mix_dh (V11 m ρ) c (fun i => (congrFun (W11_args m ρ c main_arg6 (by decide)) i).trans (H.dp i)) (fun i => (congrFun (W11_args m ρ c main_arg2 (by decide)) i).trans (H.w i)))) i

theorem v1_2_12 : W12 m ρ c (Proc.devRef .tc main_v1) = W2 m ρ c (Proc.devRef .tc main_v1) :=
  (W12_of m ρ c main_v1 (by decide +kernel)).trans
    ((W11_of m ρ c main_v1 (by decide +kernel)).trans
    ((W10_of m ρ c main_v1 (by decide +kernel)).trans
    ((W9_of m ρ c main_v1 (by decide +kernel)).trans
    ((W8_of m ρ c main_v1 (by decide +kernel)).trans
    ((W7_of m ρ c main_v1 (by decide +kernel)).trans
    ((W6_of m ρ c main_v1 (by decide +kernel)).trans
    ((W5_of m ρ c main_v1 (by decide +kernel)).trans
    ((W4_of m ρ c main_v1 (by decide +kernel)).trans
    ((W3_of m ρ c main_v1 (by decide +kernel)))))))))))

theorem v1_12 (H : Holds m c p) (i : S2048x1024.Idx) : W12 m ρ c (Proc.devRef .tc main_v1) i = ((p.h (i 0).val (i 1).val : ℝ) : EReal) :=
  (congrFun (v1_2_12 ρ) i).trans (v1_2 ρ H i)

theorem v12_13 (H : Holds m c p) (i : S1024x4096.Idx) : W13 m ρ c (Proc.devRef .tc main_v12) i = ((p.dw (i 0).val (i 1).val : ℝ) : EReal) :=
  congrFun ((W13_arr m ρ c 2).trans (mix_dw (V12 m ρ) c (v1_12 ρ H) (fun i => (congrFun (W12_args m ρ c main_arg6 (by decide)) i).trans (H.dp i)))) i

theorem v13_14 (H : Holds m c p) (i : S1x1024.Idx) : W14 m ρ c (Proc.devRef .tc main_v13) i = ((p.g (i 1).val : ℝ) : EReal) := by
  have h : W14 m ρ c (Proc.devRef .tc main_v13) = shapeCast S1x1024 (W13 m ρ c (Proc.devRef .tc main_arg1)) shapeCasts_S1024_S1x1024 := by
    show StableHlo.after hostOps10 (W13 m ρ c) (Proc.devRef .tc main_v13) = _
    after_results
    all_goals rfl
  rw [h]
  idx_vars i
  pointwise
  exact (congrFun (W13_args m ρ c main_arg1 (by decide)) _).trans (H.g _)

theorem v11_12_14 : W14 m ρ c (Proc.devRef .tc main_v11) = W12 m ρ c (Proc.devRef .tc main_v11) :=
  (W14_of m ρ c main_v11 (by decide +kernel)).trans
    ((W13_of m ρ c main_v11 (by decide +kernel)))

theorem v11_14 (H : Holds m c p) (i : S2048x1024.Idx) : W14 m ρ c (Proc.devRef .tc main_v11) i = ((p.dh (i 0).val (i 1).val : ℝ) : EReal) :=
  (congrFun (v11_12_14 ρ) i).trans (v11_12 ρ H i)

theorem v14_0_15 (H : Holds m c p) (i : S2048x1024.Idx) : W15 m ρ c (Proc.devRef .tc main_v14_0) i = ((p.dx (i 0).val (i 1).val : ℝ) : EReal) :=
  congrFun ((W15_arr m ρ c 4).trans (mix_dx (V := V14 m ρ) (c := c) (fun i => (congrFun (W14_args m ρ c main_arg0 (by decide)) i).trans (H.x i)) (v13_14 ρ H) (v11_14 ρ H) (fun i => (congrFun (W14_args m ρ c main_arg7 (by decide)) i).trans (H.d i)))) i

theorem v14_1_15 (H : Holds m c p) (i : S2048x1024.Idx) : W15 m ρ c (Proc.devRef .tc main_v14_1) i = ((p.dx (i 0).val (i 1).val : ℝ) : EReal) :=
  congrFun ((W15_arr m ρ c 5).trans (mix_dxb (V := V14 m ρ) (c := c) (fun i => (congrFun (W14_args m ρ c main_arg0 (by decide)) i).trans (H.x i)) (v13_14 ρ H) (v11_14 ρ H) (fun i => (congrFun (W14_args m ρ c main_arg7 (by decide)) i).trans (H.d i)))) i

theorem v14_2_15 (H : Holds m c p) (i : S1x1024.Idx) : W15 m ρ c (Proc.devRef .tc main_v14_2) i = ((p.dg (i 1).val : ℝ) : EReal) :=
  congrFun ((W15_arr m ρ c 6).trans (mix_dg (V := V14 m ρ) (c := c) (fun i => (congrFun (W14_args m ρ c main_arg0 (by decide)) i).trans (H.x i)) (v11_14 ρ H))) i

theorem v15_16 (H : Holds m c p) (i : S1024.Idx) : W16 m ρ c (Proc.devRef .tc main_v15) i = ((p.dg (i 0).val : ℝ) : EReal) := by
  have h : W16 m ρ c (Proc.devRef .tc main_v15) = shapeCast S1024 (W15 m ρ c (Proc.devRef .tc main_v14_2)) shapeCasts_S1x1024_S1024 := by
    show StableHlo.after hostOps11 (W15 m ρ c) (Proc.devRef .tc main_v15) = _
    after_results
    all_goals rfl
  rw [h]
  exact (Kernel3Ideal.Mem.first_row _ i).trans (v14_2_15 ρ H _)

theorem v2_3_16 : W16 m ρ c (Proc.devRef .tc main_v2) = W3 m ρ c (Proc.devRef .tc main_v2) :=
  (W16_of m ρ c main_v2 (by decide +kernel)).trans
    ((W15_of m ρ c main_v2 (by decide +kernel)).trans
    ((W14_of m ρ c main_v2 (by decide +kernel)).trans
    ((W13_of m ρ c main_v2 (by decide +kernel)).trans
    ((W12_of m ρ c main_v2 (by decide +kernel)).trans
    ((W11_of m ρ c main_v2 (by decide +kernel)).trans
    ((W10_of m ρ c main_v2 (by decide +kernel)).trans
    ((W9_of m ρ c main_v2 (by decide +kernel)).trans
    ((W8_of m ρ c main_v2 (by decide +kernel)).trans
    ((W7_of m ρ c main_v2 (by decide +kernel)).trans
    ((W6_of m ρ c main_v2 (by decide +kernel)).trans
    ((W5_of m ρ c main_v2 (by decide +kernel)).trans
    ((W4_of m ρ c main_v2 (by decide +kernel))))))))))))))

theorem v2_16 (H : Holds m c p) (i : S2048x4096.Idx) : W16 m ρ c (Proc.devRef .tc main_v2) i = ((p.proj (i 0).val (i 1).val : ℝ) : EReal) :=
  (congrFun (v2_3_16 ρ) i).trans (v2_3 ρ H i)

theorem v4_5_16 : W16 m ρ c (Proc.devRef .tc main_v4) = W5 m ρ c (Proc.devRef .tc main_v4) :=
  (W16_of m ρ c main_v4 (by decide +kernel)).trans
    ((W15_of m ρ c main_v4 (by decide +kernel)).trans
    ((W14_of m ρ c main_v4 (by decide +kernel)).trans
    ((W13_of m ρ c main_v4 (by decide +kernel)).trans
    ((W12_of m ρ c main_v4 (by decide +kernel)).trans
    ((W11_of m ρ c main_v4 (by decide +kernel)).trans
    ((W10_of m ρ c main_v4 (by decide +kernel)).trans
    ((W9_of m ρ c main_v4 (by decide +kernel)).trans
    ((W8_of m ρ c main_v4 (by decide +kernel)).trans
    ((W7_of m ρ c main_v4 (by decide +kernel)).trans
    ((W6_of m ρ c main_v4 (by decide +kernel))))))))))))

theorem v4_16 (H : Holds m c p) (i : S2048x1024.Idx) : W16 m ρ c (Proc.devRef .tc main_v4) i = ((p.out (i 0).val (i 1).val : ℝ) : EReal) :=
  (congrFun (v4_5_16 ρ) i).trans (v4_5 ρ H i)

theorem v14_0_15_16 : W16 m ρ c (Proc.devRef .tc main_v14_0) = W15 m ρ c (Proc.devRef .tc main_v14_0) :=
  (W16_of m ρ c main_v14_0 (by decide +kernel))

theorem v14_0_16 (H : Holds m c p) (i : S2048x1024.Idx) : W16 m ρ c (Proc.devRef .tc main_v14_0) i = ((p.dx (i 0).val (i 1).val : ℝ) : EReal) :=
  (congrFun (v14_0_15_16 ρ) i).trans (v14_0_15 ρ H i)

theorem v14_1_15_16 : W16 m ρ c (Proc.devRef .tc main_v14_1) = W15 m ρ c (Proc.devRef .tc main_v14_1) :=
  (W16_of m ρ c main_v14_1 (by decide +kernel))

theorem v14_1_16 (H : Holds m c p) (i : S2048x1024.Idx) : W16 m ρ c (Proc.devRef .tc main_v14_1) i = ((p.dx (i 0).val (i 1).val : ℝ) : EReal) :=
  (congrFun (v14_1_15_16 ρ) i).trans (v14_1_15 ρ H i)

theorem v12_13_16 : W16 m ρ c (Proc.devRef .tc main_v12) = W13 m ρ c (Proc.devRef .tc main_v12) :=
  (W16_of m ρ c main_v12 (by decide +kernel)).trans
    ((W15_of m ρ c main_v12 (by decide +kernel)).trans
    ((W14_of m ρ c main_v12 (by decide +kernel))))

theorem v12_16 (H : Holds m c p) (i : S1024x4096.Idx) : W16 m ρ c (Proc.devRef .tc main_v12) i = ((p.dw (i 0).val (i 1).val : ℝ) : EReal) :=
  (congrFun (v12_13_16 ρ) i).trans (v12_13 ρ H i)

theorem v6_7_16 : W16 m ρ c (Proc.devRef .tc main_v6) = W7 m ρ c (Proc.devRef .tc main_v6) :=
  (W16_of m ρ c main_v6 (by decide +kernel)).trans
    ((W15_of m ρ c main_v6 (by decide +kernel)).trans
    ((W14_of m ρ c main_v6 (by decide +kernel)).trans
    ((W13_of m ρ c main_v6 (by decide +kernel)).trans
    ((W12_of m ρ c main_v6 (by decide +kernel)).trans
    ((W11_of m ρ c main_v6 (by decide +kernel)).trans
    ((W10_of m ρ c main_v6 (by decide +kernel)).trans
    ((W9_of m ρ c main_v6 (by decide +kernel)).trans
    ((W8_of m ρ c main_v6 (by decide +kernel))))))))))

theorem v6_16 (H : Holds m c p) (i : S2048x1024.Idx) : W16 m ρ c (Proc.devRef .tc main_v6) i = ((p.dya (i 0).val (i 1).val : ℝ) : EReal) :=
  (congrFun (v6_7_16 ρ) i).trans (v6_7 ρ H i)

theorem v7_8_16 : W16 m ρ c (Proc.devRef .tc main_v7) = W8 m ρ c (Proc.devRef .tc main_v7) :=
  (W16_of m ρ c main_v7 (by decide +kernel)).trans
    ((W15_of m ρ c main_v7 (by decide +kernel)).trans
    ((W14_of m ρ c main_v7 (by decide +kernel)).trans
    ((W13_of m ρ c main_v7 (by decide +kernel)).trans
    ((W12_of m ρ c main_v7 (by decide +kernel)).trans
    ((W11_of m ρ c main_v7 (by decide +kernel)).trans
    ((W10_of m ρ c main_v7 (by decide +kernel)).trans
    ((W9_of m ρ c main_v7 (by decide +kernel)))))))))

theorem v7_16 (H : Holds m c p) (i : S2048x1024.Idx) : W16 m ρ c (Proc.devRef .tc main_v7) i = ((p.dyb (i 0).val (i 1).val : ℝ) : EReal) :=
  (congrFun (v7_8_16 ρ) i).trans (v7_8 ρ H i)

theorem v10_11_16 : W16 m ρ c (Proc.devRef .tc main_v10) = W11 m ρ c (Proc.devRef .tc main_v10) :=
  (W16_of m ρ c main_v10 (by decide +kernel)).trans
    ((W15_of m ρ c main_v10 (by decide +kernel)).trans
    ((W14_of m ρ c main_v10 (by decide +kernel)).trans
    ((W13_of m ρ c main_v10 (by decide +kernel)).trans
    ((W12_of m ρ c main_v10 (by decide +kernel))))))

theorem v10_16 (H : Holds m c p) (i : S2048x1024.Idx) : W16 m ρ c (Proc.devRef .tc main_v10) i = ((p.dwo (i 0).val (i 1).val : ℝ) : EReal) :=
  (congrFun (v10_11_16 ρ) i).trans (v10_11 ρ H i)

end Cert.Kernel4Ideal.Mix
end
-- ==== Proof.MixRun.lean ====
module

public import proofs.«01_k».proof.Proof.Gen.Kernel4Ideal.Frame

@[expose] public section

set_option maxRecDepth 16384

noncomputable section

/-! The run of the program of the projections at its results: the launch is set up as the frame's, and its end read at the result
    buffers as well as at the arguments. -/

namespace Cert.Kernel4Ideal.Mix

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each result at the last boundary's contents, the arguments as launched, and the counters at zero. -/
theorem run : θ_run defs (onTc (τ := τ) (main (F := F))) ⟨m, fun _ => 0, ρ⟩ (fun r => (∀ c : Dev nD,
      r.2.mem ((c.tc : Thread nD τ).loc main_v2) = W16 m ρ c (Proc.devRef .tc main_v2)
      ∧ r.2.mem ((c.tc : Thread nD τ).loc main_v4) = W16 m ρ c (Proc.devRef .tc main_v4)
      ∧ r.2.mem ((c.tc : Thread nD τ).loc main_v14_0) = W16 m ρ c (Proc.devRef .tc main_v14_0)
      ∧ r.2.mem ((c.tc : Thread nD τ).loc main_v14_1) = W16 m ρ c (Proc.devRef .tc main_v14_1)
      ∧ r.2.mem ((c.tc : Thread nD τ).loc main_v15) = W16 m ρ c (Proc.devRef .tc main_v15)
      ∧ r.2.mem ((c.tc : Thread nD τ).loc main_v12) = W16 m ρ c (Proc.devRef .tc main_v12)
      ∧ r.2.mem ((c.tc : Thread nD τ).loc main_v6) = W16 m ρ c (Proc.devRef .tc main_v6)
      ∧ r.2.mem ((c.tc : Thread nD τ).loc main_v7) = W16 m ρ c (Proc.devRef .tc main_v7)
      ∧ r.2.mem ((c.tc : Thread nD τ).loc main_v10) = W16 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨(fun c =>
      ⟨h c _ (mem_uc main_v2 (by decide)),
       h c _ (mem_uc main_v4 (by decide)),
       h c _ (mem_uc main_v14_0 (by decide)),
       h c _ (mem_uc main_v14_1 (by decide)),
       h c _ (mem_uc main_v15 (by decide)),
       h c _ (mem_uc main_v12 (by decide)),
       h c _ (mem_uc main_v6 (by decide)),
       h c _ (mem_uc main_v7 (by decide)),
       h c _ (mem_uc main_v10 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c)⟩), funext fun g => hz g (.inr (no_unscoped g.2))⟩)

end Cert.Kernel4Ideal.Mix
end
-- ==== Proof.ProjRef.lean ====
module

public import proofs.«01_k».proof.Proof.Gen.Reference4Ideal.Read
public import proofs.«01_k».proof.Proof.ProjSub

@[expose] public section

set_option maxRecDepth 16384

noncomputable section

/-! The reference of the projections, at an index, over the real numbers. -/

namespace Cert.Reference4Ideal.ProjRef

open Cert.Reference4Ideal Cert.Reference4Ideal.Gen Cert.Reference4Ideal.Read Idealize.ShloMosaic Idealize.ShloMosaic.TcCoe Idealize.SL.Sem
open Cert.AttnReal Cert.FfnReal Cert.ProjReal

/-- The arguments hold the real arrays of `p`. -/
structure Arrs (x0 : (⟨S2048x1024, .f32⟩ : BufTy).Contents (Elt Ideal)) (x1 : (⟨S1024, .f32⟩ : BufTy).Contents (Elt Ideal))
    (x2 : (⟨S1024x4096, .bf16⟩ : BufTy).Contents (Elt Ideal)) (x3 : (⟨S2048x1024, .bf16⟩ : BufTy).Contents (Elt Ideal))
    (x4 : (⟨S2048x1024, .bf16⟩ : BufTy).Contents (Elt Ideal)) (x5 : (⟨S2048x1024, .bf16⟩ : BufTy).Contents (Elt Ideal))
    (x6 : (⟨S2048x4096, .bf16⟩ : BufTy).Contents (Elt Ideal)) (x7 : (⟨S2048x1024, .f32⟩ : BufTy).Contents (Elt Ideal)) (p : Proj) : Prop where
  x : ∀ i : S2048x1024.Idx, x0 i = ((p.x (i 0).val (i 1).val : ℝ) : EReal)
  g : ∀ i : S1024.Idx, x1 i = ((p.g (i 0).val : ℝ) : EReal)
  w : ∀ i : S1024x4096.Idx, x2 i = ((p.w (i 0).val (i 1).val : ℝ) : EReal)
  ya : ∀ i : S2048x1024.Idx, x3 i = ((p.ya (i 0).val (i 1).val : ℝ) : EReal)
  yb : ∀ i : S2048x1024.Idx, x4 i = ((p.yb (i 0).val (i 1).val : ℝ) : EReal)
  wo : ∀ i : S2048x1024.Idx, x5 i = ((p.wo (i 0).val (i 1).val : ℝ) : EReal)
  dp : ∀ i : S2048x4096.Idx, x6 i = ((p.dp (i 0).val (i 1).val : ℝ) : EReal)
  d : ∀ i : S2048x1024.Idx, x7 i = ((p.d (i 0).val (i 1).val : ℝ) : EReal)

variable {x0 x7 : (⟨S2048x1024, .f32⟩ : BufTy).Contents (Elt Ideal)}
  {x1 : (⟨S1024, .f32⟩ : BufTy).Contents (Elt Ideal)}
  {x2 : (⟨S1024x4096, .bf16⟩ : BufTy).Contents (Elt Ideal)}
  {x3 x4 x5 : (⟨S2048x1024, .bf16⟩ : BufTy).Contents (Elt Ideal)}
  {x6 : (⟨S2048x4096, .bf16⟩ : BufTy).Contents (Elt Ideal)}
  {p : Proj}

theorem t10 (H : Arrs x0 x1 x2 x3 x4 x5 x6 x7 p) (s : Fin 2048) :
    val_main_v10 (F := Ideal) x0 (ix2 s 0) = ((FfnReal.var p.x s : ℝ) : EReal) := by
  pointwise [val_main_v10, val_main_v9, val_main_v8, val_main_v7, val_main_v6, val_main_v5, val_main_v4, val_main_cst, val_main_cst_0, val_main_cst_1]
  simp only [H.x, width_bits, eps_bits, Ideal.ofBits_zero_f32, zero_add, ← EReal.coe_mul, ← EReal.coe_add, coe_sum, Ideal.div_coe (show (1024 : ℝ) ≠ 0 by norm_num)]
  rfl

theorem t11 (H : Arrs x0 x1 x2 x3 x4 x5 x6 x7 p) (s : Fin 2048) :
    val_main_v11 (F := Ideal) x0 (ix2 s 0) = ((FfnReal.inv p.x s : ℝ) : EReal) := by
  pointwise [val_main_v11]
  rw [t10 H, rsqrt_var]

theorem t16 (H : Arrs x0 x1 x2 x3 x4 x5 x6 x7 p) (s : Fin 2048) (d : Fin 1024) :
    val_main_v16 (F := Ideal) x0 (ix2 s d) = ((p.x s d * FfnReal.inv p.x s : ℝ) : EReal) := by
  pointwise [val_main_v16, val_main_v15]
  simp only [t11 H, H.x, ← EReal.coe_mul]
  rfl

theorem t19 (H : Arrs x0 x1 x2 x3 x4 x5 x6 x7 p) (s : Fin 2048) (d : Fin 1024) :
    val_main_v19 (F := Ideal) x0 x1 (ix2 s d) = ((p.h s d : ℝ) : EReal) := by
  pointwise [val_main_v19, val_main_v18, val_main_v17]
  simp only [t16 H, H.g, ← EReal.coe_mul]
  rfl

theorem t20 (H : Arrs x0 x1 x2 x3 x4 x5 x6 x7 p) (s : Fin 2048) (e : Fin 4096) :
    val_main_v20 (F := Ideal) x0 x1 x2 (ix2 s e) = ((p.proj s e : ℝ) : EReal) := by
  pointwise [val_main_v20, val_main_v0]
  simp only [t19 H, H.w, ← EReal.coe_mul, coe_sum]
  rfl

theorem t21 (H : Arrs x0 x1 x2 x3 x4 x5 x6 x7 p) (s e : Fin 2048) :
    val_main_v21 (F := Ideal) x3 x4 (ix2 s e) = ((p.y s e : ℝ) : EReal) := by
  pointwise [val_main_v21, val_main_v1, val_main_v2]
  unfold Proj.y
  split
  · exact H.ya _
  · exact H.yb _

theorem t23 (H : Arrs x0 x1 x2 x3 x4 x5 x6 x7 p) (s : Fin 2048) (d : Fin 1024) :
    val_main_v23 (F := Ideal) x0 x3 x4 x5 (ix2 s d) = ((p.out s d : ℝ) : EReal) := by
  pointwise [val_main_v23, val_main_v22, val_main_v3]
  simp only [t21 H, H.wo, H.x, ← EReal.coe_mul, ← EReal.coe_add, coe_sum]
  exact congrArg _ (p.out_joined s d)

theorem t27 (H : Arrs x0 x1 x2 x3 x4 x5 x6 x7 p) (s : Fin 2048) (d : Fin 1024) :
    val_main_v27 (F := Ideal) x3 x4 x7 (ix2 s d) = ((p.dwo s d : ℝ) : EReal) := by
  pointwise [val_main_v27, val_main_v26, val_main_v25]
  simp only [t21 H, H.d, ← EReal.coe_mul, coe_sum]
  refine congrArg _ (Eq.trans ?_ (p.dwo_joined s d))
  exact Finset.sum_congr rfl fun _ _ => mul_comm _ _

theorem t29 (H : Arrs x0 x1 x2 x3 x4 x5 x6 x7 p) (s : Fin 2048) (d : Fin 1024) :
    val_main_v29 (F := Ideal) x5 x7 (ix2 s d) = ((p.dya s d : ℝ) : EReal) := by
  pointwise [val_main_v29, val_main_v28, val_main_v25, val_main_v3]
  simp only [H.d, H.wo, ← EReal.coe_mul, coe_sum]
  rfl

theorem t30 (H : Arrs x0 x1 x2 x3 x4 x5 x6 x7 p) (s : Fin 2048) (d : Fin 1024) :
    val_main_v30 (F := Ideal) x5 x7 (ix2 s d) = ((p.dyb s d : ℝ) : EReal) := by
  pointwise [val_main_v30, val_main_v28, val_main_v25, val_main_v3]
  simp only [H.d, H.wo, ← EReal.coe_mul, coe_sum]
  rfl

theorem t32 (H : Arrs x0 x1 x2 x3 x4 x5 x6 x7 p) (d : Fin 1024) (e : Fin 4096) :
    val_main_v32 (F := Ideal) x0 x1 x6 (ix2 d e) = ((p.dw d e : ℝ) : EReal) := by
  pointwise [val_main_v32, val_main_v31, val_main_v24]
  simp only [t19 H, H.dp, ← EReal.coe_mul, coe_sum]
  exact congrArg _ (Finset.sum_congr rfl fun _ _ => mul_comm _ _)

theorem t33 (H : Arrs x0 x1 x2 x3 x4 x5 x6 x7 p) (s : Fin 2048) (d : Fin 1024) :
    val_main_v33 (F := Ideal) x2 x6 (ix2 s d) = ((p.dh s d : ℝ) : EReal) := by
  pointwise [val_main_v33, val_main_v24, val_main_v0]
  simp only [H.dp, H.w, ← EReal.coe_mul, coe_sum]
  rfl

theorem t39 (H : Arrs x0 x1 x2 x3 x4 x5 x6 x7 p) (d : Fin 1024) :
    val_main_v39 (F := Ideal) x0 x2 x6 (ix1 d) = ((p.dg d : ℝ) : EReal) := by
  pointwise [val_main_v39, val_main_v36, val_main_v35, val_main_v34, val_main_cst_3, val_main_cst_4]
  simp only [t16 H, t33 H, Ideal.ofBits_zero_f32, zero_add, ← EReal.coe_mul, ← EReal.coe_add, coe_sum]
  refine congrArg _ ((Fin.sum_univ_one _).trans ?_)
  unfold Proj.dg dscale
  exact Finset.sum_congr rfl fun _ _ => by ring

theorem t42 (H : Arrs x0 x1 x2 x3 x4 x5 x6 x7 p) (s : Fin 2048) :
    val_main_v42 (F := Ideal) x0 x1 x2 x6 (ix2 s 0) = ((∑ d : Fin 1024, p.x s d * (p.dh s d * p.g d) : ℝ) : EReal) := by
  pointwise [val_main_v42, val_main_v41, val_main_v40, val_main_v38, val_main_v37, val_main_v17, val_main_cst_5]
  simp only [t33 H, H.x, H.g, Ideal.ofBits_zero_f32, zero_add, ← EReal.coe_mul, ← EReal.coe_add, coe_sum]
  rfl

theorem t14 (H : Arrs x0 x1 x2 x3 x4 x5 x6 x7 p) (s : Fin 2048) :
    val_main_v14 (F := Ideal) x0 (ix2 s 0) = ((-(1 / 2) * (FfnReal.inv p.x s * (1 / FfnReal.var p.x s)) : ℝ) : EReal) := by
  pointwise [val_main_v14, val_main_v13, val_main_v12, val_main_cst_2]
  rw [t11 H, t10 H, minus_half_bits, Ideal.div_coe (var_pos p.x _).ne', ← EReal.coe_mul, ← EReal.coe_mul]

theorem t50 (H : Arrs x0 x1 x2 x3 x4 x5 x6 x7 p) (s : Fin 2048) (d : Fin 1024) :
    val_main_v50 (F := Ideal) x0 x1 x2 x6 (ix2 s d) = ((-(1 / 2) * (FfnReal.inv p.x s * FfnReal.inv p.x s * FfnReal.inv p.x s) * FfnReal.slope p.x p.g p.dh s : ℝ) : EReal) := by
  pointwise [val_main_v50, val_main_v49, val_main_v48, val_main_v47, val_main_v46, val_main_cst_6, val_main_cst_7]
  refine (Fin.sum_univ_one _).trans ?_
  rw [t42 H, t14 H, width_bits, ← EReal.coe_mul, Ideal.div_coe (show (1024 : ℝ) ≠ 0 by norm_num), ← EReal.coe_mul, inv_div]
  unfold FfnReal.slope
  exact congrArg _ (by ring)

theorem t54 (H : Arrs x0 x1 x2 x3 x4 x5 x6 x7 p) (s : Fin 2048) (d : Fin 1024) :
    val_main_v54 (F := Ideal) x0 x1 x2 x6 x7 (ix2 s d) = ((p.dx s d : ℝ) : EReal) := by
  pointwise [val_main_v54, val_main_v53, val_main_v52, val_main_v51, val_main_v45, val_main_v44, val_main_v43, val_main_v38, val_main_v37, val_main_v17]
  simp only [t33 H, t11 H, t50 H, H.x, H.g, H.d, ← EReal.coe_mul, coe_sum, ← EReal.coe_add]
  refine congrArg _ ?_
  show p.d s.val d.val + p.dh s.val d.val * p.g d.val * FfnReal.inv p.x s.val + p.x s.val d.val * (-(1 / 2) * (FfnReal.inv p.x s.val * FfnReal.inv p.x s.val * FfnReal.inv p.x s.val) * FfnReal.slope p.x p.g p.dh s.val) + -(1 / 2) * (FfnReal.inv p.x s.val * FfnReal.inv p.x s.val * FfnReal.inv p.x s.val) * FfnReal.slope p.x p.g p.dh s.val * p.x s.val d.val = _
  unfold Proj.dx dnorm
  ring

theorem t55 (H : Arrs x0 x1 x2 x3 x4 x5 x6 x7 p) (s : Fin 2048) (d : Fin 1024) :
    val_main_v55 (F := Ideal) x0 x1 x2 x6 x7 (ix2 s d) = ((p.dx s d : ℝ) : EReal) := by
  pointwise [val_main_v55]
  exact t54 H _ _

theorem t56 (H : Arrs x0 x1 x2 x3 x4 x5 x6 x7 p) (s : Fin 2048) (d : Fin 1024) :
    val_main_v56 (F := Ideal) x3 x4 x7 (ix2 s d) = ((p.dwo s d : ℝ) : EReal) := by
  pointwise [val_main_v56]
  exact t27 H _ _

end Cert.Reference4Ideal.ProjRef
end
-- ==== Proof.LatSub.lean ====
module

public import proofs.«01_k».proof.Proof.FfnReal

@[expose] public section

set_option maxRecDepth 16384

noncomputable section

/-! The real-number mathematics of the latent attention's projections and their gradients: a normalization over rows of any
    length, and the two branches, each a run of the columns projected, its scale and its weights. -/

namespace Cert.LatReal

open Idealize.ShloMosaic
open Cert.FfnReal (eps eps_pos mm mmT tmm)

theorem bits_384 : Ideal.ofBits .f32 0x43C00000#32 = (((384 : ℕ) : ℝ) : EReal) := by
  simp [Ideal.ofBits, Ideal.ieee, -EReal.coe_mul]; norm_num

theorem bits_256 : Ideal.ofBits .f32 0x43800000#32 = (((256 : ℕ) : ℝ) : EReal) := by
  simp [Ideal.ofBits, Ideal.ieee, -EReal.coe_mul]; norm_num

/-! ## The normalization of rows of length `n` -/

section Rows
variable (n : ℕ) (x : ℕ → ℕ → ℝ) (g : ℕ → ℝ) (e : ℕ → ℕ → ℝ)

/-- A row's mean square with the constant, and its reciprocal root. -/
def var (s : ℕ) : ℝ := (∑ d : Fin n, x s d * x s d) * (1 / (n : ℝ)) + eps
def inv (s : ℕ) : ℝ := (Real.sqrt (var n x s))⁻¹

/-- The normalized rows. -/
def norm (s d : ℕ) : ℝ := x s d * inv n x s * g d

/-- The mean over a row of the entries times their normalized gradient. -/
def slope (s : ℕ) : ℝ := (∑ d : Fin n, x s d * (e s d * g d)) * (1 / (n : ℝ))

/-- The rows' gradient, and the scale's over `m` rows. -/
def dnorm (s d : ℕ) : ℝ := inv n x s * (e s d * g d) - x s d * (inv n x s * inv n x s * inv n x s) * slope n x g e s
def dscale (m d : ℕ) : ℝ := ∑ s : Fin m, e s d * x s d * inv n x s

theorem var_pos (s : ℕ) : 0 < var n x s :=
  add_pos_of_nonneg_of_pos (mul_nonneg (Finset.sum_nonneg fun _ _ => mul_self_nonneg _) (by positivity)) eps_pos

theorem rsqrt_var (s : ℕ) : Ideal.rsqrt ((var n x s : ℝ) : EReal) = ((inv n x s : ℝ) : EReal) := by
  rw [Ideal.rsqrt_coe, if_neg (var_pos n x s).le.not_gt, if_neg (var_pos n x s).ne', inv]

theorem inv_div (s : ℕ) : inv n x s * (1 / var n x s) = inv n x s * inv n x s * inv n x s := by
  rw [mul_assoc, show inv n x s * inv n x s = 1 / var n x s by rw [inv, ← mul_inv, Real.mul_self_sqrt (var_pos n x s).le, one_div]]

/-- The rows' gradient as the product rule gives it: the part through the root comes twice, by half. -/
theorem dnorm_terms (s d : ℕ) {v : ℝ} (hv : v = -(1 / 2) * (inv n x s * inv n x s * inv n x s) * slope n x g e s) :
    e s d * g d * inv n x s + x s d * v + v * x s d = dnorm n x g e s d := by
  rw [hv, dnorm]
  ring

end Rows

/-- One branch: the columns it starts from, its scale, its weights, and the gradient of what they give. -/
structure Branch where
  x : ℕ → ℕ → ℝ
  g : ℕ → ℝ
  w : ℕ → ℕ → ℝ
  d : ℕ → ℕ → ℝ

namespace Branch

variable (n : ℕ) (b : Branch)

/-- The normalized columns and their product with the weights. -/
def h : ℕ → ℕ → ℝ := norm n b.x b.g
def y : ℕ → ℕ → ℝ := mm n (b.h n) b.w

/-- The gradients of the weights, of the normalized columns, of the columns and of the scale. -/
def dw : ℕ → ℕ → ℝ := tmm 2048 (b.h n) b.d
def dh : ℕ → ℕ → ℝ := mmT 2048 b.d b.w
def dx : ℕ → ℕ → ℝ := dnorm n b.x b.g b.dh
def dg : ℕ → ℝ := dscale n b.x b.dh 2048

end Branch

/-- The real arrays the projections are of: the columns projected from the sequence, the two scales, the two weights, and the
    gradients of the queries and of the keys and values. -/
structure Lat where
  x : ℕ → ℕ → ℝ
  gq : ℕ → ℝ
  gk : ℕ → ℝ
  wq : ℕ → ℕ → ℝ
  wk : ℕ → ℕ → ℝ
  dq : ℕ → ℕ → ℝ
  dk : ℕ → ℕ → ℝ

/-- The queries' branch and the keys' and values': block 8 of 384 columns, block 14 of 256. -/
def Lat.q (p : Lat) : Branch := ⟨fun s d => p.x s (8 * 384 + d), p.gq, p.wq, p.dq⟩
def Lat.k (p : Lat) : Branch := ⟨fun s d => p.x s (14 * 256 + d), p.gk, p.wk, p.dk⟩

end Cert.LatReal
end
-- ==== Proof.LatFinite.lean ====
module

public import proofs.«01_k».proof.Proof.FfnFinite
public import proofs.«01_k».proof.Proof.LatSub

@[expose] public section

set_option maxRecDepth 16384

noncomputable section

/-! What the precondition of the latent attention's projections says: every element of the seven arrays is a real number. -/

namespace Cert.LatFinite

open Cert.Pre_finite5 Idealize.ShloMosaic Cert.Finite

theorem facts : Cert.Pre_finite5.Facts := ⟨by decide, by decide, by decide, by decide, by decide, by decide, by decide⟩

instance : Cert.Pre_finite5.Facts := facts

variable {x0 : FVec Ideal S2048x3840 .f32} {x1 : FVec Ideal S384 .f32} {x2 : FVec Ideal S256 .f32} {x3 : FVec Ideal S384x2048 .bf16}
  {x4 : FVec Ideal S256x2048 .bf16} {x5 x6 : FVec Ideal S2048x2048 .bf16}

theorem real0 (h : (fn (F := Ideal) x0 x1 x2 x3 x4 x5 x6).1 = fun _ => 1#1) (i : S2048x3840.Idx) : x0 i = (((x0 i).toReal : ℝ) : EReal) := by
  have := congrFun h i
  idx_vars i
  pointwise [fn, fn_part1] at this
  exact real_of_abs_lt this

theorem real1 (h : (fn (F := Ideal) x0 x1 x2 x3 x4 x5 x6).2.1 = fun _ => 1#1) (i : S384.Idx) : x1 i = (((x1 i).toReal : ℝ) : EReal) := by
  have := congrFun h i
  idx_vars i
  pointwise [fn, fn_part1] at this
  exact real_of_abs_lt this

theorem real2 (h : (fn (F := Ideal) x0 x1 x2 x3 x4 x5 x6).2.2.1 = fun _ => 1#1) (i : S256.Idx) : x2 i = (((x2 i).toReal : ℝ) : EReal) := by
  have := congrFun h i
  idx_vars i
  pointwise [fn, fn_part1] at this
  exact real_of_abs_lt this

theorem real3 (h : (fn (F := Ideal) x0 x1 x2 x3 x4 x5 x6).2.2.2.1 = fun _ => 1#1) (i : S384x2048.Idx) : x3 i = (((x3 i).toReal : ℝ) : EReal) := by
  have := congrFun h i
  idx_vars i
  pointwise [fn, fn_part1] at this
  exact real_of_abs_lt this

theorem real4 (h : (fn (F := Ideal) x0 x1 x2 x3 x4 x5 x6).2.2.2.2.1 = fun _ => 1#1) (i : S256x2048.Idx) : x4 i = (((x4 i).toReal : ℝ) : EReal) := by
  have := congrFun h i
  idx_vars i
  pointwise [fn, fn_part1] at this
  exact real_of_abs_lt this

theorem real5 (h : (fn (F := Ideal) x0 x1 x2 x3 x4 x5 x6).2.2.2.2.2.1 = fun _ => 1#1) (i : S2048x2048.Idx) : x5 i = (((x5 i).toReal : ℝ) : EReal) := by
  have := congrFun h i
  idx_vars i
  pointwise [fn, fn_part1] at this
  exact real_of_abs_lt this

theorem real6 (h : (fn (F := Ideal) x0 x1 x2 x3 x4 x5 x6).2.2.2.2.2.2 = fun _ => 1#1) (i : S2048x2048.Idx) : x6 i = (((x6 i).toReal : ℝ) : EReal) := by
  have := congrFun h i
  idx_vars i
  pointwise [fn, fn_part1] at this
  exact real_of_abs_lt this

end Cert.LatFinite
end
-- ==== Proof.LatNorm.lean ====
module

public import proofs.«01_k».proof.Proof.Gen.Kernel5Ideal.Frame.Region0
public import proofs.«01_k».proof.Proof.Gen.Kernel5Ideal.Frame.Region1
public import proofs.«01_k».proof.Proof.LatSub
public import Idealize.ShloMosaic.Lib.Pipeline.ReadBack
public import Idealize.ShloMosaic.Lib.Pipeline.ValueKit

@[expose] public section

set_option maxRecDepth 16384

noncomputable section

/-! The two normalizations of runs of the columns projected, as real numbers. -/

namespace Cert.Kernel5Ideal.Lat

open Cert.Kernel5Ideal Cert.Kernel5Ideal.Gen Idealize.ShloMosaic Idealize.ShloMosaic.TcCoe Idealize.SL.Sem
open Cert.AttnReal Cert.LatReal
open Cert.FfnReal (mm mmT tmm eps eps_bits)

variable (V : (c : Dev nD) → (b : Ref sig .tc) → Buf (Elt Ideal) ((c : Thread nD τ).loc b)) (c : Dev nD)

/-- The queries' columns normalized, a block of rows. -/
theorem pay0 {x : Vec Ideal S512x384 .f32} {z : Vec Ideal S1x384 .f32} {a : ℕ → ℕ → ℝ} {g : ℕ → ℝ}
    (hx : ∀ (r : Fin 512) (k : Fin 384), x (ix2 r k) = ((a r k : ℝ) : EReal)) (hz : ∀ k : Fin 384, z (ix2 0 k) = ((g k : ℝ) : EReal))
    (r : Fin 512) (j : Fin 384) : k0_pay1 x z (ix2 r j) = ((norm 384 a g r j : ℝ) : EReal) := by
  pointwise [k0_pay1]
  simp only [hx, hz, ← EReal.coe_mul, coe_sum, bits_384, eps_bits, Ideal.div_coe (show ((384 : ℕ) : ℝ) ≠ 0 by norm_num), ← EReal.coe_add]
  rw [show (∑ d : Fin 384, a r d * a r d) * (1 / ((384 : ℕ) : ℝ)) + eps = var 384 a r from rfl, rsqrt_var, ← EReal.coe_mul, ← EReal.coe_mul]
  rfl

theorem idx0 : ∀ t : Fin cfg0.N, win0_0.index t = ![t.val, 8] ∧ win0_1.index t = ![0, 0] ∧ win0_2.index t = ![t.val, 0] := by decide +kernel

/-- The queries' columns normalized. -/
theorem lat_norm_q {a : ℕ → ℕ → ℝ} {g : ℕ → ℝ} (h0 : ∀ i : S2048x3840.Idx, V c main_arg0 i = ((a (i 0).val (i 1).val : ℝ) : EReal))
    (h1 : ∀ i : S1x384.Idx, V c main_v0 i = ((g (i 1).val : ℝ) : EReal)) :
    (dat0 V c).arrAt 2 cfg0.N = fun i : S2048x384.Idx => ((norm 384 (fun s d => a s (8 * 384 + d)) g (i 0).val (i 1).val : ℝ) : EReal) := by
  refine (dat0 V c).arrAt_eq_of_covers 2 _ (by decide +kernel) fun t hf y => ?_
  have ht : t.val < 4 := lt_of_lt_of_eq t.isLt N_0
  have b0 : ∀ (r : Fin 512) (k : Fin 384), iblk0 V c 0 t (ix2 r k) = ((a (t.val * 512 + r.val) (8 * 384 + k.val) : ℝ) : EReal) := fun r k => by
    refine Eq.trans ?_ (h0 (ix2 ⟨t.val * 512 + r.val, by omega⟩ ⟨8 * 384 + k.val, by omega⟩))
    blk_ext [iblk0, idx0 t]
  have b1 : ∀ k : Fin 384, iblk0 V c 1 t (ix2 0 k) = ((g k : ℝ) : EReal) := fun k => by
    refine Eq.trans ?_ (h1 (ix2 0 k))
    blk_ext [iblk0, idx0 t]
  have out : ∀ y : S512x384.Idx, (dat0 V c).after 2 t y
      = ((norm 384 (fun s d => a s (8 * 384 + d)) g (t.val * 512 + (y 0).val) (y 1).val : ℝ) : EReal) := fun y => by
    rw [after0_2]
    unfold out0_2
    rw [View.canon_cons_unit_lit inb_S512x384_S512x384_0_0 _ _ (by decide), View.ld_unit_lit inb_S512x384_S512x384_0_0 _ (by decide),
      View.ld_unit_lit inb_S1x384_S1x384_0_0 _ (by decide)]
    idx_vars y
    refine (pay0 (a := fun r k => a (t.val * 512 + r) (8 * 384 + k)) (g := g) b0 b1 _ _).trans ?_
    rfl
  refine (out y).trans ?_
  idx_vars y
  blk_simp [idx0 t]

/-- The keys' and values' columns normalized, a block of rows. -/
theorem pay1 {x : Vec Ideal S512x256 .f32} {z : Vec Ideal S1x256 .f32} {a : ℕ → ℕ → ℝ} {g : ℕ → ℝ}
    (hx : ∀ (r : Fin 512) (k : Fin 256), x (ix2 r k) = ((a r k : ℝ) : EReal)) (hz : ∀ k : Fin 256, z (ix2 0 k) = ((g k : ℝ) : EReal))
    (r : Fin 512) (j : Fin 256) : k1_pay1 x z (ix2 r j) = ((norm 256 a g r j : ℝ) : EReal) := by
  pointwise [k1_pay1]
  simp only [hx, hz, ← EReal.coe_mul, coe_sum, bits_256, eps_bits, Ideal.div_coe (show ((256 : ℕ) : ℝ) ≠ 0 by norm_num), ← EReal.coe_add]
  rw [show (∑ d : Fin 256, a r d * a r d) * (1 / ((256 : ℕ) : ℝ)) + eps = var 256 a r from rfl, rsqrt_var, ← EReal.coe_mul, ← EReal.coe_mul]
  rfl

theorem idx1 : ∀ t : Fin cfg1.N, win1_0.index t = ![t.val, 14] ∧ win1_1.index t = ![0, 0] ∧ win1_2.index t = ![t.val, 0] := by decide +kernel

/-- The keys' and values' columns normalized. -/
theorem lat_norm_k {a : ℕ → ℕ → ℝ} {g : ℕ → ℝ} (h0 : ∀ i : S2048x3840.Idx, V c main_arg0 i = ((a (i 0).val (i 1).val : ℝ) : EReal))
    (h1 : ∀ i : S1x256.Idx, V c main_v2 i = ((g (i 1).val : ℝ) : EReal)) :
    (dat1 V c).arrAt 2 cfg1.N = fun i : S2048x256.Idx => ((norm 256 (fun s d => a s (14 * 256 + d)) g (i 0).val (i 1).val : ℝ) : EReal) := by
  refine (dat1 V c).arrAt_eq_of_covers 2 _ (by decide +kernel) fun t hf y => ?_
  have ht : t.val < 4 := lt_of_lt_of_eq t.isLt N_1
  have b0 : ∀ (r : Fin 512) (k : Fin 256), iblk1 V c 0 t (ix2 r k) = ((a (t.val * 512 + r.val) (14 * 256 + k.val) : ℝ) : EReal) := fun r k => by
    refine Eq.trans ?_ (h0 (ix2 ⟨t.val * 512 + r.val, by omega⟩ ⟨14 * 256 + k.val, by omega⟩))
    blk_ext [iblk1, idx1 t]
  have b1 : ∀ k : Fin 256, iblk1 V c 1 t (ix2 0 k) = ((g k : ℝ) : EReal) := fun k => by
    refine Eq.trans ?_ (h1 (ix2 0 k))
    blk_ext [iblk1, idx1 t]
  have out : ∀ y : S512x256.Idx, (dat1 V c).after 2 t y
      = ((norm 256 (fun s d => a s (14 * 256 + d)) g (t.val * 512 + (y 0).val) (y 1).val : ℝ) : EReal) := fun y => by
    rw [after1_2]
    unfold out1_2
    rw [View.canon_cons_unit_lit inb_S512x256_S512x256_0_0 _ _ (by decide), View.ld_unit_lit inb_S512x256_S512x256_0_0 _ (by decide),
      View.ld_unit_lit inb_S1x256_S1x256_0_0 _ (by decide)]
    idx_vars y
    refine (pay1 (a := fun r k => a (t.val * 512 + r) (14 * 256 + k)) (g := g) b0 b1 _ _).trans ?_
    rfl
  refine (out y).trans ?_
  idx_vars y
  blk_simp [idx1 t]

end Cert.Kernel5Ideal.Lat
end
-- ==== Proof.LatProducts.lean ====
module

public import proofs.«01_k».proof.Proof.Gen.Kernel5Ideal.Frame.Region2
public import proofs.«01_k».proof.Proof.Gen.Kernel5Ideal.Frame.Region3
public import proofs.«01_k».proof.Proof.Gen.Kernel5Ideal.Frame.Region4
public import proofs.«01_k».proof.Proof.Gen.Kernel5Ideal.Frame.Region5
public import proofs.«01_k».proof.Proof.Gen.Kernel5Ideal.Frame.Region6
public import proofs.«01_k».proof.Proof.Gen.Kernel5Ideal.Frame.Region7
public import proofs.«01_k».proof.Proof.LatSub
public import Idealize.ShloMosaic.Lib.Pipeline.ReadBack
public import Idealize.ShloMosaic.Lib.Pipeline.ValueKit

@[expose] public section

set_option maxRecDepth 16384

noncomputable section

/-! The latent attention's projections and the products of their backward pass, array by array, as real numbers. -/

namespace Cert.Kernel5Ideal.Lat

open Cert.Kernel5Ideal Cert.Kernel5Ideal.Gen Idealize.ShloMosaic Idealize.ShloMosaic.TcCoe Idealize.SL.Sem
open Cert.AttnReal Cert.LatReal
open Cert.FfnReal (mm mmT tmm eps eps_bits)

variable (V : (c : Dev nD) → (b : Ref sig .tc) → Buf (Elt Ideal) ((c : Thread nD τ).loc b)) (c : Dev nD)

theorem pay2 {x : Vec Ideal S1024x384 .bf16} {w : Vec Ideal S384x1024 .bf16} {a b : ℕ → ℕ → ℝ}
    (h0 : ∀ (r : Fin 1024) (k : Fin 384), x (ix2 r k) = ((a r k : ℝ) : EReal)) (h1 : ∀ (r : Fin 384) (k : Fin 1024), w (ix2 r k) = ((b r k : ℝ) : EReal))
    (r : Fin 1024) (j : Fin 1024) : k2_pay1 x w (ix2 r j) = ((mm 384 a b r j : ℝ) : EReal) := by
  pointwise [k2_pay1]
  simp only [h0, h1, ← EReal.coe_mul, coe_sum]
  rfl

theorem idx2 : ∀ t : Fin cfg2.N, win2_0.index t = ![t.val / 2, 0] ∧ win2_1.index t = ![0, t.val % 2] ∧ win2_2.index t = ![t.val / 2, t.val % 2] := by decide +kernel

/-- The queries. -/
theorem lat_q {a : ℕ → ℕ → ℝ} {b : ℕ → ℕ → ℝ}
    (h0 : ∀ i : S2048x384.Idx, V c main_v1 i = ((a (i 0).val (i 1).val : ℝ) : EReal))
    (h1 : ∀ i : S384x2048.Idx, V c main_arg3 i = ((b (i 0).val (i 1).val : ℝ) : EReal)) :
    (dat2 V c).arrAt 2 cfg2.N = fun i : S2048x2048.Idx => ((mm 384 a b (i 0).val (i 1).val : ℝ) : EReal) := by
  refine (dat2 V c).arrAt_eq_of_covers 2 _ (by decide +kernel) fun t hf y => ?_
  have ht : t.val < 4 := lt_of_lt_of_eq t.isLt N_2
  have b0 : ∀ (r : Fin 1024) (k : Fin 384), iblk2 V c 0 t (ix2 r k) = ((a (t.val / 2 * 1024 + r.val) k : ℝ) : EReal) := fun r k => by
    refine Eq.trans ?_ (h0 (ix2 ⟨t.val / 2 * 1024 + r.val, by omega⟩ k))
    blk_ext [iblk2, idx2 t]
  have b1 : ∀ (r : Fin 384) (k : Fin 1024), iblk2 V c 1 t (ix2 r k) = ((b r (t.val % 2 * 1024 + k.val) : ℝ) : EReal) := fun r k => by
    refine Eq.trans ?_ (h1 (ix2 r ⟨t.val % 2 * 1024 + k.val, by omega⟩))
    blk_ext [iblk2, idx2 t]
  have out : ∀ y : S1024x1024.Idx, (dat2 V c).after 2 t y = ((mm 384 a b (t.val / 2 * 1024 + (y 0).val) (t.val % 2 * 1024 + (y 1).val) : ℝ) : EReal) := fun y => by
    rw [after2_2]
    unfold out2_2
    rw [View.canon_cons_unit_lit inb_S1024x1024_S1024x1024_0_0 _ _ (by decide), View.ld_unit_lit inb_S1024x384_S1024x384_0_0 _ (by decide), View.ld_unit_lit inb_S384x1024_S384x1024_0_0 _ (by decide)]
    idx_vars y
    rw [pay2 (a := fun r k => a (t.val / 2 * 1024 + r) k) (b := fun r k => b r (t.val % 2 * 1024 + k)) b0 b1]
    rfl
  refine (out y).trans ?_
  idx_vars y
  blk_simp [idx2 t]

theorem pay3 {x : Vec Ideal S1024x256 .bf16} {w : Vec Ideal S256x1024 .bf16} {a b : ℕ → ℕ → ℝ}
    (h0 : ∀ (r : Fin 1024) (k : Fin 256), x (ix2 r k) = ((a r k : ℝ) : EReal)) (h1 : ∀ (r : Fin 256) (k : Fin 1024), w (ix2 r k) = ((b r k : ℝ) : EReal))
    (r : Fin 1024) (j : Fin 1024) : k3_pay1 x w (ix2 r j) = ((mm 256 a b r j : ℝ) : EReal) := by
  pointwise [k3_pay1]
  simp only [h0, h1, ← EReal.coe_mul, coe_sum]
  rfl

theorem idx3 : ∀ t : Fin cfg3.N, win3_0.index t = ![t.val / 2, 0] ∧ win3_1.index t = ![0, t.val % 2] ∧ win3_2.index t = ![t.val / 2, t.val % 2] := by decide +kernel

/-- The keys and values. -/
theorem lat_kv {a : ℕ → ℕ → ℝ} {b : ℕ → ℕ → ℝ}
    (h0 : ∀ i : S2048x256.Idx, V c main_v3 i = ((a (i 0).val (i 1).val : ℝ) : EReal))
    (h1 : ∀ i : S256x2048.Idx, V c main_arg4 i = ((b (i 0).val (i 1).val : ℝ) : EReal)) :
    (dat3 V c).arrAt 2 cfg3.N = fun i : S2048x2048.Idx => ((mm 256 a b (i 0).val (i 1).val : ℝ) : EReal) := by
  refine (dat3 V c).arrAt_eq_of_covers 2 _ (by decide +kernel) fun t hf y => ?_
  have ht : t.val < 4 := lt_of_lt_of_eq t.isLt N_3
  have b0 : ∀ (r : Fin 1024) (k : Fin 256), iblk3 V c 0 t (ix2 r k) = ((a (t.val / 2 * 1024 + r.val) k : ℝ) : EReal) := fun r k => by
    refine Eq.trans ?_ (h0 (ix2 ⟨t.val / 2 * 1024 + r.val, by omega⟩ k))
    blk_ext [iblk3, idx3 t]
  have b1 : ∀ (r : Fin 256) (k : Fin 1024), iblk3 V c 1 t (ix2 r k) = ((b r (t.val % 2 * 1024 + k.val) : ℝ) : EReal) := fun r k => by
    refine Eq.trans ?_ (h1 (ix2 r ⟨t.val % 2 * 1024 + k.val, by omega⟩))
    blk_ext [iblk3, idx3 t]
  have out : ∀ y : S1024x1024.Idx, (dat3 V c).after 2 t y = ((mm 256 a b (t.val / 2 * 1024 + (y 0).val) (t.val % 2 * 1024 + (y 1).val) : ℝ) : EReal) := fun y => by
    rw [after3_2]
    unfold out3_2
    rw [View.canon_cons_unit_lit inb_S1024x1024_S1024x1024_0_0 _ _ (by decide), View.ld_unit_lit inb_S1024x256_S1024x256_0_0 _ (by decide), View.ld_unit_lit inb_S256x1024_S256x1024_0_0 _ (by decide)]
    idx_vars y
    rw [pay3 (a := fun r k => a (t.val / 2 * 1024 + r) k) (b := fun r k => b r (t.val % 2 * 1024 + k)) b0 b1]
    rfl
  refine (out y).trans ?_
  idx_vars y
  blk_simp [idx3 t]

theorem pay4 {x : Vec Ideal S2048x384 .bf16} {w : Vec Ideal S2048x512 .bf16} {a b : ℕ → ℕ → ℝ}
    (h0 : ∀ (r : Fin 2048) (k : Fin 384), x (ix2 r k) = ((a r k : ℝ) : EReal)) (h1 : ∀ (r : Fin 2048) (k : Fin 512), w (ix2 r k) = ((b r k : ℝ) : EReal))
    (r : Fin 384) (j : Fin 512) : k4_pay1 x w (ix2 r j) = ((tmm 2048 a b r j : ℝ) : EReal) := by
  pointwise [k4_pay1]
  simp only [h0, h1, ← EReal.coe_mul, coe_sum]
  rfl

theorem idx4 : ∀ t : Fin cfg4.N, win4_0.index t = ![0, 0] ∧ win4_1.index t = ![0, t.val] ∧ win4_2.index t = ![0, t.val] := by decide +kernel

/-- The gradient of the queries' weights. -/
theorem lat_dwq {a : ℕ → ℕ → ℝ} {b : ℕ → ℕ → ℝ}
    (h0 : ∀ i : S2048x384.Idx, V c main_v1 i = ((a (i 0).val (i 1).val : ℝ) : EReal))
    (h1 : ∀ i : S2048x2048.Idx, V c main_arg5 i = ((b (i 0).val (i 1).val : ℝ) : EReal)) :
    (dat4 V c).arrAt 2 cfg4.N = fun i : S384x2048.Idx => ((tmm 2048 a b (i 0).val (i 1).val : ℝ) : EReal) := by
  refine (dat4 V c).arrAt_eq_of_covers 2 _ (by decide +kernel) fun t hf y => ?_
  have ht : t.val < 4 := lt_of_lt_of_eq t.isLt N_4
  have b0 : ∀ (r : Fin 2048) (k : Fin 384), iblk4 V c 0 t (ix2 r k) = ((a r k : ℝ) : EReal) := fun r k => by
    refine Eq.trans ?_ (h0 (ix2 r k))
    blk_ext [iblk4, idx4 t]
  have b1 : ∀ (r : Fin 2048) (k : Fin 512), iblk4 V c 1 t (ix2 r k) = ((b r (t.val * 512 + k.val) : ℝ) : EReal) := fun r k => by
    refine Eq.trans ?_ (h1 (ix2 r ⟨t.val * 512 + k.val, by omega⟩))
    blk_ext [iblk4, idx4 t]
  have out : ∀ y : S384x512.Idx, (dat4 V c).after 2 t y = ((tmm 2048 a b (y 0).val (t.val * 512 + (y 1).val) : ℝ) : EReal) := fun y => by
    rw [after4_2]
    unfold out4_2
    rw [View.canon_cons_unit_lit inb_S384x512_S384x512_0_0 _ _ (by decide), View.ld_unit_lit inb_S2048x384_S2048x384_0_0 _ (by decide), View.ld_unit_lit inb_S2048x512_S2048x512_0_0 _ (by decide)]
    idx_vars y
    rw [pay4 (a := fun r k => a r k) (b := fun r k => b r (t.val * 512 + k)) b0 b1]
    rfl
  refine (out y).trans ?_
  idx_vars y
  blk_simp [idx4 t]

theorem pay5 {x : Vec Ideal S1024x2048 .bf16} {w : Vec Ideal S384x2048 .bf16} {a b : ℕ → ℕ → ℝ}
    (h0 : ∀ (r : Fin 1024) (k : Fin 2048), x (ix2 r k) = ((a r k : ℝ) : EReal)) (h1 : ∀ (r : Fin 384) (k : Fin 2048), w (ix2 r k) = ((b r k : ℝ) : EReal))
    (r : Fin 1024) (j : Fin 384) : k5_pay1 x w (ix2 r j) = ((mmT 2048 a b r j : ℝ) : EReal) := by
  pointwise [k5_pay1]
  simp only [h0, h1, ← EReal.coe_mul, coe_sum]
  rfl

theorem idx5 : ∀ t : Fin cfg5.N, win5_0.index t = ![t.val, 0] ∧ win5_1.index t = ![0, 0] ∧ win5_2.index t = ![t.val, 0] := by decide +kernel

/-- The gradient of the queries' normalized columns. -/
theorem lat_dhq {a : ℕ → ℕ → ℝ} {b : ℕ → ℕ → ℝ}
    (h0 : ∀ i : S2048x2048.Idx, V c main_arg5 i = ((a (i 0).val (i 1).val : ℝ) : EReal))
    (h1 : ∀ i : S384x2048.Idx, V c main_arg3 i = ((b (i 0).val (i 1).val : ℝ) : EReal)) :
    (dat5 V c).arrAt 2 cfg5.N = fun i : S2048x384.Idx => ((mmT 2048 a b (i 0).val (i 1).val : ℝ) : EReal) := by
  refine (dat5 V c).arrAt_eq_of_covers 2 _ (by decide +kernel) fun t hf y => ?_
  have ht : t.val < 2 := lt_of_lt_of_eq t.isLt N_5
  have b0 : ∀ (r : Fin 1024) (k : Fin 2048), iblk5 V c 0 t (ix2 r k) = ((a (t.val * 1024 + r.val) k : ℝ) : EReal) := fun r k => by
    refine Eq.trans ?_ (h0 (ix2 ⟨t.val * 1024 + r.val, by omega⟩ k))
    blk_ext [iblk5, idx5 t]
  have b1 : ∀ (r : Fin 384) (k : Fin 2048), iblk5 V c 1 t (ix2 r k) = ((b r k : ℝ) : EReal) := fun r k => by
    refine Eq.trans ?_ (h1 (ix2 r k))
    blk_ext [iblk5, idx5 t]
  have out : ∀ y : S1024x384.Idx, (dat5 V c).after 2 t y = ((mmT 2048 a b (t.val * 1024 + (y 0).val) (y 1).val : ℝ) : EReal) := fun y => by
    rw [after5_2]
    unfold out5_2
    rw [View.canon_cons_unit_lit inb_S1024x384_S1024x384_0_0 _ _ (by decide), View.ld_unit_lit inb_S1024x2048_S1024x2048_0_0 _ (by decide), View.ld_unit_lit inb_S384x2048_S384x2048_0_0 _ (by decide)]
    idx_vars y
    rw [pay5 (a := fun r k => a (t.val * 1024 + r) k) (b := fun r k => b r k) b0 b1]
    rfl
  refine (out y).trans ?_
  idx_vars y
  blk_simp [idx5 t]

theorem pay6 {x : Vec Ideal S2048x256 .bf16} {w : Vec Ideal S2048x512 .bf16} {a b : ℕ → ℕ → ℝ}
    (h0 : ∀ (r : Fin 2048) (k : Fin 256), x (ix2 r k) = ((a r k : ℝ) : EReal)) (h1 : ∀ (r : Fin 2048) (k : Fin 512), w (ix2 r k) = ((b r k : ℝ) : EReal))
    (r : Fin 256) (j : Fin 512) : k6_pay1 x w (ix2 r j) = ((tmm 2048 a b r j : ℝ) : EReal) := by
  pointwise [k6_pay1]
  simp only [h0, h1, ← EReal.coe_mul, coe_sum]
  rfl

theorem idx6 : ∀ t : Fin cfg6.N, win6_0.index t = ![0, 0] ∧ win6_1.index t = ![0, t.val] ∧ win6_2.index t = ![0, t.val] := by decide +kernel

/-- The gradient of the keys' and values' weights. -/
theorem lat_dwk {a : ℕ → ℕ → ℝ} {b : ℕ → ℕ → ℝ}
    (h0 : ∀ i : S2048x256.Idx, V c main_v3 i = ((a (i 0).val (i 1).val : ℝ) : EReal))
    (h1 : ∀ i : S2048x2048.Idx, V c main_arg6 i = ((b (i 0).val (i 1).val : ℝ) : EReal)) :
    (dat6 V c).arrAt 2 cfg6.N = fun i : S256x2048.Idx => ((tmm 2048 a b (i 0).val (i 1).val : ℝ) : EReal) := by
  refine (dat6 V c).arrAt_eq_of_covers 2 _ (by decide +kernel) fun t hf y => ?_
  have ht : t.val < 4 := lt_of_lt_of_eq t.isLt N_6
  have b0 : ∀ (r : Fin 2048) (k : Fin 256), iblk6 V c 0 t (ix2 r k) = ((a r k : ℝ) : EReal) := fun r k => by
    refine Eq.trans ?_ (h0 (ix2 r k))
    blk_ext [iblk6, idx6 t]
  have b1 : ∀ (r : Fin 2048) (k : Fin 512), iblk6 V c 1 t (ix2 r k) = ((b r (t.val * 512 + k.val) : ℝ) : EReal) := fun r k => by
    refine Eq.trans ?_ (h1 (ix2 r ⟨t.val * 512 + k.val, by omega⟩))
    blk_ext [iblk6, idx6 t]
  have out : ∀ y : S256x512.Idx, (dat6 V c).after 2 t y = ((tmm 2048 a b (y 0).val (t.val * 512 + (y 1).val) : ℝ) : EReal) := fun y => by
    rw [after6_2]
    unfold out6_2
    rw [View.canon_cons_unit_lit inb_S256x512_S256x512_0_0 _ _ (by decide), View.ld_unit_lit inb_S2048x256_S2048x256_0_0 _ (by decide), View.ld_unit_lit inb_S2048x512_S2048x512_0_0 _ (by decide)]
    idx_vars y
    rw [pay6 (a := fun r k => a r k) (b := fun r k => b r (t.val * 512 + k)) b0 b1]
    rfl
  refine (out y).trans ?_
  idx_vars y
  blk_simp [idx6 t]

theorem pay7 {x : Vec Ideal S1024x2048 .bf16} {w : Vec Ideal S256x2048 .bf16} {a b : ℕ → ℕ → ℝ}
    (h0 : ∀ (r : Fin 1024) (k : Fin 2048), x (ix2 r k) = ((a r k : ℝ) : EReal)) (h1 : ∀ (r : Fin 256) (k : Fin 2048), w (ix2 r k) = ((b r k : ℝ) : EReal))
    (r : Fin 1024) (j : Fin 256) : k7_pay1 x w (ix2 r j) = ((mmT 2048 a b r j : ℝ) : EReal) := by
  pointwise [k7_pay1]
  simp only [h0, h1, ← EReal.coe_mul, coe_sum]
  rfl

theorem idx7 : ∀ t : Fin cfg7.N, win7_0.index t = ![t.val, 0] ∧ win7_1.index t = ![0, 0] ∧ win7_2.index t = ![t.val, 0] := by decide +kernel

/-- The gradient of the keys' and values' normalized columns. -/
theorem lat_dhk {a : ℕ → ℕ → ℝ} {b : ℕ → ℕ → ℝ}
    (h0 : ∀ i : S2048x2048.Idx, V c main_arg6 i = ((a (i 0).val (i 1).val : ℝ) : EReal))
    (h1 : ∀ i : S256x2048.Idx, V c main_arg4 i = ((b (i 0).val (i 1).val : ℝ) : EReal)) :
    (dat7 V c).arrAt 2 cfg7.N = fun i : S2048x256.Idx => ((mmT 2048 a b (i 0).val (i 1).val : ℝ) : EReal) := by
  refine (dat7 V c).arrAt_eq_of_covers 2 _ (by decide +kernel) fun t hf y => ?_
  have ht : t.val < 2 := lt_of_lt_of_eq t.isLt N_7
  have b0 : ∀ (r : Fin 1024) (k : Fin 2048), iblk7 V c 0 t (ix2 r k) = ((a (t.val * 1024 + r.val) k : ℝ) : EReal) := fun r k => by
    refine Eq.trans ?_ (h0 (ix2 ⟨t.val * 1024 + r.val, by omega⟩ k))
    blk_ext [iblk7, idx7 t]
  have b1 : ∀ (r : Fin 256) (k : Fin 2048), iblk7 V c 1 t (ix2 r k) = ((b r k : ℝ) : EReal) := fun r k => by
    refine Eq.trans ?_ (h1 (ix2 r k))
    blk_ext [iblk7, idx7 t]
  have out : ∀ y : S1024x256.Idx, (dat7 V c).after 2 t y = ((mmT 2048 a b (t.val * 1024 + (y 0).val) (y 1).val : ℝ) : EReal) := fun y => by
    rw [after7_2]
    unfold out7_2
    rw [View.canon_cons_unit_lit inb_S1024x256_S1024x256_0_0 _ _ (by decide), View.ld_unit_lit inb_S1024x2048_S1024x2048_0_0 _ (by decide), View.ld_unit_lit inb_S256x2048_S256x2048_0_0 _ (by decide)]
    idx_vars y
    rw [pay7 (a := fun r k => a (t.val * 1024 + r) k) (b := fun r k => b r k) b0 b1]
    rfl
  refine (out y).trans ?_
  idx_vars y
  blk_simp [idx7 t]

end Cert.Kernel5Ideal.Lat
end
-- ==== Proof.LatBackNorm.lean ====
module

public import proofs.«01_k».proof.Proof.Gen.Kernel5Ideal.Frame.Region8
public import proofs.«01_k».proof.Proof.Gen.Kernel5Ideal.Frame.Region9
public import proofs.«01_k».proof.Proof.LatSub
public import Idealize.ShloMosaic.Lib.Pipeline.ReadBack
public import Idealize.ShloMosaic.Lib.Pipeline.ValueKit

@[expose] public section

set_option maxRecDepth 16384

noncomputable section

/-! The gradients through the two normalizations, as real numbers. -/

namespace Cert.Kernel5Ideal.Lat

open Cert.Kernel5Ideal Cert.Kernel5Ideal.Gen Idealize.ShloMosaic Idealize.ShloMosaic.TcCoe Idealize.SL.Sem
open Cert.AttnReal Cert.LatReal
open Cert.FfnReal (mm mmT tmm eps eps_bits)

variable (V : (c : Dev nD) → (b : Ref sig .tc) → Buf (Elt Ideal) ((c : Thread nD τ).loc b)) (c : Dev nD)

/-! ## The queries' columns -/

/-- The mean square's reciprocal root, of a block. -/
theorem pay8_inv {x : Vec Ideal S512x384 .f32} {a : ℕ → ℕ → ℝ} (hx : ∀ (r : Fin 512) (k : Fin 384), x (ix2 r k) = ((a r k : ℝ) : EReal)) (r : Fin 512) :
    k8_pay3 x (ix2 r 0) = ((inv 384 a r : ℝ) : EReal) := by
  pointwise [k8_pay3]
  simp only [hx, ← EReal.coe_mul, coe_sum, bits_384, eps_bits, Ideal.div_coe (show ((384 : ℕ) : ℝ) ≠ 0 by norm_num), ← EReal.coe_add]
  exact rsqrt_var 384 a r

theorem pay8_dx {x e : Vec Ideal S512x384 .f32} {z : Vec Ideal S1x384 .f32} {a b : ℕ → ℕ → ℝ} {g : ℕ → ℝ}
    (hx : ∀ (r : Fin 512) (k : Fin 384), x (ix2 r k) = ((a r k : ℝ) : EReal)) (he : ∀ (r : Fin 512) (k : Fin 384), e (ix2 r k) = ((b r k : ℝ) : EReal))
    (hz : ∀ k : Fin 384, z (ix2 0 k) = ((g k : ℝ) : EReal))
    (r : Fin 512) (j : Fin 384) : k8_pay4 x e z (ix2 r j) = ((dnorm 384 a g b r j : ℝ) : EReal) := by
  have hr := pay8_inv hx
  pointwise [k8_pay4, k8_pay2]
  simp only [hr, hx, he, hz, ← EReal.coe_mul, coe_sum, bits_384, Ideal.div_coe (show ((384 : ℕ) : ℝ) ≠ 0 by norm_num), ← EReal.coe_add, ← EReal.coe_sub]
  rfl

theorem pay8_dg {x e : Vec Ideal S512x384 .f32} {A : Vec Ideal S1x384 .f32} {a b : ℕ → ℕ → ℝ}
    (hx : ∀ (r : Fin 512) (k : Fin 384), x (ix2 r k) = ((a r k : ℝ) : EReal)) (he : ∀ (r : Fin 512) (k : Fin 384), e (ix2 r k) = ((b r k : ℝ) : EReal))
    (j : Fin 384) : k8_pay1 x (k8_pay2 e) (k8_pay3 x) A (ix2 0 j) = A (ix2 0 j) + ((dscale 384 a b 512 j : ℝ) : EReal) := by
  have hr := pay8_inv hx
  pointwise [k8_pay1, k8_pay2]
  simp only [hr, hx, he, ← EReal.coe_mul, coe_sum]
  rfl

theorem idx8 : ∀ t : Fin cfg8.N, win8_0.index t = ![t.val, 8] ∧ win8_1.index t = ![0, 0] ∧ win8_2.index t = ![t.val, 0]
    ∧ win8_3.index t = ![t.val, 0] ∧ win8_4.index t = ![t.val, 0] ∧ win8_5.index t = ![0, 0] := by decide +kernel

section Point
variable {V c} (t : Fin cfg8.N) {a b : ℕ → ℕ → ℝ} {g : ℕ → ℝ}
  (h0 : ∀ (r : Fin 512) (k : Fin 384), iblk8 V c 0 t (ix2 r k) = ((a r k : ℝ) : EReal)) (h1 : ∀ k : Fin 384, iblk8 V c 1 t (ix2 0 k) = ((g k : ℝ) : EReal))
  (h2 : ∀ (r : Fin 512) (k : Fin 384), iblk8 V c 2 t (ix2 r k) = ((b r k : ℝ) : EReal))

include h0 h1 h2

theorem dx_block8 (y : S512x384.Idx) : (outsAt8 V c t.val t.isLt).2.1 y = ((dnorm 384 a g b (y 0).val (y 1).val : ℝ) : EReal) := by
  by_cases ht : t.val % 4 = 0
  · rw [outsAt8_A V c t ht]
    frame_out
    idx_vars y
    exact pay8_dx h0 h2 h1 y0 y1
  · rw [outsAt8_B V c t ht]
    frame_out
    idx_vars y
    exact pay8_dx h0 h2 h1 y0 y1

omit h1 in
theorem dg_step8 (ht : ¬t.val % 4 = 0) (y : S1x384.Idx) :
    (outsAt8 V c t.val t.isLt).2.2 y
      = (outsAt8 V c (t.val - 1) (Nat.lt_of_le_of_lt (Nat.sub_le _ _) t.isLt)).2.2 y + ((dscale 384 a b 512 (y 1).val : ℝ) : EReal) := by
  rw [outsAt8_B V c t ht]
  frame_out
  idx_vars y
  obtain rfl : y0 = 0 := Subsingleton.elim _ _
  exact (pay8_dg h0 h2 y1).trans (congrArg (· + _) (by pointwise [k8_pay7]))

omit h1 in
theorem dg_first8 (ht : t.val % 4 = 0) (y : S1x384.Idx) :
    (outsAt8 V c t.val t.isLt).2.2 y = 0 + ((dscale 384 a b 512 (y 1).val : ℝ) : EReal) := by
  have hz : (k8_pay6 (F := Ideal)) y = (0 : EReal) := by
    idx_vars y
    pointwise [k8_pay6]
  rw [outsAt8_A V c t ht]
  frame_out
  idx_vars y
  obtain rfl : y0 = 0 := Subsingleton.elim _ _
  exact Eq.trans (pay8_dg h0 h2 y1) (congrArg (· + _) hz)

end Point

section Arrays
variable {V c} {a b : ℕ → ℕ → ℝ} {g : ℕ → ℝ}
  (h0 : ∀ i : S2048x3840.Idx, V c main_arg0 i = ((a (i 0).val (i 1).val : ℝ) : EReal)) (h1 : ∀ i : S1x384.Idx, V c main_v10 i = ((g (i 1).val : ℝ) : EReal))
  (h2 : ∀ i : S2048x384.Idx, V c main_v7 i = ((b (i 0).val (i 1).val : ℝ) : EReal))

include h0 in
theorem row8_0 (t : Fin cfg8.N) (r : Fin 512) (k : Fin 384) : iblk8 V c 0 t (ix2 r k) = ((a (t.val * 512 + r.val) (8 * 384 + k.val) : ℝ) : EReal) := by
  have ht : t.val < 4 := lt_of_lt_of_eq t.isLt N_8
  refine Eq.trans ?_ (h0 (ix2 ⟨t.val * 512 + r.val, by omega⟩ ⟨8 * 384 + k.val, by omega⟩))
  blk_ext [iblk8, idx8 t]

include h1 in
theorem row8_1 (t : Fin cfg8.N) (k : Fin 384) : iblk8 V c 1 t (ix2 0 k) = ((g k : ℝ) : EReal) := by
  refine Eq.trans ?_ (h1 (ix2 0 k))
  blk_ext [iblk8, idx8 t]

include h2 in
theorem row8_2 (t : Fin cfg8.N) (r : Fin 512) (k : Fin 384) : iblk8 V c 2 t (ix2 r k) = ((b (t.val * 512 + r.val) k : ℝ) : EReal) := by
  have ht : t.val < 4 := lt_of_lt_of_eq t.isLt N_8
  refine Eq.trans ?_ (h2 (ix2 ⟨t.val * 512 + r.val, by omega⟩ k))
  blk_ext [iblk8, idx8 t]

include h0 h1 h2

/-- The gradient of the queries' columns. -/
theorem lat_dx_q : (dat8 V c).arrAt 4 cfg8.N = fun i : S2048x384.Idx => ((dnorm 384 (fun s d => a s (8 * 384 + d)) g b (i 0).val (i 1).val : ℝ) : EReal) := by
  refine (dat8 V c).arrAt_eq_of_covers 4 _ (by decide +kernel) fun t hf y => ?_
  rw [after8_4]
  refine (dx_block8 t (a := fun r k => a (t.val * 512 + r) (8 * 384 + k)) (b := fun r k => b (t.val * 512 + r) k) (row8_0 h0 t) (row8_1 h1 t) (row8_2 h2 t) y).trans ?_
  idx_vars y
  blk_simp [idx8 t]
  rfl

omit h1 in
/-- Its scale's gradient. -/
theorem lat_dg_q : (dat8 V c).arrAt 5 cfg8.N = fun i : S1x384.Idx => ((dscale 384 (fun s d => a s (8 * 384 + d)) b 2048 (i 1).val : ℝ) : EReal) := by
  refine (dat8 V c).arrAt_eq_of_after_last 5 t8_3 (by decide +kernel) _ fun j => ?_
  blk_simp
  rw [after8_5, Pipeline.eq_sum_fin_of_reset_step_apply_last (fun n h => (outsAt8 V c n h).2.2) 4 (fun _ => 0)
    (fun t j => ((dscale 384 (fun r k => a (t.val * 512 + r) (8 * 384 + k)) (fun r k => b (t.val * 512 + r) k) 512 (j 1).val : ℝ) : EReal))
    (fun t h j => dg_first8 t (a := fun r k => a (t.val * 512 + r) (8 * 384 + k)) (b := fun r k => b (t.val * 512 + r) k) (row8_0 h0 t) (row8_2 h2 t) h j)
    (fun t h j => dg_step8 t (a := fun r k => a (t.val * 512 + r) (8 * 384 + k)) (b := fun r k => b (t.val * 512 + r) k) (row8_0 h0 t) (row8_2 h2 t) h j)
    (le_of_eq N_8) t8_3 rfl j]
  rw [zero_add, coe_sum]
  refine congrArg _ (Eq.trans ?_ (Fin.sum_mul_add_fin 4 512 (fun s : Fin 2048 => b s (j 1).val * a s (8 * 384 + (j 1).val) * inv 384 (fun s d => a s (8 * 384 + d)) s) rfl))
  rfl

end Arrays

/-! ## The keys' and values' columns -/

/-- The mean square's reciprocal root, of a block. -/
theorem pay9_inv {x : Vec Ideal S512x256 .f32} {a : ℕ → ℕ → ℝ} (hx : ∀ (r : Fin 512) (k : Fin 256), x (ix2 r k) = ((a r k : ℝ) : EReal)) (r : Fin 512) :
    k9_pay3 x (ix2 r 0) = ((inv 256 a r : ℝ) : EReal) := by
  pointwise [k9_pay3]
  simp only [hx, ← EReal.coe_mul, coe_sum, bits_256, eps_bits, Ideal.div_coe (show ((256 : ℕ) : ℝ) ≠ 0 by norm_num), ← EReal.coe_add]
  exact rsqrt_var 256 a r

theorem pay9_dx {x e : Vec Ideal S512x256 .f32} {z : Vec Ideal S1x256 .f32} {a b : ℕ → ℕ → ℝ} {g : ℕ → ℝ}
    (hx : ∀ (r : Fin 512) (k : Fin 256), x (ix2 r k) = ((a r k : ℝ) : EReal)) (he : ∀ (r : Fin 512) (k : Fin 256), e (ix2 r k) = ((b r k : ℝ) : EReal))
    (hz : ∀ k : Fin 256, z (ix2 0 k) = ((g k : ℝ) : EReal))
    (r : Fin 512) (j : Fin 256) : k9_pay4 x e z (ix2 r j) = ((dnorm 256 a g b r j : ℝ) : EReal) := by
  have hr := pay9_inv hx
  pointwise [k9_pay4, k9_pay2]
  simp only [hr, hx, he, hz, ← EReal.coe_mul, coe_sum, bits_256, Ideal.div_coe (show ((256 : ℕ) : ℝ) ≠ 0 by norm_num), ← EReal.coe_add, ← EReal.coe_sub]
  rfl

theorem pay9_dg {x e : Vec Ideal S512x256 .f32} {A : Vec Ideal S1x256 .f32} {a b : ℕ → ℕ → ℝ}
    (hx : ∀ (r : Fin 512) (k : Fin 256), x (ix2 r k) = ((a r k : ℝ) : EReal)) (he : ∀ (r : Fin 512) (k : Fin 256), e (ix2 r k) = ((b r k : ℝ) : EReal))
    (j : Fin 256) : k9_pay1 x (k9_pay2 e) (k9_pay3 x) A (ix2 0 j) = A (ix2 0 j) + ((dscale 256 a b 512 j : ℝ) : EReal) := by
  have hr := pay9_inv hx
  pointwise [k9_pay1, k9_pay2]
  simp only [hr, hx, he, ← EReal.coe_mul, coe_sum]
  rfl

theorem idx9 : ∀ t : Fin cfg9.N, win9_0.index t = ![t.val, 14] ∧ win9_1.index t = ![0, 0] ∧ win9_2.index t = ![t.val, 0]
    ∧ win9_3.index t = ![t.val, 0] ∧ win9_4.index t = ![t.val, 0] ∧ win9_5.index t = ![0, 0] := by decide +kernel

section Point
variable {V c} (t : Fin cfg9.N) {a b : ℕ → ℕ → ℝ} {g : ℕ → ℝ}
  (h0 : ∀ (r : Fin 512) (k : Fin 256), iblk9 V c 0 t (ix2 r k) = ((a r k : ℝ) : EReal)) (h1 : ∀ k : Fin 256, iblk9 V c 1 t (ix2 0 k) = ((g k : ℝ) : EReal))
  (h2 : ∀ (r : Fin 512) (k : Fin 256), iblk9 V c 2 t (ix2 r k) = ((b r k : ℝ) : EReal))

include h0 h1 h2

theorem dx_block9 (y : S512x256.Idx) : (outsAt9 V c t.val t.isLt).2.1 y = ((dnorm 256 a g b (y 0).val (y 1).val : ℝ) : EReal) := by
  by_cases ht : t.val % 4 = 0
  · rw [outsAt9_A V c t ht]
    frame_out
    idx_vars y
    exact pay9_dx h0 h2 h1 y0 y1
  · rw [outsAt9_B V c t ht]
    frame_out
    idx_vars y
    exact pay9_dx h0 h2 h1 y0 y1

omit h1 in
theorem dg_step9 (ht : ¬t.val % 4 = 0) (y : S1x256.Idx) :
    (outsAt9 V c t.val t.isLt).2.2 y
      = (outsAt9 V c (t.val - 1) (Nat.lt_of_le_of_lt (Nat.sub_le _ _) t.isLt)).2.2 y + ((dscale 256 a b 512 (y 1).val : ℝ) : EReal) := by
  rw [outsAt9_B V c t ht]
  frame_out
  idx_vars y
  obtain rfl : y0 = 0 := Subsingleton.elim _ _
  exact (pay9_dg h0 h2 y1).trans (congrArg (· + _) (by pointwise [k9_pay7]))

omit h1 in
theorem dg_first9 (ht : t.val % 4 = 0) (y : S1x256.Idx) :
    (outsAt9 V c t.val t.isLt).2.2 y = 0 + ((dscale 256 a b 512 (y 1).val : ℝ) : EReal) := by
  have hz : (k9_pay6 (F := Ideal)) y = (0 : EReal) := by
    idx_vars y
    pointwise [k9_pay6]
  rw [outsAt9_A V c t ht]
  frame_out
  idx_vars y
  obtain rfl : y0 = 0 := Subsingleton.elim _ _
  exact Eq.trans (pay9_dg h0 h2 y1) (congrArg (· + _) hz)

end Point

section Arrays
variable {V c} {a b : ℕ → ℕ → ℝ} {g : ℕ → ℝ}
  (h0 : ∀ i : S2048x3840.Idx, V c main_arg0 i = ((a (i 0).val (i 1).val : ℝ) : EReal)) (h1 : ∀ i : S1x256.Idx, V c main_v13 i = ((g (i 1).val : ℝ) : EReal))
  (h2 : ∀ i : S2048x256.Idx, V c main_v9 i = ((b (i 0).val (i 1).val : ℝ) : EReal))

include h0 in
theorem row9_0 (t : Fin cfg9.N) (r : Fin 512) (k : Fin 256) : iblk9 V c 0 t (ix2 r k) = ((a (t.val * 512 + r.val) (14 * 256 + k.val) : ℝ) : EReal) := by
  have ht : t.val < 4 := lt_of_lt_of_eq t.isLt N_9
  refine Eq.trans ?_ (h0 (ix2 ⟨t.val * 512 + r.val, by omega⟩ ⟨14 * 256 + k.val, by omega⟩))
  blk_ext [iblk9, idx9 t]

include h1 in
theorem row9_1 (t : Fin cfg9.N) (k : Fin 256) : iblk9 V c 1 t (ix2 0 k) = ((g k : ℝ) : EReal) := by
  refine Eq.trans ?_ (h1 (ix2 0 k))
  blk_ext [iblk9, idx9 t]

include h2 in
theorem row9_2 (t : Fin cfg9.N) (r : Fin 512) (k : Fin 256) : iblk9 V c 2 t (ix2 r k) = ((b (t.val * 512 + r.val) k : ℝ) : EReal) := by
  have ht : t.val < 4 := lt_of_lt_of_eq t.isLt N_9
  refine Eq.trans ?_ (h2 (ix2 ⟨t.val * 512 + r.val, by omega⟩ k))
  blk_ext [iblk9, idx9 t]

include h0 h1 h2

/-- The gradient of the keys' and values' columns. -/
theorem lat_dx_k : (dat9 V c).arrAt 4 cfg9.N = fun i : S2048x256.Idx => ((dnorm 256 (fun s d => a s (14 * 256 + d)) g b (i 0).val (i 1).val : ℝ) : EReal) := by
  refine (dat9 V c).arrAt_eq_of_covers 4 _ (by decide +kernel) fun t hf y => ?_
  rw [after9_4]
  refine (dx_block9 t (a := fun r k => a (t.val * 512 + r) (14 * 256 + k)) (b := fun r k => b (t.val * 512 + r) k) (row9_0 h0 t) (row9_1 h1 t) (row9_2 h2 t) y).trans ?_
  idx_vars y
  blk_simp [idx9 t]
  rfl

omit h1 in
/-- Its scale's gradient. -/
theorem lat_dg_k : (dat9 V c).arrAt 5 cfg9.N = fun i : S1x256.Idx => ((dscale 256 (fun s d => a s (14 * 256 + d)) b 2048 (i 1).val : ℝ) : EReal) := by
  refine (dat9 V c).arrAt_eq_of_after_last 5 t9_3 (by decide +kernel) _ fun j => ?_
  blk_simp
  rw [after9_5, Pipeline.eq_sum_fin_of_reset_step_apply_last (fun n h => (outsAt9 V c n h).2.2) 4 (fun _ => 0)
    (fun t j => ((dscale 256 (fun r k => a (t.val * 512 + r) (14 * 256 + k)) (fun r k => b (t.val * 512 + r) k) 512 (j 1).val : ℝ) : EReal))
    (fun t h j => dg_first9 t (a := fun r k => a (t.val * 512 + r) (14 * 256 + k)) (b := fun r k => b (t.val * 512 + r) k) (row9_0 h0 t) (row9_2 h2 t) h j)
    (fun t h j => dg_step9 t (a := fun r k => a (t.val * 512 + r) (14 * 256 + k)) (b := fun r k => b (t.val * 512 + r) k) (row9_0 h0 t) (row9_2 h2 t) h j)
    (le_of_eq N_9) t9_3 rfl j]
  rw [zero_add, coe_sum]
  refine congrArg _ (Eq.trans ?_ (Fin.sum_mul_add_fin 4 512 (fun s : Fin 2048 => b s (j 1).val * a s (14 * 256 + (j 1).val) * inv 256 (fun s d => a s (14 * 256 + d)) s) rfl))
  rfl

end Arrays

end Cert.Kernel5Ideal.Lat
end
-- ==== Proof.LatProgram.lean ====
module

public import proofs.«01_k».proof.Proof.Gen.Kernel5Ideal.Frame.Fold0
public import proofs.«01_k».proof.Proof.LatNorm
public import proofs.«01_k».proof.Proof.LatProducts
public import proofs.«01_k».proof.Proof.LatBackNorm

@[expose] public section

set_option maxRecDepth 16384

noncomputable section

/-! What every buffer of the program of the latent attention's projections holds at the boundary where it is read, over the real numbers: each region's
    result from what it reads, carried over the regions and host stretches that leave it alone. -/

namespace Cert.Kernel5Ideal.Lat

open Cert.Kernel5Ideal Cert.Kernel5Ideal.Gen Idealize.ShloMosaic Idealize.ShloMosaic.TcCoe Idealize.SL.Sem Cert.AttnReal Cert.LatReal

variable (m : (ℓ : Loc nD τ sig) → Buf (Elt Ideal) ℓ) (ρ : Dev nD → PrngReg) (c : Dev nD)

/-- The arguments hold the real arrays of `p`. -/
structure Holds (p : LatReal.Lat) : Prop where
  x : ∀ i : S2048x3840.Idx, m ((c : Thread nD τ).loc main_arg0) i = ((p.x (i 0).val (i 1).val : ℝ) : EReal)
  gq : ∀ i : S384.Idx, m ((c : Thread nD τ).loc main_arg1) i = ((p.gq (i 0).val : ℝ) : EReal)
  gk : ∀ i : S256.Idx, m ((c : Thread nD τ).loc main_arg2) i = ((p.gk (i 0).val : ℝ) : EReal)
  wq : ∀ i : S384x2048.Idx, m ((c : Thread nD τ).loc main_arg3) i = ((p.wq (i 0).val (i 1).val : ℝ) : EReal)
  wk : ∀ i : S256x2048.Idx, m ((c : Thread nD τ).loc main_arg4) i = ((p.wk (i 0).val (i 1).val : ℝ) : EReal)
  dq : ∀ i : S2048x2048.Idx, m ((c : Thread nD τ).loc main_arg5) i = ((p.dq (i 0).val (i 1).val : ℝ) : EReal)
  dk : ∀ i : S2048x2048.Idx, m ((c : Thread nD τ).loc main_arg6) i = ((p.dk (i 0).val (i 1).val : ℝ) : EReal)

variable {m c} {p : LatReal.Lat}

theorem v0_1 (H : Holds m c p) (i : S1x384.Idx) : W1 m ρ c (Proc.devRef .tc main_v0) i = ((p.gq (i 1).val : ℝ) : EReal) := by
  have h : W1 m ρ c (Proc.devRef .tc main_v0) = shapeCast S1x384 (W0 m ρ c (Proc.devRef .tc main_arg1)) shapeCasts_S384_S1x384 := by
    show StableHlo.after hostOps0 (W0 m ρ c) (Proc.devRef .tc main_v0) = _
    after_results
    all_goals rfl
  rw [h]
  idx_vars i
  pointwise
  exact (congrFun (W0_args m ρ c main_arg1 (by decide)) _).trans (H.gq _)

theorem v1_2 (H : Holds m c p) (i : S2048x384.Idx) : W2 m ρ c (Proc.devRef .tc main_v1) i = ((p.q.h 384 (i 0).val (i 1).val : ℝ) : EReal) :=
  congrFun ((W2_arr m ρ c 2).trans (lat_norm_q (V1 m ρ) c (fun i => (congrFun (W1_args m ρ c main_arg0 (by decide)) i).trans (H.x i)) (v0_1 ρ H))) i

theorem v2_3 (H : Holds m c p) (i : S1x256.Idx) : W3 m ρ c (Proc.devRef .tc main_v2) i = ((p.gk (i 1).val : ℝ) : EReal) := by
  have h : W3 m ρ c (Proc.devRef .tc main_v2) = shapeCast S1x256 (W2 m ρ c (Proc.devRef .tc main_arg2)) shapeCasts_S256_S1x256 := by
    show StableHlo.after hostOps1 (W2 m ρ c) (Proc.devRef .tc main_v2) = _
    after_results
    all_goals rfl
  rw [h]
  idx_vars i
  pointwise
  exact (congrFun (W2_args m ρ c main_arg2 (by decide)) _).trans (H.gk _)

theorem v3_4 (H : Holds m c p) (i : S2048x256.Idx) : W4 m ρ c (Proc.devRef .tc main_v3) i = ((p.k.h 256 (i 0).val (i 1).val : ℝ) : EReal) :=
  congrFun ((W4_arr m ρ c 2).trans (lat_norm_k (V3 m ρ) c (fun i => (congrFun (W3_args m ρ c main_arg0 (by decide)) i).trans (H.x i)) (v2_3 ρ H))) i

theorem v1_2_4 : W4 m ρ c (Proc.devRef .tc main_v1) = W2 m ρ c (Proc.devRef .tc main_v1) :=
  (W4_of m ρ c main_v1 (by decide +kernel)).trans
    ((W3_of m ρ c main_v1 (by decide +kernel)))

theorem v1_4 (H : Holds m c p) (i : S2048x384.Idx) : W4 m ρ c (Proc.devRef .tc main_v1) i = ((p.q.h 384 (i 0).val (i 1).val : ℝ) : EReal) :=
  (congrFun (v1_2_4 ρ) i).trans (v1_2 ρ H i)

theorem v4_5 (H : Holds m c p) (i : S2048x2048.Idx) : W5 m ρ c (Proc.devRef .tc main_v4) i = ((p.q.y 384 (i 0).val (i 1).val : ℝ) : EReal) :=
  congrFun ((W5_arr m ρ c 2).trans (lat_q (V4 m ρ) c (v1_4 ρ H) (fun i => (congrFun (W4_args m ρ c main_arg3 (by decide)) i).trans (H.wq i)))) i

theorem v3_4_5 : W5 m ρ c (Proc.devRef .tc main_v3) = W4 m ρ c (Proc.devRef .tc main_v3) :=
  (W5_of m ρ c main_v3 (by decide +kernel))

theorem v3_5 (H : Holds m c p) (i : S2048x256.Idx) : W5 m ρ c (Proc.devRef .tc main_v3) i = ((p.k.h 256 (i 0).val (i 1).val : ℝ) : EReal) :=
  (congrFun (v3_4_5 ρ) i).trans (v3_4 ρ H i)

theorem v5_6 (H : Holds m c p) (i : S2048x2048.Idx) : W6 m ρ c (Proc.devRef .tc main_v5) i = ((p.k.y 256 (i 0).val (i 1).val : ℝ) : EReal) :=
  congrFun ((W6_arr m ρ c 2).trans (lat_kv (V5 m ρ) c (v3_5 ρ H) (fun i => (congrFun (W5_args m ρ c main_arg4 (by decide)) i).trans (H.wk i)))) i

theorem v1_4_6 : W6 m ρ c (Proc.devRef .tc main_v1) = W4 m ρ c (Proc.devRef .tc main_v1) :=
  (W6_of m ρ c main_v1 (by decide +kernel)).trans
    ((W5_of m ρ c main_v1 (by decide +kernel)))

theorem v1_6 (H : Holds m c p) (i : S2048x384.Idx) : W6 m ρ c (Proc.devRef .tc main_v1) i = ((p.q.h 384 (i 0).val (i 1).val : ℝ) : EReal) :=
  (congrFun (v1_4_6 ρ) i).trans (v1_4 ρ H i)

theorem v6_7 (H : Holds m c p) (i : S384x2048.Idx) : W7 m ρ c (Proc.devRef .tc main_v6) i = ((p.q.dw 384 (i 0).val (i 1).val : ℝ) : EReal) :=
  congrFun ((W7_arr m ρ c 2).trans (lat_dwq (V6 m ρ) c (v1_6 ρ H) (fun i => (congrFun (W6_args m ρ c main_arg5 (by decide)) i).trans (H.dq i)))) i

theorem v7_8 (H : Holds m c p) (i : S2048x384.Idx) : W8 m ρ c (Proc.devRef .tc main_v7) i = ((p.q.dh (i 0).val (i 1).val : ℝ) : EReal) :=
  congrFun ((W8_arr m ρ c 2).trans (lat_dhq (V7 m ρ) c (fun i => (congrFun (W7_args m ρ c main_arg5 (by decide)) i).trans (H.dq i)) (fun i => (congrFun (W7_args m ρ c main_arg3 (by decide)) i).trans (H.wq i)))) i

theorem v3_5_8 : W8 m ρ c (Proc.devRef .tc main_v3) = W5 m ρ c (Proc.devRef .tc main_v3) :=
  (W8_of m ρ c main_v3 (by decide +kernel)).trans
    ((W7_of m ρ c main_v3 (by decide +kernel)).trans
    ((W6_of m ρ c main_v3 (by decide +kernel))))

theorem v3_8 (H : Holds m c p) (i : S2048x256.Idx) : W8 m ρ c (Proc.devRef .tc main_v3) i = ((p.k.h 256 (i 0).val (i 1).val : ℝ) : EReal) :=
  (congrFun (v3_5_8 ρ) i).trans (v3_5 ρ H i)

theorem v8_9 (H : Holds m c p) (i : S256x2048.Idx) : W9 m ρ c (Proc.devRef .tc main_v8) i = ((p.k.dw 256 (i 0).val (i 1).val : ℝ) : EReal) :=
  congrFun ((W9_arr m ρ c 2).trans (lat_dwk (V8 m ρ) c (v3_8 ρ H) (fun i => (congrFun (W8_args m ρ c main_arg6 (by decide)) i).trans (H.dk i)))) i

theorem v9_10 (H : Holds m c p) (i : S2048x256.Idx) : W10 m ρ c (Proc.devRef .tc main_v9) i = ((p.k.dh (i 0).val (i 1).val : ℝ) : EReal) :=
  congrFun ((W10_arr m ρ c 2).trans (lat_dhk (V9 m ρ) c (fun i => (congrFun (W9_args m ρ c main_arg6 (by decide)) i).trans (H.dk i)) (fun i => (congrFun (W9_args m ρ c main_arg4 (by decide)) i).trans (H.wk i)))) i

theorem v10_11 (H : Holds m c p) (i : S1x384.Idx) : W11 m ρ c (Proc.devRef .tc main_v10) i = ((p.gq (i 1).val : ℝ) : EReal) := by
  have h : W11 m ρ c (Proc.devRef .tc main_v10) = shapeCast S1x384 (W10 m ρ c (Proc.devRef .tc main_arg1)) shapeCasts_S384_S1x384 := by
    show StableHlo.after hostOps8 (W10 m ρ c) (Proc.devRef .tc main_v10) = _
    after_results
    all_goals rfl
  rw [h]
  idx_vars i
  pointwise
  exact (congrFun (W10_args m ρ c main_arg1 (by decide)) _).trans (H.gq _)

theorem v7_8_11 : W11 m ρ c (Proc.devRef .tc main_v7) = W8 m ρ c (Proc.devRef .tc main_v7) :=
  (W11_of m ρ c main_v7 (by decide +kernel)).trans
    ((W10_of m ρ c main_v7 (by decide +kernel)).trans
    ((W9_of m ρ c main_v7 (by decide +kernel))))

theorem v7_11 (H : Holds m c p) (i : S2048x384.Idx) : W11 m ρ c (Proc.devRef .tc main_v7) i = ((p.q.dh (i 0).val (i 1).val : ℝ) : EReal) :=
  (congrFun (v7_8_11 ρ) i).trans (v7_8 ρ H i)

theorem v11_1_12 (H : Holds m c p) (i : S2048x384.Idx) : W12 m ρ c (Proc.devRef .tc main_v11_1) i = ((p.q.dx 384 (i 0).val (i 1).val : ℝ) : EReal) :=
  congrFun ((W12_arr m ρ c 4).trans (lat_dx_q (V := V11 m ρ) (c := c) (fun i => (congrFun (W11_args m ρ c main_arg0 (by decide)) i).trans (H.x i)) (v10_11 ρ H) (v7_11 ρ H))) i

theorem v11_2_12 (H : Holds m c p) (i : S1x384.Idx) : W12 m ρ c (Proc.devRef .tc main_v11_2) i = ((p.q.dg 384 (i 1).val : ℝ) : EReal) :=
  congrFun ((W12_arr m ρ c 5).trans (lat_dg_q (V := V11 m ρ) (c := c) (fun i => (congrFun (W11_args m ρ c main_arg0 (by decide)) i).trans (H.x i)) (v7_11 ρ H))) i

theorem v12_13 (H : Holds m c p) (i : S384.Idx) : W13 m ρ c (Proc.devRef .tc main_v12) i = ((p.q.dg 384 (i 0).val : ℝ) : EReal) := by
  have h : W13 m ρ c (Proc.devRef .tc main_v12) = shapeCast S384 (W12 m ρ c (Proc.devRef .tc main_v11_2)) shapeCasts_S1x384_S384 := by
    show StableHlo.after hostOps9 (W12 m ρ c) (Proc.devRef .tc main_v12) = _
    after_results
    all_goals rfl
  rw [h]
  refine Eq.trans ?_ (v11_2_12 ρ H (ix2 (0 : Fin 1) (i 0)))
  generalize W12 m ρ c (Proc.devRef .tc main_v11_2) = q
  idx_vars i
  pointwise

theorem v13_13 (H : Holds m c p) (i : S1x256.Idx) : W13 m ρ c (Proc.devRef .tc main_v13) i = ((p.gk (i 1).val : ℝ) : EReal) := by
  have h : W13 m ρ c (Proc.devRef .tc main_v13) = shapeCast S1x256 (W12 m ρ c (Proc.devRef .tc main_arg2)) shapeCasts_S256_S1x256 := by
    show StableHlo.after hostOps9 (W12 m ρ c) (Proc.devRef .tc main_v13) = _
    after_results
    all_goals rfl
  rw [h]
  idx_vars i
  pointwise
  exact (congrFun (W12_args m ρ c main_arg2 (by decide)) _).trans (H.gk _)

theorem v9_10_13 : W13 m ρ c (Proc.devRef .tc main_v9) = W10 m ρ c (Proc.devRef .tc main_v9) :=
  (W13_of m ρ c main_v9 (by decide +kernel)).trans
    ((W12_of m ρ c main_v9 (by decide +kernel)).trans
    ((W11_of m ρ c main_v9 (by decide +kernel))))

theorem v9_13 (H : Holds m c p) (i : S2048x256.Idx) : W13 m ρ c (Proc.devRef .tc main_v9) i = ((p.k.dh (i 0).val (i 1).val : ℝ) : EReal) :=
  (congrFun (v9_10_13 ρ) i).trans (v9_10 ρ H i)

theorem v14_1_14 (H : Holds m c p) (i : S2048x256.Idx) : W14 m ρ c (Proc.devRef .tc main_v14_1) i = ((p.k.dx 256 (i 0).val (i 1).val : ℝ) : EReal) :=
  congrFun ((W14_arr m ρ c 4).trans (lat_dx_k (V := V13 m ρ) (c := c) (fun i => (congrFun (W13_args m ρ c main_arg0 (by decide)) i).trans (H.x i)) (v13_13 ρ H) (v9_13 ρ H))) i

theorem v14_2_14 (H : Holds m c p) (i : S1x256.Idx) : W14 m ρ c (Proc.devRef .tc main_v14_2) i = ((p.k.dg 256 (i 1).val : ℝ) : EReal) :=
  congrFun ((W14_arr m ρ c 5).trans (lat_dg_k (V := V13 m ρ) (c := c) (fun i => (congrFun (W13_args m ρ c main_arg0 (by decide)) i).trans (H.x i)) (v9_13 ρ H))) i

theorem v15_15 (H : Holds m c p) (i : S256.Idx) : W15 m ρ c (Proc.devRef .tc main_v15) i = ((p.k.dg 256 (i 0).val : ℝ) : EReal) := by
  have h : W15 m ρ c (Proc.devRef .tc main_v15) = shapeCast S256 (W14 m ρ c (Proc.devRef .tc main_v14_2)) shapeCasts_S1x256_S256 := by
    show StableHlo.after hostOps10 (W14 m ρ c) (Proc.devRef .tc main_v15) = _
    after_results
    all_goals rfl
  rw [h]
  refine Eq.trans ?_ (v14_2_14 ρ H (ix2 (0 : Fin 1) (i 0)))
  generalize W14 m ρ c (Proc.devRef .tc main_v14_2) = q
  idx_vars i
  pointwise

theorem v4_5_15 : W15 m ρ c (Proc.devRef .tc main_v4) = W5 m ρ c (Proc.devRef .tc main_v4) :=
  (W15_of m ρ c main_v4 (by decide +kernel)).trans
    ((W14_of m ρ c main_v4 (by decide +kernel)).trans
    ((W13_of m ρ c main_v4 (by decide +kernel)).trans
    ((W12_of m ρ c main_v4 (by decide +kernel)).trans
    ((W11_of m ρ c main_v4 (by decide +kernel)).trans
    ((W10_of m ρ c main_v4 (by decide +kernel)).trans
    ((W9_of m ρ c main_v4 (by decide +kernel)).trans
    ((W8_of m ρ c main_v4 (by decide +kernel)).trans
    ((W7_of m ρ c main_v4 (by decide +kernel)).trans
    ((W6_of m ρ c main_v4 (by decide +kernel)))))))))))

theorem v4_15 (H : Holds m c p) (i : S2048x2048.Idx) : W15 m ρ c (Proc.devRef .tc main_v4) i = ((p.q.y 384 (i 0).val (i 1).val : ℝ) : EReal) :=
  (congrFun (v4_5_15 ρ) i).trans (v4_5 ρ H i)

theorem v5_6_15 : W15 m ρ c (Proc.devRef .tc main_v5) = W6 m ρ c (Proc.devRef .tc main_v5) :=
  (W15_of m ρ c main_v5 (by decide +kernel)).trans
    ((W14_of m ρ c main_v5 (by decide +kernel)).trans
    ((W13_of m ρ c main_v5 (by decide +kernel)).trans
    ((W12_of m ρ c main_v5 (by decide +kernel)).trans
    ((W11_of m ρ c main_v5 (by decide +kernel)).trans
    ((W10_of m ρ c main_v5 (by decide +kernel)).trans
    ((W9_of m ρ c main_v5 (by decide +kernel)).trans
    ((W8_of m ρ c main_v5 (by decide +kernel)).trans
    ((W7_of m ρ c main_v5 (by decide +kernel))))))))))

theorem v5_15 (H : Holds m c p) (i : S2048x2048.Idx) : W15 m ρ c (Proc.devRef .tc main_v5) i = ((p.k.y 256 (i 0).val (i 1).val : ℝ) : EReal) :=
  (congrFun (v5_6_15 ρ) i).trans (v5_6 ρ H i)

theorem v11_1_12_15 : W15 m ρ c (Proc.devRef .tc main_v11_1) = W12 m ρ c (Proc.devRef .tc main_v11_1) :=
  (W15_of m ρ c main_v11_1 (by decide +kernel)).trans
    ((W14_of m ρ c main_v11_1 (by decide +kernel)).trans
    ((W13_of m ρ c main_v11_1 (by decide +kernel))))

theorem v11_1_15 (H : Holds m c p) (i : S2048x384.Idx) : W15 m ρ c (Proc.devRef .tc main_v11_1) i = ((p.q.dx 384 (i 0).val (i 1).val : ℝ) : EReal) :=
  (congrFun (v11_1_12_15 ρ) i).trans (v11_1_12 ρ H i)

theorem v14_1_14_15 : W15 m ρ c (Proc.devRef .tc main_v14_1) = W14 m ρ c (Proc.devRef .tc main_v14_1) :=
  (W15_of m ρ c main_v14_1 (by decide +kernel))

theorem v14_1_15 (H : Holds m c p) (i : S2048x256.Idx) : W15 m ρ c (Proc.devRef .tc main_v14_1) i = ((p.k.dx 256 (i 0).val (i 1).val : ℝ) : EReal) :=
  (congrFun (v14_1_14_15 ρ) i).trans (v14_1_14 ρ H i)

theorem v12_13_15 : W15 m ρ c (Proc.devRef .tc main_v12) = W13 m ρ c (Proc.devRef .tc main_v12) :=
  (W15_of m ρ c main_v12 (by decide +kernel)).trans
    ((W14_of m ρ c main_v12 (by decide +kernel)))

theorem v12_15 (H : Holds m c p) (i : S384.Idx) : W15 m ρ c (Proc.devRef .tc main_v12) i = ((p.q.dg 384 (i 0).val : ℝ) : EReal) :=
  (congrFun (v12_13_15 ρ) i).trans (v12_13 ρ H i)

theorem v6_7_15 : W15 m ρ c (Proc.devRef .tc main_v6) = W7 m ρ c (Proc.devRef .tc main_v6) :=
  (W15_of m ρ c main_v6 (by decide +kernel)).trans
    ((W14_of m ρ c main_v6 (by decide +kernel)).trans
    ((W13_of m ρ c main_v6 (by decide +kernel)).trans
    ((W12_of m ρ c main_v6 (by decide +kernel)).trans
    ((W11_of m ρ c main_v6 (by decide +kernel)).trans
    ((W10_of m ρ c main_v6 (by decide +kernel)).trans
    ((W9_of m ρ c main_v6 (by decide +kernel)).trans
    ((W8_of m ρ c main_v6 (by decide +kernel)))))))))

theorem v6_15 (H : Holds m c p) (i : S384x2048.Idx) : W15 m ρ c (Proc.devRef .tc main_v6) i = ((p.q.dw 384 (i 0).val (i 1).val : ℝ) : EReal) :=
  (congrFun (v6_7_15 ρ) i).trans (v6_7 ρ H i)

theorem v8_9_15 : W15 m ρ c (Proc.devRef .tc main_v8) = W9 m ρ c (Proc.devRef .tc main_v8) :=
  (W15_of m ρ c main_v8 (by decide +kernel)).trans
    ((W14_of m ρ c main_v8 (by decide +kernel)).trans
    ((W13_of m ρ c main_v8 (by decide +kernel)).trans
    ((W12_of m ρ c main_v8 (by decide +kernel)).trans
    ((W11_of m ρ c main_v8 (by decide +kernel)).trans
    ((W10_of m ρ c main_v8 (by decide +kernel)))))))

theorem v8_15 (H : Holds m c p) (i : S256x2048.Idx) : W15 m ρ c (Proc.devRef .tc main_v8) i = ((p.k.dw 256 (i 0).val (i 1).val : ℝ) : EReal) :=
  (congrFun (v8_9_15 ρ) i).trans (v8_9 ρ H i)

end Cert.Kernel5Ideal.Lat
end
-- ==== Proof.LatRun.lean ====
module

public import proofs.«01_k».proof.Proof.Gen.Kernel5Ideal.Frame

@[expose] public section

set_option maxRecDepth 16384

noncomputable section

/-! The run of the program of the latent attention's projections at its results: the launch is set up as the frame's, and its end read at the result
    buffers as well as at the arguments. -/

namespace Cert.Kernel5Ideal.Lat

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each result at the last boundary's contents, the arguments as launched, and the counters at zero. -/
theorem run : θ_run defs (onTc (τ := τ) (main (F := F))) ⟨m, fun _ => 0, ρ⟩ (fun r => (∀ c : Dev nD,
      r.2.mem ((c.tc : Thread nD τ).loc main_v4) = W15 m ρ c (Proc.devRef .tc main_v4)
      ∧ r.2.mem ((c.tc : Thread nD τ).loc main_v5) = W15 m ρ c (Proc.devRef .tc main_v5)
      ∧ r.2.mem ((c.tc : Thread nD τ).loc main_v11_1) = W15 m ρ c (Proc.devRef .tc main_v11_1)
      ∧ r.2.mem ((c.tc : Thread nD τ).loc main_v14_1) = W15 m ρ c (Proc.devRef .tc main_v14_1)
      ∧ r.2.mem ((c.tc : Thread nD τ).loc main_v12) = W15 m ρ c (Proc.devRef .tc main_v12)
      ∧ r.2.mem ((c.tc : Thread nD τ).loc main_v15) = W15 m ρ c (Proc.devRef .tc main_v15)
      ∧ r.2.mem ((c.tc : Thread nD τ).loc main_v6) = W15 m ρ c (Proc.devRef .tc main_v6)
      ∧ r.2.mem ((c.tc : Thread nD τ).loc main_v8) = W15 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => ⟨(fun c =>
      ⟨h c _ (mem_uc main_v4 (by decide)),
       h c _ (mem_uc main_v5 (by decide)),
       h c _ (mem_uc main_v11_1 (by decide)),
       h c _ (mem_uc main_v14_1 (by decide)),
       h c _ (mem_uc main_v12 (by decide)),
       h c _ (mem_uc main_v15 (by decide)),
       h c _ (mem_uc main_v6 (by decide)),
       h c _ (mem_uc main_v8 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c)⟩), funext fun g => hz g (.inr (no_unscoped g.2))⟩)

end Cert.Kernel5Ideal.Lat
end
-- ==== Proof.LatRef.lean ====
module

public import proofs.«01_k».proof.Proof.Gen.Reference5Ideal.Read
public import proofs.«01_k».proof.Proof.LatSub

@[expose] public section

set_option maxRecDepth 16384

noncomputable section

/-! The reference of the latent attention's projections, at an index, over the real numbers. -/

namespace Cert.Reference5Ideal.LatRef

open Cert.Reference5Ideal Cert.Reference5Ideal.Gen Cert.Reference5Ideal.Read Idealize.ShloMosaic Idealize.ShloMosaic.TcCoe Idealize.SL.Sem
open Cert.AttnReal Cert.LatReal
open Cert.FfnReal (mm mmT tmm eps eps_bits minus_half_bits)

/-- The arguments hold the real arrays of `p`. -/
structure Arrs (x0 : (⟨S2048x3840, .f32⟩ : BufTy).Contents (Elt Ideal)) (x1 : (⟨S384, .f32⟩ : BufTy).Contents (Elt Ideal))
    (x2 : (⟨S256, .f32⟩ : BufTy).Contents (Elt Ideal)) (x3 : (⟨S384x2048, .bf16⟩ : BufTy).Contents (Elt Ideal))
    (x4 : (⟨S256x2048, .bf16⟩ : BufTy).Contents (Elt Ideal)) (x5 : (⟨S2048x2048, .bf16⟩ : BufTy).Contents (Elt Ideal))
    (x6 : (⟨S2048x2048, .bf16⟩ : BufTy).Contents (Elt Ideal)) (p : Lat) : Prop where
  x : ∀ i : S2048x3840.Idx, x0 i = ((p.x (i 0).val (i 1).val : ℝ) : EReal)
  gq : ∀ i : S384.Idx, x1 i = ((p.gq (i 0).val : ℝ) : EReal)
  gk : ∀ i : S256.Idx, x2 i = ((p.gk (i 0).val : ℝ) : EReal)
  wq : ∀ i : S384x2048.Idx, x3 i = ((p.wq (i 0).val (i 1).val : ℝ) : EReal)
  wk : ∀ i : S256x2048.Idx, x4 i = ((p.wk (i 0).val (i 1).val : ℝ) : EReal)
  dq : ∀ i : S2048x2048.Idx, x5 i = ((p.dq (i 0).val (i 1).val : ℝ) : EReal)
  dk : ∀ i : S2048x2048.Idx, x6 i = ((p.dk (i 0).val (i 1).val : ℝ) : EReal)

variable {x0 : (⟨S2048x3840, .f32⟩ : BufTy).Contents (Elt Ideal)}
  {x1 : (⟨S384, .f32⟩ : BufTy).Contents (Elt Ideal)}
  {x2 : (⟨S256, .f32⟩ : BufTy).Contents (Elt Ideal)}
  {x3 : (⟨S384x2048, .bf16⟩ : BufTy).Contents (Elt Ideal)}
  {x4 : (⟨S256x2048, .bf16⟩ : BufTy).Contents (Elt Ideal)}
  {x5 x6 : (⟨S2048x2048, .bf16⟩ : BufTy).Contents (Elt Ideal)}
  {p : Lat}

/-! ## The queries' branch -/

theorem t0 (H : Arrs x0 x1 x2 x3 x4 x5 x6 p) (s : Fin 2048) (d : Fin 384) :
    val_main_v0 (F := Ideal) x0 (ix2 s d) = ((p.q.x s d : ℝ) : EReal) := by
  pointwise [val_main_v0]
  exact H.x _

theorem t10 (H : Arrs x0 x1 x2 x3 x4 x5 x6 p) (s : Fin 2048) :
    val_main_v10 (F := Ideal) x0 (ix2 s 0) = ((var 384 p.q.x s : ℝ) : EReal) := by
  pointwise [val_main_v10, val_main_v9, val_main_v8, val_main_v7, val_main_v6, val_main_v5, val_main_v4, val_main_cst, val_main_cst_0, val_main_cst_1]
  simp only [t0 H, bits_384, eps_bits, Ideal.ofBits_zero_f32, zero_add, ← EReal.coe_mul, ← EReal.coe_add, coe_sum, Ideal.div_coe (show ((384 : ℕ) : ℝ) ≠ 0 by norm_num)]
  rfl

theorem t11 (H : Arrs x0 x1 x2 x3 x4 x5 x6 p) (s : Fin 2048) :
    val_main_v11 (F := Ideal) x0 (ix2 s 0) = ((inv 384 p.q.x s : ℝ) : EReal) := by
  pointwise [val_main_v11]
  rw [t10 H, rsqrt_var]

theorem t16 (H : Arrs x0 x1 x2 x3 x4 x5 x6 p) (s : Fin 2048) (d : Fin 384) :
    val_main_v16 (F := Ideal) x0 (ix2 s d) = ((p.q.x s d * inv 384 p.q.x s : ℝ) : EReal) := by
  pointwise [val_main_v16, val_main_v15]
  simp only [t11 H, t0 H, ← EReal.coe_mul]

theorem t19 (H : Arrs x0 x1 x2 x3 x4 x5 x6 p) (s : Fin 2048) (d : Fin 384) :
    val_main_v19 (F := Ideal) x0 x1 (ix2 s d) = ((p.q.h 384 s d : ℝ) : EReal) := by
  pointwise [val_main_v19, val_main_v18, val_main_v17]
  simp only [t16 H, H.gq, ← EReal.coe_mul]
  rfl

theorem t20 (H : Arrs x0 x1 x2 x3 x4 x5 x6 p) (s e : Fin 2048) :
    val_main_v20 (F := Ideal) x0 x1 x3 (ix2 s e) = ((p.q.y 384 s e : ℝ) : EReal) := by
  pointwise [val_main_v20, val_main_v2]
  simp only [t19 H, H.wq, ← EReal.coe_mul, coe_sum]
  rfl

theorem t64 (H : Arrs x0 x1 x2 x3 x4 x5 x6 p) (d : Fin 384) (e : Fin 2048) :
    val_main_v64 (F := Ideal) x0 x1 x5 (ix2 d e) = ((p.q.dw 384 d e : ℝ) : EReal) := by
  pointwise [val_main_v64, val_main_v63, val_main_v38]
  simp only [t19 H, H.dq, ← EReal.coe_mul, coe_sum]
  exact congrArg _ (Finset.sum_congr rfl fun _ _ => mul_comm _ _)

theorem t65 (H : Arrs x0 x1 x2 x3 x4 x5 x6 p) (s : Fin 2048) (d : Fin 384) :
    val_main_v65 (F := Ideal) x3 x5 (ix2 s d) = ((p.q.dh s d : ℝ) : EReal) := by
  pointwise [val_main_v65, val_main_v38, val_main_v2]
  simp only [H.dq, H.wq, ← EReal.coe_mul, coe_sum]
  rfl

theorem t71 (H : Arrs x0 x1 x2 x3 x4 x5 x6 p) (d : Fin 384) :
    val_main_v71 (F := Ideal) x0 x3 x5 (ix1 d) = ((p.q.dg 384 d : ℝ) : EReal) := by
  pointwise [val_main_v71, val_main_v68, val_main_v67, val_main_v66, val_main_cst_12, val_main_cst_13]
  simp only [t16 H, t65 H, Ideal.ofBits_zero_f32, zero_add, ← EReal.coe_mul, ← EReal.coe_add, coe_sum]
  refine congrArg _ ((Fin.sum_univ_one _).trans ?_)
  unfold Branch.dg dscale
  exact Finset.sum_congr rfl fun _ _ => by ring

theorem t74 (H : Arrs x0 x1 x2 x3 x4 x5 x6 p) (s : Fin 2048) :
    val_main_v74 (F := Ideal) x0 x1 x3 x5 (ix2 s 0) = ((∑ d : Fin 384, p.q.x s d * (p.q.dh s d * p.q.g d) : ℝ) : EReal) := by
  pointwise [val_main_v74, val_main_v73, val_main_v72, val_main_v70, val_main_v69, val_main_v17, val_main_cst_14]
  simp only [t65 H, t0 H, H.gq, Ideal.ofBits_zero_f32, zero_add, ← EReal.coe_mul, ← EReal.coe_add, coe_sum]
  rfl

theorem t14 (H : Arrs x0 x1 x2 x3 x4 x5 x6 p) (s : Fin 2048) :
    val_main_v14 (F := Ideal) x0 (ix2 s 0) = ((-(1 / 2) * (inv 384 p.q.x s * (1 / var 384 p.q.x s)) : ℝ) : EReal) := by
  pointwise [val_main_v14, val_main_v13, val_main_v12, val_main_cst_2]
  rw [t11 H, t10 H, minus_half_bits, Ideal.div_coe (var_pos 384 p.q.x _).ne', ← EReal.coe_mul, ← EReal.coe_mul]

theorem t81 (H : Arrs x0 x1 x2 x3 x4 x5 x6 p) (s : Fin 2048) (d : Fin 384) :
    val_main_v81 (F := Ideal) x0 x1 x3 x5 (ix2 s d) = (((∑ e : Fin 384, p.q.x s e * (p.q.dh s e * p.q.g e)) * (-(1 / 2) * (inv 384 p.q.x s * (1 / var 384 p.q.x s))) * (1 / ((384 : ℕ) : ℝ)) : ℝ) : EReal) := by
  pointwise [val_main_v81, val_main_v80, val_main_v79, val_main_v78, val_main_v77, val_main_cst_15, val_main_cst_16]
  refine (Fin.sum_univ_one _).trans ?_
  rw [t74 H, t14 H, bits_384, ← EReal.coe_mul, Ideal.div_coe (show ((384 : ℕ) : ℝ) ≠ 0 by norm_num), ← EReal.coe_mul]

theorem t85 (H : Arrs x0 x1 x2 x3 x4 x5 x6 p) (s : Fin 2048) (d : Fin 384) :
    val_main_v85 (F := Ideal) x0 x1 x3 x5 (ix2 s d) = ((p.q.dx 384 s d : ℝ) : EReal) := by
  pointwise [val_main_v85, val_main_v83, val_main_v82, val_main_v84, val_main_v76, val_main_v75, val_main_v70, val_main_v69, val_main_v17]
  simp only [t65 H, t11 H, t81 H, t0 H, H.gq, ← EReal.coe_mul, ← EReal.coe_add]
  refine congrArg _ (dnorm_terms 384 p.q.x p.q.g p.q.dh _ _ ?_)
  rw [inv_div, LatReal.slope]
  ring

theorem t86 (H : Arrs x0 x1 x2 x3 x4 x5 x6 p) (s : Fin 2048) (d : Fin 384) :
    val_main_v86 (F := Ideal) x0 x1 x3 x5 (ix2 s d) = ((p.q.dx 384 s d : ℝ) : EReal) := by
  pointwise [val_main_v86]
  exact t85 H _ _

/-! ## The keys' and values' branch -/

theorem t1 (H : Arrs x0 x1 x2 x3 x4 x5 x6 p) (s : Fin 2048) (d : Fin 256) :
    val_main_v1 (F := Ideal) x0 (ix2 s d) = ((p.k.x s d : ℝ) : EReal) := by
  pointwise [val_main_v1]
  exact H.x _

theorem t27 (H : Arrs x0 x1 x2 x3 x4 x5 x6 p) (s : Fin 2048) :
    val_main_v27 (F := Ideal) x0 (ix2 s 0) = ((var 256 p.k.x s : ℝ) : EReal) := by
  pointwise [val_main_v27, val_main_v26, val_main_v25, val_main_v24, val_main_v23, val_main_v22, val_main_v21, val_main_cst_3, val_main_cst_4, val_main_cst_5]
  simp only [t1 H, bits_256, eps_bits, Ideal.ofBits_zero_f32, zero_add, ← EReal.coe_mul, ← EReal.coe_add, coe_sum, Ideal.div_coe (show ((256 : ℕ) : ℝ) ≠ 0 by norm_num)]
  rfl

theorem t28 (H : Arrs x0 x1 x2 x3 x4 x5 x6 p) (s : Fin 2048) :
    val_main_v28 (F := Ideal) x0 (ix2 s 0) = ((inv 256 p.k.x s : ℝ) : EReal) := by
  pointwise [val_main_v28]
  rw [t27 H, rsqrt_var]

theorem t33 (H : Arrs x0 x1 x2 x3 x4 x5 x6 p) (s : Fin 2048) (d : Fin 256) :
    val_main_v33 (F := Ideal) x0 (ix2 s d) = ((p.k.x s d * inv 256 p.k.x s : ℝ) : EReal) := by
  pointwise [val_main_v33, val_main_v32]
  simp only [t28 H, t1 H, ← EReal.coe_mul]

theorem t36 (H : Arrs x0 x1 x2 x3 x4 x5 x6 p) (s : Fin 2048) (d : Fin 256) :
    val_main_v36 (F := Ideal) x0 x2 (ix2 s d) = ((p.k.h 256 s d : ℝ) : EReal) := by
  pointwise [val_main_v36, val_main_v35, val_main_v34]
  simp only [t33 H, H.gk, ← EReal.coe_mul]
  rfl

theorem t37 (H : Arrs x0 x1 x2 x3 x4 x5 x6 p) (s e : Fin 2048) :
    val_main_v37 (F := Ideal) x0 x2 x4 (ix2 s e) = ((p.k.y 256 s e : ℝ) : EReal) := by
  pointwise [val_main_v37, val_main_v3]
  simp only [t36 H, H.wk, ← EReal.coe_mul, coe_sum]
  rfl

theorem t41 (H : Arrs x0 x1 x2 x3 x4 x5 x6 p) (d : Fin 256) (e : Fin 2048) :
    val_main_v41 (F := Ideal) x0 x2 x6 (ix2 d e) = ((p.k.dw 256 d e : ℝ) : EReal) := by
  pointwise [val_main_v41, val_main_v40, val_main_v39]
  simp only [t36 H, H.dk, ← EReal.coe_mul, coe_sum]
  exact congrArg _ (Finset.sum_congr rfl fun _ _ => mul_comm _ _)

theorem t42 (H : Arrs x0 x1 x2 x3 x4 x5 x6 p) (s : Fin 2048) (d : Fin 256) :
    val_main_v42 (F := Ideal) x4 x6 (ix2 s d) = ((p.k.dh s d : ℝ) : EReal) := by
  pointwise [val_main_v42, val_main_v39, val_main_v3]
  simp only [H.dk, H.wk, ← EReal.coe_mul, coe_sum]
  rfl

theorem t48 (H : Arrs x0 x1 x2 x3 x4 x5 x6 p) (d : Fin 256) :
    val_main_v48 (F := Ideal) x0 x4 x6 (ix1 d) = ((p.k.dg 256 d : ℝ) : EReal) := by
  pointwise [val_main_v48, val_main_v45, val_main_v44, val_main_v43, val_main_cst_7, val_main_cst_8]
  simp only [t33 H, t42 H, Ideal.ofBits_zero_f32, zero_add, ← EReal.coe_mul, ← EReal.coe_add, coe_sum]
  refine congrArg _ ((Fin.sum_univ_one _).trans ?_)
  unfold Branch.dg dscale
  exact Finset.sum_congr rfl fun _ _ => by ring

theorem t51 (H : Arrs x0 x1 x2 x3 x4 x5 x6 p) (s : Fin 2048) :
    val_main_v51 (F := Ideal) x0 x2 x4 x6 (ix2 s 0) = ((∑ d : Fin 256, p.k.x s d * (p.k.dh s d * p.k.g d) : ℝ) : EReal) := by
  pointwise [val_main_v51, val_main_v50, val_main_v49, val_main_v47, val_main_v46, val_main_v34, val_main_cst_9]
  simp only [t42 H, t1 H, H.gk, Ideal.ofBits_zero_f32, zero_add, ← EReal.coe_mul, ← EReal.coe_add, coe_sum]
  rfl

theorem t31 (H : Arrs x0 x1 x2 x3 x4 x5 x6 p) (s : Fin 2048) :
    val_main_v31 (F := Ideal) x0 (ix2 s 0) = ((-(1 / 2) * (inv 256 p.k.x s * (1 / var 256 p.k.x s)) : ℝ) : EReal) := by
  pointwise [val_main_v31, val_main_v30, val_main_v29, val_main_cst_6]
  rw [t28 H, t27 H, minus_half_bits, Ideal.div_coe (var_pos 256 p.k.x _).ne', ← EReal.coe_mul, ← EReal.coe_mul]

theorem t58 (H : Arrs x0 x1 x2 x3 x4 x5 x6 p) (s : Fin 2048) (d : Fin 256) :
    val_main_v58 (F := Ideal) x0 x2 x4 x6 (ix2 s d) = (((∑ e : Fin 256, p.k.x s e * (p.k.dh s e * p.k.g e)) * (-(1 / 2) * (inv 256 p.k.x s * (1 / var 256 p.k.x s))) * (1 / ((256 : ℕ) : ℝ)) : ℝ) : EReal) := by
  pointwise [val_main_v58, val_main_v57, val_main_v56, val_main_v55, val_main_v54, val_main_cst_10, val_main_cst_11]
  refine (Fin.sum_univ_one _).trans ?_
  rw [t51 H, t31 H, bits_256, ← EReal.coe_mul, Ideal.div_coe (show ((256 : ℕ) : ℝ) ≠ 0 by norm_num), ← EReal.coe_mul]

theorem t62 (H : Arrs x0 x1 x2 x3 x4 x5 x6 p) (s : Fin 2048) (d : Fin 256) :
    val_main_v62 (F := Ideal) x0 x2 x4 x6 (ix2 s d) = ((p.k.dx 256 s d : ℝ) : EReal) := by
  pointwise [val_main_v62, val_main_v60, val_main_v59, val_main_v61, val_main_v53, val_main_v52, val_main_v47, val_main_v46, val_main_v34]
  simp only [t42 H, t28 H, t58 H, t1 H, H.gk, ← EReal.coe_mul, ← EReal.coe_add]
  refine congrArg _ (dnorm_terms 256 p.k.x p.k.g p.k.dh _ _ ?_)
  rw [inv_div, LatReal.slope]
  ring

theorem t87 (H : Arrs x0 x1 x2 x3 x4 x5 x6 p) (s : Fin 2048) (d : Fin 256) :
    val_main_v87 (F := Ideal) x0 x2 x4 x6 (ix2 s d) = ((p.k.dx 256 s d : ℝ) : EReal) := by
  pointwise [val_main_v87]
  exact t62 H _ _

end Cert.Reference5Ideal.LatRef
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.MemKernel
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.MemRef
public import proofs.«01_k».proof.Proof.FfnFinite
public import proofs.«01_k».proof.Proof.FfnKernel
public import proofs.«01_k».proof.Proof.FfnRun
public import proofs.«01_k».proof.Proof.FfnRefBack
public import proofs.«01_k».proof.Proof.MemSubFinite
public import proofs.«01_k».proof.Proof.MemProgram
public import proofs.«01_k».proof.Proof.MemRun
public import proofs.«01_k».proof.Proof.MemSubRefBack
public import proofs.«01_k».proof.Proof.ProjFinite
public import proofs.«01_k».proof.Proof.MixProgram
public import proofs.«01_k».proof.Proof.MixRun
public import proofs.«01_k».proof.Proof.ProjRef
public import proofs.«01_k».proof.Proof.LatFinite
public import proofs.«01_k».proof.Proof.LatProgram
public import proofs.«01_k».proof.Proof.LatRun
public import proofs.«01_k».proof.Proof.LatRef
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import Idealize.ShloMosaic.Adequacy
public import Idealize.ShloMosaic.Init

@[expose] public section

set_option maxRecDepth 16384

noncomputable section

namespace Cert.Proof

open Idealize.ShloMosaic Idealize.SL.Sem Idealize.ShloMosaic.TcCoe

/-- Where the four arrays are finite, the kernel and the reference end with the same three gradients. -/
theorem gradients : Cert.algebraic_KernelIdeal_ReferenceIdeal_pre_finite := by
  intro m ρ m' ρ' hpre hagree
  have k0 := fun c => Cert.Finite.real0 (hpre c).1
  have k1 := fun c => Cert.Finite.real1 (hpre c).2.1
  have k2 := fun c => Cert.Finite.real2 (hpre c).2.2.1
  have k3 := fun c => Cert.Finite.real3 (hpre c).2.2.2
  refine ⟨fun c i => ((Cert.AttnReal.gradQ (fun i => (m ((c.tc : Thread Cert.KernelIdeal.nD Cert.KernelIdeal.τ).loc Cert.KernelIdeal.main_arg0) i).toReal) (fun i => (m ((c.tc : Thread Cert.KernelIdeal.nD Cert.KernelIdeal.τ).loc Cert.KernelIdeal.main_arg3) i).toReal)
        (fun i => (m ((c.tc : Thread Cert.KernelIdeal.nD Cert.KernelIdeal.τ).loc Cert.KernelIdeal.main_arg1) i).toReal) (fun i => (m ((c.tc : Thread Cert.KernelIdeal.nD Cert.KernelIdeal.τ).loc Cert.KernelIdeal.main_arg2) i).toReal) (i 0) (i 1) : ℝ) : EReal),
    fun c i => ((Cert.AttnReal.gradK (fun i => (m ((c.tc : Thread Cert.KernelIdeal.nD Cert.KernelIdeal.τ).loc Cert.KernelIdeal.main_arg0) i).toReal) (fun i => (m ((c.tc : Thread Cert.KernelIdeal.nD Cert.KernelIdeal.τ).loc Cert.KernelIdeal.main_arg3) i).toReal)
        (fun i => (m ((c.tc : Thread Cert.KernelIdeal.nD Cert.KernelIdeal.τ).loc Cert.KernelIdeal.main_arg1) i).toReal) (fun i => (m ((c.tc : Thread Cert.KernelIdeal.nD Cert.KernelIdeal.τ).loc Cert.KernelIdeal.main_arg2) i).toReal) (i 0) (i 1) : ℝ) : EReal),
    fun c i => ((Cert.AttnReal.gradV (fun i => (m ((c.tc : Thread Cert.KernelIdeal.nD Cert.KernelIdeal.τ).loc Cert.KernelIdeal.main_arg0) i).toReal) (fun i => (m ((c.tc : Thread Cert.KernelIdeal.nD Cert.KernelIdeal.τ).loc Cert.KernelIdeal.main_arg3) i).toReal)
        (fun i => (m ((c.tc : Thread Cert.KernelIdeal.nD Cert.KernelIdeal.τ).loc Cert.KernelIdeal.main_arg1) i).toReal) (i 0) (i 1) : ℝ) : EReal), (θ_run Cert.KernelIdeal.defs _ _).mono (fun r h c => ?_) (Cert.KernelIdeal.Value.run_blocks m ρ),
    (θ_run Cert.ReferenceIdeal.defs _ _).mono (fun r h c => ?_) (Cert.ReferenceIdeal.Value.run m' ρ')⟩
  · obtain ⟨r0, r1, r2, a0, a1, a2, a3⟩ := h c
    exact ⟨r0.trans (Cert.KernelIdeal.MemValue.dq_array m c (k0 c) (k1 c) (k2 c) (k3 c)),
      r1.trans (Cert.KernelIdeal.MemValue.dk_array m c (k0 c) (k1 c) (k2 c) (k3 c)),
      r2.trans (Cert.KernelIdeal.MemValue.dv_array m c (k0 c) (k1 c) (k2 c) (k3 c)), a0, a1, a2, a3⟩
  · obtain ⟨r0, r1, r2, a0, a1, a2, a3⟩ := h c
    obtain ⟨e0, e1, e2, e3⟩ := hagree c
    refine ⟨r0.trans ?_, r1.trans ?_, r2.trans ?_, a0, a1, a2, a3⟩
    · rw [Cert.ReferenceIdeal.Read.val_main_v68_eq, e0, e1, e2, e3]
      funext i
      exact (congrArg _ (eq_ix2 i)).trans (Cert.ReferenceIdeal.MemRef.dq_apply (k0 c) (k1 c) (k2 c) (k3 c) (i 0) (i 1))
    · rw [Cert.ReferenceIdeal.Read.val_main_v66_eq, e0, e1, e2, e3]
      funext i
      exact (congrArg _ (eq_ix2 i)).trans (Cert.ReferenceIdeal.MemRef.dk_apply (k0 c) (k1 c) (k2 c) (k3 c) (i 0) (i 1))
    · rw [Cert.ReferenceIdeal.Read.val_main_v65_eq, e0, e1, e3]
      funext i
      exact (congrArg _ (eq_ix2 i)).trans (Cert.ReferenceIdeal.MemRef.dv_apply (k0 c) (k1 c) (k3 c) (i 0) (i 1))

/-- The reference leaves its arguments as they were, and declares no semaphore. -/
theorem frame_reference : Cert.quiescent_ReferenceIdeal := fun m ρ _ =>
  (θ_run Cert.ReferenceIdeal.defs _ _).mono
    (fun r h => And.intro (fun c => (h c).2.2.2) (sem_eq_zero_of_no_sems (by decide) r.2)) (Cert.ReferenceIdeal.Value.run m ρ)

/-- The real arrays the feed-forward sublayer's seven arguments hold. -/
def sub (m : (ℓ : Loc Cert.Kernel2Ideal.nD Cert.Kernel2Ideal.τ Cert.Kernel2Ideal.sig) → Buf (Elt Ideal) ℓ) (c : Dev Cert.Kernel2Ideal.nD) : Cert.FfnReal.Sub :=
  ⟨Cert.FfnFinite.arr2 (m ((c : Thread Cert.Kernel2Ideal.nD Cert.Kernel2Ideal.τ).loc Cert.Kernel2Ideal.main_arg0)),
    Cert.FfnFinite.arr1 (m ((c : Thread Cert.Kernel2Ideal.nD Cert.Kernel2Ideal.τ).loc Cert.Kernel2Ideal.main_arg1)),
    Cert.FfnFinite.arr3 (m ((c : Thread Cert.Kernel2Ideal.nD Cert.Kernel2Ideal.τ).loc Cert.Kernel2Ideal.main_arg2)),
    Cert.FfnFinite.arr2 (m ((c : Thread Cert.Kernel2Ideal.nD Cert.Kernel2Ideal.τ).loc Cert.Kernel2Ideal.main_arg3)),
    Cert.FfnFinite.arr1 (m ((c : Thread Cert.Kernel2Ideal.nD Cert.Kernel2Ideal.τ).loc Cert.Kernel2Ideal.main_arg4)),
    Cert.FfnFinite.arr2 (m ((c : Thread Cert.Kernel2Ideal.nD Cert.Kernel2Ideal.τ).loc Cert.Kernel2Ideal.main_arg5)),
    Cert.FfnFinite.arr2 (m ((c : Thread Cert.Kernel2Ideal.nD Cert.Kernel2Ideal.τ).loc Cert.Kernel2Ideal.main_arg6))⟩

/-- Where the seven arrays are finite, the feed-forward program and its reference end with the same output and the same gradients. -/
theorem ffn : Cert.algebraic_Kernel2Ideal_Reference2Ideal_pre_finite2 := by
  intro m ρ m' ρ' hpre hagree
  have k0 := fun c => Cert.FfnFinite.arr2_at (Cert.FfnFinite.real0 (hpre c).1)
  have k1 := fun c => Cert.FfnFinite.arr1_at (Cert.FfnFinite.real1 (hpre c).2.1)
  have k2 := fun c => Cert.FfnFinite.arr3_at (Cert.FfnFinite.real2 (hpre c).2.2.1)
  have k3 := fun c => Cert.FfnFinite.arr2_at (Cert.FfnFinite.real3 (hpre c).2.2.2.1)
  have k4 := fun c => Cert.FfnFinite.arr1_at (Cert.FfnFinite.real4 (hpre c).2.2.2.2.1)
  have k5 := fun c => Cert.FfnFinite.arr2_at (Cert.FfnFinite.real5 (hpre c).2.2.2.2.2.1)
  have k6 := fun c => Cert.FfnFinite.arr2_at (Cert.FfnFinite.real6 (hpre c).2.2.2.2.2.2)
  have H : ∀ c, Cert.Kernel2Ideal.Ffn.Holds m c (sub m c) := fun c => ⟨k0 c, k1 c, k2 c, k3 c, k4 c, k5 c, k6 c⟩
  have H' : ∀ c : Dev Cert.Reference2Ideal.nD, Cert.Reference2Ideal.FfnRef.Arrs (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (sub m c) := by
    intro c
    obtain ⟨e0, e1, e2, e3, e4, e5, e6⟩ := hagree c
    rw [e0, e1, e2, e3, e4, e5, e6]
    exact ⟨k0 c, k1 c, k2 c, k3 c, k4 c, k5 c, k6 c⟩
  refine ⟨fun c => fun i : Cert.Kernel2Ideal.S2048x1024.Idx => (((sub m c).out (i 0).val (i 1).val : ℝ) : EReal),
    fun c => fun i : Cert.Kernel2Ideal.S2048x1024.Idx => (((sub m c).dx (i 0).val (i 1).val : ℝ) : EReal),
    fun c => fun i : Cert.Kernel2Ideal.S2048x1024.Idx => (((sub m c).dx (i 0).val (i 1).val : ℝ) : EReal),
    fun c => fun i : Cert.Kernel2Ideal.S1024.Idx => (((sub m c).dg (i 0).val : ℝ) : EReal),
    fun c => fun i : Cert.Kernel2Ideal.S4x1024x1408.Idx => (((sub m c).dw (i 0).val (i 1).val (i 2).val : ℝ) : EReal),
    fun c => fun i : Cert.Kernel2Ideal.S3x5632.Idx => (((sub m c).dcw (i 0).val (i 1).val : ℝ) : EReal),
    fun c => fun i : Cert.Kernel2Ideal.S5632.Idx => (((sub m c).dcb (i 0).val : ℝ) : EReal),
    fun c => fun i : Cert.Kernel2Ideal.S2816x1024.Idx => (((sub m c).dwd (i 0).val (i 1).val : ℝ) : EReal),
    (θ_run Cert.Kernel2Ideal.defs _ _).mono (fun r h c => ?_) (Cert.Kernel2Ideal.Ffn.run m ρ),
    (θ_run Cert.Reference2Ideal.defs _ _).mono (fun r h c => ?_) (Cert.Reference2Ideal.Value.run m' ρ')⟩
  · obtain ⟨r0, r1, r2, r3, r4, r5, r6, r7, a⟩ := h.1 c
    exact ⟨r0.trans (funext fun i => Cert.Kernel2Ideal.Ffn.v6_22 ρ (H c) i),
      r1.trans (funext fun i => Cert.Kernel2Ideal.Ffn.v23_0_22 ρ (H c) i),
      r2.trans (funext fun i => Cert.Kernel2Ideal.Ffn.v23_1_22 ρ (H c) i),
      r3.trans (funext fun i => Cert.Kernel2Ideal.Ffn.v24_22 ρ (H c) i),
      r4.trans (funext fun i => Cert.Kernel2Ideal.Ffn.v21_22 ρ (H c) i),
      r5.trans (funext fun i => Cert.Kernel2Ideal.Ffn.v12_22 ρ (H c) i),
      r6.trans (funext fun i => Cert.Kernel2Ideal.Ffn.v14_22 ρ (H c) i),
      r7.trans (funext fun i => Cert.Kernel2Ideal.Ffn.v9_22 ρ (H c) i), a⟩
  · obtain ⟨r0, r1, r2, r3, r4, r5, r6, r7, a⟩ := h c
    refine ⟨r0.trans ?_, r1.trans ?_, r2.trans ?_, r3.trans ?_, r4.trans ?_, r5.trans ?_, r6.trans ?_, r7.trans ?_, a⟩
    · rw [Cert.Reference2Ideal.Read.val_main_v52_eq]
      funext i
      exact (congrArg _ (eq_ix2 i)).trans (Cert.Reference2Ideal.FfnRef.t52 (H' c) (i 0) (i 1))
    · rw [Cert.Reference2Ideal.Read.val_main_v124_eq]
      funext i
      exact (congrArg _ (eq_ix2 i)).trans (Cert.Reference2Ideal.FfnRef.t124 (H' c) (i 0) (i 1))
    · rw [Cert.Reference2Ideal.Read.val_main_v125_eq]
      funext i
      exact (congrArg _ (eq_ix2 i)).trans (Cert.Reference2Ideal.FfnRef.t125 (H' c) (i 0) (i 1))
    · rw [Cert.Reference2Ideal.Read.val_main_v109_eq]
      funext i
      exact (congrArg _ (eq_ix1 i)).trans (Cert.Reference2Ideal.FfnRef.t109 (H' c) (i 0))
    · rw [Cert.Reference2Ideal.Read.val_main_v126_eq]
      funext i
      exact (congrArg _ (eq_ix3 i)).trans (Cert.Reference2Ideal.FfnRef.t126 (H' c) (i 0) (i 1) (i 2))
    · rw [Cert.Reference2Ideal.Read.val_main_v94_eq]
      funext i
      exact (congrArg _ (eq_ix2 i)).trans (Cert.Reference2Ideal.FfnRef.t94 (H' c) (i 0) (i 1))
    · rw [Cert.Reference2Ideal.Read.val_main_v65_eq]
      funext i
      exact (congrArg _ (eq_ix1 i)).trans (Cert.Reference2Ideal.FfnRef.t65 (H' c) (i 0))
    · rw [Cert.Reference2Ideal.Read.val_main_v127_eq]
      funext i
      exact (congrArg _ (eq_ix2 i)).trans (Cert.Reference2Ideal.FfnRef.t127 (H' c) (i 0) (i 1))

/-- The feed-forward reference leaves its arguments as they were, and declares no semaphore. -/
theorem frame_reference2 : Cert.quiescent_Reference2Ideal := fun m ρ _ =>
  (θ_run Cert.Reference2Ideal.defs _ _).mono
    (fun r h => And.intro (fun c => (h c).2.2.2.2.2.2.2.2) (sem_eq_zero_of_no_sems (by decide) r.2)) (Cert.Reference2Ideal.Value.run m ρ)

/-- The real arrays the memory sublayer's nine arguments hold. -/
def msub (m : (ℓ : Loc Cert.Kernel3Ideal.nD Cert.Kernel3Ideal.τ Cert.Kernel3Ideal.sig) → Buf (Elt Ideal) ℓ) (c : Dev Cert.Kernel3Ideal.nD) : Cert.MemReal.MSub :=
  ⟨Cert.FfnFinite.arr2 (m ((c : Thread Cert.Kernel3Ideal.nD Cert.Kernel3Ideal.τ).loc Cert.Kernel3Ideal.main_arg0)),
    Cert.FfnFinite.arr2 (m ((c : Thread Cert.Kernel3Ideal.nD Cert.Kernel3Ideal.τ).loc Cert.Kernel3Ideal.main_arg1)),
    Cert.FfnFinite.arr1 (m ((c : Thread Cert.Kernel3Ideal.nD Cert.Kernel3Ideal.τ).loc Cert.Kernel3Ideal.main_arg2)),
    Cert.FfnFinite.arr1 (m ((c : Thread Cert.Kernel3Ideal.nD Cert.Kernel3Ideal.τ).loc Cert.Kernel3Ideal.main_arg3)),
    Cert.FfnFinite.arr2 (m ((c : Thread Cert.Kernel3Ideal.nD Cert.Kernel3Ideal.τ).loc Cert.Kernel3Ideal.main_arg4)),
    Cert.FfnFinite.arr2 (m ((c : Thread Cert.Kernel3Ideal.nD Cert.Kernel3Ideal.τ).loc Cert.Kernel3Ideal.main_arg5)),
    Cert.FfnFinite.arr2 (m ((c : Thread Cert.Kernel3Ideal.nD Cert.Kernel3Ideal.τ).loc Cert.Kernel3Ideal.main_arg6)),
    Cert.FfnFinite.arr2 (m ((c : Thread Cert.Kernel3Ideal.nD Cert.Kernel3Ideal.τ).loc Cert.Kernel3Ideal.main_arg7)),
    Cert.FfnFinite.arr2 (m ((c : Thread Cert.Kernel3Ideal.nD Cert.Kernel3Ideal.τ).loc Cert.Kernel3Ideal.main_arg8))⟩

/-- Where the nine arrays are finite, the memory sublayer's program and its reference end with the same output and the same
    gradients. -/
theorem memory : Cert.algebraic_Kernel3Ideal_Reference3Ideal_pre_finite3 := by
  intro m ρ m' ρ' hpre hagree
  have k0 := fun c => Cert.FfnFinite.arr2_at (Cert.MemFinite.real0 (hpre c).1)
  have k1 := fun c => Cert.FfnFinite.arr2_at (Cert.MemFinite.real1 (hpre c).2.1)
  have k2 := fun c => Cert.FfnFinite.arr1_at (Cert.MemFinite.real2 (hpre c).2.2.1)
  have k3 := fun c => Cert.FfnFinite.arr1_at (Cert.MemFinite.real3 (hpre c).2.2.2.1)
  have k4 := fun c => Cert.FfnFinite.arr2_at (Cert.MemFinite.real4 (hpre c).2.2.2.2.1)
  have k5 := fun c => Cert.FfnFinite.arr2_at (Cert.MemFinite.real5 (hpre c).2.2.2.2.2.1)
  have k6 := fun c => Cert.FfnFinite.arr2_at (Cert.MemFinite.real6 (hpre c).2.2.2.2.2.2.1)
  have k7 := fun c => Cert.FfnFinite.arr2_at (Cert.MemFinite.real7 (hpre c).2.2.2.2.2.2.2.1)
  have k8 := fun c => Cert.FfnFinite.arr2_at (Cert.MemFinite.real8 (hpre c).2.2.2.2.2.2.2.2)
  have H : ∀ c, Cert.Kernel3Ideal.Mem.Holds m c (msub m c) := fun c => ⟨k0 c, k1 c, k2 c, k3 c, k4 c, k5 c, k6 c, k7 c, k8 c⟩
  have H' : ∀ c : Dev Cert.Reference3Ideal.nD, Cert.Reference3Ideal.MemSubRef.Arrs (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (msub m c) := by
    intro c
    obtain ⟨e0, e1, e2, e3, e4, e5, e6, e7, e8⟩ := hagree c
    rw [e0, e1, e2, e3, e4, e5, e6, e7, e8]
    exact ⟨k0 c, k1 c, k2 c, k3 c, k4 c, k5 c, k6 c, k7 c, k8 c⟩
  refine ⟨fun c => fun i : Cert.Kernel3Ideal.S2048x1024.Idx => (((msub m c).out (i 0).val (i 1).val : ℝ) : EReal),
    fun c => fun i : Cert.Kernel3Ideal.S2048x1024.Idx => (((msub m c).dx (i 0).val (i 1).val : ℝ) : EReal),
    fun c => fun i : Cert.Kernel3Ideal.S2048x1024.Idx => (((msub m c).dx (i 0).val (i 1).val : ℝ) : EReal),
    fun c => fun i : Cert.Kernel3Ideal.S1024.Idx => (((msub m c).dgq (i 0).val : ℝ) : EReal),
    fun c => fun i : Cert.Kernel3Ideal.S1024.Idx => (((msub m c).dgk (i 0).val : ℝ) : EReal),
    fun c => fun i : Cert.Kernel3Ideal.S1024x1024.Idx => (((msub m c).dwq (i 0).val (i 1).val : ℝ) : EReal),
    fun c => fun i : Cert.Kernel3Ideal.S1024x1024.Idx => (((msub m c).dwk (i 0).val (i 1).val : ℝ) : EReal),
    fun c => fun i : Cert.Kernel3Ideal.S1024x1024.Idx => (((msub m c).dwv (i 0).val (i 1).val : ℝ) : EReal),
    fun c => fun i : Cert.Kernel3Ideal.S1024x1024.Idx => (((msub m c).dwo (i 0).val (i 1).val : ℝ) : EReal),
    (θ_run Cert.Kernel3Ideal.defs _ _).mono (fun r h c => ?_) (Cert.Kernel3Ideal.Mem.run m ρ),
    (θ_run Cert.Reference3Ideal.defs _ _).mono (fun r h c => ?_) (Cert.Reference3Ideal.Value.run m' ρ')⟩
  · obtain ⟨r0, r1, r2, r3, r4, r5, r6, r7, r8, a⟩ := h.1 c
    exact ⟨r0.trans (funext fun i => Cert.Kernel3Ideal.Mem.v8_24 ρ (H c) i),
      r1.trans (funext fun i => Cert.Kernel3Ideal.Mem.v20_0_24 ρ (H c) i),
      r2.trans (funext fun i => Cert.Kernel3Ideal.Mem.v20_1_24 ρ (H c) i),
      r3.trans (funext fun i => Cert.Kernel3Ideal.Mem.v21_24 ρ (H c) i),
      r4.trans (funext fun i => Cert.Kernel3Ideal.Mem.v24_24 ρ (H c) i),
      r5.trans (funext fun i => Cert.Kernel3Ideal.Mem.v14_24 ρ (H c) i),
      r6.trans (funext fun i => Cert.Kernel3Ideal.Mem.v17_24 ρ (H c) i),
      r7.trans (funext fun i => Cert.Kernel3Ideal.Mem.v18_24 ρ (H c) i),
      r8.trans (funext fun i => Cert.Kernel3Ideal.Mem.v11_24 ρ (H c) i), a⟩
  · obtain ⟨r0, r1, r2, r3, r4, r5, r6, r7, r8, a⟩ := h c
    refine ⟨r0.trans ?_, r1.trans ?_, r2.trans ?_, r3.trans ?_, r4.trans ?_, r5.trans ?_, r6.trans ?_, r7.trans ?_, r8.trans ?_, a⟩
    · rw [Cert.Reference3Ideal.Read.val_main_v74_eq]
      funext i
      exact (congrArg _ (eq_ix2 i)).trans (Cert.Reference3Ideal.MemSubRef.t74 (H' c) (i 0) (i 1))
    · rw [Cert.Reference3Ideal.Read.val_main_v140_eq]
      funext i
      exact (congrArg _ (eq_ix2 i)).trans (Cert.Reference3Ideal.MemSubRef.t140 (H' c) (i 0) (i 1))
    · rw [Cert.Reference3Ideal.Read.val_main_v141_eq]
      funext i
      exact (congrArg _ (eq_ix2 i)).trans (Cert.Reference3Ideal.MemSubRef.t141 (H' c) (i 0) (i 1))
    · rw [Cert.Reference3Ideal.Read.val_main_v125_eq]
      funext i
      exact (congrArg _ (eq_ix1 i)).trans (Cert.Reference3Ideal.MemSubRef.t125 (H' c) (i 0))
    · rw [Cert.Reference3Ideal.Read.val_main_v119_eq]
      funext i
      exact (congrArg _ (eq_ix1 i)).trans (Cert.Reference3Ideal.MemSubRef.t119 (H' c) (i 0))
    · rw [Cert.Reference3Ideal.Read.val_main_v142_eq]
      funext i
      exact (congrArg _ (eq_ix2 i)).trans (Cert.Reference3Ideal.MemSubRef.t142 (H' c) (i 0) (i 1))
    · rw [Cert.Reference3Ideal.Read.val_main_v143_eq]
      funext i
      exact (congrArg _ (eq_ix2 i)).trans (Cert.Reference3Ideal.MemSubRef.t143 (H' c) (i 0) (i 1))
    · rw [Cert.Reference3Ideal.Read.val_main_v144_eq]
      funext i
      exact (congrArg _ (eq_ix2 i)).trans (Cert.Reference3Ideal.MemSubRef.t144 (H' c) (i 0) (i 1))
    · rw [Cert.Reference3Ideal.Read.val_main_v145_eq]
      funext i
      exact (congrArg _ (eq_ix2 i)).trans (Cert.Reference3Ideal.MemSubRef.t145 (H' c) (i 0) (i 1))

/-- The memory sublayer's reference leaves its arguments as they were, and declares no semaphore. -/
theorem frame_reference3 : Cert.quiescent_Reference3Ideal := fun m ρ _ =>
  (θ_run Cert.Reference3Ideal.defs _ _).mono
    (fun r h => And.intro (fun c => (h c).2.2.2.2.2.2.2.2.2) (sem_eq_zero_of_no_sems (by decide) r.2)) (Cert.Reference3Ideal.Value.run m ρ)

/-- The real arrays the eight arguments of the projections hold. -/
def psub (m : (ℓ : Loc Cert.Kernel4Ideal.nD Cert.Kernel4Ideal.τ Cert.Kernel4Ideal.sig) → Buf (Elt Ideal) ℓ) (c : Dev Cert.Kernel4Ideal.nD) : Cert.ProjReal.Proj :=
  ⟨Cert.FfnFinite.arr2 (m ((c : Thread Cert.Kernel4Ideal.nD Cert.Kernel4Ideal.τ).loc Cert.Kernel4Ideal.main_arg0)),
    Cert.FfnFinite.arr1 (m ((c : Thread Cert.Kernel4Ideal.nD Cert.Kernel4Ideal.τ).loc Cert.Kernel4Ideal.main_arg1)),
    Cert.FfnFinite.arr2 (m ((c : Thread Cert.Kernel4Ideal.nD Cert.Kernel4Ideal.τ).loc Cert.Kernel4Ideal.main_arg2)),
    Cert.FfnFinite.arr2 (m ((c : Thread Cert.Kernel4Ideal.nD Cert.Kernel4Ideal.τ).loc Cert.Kernel4Ideal.main_arg3)),
    Cert.FfnFinite.arr2 (m ((c : Thread Cert.Kernel4Ideal.nD Cert.Kernel4Ideal.τ).loc Cert.Kernel4Ideal.main_arg4)),
    Cert.FfnFinite.arr2 (m ((c : Thread Cert.Kernel4Ideal.nD Cert.Kernel4Ideal.τ).loc Cert.Kernel4Ideal.main_arg5)),
    Cert.FfnFinite.arr2 (m ((c : Thread Cert.Kernel4Ideal.nD Cert.Kernel4Ideal.τ).loc Cert.Kernel4Ideal.main_arg6)),
    Cert.FfnFinite.arr2 (m ((c : Thread Cert.Kernel4Ideal.nD Cert.Kernel4Ideal.τ).loc Cert.Kernel4Ideal.main_arg7))⟩

/-- Where the eight arguments are finite, the program of the projections and its reference end with the same results. -/
theorem projections : Cert.algebraic_Kernel4Ideal_Reference4Ideal_pre_finite4 := by
  intro m ρ m' ρ' hpre hagree
  have k0 := fun c => Cert.FfnFinite.arr2_at (Cert.ProjFinite.real0 (hpre c).1)
  have k1 := fun c => Cert.FfnFinite.arr1_at (Cert.ProjFinite.real1 (hpre c).2.1)
  have k2 := fun c => Cert.FfnFinite.arr2_at (Cert.ProjFinite.real2 (hpre c).2.2.1)
  have k3 := fun c => Cert.FfnFinite.arr2_at (Cert.ProjFinite.real3 (hpre c).2.2.2.1)
  have k4 := fun c => Cert.FfnFinite.arr2_at (Cert.ProjFinite.real4 (hpre c).2.2.2.2.1)
  have k5 := fun c => Cert.FfnFinite.arr2_at (Cert.ProjFinite.real5 (hpre c).2.2.2.2.2.1)
  have k6 := fun c => Cert.FfnFinite.arr2_at (Cert.ProjFinite.real6 (hpre c).2.2.2.2.2.2.1)
  have k7 := fun c => Cert.FfnFinite.arr2_at (Cert.ProjFinite.real7 (hpre c).2.2.2.2.2.2.2)
  have H : ∀ c, Cert.Kernel4Ideal.Mix.Holds m c (psub m c) := fun c => ⟨k0 c, k1 c, k2 c, k3 c, k4 c, k5 c, k6 c, k7 c⟩
  have H' : ∀ c : Dev Cert.Reference4Ideal.nD, Cert.Reference4Ideal.ProjRef.Arrs (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (psub m c) := by
    intro c
    obtain ⟨e0, e1, e2, e3, e4, e5, e6, e7⟩ := hagree c
    rw [e0, e1, e2, e3, e4, e5, e6, e7]
    exact ⟨k0 c, k1 c, k2 c, k3 c, k4 c, k5 c, k6 c, k7 c⟩
  refine ⟨fun c => fun i : Cert.Kernel4Ideal.S2048x4096.Idx => (((psub m c).proj (i 0).val (i 1).val : ℝ) : EReal),
    fun c => fun i : Cert.Kernel4Ideal.S2048x1024.Idx => (((psub m c).out (i 0).val (i 1).val : ℝ) : EReal),
    fun c => fun i : Cert.Kernel4Ideal.S2048x1024.Idx => (((psub m c).dx (i 0).val (i 1).val : ℝ) : EReal),
    fun c => fun i : Cert.Kernel4Ideal.S2048x1024.Idx => (((psub m c).dx (i 0).val (i 1).val : ℝ) : EReal),
    fun c => fun i : Cert.Kernel4Ideal.S1024.Idx => (((psub m c).dg (i 0).val : ℝ) : EReal),
    fun c => fun i : Cert.Kernel4Ideal.S1024x4096.Idx => (((psub m c).dw (i 0).val (i 1).val : ℝ) : EReal),
    fun c => fun i : Cert.Kernel4Ideal.S2048x1024.Idx => (((psub m c).dya (i 0).val (i 1).val : ℝ) : EReal),
    fun c => fun i : Cert.Kernel4Ideal.S2048x1024.Idx => (((psub m c).dyb (i 0).val (i 1).val : ℝ) : EReal),
    fun c => fun i : Cert.Kernel4Ideal.S2048x1024.Idx => (((psub m c).dwo (i 0).val (i 1).val : ℝ) : EReal),
    (θ_run Cert.Kernel4Ideal.defs _ _).mono (fun r h c => ?_) (Cert.Kernel4Ideal.Mix.run m ρ),
    (θ_run Cert.Reference4Ideal.defs _ _).mono (fun r h c => ?_) (Cert.Reference4Ideal.Value.run m' ρ')⟩
  · obtain ⟨r0, r1, r2, r3, r4, r5, r6, r7, r8, a⟩ := h.1 c
    exact ⟨r0.trans (funext fun i => Cert.Kernel4Ideal.Mix.v2_16 ρ (H c) i),
      r1.trans (funext fun i => Cert.Kernel4Ideal.Mix.v4_16 ρ (H c) i),
      r2.trans (funext fun i => Cert.Kernel4Ideal.Mix.v14_0_16 ρ (H c) i),
      r3.trans (funext fun i => Cert.Kernel4Ideal.Mix.v14_1_16 ρ (H c) i),
      r4.trans (funext fun i => Cert.Kernel4Ideal.Mix.v15_16 ρ (H c) i),
      r5.trans (funext fun i => Cert.Kernel4Ideal.Mix.v12_16 ρ (H c) i),
      r6.trans (funext fun i => Cert.Kernel4Ideal.Mix.v6_16 ρ (H c) i),
      r7.trans (funext fun i => Cert.Kernel4Ideal.Mix.v7_16 ρ (H c) i),
      r8.trans (funext fun i => Cert.Kernel4Ideal.Mix.v10_16 ρ (H c) i), a⟩
  · obtain ⟨r0, r1, r2, r3, r4, r5, r6, r7, r8, a⟩ := h c
    refine ⟨r0.trans ?_, r1.trans ?_, r2.trans ?_, r3.trans ?_, r4.trans ?_, r5.trans ?_, r6.trans ?_, r7.trans ?_, r8.trans ?_, a⟩
    · rw [Cert.Reference4Ideal.Read.val_main_v20_eq]
      funext i
      exact (congrArg _ (eq_ix2 i)).trans (Cert.Reference4Ideal.ProjRef.t20 (H' c) (i 0) (i 1))
    · rw [Cert.Reference4Ideal.Read.val_main_v23_eq]
      funext i
      exact (congrArg _ (eq_ix2 i)).trans (Cert.Reference4Ideal.ProjRef.t23 (H' c) (i 0) (i 1))
    · rw [Cert.Reference4Ideal.Read.val_main_v54_eq]
      funext i
      exact (congrArg _ (eq_ix2 i)).trans (Cert.Reference4Ideal.ProjRef.t54 (H' c) (i 0) (i 1))
    · rw [Cert.Reference4Ideal.Read.val_main_v55_eq]
      funext i
      exact (congrArg _ (eq_ix2 i)).trans (Cert.Reference4Ideal.ProjRef.t55 (H' c) (i 0) (i 1))
    · rw [Cert.Reference4Ideal.Read.val_main_v39_eq]
      funext i
      exact (congrArg _ (eq_ix1 i)).trans (Cert.Reference4Ideal.ProjRef.t39 (H' c) (i 0))
    · rw [Cert.Reference4Ideal.Read.val_main_v32_eq]
      funext i
      exact (congrArg _ (eq_ix2 i)).trans (Cert.Reference4Ideal.ProjRef.t32 (H' c) (i 0) (i 1))
    · rw [Cert.Reference4Ideal.Read.val_main_v29_eq]
      funext i
      exact (congrArg _ (eq_ix2 i)).trans (Cert.Reference4Ideal.ProjRef.t29 (H' c) (i 0) (i 1))
    · rw [Cert.Reference4Ideal.Read.val_main_v30_eq]
      funext i
      exact (congrArg _ (eq_ix2 i)).trans (Cert.Reference4Ideal.ProjRef.t30 (H' c) (i 0) (i 1))
    · rw [Cert.Reference4Ideal.Read.val_main_v56_eq]
      funext i
      exact (congrArg _ (eq_ix2 i)).trans (Cert.Reference4Ideal.ProjRef.t56 (H' c) (i 0) (i 1))

/-- The reference of the projections leaves its arguments as they were, and declares no semaphore. -/
theorem frame_reference4 : Cert.quiescent_Reference4Ideal := fun m ρ _ =>
  (θ_run Cert.Reference4Ideal.defs _ _).mono
    (fun r h => And.intro (fun c => (h c).2.2.2.2.2.2.2.2.2) (sem_eq_zero_of_no_sems (by decide) r.2)) (Cert.Reference4Ideal.Value.run m ρ)

/-- The real arrays the seven arguments of the latent attention's projections hold. -/
def lsub (m : (ℓ : Loc Cert.Kernel5Ideal.nD Cert.Kernel5Ideal.τ Cert.Kernel5Ideal.sig) → Buf (Elt Ideal) ℓ) (c : Dev Cert.Kernel5Ideal.nD) : Cert.LatReal.Lat :=
  ⟨Cert.FfnFinite.arr2 (m ((c : Thread Cert.Kernel5Ideal.nD Cert.Kernel5Ideal.τ).loc Cert.Kernel5Ideal.main_arg0)),
    Cert.FfnFinite.arr1 (m ((c : Thread Cert.Kernel5Ideal.nD Cert.Kernel5Ideal.τ).loc Cert.Kernel5Ideal.main_arg1)),
    Cert.FfnFinite.arr1 (m ((c : Thread Cert.Kernel5Ideal.nD Cert.Kernel5Ideal.τ).loc Cert.Kernel5Ideal.main_arg2)),
    Cert.FfnFinite.arr2 (m ((c : Thread Cert.Kernel5Ideal.nD Cert.Kernel5Ideal.τ).loc Cert.Kernel5Ideal.main_arg3)),
    Cert.FfnFinite.arr2 (m ((c : Thread Cert.Kernel5Ideal.nD Cert.Kernel5Ideal.τ).loc Cert.Kernel5Ideal.main_arg4)),
    Cert.FfnFinite.arr2 (m ((c : Thread Cert.Kernel5Ideal.nD Cert.Kernel5Ideal.τ).loc Cert.Kernel5Ideal.main_arg5)),
    Cert.FfnFinite.arr2 (m ((c : Thread Cert.Kernel5Ideal.nD Cert.Kernel5Ideal.τ).loc Cert.Kernel5Ideal.main_arg6))⟩

/-- Where the seven arguments are finite, the program of the latent attention's projections and its reference end with the same
    results. -/
theorem latent : Cert.algebraic_Kernel5Ideal_Reference5Ideal_pre_finite5 := by
  intro m ρ m' ρ' hpre hagree
  have k0 := fun c => Cert.FfnFinite.arr2_at (Cert.LatFinite.real0 (hpre c).1)
  have k1 := fun c => Cert.FfnFinite.arr1_at (Cert.LatFinite.real1 (hpre c).2.1)
  have k2 := fun c => Cert.FfnFinite.arr1_at (Cert.LatFinite.real2 (hpre c).2.2.1)
  have k3 := fun c => Cert.FfnFinite.arr2_at (Cert.LatFinite.real3 (hpre c).2.2.2.1)
  have k4 := fun c => Cert.FfnFinite.arr2_at (Cert.LatFinite.real4 (hpre c).2.2.2.2.1)
  have k5 := fun c => Cert.FfnFinite.arr2_at (Cert.LatFinite.real5 (hpre c).2.2.2.2.2.1)
  have k6 := fun c => Cert.FfnFinite.arr2_at (Cert.LatFinite.real6 (hpre c).2.2.2.2.2.2)
  have H : ∀ c, Cert.Kernel5Ideal.Lat.Holds m c (lsub m c) := fun c => ⟨k0 c, k1 c, k2 c, k3 c, k4 c, k5 c, k6 c⟩
  have H' : ∀ c : Dev Cert.Reference5Ideal.nD, Cert.Reference5Ideal.LatRef.Arrs (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (lsub m c) := by
    intro c
    obtain ⟨e0, e1, e2, e3, e4, e5, e6⟩ := hagree c
    rw [e0, e1, e2, e3, e4, e5, e6]
    exact ⟨k0 c, k1 c, k2 c, k3 c, k4 c, k5 c, k6 c⟩
  refine ⟨fun c => fun i : Cert.Kernel5Ideal.S2048x2048.Idx => (((lsub m c).q.y 384 (i 0).val (i 1).val : ℝ) : EReal),
    fun c => fun i : Cert.Kernel5Ideal.S2048x2048.Idx => (((lsub m c).k.y 256 (i 0).val (i 1).val : ℝ) : EReal),
    fun c => fun i : Cert.Kernel5Ideal.S2048x384.Idx => (((lsub m c).q.dx 384 (i 0).val (i 1).val : ℝ) : EReal),
    fun c => fun i : Cert.Kernel5Ideal.S2048x256.Idx => (((lsub m c).k.dx 256 (i 0).val (i 1).val : ℝ) : EReal),
    fun c => fun i : Cert.Kernel5Ideal.S384.Idx => (((lsub m c).q.dg 384 (i 0).val : ℝ) : EReal),
    fun c => fun i : Cert.Kernel5Ideal.S256.Idx => (((lsub m c).k.dg 256 (i 0).val : ℝ) : EReal),
    fun c => fun i : Cert.Kernel5Ideal.S384x2048.Idx => (((lsub m c).q.dw 384 (i 0).val (i 1).val : ℝ) : EReal),
    fun c => fun i : Cert.Kernel5Ideal.S256x2048.Idx => (((lsub m c).k.dw 256 (i 0).val (i 1).val : ℝ) : EReal),
    (θ_run Cert.Kernel5Ideal.defs _ _).mono (fun r h c => ?_) (Cert.Kernel5Ideal.Lat.run m ρ),
    (θ_run Cert.Reference5Ideal.defs _ _).mono (fun r h c => ?_) (Cert.Reference5Ideal.Value.run m' ρ')⟩
  · obtain ⟨r0, r1, r2, r3, r4, r5, r6, r7, a⟩ := h.1 c
    exact ⟨r0.trans (funext fun i => Cert.Kernel5Ideal.Lat.v4_15 ρ (H c) i),
      r1.trans (funext fun i => Cert.Kernel5Ideal.Lat.v5_15 ρ (H c) i),
      r2.trans (funext fun i => Cert.Kernel5Ideal.Lat.v11_1_15 ρ (H c) i),
      r3.trans (funext fun i => Cert.Kernel5Ideal.Lat.v14_1_15 ρ (H c) i),
      r4.trans (funext fun i => Cert.Kernel5Ideal.Lat.v12_15 ρ (H c) i),
      r5.trans (funext fun i => Cert.Kernel5Ideal.Lat.v15_15 ρ (H c) i),
      r6.trans (funext fun i => Cert.Kernel5Ideal.Lat.v6_15 ρ (H c) i),
      r7.trans (funext fun i => Cert.Kernel5Ideal.Lat.v8_15 ρ (H c) i), a⟩
  · obtain ⟨r0, r1, r2, r3, r4, r5, r6, r7, a⟩ := h c
    refine ⟨r0.trans ?_, r1.trans ?_, r2.trans ?_, r3.trans ?_, r4.trans ?_, r5.trans ?_, r6.trans ?_, r7.trans ?_, a⟩
    · rw [Cert.Reference5Ideal.Read.val_main_v20_eq]
      funext i
      exact (congrArg _ (eq_ix2 i)).trans (Cert.Reference5Ideal.LatRef.t20 (H' c) (i 0) (i 1))
    · rw [Cert.Reference5Ideal.Read.val_main_v37_eq]
      funext i
      exact (congrArg _ (eq_ix2 i)).trans (Cert.Reference5Ideal.LatRef.t37 (H' c) (i 0) (i 1))
    · rw [Cert.Reference5Ideal.Read.val_main_v86_eq]
      funext i
      exact (congrArg _ (eq_ix2 i)).trans (Cert.Reference5Ideal.LatRef.t86 (H' c) (i 0) (i 1))
    · rw [Cert.Reference5Ideal.Read.val_main_v87_eq]
      funext i
      exact (congrArg _ (eq_ix2 i)).trans (Cert.Reference5Ideal.LatRef.t87 (H' c) (i 0) (i 1))
    · rw [Cert.Reference5Ideal.Read.val_main_v71_eq]
      funext i
      exact (congrArg _ (eq_ix1 i)).trans (Cert.Reference5Ideal.LatRef.t71 (H' c) (i 0))
    · rw [Cert.Reference5Ideal.Read.val_main_v48_eq]
      funext i
      exact (congrArg _ (eq_ix1 i)).trans (Cert.Reference5Ideal.LatRef.t48 (H' c) (i 0))
    · rw [Cert.Reference5Ideal.Read.val_main_v64_eq]
      funext i
      exact (congrArg _ (eq_ix2 i)).trans (Cert.Reference5Ideal.LatRef.t64 (H' c) (i 0) (i 1))
    · rw [Cert.Reference5Ideal.Read.val_main_v41_eq]
      funext i
      exact (congrArg _ (eq_ix2 i)).trans (Cert.Reference5Ideal.LatRef.t41 (H' c) (i 0) (i 1))

/-- The reference of the latent attention's projections leaves its arguments as they were, and declares no semaphore. -/
theorem frame_reference5 : Cert.quiescent_Reference5Ideal := fun m ρ _ =>
  (θ_run Cert.Reference5Ideal.defs _ _).mono
    (fun r h => And.intro (fun c => (h c).2.2.2.2.2.2.2.2) (sem_eq_zero_of_no_sems (by decide) r.2)) (Cert.Reference5Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Finite.facts, Cert.FfnFinite.facts, Cert.MemFinite.facts, Cert.ProjFinite.facts, Cert.LatFinite.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial, trivial, gradients, trivial, ffn, trivial, memory, trivial, projections, trivial, latent⟩

end Cert.Proof

end
